-- ==== Defs.lean ====
def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutRefIdeal (m : (ℓ : Loc Cert.SsmOutRefIdeal.nD Cert.SsmOutRefIdeal.τ Cert.SsmOutRefIdeal.sig) → Buf (Elt Ideal) ℓ) : Prop :=
  True

def Pre_Group (m : (ℓ : Loc Cert.Group.nD Cert.Group.τ Cert.Group.sig) → Buf (Elt Bits) ℓ) : Prop :=
  True

def Pre_GroupIdeal (m : (ℓ : Loc Cert.GroupIdeal.nD Cert.GroupIdeal.τ Cert.GroupIdeal.sig) → Buf (Elt Ideal) ℓ) : Prop :=
  True

def Pre_GroupRefIdeal (m : (ℓ : Loc Cert.GroupRefIdeal.nD Cert.GroupRefIdeal.τ Cert.GroupRefIdeal.sig) → Buf (Elt Ideal) ℓ) : Prop :=
  True

def Pre_PoolIn (m : (ℓ : Loc Cert.PoolIn.nD Cert.PoolIn.τ Cert.PoolIn.sig) → Buf (Elt Bits) ℓ) : Prop :=
  True

def Pre_PoolInIdeal (m : (ℓ : Loc Cert.PoolInIdeal.nD Cert.PoolInIdeal.τ Cert.PoolInIdeal.sig) → Buf (Elt Ideal) ℓ) : Prop :=
  True

def Pre_PoolInRefIdeal (m : (ℓ : Loc Cert.PoolInRefIdeal.nD Cert.PoolInRefIdeal.τ Cert.PoolInRefIdeal.sig) → Buf (Elt Ideal) ℓ) : Prop :=
  True

def Pre_InDt (m : (ℓ : Loc Cert.InDt.nD Cert.InDt.τ Cert.InDt.sig) → Buf (Elt Bits) ℓ) : Prop :=
  True

def Pre_InDtIdeal (m : (ℓ : Loc Cert.InDtIdeal.nD Cert.InDtIdeal.τ Cert.InDtIdeal.sig) → Buf (Elt Ideal) ℓ) : Prop :=
  True

def Pre_InDtRefIdeal (m : (ℓ : Loc Cert.InDtRefIdeal.nD Cert.InDtRefIdeal.τ Cert.InDtRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_WPoolIn (m : (ℓ : Loc Cert.WPoolIn.nD Cert.WPoolIn.τ Cert.WPoolIn.sig) → Buf (Elt Bits) ℓ) : Prop :=
  True

def Pre_WPoolInIdeal (m : (ℓ : Loc Cert.WPoolInIdeal.nD Cert.WPoolInIdeal.τ Cert.WPoolInIdeal.sig) → Buf (Elt Ideal) ℓ) : Prop :=
  True

def Pre_WPoolInRefIdeal (m : (ℓ : Loc Cert.WPoolInRefIdeal.nD Cert.WPoolInRefIdeal.τ Cert.WPoolInRefIdeal.sig) → Buf (Elt Ideal) ℓ) : Prop :=
  True

def Pre_WGroup (m : (ℓ : Loc Cert.WGroup.nD Cert.WGroup.τ Cert.WGroup.sig) → Buf (Elt Bits) ℓ) : Prop :=
  True

def Pre_WGroupIdeal (m : (ℓ : Loc Cert.WGroupIdeal.nD Cert.WGroupIdeal.τ Cert.WGroupIdeal.sig) → Buf (Elt Ideal) ℓ) : Prop :=
  True

def Pre_WGroupRefIdeal (m : (ℓ : Loc Cert.WGroupRefIdeal.nD Cert.WGroupRefIdeal.τ Cert.WGroupRefIdeal.sig) → Buf (Elt Ideal) ℓ) : Prop :=
  True

def Pre_FIn (m : (ℓ : Loc Cert.FIn.nD Cert.FIn.τ Cert.FIn.sig) → Buf (Elt Bits) ℓ) : Prop :=
  True

def Pre_FInIdeal (m : (ℓ : Loc Cert.FInIdeal.nD Cert.FInIdeal.τ Cert.FInIdeal.sig) → Buf (Elt Ideal) ℓ) : Prop :=
  True

def Pre_FInRefIdeal (m : (ℓ : Loc Cert.FInRefIdeal.nD Cert.FInRefIdeal.τ Cert.FInRefIdeal.sig) → Buf (Elt Ideal) ℓ) : Prop :=
  True

def Pre_FInDt (m : (ℓ : Loc Cert.FInDt.nD Cert.FInDt.τ Cert.FInDt.sig) → Buf (Elt Bits) ℓ) : Prop :=
  True

def Pre_FInDtIdeal (m : (ℓ : Loc Cert.FInDtIdeal.nD Cert.FInDtIdeal.τ Cert.FInDtIdeal.sig) → Buf (Elt Ideal) ℓ) : Prop :=
  True

def Pre_FInDtRefIdeal (m : (ℓ : Loc Cert.FInDtRefIdeal.nD Cert.FInDtRefIdeal.τ Cert.FInDtRefIdeal.sig) → Buf (Elt Ideal) ℓ) : Prop :=
  True

def Pre_FOut (m : (ℓ : Loc Cert.FOut.nD Cert.FOut.τ Cert.FOut.sig) → Buf (Elt Bits) ℓ) : Prop :=
  True

def Pre_FOutIdeal (m : (ℓ : Loc Cert.FOutIdeal.nD Cert.FOutIdeal.τ Cert.FOutIdeal.sig) → Buf (Elt Ideal) ℓ) : Prop :=
  True

def Pre_FOutRefIdeal (m : (ℓ : Loc Cert.FOutRefIdeal.nD Cert.FOutRefIdeal.τ Cert.FOutRefIdeal.sig) → Buf (Elt Ideal) ℓ) : Prop :=
  True

def Pre_FPoolIn (m : (ℓ : Loc Cert.FPoolIn.nD Cert.FPoolIn.τ Cert.FPoolIn.sig) → Buf (Elt Bits) ℓ) : Prop :=
  True

def Pre_FPoolInIdeal (m : (ℓ : Loc Cert.FPoolInIdeal.nD Cert.FPoolInIdeal.τ Cert.FPoolInIdeal.sig) → Buf (Elt Ideal) ℓ) : Prop :=
  True

def Pre_FPoolInRefIdeal (m : (ℓ : Loc Cert.FPoolInRefIdeal.nD Cert.FPoolInRefIdeal.τ Cert.FPoolInRefIdeal.sig) → Buf (Elt Ideal) ℓ) : Prop :=
  True

def Pre_FGroup (m : (ℓ : Loc Cert.FGroup.nD Cert.FGroup.τ Cert.FGroup.sig) → Buf (Elt Bits) ℓ) : Prop :=
  True

def Pre_FGroupIdeal (m : (ℓ : Loc Cert.FGroupIdeal.nD Cert.FGroupIdeal.τ Cert.FGroupIdeal.sig) → Buf (Elt Ideal) ℓ) : Prop :=
  True

def Pre_FGroupRefIdeal (m : (ℓ : Loc Cert.FGroupRefIdeal.nD Cert.FGroupRefIdeal.τ Cert.FGroupRefIdeal.sig) → Buf (Elt Ideal) ℓ) : Prop :=
  True

def Pre_PoolMix (m : (ℓ : Loc Cert.PoolMix.nD Cert.PoolMix.τ Cert.PoolMix.sig) → Buf (Elt Bits) ℓ) : Prop :=
  True

def Pre_PoolMixIdeal (m : (ℓ : Loc Cert.PoolMixIdeal.nD Cert.PoolMixIdeal.τ Cert.PoolMixIdeal.sig) → Buf (Elt Ideal) ℓ) : Prop :=
  True

def Pre_PoolMixIdeal_finite_mix [hPre_finite_mix : Cert.Pre_finite_mix.Facts] (m : (ℓ : Loc Cert.PoolMixIdeal.nD Cert.PoolMixIdeal.τ Cert.PoolMixIdeal.sig) → Buf (Elt Ideal) ℓ) : Prop :=
  ∀ c : Dev Cert.PoolMixIdeal.nD,
    (Cert.Pre_finite_mix.fn (F := Ideal) (m ((c.tc : Thread Cert.PoolMixIdeal.nD Cert.PoolMixIdeal.τ).loc Cert.PoolMixIdeal.main_arg0)) (m ((c.tc : Thread Cert.PoolMixIdeal.nD Cert.PoolMixIdeal.τ).loc Cert.PoolMixIdeal.main_arg1))) = (fun _ => 1#1)

def Pre_PoolMixRefIdeal (m : (ℓ : Loc Cert.PoolMixRefIdeal.nD Cert.PoolMixRefIdeal.τ Cert.PoolMixRefIdeal.sig) → Buf (Elt Ideal) ℓ) : Prop :=
  True

def Pre_PoolMixRefIdeal_finite_mix [hPre_finite_mix : Cert.Pre_finite_mix.Facts] (m : (ℓ : Loc Cert.PoolMixRefIdeal.nD Cert.PoolMixRefIdeal.τ Cert.PoolMixRefIdeal.sig) → Buf (Elt Ideal) ℓ) : Prop :=
  ∀ c : Dev Cert.PoolMixRefIdeal.nD,
    (Cert.Pre_finite_mix.fn (F := Ideal) (m ((c.tc : Thread Cert.PoolMixRefIdeal.nD Cert.PoolMixRefIdeal.τ).loc Cert.PoolMixRefIdeal.main_arg0)) (m ((c.tc : Thread Cert.PoolMixRefIdeal.nD Cert.PoolMixRefIdeal.τ).loc Cert.PoolMixRefIdeal.main_arg1))) = (fun _ => 1#1)

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumPoolIn (m : (ℓ : Loc Cert.SumPoolIn.nD Cert.SumPoolIn.τ Cert.SumPoolIn.sig) → Buf (Elt Bits) ℓ) : Prop :=
  True

def Pre_SumPoolInIdeal (m : (ℓ : Loc Cert.SumPoolInIdeal.nD Cert.SumPoolInIdeal.τ Cert.SumPoolInIdeal.sig) → Buf (Elt Ideal) ℓ) : Prop :=
  True

def Pre_SumPoolInRefIdeal (m : (ℓ : Loc Cert.SumPoolInRefIdeal.nD Cert.SumPoolInRefIdeal.τ Cert.SumPoolInRefIdeal.sig) → Buf (Elt Ideal) ℓ) : Prop :=
  True

def Pre_SumGroup (m : (ℓ : Loc Cert.SumGroup.nD Cert.SumGroup.τ Cert.SumGroup.sig) → Buf (Elt Bits) ℓ) : Prop :=
  True

def Pre_SumGroupIdeal (m : (ℓ : Loc Cert.SumGroupIdeal.nD Cert.SumGroupIdeal.τ Cert.SumGroupIdeal.sig) → Buf (Elt Ideal) ℓ) : Prop :=
  True

def Pre_SumGroupRefIdeal (m : (ℓ : Loc Cert.SumGroupRefIdeal.nD Cert.SumGroupRefIdeal.τ Cert.SumGroupRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamPoolIn (m : (ℓ : Loc Cert.AdamPoolIn.nD Cert.AdamPoolIn.τ Cert.AdamPoolIn.sig) → Buf (Elt Bits) ℓ) : Prop :=
  True

def Pre_AdamPoolInIdeal (m : (ℓ : Loc Cert.AdamPoolInIdeal.nD Cert.AdamPoolInIdeal.τ Cert.AdamPoolInIdeal.sig) → Buf (Elt Ideal) ℓ) : Prop :=
  True

def Pre_AdamPoolInRefIdeal (m : (ℓ : Loc Cert.AdamPoolInRefIdeal.nD Cert.AdamPoolInRefIdeal.τ Cert.AdamPoolInRefIdeal.sig) → Buf (Elt Ideal) ℓ) : Prop :=
  True

def Pre_AdamGroup (m : (ℓ : Loc Cert.AdamGroup.nD Cert.AdamGroup.τ Cert.AdamGroup.sig) → Buf (Elt Bits) ℓ) : Prop :=
  True

def Pre_AdamGroupIdeal (m : (ℓ : Loc Cert.AdamGroupIdeal.nD Cert.AdamGroupIdeal.τ Cert.AdamGroupIdeal.sig) → Buf (Elt Ideal) ℓ) : Prop :=
  True

def Pre_AdamGroupRefIdeal (m : (ℓ : Loc Cert.AdamGroupRefIdeal.nD Cert.AdamGroupRefIdeal.τ Cert.AdamGroupRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ r.2.sem = fun _ => 0)

def quiescent_SsmOutRefIdeal [hSsmOutRefIdeal : Cert.SsmOutRefIdeal.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1))
      ∧ r.2.sem = fun _ => 0)

def quiescent_Group [hGroup : Cert.Group.Facts] : Prop :=
  ∀ (m : (ℓ : Loc Cert.Group.nD Cert.Group.τ Cert.Group.sig) → Buf (Elt Bits) ℓ) (g : Dev Cert.Group.nD → PrngReg), Pre_Group m →
    θ_run (Cert.Group.defs (F := Bits)) (onTc (τ := Cert.Group.τ) (Cert.Group.main (F := Bits))) ⟨m, fun _ => 0, g⟩ (fun r => (∀ c : Dev Cert.Group.nD,
      r.2.mem ((c.tc : Thread Cert.Group.nD Cert.Group.τ).loc Cert.Group.main_arg0) = m ((c.tc : Thread Cert.Group.nD Cert.Group.τ).loc Cert.Group.main_arg0)
      ∧ r.2.mem ((c.tc : Thread Cert.Group.nD Cert.Group.τ).loc Cert.Group.main_arg1) = m ((c.tc : Thread Cert.Group.nD Cert.Group.τ).loc Cert.Group.main_arg1))
      ∧ r.2.sem = fun _ => 0)

def quiescent_GroupIdeal [hGroupIdeal : Cert.GroupIdeal.Facts] : Prop :=
  ∀ (m : (ℓ : Loc Cert.GroupIdeal.nD Cert.GroupIdeal.τ Cert.GroupIdeal.sig) → Buf (Elt Ideal) ℓ) (g : Dev Cert.GroupIdeal.nD → PrngReg), Pre_GroupIdeal m →
    θ_run (Cert.GroupIdeal.defs (F := Ideal)) (onTc (τ := Cert.GroupIdeal.τ) (Cert.GroupIdeal.main (F := Ideal))) ⟨m, fun _ => 0, g⟩ (fun r => (∀ c : Dev Cert.GroupIdeal.nD,
      r.2.mem ((c.tc : Thread Cert.GroupIdeal.nD Cert.GroupIdeal.τ).loc Cert.GroupIdeal.main_arg0) = m ((c.tc : Thread Cert.GroupIdeal.nD Cert.GroupIdeal.τ).loc Cert.GroupIdeal.main_arg0)
      ∧ r.2.mem ((c.tc : Thread Cert.GroupIdeal.nD Cert.GroupIdeal.τ).loc Cert.GroupIdeal.main_arg1) = m ((c.tc : Thread Cert.GroupIdeal.nD Cert.GroupIdeal.τ).loc Cert.GroupIdeal.main_arg1))
      ∧ r.2.sem = fun _ => 0)

def quiescent_GroupRefIdeal [hGroupRefIdeal : Cert.GroupRefIdeal.Facts] : Prop :=
  ∀ (m : (ℓ : Loc Cert.GroupRefIdeal.nD Cert.GroupRefIdeal.τ Cert.GroupRefIdeal.sig) → Buf (Elt Ideal) ℓ) (g : Dev Cert.GroupRefIdeal.nD → PrngReg), Pre_GroupRefIdeal m →
    θ_run (Cert.GroupRefIdeal.defs (F := Ideal)) (onTc (τ := Cert.GroupRefIdeal.τ) (Cert.GroupRefIdeal.main (F := Ideal))) ⟨m, fun _ => 0, g⟩ (fun r => (∀ c : Dev Cert.GroupRefIdeal.nD,
      r.2.mem ((c.tc : Thread Cert.GroupRefIdeal.nD Cert.GroupRefIdeal.τ).loc Cert.GroupRefIdeal.main_arg0) = m ((c.tc : Thread Cert.GroupRefIdeal.nD Cert.GroupRefIdeal.τ).loc Cert.GroupRefIdeal.main_arg0)
      ∧ r.2.mem ((c.tc : Thread Cert.GroupRefIdeal.nD Cert.GroupRefIdeal.τ).loc Cert.GroupRefIdeal.main_arg1) = m ((c.tc : Thread Cert.GroupRefIdeal.nD Cert.GroupRefIdeal.τ).loc Cert.GroupRefIdeal.main_arg1))
      ∧ r.2.sem = fun _ => 0)

def quiescent_PoolIn [hPoolIn : Cert.PoolIn.Facts] : Prop :=
  ∀ (m : (ℓ : Loc Cert.PoolIn.nD Cert.PoolIn.τ Cert.PoolIn.sig) → Buf (Elt Bits) ℓ) (g : Dev Cert.PoolIn.nD → PrngReg), Pre_PoolIn m →
    θ_run (Cert.PoolIn.defs (F := Bits)) (onTc (τ := Cert.PoolIn.τ) (Cert.PoolIn.main (F := Bits))) ⟨m, fun _ => 0, g⟩ (fun r => (∀ c : Dev Cert.PoolIn.nD,
      r.2.mem ((c.tc : Thread Cert.PoolIn.nD Cert.PoolIn.τ).loc Cert.PoolIn.main_arg0) = m ((c.tc : Thread Cert.PoolIn.nD Cert.PoolIn.τ).loc Cert.PoolIn.main_arg0)
      ∧ r.2.mem ((c.tc : Thread Cert.PoolIn.nD Cert.PoolIn.τ).loc Cert.PoolIn.main_arg1) = m ((c.tc : Thread Cert.PoolIn.nD Cert.PoolIn.τ).loc Cert.PoolIn.main_arg1))
      ∧ r.2.sem = fun _ => 0)

def quiescent_PoolInIdeal [hPoolInIdeal : Cert.PoolInIdeal.Facts] : Prop :=
  ∀ (m : (ℓ : Loc Cert.PoolInIdeal.nD Cert.PoolInIdeal.τ Cert.PoolInIdeal.sig) → Buf (Elt Ideal) ℓ) (g : Dev Cert.PoolInIdeal.nD → PrngReg), Pre_PoolInIdeal m →
    θ_run (Cert.PoolInIdeal.defs (F := Ideal)) (onTc (τ := Cert.PoolInIdeal.τ) (Cert.PoolInIdeal.main (F := Ideal))) ⟨m, fun _ => 0, g⟩ (fun r => (∀ c : Dev Cert.PoolInIdeal.nD,
      r.2.mem ((c.tc : Thread Cert.PoolInIdeal.nD Cert.PoolInIdeal.τ).loc Cert.PoolInIdeal.main_arg0) = m ((c.tc : Thread Cert.PoolInIdeal.nD Cert.PoolInIdeal.τ).loc Cert.PoolInIdeal.main_arg0)
      ∧ r.2.mem ((c.tc : Thread Cert.PoolInIdeal.nD Cert.PoolInIdeal.τ).loc Cert.PoolInIdeal.main_arg1) = m ((c.tc : Thread Cert.PoolInIdeal.nD Cert.PoolInIdeal.τ).loc Cert.PoolInIdeal.main_arg1))
      ∧ r.2.sem = fun _ => 0)

def quiescent_PoolInRefIdeal [hPoolInRefIdeal : Cert.PoolInRefIdeal.Facts] : Prop :=
  ∀ (m : (ℓ : Loc Cert.PoolInRefIdeal.nD Cert.PoolInRefIdeal.τ Cert.PoolInRefIdeal.sig) → Buf (Elt Ideal) ℓ) (g : Dev Cert.PoolInRefIdeal.nD → PrngReg), Pre_PoolInRefIdeal m →
    θ_run (Cert.PoolInRefIdeal.defs (F := Ideal)) (onTc (τ := Cert.PoolInRefIdeal.τ) (Cert.PoolInRefIdeal.main (F := Ideal))) ⟨m, fun _ => 0, g⟩ (fun r => (∀ c : Dev Cert.PoolInRefIdeal.nD,
      r.2.mem ((c.tc : Thread Cert.PoolInRefIdeal.nD Cert.PoolInRefIdeal.τ).loc Cert.PoolInRefIdeal.main_arg0) = m ((c.tc : Thread Cert.PoolInRefIdeal.nD Cert.PoolInRefIdeal.τ).loc Cert.PoolInRefIdeal.main_arg0)
      ∧ r.2.mem ((c.tc : Thread Cert.PoolInRefIdeal.nD Cert.PoolInRefIdeal.τ).loc Cert.PoolInRefIdeal.main_arg1) = m ((c.tc : Thread Cert.PoolInRefIdeal.nD Cert.PoolInRefIdeal.τ).loc Cert.PoolInRefIdeal.main_arg1))
      ∧ r.2.sem = fun _ => 0)

def quiescent_InDt [hInDt : Cert.InDt.Facts] : Prop :=
  ∀ (m : (ℓ : Loc Cert.InDt.nD Cert.InDt.τ Cert.InDt.sig) → Buf (Elt Bits) ℓ) (g : Dev Cert.InDt.nD → PrngReg), Pre_InDt m →
    θ_run (Cert.InDt.defs (F := Bits)) (onTc (τ := Cert.InDt.τ) (Cert.InDt.main (F := Bits))) ⟨m, fun _ => 0, g⟩ (fun r => (∀ c : Dev Cert.InDt.nD,
      r.2.mem ((c.tc : Thread Cert.InDt.nD Cert.InDt.τ).loc Cert.InDt.main_arg0) = m ((c.tc : Thread Cert.InDt.nD Cert.InDt.τ).loc Cert.InDt.main_arg0)
      ∧ r.2.mem ((c.tc : Thread Cert.InDt.nD Cert.InDt.τ).loc Cert.InDt.main_arg1) = m ((c.tc : Thread Cert.InDt.nD Cert.InDt.τ).loc Cert.InDt.main_arg1))
      ∧ r.2.sem = fun _ => 0)

def quiescent_InDtIdeal [hInDtIdeal : Cert.InDtIdeal.Facts] : Prop :=
  ∀ (m : (ℓ : Loc Cert.InDtIdeal.nD Cert.InDtIdeal.τ Cert.InDtIdeal.sig) → Buf (Elt Ideal) ℓ) (g : Dev Cert.InDtIdeal.nD → PrngReg), Pre_InDtIdeal m →
    θ_run (Cert.InDtIdeal.defs (F := Ideal)) (onTc (τ := Cert.InDtIdeal.τ) (Cert.InDtIdeal.main (F := Ideal))) ⟨m, fun _ => 0, g⟩ (fun r => (∀ c : Dev Cert.InDtIdeal.nD,
      r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
      ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1))
      ∧ r.2.sem = fun _ => 0)

def quiescent_InDtRefIdeal [hInDtRefIdeal : Cert.InDtRefIdeal.Facts] : Prop :=
  ∀ (m : (ℓ : Loc Cert.InDtRefIdeal.nD Cert.InDtRefIdeal.τ Cert.InDtRefIdeal.sig) → Buf (Elt Ideal) ℓ) (g : Dev Cert.InDtRefIdeal.nD → PrngReg), Pre_InDtRefIdeal m →
    θ_run (Cert.InDtRefIdeal.defs (F := Ideal)) (onTc (τ := Cert.InDtRefIdeal.τ) (Cert.InDtRefIdeal.main (F := Ideal))) ⟨m, fun _ => 0, g⟩ (fun r => (∀ c : Dev Cert.InDtRefIdeal.nD,
      r.2.mem ((c.tc : Thread Cert.InDtRefIdeal.nD Cert.InDtRefIdeal.τ).loc Cert.InDtRefIdeal.main_arg0) = m ((c.tc : Thread Cert.InDtRefIdeal.nD Cert.InDtRefIdeal.τ).loc Cert.InDtRefIdeal.main_arg0)
      ∧ r.2.mem ((c.tc : Thread Cert.InDtRefIdeal.nD Cert.InDtRefIdeal.τ).loc Cert.InDtRefIdeal.main_arg1) = m ((c.tc : Thread Cert.InDtRefIdeal.nD Cert.InDtRefIdeal.τ).loc Cert.InDtRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_WPoolIn [hWPoolIn : Cert.WPoolIn.Facts] : Prop :=
  ∀ (m : (ℓ : Loc Cert.WPoolIn.nD Cert.WPoolIn.τ Cert.WPoolIn.sig) → Buf (Elt Bits) ℓ) (g : Dev Cert.WPoolIn.nD → PrngReg), Pre_WPoolIn m →
    θ_run (Cert.WPoolIn.defs (F := Bits)) (onTc (τ := Cert.WPoolIn.τ) (Cert.WPoolIn.main (F := Bits))) ⟨m, fun _ => 0, g⟩ (fun r => (∀ c : Dev Cert.WPoolIn.nD,
      r.2.mem ((c.tc : Thread Cert.WPoolIn.nD Cert.WPoolIn.τ).loc Cert.WPoolIn.main_arg0) = m ((c.tc : Thread Cert.WPoolIn.nD Cert.WPoolIn.τ).loc Cert.WPoolIn.main_arg0)
      ∧ r.2.mem ((c.tc : Thread Cert.WPoolIn.nD Cert.WPoolIn.τ).loc Cert.WPoolIn.main_arg1) = m ((c.tc : Thread Cert.WPoolIn.nD Cert.WPoolIn.τ).loc Cert.WPoolIn.main_arg1))
      ∧ r.2.sem = fun _ => 0)

def quiescent_WPoolInIdeal [hWPoolInIdeal : Cert.WPoolInIdeal.Facts] : Prop :=
  ∀ (m : (ℓ : Loc Cert.WPoolInIdeal.nD Cert.WPoolInIdeal.τ Cert.WPoolInIdeal.sig) → Buf (Elt Ideal) ℓ) (g : Dev Cert.WPoolInIdeal.nD → PrngReg), Pre_WPoolInIdeal m →
    θ_run (Cert.WPoolInIdeal.defs (F := Ideal)) (onTc (τ := Cert.WPoolInIdeal.τ) (Cert.WPoolInIdeal.main (F := Ideal))) ⟨m, fun _ => 0, g⟩ (fun r => (∀ c : Dev Cert.WPoolInIdeal.nD,
      r.2.mem ((c.tc : Thread Cert.WPoolInIdeal.nD Cert.WPoolInIdeal.τ).loc Cert.WPoolInIdeal.main_arg0) = m ((c.tc : Thread Cert.WPoolInIdeal.nD Cert.WPoolInIdeal.τ).loc Cert.WPoolInIdeal.main_arg0)
      ∧ r.2.mem ((c.tc : Thread Cert.WPoolInIdeal.nD Cert.WPoolInIdeal.τ).loc Cert.WPoolInIdeal.main_arg1) = m ((c.tc : Thread Cert.WPoolInIdeal.nD Cert.WPoolInIdeal.τ).loc Cert.WPoolInIdeal.main_arg1))
      ∧ r.2.sem = fun _ => 0)

def quiescent_WPoolInRefIdeal [hWPoolInRefIdeal : Cert.WPoolInRefIdeal.Facts] : Prop :=
  ∀ (m : (ℓ : Loc Cert.WPoolInRefIdeal.nD Cert.WPoolInRefIdeal.τ Cert.WPoolInRefIdeal.sig) → Buf (Elt Ideal) ℓ) (g : Dev Cert.WPoolInRefIdeal.nD → PrngReg), Pre_WPoolInRefIdeal m →
    θ_run (Cert.WPoolInRefIdeal.defs (F := Ideal)) (onTc (τ := Cert.WPoolInRefIdeal.τ) (Cert.WPoolInRefIdeal.main (F := Ideal))) ⟨m, fun _ => 0, g⟩ (fun r => (∀ c : Dev Cert.WPoolInRefIdeal.nD,
      r.2.mem ((c.tc : Thread Cert.WPoolInRefIdeal.nD Cert.WPoolInRefIdeal.τ).loc Cert.WPoolInRefIdeal.main_arg0) = m ((c.tc : Thread Cert.WPoolInRefIdeal.nD Cert.WPoolInRefIdeal.τ).loc Cert.WPoolInRefIdeal.main_arg0)
      ∧ r.2.mem ((c.tc : Thread Cert.WPoolInRefIdeal.nD Cert.WPoolInRefIdeal.τ).loc Cert.WPoolInRefIdeal.main_arg1) = m ((c.tc : Thread Cert.WPoolInRefIdeal.nD Cert.WPoolInRefIdeal.τ).loc Cert.WPoolInRefIdeal.main_arg1))
      ∧ r.2.sem = fun _ => 0)

def quiescent_WGroup [hWGroup : Cert.WGroup.Facts] : Prop :=
  ∀ (m : (ℓ : Loc Cert.WGroup.nD Cert.WGroup.τ Cert.WGroup.sig) → Buf (Elt Bits) ℓ) (g : Dev Cert.WGroup.nD → PrngReg), Pre_WGroup m →
    θ_run (Cert.WGroup.defs (F := Bits)) (onTc (τ := Cert.WGroup.τ) (Cert.WGroup.main (F := Bits))) ⟨m, fun _ => 0, g⟩ (fun r => (∀ c : Dev Cert.WGroup.nD,
      r.2.mem ((c.tc : Thread Cert.WGroup.nD Cert.WGroup.τ).loc Cert.WGroup.main_arg0) = m ((c.tc : Thread Cert.WGroup.nD Cert.WGroup.τ).loc Cert.WGroup.main_arg0)
      ∧ r.2.mem ((c.tc : Thread Cert.WGroup.nD Cert.WGroup.τ).loc Cert.WGroup.main_arg1) = m ((c.tc : Thread Cert.WGroup.nD Cert.WGroup.τ).loc Cert.WGroup.main_arg1))
      ∧ r.2.sem = fun _ => 0)

def quiescent_WGroupIdeal [hWGroupIdeal : Cert.WGroupIdeal.Facts] : Prop :=
  ∀ (m : (ℓ : Loc Cert.WGroupIdeal.nD Cert.WGroupIdeal.τ Cert.WGroupIdeal.sig) → Buf (Elt Ideal) ℓ) (g : Dev Cert.WGroupIdeal.nD → PrngReg), Pre_WGroupIdeal m →
    θ_run (Cert.WGroupIdeal.defs (F := Ideal)) (onTc (τ := Cert.WGroupIdeal.τ) (Cert.WGroupIdeal.main (F := Ideal))) ⟨m, fun _ => 0, g⟩ (fun r => (∀ c : Dev Cert.WGroupIdeal.nD,
      r.2.mem ((c.tc : Thread Cert.WGroupIdeal.nD Cert.WGroupIdeal.τ).loc Cert.WGroupIdeal.main_arg0) = m ((c.tc : Thread Cert.WGroupIdeal.nD Cert.WGroupIdeal.τ).loc Cert.WGroupIdeal.main_arg0)
      ∧ r.2.mem ((c.tc : Thread Cert.WGroupIdeal.nD Cert.WGroupIdeal.τ).loc Cert.WGroupIdeal.main_arg1) = m ((c.tc : Thread Cert.WGroupIdeal.nD Cert.WGroupIdeal.τ).loc Cert.WGroupIdeal.main_arg1))
      ∧ r.2.sem = fun _ => 0)

def quiescent_WGroupRefIdeal [hWGroupRefIdeal : Cert.WGroupRefIdeal.Facts] : Prop :=
  ∀ (m : (ℓ : Loc Cert.WGroupRefIdeal.nD Cert.WGroupRefIdeal.τ Cert.WGroupRefIdeal.sig) → Buf (Elt Ideal) ℓ) (g : Dev Cert.WGroupRefIdeal.nD → PrngReg), Pre_WGroupRefIdeal m →
    θ_run (Cert.WGroupRefIdeal.defs (F := Ideal)) (onTc (τ := Cert.WGroupRefIdeal.τ) (Cert.WGroupRefIdeal.main (F := Ideal))) ⟨m, fun _ => 0, g⟩ (fun r => (∀ c : Dev Cert.WGroupRefIdeal.nD,
      r.2.mem ((c.tc : Thread Cert.WGroupRefIdeal.nD Cert.WGroupRefIdeal.τ).loc Cert.WGroupRefIdeal.main_arg0) = m ((c.tc : Thread Cert.WGroupRefIdeal.nD Cert.WGroupRefIdeal.τ).loc Cert.WGroupRefIdeal.main_arg0)
      ∧ r.2.mem ((c.tc : Thread Cert.WGroupRefIdeal.nD Cert.WGroupRefIdeal.τ).loc Cert.WGroupRefIdeal.main_arg1) = m ((c.tc : Thread Cert.WGroupRefIdeal.nD Cert.WGroupRefIdeal.τ).loc Cert.WGroupRefIdeal.main_arg1))
      ∧ r.2.sem = fun _ => 0)

def quiescent_FIn [hFIn : Cert.FIn.Facts] : Prop :=
  ∀ (m : (ℓ : Loc Cert.FIn.nD Cert.FIn.τ Cert.FIn.sig) → Buf (Elt Bits) ℓ) (g : Dev Cert.FIn.nD → PrngReg), Pre_FIn m →
    θ_run (Cert.FIn.defs (F := Bits)) (onTc (τ := Cert.FIn.τ) (Cert.FIn.main (F := Bits))) ⟨m, fun _ => 0, g⟩ (fun r => (∀ c : Dev Cert.FIn.nD,
      r.2.mem ((c.tc : Thread Cert.FIn.nD Cert.FIn.τ).loc Cert.FIn.main_arg0) = m ((c.tc : Thread Cert.FIn.nD Cert.FIn.τ).loc Cert.FIn.main_arg0)
      ∧ r.2.mem ((c.tc : Thread Cert.FIn.nD Cert.FIn.τ).loc Cert.FIn.main_arg1) = m ((c.tc : Thread Cert.FIn.nD Cert.FIn.τ).loc Cert.FIn.main_arg1))
      ∧ r.2.sem = fun _ => 0)

def quiescent_FInIdeal [hFInIdeal : Cert.FInIdeal.Facts] : Prop :=
  ∀ (m : (ℓ : Loc Cert.FInIdeal.nD Cert.FInIdeal.τ Cert.FInIdeal.sig) → Buf (Elt Ideal) ℓ) (g : Dev Cert.FInIdeal.nD → PrngReg), Pre_FInIdeal m →
    θ_run (Cert.FInIdeal.defs (F := Ideal)) (onTc (τ := Cert.FInIdeal.τ) (Cert.FInIdeal.main (F := Ideal))) ⟨m, fun _ => 0, g⟩ (fun r => (∀ c : Dev Cert.FInIdeal.nD,
      r.2.mem ((c.tc : Thread Cert.FInIdeal.nD Cert.FInIdeal.τ).loc Cert.FInIdeal.main_arg0) = m ((c.tc : Thread Cert.FInIdeal.nD Cert.FInIdeal.τ).loc Cert.FInIdeal.main_arg0)
      ∧ r.2.mem ((c.tc : Thread Cert.FInIdeal.nD Cert.FInIdeal.τ).loc Cert.FInIdeal.main_arg1) = m ((c.tc : Thread Cert.FInIdeal.nD Cert.FInIdeal.τ).loc Cert.FInIdeal.main_arg1))
      ∧ r.2.sem = fun _ => 0)

def quiescent_FInRefIdeal [hFInRefIdeal : Cert.FInRefIdeal.Facts] : Prop :=
  ∀ (m : (ℓ : Loc Cert.FInRefIdeal.nD Cert.FInRefIdeal.τ Cert.FInRefIdeal.sig) → Buf (Elt Ideal) ℓ) (g : Dev Cert.FInRefIdeal.nD → PrngReg), Pre_FInRefIdeal m →
    θ_run (Cert.FInRefIdeal.defs (F := Ideal)) (onTc (τ := Cert.FInRefIdeal.τ) (Cert.FInRefIdeal.main (F := Ideal))) ⟨m, fun _ => 0, g⟩ (fun r => (∀ c : Dev Cert.FInRefIdeal.nD,
      r.2.mem ((c.tc : Thread Cert.FInRefIdeal.nD Cert.FInRefIdeal.τ).loc Cert.FInRefIdeal.main_arg0) = m ((c.tc : Thread Cert.FInRefIdeal.nD Cert.FInRefIdeal.τ).loc Cert.FInRefIdeal.main_arg0)
      ∧ r.2.mem ((c.tc : Thread Cert.FInRefIdeal.nD Cert.FInRefIdeal.τ).loc Cert.FInRefIdeal.main_arg1) = m ((c.tc : Thread Cert.FInRefIdeal.nD Cert.FInRefIdeal.τ).loc Cert.FInRefIdeal.main_arg1))
      ∧ r.2.sem = fun _ => 0)

def quiescent_FInDt [hFInDt : Cert.FInDt.Facts] : Prop :=
  ∀ (m : (ℓ : Loc Cert.FInDt.nD Cert.FInDt.τ Cert.FInDt.sig) → Buf (Elt Bits) ℓ) (g : Dev Cert.FInDt.nD → PrngReg), Pre_FInDt m →
    θ_run (Cert.FInDt.defs (F := Bits)) (onTc (τ := Cert.FInDt.τ) (Cert.FInDt.main (F := Bits))) ⟨m, fun _ => 0, g⟩ (fun r => (∀ c : Dev Cert.FInDt.nD,
      r.2.mem ((c.tc : Thread Cert.FInDt.nD Cert.FInDt.τ).loc Cert.FInDt.main_arg0) = m ((c.tc : Thread Cert.FInDt.nD Cert.FInDt.τ).loc Cert.FInDt.main_arg0)
      ∧ r.2.mem ((c.tc : Thread Cert.FInDt.nD Cert.FInDt.τ).loc Cert.FInDt.main_arg1) = m ((c.tc : Thread Cert.FInDt.nD Cert.FInDt.τ).loc Cert.FInDt.main_arg1))
      ∧ r.2.sem = fun _ => 0)

def quiescent_FInDtIdeal [hFInDtIdeal : Cert.FInDtIdeal.Facts] : Prop :=
  ∀ (m : (ℓ : Loc Cert.FInDtIdeal.nD Cert.FInDtIdeal.τ Cert.FInDtIdeal.sig) → Buf (Elt Ideal) ℓ) (g : Dev Cert.FInDtIdeal.nD → PrngReg), Pre_FInDtIdeal m →
    θ_run (Cert.FInDtIdeal.defs (F := Ideal)) (onTc (τ := Cert.FInDtIdeal.τ) (Cert.FInDtIdeal.main (F := Ideal))) ⟨m, fun _ => 0, g⟩ (fun r => (∀ c : Dev Cert.FInDtIdeal.nD,
      r.2.mem ((c.tc : Thread Cert.FInDtIdeal.nD Cert.FInDtIdeal.τ).loc Cert.FInDtIdeal.main_arg0) = m ((c.tc : Thread Cert.FInDtIdeal.nD Cert.FInDtIdeal.τ).loc Cert.FInDtIdeal.main_arg0)
      ∧ r.2.mem ((c.tc : Thread Cert.FInDtIdeal.nD Cert.FInDtIdeal.τ).loc Cert.FInDtIdeal.main_arg1) = m ((c.tc : Thread Cert.FInDtIdeal.nD Cert.FInDtIdeal.τ).loc Cert.FInDtIdeal.main_arg1))
      ∧ r.2.sem = fun _ => 0)

def quiescent_FInDtRefIdeal [hFInDtRefIdeal : Cert.FInDtRefIdeal.Facts] : Prop :=
  ∀ (m : (ℓ : Loc Cert.FInDtRefIdeal.nD Cert.FInDtRefIdeal.τ Cert.FInDtRefIdeal.sig) → Buf (Elt Ideal) ℓ) (g : Dev Cert.FInDtRefIdeal.nD → PrngReg), Pre_FInDtRefIdeal m →
    θ_run (Cert.FInDtRefIdeal.defs (F := Ideal)) (onTc (τ := Cert.FInDtRefIdeal.τ) (Cert.FInDtRefIdeal.main (F := Ideal))) ⟨m, fun _ => 0, g⟩ (fun r => (∀ c : Dev Cert.FInDtRefIdeal.nD,
      r.2.mem ((c.tc : Thread Cert.FInDtRefIdeal.nD Cert.FInDtRefIdeal.τ).loc Cert.FInDtRefIdeal.main_arg0) = m ((c.tc : Thread Cert.FInDtRefIdeal.nD Cert.FInDtRefIdeal.τ).loc Cert.FInDtRefIdeal.main_arg0)
      ∧ r.2.mem ((c.tc : Thread Cert.FInDtRefIdeal.nD Cert.FInDtRefIdeal.τ).loc Cert.FInDtRefIdeal.main_arg1) = m ((c.tc : Thread Cert.FInDtRefIdeal.nD Cert.FInDtRefIdeal.τ).loc Cert.FInDtRefIdeal.main_arg1))
      ∧ r.2.sem = fun _ => 0)

def quiescent_FOut [hFOut : Cert.FOut.Facts] : Prop :=
  ∀ (m : (ℓ : Loc Cert.FOut.nD Cert.FOut.τ Cert.FOut.sig) → Buf (Elt Bits) ℓ) (g : Dev Cert.FOut.nD → PrngReg), Pre_FOut m →
    θ_run (Cert.FOut.defs (F := Bits)) (onTc (τ := Cert.FOut.τ) (Cert.FOut.main (F := Bits))) ⟨m, fun _ => 0, g⟩ (fun r => (∀ c : Dev Cert.FOut.nD,
      r.2.mem ((c.tc : Thread Cert.FOut.nD Cert.FOut.τ).loc Cert.FOut.main_arg0) = m ((c.tc : Thread Cert.FOut.nD Cert.FOut.τ).loc Cert.FOut.main_arg0)
      ∧ r.2.mem ((c.tc : Thread Cert.FOut.nD Cert.FOut.τ).loc Cert.FOut.main_arg1) = m ((c.tc : Thread Cert.FOut.nD Cert.FOut.τ).loc Cert.FOut.main_arg1)
      ∧ r.2.mem ((c.tc : Thread Cert.FOut.nD Cert.FOut.τ).loc Cert.FOut.main_arg2) = m ((c.tc : Thread Cert.FOut.nD Cert.FOut.τ).loc Cert.FOut.main_arg2))
      ∧ r.2.sem = fun _ => 0)

def quiescent_FOutIdeal [hFOutIdeal : Cert.FOutIdeal.Facts] : Prop :=
  ∀ (m : (ℓ : Loc Cert.FOutIdeal.nD Cert.FOutIdeal.τ Cert.FOutIdeal.sig) → Buf (Elt Ideal) ℓ) (g : Dev Cert.FOutIdeal.nD → PrngReg), Pre_FOutIdeal m →
    θ_run (Cert.FOutIdeal.defs (F := Ideal)) (onTc (τ := Cert.FOutIdeal.τ) (Cert.FOutIdeal.main (F := Ideal))) ⟨m, fun _ => 0, g⟩ (fun r => (∀ c : Dev Cert.FOutIdeal.nD,
      r.2.mem ((c.tc : Thread Cert.FOutIdeal.nD Cert.FOutIdeal.τ).loc Cert.FOutIdeal.main_arg0) = m ((c.tc : Thread Cert.FOutIdeal.nD Cert.FOutIdeal.τ).loc Cert.FOutIdeal.main_arg0)
      ∧ r.2.mem ((c.tc : Thread Cert.FOutIdeal.nD Cert.FOutIdeal.τ).loc Cert.FOutIdeal.main_arg1) = m ((c.tc : Thread Cert.FOutIdeal.nD Cert.FOutIdeal.τ).loc Cert.FOutIdeal.main_arg1)
      ∧ r.2.mem ((c.tc : Thread Cert.FOutIdeal.nD Cert.FOutIdeal.τ).loc Cert.FOutIdeal.main_arg2) = m ((c.tc : Thread Cert.FOutIdeal.nD Cert.FOutIdeal.τ).loc Cert.FOutIdeal.main_arg2))
      ∧ r.2.sem = fun _ => 0)

def quiescent_FOutRefIdeal [hFOutRefIdeal : Cert.FOutRefIdeal.Facts] : Prop :=
  ∀ (m : (ℓ : Loc Cert.FOutRefIdeal.nD Cert.FOutRefIdeal.τ Cert.FOutRefIdeal.sig) → Buf (Elt Ideal) ℓ) (g : Dev Cert.FOutRefIdeal.nD → PrngReg), Pre_FOutRefIdeal m →
    θ_run (Cert.FOutRefIdeal.defs (F := Ideal)) (onTc (τ := Cert.FOutRefIdeal.τ) (Cert.FOutRefIdeal.main (F := Ideal))) ⟨m, fun _ => 0, g⟩ (fun r => (∀ c : Dev Cert.FOutRefIdeal.nD,
      r.2.mem ((c.tc : Thread Cert.FOutRefIdeal.nD Cert.FOutRefIdeal.τ).loc Cert.FOutRefIdeal.main_arg0) = m ((c.tc : Thread Cert.FOutRefIdeal.nD Cert.FOutRefIdeal.τ).loc Cert.FOutRefIdeal.main_arg0)
      ∧ r.2.mem ((c.tc : Thread Cert.FOutRefIdeal.nD Cert.FOutRefIdeal.τ).loc Cert.FOutRefIdeal.main_arg1) = m ((c.tc : Thread Cert.FOutRefIdeal.nD Cert.FOutRefIdeal.τ).loc Cert.FOutRefIdeal.main_arg1)
      ∧ r.2.mem ((c.tc : Thread Cert.FOutRefIdeal.nD Cert.FOutRefIdeal.τ).loc Cert.FOutRefIdeal.main_arg2) = m ((c.tc : Thread Cert.FOutRefIdeal.nD Cert.FOutRefIdeal.τ).loc Cert.FOutRefIdeal.main_arg2))
      ∧ r.2.sem = fun _ => 0)

def quiescent_FPoolIn [hFPoolIn : Cert.FPoolIn.Facts] : Prop :=
  ∀ (m : (ℓ : Loc Cert.FPoolIn.nD Cert.FPoolIn.τ Cert.FPoolIn.sig) → Buf (Elt Bits) ℓ) (g : Dev Cert.FPoolIn.nD → PrngReg), Pre_FPoolIn m →
    θ_run (Cert.FPoolIn.defs (F := Bits)) (onTc (τ := Cert.FPoolIn.τ) (Cert.FPoolIn.main (F := Bits))) ⟨m, fun _ => 0, g⟩ (fun r => (∀ c : Dev Cert.FPoolIn.nD,
      r.2.mem ((c.tc : Thread Cert.FPoolIn.nD Cert.FPoolIn.τ).loc Cert.FPoolIn.main_arg0) = m ((c.tc : Thread Cert.FPoolIn.nD Cert.FPoolIn.τ).loc Cert.FPoolIn.main_arg0)
      ∧ r.2.mem ((c.tc : Thread Cert.FPoolIn.nD Cert.FPoolIn.τ).loc Cert.FPoolIn.main_arg1) = m ((c.tc : Thread Cert.FPoolIn.nD Cert.FPoolIn.τ).loc Cert.FPoolIn.main_arg1))
      ∧ r.2.sem = fun _ => 0)

def quiescent_FPoolInIdeal [hFPoolInIdeal : Cert.FPoolInIdeal.Facts] : Prop :=
  ∀ (m : (ℓ : Loc Cert.FPoolInIdeal.nD Cert.FPoolInIdeal.τ Cert.FPoolInIdeal.sig) → Buf (Elt Ideal) ℓ) (g : Dev Cert.FPoolInIdeal.nD → PrngReg), Pre_FPoolInIdeal m →
    θ_run (Cert.FPoolInIdeal.defs (F := Ideal)) (onTc (τ := Cert.FPoolInIdeal.τ) (Cert.FPoolInIdeal.main (F := Ideal))) ⟨m, fun _ => 0, g⟩ (fun r => (∀ c : Dev Cert.FPoolInIdeal.nD,
      r.2.mem ((c.tc : Thread Cert.FPoolInIdeal.nD Cert.FPoolInIdeal.τ).loc Cert.FPoolInIdeal.main_arg0) = m ((c.tc : Thread Cert.FPoolInIdeal.nD Cert.FPoolInIdeal.τ).loc Cert.FPoolInIdeal.main_arg0)
      ∧ r.2.mem ((c.tc : Thread Cert.FPoolInIdeal.nD Cert.FPoolInIdeal.τ).loc Cert.FPoolInIdeal.main_arg1) = m ((c.tc : Thread Cert.FPoolInIdeal.nD Cert.FPoolInIdeal.τ).loc Cert.FPoolInIdeal.main_arg1))
      ∧ r.2.sem = fun _ => 0)

def quiescent_FPoolInRefIdeal [hFPoolInRefIdeal : Cert.FPoolInRefIdeal.Facts] : Prop :=
  ∀ (m : (ℓ : Loc Cert.FPoolInRefIdeal.nD Cert.FPoolInRefIdeal.τ Cert.FPoolInRefIdeal.sig) → Buf (Elt Ideal) ℓ) (g : Dev Cert.FPoolInRefIdeal.nD → PrngReg), Pre_FPoolInRefIdeal m →
    θ_run (Cert.FPoolInRefIdeal.defs (F := Ideal)) (onTc (τ := Cert.FPoolInRefIdeal.τ) (Cert.FPoolInRefIdeal.main (F := Ideal))) ⟨m, fun _ => 0, g⟩ (fun r => (∀ c : Dev Cert.FPoolInRefIdeal.nD,
      r.2.mem ((c.tc : Thread Cert.FPoolInRefIdeal.nD Cert.FPoolInRefIdeal.τ).loc Cert.FPoolInRefIdeal.main_arg0) = m ((c.tc : Thread Cert.FPoolInRefIdeal.nD Cert.FPoolInRefIdeal.τ).loc Cert.FPoolInRefIdeal.main_arg0)
      ∧ r.2.mem ((c.tc : Thread Cert.FPoolInRefIdeal.nD Cert.FPoolInRefIdeal.τ).loc Cert.FPoolInRefIdeal.main_arg1) = m ((c.tc : Thread Cert.FPoolInRefIdeal.nD Cert.FPoolInRefIdeal.τ).loc Cert.FPoolInRefIdeal.main_arg1))
      ∧ r.2.sem = fun _ => 0)

def quiescent_FGroup [hFGroup : Cert.FGroup.Facts] : Prop :=
  ∀ (m : (ℓ : Loc Cert.FGroup.nD Cert.FGroup.τ Cert.FGroup.sig) → Buf (Elt Bits) ℓ) (g : Dev Cert.FGroup.nD → PrngReg), Pre_FGroup m →
    θ_run (Cert.FGroup.defs (F := Bits)) (onTc (τ := Cert.FGroup.τ) (Cert.FGroup.main (F := Bits))) ⟨m, fun _ => 0, g⟩ (fun r => (∀ c : Dev Cert.FGroup.nD,
      r.2.mem ((c.tc : Thread Cert.FGroup.nD Cert.FGroup.τ).loc Cert.FGroup.main_arg0) = m ((c.tc : Thread Cert.FGroup.nD Cert.FGroup.τ).loc Cert.FGroup.main_arg0)
      ∧ r.2.mem ((c.tc : Thread Cert.FGroup.nD Cert.FGroup.τ).loc Cert.FGroup.main_arg1) = m ((c.tc : Thread Cert.FGroup.nD Cert.FGroup.τ).loc Cert.FGroup.main_arg1)
      ∧ r.2.mem ((c.tc : Thread Cert.FGroup.nD Cert.FGroup.τ).loc Cert.FGroup.main_arg2) = m ((c.tc : Thread Cert.FGroup.nD Cert.FGroup.τ).loc Cert.FGroup.main_arg2)
      ∧ r.2.mem ((c.tc : Thread Cert.FGroup.nD Cert.FGroup.τ).loc Cert.FGroup.main_arg3) = m ((c.tc : Thread Cert.FGroup.nD Cert.FGroup.τ).loc Cert.FGroup.main_arg3))
      ∧ r.2.sem = fun _ => 0)

def quiescent_FGroupIdeal [hFGroupIdeal : Cert.FGroupIdeal.Facts] : Prop :=
  ∀ (m : (ℓ : Loc Cert.FGroupIdeal.nD Cert.FGroupIdeal.τ Cert.FGroupIdeal.sig) → Buf (Elt Ideal) ℓ) (g : Dev Cert.FGroupIdeal.nD → PrngReg), Pre_FGroupIdeal m →
    θ_run (Cert.FGroupIdeal.defs (F := Ideal)) (onTc (τ := Cert.FGroupIdeal.τ) (Cert.FGroupIdeal.main (F := Ideal))) ⟨m, fun _ => 0, g⟩ (fun r => (∀ c : Dev Cert.FGroupIdeal.nD,
      r.2.mem ((c.tc : Thread Cert.FGroupIdeal.nD Cert.FGroupIdeal.τ).loc Cert.FGroupIdeal.main_arg0) = m ((c.tc : Thread Cert.FGroupIdeal.nD Cert.FGroupIdeal.τ).loc Cert.FGroupIdeal.main_arg0)
      ∧ r.2.mem ((c.tc : Thread Cert.FGroupIdeal.nD Cert.FGroupIdeal.τ).loc Cert.FGroupIdeal.main_arg1) = m ((c.tc : Thread Cert.FGroupIdeal.nD Cert.FGroupIdeal.τ).loc Cert.FGroupIdeal.main_arg1)
      ∧ r.2.mem ((c.tc : Thread Cert.FGroupIdeal.nD Cert.FGroupIdeal.τ).loc Cert.FGroupIdeal.main_arg2) = m ((c.tc : Thread Cert.FGroupIdeal.nD Cert.FGroupIdeal.τ).loc Cert.FGroupIdeal.main_arg2)
      ∧ r.2.mem ((c.tc : Thread Cert.FGroupIdeal.nD Cert.FGroupIdeal.τ).loc Cert.FGroupIdeal.main_arg3) = m ((c.tc : Thread Cert.FGroupIdeal.nD Cert.FGroupIdeal.τ).loc Cert.FGroupIdeal.main_arg3))
      ∧ r.2.sem = fun _ => 0)

def quiescent_FGroupRefIdeal [hFGroupRefIdeal : Cert.FGroupRefIdeal.Facts] : Prop :=
  ∀ (m : (ℓ : Loc Cert.FGroupRefIdeal.nD Cert.FGroupRefIdeal.τ Cert.FGroupRefIdeal.sig) → Buf (Elt Ideal) ℓ) (g : Dev Cert.FGroupRefIdeal.nD → PrngReg), Pre_FGroupRefIdeal m →
    θ_run (Cert.FGroupRefIdeal.defs (F := Ideal)) (onTc (τ := Cert.FGroupRefIdeal.τ) (Cert.FGroupRefIdeal.main (F := Ideal))) ⟨m, fun _ => 0, g⟩ (fun r => (∀ c : Dev Cert.FGroupRefIdeal.nD,
      r.2.mem ((c.tc : Thread Cert.FGroupRefIdeal.nD Cert.FGroupRefIdeal.τ).loc Cert.FGroupRefIdeal.main_arg0) = m ((c.tc : Thread Cert.FGroupRefIdeal.nD Cert.FGroupRefIdeal.τ).loc Cert.FGroupRefIdeal.main_arg0)
      ∧ r.2.mem ((c.tc : Thread Cert.FGroupRefIdeal.nD Cert.FGroupRefIdeal.τ).loc Cert.FGroupRefIdeal.main_arg1) = m ((c.tc : Thread Cert.FGroupRefIdeal.nD Cert.FGroupRefIdeal.τ).loc Cert.FGroupRefIdeal.main_arg1)
      ∧ r.2.mem ((c.tc : Thread Cert.FGroupRefIdeal.nD Cert.FGroupRefIdeal.τ).loc Cert.FGroupRefIdeal.main_arg2) = m ((c.tc : Thread Cert.FGroupRefIdeal.nD Cert.FGroupRefIdeal.τ).loc Cert.FGroupRefIdeal.main_arg2)
      ∧ r.2.mem ((c.tc : Thread Cert.FGroupRefIdeal.nD Cert.FGroupRefIdeal.τ).loc Cert.FGroupRefIdeal.main_arg3) = m ((c.tc : Thread Cert.FGroupRefIdeal.nD Cert.FGroupRefIdeal.τ).loc Cert.FGroupRefIdeal.main_arg3))
      ∧ r.2.sem = fun _ => 0)

def quiescent_PoolMix [hPoolMix : Cert.PoolMix.Facts] : Prop :=
  ∀ (m : (ℓ : Loc Cert.PoolMix.nD Cert.PoolMix.τ Cert.PoolMix.sig) → Buf (Elt Bits) ℓ) (g : Dev Cert.PoolMix.nD → PrngReg), Pre_PoolMix m →
    θ_run (Cert.PoolMix.defs (F := Bits)) (onTc (τ := Cert.PoolMix.τ) (Cert.PoolMix.main (F := Bits))) ⟨m, fun _ => 0, g⟩ (fun r => (∀ c : Dev Cert.PoolMix.nD,
      r.2.mem ((c.tc : Thread Cert.PoolMix.nD Cert.PoolMix.τ).loc Cert.PoolMix.main_arg0) = m ((c.tc : Thread Cert.PoolMix.nD Cert.PoolMix.τ).loc Cert.PoolMix.main_arg0)
      ∧ r.2.mem ((c.tc : Thread Cert.PoolMix.nD Cert.PoolMix.τ).loc Cert.PoolMix.main_arg1) = m ((c.tc : Thread Cert.PoolMix.nD Cert.PoolMix.τ).loc Cert.PoolMix.main_arg1))
      ∧ r.2.sem = fun _ => 0)

def quiescent_PoolMixIdeal [hPoolMixIdeal : Cert.PoolMixIdeal.Facts] : Prop :=
  ∀ (m : (ℓ : Loc Cert.PoolMixIdeal.nD Cert.PoolMixIdeal.τ Cert.PoolMixIdeal.sig) → Buf (Elt Ideal) ℓ) (g : Dev Cert.PoolMixIdeal.nD → PrngReg), Pre_PoolMixIdeal m →
    θ_run (Cert.PoolMixIdeal.defs (F := Ideal)) (onTc (τ := Cert.PoolMixIdeal.τ) (Cert.PoolMixIdeal.main (F := Ideal))) ⟨m, fun _ => 0, g⟩ (fun r => (∀ c : Dev Cert.PoolMixIdeal.nD,
      r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
      ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1))
      ∧ r.2.sem = fun _ => 0)

def quiescent_PoolMixIdeal_pre_finite_mix [hPoolMixIdeal : Cert.PoolMixIdeal.Facts] [hPre_finite_mix : Cert.Pre_finite_mix.Facts] : Prop :=
  ∀ (m : (ℓ : Loc Cert.PoolMixIdeal.nD Cert.PoolMixIdeal.τ Cert.PoolMixIdeal.sig) → Buf (Elt Ideal) ℓ) (g : Dev Cert.PoolMixIdeal.nD → PrngReg), Pre_PoolMixIdeal_finite_mix m →
    θ_run (Cert.PoolMixIdeal.defs (F := Ideal)) (onTc (τ := Cert.PoolMixIdeal.τ) (Cert.PoolMixIdeal.main (F := Ideal))) ⟨m, fun _ => 0, g⟩ (fun r => (∀ c : Dev Cert.PoolMixIdeal.nD,
      r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
      ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1))
      ∧ r.2.sem = fun _ => 0)

def quiescent_PoolMixRefIdeal [hPoolMixRefIdeal : Cert.PoolMixRefIdeal.Facts] : Prop :=
  ∀ (m : (ℓ : Loc Cert.PoolMixRefIdeal.nD Cert.PoolMixRefIdeal.τ Cert.PoolMixRefIdeal.sig) → Buf (Elt Ideal) ℓ) (g : Dev Cert.PoolMixRefIdeal.nD → PrngReg), Pre_PoolMixRefIdeal m →
    θ_run (Cert.PoolMixRefIdeal.defs (F := Ideal)) (onTc (τ := Cert.PoolMixRefIdeal.τ) (Cert.PoolMixRefIdeal.main (F := Ideal))) ⟨m, fun _ => 0, g⟩ (fun r => (∀ c : Dev Cert.PoolMixRefIdeal.nD,
      r.2.mem ((c.tc : Thread Cert.PoolMixRefIdeal.nD Cert.PoolMixRefIdeal.τ).loc Cert.PoolMixRefIdeal.main_arg0) = m ((c.tc : Thread Cert.PoolMixRefIdeal.nD Cert.PoolMixRefIdeal.τ).loc Cert.PoolMixRefIdeal.main_arg0)
      ∧ r.2.mem ((c.tc : Thread Cert.PoolMixRefIdeal.nD Cert.PoolMixRefIdeal.τ).loc Cert.PoolMixRefIdeal.main_arg1) = m ((c.tc : Thread Cert.PoolMixRefIdeal.nD Cert.PoolMixRefIdeal.τ).loc Cert.PoolMixRefIdeal.main_arg1))
      ∧ r.2.sem = fun _ => 0)

def quiescent_PoolMixRefIdeal_pre_finite_mix [hPoolMixRefIdeal : Cert.PoolMixRefIdeal.Facts] [hPre_finite_mix : Cert.Pre_finite_mix.Facts] : Prop :=
  ∀ (m : (ℓ : Loc Cert.PoolMixRefIdeal.nD Cert.PoolMixRefIdeal.τ Cert.PoolMixRefIdeal.sig) → Buf (Elt Ideal) ℓ) (g : Dev Cert.PoolMixRefIdeal.nD → PrngReg), Pre_PoolMixRefIdeal_finite_mix m →
    θ_run (Cert.PoolMixRefIdeal.defs (F := Ideal)) (onTc (τ := Cert.PoolMixRefIdeal.τ) (Cert.PoolMixRefIdeal.main (F := Ideal))) ⟨m, fun _ => 0, g⟩ (fun r => (∀ c : Dev Cert.PoolMixRefIdeal.nD,
      r.2.mem ((c.tc : Thread Cert.PoolMixRefIdeal.nD Cert.PoolMixRefIdeal.τ).loc Cert.PoolMixRefIdeal.main_arg0) = m ((c.tc : Thread Cert.PoolMixRefIdeal.nD Cert.PoolMixRefIdeal.τ).loc Cert.PoolMixRefIdeal.main_arg0)
      ∧ r.2.mem ((c.tc : Thread Cert.PoolMixRefIdeal.nD Cert.PoolMixRefIdeal.τ).loc Cert.PoolMixRefIdeal.main_arg1) = m ((c.tc : Thread Cert.PoolMixRefIdeal.nD Cert.PoolMixRefIdeal.τ).loc Cert.PoolMixRefIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumPoolIn [hSumPoolIn : Cert.SumPoolIn.Facts] : Prop :=
  ∀ (m : (ℓ : Loc Cert.SumPoolIn.nD Cert.SumPoolIn.τ Cert.SumPoolIn.sig) → Buf (Elt Bits) ℓ) (g : Dev Cert.SumPoolIn.nD → PrngReg), Pre_SumPoolIn m →
    θ_run (Cert.SumPoolIn.defs (F := Bits)) (onTc (τ := Cert.SumPoolIn.τ) (Cert.SumPoolIn.main (F := Bits))) ⟨m, fun _ => 0, g⟩ (fun r => (∀ c : Dev Cert.SumPoolIn.nD,
      r.2.mem ((c.tc : Thread Cert.SumPoolIn.nD Cert.SumPoolIn.τ).loc Cert.SumPoolIn.main_arg0) = m ((c.tc : Thread Cert.SumPoolIn.nD Cert.SumPoolIn.τ).loc Cert.SumPoolIn.main_arg0))
      ∧ r.2.sem = fun _ => 0)

def quiescent_SumPoolInIdeal [hSumPoolInIdeal : Cert.SumPoolInIdeal.Facts] : Prop :=
  ∀ (m : (ℓ : Loc Cert.SumPoolInIdeal.nD Cert.SumPoolInIdeal.τ Cert.SumPoolInIdeal.sig) → Buf (Elt Ideal) ℓ) (g : Dev Cert.SumPoolInIdeal.nD → PrngReg), Pre_SumPoolInIdeal m →
    θ_run (Cert.SumPoolInIdeal.defs (F := Ideal)) (onTc (τ := Cert.SumPoolInIdeal.τ) (Cert.SumPoolInIdeal.main (F := Ideal))) ⟨m, fun _ => 0, g⟩ (fun r => (∀ c : Dev Cert.SumPoolInIdeal.nD,
      r.2.mem ((c.tc : Thread Cert.SumPoolInIdeal.nD Cert.SumPoolInIdeal.τ).loc Cert.SumPoolInIdeal.main_arg0) = m ((c.tc : Thread Cert.SumPoolInIdeal.nD Cert.SumPoolInIdeal.τ).loc Cert.SumPoolInIdeal.main_arg0))
      ∧ r.2.sem = fun _ => 0)

def quiescent_SumPoolInRefIdeal [hSumPoolInRefIdeal : Cert.SumPoolInRefIdeal.Facts] : Prop :=
  ∀ (m : (ℓ : Loc Cert.SumPoolInRefIdeal.nD Cert.SumPoolInRefIdeal.τ Cert.SumPoolInRefIdeal.sig) → Buf (Elt Ideal) ℓ) (g : Dev Cert.SumPoolInRefIdeal.nD → PrngReg), Pre_SumPoolInRefIdeal m →
    θ_run (Cert.SumPoolInRefIdeal.defs (F := Ideal)) (onTc (τ := Cert.SumPoolInRefIdeal.τ) (Cert.SumPoolInRefIdeal.main (F := Ideal))) ⟨m, fun _ => 0, g⟩ (fun r => (∀ c : Dev Cert.SumPoolInRefIdeal.nD,
      r.2.mem ((c.tc : Thread Cert.SumPoolInRefIdeal.nD Cert.SumPoolInRefIdeal.τ).loc Cert.SumPoolInRefIdeal.main_arg0) = m ((c.tc : Thread Cert.SumPoolInRefIdeal.nD Cert.SumPoolInRefIdeal.τ).loc Cert.SumPoolInRefIdeal.main_arg0))
      ∧ r.2.sem = fun _ => 0)

def quiescent_SumGroup [hSumGroup : Cert.SumGroup.Facts] : Prop :=
  ∀ (m : (ℓ : Loc Cert.SumGroup.nD Cert.SumGroup.τ Cert.SumGroup.sig) → Buf (Elt Bits) ℓ) (g : Dev Cert.SumGroup.nD → PrngReg), Pre_SumGroup m →
    θ_run (Cert.SumGroup.defs (F := Bits)) (onTc (τ := Cert.SumGroup.τ) (Cert.SumGroup.main (F := Bits))) ⟨m, fun _ => 0, g⟩ (fun r => (∀ c : Dev Cert.SumGroup.nD,
      r.2.mem ((c.tc : Thread Cert.SumGroup.nD Cert.SumGroup.τ).loc Cert.SumGroup.main_arg0) = m ((c.tc : Thread Cert.SumGroup.nD Cert.SumGroup.τ).loc Cert.SumGroup.main_arg0))
      ∧ r.2.sem = fun _ => 0)

def quiescent_SumGroupIdeal [hSumGroupIdeal : Cert.SumGroupIdeal.Facts] : Prop :=
  ∀ (m : (ℓ : Loc Cert.SumGroupIdeal.nD Cert.SumGroupIdeal.τ Cert.SumGroupIdeal.sig) → Buf (Elt Ideal) ℓ) (g : Dev Cert.SumGroupIdeal.nD → PrngReg), Pre_SumGroupIdeal m →
    θ_run (Cert.SumGroupIdeal.defs (F := Ideal)) (onTc (τ := Cert.SumGroupIdeal.τ) (Cert.SumGroupIdeal.main (F := Ideal))) ⟨m, fun _ => 0, g⟩ (fun r => (∀ c : Dev Cert.SumGroupIdeal.nD,
      r.2.mem ((c.tc : Thread Cert.SumGroupIdeal.nD Cert.SumGroupIdeal.τ).loc Cert.SumGroupIdeal.main_arg0) = m ((c.tc : Thread Cert.SumGroupIdeal.nD Cert.SumGroupIdeal.τ).loc Cert.SumGroupIdeal.main_arg0))
      ∧ r.2.sem = fun _ => 0)

def quiescent_SumGroupRefIdeal [hSumGroupRefIdeal : Cert.SumGroupRefIdeal.Facts] : Prop :=
  ∀ (m : (ℓ : Loc Cert.SumGroupRefIdeal.nD Cert.SumGroupRefIdeal.τ Cert.SumGroupRefIdeal.sig) → Buf (Elt Ideal) ℓ) (g : Dev Cert.SumGroupRefIdeal.nD → PrngReg), Pre_SumGroupRefIdeal m →
    θ_run (Cert.SumGroupRefIdeal.defs (F := Ideal)) (onTc (τ := Cert.SumGroupRefIdeal.τ) (Cert.SumGroupRefIdeal.main (F := Ideal))) ⟨m, fun _ => 0, g⟩ (fun r => (∀ c : Dev Cert.SumGroupRefIdeal.nD,
      r.2.mem ((c.tc : Thread Cert.SumGroupRefIdeal.nD Cert.SumGroupRefIdeal.τ).loc Cert.SumGroupRefIdeal.main_arg0) = m ((c.tc : Thread Cert.SumGroupRefIdeal.nD Cert.SumGroupRefIdeal.τ).loc Cert.SumGroupRefIdeal.main_arg0))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamPoolIn [hAdamPoolIn : Cert.AdamPoolIn.Facts] : Prop :=
  ∀ (m : (ℓ : Loc Cert.AdamPoolIn.nD Cert.AdamPoolIn.τ Cert.AdamPoolIn.sig) → Buf (Elt Bits) ℓ) (g : Dev Cert.AdamPoolIn.nD → PrngReg), Pre_AdamPoolIn m →
    θ_run (Cert.AdamPoolIn.defs (F := Bits)) (onTc (τ := Cert.AdamPoolIn.τ) (Cert.AdamPoolIn.main (F := Bits))) ⟨m, fun _ => 0, g⟩ (fun r => (∀ c : Dev Cert.AdamPoolIn.nD,
      r.2.mem ((c.tc : Thread Cert.AdamPoolIn.nD Cert.AdamPoolIn.τ).loc Cert.AdamPoolIn.main_arg0) = m ((c.tc : Thread Cert.AdamPoolIn.nD Cert.AdamPoolIn.τ).loc Cert.AdamPoolIn.main_arg0)
      ∧ r.2.mem ((c.tc : Thread Cert.AdamPoolIn.nD Cert.AdamPoolIn.τ).loc Cert.AdamPoolIn.main_arg1) = m ((c.tc : Thread Cert.AdamPoolIn.nD Cert.AdamPoolIn.τ).loc Cert.AdamPoolIn.main_arg1)
      ∧ r.2.mem ((c.tc : Thread Cert.AdamPoolIn.nD Cert.AdamPoolIn.τ).loc Cert.AdamPoolIn.main_arg2) = m ((c.tc : Thread Cert.AdamPoolIn.nD Cert.AdamPoolIn.τ).loc Cert.AdamPoolIn.main_arg2)
      ∧ r.2.mem ((c.tc : Thread Cert.AdamPoolIn.nD Cert.AdamPoolIn.τ).loc Cert.AdamPoolIn.main_arg3) = m ((c.tc : Thread Cert.AdamPoolIn.nD Cert.AdamPoolIn.τ).loc Cert.AdamPoolIn.main_arg3))
      ∧ r.2.sem = fun _ => 0)

def quiescent_AdamPoolInIdeal [hAdamPoolInIdeal : Cert.AdamPoolInIdeal.Facts] : Prop :=
  ∀ (m : (ℓ : Loc Cert.AdamPoolInIdeal.nD Cert.AdamPoolInIdeal.τ Cert.AdamPoolInIdeal.sig) → Buf (Elt Ideal) ℓ) (g : Dev Cert.AdamPoolInIdeal.nD → PrngReg), Pre_AdamPoolInIdeal m →
    θ_run (Cert.AdamPoolInIdeal.defs (F := Ideal)) (onTc (τ := Cert.AdamPoolInIdeal.τ) (Cert.AdamPoolInIdeal.main (F := Ideal))) ⟨m, fun _ => 0, g⟩ (fun r => (∀ c : Dev Cert.AdamPoolInIdeal.nD,
      r.2.mem ((c.tc : Thread Cert.AdamPoolInIdeal.nD Cert.AdamPoolInIdeal.τ).loc Cert.AdamPoolInIdeal.main_arg0) = m ((c.tc : Thread Cert.AdamPoolInIdeal.nD Cert.AdamPoolInIdeal.τ).loc Cert.AdamPoolInIdeal.main_arg0)
      ∧ r.2.mem ((c.tc : Thread Cert.AdamPoolInIdeal.nD Cert.AdamPoolInIdeal.τ).loc Cert.AdamPoolInIdeal.main_arg1) = m ((c.tc : Thread Cert.AdamPoolInIdeal.nD Cert.AdamPoolInIdeal.τ).loc Cert.AdamPoolInIdeal.main_arg1)
      ∧ r.2.mem ((c.tc : Thread Cert.AdamPoolInIdeal.nD Cert.AdamPoolInIdeal.τ).loc Cert.AdamPoolInIdeal.main_arg2) = m ((c.tc : Thread Cert.AdamPoolInIdeal.nD Cert.AdamPoolInIdeal.τ).loc Cert.AdamPoolInIdeal.main_arg2)
      ∧ r.2.mem ((c.tc : Thread Cert.AdamPoolInIdeal.nD Cert.AdamPoolInIdeal.τ).loc Cert.AdamPoolInIdeal.main_arg3) = m ((c.tc : Thread Cert.AdamPoolInIdeal.nD Cert.AdamPoolInIdeal.τ).loc Cert.AdamPoolInIdeal.main_arg3))
      ∧ r.2.sem = fun _ => 0)

def quiescent_AdamPoolInRefIdeal [hAdamPoolInRefIdeal : Cert.AdamPoolInRefIdeal.Facts] : Prop :=
  ∀ (m : (ℓ : Loc Cert.AdamPoolInRefIdeal.nD Cert.AdamPoolInRefIdeal.τ Cert.AdamPoolInRefIdeal.sig) → Buf (Elt Ideal) ℓ) (g : Dev Cert.AdamPoolInRefIdeal.nD → PrngReg), Pre_AdamPoolInRefIdeal m →
    θ_run (Cert.AdamPoolInRefIdeal.defs (F := Ideal)) (onTc (τ := Cert.AdamPoolInRefIdeal.τ) (Cert.AdamPoolInRefIdeal.main (F := Ideal))) ⟨m, fun _ => 0, g⟩ (fun r => (∀ c : Dev Cert.AdamPoolInRefIdeal.nD,
      r.2.mem ((c.tc : Thread Cert.AdamPoolInRefIdeal.nD Cert.AdamPoolInRefIdeal.τ).loc Cert.AdamPoolInRefIdeal.main_arg0) = m ((c.tc : Thread Cert.AdamPoolInRefIdeal.nD Cert.AdamPoolInRefIdeal.τ).loc Cert.AdamPoolInRefIdeal.main_arg0)
      ∧ r.2.mem ((c.tc : Thread Cert.AdamPoolInRefIdeal.nD Cert.AdamPoolInRefIdeal.τ).loc Cert.AdamPoolInRefIdeal.main_arg1) = m ((c.tc : Thread Cert.AdamPoolInRefIdeal.nD Cert.AdamPoolInRefIdeal.τ).loc Cert.AdamPoolInRefIdeal.main_arg1)
      ∧ r.2.mem ((c.tc : Thread Cert.AdamPoolInRefIdeal.nD Cert.AdamPoolInRefIdeal.τ).loc Cert.AdamPoolInRefIdeal.main_arg2) = m ((c.tc : Thread Cert.AdamPoolInRefIdeal.nD Cert.AdamPoolInRefIdeal.τ).loc Cert.AdamPoolInRefIdeal.main_arg2)
      ∧ r.2.mem ((c.tc : Thread Cert.AdamPoolInRefIdeal.nD Cert.AdamPoolInRefIdeal.τ).loc Cert.AdamPoolInRefIdeal.main_arg3) = m ((c.tc : Thread Cert.AdamPoolInRefIdeal.nD Cert.AdamPoolInRefIdeal.τ).loc Cert.AdamPoolInRefIdeal.main_arg3))
      ∧ r.2.sem = fun _ => 0)

def quiescent_AdamGroup [hAdamGroup : Cert.AdamGroup.Facts] : Prop :=
  ∀ (m : (ℓ : Loc Cert.AdamGroup.nD Cert.AdamGroup.τ Cert.AdamGroup.sig) → Buf (Elt Bits) ℓ) (g : Dev Cert.AdamGroup.nD → PrngReg), Pre_AdamGroup m →
    θ_run (Cert.AdamGroup.defs (F := Bits)) (onTc (τ := Cert.AdamGroup.τ) (Cert.AdamGroup.main (F := Bits))) ⟨m, fun _ => 0, g⟩ (fun r => (∀ c : Dev Cert.AdamGroup.nD,
      r.2.mem ((c.tc : Thread Cert.AdamGroup.nD Cert.AdamGroup.τ).loc Cert.AdamGroup.main_arg0) = m ((c.tc : Thread Cert.AdamGroup.nD Cert.AdamGroup.τ).loc Cert.AdamGroup.main_arg0)
      ∧ r.2.mem ((c.tc : Thread Cert.AdamGroup.nD Cert.AdamGroup.τ).loc Cert.AdamGroup.main_arg1) = m ((c.tc : Thread Cert.AdamGroup.nD Cert.AdamGroup.τ).loc Cert.AdamGroup.main_arg1)
      ∧ r.2.mem ((c.tc : Thread Cert.AdamGroup.nD Cert.AdamGroup.τ).loc Cert.AdamGroup.main_arg2) = m ((c.tc : Thread Cert.AdamGroup.nD Cert.AdamGroup.τ).loc Cert.AdamGroup.main_arg2)
      ∧ r.2.mem ((c.tc : Thread Cert.AdamGroup.nD Cert.AdamGroup.τ).loc Cert.AdamGroup.main_arg3) = m ((c.tc : Thread Cert.AdamGroup.nD Cert.AdamGroup.τ).loc Cert.AdamGroup.main_arg3))
      ∧ r.2.sem = fun _ => 0)

def quiescent_AdamGroupIdeal [hAdamGroupIdeal : Cert.AdamGroupIdeal.Facts] : Prop :=
  ∀ (m : (ℓ : Loc Cert.AdamGroupIdeal.nD Cert.AdamGroupIdeal.τ Cert.AdamGroupIdeal.sig) → Buf (Elt Ideal) ℓ) (g : Dev Cert.AdamGroupIdeal.nD → PrngReg), Pre_AdamGroupIdeal m →
    θ_run (Cert.AdamGroupIdeal.defs (F := Ideal)) (onTc (τ := Cert.AdamGroupIdeal.τ) (Cert.AdamGroupIdeal.main (F := Ideal))) ⟨m, fun _ => 0, g⟩ (fun r => (∀ c : Dev Cert.AdamGroupIdeal.nD,
      r.2.mem ((c.tc : Thread Cert.AdamGroupIdeal.nD Cert.AdamGroupIdeal.τ).loc Cert.AdamGroupIdeal.main_arg0) = m ((c.tc : Thread Cert.AdamGroupIdeal.nD Cert.AdamGroupIdeal.τ).loc Cert.AdamGroupIdeal.main_arg0)
      ∧ r.2.mem ((c.tc : Thread Cert.AdamGroupIdeal.nD Cert.AdamGroupIdeal.τ).loc Cert.AdamGroupIdeal.main_arg1) = m ((c.tc : Thread Cert.AdamGroupIdeal.nD Cert.AdamGroupIdeal.τ).loc Cert.AdamGroupIdeal.main_arg1)
      ∧ r.2.mem ((c.tc : Thread Cert.AdamGroupIdeal.nD Cert.AdamGroupIdeal.τ).loc Cert.AdamGroupIdeal.main_arg2) = m ((c.tc : Thread Cert.AdamGroupIdeal.nD Cert.AdamGroupIdeal.τ).loc Cert.AdamGroupIdeal.main_arg2)
      ∧ r.2.mem ((c.tc : Thread Cert.AdamGroupIdeal.nD Cert.AdamGroupIdeal.τ).loc Cert.AdamGroupIdeal.main_arg3) = m ((c.tc : Thread Cert.AdamGroupIdeal.nD Cert.AdamGroupIdeal.τ).loc Cert.AdamGroupIdeal.main_arg3))
      ∧ r.2.sem = fun _ => 0)

def quiescent_AdamGroupRefIdeal [hAdamGroupRefIdeal : Cert.AdamGroupRefIdeal.Facts] : Prop :=
  ∀ (m : (ℓ : Loc Cert.AdamGroupRefIdeal.nD Cert.AdamGroupRefIdeal.τ Cert.AdamGroupRefIdeal.sig) → Buf (Elt Ideal) ℓ) (g : Dev Cert.AdamGroupRefIdeal.nD → PrngReg), Pre_AdamGroupRefIdeal m →
    θ_run (Cert.AdamGroupRefIdeal.defs (F := Ideal)) (onTc (τ := Cert.AdamGroupRefIdeal.τ) (Cert.AdamGroupRefIdeal.main (F := Ideal))) ⟨m, fun _ => 0, g⟩ (fun r => (∀ c : Dev Cert.AdamGroupRefIdeal.nD,
      r.2.mem ((c.tc : Thread Cert.AdamGroupRefIdeal.nD Cert.AdamGroupRefIdeal.τ).loc Cert.AdamGroupRefIdeal.main_arg0) = m ((c.tc : Thread Cert.AdamGroupRefIdeal.nD Cert.AdamGroupRefIdeal.τ).loc Cert.AdamGroupRefIdeal.main_arg0)
      ∧ r.2.mem ((c.tc : Thread Cert.AdamGroupRefIdeal.nD Cert.AdamGroupRefIdeal.τ).loc Cert.AdamGroupRefIdeal.main_arg1) = m ((c.tc : Thread Cert.AdamGroupRefIdeal.nD Cert.AdamGroupRefIdeal.τ).loc Cert.AdamGroupRefIdeal.main_arg1)
      ∧ r.2.mem ((c.tc : Thread Cert.AdamGroupRefIdeal.nD Cert.AdamGroupRefIdeal.τ).loc Cert.AdamGroupRefIdeal.main_arg2) = m ((c.tc : Thread Cert.AdamGroupRefIdeal.nD Cert.AdamGroupRefIdeal.τ).loc Cert.AdamGroupRefIdeal.main_arg2)
      ∧ r.2.mem ((c.tc : Thread Cert.AdamGroupRefIdeal.nD Cert.AdamGroupRefIdeal.τ).loc Cert.AdamGroupRefIdeal.main_arg3) = m ((c.tc : Thread Cert.AdamGroupRefIdeal.nD Cert.AdamGroupRefIdeal.τ).loc Cert.AdamGroupRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35))
      ∧ r.2.sem = fun _ => 0)

def preserves_SsmOut_SsmOutIdeal : Prop :=
  True

def algebraic_SsmOutIdeal_SsmOutRefIdeal [hSsmOutIdeal : Cert.SsmOutIdeal.Facts] [hSsmOutRefIdeal : Cert.SsmOutRefIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutRefIdeal.nD Cert.SsmOutRefIdeal.τ Cert.SsmOutRefIdeal.sig) → Buf (Elt Ideal) ℓ) (g' : Dev Cert.SsmOutRefIdeal.nD → PrngReg), Pre_SsmOutIdeal m →
    (∀ c : Dev Cert.SsmOutIdeal.nD,
      m' ((c.tc : Thread Cert.SsmOutRefIdeal.nD Cert.SsmOutRefIdeal.τ).loc Cert.SsmOutRefIdeal.main_arg0) = m ((c.tc : Thread Cert.SsmOutIdeal.nD Cert.SsmOutIdeal.τ).loc Cert.SsmOutIdeal.main_arg0)
      ∧ m' ((c.tc : Thread Cert.SsmOutRefIdeal.nD Cert.SsmOutRefIdeal.τ).loc Cert.SsmOutRefIdeal.main_arg1) = m ((c.tc : Thread Cert.SsmOutIdeal.nD Cert.SsmOutIdeal.τ).loc Cert.SsmOutIdeal.main_arg1)) →
    ∃ (v0 : (c : Dev Cert.SsmOutIdeal.nD) → Buf (Elt Ideal) ((c.tc : Thread Cert.SsmOutIdeal.nD Cert.SsmOutIdeal.τ).loc Cert.SsmOutIdeal.main_v0)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v0) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ θ_run (Cert.SsmOutRefIdeal.defs (F := Ideal)) (onTc (τ := Cert.SsmOutRefIdeal.τ) (Cert.SsmOutRefIdeal.main (F := Ideal))) ⟨m', fun _ => 0, g'⟩ (fun r => ∀ c : Dev Cert.SsmOutRefIdeal.nD,
          r.2.mem ((c.tc : Thread Cert.SsmOutRefIdeal.nD Cert.SsmOutRefIdeal.τ).loc Cert.SsmOutRefIdeal.main_v4) = v0 c
          ∧ r.2.mem ((c.tc : Thread Cert.SsmOutRefIdeal.nD Cert.SsmOutRefIdeal.τ).loc Cert.SsmOutRefIdeal.main_arg0) = m' ((c.tc : Thread Cert.SsmOutRefIdeal.nD Cert.SsmOutRefIdeal.τ).loc Cert.SsmOutRefIdeal.main_arg0)
          ∧ r.2.mem ((c.tc : Thread Cert.SsmOutRefIdeal.nD Cert.SsmOutRefIdeal.τ).loc Cert.SsmOutRefIdeal.main_arg1) = m' ((c.tc : Thread Cert.SsmOutRefIdeal.nD Cert.SsmOutRefIdeal.τ).loc Cert.SsmOutRefIdeal.main_arg1))

def preserves_Group_GroupIdeal : Prop :=
  True

def algebraic_GroupIdeal_GroupRefIdeal [hGroupIdeal : Cert.GroupIdeal.Facts] [hGroupRefIdeal : Cert.GroupRefIdeal.Facts] : Prop :=
  ∀ (m : (ℓ : Loc Cert.GroupIdeal.nD Cert.GroupIdeal.τ Cert.GroupIdeal.sig) → Buf (Elt Ideal) ℓ) (g : Dev Cert.GroupIdeal.nD → PrngReg)
    (m' : (ℓ : Loc Cert.GroupRefIdeal.nD Cert.GroupRefIdeal.τ Cert.GroupRefIdeal.sig) → Buf (Elt Ideal) ℓ) (g' : Dev Cert.GroupRefIdeal.nD → PrngReg), Pre_GroupIdeal m →
    (∀ c : Dev Cert.GroupIdeal.nD,
      m' ((c.tc : Thread Cert.GroupRefIdeal.nD Cert.GroupRefIdeal.τ).loc Cert.GroupRefIdeal.main_arg0) = m ((c.tc : Thread Cert.GroupIdeal.nD Cert.GroupIdeal.τ).loc Cert.GroupIdeal.main_arg0)
      ∧ m' ((c.tc : Thread Cert.GroupRefIdeal.nD Cert.GroupRefIdeal.τ).loc Cert.GroupRefIdeal.main_arg1) = m ((c.tc : Thread Cert.GroupIdeal.nD Cert.GroupIdeal.τ).loc Cert.GroupIdeal.main_arg1)) →
    ∃ (v0 : (c : Dev Cert.GroupIdeal.nD) → Buf (Elt Ideal) ((c.tc : Thread Cert.GroupIdeal.nD Cert.GroupIdeal.τ).loc Cert.GroupIdeal.main_v0)),
      θ_run (Cert.GroupIdeal.defs (F := Ideal)) (onTc (τ := Cert.GroupIdeal.τ) (Cert.GroupIdeal.main (F := Ideal))) ⟨m, fun _ => 0, g⟩ (fun r => ∀ c : Dev Cert.GroupIdeal.nD,
          r.2.mem ((c.tc : Thread Cert.GroupIdeal.nD Cert.GroupIdeal.τ).loc Cert.GroupIdeal.main_v0) = v0 c
          ∧ r.2.mem ((c.tc : Thread Cert.GroupIdeal.nD Cert.GroupIdeal.τ).loc Cert.GroupIdeal.main_arg0) = m ((c.tc : Thread Cert.GroupIdeal.nD Cert.GroupIdeal.τ).loc Cert.GroupIdeal.main_arg0)
          ∧ r.2.mem ((c.tc : Thread Cert.GroupIdeal.nD Cert.GroupIdeal.τ).loc Cert.GroupIdeal.main_arg1) = m ((c.tc : Thread Cert.GroupIdeal.nD Cert.GroupIdeal.τ).loc Cert.GroupIdeal.main_arg1))
      ∧ θ_run (Cert.GroupRefIdeal.defs (F := Ideal)) (onTc (τ := Cert.GroupRefIdeal.τ) (Cert.GroupRefIdeal.main (F := Ideal))) ⟨m', fun _ => 0, g'⟩ (fun r => ∀ c : Dev Cert.GroupRefIdeal.nD,
          r.2.mem ((c.tc : Thread Cert.GroupRefIdeal.nD Cert.GroupRefIdeal.τ).loc Cert.GroupRefIdeal.main_v11) = v0 c
          ∧ r.2.mem ((c.tc : Thread Cert.GroupRefIdeal.nD Cert.GroupRefIdeal.τ).loc Cert.GroupRefIdeal.main_arg0) = m' ((c.tc : Thread Cert.GroupRefIdeal.nD Cert.GroupRefIdeal.τ).loc Cert.GroupRefIdeal.main_arg0)
          ∧ r.2.mem ((c.tc : Thread Cert.GroupRefIdeal.nD Cert.GroupRefIdeal.τ).loc Cert.GroupRefIdeal.main_arg1) = m' ((c.tc : Thread Cert.GroupRefIdeal.nD Cert.GroupRefIdeal.τ).loc Cert.GroupRefIdeal.main_arg1))

def preserves_PoolIn_PoolInIdeal : Prop :=
  True

def algebraic_PoolInIdeal_PoolInRefIdeal [hPoolInIdeal : Cert.PoolInIdeal.Facts] [hPoolInRefIdeal : Cert.PoolInRefIdeal.Facts] : Prop :=
  ∀ (m : (ℓ : Loc Cert.PoolInIdeal.nD Cert.PoolInIdeal.τ Cert.PoolInIdeal.sig) → Buf (Elt Ideal) ℓ) (g : Dev Cert.PoolInIdeal.nD → PrngReg)
    (m' : (ℓ : Loc Cert.PoolInRefIdeal.nD Cert.PoolInRefIdeal.τ Cert.PoolInRefIdeal.sig) → Buf (Elt Ideal) ℓ) (g' : Dev Cert.PoolInRefIdeal.nD → PrngReg), Pre_PoolInIdeal m →
    (∀ c : Dev Cert.PoolInIdeal.nD,
      m' ((c.tc : Thread Cert.PoolInRefIdeal.nD Cert.PoolInRefIdeal.τ).loc Cert.PoolInRefIdeal.main_arg0) = m ((c.tc : Thread Cert.PoolInIdeal.nD Cert.PoolInIdeal.τ).loc Cert.PoolInIdeal.main_arg0)
      ∧ m' ((c.tc : Thread Cert.PoolInRefIdeal.nD Cert.PoolInRefIdeal.τ).loc Cert.PoolInRefIdeal.main_arg1) = m ((c.tc : Thread Cert.PoolInIdeal.nD Cert.PoolInIdeal.τ).loc Cert.PoolInIdeal.main_arg1)) →
    ∃ (v0 : (c : Dev Cert.PoolInIdeal.nD) → Buf (Elt Ideal) ((c.tc : Thread Cert.PoolInIdeal.nD Cert.PoolInIdeal.τ).loc Cert.PoolInIdeal.main_v0)),
      θ_run (Cert.PoolInIdeal.defs (F := Ideal)) (onTc (τ := Cert.PoolInIdeal.τ) (Cert.PoolInIdeal.main (F := Ideal))) ⟨m, fun _ => 0, g⟩ (fun r => ∀ c : Dev Cert.PoolInIdeal.nD,
          r.2.mem ((c.tc : Thread Cert.PoolInIdeal.nD Cert.PoolInIdeal.τ).loc Cert.PoolInIdeal.main_v0) = v0 c
          ∧ r.2.mem ((c.tc : Thread Cert.PoolInIdeal.nD Cert.PoolInIdeal.τ).loc Cert.PoolInIdeal.main_arg0) = m ((c.tc : Thread Cert.PoolInIdeal.nD Cert.PoolInIdeal.τ).loc Cert.PoolInIdeal.main_arg0)
          ∧ r.2.mem ((c.tc : Thread Cert.PoolInIdeal.nD Cert.PoolInIdeal.τ).loc Cert.PoolInIdeal.main_arg1) = m ((c.tc : Thread Cert.PoolInIdeal.nD Cert.PoolInIdeal.τ).loc Cert.PoolInIdeal.main_arg1))
      ∧ θ_run (Cert.PoolInRefIdeal.defs (F := Ideal)) (onTc (τ := Cert.PoolInRefIdeal.τ) (Cert.PoolInRefIdeal.main (F := Ideal))) ⟨m', fun _ => 0, g'⟩ (fun r => ∀ c : Dev Cert.PoolInRefIdeal.nD,
          r.2.mem ((c.tc : Thread Cert.PoolInRefIdeal.nD Cert.PoolInRefIdeal.τ).loc Cert.PoolInRefIdeal.main_v6) = v0 c
          ∧ r.2.mem ((c.tc : Thread Cert.PoolInRefIdeal.nD Cert.PoolInRefIdeal.τ).loc Cert.PoolInRefIdeal.main_arg0) = m' ((c.tc : Thread Cert.PoolInRefIdeal.nD Cert.PoolInRefIdeal.τ).loc Cert.PoolInRefIdeal.main_arg0)
          ∧ r.2.mem ((c.tc : Thread Cert.PoolInRefIdeal.nD Cert.PoolInRefIdeal.τ).loc Cert.PoolInRefIdeal.main_arg1) = m' ((c.tc : Thread Cert.PoolInRefIdeal.nD Cert.PoolInRefIdeal.τ).loc Cert.PoolInRefIdeal.main_arg1))

def preserves_InDt_InDtIdeal : Prop :=
  True

def algebraic_InDtIdeal_InDtRefIdeal [hInDtIdeal : Cert.InDtIdeal.Facts] [hInDtRefIdeal : Cert.InDtRefIdeal.Facts] : Prop :=
  ∀ (m : (ℓ : Loc Cert.InDtIdeal.nD Cert.InDtIdeal.τ Cert.InDtIdeal.sig) → Buf (Elt Ideal) ℓ) (g : Dev Cert.InDtIdeal.nD → PrngReg)
    (m' : (ℓ : Loc Cert.InDtRefIdeal.nD Cert.InDtRefIdeal.τ Cert.InDtRefIdeal.sig) → Buf (Elt Ideal) ℓ) (g' : Dev Cert.InDtRefIdeal.nD → PrngReg), Pre_InDtIdeal m →
    (∀ c : Dev Cert.InDtIdeal.nD,
      m' ((c.tc : Thread Cert.InDtRefIdeal.nD Cert.InDtRefIdeal.τ).loc Cert.InDtRefIdeal.main_arg0) = m ((c.tc : Thread Cert.InDtIdeal.nD Cert.InDtIdeal.τ).loc Cert.InDtIdeal.main_arg0)
      ∧ m' ((c.tc : Thread Cert.InDtRefIdeal.nD Cert.InDtRefIdeal.τ).loc Cert.InDtRefIdeal.main_arg1) = m ((c.tc : Thread Cert.InDtIdeal.nD Cert.InDtIdeal.τ).loc Cert.InDtIdeal.main_arg1)) →
    ∃ (v0 : (c : Dev Cert.InDtIdeal.nD) → Buf (Elt Ideal) ((c.tc : Thread Cert.InDtIdeal.nD Cert.InDtIdeal.τ).loc Cert.InDtIdeal.main_v0)),
      θ_run (Cert.InDtIdeal.defs (F := Ideal)) (onTc (τ := Cert.InDtIdeal.τ) (Cert.InDtIdeal.main (F := Ideal))) ⟨m, fun _ => 0, g⟩ (fun r => ∀ c : Dev Cert.InDtIdeal.nD,
          r.2.mem ((c.tc : Thread Cert.InDtIdeal.nD Cert.InDtIdeal.τ).loc Cert.InDtIdeal.main_v0) = v0 c
          ∧ r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
          ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1))
      ∧ θ_run (Cert.InDtRefIdeal.defs (F := Ideal)) (onTc (τ := Cert.InDtRefIdeal.τ) (Cert.InDtRefIdeal.main (F := Ideal))) ⟨m', fun _ => 0, g'⟩ (fun r => ∀ c : Dev Cert.InDtRefIdeal.nD,
          r.2.mem ((c.tc : Thread Cert.InDtRefIdeal.nD Cert.InDtRefIdeal.τ).loc Cert.InDtRefIdeal.main_v11) = v0 c
          ∧ r.2.mem ((c.tc : Thread Cert.InDtRefIdeal.nD Cert.InDtRefIdeal.τ).loc Cert.InDtRefIdeal.main_arg0) = m' ((c.tc : Thread Cert.InDtRefIdeal.nD Cert.InDtRefIdeal.τ).loc Cert.InDtRefIdeal.main_arg0)
          ∧ r.2.mem ((c.tc : Thread Cert.InDtRefIdeal.nD Cert.InDtRefIdeal.τ).loc Cert.InDtRefIdeal.main_arg1) = m' ((c.tc : Thread Cert.InDtRefIdeal.nD Cert.InDtRefIdeal.τ).loc Cert.InDtRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v7) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_WPoolIn_WPoolInIdeal : Prop :=
  True

def algebraic_WPoolInIdeal_WPoolInRefIdeal [hWPoolInIdeal : Cert.WPoolInIdeal.Facts] [hWPoolInRefIdeal : Cert.WPoolInRefIdeal.Facts] : Prop :=
  ∀ (m : (ℓ : Loc Cert.WPoolInIdeal.nD Cert.WPoolInIdeal.τ Cert.WPoolInIdeal.sig) → Buf (Elt Ideal) ℓ) (g : Dev Cert.WPoolInIdeal.nD → PrngReg)
    (m' : (ℓ : Loc Cert.WPoolInRefIdeal.nD Cert.WPoolInRefIdeal.τ Cert.WPoolInRefIdeal.sig) → Buf (Elt Ideal) ℓ) (g' : Dev Cert.WPoolInRefIdeal.nD → PrngReg), Pre_WPoolInIdeal m →
    (∀ c : Dev Cert.WPoolInIdeal.nD,
      m' ((c.tc : Thread Cert.WPoolInRefIdeal.nD Cert.WPoolInRefIdeal.τ).loc Cert.WPoolInRefIdeal.main_arg0) = m ((c.tc : Thread Cert.WPoolInIdeal.nD Cert.WPoolInIdeal.τ).loc Cert.WPoolInIdeal.main_arg0)
      ∧ m' ((c.tc : Thread Cert.WPoolInRefIdeal.nD Cert.WPoolInRefIdeal.τ).loc Cert.WPoolInRefIdeal.main_arg1) = m ((c.tc : Thread Cert.WPoolInIdeal.nD Cert.WPoolInIdeal.τ).loc Cert.WPoolInIdeal.main_arg1)) →
    ∃ (v0 : (c : Dev Cert.WPoolInIdeal.nD) → Buf (Elt Ideal) ((c.tc : Thread Cert.WPoolInIdeal.nD Cert.WPoolInIdeal.τ).loc Cert.WPoolInIdeal.main_v0)),
      θ_run (Cert.WPoolInIdeal.defs (F := Ideal)) (onTc (τ := Cert.WPoolInIdeal.τ) (Cert.WPoolInIdeal.main (F := Ideal))) ⟨m, fun _ => 0, g⟩ (fun r => ∀ c : Dev Cert.WPoolInIdeal.nD,
          r.2.mem ((c.tc : Thread Cert.WPoolInIdeal.nD Cert.WPoolInIdeal.τ).loc Cert.WPoolInIdeal.main_v0) = v0 c
          ∧ r.2.mem ((c.tc : Thread Cert.WPoolInIdeal.nD Cert.WPoolInIdeal.τ).loc Cert.WPoolInIdeal.main_arg0) = m ((c.tc : Thread Cert.WPoolInIdeal.nD Cert.WPoolInIdeal.τ).loc Cert.WPoolInIdeal.main_arg0)
          ∧ r.2.mem ((c.tc : Thread Cert.WPoolInIdeal.nD Cert.WPoolInIdeal.τ).loc Cert.WPoolInIdeal.main_arg1) = m ((c.tc : Thread Cert.WPoolInIdeal.nD Cert.WPoolInIdeal.τ).loc Cert.WPoolInIdeal.main_arg1))
      ∧ θ_run (Cert.WPoolInRefIdeal.defs (F := Ideal)) (onTc (τ := Cert.WPoolInRefIdeal.τ) (Cert.WPoolInRefIdeal.main (F := Ideal))) ⟨m', fun _ => 0, g'⟩ (fun r => ∀ c : Dev Cert.WPoolInRefIdeal.nD,
          r.2.mem ((c.tc : Thread Cert.WPoolInRefIdeal.nD Cert.WPoolInRefIdeal.τ).loc Cert.WPoolInRefIdeal.main_v8) = v0 c
          ∧ r.2.mem ((c.tc : Thread Cert.WPoolInRefIdeal.nD Cert.WPoolInRefIdeal.τ).loc Cert.WPoolInRefIdeal.main_arg0) = m' ((c.tc : Thread Cert.WPoolInRefIdeal.nD Cert.WPoolInRefIdeal.τ).loc Cert.WPoolInRefIdeal.main_arg0)
          ∧ r.2.mem ((c.tc : Thread Cert.WPoolInRefIdeal.nD Cert.WPoolInRefIdeal.τ).loc Cert.WPoolInRefIdeal.main_arg1) = m' ((c.tc : Thread Cert.WPoolInRefIdeal.nD Cert.WPoolInRefIdeal.τ).loc Cert.WPoolInRefIdeal.main_arg1))

def preserves_WGroup_WGroupIdeal : Prop :=
  True

def algebraic_WGroupIdeal_WGroupRefIdeal [hWGroupIdeal : Cert.WGroupIdeal.Facts] [hWGroupRefIdeal : Cert.WGroupRefIdeal.Facts] : Prop :=
  ∀ (m : (ℓ : Loc Cert.WGroupIdeal.nD Cert.WGroupIdeal.τ Cert.WGroupIdeal.sig) → Buf (Elt Ideal) ℓ) (g : Dev Cert.WGroupIdeal.nD → PrngReg)
    (m' : (ℓ : Loc Cert.WGroupRefIdeal.nD Cert.WGroupRefIdeal.τ Cert.WGroupRefIdeal.sig) → Buf (Elt Ideal) ℓ) (g' : Dev Cert.WGroupRefIdeal.nD → PrngReg), Pre_WGroupIdeal m →
    (∀ c : Dev Cert.WGroupIdeal.nD,
      m' ((c.tc : Thread Cert.WGroupRefIdeal.nD Cert.WGroupRefIdeal.τ).loc Cert.WGroupRefIdeal.main_arg0) = m ((c.tc : Thread Cert.WGroupIdeal.nD Cert.WGroupIdeal.τ).loc Cert.WGroupIdeal.main_arg0)
      ∧ m' ((c.tc : Thread Cert.WGroupRefIdeal.nD Cert.WGroupRefIdeal.τ).loc Cert.WGroupRefIdeal.main_arg1) = m ((c.tc : Thread Cert.WGroupIdeal.nD Cert.WGroupIdeal.τ).loc Cert.WGroupIdeal.main_arg1)) →
    ∃ (v0 : (c : Dev Cert.WGroupIdeal.nD) → Buf (Elt Ideal) ((c.tc : Thread Cert.WGroupIdeal.nD Cert.WGroupIdeal.τ).loc Cert.WGroupIdeal.main_v0)),
      θ_run (Cert.WGroupIdeal.defs (F := Ideal)) (onTc (τ := Cert.WGroupIdeal.τ) (Cert.WGroupIdeal.main (F := Ideal))) ⟨m, fun _ => 0, g⟩ (fun r => ∀ c : Dev Cert.WGroupIdeal.nD,
          r.2.mem ((c.tc : Thread Cert.WGroupIdeal.nD Cert.WGroupIdeal.τ).loc Cert.WGroupIdeal.main_v0) = v0 c
          ∧ r.2.mem ((c.tc : Thread Cert.WGroupIdeal.nD Cert.WGroupIdeal.τ).loc Cert.WGroupIdeal.main_arg0) = m ((c.tc : Thread Cert.WGroupIdeal.nD Cert.WGroupIdeal.τ).loc Cert.WGroupIdeal.main_arg0)
          ∧ r.2.mem ((c.tc : Thread Cert.WGroupIdeal.nD Cert.WGroupIdeal.τ).loc Cert.WGroupIdeal.main_arg1) = m ((c.tc : Thread Cert.WGroupIdeal.nD Cert.WGroupIdeal.τ).loc Cert.WGroupIdeal.main_arg1))
      ∧ θ_run (Cert.WGroupRefIdeal.defs (F := Ideal)) (onTc (τ := Cert.WGroupRefIdeal.τ) (Cert.WGroupRefIdeal.main (F := Ideal))) ⟨m', fun _ => 0, g'⟩ (fun r => ∀ c : Dev Cert.WGroupRefIdeal.nD,
          r.2.mem ((c.tc : Thread Cert.WGroupRefIdeal.nD Cert.WGroupRefIdeal.τ).loc Cert.WGroupRefIdeal.main_v11) = v0 c
          ∧ r.2.mem ((c.tc : Thread Cert.WGroupRefIdeal.nD Cert.WGroupRefIdeal.τ).loc Cert.WGroupRefIdeal.main_arg0) = m' ((c.tc : Thread Cert.WGroupRefIdeal.nD Cert.WGroupRefIdeal.τ).loc Cert.WGroupRefIdeal.main_arg0)
          ∧ r.2.mem ((c.tc : Thread Cert.WGroupRefIdeal.nD Cert.WGroupRefIdeal.τ).loc Cert.WGroupRefIdeal.main_arg1) = m' ((c.tc : Thread Cert.WGroupRefIdeal.nD Cert.WGroupRefIdeal.τ).loc Cert.WGroupRefIdeal.main_arg1))

def preserves_FIn_FInIdeal : Prop :=
  True

def algebraic_FInIdeal_FInRefIdeal [hFInIdeal : Cert.FInIdeal.Facts] [hFInRefIdeal : Cert.FInRefIdeal.Facts] : Prop :=
  ∀ (m : (ℓ : Loc Cert.FInIdeal.nD Cert.FInIdeal.τ Cert.FInIdeal.sig) → Buf (Elt Ideal) ℓ) (g : Dev Cert.FInIdeal.nD → PrngReg)
    (m' : (ℓ : Loc Cert.FInRefIdeal.nD Cert.FInRefIdeal.τ Cert.FInRefIdeal.sig) → Buf (Elt Ideal) ℓ) (g' : Dev Cert.FInRefIdeal.nD → PrngReg), Pre_FInIdeal m →
    (∀ c : Dev Cert.FInIdeal.nD,
      m' ((c.tc : Thread Cert.FInRefIdeal.nD Cert.FInRefIdeal.τ).loc Cert.FInRefIdeal.main_arg0) = m ((c.tc : Thread Cert.FInIdeal.nD Cert.FInIdeal.τ).loc Cert.FInIdeal.main_arg0)
      ∧ m' ((c.tc : Thread Cert.FInRefIdeal.nD Cert.FInRefIdeal.τ).loc Cert.FInRefIdeal.main_arg1) = m ((c.tc : Thread Cert.FInIdeal.nD Cert.FInIdeal.τ).loc Cert.FInIdeal.main_arg1)) →
    ∃ (v0 : (c : Dev Cert.FInIdeal.nD) → Buf (Elt Ideal) ((c.tc : Thread Cert.FInIdeal.nD Cert.FInIdeal.τ).loc Cert.FInIdeal.main_v0)),
      θ_run (Cert.FInIdeal.defs (F := Ideal)) (onTc (τ := Cert.FInIdeal.τ) (Cert.FInIdeal.main (F := Ideal))) ⟨m, fun _ => 0, g⟩ (fun r => ∀ c : Dev Cert.FInIdeal.nD,
          r.2.mem ((c.tc : Thread Cert.FInIdeal.nD Cert.FInIdeal.τ).loc Cert.FInIdeal.main_v0) = v0 c
          ∧ r.2.mem ((c.tc : Thread Cert.FInIdeal.nD Cert.FInIdeal.τ).loc Cert.FInIdeal.main_arg0) = m ((c.tc : Thread Cert.FInIdeal.nD Cert.FInIdeal.τ).loc Cert.FInIdeal.main_arg0)
          ∧ r.2.mem ((c.tc : Thread Cert.FInIdeal.nD Cert.FInIdeal.τ).loc Cert.FInIdeal.main_arg1) = m ((c.tc : Thread Cert.FInIdeal.nD Cert.FInIdeal.τ).loc Cert.FInIdeal.main_arg1))
      ∧ θ_run (Cert.FInRefIdeal.defs (F := Ideal)) (onTc (τ := Cert.FInRefIdeal.τ) (Cert.FInRefIdeal.main (F := Ideal))) ⟨m', fun _ => 0, g'⟩ (fun r => ∀ c : Dev Cert.FInRefIdeal.nD,
          r.2.mem ((c.tc : Thread Cert.FInRefIdeal.nD Cert.FInRefIdeal.τ).loc Cert.FInRefIdeal.main_v10) = v0 c
          ∧ r.2.mem ((c.tc : Thread Cert.FInRefIdeal.nD Cert.FInRefIdeal.τ).loc Cert.FInRefIdeal.main_arg0) = m' ((c.tc : Thread Cert.FInRefIdeal.nD Cert.FInRefIdeal.τ).loc Cert.FInRefIdeal.main_arg0)
          ∧ r.2.mem ((c.tc : Thread Cert.FInRefIdeal.nD Cert.FInRefIdeal.τ).loc Cert.FInRefIdeal.main_arg1) = m' ((c.tc : Thread Cert.FInRefIdeal.nD Cert.FInRefIdeal.τ).loc Cert.FInRefIdeal.main_arg1))

def preserves_FInDt_FInDtIdeal : Prop :=
  True

def algebraic_FInDtIdeal_FInDtRefIdeal [hFInDtIdeal : Cert.FInDtIdeal.Facts] [hFInDtRefIdeal : Cert.FInDtRefIdeal.Facts] : Prop :=
  ∀ (m : (ℓ : Loc Cert.FInDtIdeal.nD Cert.FInDtIdeal.τ Cert.FInDtIdeal.sig) → Buf (Elt Ideal) ℓ) (g : Dev Cert.FInDtIdeal.nD → PrngReg)
    (m' : (ℓ : Loc Cert.FInDtRefIdeal.nD Cert.FInDtRefIdeal.τ Cert.FInDtRefIdeal.sig) → Buf (Elt Ideal) ℓ) (g' : Dev Cert.FInDtRefIdeal.nD → PrngReg), Pre_FInDtIdeal m →
    (∀ c : Dev Cert.FInDtIdeal.nD,
      m' ((c.tc : Thread Cert.FInDtRefIdeal.nD Cert.FInDtRefIdeal.τ).loc Cert.FInDtRefIdeal.main_arg0) = m ((c.tc : Thread Cert.FInDtIdeal.nD Cert.FInDtIdeal.τ).loc Cert.FInDtIdeal.main_arg0)
      ∧ m' ((c.tc : Thread Cert.FInDtRefIdeal.nD Cert.FInDtRefIdeal.τ).loc Cert.FInDtRefIdeal.main_arg1) = m ((c.tc : Thread Cert.FInDtIdeal.nD Cert.FInDtIdeal.τ).loc Cert.FInDtIdeal.main_arg1)) →
    ∃ (v0 : (c : Dev Cert.FInDtIdeal.nD) → Buf (Elt Ideal) ((c.tc : Thread Cert.FInDtIdeal.nD Cert.FInDtIdeal.τ).loc Cert.FInDtIdeal.main_v0)),
      θ_run (Cert.FInDtIdeal.defs (F := Ideal)) (onTc (τ := Cert.FInDtIdeal.τ) (Cert.FInDtIdeal.main (F := Ideal))) ⟨m, fun _ => 0, g⟩ (fun r => ∀ c : Dev Cert.FInDtIdeal.nD,
          r.2.mem ((c.tc : Thread Cert.FInDtIdeal.nD Cert.FInDtIdeal.τ).loc Cert.FInDtIdeal.main_v0) = v0 c
          ∧ r.2.mem ((c.tc : Thread Cert.FInDtIdeal.nD Cert.FInDtIdeal.τ).loc Cert.FInDtIdeal.main_arg0) = m ((c.tc : Thread Cert.FInDtIdeal.nD Cert.FInDtIdeal.τ).loc Cert.FInDtIdeal.main_arg0)
          ∧ r.2.mem ((c.tc : Thread Cert.FInDtIdeal.nD Cert.FInDtIdeal.τ).loc Cert.FInDtIdeal.main_arg1) = m ((c.tc : Thread Cert.FInDtIdeal.nD Cert.FInDtIdeal.τ).loc Cert.FInDtIdeal.main_arg1))
      ∧ θ_run (Cert.FInDtRefIdeal.defs (F := Ideal)) (onTc (τ := Cert.FInDtRefIdeal.τ) (Cert.FInDtRefIdeal.main (F := Ideal))) ⟨m', fun _ => 0, g'⟩ (fun r => ∀ c : Dev Cert.FInDtRefIdeal.nD,
          r.2.mem ((c.tc : Thread Cert.FInDtRefIdeal.nD Cert.FInDtRefIdeal.τ).loc Cert.FInDtRefIdeal.main_v10) = v0 c
          ∧ r.2.mem ((c.tc : Thread Cert.FInDtRefIdeal.nD Cert.FInDtRefIdeal.τ).loc Cert.FInDtRefIdeal.main_arg0) = m' ((c.tc : Thread Cert.FInDtRefIdeal.nD Cert.FInDtRefIdeal.τ).loc Cert.FInDtRefIdeal.main_arg0)
          ∧ r.2.mem ((c.tc : Thread Cert.FInDtRefIdeal.nD Cert.FInDtRefIdeal.τ).loc Cert.FInDtRefIdeal.main_arg1) = m' ((c.tc : Thread Cert.FInDtRefIdeal.nD Cert.FInDtRefIdeal.τ).loc Cert.FInDtRefIdeal.main_arg1))

def preserves_FOut_FOutIdeal : Prop :=
  True

def algebraic_FOutIdeal_FOutRefIdeal [hFOutIdeal : Cert.FOutIdeal.Facts] [hFOutRefIdeal : Cert.FOutRefIdeal.Facts] : Prop :=
  ∀ (m : (ℓ : Loc Cert.FOutIdeal.nD Cert.FOutIdeal.τ Cert.FOutIdeal.sig) → Buf (Elt Ideal) ℓ) (g : Dev Cert.FOutIdeal.nD → PrngReg)
    (m' : (ℓ : Loc Cert.FOutRefIdeal.nD Cert.FOutRefIdeal.τ Cert.FOutRefIdeal.sig) → Buf (Elt Ideal) ℓ) (g' : Dev Cert.FOutRefIdeal.nD → PrngReg), Pre_FOutIdeal m →
    (∀ c : Dev Cert.FOutIdeal.nD,
      m' ((c.tc : Thread Cert.FOutRefIdeal.nD Cert.FOutRefIdeal.τ).loc Cert.FOutRefIdeal.main_arg0) = m ((c.tc : Thread Cert.FOutIdeal.nD Cert.FOutIdeal.τ).loc Cert.FOutIdeal.main_arg0)
      ∧ m' ((c.tc : Thread Cert.FOutRefIdeal.nD Cert.FOutRefIdeal.τ).loc Cert.FOutRefIdeal.main_arg1) = m ((c.tc : Thread Cert.FOutIdeal.nD Cert.FOutIdeal.τ).loc Cert.FOutIdeal.main_arg1)
      ∧ m' ((c.tc : Thread Cert.FOutRefIdeal.nD Cert.FOutRefIdeal.τ).loc Cert.FOutRefIdeal.main_arg2) = m ((c.tc : Thread Cert.FOutIdeal.nD Cert.FOutIdeal.τ).loc Cert.FOutIdeal.main_arg2)) →
    ∃ (v0 : (c : Dev Cert.FOutIdeal.nD) → Buf (Elt Ideal) ((c.tc : Thread Cert.FOutIdeal.nD Cert.FOutIdeal.τ).loc Cert.FOutIdeal.main_v0)),
      θ_run (Cert.FOutIdeal.defs (F := Ideal)) (onTc (τ := Cert.FOutIdeal.τ) (Cert.FOutIdeal.main (F := Ideal))) ⟨m, fun _ => 0, g⟩ (fun r => ∀ c : Dev Cert.FOutIdeal.nD,
          r.2.mem ((c.tc : Thread Cert.FOutIdeal.nD Cert.FOutIdeal.τ).loc Cert.FOutIdeal.main_v0) = v0 c
          ∧ r.2.mem ((c.tc : Thread Cert.FOutIdeal.nD Cert.FOutIdeal.τ).loc Cert.FOutIdeal.main_arg0) = m ((c.tc : Thread Cert.FOutIdeal.nD Cert.FOutIdeal.τ).loc Cert.FOutIdeal.main_arg0)
          ∧ r.2.mem ((c.tc : Thread Cert.FOutIdeal.nD Cert.FOutIdeal.τ).loc Cert.FOutIdeal.main_arg1) = m ((c.tc : Thread Cert.FOutIdeal.nD Cert.FOutIdeal.τ).loc Cert.FOutIdeal.main_arg1)
          ∧ r.2.mem ((c.tc : Thread Cert.FOutIdeal.nD Cert.FOutIdeal.τ).loc Cert.FOutIdeal.main_arg2) = m ((c.tc : Thread Cert.FOutIdeal.nD Cert.FOutIdeal.τ).loc Cert.FOutIdeal.main_arg2))
      ∧ θ_run (Cert.FOutRefIdeal.defs (F := Ideal)) (onTc (τ := Cert.FOutRefIdeal.τ) (Cert.FOutRefIdeal.main (F := Ideal))) ⟨m', fun _ => 0, g'⟩ (fun r => ∀ c : Dev Cert.FOutRefIdeal.nD,
          r.2.mem ((c.tc : Thread Cert.FOutRefIdeal.nD Cert.FOutRefIdeal.τ).loc Cert.FOutRefIdeal.main_v3) = v0 c
          ∧ r.2.mem ((c.tc : Thread Cert.FOutRefIdeal.nD Cert.FOutRefIdeal.τ).loc Cert.FOutRefIdeal.main_arg0) = m' ((c.tc : Thread Cert.FOutRefIdeal.nD Cert.FOutRefIdeal.τ).loc Cert.FOutRefIdeal.main_arg0)
          ∧ r.2.mem ((c.tc : Thread Cert.FOutRefIdeal.nD Cert.FOutRefIdeal.τ).loc Cert.FOutRefIdeal.main_arg1) = m' ((c.tc : Thread Cert.FOutRefIdeal.nD Cert.FOutRefIdeal.τ).loc Cert.FOutRefIdeal.main_arg1)
          ∧ r.2.mem ((c.tc : Thread Cert.FOutRefIdeal.nD Cert.FOutRefIdeal.τ).loc Cert.FOutRefIdeal.main_arg2) = m' ((c.tc : Thread Cert.FOutRefIdeal.nD Cert.FOutRefIdeal.τ).loc Cert.FOutRefIdeal.main_arg2))

def preserves_FPoolIn_FPoolInIdeal : Prop :=
  True

def algebraic_FPoolInIdeal_FPoolInRefIdeal [hFPoolInIdeal : Cert.FPoolInIdeal.Facts] [hFPoolInRefIdeal : Cert.FPoolInRefIdeal.Facts] : Prop :=
  ∀ (m : (ℓ : Loc Cert.FPoolInIdeal.nD Cert.FPoolInIdeal.τ Cert.FPoolInIdeal.sig) → Buf (Elt Ideal) ℓ) (g : Dev Cert.FPoolInIdeal.nD → PrngReg)
    (m' : (ℓ : Loc Cert.FPoolInRefIdeal.nD Cert.FPoolInRefIdeal.τ Cert.FPoolInRefIdeal.sig) → Buf (Elt Ideal) ℓ) (g' : Dev Cert.FPoolInRefIdeal.nD → PrngReg), Pre_FPoolInIdeal m →
    (∀ c : Dev Cert.FPoolInIdeal.nD,
      m' ((c.tc : Thread Cert.FPoolInRefIdeal.nD Cert.FPoolInRefIdeal.τ).loc Cert.FPoolInRefIdeal.main_arg0) = m ((c.tc : Thread Cert.FPoolInIdeal.nD Cert.FPoolInIdeal.τ).loc Cert.FPoolInIdeal.main_arg0)
      ∧ m' ((c.tc : Thread Cert.FPoolInRefIdeal.nD Cert.FPoolInRefIdeal.τ).loc Cert.FPoolInRefIdeal.main_arg1) = m ((c.tc : Thread Cert.FPoolInIdeal.nD Cert.FPoolInIdeal.τ).loc Cert.FPoolInIdeal.main_arg1)) →
    ∃ (v0 : (c : Dev Cert.FPoolInIdeal.nD) → Buf (Elt Ideal) ((c.tc : Thread Cert.FPoolInIdeal.nD Cert.FPoolInIdeal.τ).loc Cert.FPoolInIdeal.main_v0)),
      θ_run (Cert.FPoolInIdeal.defs (F := Ideal)) (onTc (τ := Cert.FPoolInIdeal.τ) (Cert.FPoolInIdeal.main (F := Ideal))) ⟨m, fun _ => 0, g⟩ (fun r => ∀ c : Dev Cert.FPoolInIdeal.nD,
          r.2.mem ((c.tc : Thread Cert.FPoolInIdeal.nD Cert.FPoolInIdeal.τ).loc Cert.FPoolInIdeal.main_v0) = v0 c
          ∧ r.2.mem ((c.tc : Thread Cert.FPoolInIdeal.nD Cert.FPoolInIdeal.τ).loc Cert.FPoolInIdeal.main_arg0) = m ((c.tc : Thread Cert.FPoolInIdeal.nD Cert.FPoolInIdeal.τ).loc Cert.FPoolInIdeal.main_arg0)
          ∧ r.2.mem ((c.tc : Thread Cert.FPoolInIdeal.nD Cert.FPoolInIdeal.τ).loc Cert.FPoolInIdeal.main_arg1) = m ((c.tc : Thread Cert.FPoolInIdeal.nD Cert.FPoolInIdeal.τ).loc Cert.FPoolInIdeal.main_arg1))
      ∧ θ_run (Cert.FPoolInRefIdeal.defs (F := Ideal)) (onTc (τ := Cert.FPoolInRefIdeal.τ) (Cert.FPoolInRefIdeal.main (F := Ideal))) ⟨m', fun _ => 0, g'⟩ (fun r => ∀ c : Dev Cert.FPoolInRefIdeal.nD,
          r.2.mem ((c.tc : Thread Cert.FPoolInRefIdeal.nD Cert.FPoolInRefIdeal.τ).loc Cert.FPoolInRefIdeal.main_v4) = v0 c
          ∧ r.2.mem ((c.tc : Thread Cert.FPoolInRefIdeal.nD Cert.FPoolInRefIdeal.τ).loc Cert.FPoolInRefIdeal.main_arg0) = m' ((c.tc : Thread Cert.FPoolInRefIdeal.nD Cert.FPoolInRefIdeal.τ).loc Cert.FPoolInRefIdeal.main_arg0)
          ∧ r.2.mem ((c.tc : Thread Cert.FPoolInRefIdeal.nD Cert.FPoolInRefIdeal.τ).loc Cert.FPoolInRefIdeal.main_arg1) = m' ((c.tc : Thread Cert.FPoolInRefIdeal.nD Cert.FPoolInRefIdeal.τ).loc Cert.FPoolInRefIdeal.main_arg1))

def preserves_FGroup_FGroupIdeal : Prop :=
  True

def algebraic_FGroupIdeal_FGroupRefIdeal [hFGroupIdeal : Cert.FGroupIdeal.Facts] [hFGroupRefIdeal : Cert.FGroupRefIdeal.Facts] : Prop :=
  ∀ (m : (ℓ : Loc Cert.FGroupIdeal.nD Cert.FGroupIdeal.τ Cert.FGroupIdeal.sig) → Buf (Elt Ideal) ℓ) (g : Dev Cert.FGroupIdeal.nD → PrngReg)
    (m' : (ℓ : Loc Cert.FGroupRefIdeal.nD Cert.FGroupRefIdeal.τ Cert.FGroupRefIdeal.sig) → Buf (Elt Ideal) ℓ) (g' : Dev Cert.FGroupRefIdeal.nD → PrngReg), Pre_FGroupIdeal m →
    (∀ c : Dev Cert.FGroupIdeal.nD,
      m' ((c.tc : Thread Cert.FGroupRefIdeal.nD Cert.FGroupRefIdeal.τ).loc Cert.FGroupRefIdeal.main_arg0) = m ((c.tc : Thread Cert.FGroupIdeal.nD Cert.FGroupIdeal.τ).loc Cert.FGroupIdeal.main_arg0)
      ∧ m' ((c.tc : Thread Cert.FGroupRefIdeal.nD Cert.FGroupRefIdeal.τ).loc Cert.FGroupRefIdeal.main_arg1) = m ((c.tc : Thread Cert.FGroupIdeal.nD Cert.FGroupIdeal.τ).loc Cert.FGroupIdeal.main_arg1)
      ∧ m' ((c.tc : Thread Cert.FGroupRefIdeal.nD Cert.FGroupRefIdeal.τ).loc Cert.FGroupRefIdeal.main_arg2) = m ((c.tc : Thread Cert.FGroupIdeal.nD Cert.FGroupIdeal.τ).loc Cert.FGroupIdeal.main_arg2)
      ∧ m' ((c.tc : Thread Cert.FGroupRefIdeal.nD Cert.FGroupRefIdeal.τ).loc Cert.FGroupRefIdeal.main_arg3) = m ((c.tc : Thread Cert.FGroupIdeal.nD Cert.FGroupIdeal.τ).loc Cert.FGroupIdeal.main_arg3)) →
    ∃ (v0 : (c : Dev Cert.FGroupIdeal.nD) → Buf (Elt Ideal) ((c.tc : Thread Cert.FGroupIdeal.nD Cert.FGroupIdeal.τ).loc Cert.FGroupIdeal.main_v0_0)) (v1 : (c : Dev Cert.FGroupIdeal.nD) → Buf (Elt Ideal) ((c.tc : Thread Cert.FGroupIdeal.nD Cert.FGroupIdeal.τ).loc Cert.FGroupIdeal.main_v0_1)),
      θ_run (Cert.FGroupIdeal.defs (F := Ideal)) (onTc (τ := Cert.FGroupIdeal.τ) (Cert.FGroupIdeal.main (F := Ideal))) ⟨m, fun _ => 0, g⟩ (fun r => ∀ c : Dev Cert.FGroupIdeal.nD,
          r.2.mem ((c.tc : Thread Cert.FGroupIdeal.nD Cert.FGroupIdeal.τ).loc Cert.FGroupIdeal.main_v0_0) = v0 c
          ∧ r.2.mem ((c.tc : Thread Cert.FGroupIdeal.nD Cert.FGroupIdeal.τ).loc Cert.FGroupIdeal.main_v0_1) = v1 c
          ∧ r.2.mem ((c.tc : Thread Cert.FGroupIdeal.nD Cert.FGroupIdeal.τ).loc Cert.FGroupIdeal.main_arg0) = m ((c.tc : Thread Cert.FGroupIdeal.nD Cert.FGroupIdeal.τ).loc Cert.FGroupIdeal.main_arg0)
          ∧ r.2.mem ((c.tc : Thread Cert.FGroupIdeal.nD Cert.FGroupIdeal.τ).loc Cert.FGroupIdeal.main_arg1) = m ((c.tc : Thread Cert.FGroupIdeal.nD Cert.FGroupIdeal.τ).loc Cert.FGroupIdeal.main_arg1)
          ∧ r.2.mem ((c.tc : Thread Cert.FGroupIdeal.nD Cert.FGroupIdeal.τ).loc Cert.FGroupIdeal.main_arg2) = m ((c.tc : Thread Cert.FGroupIdeal.nD Cert.FGroupIdeal.τ).loc Cert.FGroupIdeal.main_arg2)
          ∧ r.2.mem ((c.tc : Thread Cert.FGroupIdeal.nD Cert.FGroupIdeal.τ).loc Cert.FGroupIdeal.main_arg3) = m ((c.tc : Thread Cert.FGroupIdeal.nD Cert.FGroupIdeal.τ).loc Cert.FGroupIdeal.main_arg3))
      ∧ θ_run (Cert.FGroupRefIdeal.defs (F := Ideal)) (onTc (τ := Cert.FGroupRefIdeal.τ) (Cert.FGroupRefIdeal.main (F := Ideal))) ⟨m', fun _ => 0, g'⟩ (fun r => ∀ c : Dev Cert.FGroupRefIdeal.nD,
          r.2.mem ((c.tc : Thread Cert.FGroupRefIdeal.nD Cert.FGroupRefIdeal.τ).loc Cert.FGroupRefIdeal.main_v5) = v0 c
          ∧ r.2.mem ((c.tc : Thread Cert.FGroupRefIdeal.nD Cert.FGroupRefIdeal.τ).loc Cert.FGroupRefIdeal.main_v11) = v1 c
          ∧ r.2.mem ((c.tc : Thread Cert.FGroupRefIdeal.nD Cert.FGroupRefIdeal.τ).loc Cert.FGroupRefIdeal.main_arg0) = m' ((c.tc : Thread Cert.FGroupRefIdeal.nD Cert.FGroupRefIdeal.τ).loc Cert.FGroupRefIdeal.main_arg0)
          ∧ r.2.mem ((c.tc : Thread Cert.FGroupRefIdeal.nD Cert.FGroupRefIdeal.τ).loc Cert.FGroupRefIdeal.main_arg1) = m' ((c.tc : Thread Cert.FGroupRefIdeal.nD Cert.FGroupRefIdeal.τ).loc Cert.FGroupRefIdeal.main_arg1)
          ∧ r.2.mem ((c.tc : Thread Cert.FGroupRefIdeal.nD Cert.FGroupRefIdeal.τ).loc Cert.FGroupRefIdeal.main_arg2) = m' ((c.tc : Thread Cert.FGroupRefIdeal.nD Cert.FGroupRefIdeal.τ).loc Cert.FGroupRefIdeal.main_arg2)
          ∧ r.2.mem ((c.tc : Thread Cert.FGroupRefIdeal.nD Cert.FGroupRefIdeal.τ).loc Cert.FGroupRefIdeal.main_arg3) = m' ((c.tc : Thread Cert.FGroupRefIdeal.nD Cert.FGroupRefIdeal.τ).loc Cert.FGroupRefIdeal.main_arg3))

def preserves_PoolMix_PoolMixIdeal : Prop :=
  True

def algebraic_PoolMixIdeal_PoolMixRefIdeal_pre_finite_mix [hPoolMixIdeal : Cert.PoolMixIdeal.Facts] [hPoolMixRefIdeal : Cert.PoolMixRefIdeal.Facts] [hPre_finite_mix : Cert.Pre_finite_mix.Facts] : Prop :=
  ∀ (m : (ℓ : Loc Cert.PoolMixIdeal.nD Cert.PoolMixIdeal.τ Cert.PoolMixIdeal.sig) → Buf (Elt Ideal) ℓ) (g : Dev Cert.PoolMixIdeal.nD → PrngReg)
    (m' : (ℓ : Loc Cert.PoolMixRefIdeal.nD Cert.PoolMixRefIdeal.τ Cert.PoolMixRefIdeal.sig) → Buf (Elt Ideal) ℓ) (g' : Dev Cert.PoolMixRefIdeal.nD → PrngReg), Pre_PoolMixIdeal_finite_mix m →
    (∀ c : Dev Cert.PoolMixIdeal.nD,
      m' ((c.tc : Thread Cert.PoolMixRefIdeal.nD Cert.PoolMixRefIdeal.τ).loc Cert.PoolMixRefIdeal.main_arg0) = m ((c.tc : Thread Cert.PoolMixIdeal.nD Cert.PoolMixIdeal.τ).loc Cert.PoolMixIdeal.main_arg0)
      ∧ m' ((c.tc : Thread Cert.PoolMixRefIdeal.nD Cert.PoolMixRefIdeal.τ).loc Cert.PoolMixRefIdeal.main_arg1) = m ((c.tc : Thread Cert.PoolMixIdeal.nD Cert.PoolMixIdeal.τ).loc Cert.PoolMixIdeal.main_arg1)) →
    ∃ (v0 : (c : Dev Cert.PoolMixIdeal.nD) → Buf (Elt Ideal) ((c.tc : Thread Cert.PoolMixIdeal.nD Cert.PoolMixIdeal.τ).loc Cert.PoolMixIdeal.main_v0)),
      θ_run (Cert.PoolMixIdeal.defs (F := Ideal)) (onTc (τ := Cert.PoolMixIdeal.τ) (Cert.PoolMixIdeal.main (F := Ideal))) ⟨m, fun _ => 0, g⟩ (fun r => ∀ c : Dev Cert.PoolMixIdeal.nD,
          r.2.mem ((c.tc : Thread Cert.PoolMixIdeal.nD Cert.PoolMixIdeal.τ).loc Cert.PoolMixIdeal.main_v0) = v0 c
          ∧ r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
          ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1))
      ∧ θ_run (Cert.PoolMixRefIdeal.defs (F := Ideal)) (onTc (τ := Cert.PoolMixRefIdeal.τ) (Cert.PoolMixRefIdeal.main (F := Ideal))) ⟨m', fun _ => 0, g'⟩ (fun r => ∀ c : Dev Cert.PoolMixRefIdeal.nD,
          r.2.mem ((c.tc : Thread Cert.PoolMixRefIdeal.nD Cert.PoolMixRefIdeal.τ).loc Cert.PoolMixRefIdeal.main_v121) = v0 c
          ∧ r.2.mem ((c.tc : Thread Cert.PoolMixRefIdeal.nD Cert.PoolMixRefIdeal.τ).loc Cert.PoolMixRefIdeal.main_arg0) = m' ((c.tc : Thread Cert.PoolMixRefIdeal.nD Cert.PoolMixRefIdeal.τ).loc Cert.PoolMixRefIdeal.main_arg0)
          ∧ r.2.mem ((c.tc : Thread Cert.PoolMixRefIdeal.nD Cert.PoolMixRefIdeal.τ).loc Cert.PoolMixRefIdeal.main_arg1) = m' ((c.tc : Thread Cert.PoolMixRefIdeal.nD Cert.PoolMixRefIdeal.τ).loc Cert.PoolMixRefIdeal.main_arg1))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v8_0)) (v1 : (c : Dev Cert.RmsBwdIdeal.nD) → Buf (Elt Ideal) ((c.tc : Thread Cert.RmsBwdIdeal.nD Cert.RmsBwdIdeal.τ).loc Cert.RmsBwdIdeal.main_v8_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v8_0) = v0 c
          ∧ r.2.mem ((c.tc : Thread Cert.RmsBwdIdeal.nD Cert.RmsBwdIdeal.τ).loc Cert.RmsBwdIdeal.main_v8_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v37) = v0 c
          ∧ r.2.mem ((c.tc : Thread Cert.RmsBwdRefIdeal.nD Cert.RmsBwdRefIdeal.τ).loc Cert.RmsBwdRefIdeal.main_v38) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v52) = v1 c
          ∧ r.2.mem ((c.tc : Thread Cert.LossHeadRefIdeal.nD Cert.LossHeadRefIdeal.τ).loc Cert.LossHeadRefIdeal.main_v53) = v2 c
          ∧ r.2.mem ((c.tc : Thread Cert.LossHeadRefIdeal.nD Cert.LossHeadRefIdeal.τ).loc Cert.LossHeadRefIdeal.main_v54) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v1) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumPoolIn_SumPoolInIdeal : Prop :=
  True

def algebraic_SumPoolInIdeal_SumPoolInRefIdeal [hSumPoolInIdeal : Cert.SumPoolInIdeal.Facts] [hSumPoolInRefIdeal : Cert.SumPoolInRefIdeal.Facts] : Prop :=
  ∀ (m : (ℓ : Loc Cert.SumPoolInIdeal.nD Cert.SumPoolInIdeal.τ Cert.SumPoolInIdeal.sig) → Buf (Elt Ideal) ℓ) (g : Dev Cert.SumPoolInIdeal.nD → PrngReg)
    (m' : (ℓ : Loc Cert.SumPoolInRefIdeal.nD Cert.SumPoolInRefIdeal.τ Cert.SumPoolInRefIdeal.sig) → Buf (Elt Ideal) ℓ) (g' : Dev Cert.SumPoolInRefIdeal.nD → PrngReg), Pre_SumPoolInIdeal m →
    (∀ c : Dev Cert.SumPoolInIdeal.nD,
      m' ((c.tc : Thread Cert.SumPoolInRefIdeal.nD Cert.SumPoolInRefIdeal.τ).loc Cert.SumPoolInRefIdeal.main_arg0) = m ((c.tc : Thread Cert.SumPoolInIdeal.nD Cert.SumPoolInIdeal.τ).loc Cert.SumPoolInIdeal.main_arg0)) →
    ∃ (v0 : (c : Dev Cert.SumPoolInIdeal.nD) → Buf (Elt Ideal) ((c.tc : Thread Cert.SumPoolInIdeal.nD Cert.SumPoolInIdeal.τ).loc Cert.SumPoolInIdeal.main_v0)),
      θ_run (Cert.SumPoolInIdeal.defs (F := Ideal)) (onTc (τ := Cert.SumPoolInIdeal.τ) (Cert.SumPoolInIdeal.main (F := Ideal))) ⟨m, fun _ => 0, g⟩ (fun r => ∀ c : Dev Cert.SumPoolInIdeal.nD,
          r.2.mem ((c.tc : Thread Cert.SumPoolInIdeal.nD Cert.SumPoolInIdeal.τ).loc Cert.SumPoolInIdeal.main_v0) = v0 c
          ∧ r.2.mem ((c.tc : Thread Cert.SumPoolInIdeal.nD Cert.SumPoolInIdeal.τ).loc Cert.SumPoolInIdeal.main_arg0) = m ((c.tc : Thread Cert.SumPoolInIdeal.nD Cert.SumPoolInIdeal.τ).loc Cert.SumPoolInIdeal.main_arg0))
      ∧ θ_run (Cert.SumPoolInRefIdeal.defs (F := Ideal)) (onTc (τ := Cert.SumPoolInRefIdeal.τ) (Cert.SumPoolInRefIdeal.main (F := Ideal))) ⟨m', fun _ => 0, g'⟩ (fun r => ∀ c : Dev Cert.SumPoolInRefIdeal.nD,
          r.2.mem ((c.tc : Thread Cert.SumPoolInRefIdeal.nD Cert.SumPoolInRefIdeal.τ).loc Cert.SumPoolInRefIdeal.main_v1) = v0 c
          ∧ r.2.mem ((c.tc : Thread Cert.SumPoolInRefIdeal.nD Cert.SumPoolInRefIdeal.τ).loc Cert.SumPoolInRefIdeal.main_arg0) = m' ((c.tc : Thread Cert.SumPoolInRefIdeal.nD Cert.SumPoolInRefIdeal.τ).loc Cert.SumPoolInRefIdeal.main_arg0))

def preserves_SumGroup_SumGroupIdeal : Prop :=
  True

def algebraic_SumGroupIdeal_SumGroupRefIdeal [hSumGroupIdeal : Cert.SumGroupIdeal.Facts] [hSumGroupRefIdeal : Cert.SumGroupRefIdeal.Facts] : Prop :=
  ∀ (m : (ℓ : Loc Cert.SumGroupIdeal.nD Cert.SumGroupIdeal.τ Cert.SumGroupIdeal.sig) → Buf (Elt Ideal) ℓ) (g : Dev Cert.SumGroupIdeal.nD → PrngReg)
    (m' : (ℓ : Loc Cert.SumGroupRefIdeal.nD Cert.SumGroupRefIdeal.τ Cert.SumGroupRefIdeal.sig) → Buf (Elt Ideal) ℓ) (g' : Dev Cert.SumGroupRefIdeal.nD → PrngReg), Pre_SumGroupIdeal m →
    (∀ c : Dev Cert.SumGroupIdeal.nD,
      m' ((c.tc : Thread Cert.SumGroupRefIdeal.nD Cert.SumGroupRefIdeal.τ).loc Cert.SumGroupRefIdeal.main_arg0) = m ((c.tc : Thread Cert.SumGroupIdeal.nD Cert.SumGroupIdeal.τ).loc Cert.SumGroupIdeal.main_arg0)) →
    ∃ (v0 : (c : Dev Cert.SumGroupIdeal.nD) → Buf (Elt Ideal) ((c.tc : Thread Cert.SumGroupIdeal.nD Cert.SumGroupIdeal.τ).loc Cert.SumGroupIdeal.main_v0)),
      θ_run (Cert.SumGroupIdeal.defs (F := Ideal)) (onTc (τ := Cert.SumGroupIdeal.τ) (Cert.SumGroupIdeal.main (F := Ideal))) ⟨m, fun _ => 0, g⟩ (fun r => ∀ c : Dev Cert.SumGroupIdeal.nD,
          r.2.mem ((c.tc : Thread Cert.SumGroupIdeal.nD Cert.SumGroupIdeal.τ).loc Cert.SumGroupIdeal.main_v0) = v0 c
          ∧ r.2.mem ((c.tc : Thread Cert.SumGroupIdeal.nD Cert.SumGroupIdeal.τ).loc Cert.SumGroupIdeal.main_arg0) = m ((c.tc : Thread Cert.SumGroupIdeal.nD Cert.SumGroupIdeal.τ).loc Cert.SumGroupIdeal.main_arg0))
      ∧ θ_run (Cert.SumGroupRefIdeal.defs (F := Ideal)) (onTc (τ := Cert.SumGroupRefIdeal.τ) (Cert.SumGroupRefIdeal.main (F := Ideal))) ⟨m', fun _ => 0, g'⟩ (fun r => ∀ c : Dev Cert.SumGroupRefIdeal.nD,
          r.2.mem ((c.tc : Thread Cert.SumGroupRefIdeal.nD Cert.SumGroupRefIdeal.τ).loc Cert.SumGroupRefIdeal.main_v1) = v0 c
          ∧ r.2.mem ((c.tc : Thread Cert.SumGroupRefIdeal.nD Cert.SumGroupRefIdeal.τ).loc Cert.SumGroupRefIdeal.main_arg0) = m' ((c.tc : Thread Cert.SumGroupRefIdeal.nD Cert.SumGroupRefIdeal.τ).loc Cert.SumGroupRefIdeal.main_arg0))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v1) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v26) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamPoolIn_AdamPoolInIdeal : Prop :=
  True

def algebraic_AdamPoolInIdeal_AdamPoolInRefIdeal [hAdamPoolInIdeal : Cert.AdamPoolInIdeal.Facts] [hAdamPoolInRefIdeal : Cert.AdamPoolInRefIdeal.Facts] : Prop :=
  ∀ (m : (ℓ : Loc Cert.AdamPoolInIdeal.nD Cert.AdamPoolInIdeal.τ Cert.AdamPoolInIdeal.sig) → Buf (Elt Ideal) ℓ) (g : Dev Cert.AdamPoolInIdeal.nD → PrngReg)
    (m' : (ℓ : Loc Cert.AdamPoolInRefIdeal.nD Cert.AdamPoolInRefIdeal.τ Cert.AdamPoolInRefIdeal.sig) → Buf (Elt Ideal) ℓ) (g' : Dev Cert.AdamPoolInRefIdeal.nD → PrngReg), Pre_AdamPoolInIdeal m →
    (∀ c : Dev Cert.AdamPoolInIdeal.nD,
      m' ((c.tc : Thread Cert.AdamPoolInRefIdeal.nD Cert.AdamPoolInRefIdeal.τ).loc Cert.AdamPoolInRefIdeal.main_arg0) = m ((c.tc : Thread Cert.AdamPoolInIdeal.nD Cert.AdamPoolInIdeal.τ).loc Cert.AdamPoolInIdeal.main_arg0)
      ∧ m' ((c.tc : Thread Cert.AdamPoolInRefIdeal.nD Cert.AdamPoolInRefIdeal.τ).loc Cert.AdamPoolInRefIdeal.main_arg1) = m ((c.tc : Thread Cert.AdamPoolInIdeal.nD Cert.AdamPoolInIdeal.τ).loc Cert.AdamPoolInIdeal.main_arg1)
      ∧ m' ((c.tc : Thread Cert.AdamPoolInRefIdeal.nD Cert.AdamPoolInRefIdeal.τ).loc Cert.AdamPoolInRefIdeal.main_arg2) = m ((c.tc : Thread Cert.AdamPoolInIdeal.nD Cert.AdamPoolInIdeal.τ).loc Cert.AdamPoolInIdeal.main_arg2)
      ∧ m' ((c.tc : Thread Cert.AdamPoolInRefIdeal.nD Cert.AdamPoolInRefIdeal.τ).loc Cert.AdamPoolInRefIdeal.main_arg3) = m ((c.tc : Thread Cert.AdamPoolInIdeal.nD Cert.AdamPoolInIdeal.τ).loc Cert.AdamPoolInIdeal.main_arg3)) →
    ∃ (v0 : (c : Dev Cert.AdamPoolInIdeal.nD) → Buf (Elt Ideal) ((c.tc : Thread Cert.AdamPoolInIdeal.nD Cert.AdamPoolInIdeal.τ).loc Cert.AdamPoolInIdeal.main_v4_0)) (v1 : (c : Dev Cert.AdamPoolInIdeal.nD) → Buf (Elt Ideal) ((c.tc : Thread Cert.AdamPoolInIdeal.nD Cert.AdamPoolInIdeal.τ).loc Cert.AdamPoolInIdeal.main_v4_1)) (v2 : (c : Dev Cert.AdamPoolInIdeal.nD) → Buf (Elt Ideal) ((c.tc : Thread Cert.AdamPoolInIdeal.nD Cert.AdamPoolInIdeal.τ).loc Cert.AdamPoolInIdeal.main_v4_2)),
      θ_run (Cert.AdamPoolInIdeal.defs (F := Ideal)) (onTc (τ := Cert.AdamPoolInIdeal.τ) (Cert.AdamPoolInIdeal.main (F := Ideal))) ⟨m, fun _ => 0, g⟩ (fun r => ∀ c : Dev Cert.AdamPoolInIdeal.nD,
          r.2.mem ((c.tc : Thread Cert.AdamPoolInIdeal.nD Cert.AdamPoolInIdeal.τ).loc Cert.AdamPoolInIdeal.main_v4_0) = v0 c
          ∧ r.2.mem ((c.tc : Thread Cert.AdamPoolInIdeal.nD Cert.AdamPoolInIdeal.τ).loc Cert.AdamPoolInIdeal.main_v4_1) = v1 c
          ∧ r.2.mem ((c.tc : Thread Cert.AdamPoolInIdeal.nD Cert.AdamPoolInIdeal.τ).loc Cert.AdamPoolInIdeal.main_v4_2) = v2 c
          ∧ r.2.mem ((c.tc : Thread Cert.AdamPoolInIdeal.nD Cert.AdamPoolInIdeal.τ).loc Cert.AdamPoolInIdeal.main_arg0) = m ((c.tc : Thread Cert.AdamPoolInIdeal.nD Cert.AdamPoolInIdeal.τ).loc Cert.AdamPoolInIdeal.main_arg0)
          ∧ r.2.mem ((c.tc : Thread Cert.AdamPoolInIdeal.nD Cert.AdamPoolInIdeal.τ).loc Cert.AdamPoolInIdeal.main_arg1) = m ((c.tc : Thread Cert.AdamPoolInIdeal.nD Cert.AdamPoolInIdeal.τ).loc Cert.AdamPoolInIdeal.main_arg1)
          ∧ r.2.mem ((c.tc : Thread Cert.AdamPoolInIdeal.nD Cert.AdamPoolInIdeal.τ).loc Cert.AdamPoolInIdeal.main_arg2) = m ((c.tc : Thread Cert.AdamPoolInIdeal.nD Cert.AdamPoolInIdeal.τ).loc Cert.AdamPoolInIdeal.main_arg2)
          ∧ r.2.mem ((c.tc : Thread Cert.AdamPoolInIdeal.nD Cert.AdamPoolInIdeal.τ).loc Cert.AdamPoolInIdeal.main_arg3) = m ((c.tc : Thread Cert.AdamPoolInIdeal.nD Cert.AdamPoolInIdeal.τ).loc Cert.AdamPoolInIdeal.main_arg3))
      ∧ θ_run (Cert.AdamPoolInRefIdeal.defs (F := Ideal)) (onTc (τ := Cert.AdamPoolInRefIdeal.τ) (Cert.AdamPoolInRefIdeal.main (F := Ideal))) ⟨m', fun _ => 0, g'⟩ (fun r => ∀ c : Dev Cert.AdamPoolInRefIdeal.nD,
          r.2.mem ((c.tc : Thread Cert.AdamPoolInRefIdeal.nD Cert.AdamPoolInRefIdeal.τ).loc Cert.AdamPoolInRefIdeal.main_v24) = v0 c
          ∧ r.2.mem ((c.tc : Thread Cert.AdamPoolInRefIdeal.nD Cert.AdamPoolInRefIdeal.τ).loc Cert.AdamPoolInRefIdeal.main_v25) = v1 c
          ∧ r.2.mem ((c.tc : Thread Cert.AdamPoolInRefIdeal.nD Cert.AdamPoolInRefIdeal.τ).loc Cert.AdamPoolInRefIdeal.main_v26) = v2 c
          ∧ r.2.mem ((c.tc : Thread Cert.AdamPoolInRefIdeal.nD Cert.AdamPoolInRefIdeal.τ).loc Cert.AdamPoolInRefIdeal.main_arg0) = m' ((c.tc : Thread Cert.AdamPoolInRefIdeal.nD Cert.AdamPoolInRefIdeal.τ).loc Cert.AdamPoolInRefIdeal.main_arg0)
          ∧ r.2.mem ((c.tc : Thread Cert.AdamPoolInRefIdeal.nD Cert.AdamPoolInRefIdeal.τ).loc Cert.AdamPoolInRefIdeal.main_arg1) = m' ((c.tc : Thread Cert.AdamPoolInRefIdeal.nD Cert.AdamPoolInRefIdeal.τ).loc Cert.AdamPoolInRefIdeal.main_arg1)
          ∧ r.2.mem ((c.tc : Thread Cert.AdamPoolInRefIdeal.nD Cert.AdamPoolInRefIdeal.τ).loc Cert.AdamPoolInRefIdeal.main_arg2) = m' ((c.tc : Thread Cert.AdamPoolInRefIdeal.nD Cert.AdamPoolInRefIdeal.τ).loc Cert.AdamPoolInRefIdeal.main_arg2)
          ∧ r.2.mem ((c.tc : Thread Cert.AdamPoolInRefIdeal.nD Cert.AdamPoolInRefIdeal.τ).loc Cert.AdamPoolInRefIdeal.main_arg3) = m' ((c.tc : Thread Cert.AdamPoolInRefIdeal.nD Cert.AdamPoolInRefIdeal.τ).loc Cert.AdamPoolInRefIdeal.main_arg3))

def preserves_AdamGroup_AdamGroupIdeal : Prop :=
  True

def algebraic_AdamGroupIdeal_AdamGroupRefIdeal [hAdamGroupIdeal : Cert.AdamGroupIdeal.Facts] [hAdamGroupRefIdeal : Cert.AdamGroupRefIdeal.Facts] : Prop :=
  ∀ (m : (ℓ : Loc Cert.AdamGroupIdeal.nD Cert.AdamGroupIdeal.τ Cert.AdamGroupIdeal.sig) → Buf (Elt Ideal) ℓ) (g : Dev Cert.AdamGroupIdeal.nD → PrngReg)
    (m' : (ℓ : Loc Cert.AdamGroupRefIdeal.nD Cert.AdamGroupRefIdeal.τ Cert.AdamGroupRefIdeal.sig) → Buf (Elt Ideal) ℓ) (g' : Dev Cert.AdamGroupRefIdeal.nD → PrngReg), Pre_AdamGroupIdeal m →
    (∀ c : Dev Cert.AdamGroupIdeal.nD,
      m' ((c.tc : Thread Cert.AdamGroupRefIdeal.nD Cert.AdamGroupRefIdeal.τ).loc Cert.AdamGroupRefIdeal.main_arg0) = m ((c.tc : Thread Cert.AdamGroupIdeal.nD Cert.AdamGroupIdeal.τ).loc Cert.AdamGroupIdeal.main_arg0)
      ∧ m' ((c.tc : Thread Cert.AdamGroupRefIdeal.nD Cert.AdamGroupRefIdeal.τ).loc Cert.AdamGroupRefIdeal.main_arg1) = m ((c.tc : Thread Cert.AdamGroupIdeal.nD Cert.AdamGroupIdeal.τ).loc Cert.AdamGroupIdeal.main_arg1)
      ∧ m' ((c.tc : Thread Cert.AdamGroupRefIdeal.nD Cert.AdamGroupRefIdeal.τ).loc Cert.AdamGroupRefIdeal.main_arg2) = m ((c.tc : Thread Cert.AdamGroupIdeal.nD Cert.AdamGroupIdeal.τ).loc Cert.AdamGroupIdeal.main_arg2)
      ∧ m' ((c.tc : Thread Cert.AdamGroupRefIdeal.nD Cert.AdamGroupRefIdeal.τ).loc Cert.AdamGroupRefIdeal.main_arg3) = m ((c.tc : Thread Cert.AdamGroupIdeal.nD Cert.AdamGroupIdeal.τ).loc Cert.AdamGroupIdeal.main_arg3)) →
    ∃ (v0 : (c : Dev Cert.AdamGroupIdeal.nD) → Buf (Elt Ideal) ((c.tc : Thread Cert.AdamGroupIdeal.nD Cert.AdamGroupIdeal.τ).loc Cert.AdamGroupIdeal.main_v4_0)) (v1 : (c : Dev Cert.AdamGroupIdeal.nD) → Buf (Elt Ideal) ((c.tc : Thread Cert.AdamGroupIdeal.nD Cert.AdamGroupIdeal.τ).loc Cert.AdamGroupIdeal.main_v4_1)) (v2 : (c : Dev Cert.AdamGroupIdeal.nD) → Buf (Elt Ideal) ((c.tc : Thread Cert.AdamGroupIdeal.nD Cert.AdamGroupIdeal.τ).loc Cert.AdamGroupIdeal.main_v4_2)),
      θ_run (Cert.AdamGroupIdeal.defs (F := Ideal)) (onTc (τ := Cert.AdamGroupIdeal.τ) (Cert.AdamGroupIdeal.main (F := Ideal))) ⟨m, fun _ => 0, g⟩ (fun r => ∀ c : Dev Cert.AdamGroupIdeal.nD,
          r.2.mem ((c.tc : Thread Cert.AdamGroupIdeal.nD Cert.AdamGroupIdeal.τ).loc Cert.AdamGroupIdeal.main_v4_0) = v0 c
          ∧ r.2.mem ((c.tc : Thread Cert.AdamGroupIdeal.nD Cert.AdamGroupIdeal.τ).loc Cert.AdamGroupIdeal.main_v4_1) = v1 c
          ∧ r.2.mem ((c.tc : Thread Cert.AdamGroupIdeal.nD Cert.AdamGroupIdeal.τ).loc Cert.AdamGroupIdeal.main_v4_2) = v2 c
          ∧ r.2.mem ((c.tc : Thread Cert.AdamGroupIdeal.nD Cert.AdamGroupIdeal.τ).loc Cert.AdamGroupIdeal.main_arg0) = m ((c.tc : Thread Cert.AdamGroupIdeal.nD Cert.AdamGroupIdeal.τ).loc Cert.AdamGroupIdeal.main_arg0)
          ∧ r.2.mem ((c.tc : Thread Cert.AdamGroupIdeal.nD Cert.AdamGroupIdeal.τ).loc Cert.AdamGroupIdeal.main_arg1) = m ((c.tc : Thread Cert.AdamGroupIdeal.nD Cert.AdamGroupIdeal.τ).loc Cert.AdamGroupIdeal.main_arg1)
          ∧ r.2.mem ((c.tc : Thread Cert.AdamGroupIdeal.nD Cert.AdamGroupIdeal.τ).loc Cert.AdamGroupIdeal.main_arg2) = m ((c.tc : Thread Cert.AdamGroupIdeal.nD Cert.AdamGroupIdeal.τ).loc Cert.AdamGroupIdeal.main_arg2)
          ∧ r.2.mem ((c.tc : Thread Cert.AdamGroupIdeal.nD Cert.AdamGroupIdeal.τ).loc Cert.AdamGroupIdeal.main_arg3) = m ((c.tc : Thread Cert.AdamGroupIdeal.nD Cert.AdamGroupIdeal.τ).loc Cert.AdamGroupIdeal.main_arg3))
      ∧ θ_run (Cert.AdamGroupRefIdeal.defs (F := Ideal)) (onTc (τ := Cert.AdamGroupRefIdeal.τ) (Cert.AdamGroupRefIdeal.main (F := Ideal))) ⟨m', fun _ => 0, g'⟩ (fun r => ∀ c : Dev Cert.AdamGroupRefIdeal.nD,
          r.2.mem ((c.tc : Thread Cert.AdamGroupRefIdeal.nD Cert.AdamGroupRefIdeal.τ).loc Cert.AdamGroupRefIdeal.main_v24) = v0 c
          ∧ r.2.mem ((c.tc : Thread Cert.AdamGroupRefIdeal.nD Cert.AdamGroupRefIdeal.τ).loc Cert.AdamGroupRefIdeal.main_v25) = v1 c
          ∧ r.2.mem ((c.tc : Thread Cert.AdamGroupRefIdeal.nD Cert.AdamGroupRefIdeal.τ).loc Cert.AdamGroupRefIdeal.main_v26) = v2 c
          ∧ r.2.mem ((c.tc : Thread Cert.AdamGroupRefIdeal.nD Cert.AdamGroupRefIdeal.τ).loc Cert.AdamGroupRefIdeal.main_arg0) = m' ((c.tc : Thread Cert.AdamGroupRefIdeal.nD Cert.AdamGroupRefIdeal.τ).loc Cert.AdamGroupRefIdeal.main_arg0)
          ∧ r.2.mem ((c.tc : Thread Cert.AdamGroupRefIdeal.nD Cert.AdamGroupRefIdeal.τ).loc Cert.AdamGroupRefIdeal.main_arg1) = m' ((c.tc : Thread Cert.AdamGroupRefIdeal.nD Cert.AdamGroupRefIdeal.τ).loc Cert.AdamGroupRefIdeal.main_arg1)
          ∧ r.2.mem ((c.tc : Thread Cert.AdamGroupRefIdeal.nD Cert.AdamGroupRefIdeal.τ).loc Cert.AdamGroupRefIdeal.main_arg2) = m' ((c.tc : Thread Cert.AdamGroupRefIdeal.nD Cert.AdamGroupRefIdeal.τ).loc Cert.AdamGroupRefIdeal.main_arg2)
          ∧ r.2.mem ((c.tc : Thread Cert.AdamGroupRefIdeal.nD Cert.AdamGroupRefIdeal.τ).loc Cert.AdamGroupRefIdeal.main_arg3) = m' ((c.tc : Thread Cert.AdamGroupRefIdeal.nD Cert.AdamGroupRefIdeal.τ).loc Cert.AdamGroupRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v6_0)) (v1 : (c : Dev Cert.AdamInIdeal.nD) → Buf (Elt Ideal) ((c.tc : Thread Cert.AdamInIdeal.nD Cert.AdamInIdeal.τ).loc Cert.AdamInIdeal.main_v6_1)) (v2 : (c : Dev Cert.AdamInIdeal.nD) → Buf (Elt Ideal) ((c.tc : Thread Cert.AdamInIdeal.nD Cert.AdamInIdeal.τ).loc Cert.AdamInIdeal.main_v6_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v6_0) = v0 c
          ∧ r.2.mem ((c.tc : Thread Cert.AdamInIdeal.nD Cert.AdamInIdeal.τ).loc Cert.AdamInIdeal.main_v6_1) = v1 c
          ∧ r.2.mem ((c.tc : Thread Cert.AdamInIdeal.nD Cert.AdamInIdeal.τ).loc Cert.AdamInIdeal.main_v6_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v27) = v0 c
          ∧ r.2.mem ((c.tc : Thread Cert.AdamInRefIdeal.nD Cert.AdamInRefIdeal.τ).loc Cert.AdamInRefIdeal.main_v29) = v1 c
          ∧ r.2.mem ((c.tc : Thread Cert.AdamInRefIdeal.nD Cert.AdamInRefIdeal.τ).loc Cert.AdamInRefIdeal.main_v31) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSmall_AdamSmallIdeal : Prop :=
  True

def algebraic_AdamSmallIdeal_AdamSmallRefIdeal_on_weights_part [hAdamSmallIdeal : Cert.AdamSmallIdeal.Facts] [hAdamSmallRefIdeal : Cert.AdamSmallRefIdeal.Facts] [hOn_weights_part : Cert.On_weights_part.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)) →
    ∃ (v0 : (c : Dev Cert.AdamSmallIdeal.nD) → Buf (Elt Ideal) ((c.tc : Thread Cert.AdamSmallIdeal.nD Cert.AdamSmallIdeal.τ).loc Cert.AdamSmallIdeal.main_v44_0)) (v1 : (c : Dev Cert.AdamSmallIdeal.nD) → Buf (Elt Ideal) ((c.tc : Thread Cert.AdamSmallIdeal.nD Cert.AdamSmallIdeal.τ).loc Cert.AdamSmallIdeal.main_v44_1)) (v2 : (c : Dev Cert.AdamSmallIdeal.nD) → Buf (Elt Ideal) ((c.tc : Thread Cert.AdamSmallIdeal.nD Cert.AdamSmallIdeal.τ).loc Cert.AdamSmallIdeal.main_v44_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          (∀ i : (⟨2, ![160, 128]⟩ : Shape).Idx, (Cert.On_weights_part.fn (F := Ideal) (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)) (m ((c.tc : Thread Cert.AdamSmallIdeal.nD Cert.AdamSmallIdeal.τ).loc Cert.AdamSmallIdeal.main_arg4)) (m ((c.tc : Thread Cert.AdamSmallIdeal.nD Cert.AdamSmallIdeal.τ).loc Cert.AdamSmallIdeal.main_arg5)) (m ((c.tc : Thread Cert.AdamSmallIdeal.nD Cert.AdamSmallIdeal.τ).loc Cert.AdamSmallIdeal.main_arg6)) (m ((c.tc : Thread Cert.AdamSmallIdeal.nD Cert.AdamSmallIdeal.τ).loc Cert.AdamSmallIdeal.main_arg7)) (m ((c.tc : Thread Cert.AdamSmallIdeal.nD Cert.AdamSmallIdeal.τ).loc Cert.AdamSmallIdeal.main_arg8)) (m ((c.tc : Thread Cert.AdamSmallIdeal.nD Cert.AdamSmallIdeal.τ).loc Cert.AdamSmallIdeal.main_arg9)) (m ((c.tc : Thread Cert.AdamSmallIdeal.nD Cert.AdamSmallIdeal.τ).loc Cert.AdamSmallIdeal.main_arg10)) (m ((c.tc : Thread Cert.AdamSmallIdeal.nD Cert.AdamSmallIdeal.τ).loc Cert.AdamSmallIdeal.main_arg11)) (m ((c.tc : Thread Cert.AdamSmallIdeal.nD Cert.AdamSmallIdeal.τ).loc Cert.AdamSmallIdeal.main_arg12)) (m ((c.tc : Thread Cert.AdamSmallIdeal.nD Cert.AdamSmallIdeal.τ).loc Cert.AdamSmallIdeal.main_arg13)) (m ((c.tc : Thread Cert.AdamSmallIdeal.nD Cert.AdamSmallIdeal.τ).loc Cert.AdamSmallIdeal.main_arg14)) (m ((c.tc : Thread Cert.AdamSmallIdeal.nD Cert.AdamSmallIdeal.τ).loc Cert.AdamSmallIdeal.main_arg15)) (m ((c.tc : Thread Cert.AdamSmallIdeal.nD Cert.AdamSmallIdeal.τ).loc Cert.AdamSmallIdeal.main_arg16)) (m ((c.tc : Thread Cert.AdamSmallIdeal.nD Cert.AdamSmallIdeal.τ).loc Cert.AdamSmallIdeal.main_arg17)) (m ((c.tc : Thread Cert.AdamSmallIdeal.nD Cert.AdamSmallIdeal.τ).loc Cert.AdamSmallIdeal.main_arg18)) (m ((c.tc : Thread Cert.AdamSmallIdeal.nD Cert.AdamSmallIdeal.τ).loc Cert.AdamSmallIdeal.main_arg19)) (m ((c.tc : Thread Cert.AdamSmallIdeal.nD Cert.AdamSmallIdeal.τ).loc Cert.AdamSmallIdeal.main_arg20)) (m ((c.tc : Thread Cert.AdamSmallIdeal.nD Cert.AdamSmallIdeal.τ).loc Cert.AdamSmallIdeal.main_arg21)) (m ((c.tc : Thread Cert.AdamSmallIdeal.nD Cert.AdamSmallIdeal.τ).loc Cert.AdamSmallIdeal.main_arg22)) (m ((c.tc : Thread Cert.AdamSmallIdeal.nD Cert.AdamSmallIdeal.τ).loc Cert.AdamSmallIdeal.main_arg23)) (m ((c.tc : Thread Cert.AdamSmallIdeal.nD Cert.AdamSmallIdeal.τ).loc Cert.AdamSmallIdeal.main_arg24)) (m ((c.tc : Thread Cert.AdamSmallIdeal.nD Cert.AdamSmallIdeal.τ).loc Cert.AdamSmallIdeal.main_arg25)) (m ((c.tc : Thread Cert.AdamSmallIdeal.nD Cert.AdamSmallIdeal.τ).loc Cert.AdamSmallIdeal.main_arg26)) (m ((c.tc : Thread Cert.AdamSmallIdeal.nD Cert.AdamSmallIdeal.τ).loc Cert.AdamSmallIdeal.main_arg27)) (m ((c.tc : Thread Cert.AdamSmallIdeal.nD Cert.AdamSmallIdeal.τ).loc Cert.AdamSmallIdeal.main_arg28)) (m ((c.tc : Thread Cert.AdamSmallIdeal.nD Cert.AdamSmallIdeal.τ).loc Cert.AdamSmallIdeal.main_arg29)) (m ((c.tc : Thread Cert.AdamSmallIdeal.nD Cert.AdamSmallIdeal.τ).loc Cert.AdamSmallIdeal.main_arg30)) (m ((c.tc : Thread Cert.AdamSmallIdeal.nD Cert.AdamSmallIdeal.τ).loc Cert.AdamSmallIdeal.main_arg31)) (m ((c.tc : Thread Cert.AdamSmallIdeal.nD Cert.AdamSmallIdeal.τ).loc Cert.AdamSmallIdeal.main_arg32)) (m ((c.tc : Thread Cert.AdamSmallIdeal.nD Cert.AdamSmallIdeal.τ).loc Cert.AdamSmallIdeal.main_arg33)) (m ((c.tc : Thread Cert.AdamSmallIdeal.nD Cert.AdamSmallIdeal.τ).loc Cert.AdamSmallIdeal.main_arg34)) (m ((c.tc : Thread Cert.AdamSmallIdeal.nD Cert.AdamSmallIdeal.τ).loc Cert.AdamSmallIdeal.main_arg35))).1 i = 1#1 → r.2.mem ((c.tc : Thread Cert.AdamSmallIdeal.nD Cert.AdamSmallIdeal.τ).loc Cert.AdamSmallIdeal.main_v44_0) i = v0 c i)
          ∧ (∀ i : (⟨2, ![160, 128]⟩ : Shape).Idx, (Cert.On_weights_part.fn (F := Ideal) (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)) (m ((c.tc : Thread Cert.AdamSmallIdeal.nD Cert.AdamSmallIdeal.τ).loc Cert.AdamSmallIdeal.main_arg4)) (m ((c.tc : Thread Cert.AdamSmallIdeal.nD Cert.AdamSmallIdeal.τ).loc Cert.AdamSmallIdeal.main_arg5)) (m ((c.tc : Thread Cert.AdamSmallIdeal.nD Cert.AdamSmallIdeal.τ).loc Cert.AdamSmallIdeal.main_arg6)) (m ((c.tc : Thread Cert.AdamSmallIdeal.nD Cert.AdamSmallIdeal.τ).loc Cert.AdamSmallIdeal.main_arg7)) (m ((c.tc : Thread Cert.AdamSmallIdeal.nD Cert.AdamSmallIdeal.τ).loc Cert.AdamSmallIdeal.main_arg8)) (m ((c.tc : Thread Cert.AdamSmallIdeal.nD Cert.AdamSmallIdeal.τ).loc Cert.AdamSmallIdeal.main_arg9)) (m ((c.tc : Thread Cert.AdamSmallIdeal.nD Cert.AdamSmallIdeal.τ).loc Cert.AdamSmallIdeal.main_arg10)) (m ((c.tc : Thread Cert.AdamSmallIdeal.nD Cert.AdamSmallIdeal.τ).loc Cert.AdamSmallIdeal.main_arg11)) (m ((c.tc : Thread Cert.AdamSmallIdeal.nD Cert.AdamSmallIdeal.τ).loc Cert.AdamSmallIdeal.main_arg12)) (m ((c.tc : Thread Cert.AdamSmallIdeal.nD Cert.AdamSmallIdeal.τ).loc Cert.AdamSmallIdeal.main_arg13)) (m ((c.tc : Thread Cert.AdamSmallIdeal.nD Cert.AdamSmallIdeal.τ).loc Cert.AdamSmallIdeal.main_arg14)) (m ((c.tc : Thread Cert.AdamSmallIdeal.nD Cert.AdamSmallIdeal.τ).loc Cert.AdamSmallIdeal.main_arg15)) (m ((c.tc : Thread Cert.AdamSmallIdeal.nD Cert.AdamSmallIdeal.τ).loc Cert.AdamSmallIdeal.main_arg16)) (m ((c.tc : Thread Cert.AdamSmallIdeal.nD Cert.AdamSmallIdeal.τ).loc Cert.AdamSmallIdeal.main_arg17)) (m ((c.tc : Thread Cert.AdamSmallIdeal.nD Cert.AdamSmallIdeal.τ).loc Cert.AdamSmallIdeal.main_arg18)) (m ((c.tc : Thread Cert.AdamSmallIdeal.nD Cert.AdamSmallIdeal.τ).loc Cert.AdamSmallIdeal.main_arg19)) (m ((c.tc : Thread Cert.AdamSmallIdeal.nD Cert.AdamSmallIdeal.τ).loc Cert.AdamSmallIdeal.main_arg20)) (m ((c.tc : Thread Cert.AdamSmallIdeal.nD Cert.AdamSmallIdeal.τ).loc Cert.AdamSmallIdeal.main_arg21)) (m ((c.tc : Thread Cert.AdamSmallIdeal.nD Cert.AdamSmallIdeal.τ).loc Cert.AdamSmallIdeal.main_arg22)) (m ((c.tc : Thread Cert.AdamSmallIdeal.nD Cert.AdamSmallIdeal.τ).loc Cert.AdamSmallIdeal.main_arg23)) (m ((c.tc : Thread Cert.AdamSmallIdeal.nD Cert.AdamSmallIdeal.τ).loc Cert.AdamSmallIdeal.main_arg24)) (m ((c.tc : Thread Cert.AdamSmallIdeal.nD Cert.AdamSmallIdeal.τ).loc Cert.AdamSmallIdeal.main_arg25)) (m ((c.tc : Thread Cert.AdamSmallIdeal.nD Cert.AdamSmallIdeal.τ).loc Cert.AdamSmallIdeal.main_arg26)) (m ((c.tc : Thread Cert.AdamSmallIdeal.nD Cert.AdamSmallIdeal.τ).loc Cert.AdamSmallIdeal.main_arg27)) (m ((c.tc : Thread Cert.AdamSmallIdeal.nD Cert.AdamSmallIdeal.τ).loc Cert.AdamSmallIdeal.main_arg28)) (m ((c.tc : Thread Cert.AdamSmallIdeal.nD Cert.AdamSmallIdeal.τ).loc Cert.AdamSmallIdeal.main_arg29)) (m ((c.tc : Thread Cert.AdamSmallIdeal.nD Cert.AdamSmallIdeal.τ).loc Cert.AdamSmallIdeal.main_arg30)) (m ((c.tc : Thread Cert.AdamSmallIdeal.nD Cert.AdamSmallIdeal.τ).loc Cert.AdamSmallIdeal.main_arg31)) (m ((c.tc : Thread Cert.AdamSmallIdeal.nD Cert.AdamSmallIdeal.τ).loc Cert.AdamSmallIdeal.main_arg32)) (m ((c.tc : Thread Cert.AdamSmallIdeal.nD Cert.AdamSmallIdeal.τ).loc Cert.AdamSmallIdeal.main_arg33)) (m ((c.tc : Thread Cert.AdamSmallIdeal.nD Cert.AdamSmallIdeal.τ).loc Cert.AdamSmallIdeal.main_arg34)) (m ((c.tc : Thread Cert.AdamSmallIdeal.nD Cert.AdamSmallIdeal.τ).loc Cert.AdamSmallIdeal.main_arg35))).2.1 i = 1#1 → r.2.mem ((c.tc : Thread Cert.AdamSmallIdeal.nD Cert.AdamSmallIdeal.τ).loc Cert.AdamSmallIdeal.main_v44_1) i = v1 c i)
          ∧ (∀ i : (⟨2, ![160, 128]⟩ : Shape).Idx, (Cert.On_weights_part.fn (F := Ideal) (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)) (m ((c.tc : Thread Cert.AdamSmallIdeal.nD Cert.AdamSmallIdeal.τ).loc Cert.AdamSmallIdeal.main_arg4)) (m ((c.tc : Thread Cert.AdamSmallIdeal.nD Cert.AdamSmallIdeal.τ).loc Cert.AdamSmallIdeal.main_arg5)) (m ((c.tc : Thread Cert.AdamSmallIdeal.nD Cert.AdamSmallIdeal.τ).loc Cert.AdamSmallIdeal.main_arg6)) (m ((c.tc : Thread Cert.AdamSmallIdeal.nD Cert.AdamSmallIdeal.τ).loc Cert.AdamSmallIdeal.main_arg7)) (m ((c.tc : Thread Cert.AdamSmallIdeal.nD Cert.AdamSmallIdeal.τ).loc Cert.AdamSmallIdeal.main_arg8)) (m ((c.tc : Thread Cert.AdamSmallIdeal.nD Cert.AdamSmallIdeal.τ).loc Cert.AdamSmallIdeal.main_arg9)) (m ((c.tc : Thread Cert.AdamSmallIdeal.nD Cert.AdamSmallIdeal.τ).loc Cert.AdamSmallIdeal.main_arg10)) (m ((c.tc : Thread Cert.AdamSmallIdeal.nD Cert.AdamSmallIdeal.τ).loc Cert.AdamSmallIdeal.main_arg11)) (m ((c.tc : Thread Cert.AdamSmallIdeal.nD Cert.AdamSmallIdeal.τ).loc Cert.AdamSmallIdeal.main_arg12)) (m ((c.tc : Thread Cert.AdamSmallIdeal.nD Cert.AdamSmallIdeal.τ).loc Cert.AdamSmallIdeal.main_arg13)) (m ((c.tc : Thread Cert.AdamSmallIdeal.nD Cert.AdamSmallIdeal.τ).loc Cert.AdamSmallIdeal.main_arg14)) (m ((c.tc : Thread Cert.AdamSmallIdeal.nD Cert.AdamSmallIdeal.τ).loc Cert.AdamSmallIdeal.main_arg15)) (m ((c.tc : Thread Cert.AdamSmallIdeal.nD Cert.AdamSmallIdeal.τ).loc Cert.AdamSmallIdeal.main_arg16)) (m ((c.tc : Thread Cert.AdamSmallIdeal.nD Cert.AdamSmallIdeal.τ).loc Cert.AdamSmallIdeal.main_arg17)) (m ((c.tc : Thread Cert.AdamSmallIdeal.nD Cert.AdamSmallIdeal.τ).loc Cert.AdamSmallIdeal.main_arg18)) (m ((c.tc : Thread Cert.AdamSmallIdeal.nD Cert.AdamSmallIdeal.τ).loc Cert.AdamSmallIdeal.main_arg19)) (m ((c.tc : Thread Cert.AdamSmallIdeal.nD Cert.AdamSmallIdeal.τ).loc Cert.AdamSmallIdeal.main_arg20)) (m ((c.tc : Thread Cert.AdamSmallIdeal.nD Cert.AdamSmallIdeal.τ).loc Cert.AdamSmallIdeal.main_arg21)) (m ((c.tc : Thread Cert.AdamSmallIdeal.nD Cert.AdamSmallIdeal.τ).loc Cert.AdamSmallIdeal.main_arg22)) (m ((c.tc : Thread Cert.AdamSmallIdeal.nD Cert.AdamSmallIdeal.τ).loc Cert.AdamSmallIdeal.main_arg23)) (m ((c.tc : Thread Cert.AdamSmallIdeal.nD Cert.AdamSmallIdeal.τ).loc Cert.AdamSmallIdeal.main_arg24)) (m ((c.tc : Thread Cert.AdamSmallIdeal.nD Cert.AdamSmallIdeal.τ).loc Cert.AdamSmallIdeal.main_arg25)) (m ((c.tc : Thread Cert.AdamSmallIdeal.nD Cert.AdamSmallIdeal.τ).loc Cert.AdamSmallIdeal.main_arg26)) (m ((c.tc : Thread Cert.AdamSmallIdeal.nD Cert.AdamSmallIdeal.τ).loc Cert.AdamSmallIdeal.main_arg27)) (m ((c.tc : Thread Cert.AdamSmallIdeal.nD Cert.AdamSmallIdeal.τ).loc Cert.AdamSmallIdeal.main_arg28)) (m ((c.tc : Thread Cert.AdamSmallIdeal.nD Cert.AdamSmallIdeal.τ).loc Cert.AdamSmallIdeal.main_arg29)) (m ((c.tc : Thread Cert.AdamSmallIdeal.nD Cert.AdamSmallIdeal.τ).loc Cert.AdamSmallIdeal.main_arg30)) (m ((c.tc : Thread Cert.AdamSmallIdeal.nD Cert.AdamSmallIdeal.τ).loc Cert.AdamSmallIdeal.main_arg31)) (m ((c.tc : Thread Cert.AdamSmallIdeal.nD Cert.AdamSmallIdeal.τ).loc Cert.AdamSmallIdeal.main_arg32)) (m ((c.tc : Thread Cert.AdamSmallIdeal.nD Cert.AdamSmallIdeal.τ).loc Cert.AdamSmallIdeal.main_arg33)) (m ((c.tc : Thread Cert.AdamSmallIdeal.nD Cert.AdamSmallIdeal.τ).loc Cert.AdamSmallIdeal.main_arg34)) (m ((c.tc : Thread Cert.AdamSmallIdeal.nD Cert.AdamSmallIdeal.τ).loc Cert.AdamSmallIdeal.main_arg35))).2.2 i = 1#1 → r.2.mem ((c.tc : Thread Cert.AdamSmallIdeal.nD Cert.AdamSmallIdeal.τ).loc Cert.AdamSmallIdeal.main_v44_2) i = v2 c i)
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          (∀ i : (⟨2, ![160, 128]⟩ : Shape).Idx, (Cert.On_weights_part.fn (F := Ideal) (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)) (m ((c.tc : Thread Cert.AdamSmallIdeal.nD Cert.AdamSmallIdeal.τ).loc Cert.AdamSmallIdeal.main_arg4)) (m ((c.tc : Thread Cert.AdamSmallIdeal.nD Cert.AdamSmallIdeal.τ).loc Cert.AdamSmallIdeal.main_arg5)) (m ((c.tc : Thread Cert.AdamSmallIdeal.nD Cert.AdamSmallIdeal.τ).loc Cert.AdamSmallIdeal.main_arg6)) (m ((c.tc : Thread Cert.AdamSmallIdeal.nD Cert.AdamSmallIdeal.τ).loc Cert.AdamSmallIdeal.main_arg7)) (m ((c.tc : Thread Cert.AdamSmallIdeal.nD Cert.AdamSmallIdeal.τ).loc Cert.AdamSmallIdeal.main_arg8)) (m ((c.tc : Thread Cert.AdamSmallIdeal.nD Cert.AdamSmallIdeal.τ).loc Cert.AdamSmallIdeal.main_arg9)) (m ((c.tc : Thread Cert.AdamSmallIdeal.nD Cert.AdamSmallIdeal.τ).loc Cert.AdamSmallIdeal.main_arg10)) (m ((c.tc : Thread Cert.AdamSmallIdeal.nD Cert.AdamSmallIdeal.τ).loc Cert.AdamSmallIdeal.main_arg11)) (m ((c.tc : Thread Cert.AdamSmallIdeal.nD Cert.AdamSmallIdeal.τ).loc Cert.AdamSmallIdeal.main_arg12)) (m ((c.tc : Thread Cert.AdamSmallIdeal.nD Cert.AdamSmallIdeal.τ).loc Cert.AdamSmallIdeal.main_arg13)) (m ((c.tc : Thread Cert.AdamSmallIdeal.nD Cert.AdamSmallIdeal.τ).loc Cert.AdamSmallIdeal.main_arg14)) (m ((c.tc : Thread Cert.AdamSmallIdeal.nD Cert.AdamSmallIdeal.τ).loc Cert.AdamSmallIdeal.main_arg15)) (m ((c.tc : Thread Cert.AdamSmallIdeal.nD Cert.AdamSmallIdeal.τ).loc Cert.AdamSmallIdeal.main_arg16)) (m ((c.tc : Thread Cert.AdamSmallIdeal.nD Cert.AdamSmallIdeal.τ).loc Cert.AdamSmallIdeal.main_arg17)) (m ((c.tc : Thread Cert.AdamSmallIdeal.nD Cert.AdamSmallIdeal.τ).loc Cert.AdamSmallIdeal.main_arg18)) (m ((c.tc : Thread Cert.AdamSmallIdeal.nD Cert.AdamSmallIdeal.τ).loc Cert.AdamSmallIdeal.main_arg19)) (m ((c.tc : Thread Cert.AdamSmallIdeal.nD Cert.AdamSmallIdeal.τ).loc Cert.AdamSmallIdeal.main_arg20)) (m ((c.tc : Thread Cert.AdamSmallIdeal.nD Cert.AdamSmallIdeal.τ).loc Cert.AdamSmallIdeal.main_arg21)) (m ((c.tc : Thread Cert.AdamSmallIdeal.nD Cert.AdamSmallIdeal.τ).loc Cert.AdamSmallIdeal.main_arg22)) (m ((c.tc : Thread Cert.AdamSmallIdeal.nD Cert.AdamSmallIdeal.τ).loc Cert.AdamSmallIdeal.main_arg23)) (m ((c.tc : Thread Cert.AdamSmallIdeal.nD Cert.AdamSmallIdeal.τ).loc Cert.AdamSmallIdeal.main_arg24)) (m ((c.tc : Thread Cert.AdamSmallIdeal.nD Cert.AdamSmallIdeal.τ).loc Cert.AdamSmallIdeal.main_arg25)) (m ((c.tc : Thread Cert.AdamSmallIdeal.nD Cert.AdamSmallIdeal.τ).loc Cert.AdamSmallIdeal.main_arg26)) (m ((c.tc : Thread Cert.AdamSmallIdeal.nD Cert.AdamSmallIdeal.τ).loc Cert.AdamSmallIdeal.main_arg27)) (m ((c.tc : Thread Cert.AdamSmallIdeal.nD Cert.AdamSmallIdeal.τ).loc Cert.AdamSmallIdeal.main_arg28)) (m ((c.tc : Thread Cert.AdamSmallIdeal.nD Cert.AdamSmallIdeal.τ).loc Cert.AdamSmallIdeal.main_arg29)) (m ((c.tc : Thread Cert.AdamSmallIdeal.nD Cert.AdamSmallIdeal.τ).loc Cert.AdamSmallIdeal.main_arg30)) (m ((c.tc : Thread Cert.AdamSmallIdeal.nD Cert.AdamSmallIdeal.τ).loc Cert.AdamSmallIdeal.main_arg31)) (m ((c.tc : Thread Cert.AdamSmallIdeal.nD Cert.AdamSmallIdeal.τ).loc Cert.AdamSmallIdeal.main_arg32)) (m ((c.tc : Thread Cert.AdamSmallIdeal.nD Cert.AdamSmallIdeal.τ).loc Cert.AdamSmallIdeal.main_arg33)) (m ((c.tc : Thread Cert.AdamSmallIdeal.nD Cert.AdamSmallIdeal.τ).loc Cert.AdamSmallIdeal.main_arg34)) (m ((c.tc : Thread Cert.AdamSmallIdeal.nD Cert.AdamSmallIdeal.τ).loc Cert.AdamSmallIdeal.main_arg35))).1 i = 1#1 → r.2.mem ((c.tc : Thread Cert.AdamSmallRefIdeal.nD Cert.AdamSmallRefIdeal.τ).loc Cert.AdamSmallRefIdeal.main_v226) i = v0 c i)
          ∧ (∀ i : (⟨2, ![160, 128]⟩ : Shape).Idx, (Cert.On_weights_part.fn (F := Ideal) (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)) (m ((c.tc : Thread Cert.AdamSmallIdeal.nD Cert.AdamSmallIdeal.τ).loc Cert.AdamSmallIdeal.main_arg4)) (m ((c.tc : Thread Cert.AdamSmallIdeal.nD Cert.AdamSmallIdeal.τ).loc Cert.AdamSmallIdeal.main_arg5)) (m ((c.tc : Thread Cert.AdamSmallIdeal.nD Cert.AdamSmallIdeal.τ).loc Cert.AdamSmallIdeal.main_arg6)) (m ((c.tc : Thread Cert.AdamSmallIdeal.nD Cert.AdamSmallIdeal.τ).loc Cert.AdamSmallIdeal.main_arg7)) (m ((c.tc : Thread Cert.AdamSmallIdeal.nD Cert.AdamSmallIdeal.τ).loc Cert.AdamSmallIdeal.main_arg8)) (m ((c.tc : Thread Cert.AdamSmallIdeal.nD Cert.AdamSmallIdeal.τ).loc Cert.AdamSmallIdeal.main_arg9)) (m ((c.tc : Thread Cert.AdamSmallIdeal.nD Cert.AdamSmallIdeal.τ).loc Cert.AdamSmallIdeal.main_arg10)) (m ((c.tc : Thread Cert.AdamSmallIdeal.nD Cert.AdamSmallIdeal.τ).loc Cert.AdamSmallIdeal.main_arg11)) (m ((c.tc : Thread Cert.AdamSmallIdeal.nD Cert.AdamSmallIdeal.τ).loc Cert.AdamSmallIdeal.main_arg12)) (m ((c.tc : Thread Cert.AdamSmallIdeal.nD Cert.AdamSmallIdeal.τ).loc Cert.AdamSmallIdeal.main_arg13)) (m ((c.tc : Thread Cert.AdamSmallIdeal.nD Cert.AdamSmallIdeal.τ).loc Cert.AdamSmallIdeal.main_arg14)) (m ((c.tc : Thread Cert.AdamSmallIdeal.nD Cert.AdamSmallIdeal.τ).loc Cert.AdamSmallIdeal.main_arg15)) (m ((c.tc : Thread Cert.AdamSmallIdeal.nD Cert.AdamSmallIdeal.τ).loc Cert.AdamSmallIdeal.main_arg16)) (m ((c.tc : Thread Cert.AdamSmallIdeal.nD Cert.AdamSmallIdeal.τ).loc Cert.AdamSmallIdeal.main_arg17)) (m ((c.tc : Thread Cert.AdamSmallIdeal.nD Cert.AdamSmallIdeal.τ).loc Cert.AdamSmallIdeal.main_arg18)) (m ((c.tc : Thread Cert.AdamSmallIdeal.nD Cert.AdamSmallIdeal.τ).loc Cert.AdamSmallIdeal.main_arg19)) (m ((c.tc : Thread Cert.AdamSmallIdeal.nD Cert.AdamSmallIdeal.τ).loc Cert.AdamSmallIdeal.main_arg20)) (m ((c.tc : Thread Cert.AdamSmallIdeal.nD Cert.AdamSmallIdeal.τ).loc Cert.AdamSmallIdeal.main_arg21)) (m ((c.tc : Thread Cert.AdamSmallIdeal.nD Cert.AdamSmallIdeal.τ).loc Cert.AdamSmallIdeal.main_arg22)) (m ((c.tc : Thread Cert.AdamSmallIdeal.nD Cert.AdamSmallIdeal.τ).loc Cert.AdamSmallIdeal.main_arg23)) (m ((c.tc : Thread Cert.AdamSmallIdeal.nD Cert.AdamSmallIdeal.τ).loc Cert.AdamSmallIdeal.main_arg24)) (m ((c.tc : Thread Cert.AdamSmallIdeal.nD Cert.AdamSmallIdeal.τ).loc Cert.AdamSmallIdeal.main_arg25)) (m ((c.tc : Thread Cert.AdamSmallIdeal.nD Cert.AdamSmallIdeal.τ).loc Cert.AdamSmallIdeal.main_arg26)) (m ((c.tc : Thread Cert.AdamSmallIdeal.nD Cert.AdamSmallIdeal.τ).loc Cert.AdamSmallIdeal.main_arg27)) (m ((c.tc : Thread Cert.AdamSmallIdeal.nD Cert.AdamSmallIdeal.τ).loc Cert.AdamSmallIdeal.main_arg28)) (m ((c.tc : Thread Cert.AdamSmallIdeal.nD Cert.AdamSmallIdeal.τ).loc Cert.AdamSmallIdeal.main_arg29)) (m ((c.tc : Thread Cert.AdamSmallIdeal.nD Cert.AdamSmallIdeal.τ).loc Cert.AdamSmallIdeal.main_arg30)) (m ((c.tc : Thread Cert.AdamSmallIdeal.nD Cert.AdamSmallIdeal.τ).loc Cert.AdamSmallIdeal.main_arg31)) (m ((c.tc : Thread Cert.AdamSmallIdeal.nD Cert.AdamSmallIdeal.τ).loc Cert.AdamSmallIdeal.main_arg32)) (m ((c.tc : Thread Cert.AdamSmallIdeal.nD Cert.AdamSmallIdeal.τ).loc Cert.AdamSmallIdeal.main_arg33)) (m ((c.tc : Thread Cert.AdamSmallIdeal.nD Cert.AdamSmallIdeal.τ).loc Cert.AdamSmallIdeal.main_arg34)) (m ((c.tc : Thread Cert.AdamSmallIdeal.nD Cert.AdamSmallIdeal.τ).loc Cert.AdamSmallIdeal.main_arg35))).2.1 i = 1#1 → r.2.mem ((c.tc : Thread Cert.AdamSmallRefIdeal.nD Cert.AdamSmallRefIdeal.τ).loc Cert.AdamSmallRefIdeal.main_v237) i = v1 c i)
          ∧ (∀ i : (⟨2, ![160, 128]⟩ : Shape).Idx, (Cert.On_weights_part.fn (F := Ideal) (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)) (m ((c.tc : Thread Cert.AdamSmallIdeal.nD Cert.AdamSmallIdeal.τ).loc Cert.AdamSmallIdeal.main_arg4)) (m ((c.tc : Thread Cert.AdamSmallIdeal.nD Cert.AdamSmallIdeal.τ).loc Cert.AdamSmallIdeal.main_arg5)) (m ((c.tc : Thread Cert.AdamSmallIdeal.nD Cert.AdamSmallIdeal.τ).loc Cert.AdamSmallIdeal.main_arg6)) (m ((c.tc : Thread Cert.AdamSmallIdeal.nD Cert.AdamSmallIdeal.τ).loc Cert.AdamSmallIdeal.main_arg7)) (m ((c.tc : Thread Cert.AdamSmallIdeal.nD Cert.AdamSmallIdeal.τ).loc Cert.AdamSmallIdeal.main_arg8)) (m ((c.tc : Thread Cert.AdamSmallIdeal.nD Cert.AdamSmallIdeal.τ).loc Cert.AdamSmallIdeal.main_arg9)) (m ((c.tc : Thread Cert.AdamSmallIdeal.nD Cert.AdamSmallIdeal.τ).loc Cert.AdamSmallIdeal.main_arg10)) (m ((c.tc : Thread Cert.AdamSmallIdeal.nD Cert.AdamSmallIdeal.τ).loc Cert.AdamSmallIdeal.main_arg11)) (m ((c.tc : Thread Cert.AdamSmallIdeal.nD Cert.AdamSmallIdeal.τ).loc Cert.AdamSmallIdeal.main_arg12)) (m ((c.tc : Thread Cert.AdamSmallIdeal.nD Cert.AdamSmallIdeal.τ).loc Cert.AdamSmallIdeal.main_arg13)) (m ((c.tc : Thread Cert.AdamSmallIdeal.nD Cert.AdamSmallIdeal.τ).loc Cert.AdamSmallIdeal.main_arg14)) (m ((c.tc : Thread Cert.AdamSmallIdeal.nD Cert.AdamSmallIdeal.τ).loc Cert.AdamSmallIdeal.main_arg15)) (m ((c.tc : Thread Cert.AdamSmallIdeal.nD Cert.AdamSmallIdeal.τ).loc Cert.AdamSmallIdeal.main_arg16)) (m ((c.tc : Thread Cert.AdamSmallIdeal.nD Cert.AdamSmallIdeal.τ).loc Cert.AdamSmallIdeal.main_arg17)) (m ((c.tc : Thread Cert.AdamSmallIdeal.nD Cert.AdamSmallIdeal.τ).loc Cert.AdamSmallIdeal.main_arg18)) (m ((c.tc : Thread Cert.AdamSmallIdeal.nD Cert.AdamSmallIdeal.τ).loc Cert.AdamSmallIdeal.main_arg19)) (m ((c.tc : Thread Cert.AdamSmallIdeal.nD Cert.AdamSmallIdeal.τ).loc Cert.AdamSmallIdeal.main_arg20)) (m ((c.tc : Thread Cert.AdamSmallIdeal.nD Cert.AdamSmallIdeal.τ).loc Cert.AdamSmallIdeal.main_arg21)) (m ((c.tc : Thread Cert.AdamSmallIdeal.nD Cert.AdamSmallIdeal.τ).loc Cert.AdamSmallIdeal.main_arg22)) (m ((c.tc : Thread Cert.AdamSmallIdeal.nD Cert.AdamSmallIdeal.τ).loc Cert.AdamSmallIdeal.main_arg23)) (m ((c.tc : Thread Cert.AdamSmallIdeal.nD Cert.AdamSmallIdeal.τ).loc Cert.AdamSmallIdeal.main_arg24)) (m ((c.tc : Thread Cert.AdamSmallIdeal.nD Cert.AdamSmallIdeal.τ).loc Cert.AdamSmallIdeal.main_arg25)) (m ((c.tc : Thread Cert.AdamSmallIdeal.nD Cert.AdamSmallIdeal.τ).loc Cert.AdamSmallIdeal.main_arg26)) (m ((c.tc : Thread Cert.AdamSmallIdeal.nD Cert.AdamSmallIdeal.τ).loc Cert.AdamSmallIdeal.main_arg27)) (m ((c.tc : Thread Cert.AdamSmallIdeal.nD Cert.AdamSmallIdeal.τ).loc Cert.AdamSmallIdeal.main_arg28)) (m ((c.tc : Thread Cert.AdamSmallIdeal.nD Cert.AdamSmallIdeal.τ).loc Cert.AdamSmallIdeal.main_arg29)) (m ((c.tc : Thread Cert.AdamSmallIdeal.nD Cert.AdamSmallIdeal.τ).loc Cert.AdamSmallIdeal.main_arg30)) (m ((c.tc : Thread Cert.AdamSmallIdeal.nD Cert.AdamSmallIdeal.τ).loc Cert.AdamSmallIdeal.main_arg31)) (m ((c.tc : Thread Cert.AdamSmallIdeal.nD Cert.AdamSmallIdeal.τ).loc Cert.AdamSmallIdeal.main_arg32)) (m ((c.tc : Thread Cert.AdamSmallIdeal.nD Cert.AdamSmallIdeal.τ).loc Cert.AdamSmallIdeal.main_arg33)) (m ((c.tc : Thread Cert.AdamSmallIdeal.nD Cert.AdamSmallIdeal.τ).loc Cert.AdamSmallIdeal.main_arg34)) (m ((c.tc : Thread Cert.AdamSmallIdeal.nD Cert.AdamSmallIdeal.τ).loc Cert.AdamSmallIdeal.main_arg35))).2.2 i = 1#1 → r.2.mem ((c.tc : Thread Cert.AdamSmallRefIdeal.nD Cert.AdamSmallRefIdeal.τ).loc Cert.AdamSmallRefIdeal.main_v248) i = v2 c i)
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35))

def Claim : Prop :=
  ∃ (hSsmOut : Cert.SsmOut.Facts) (hSsmOutIdeal : Cert.SsmOutIdeal.Facts) (hSsmOutRefIdeal : Cert.SsmOutRefIdeal.Facts) (hGroup : Cert.Group.Facts) (hGroupIdeal : Cert.GroupIdeal.Facts) (hGroupRefIdeal : Cert.GroupRefIdeal.Facts) (hPoolIn : Cert.PoolIn.Facts) (hPoolInIdeal : Cert.PoolInIdeal.Facts) (hPoolInRefIdeal : Cert.PoolInRefIdeal.Facts) (hInDt : Cert.InDt.Facts) (hInDtIdeal : Cert.InDtIdeal.Facts) (hInDtRefIdeal : Cert.InDtRefIdeal.Facts) (hInProj : Cert.InProj.Facts) (hInProjIdeal : Cert.InProjIdeal.Facts) (hInProjRefIdeal : Cert.InProjRefIdeal.Facts) (hWOut : Cert.WOut.Facts) (hWOutIdeal : Cert.WOutIdeal.Facts) (hWOutRefIdeal : Cert.WOutRefIdeal.Facts) (hWPoolIn : Cert.WPoolIn.Facts) (hWPoolInIdeal : Cert.WPoolInIdeal.Facts) (hWPoolInRefIdeal : Cert.WPoolInRefIdeal.Facts) (hWGroup : Cert.WGroup.Facts) (hWGroupIdeal : Cert.WGroupIdeal.Facts) (hWGroupRefIdeal : Cert.WGroupRefIdeal.Facts) (hFIn : Cert.FIn.Facts) (hFInIdeal : Cert.FInIdeal.Facts) (hFInRefIdeal : Cert.FInRefIdeal.Facts) (hFInDt : Cert.FInDt.Facts) (hFInDtIdeal : Cert.FInDtIdeal.Facts) (hFInDtRefIdeal : Cert.FInDtRefIdeal.Facts) (hFOut : Cert.FOut.Facts) (hFOutIdeal : Cert.FOutIdeal.Facts) (hFOutRefIdeal : Cert.FOutRefIdeal.Facts) (hFPoolIn : Cert.FPoolIn.Facts) (hFPoolInIdeal : Cert.FPoolInIdeal.Facts) (hFPoolInRefIdeal : Cert.FPoolInRefIdeal.Facts) (hFGroup : Cert.FGroup.Facts) (hFGroupIdeal : Cert.FGroupIdeal.Facts) (hFGroupRefIdeal : Cert.FGroupRefIdeal.Facts) (hPoolMix : Cert.PoolMix.Facts) (hPoolMixIdeal : Cert.PoolMixIdeal.Facts) (hPoolMixRefIdeal : Cert.PoolMixRefIdeal.Facts) (hRmsBwd : Cert.RmsBwd.Facts) (hRmsBwdIdeal : Cert.RmsBwdIdeal.Facts) (hRmsBwdRefIdeal : Cert.RmsBwdRefIdeal.Facts) (hLossHead : Cert.LossHead.Facts) (hLossHeadIdeal : Cert.LossHeadIdeal.Facts) (hLossHeadRefIdeal : Cert.LossHeadRefIdeal.Facts) (hSumSmall : Cert.SumSmall.Facts) (hSumSmallIdeal : Cert.SumSmallIdeal.Facts) (hSumSmallRefIdeal : Cert.SumSmallRefIdeal.Facts) (hSumOut : Cert.SumOut.Facts) (hSumOutIdeal : Cert.SumOutIdeal.Facts) (hSumOutRefIdeal : Cert.SumOutRefIdeal.Facts) (hSumPoolIn : Cert.SumPoolIn.Facts) (hSumPoolInIdeal : Cert.SumPoolInIdeal.Facts) (hSumPoolInRefIdeal : Cert.SumPoolInRefIdeal.Facts) (hSumGroup : Cert.SumGroup.Facts) (hSumGroupIdeal : Cert.SumGroupIdeal.Facts) (hSumGroupRefIdeal : Cert.SumGroupRefIdeal.Facts) (hSumIn : Cert.SumIn.Facts) (hSumInIdeal : Cert.SumInIdeal.Facts) (hSumInRefIdeal : Cert.SumInRefIdeal.Facts) (hAdamOut : Cert.AdamOut.Facts) (hAdamOutIdeal : Cert.AdamOutIdeal.Facts) (hAdamOutRefIdeal : Cert.AdamOutRefIdeal.Facts) (hAdamPoolIn : Cert.AdamPoolIn.Facts) (hAdamPoolInIdeal : Cert.AdamPoolInIdeal.Facts) (hAdamPoolInRefIdeal : Cert.AdamPoolInRefIdeal.Facts) (hAdamGroup : Cert.AdamGroup.Facts) (hAdamGroupIdeal : Cert.AdamGroupIdeal.Facts) (hAdamGroupRefIdeal : Cert.AdamGroupRefIdeal.Facts) (hAdamIn : Cert.AdamIn.Facts) (hAdamInIdeal : Cert.AdamInIdeal.Facts) (hAdamInRefIdeal : Cert.AdamInRefIdeal.Facts) (hAdamSmall : Cert.AdamSmall.Facts) (hAdamSmallIdeal : Cert.AdamSmallIdeal.Facts) (hAdamSmallRefIdeal : Cert.AdamSmallRefIdeal.Facts) (hPre_finite_mix : Cert.Pre_finite_mix.Facts) (hOn_weights_part : Cert.On_weights_part.Facts),
    quiescent_SsmOut (hSsmOut := hSsmOut)
    ∧ quiescent_SsmOutIdeal (hSsmOutIdeal := hSsmOutIdeal)
    ∧ quiescent_SsmOutRefIdeal (hSsmOutRefIdeal := hSsmOutRefIdeal)
    ∧ quiescent_Group (hGroup := hGroup)
    ∧ quiescent_GroupIdeal (hGroupIdeal := hGroupIdeal)
    ∧ quiescent_GroupRefIdeal (hGroupRefIdeal := hGroupRefIdeal)
    ∧ quiescent_PoolIn (hPoolIn := hPoolIn)
    ∧ quiescent_PoolInIdeal (hPoolInIdeal := hPoolInIdeal)
    ∧ quiescent_PoolInRefIdeal (hPoolInRefIdeal := hPoolInRefIdeal)
    ∧ quiescent_InDt (hInDt := hInDt)
    ∧ quiescent_InDtIdeal (hInDtIdeal := hInDtIdeal)
    ∧ quiescent_InDtRefIdeal (hInDtRefIdeal := hInDtRefIdeal)
    ∧ quiescent_InProj (hInProj := hInProj)
    ∧ quiescent_InProjIdeal (hInProjIdeal := hInProjIdeal)
    ∧ quiescent_InProjRefIdeal (hInProjRefIdeal := hInProjRefIdeal)
    ∧ quiescent_WOut (hWOut := hWOut)
    ∧ quiescent_WOutIdeal (hWOutIdeal := hWOutIdeal)
    ∧ quiescent_WOutRefIdeal (hWOutRefIdeal := hWOutRefIdeal)
    ∧ quiescent_WPoolIn (hWPoolIn := hWPoolIn)
    ∧ quiescent_WPoolInIdeal (hWPoolInIdeal := hWPoolInIdeal)
    ∧ quiescent_WPoolInRefIdeal (hWPoolInRefIdeal := hWPoolInRefIdeal)
    ∧ quiescent_WGroup (hWGroup := hWGroup)
    ∧ quiescent_WGroupIdeal (hWGroupIdeal := hWGroupIdeal)
    ∧ quiescent_WGroupRefIdeal (hWGroupRefIdeal := hWGroupRefIdeal)
    ∧ quiescent_FIn (hFIn := hFIn)
    ∧ quiescent_FInIdeal (hFInIdeal := hFInIdeal)
    ∧ quiescent_FInRefIdeal (hFInRefIdeal := hFInRefIdeal)
    ∧ quiescent_FInDt (hFInDt := hFInDt)
    ∧ quiescent_FInDtIdeal (hFInDtIdeal := hFInDtIdeal)
    ∧ quiescent_FInDtRefIdeal (hFInDtRefIdeal := hFInDtRefIdeal)
    ∧ quiescent_FOut (hFOut := hFOut)
    ∧ quiescent_FOutIdeal (hFOutIdeal := hFOutIdeal)
    ∧ quiescent_FOutRefIdeal (hFOutRefIdeal := hFOutRefIdeal)
    ∧ quiescent_FPoolIn (hFPoolIn := hFPoolIn)
    ∧ quiescent_FPoolInIdeal (hFPoolInIdeal := hFPoolInIdeal)
    ∧ quiescent_FPoolInRefIdeal (hFPoolInRefIdeal := hFPoolInRefIdeal)
    ∧ quiescent_FGroup (hFGroup := hFGroup)
    ∧ quiescent_FGroupIdeal (hFGroupIdeal := hFGroupIdeal)
    ∧ quiescent_FGroupRefIdeal (hFGroupRefIdeal := hFGroupRefIdeal)
    ∧ quiescent_PoolMix (hPoolMix := hPoolMix)
    ∧ quiescent_PoolMixIdeal (hPoolMixIdeal := hPoolMixIdeal)
    ∧ quiescent_PoolMixIdeal_pre_finite_mix (hPoolMixIdeal := hPoolMixIdeal) (hPre_finite_mix := hPre_finite_mix)
    ∧ quiescent_PoolMixRefIdeal (hPoolMixRefIdeal := hPoolMixRefIdeal)
    ∧ quiescent_PoolMixRefIdeal_pre_finite_mix (hPoolMixRefIdeal := hPoolMixRefIdeal) (hPre_finite_mix := hPre_finite_mix)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumPoolIn (hSumPoolIn := hSumPoolIn)
    ∧ quiescent_SumPoolInIdeal (hSumPoolInIdeal := hSumPoolInIdeal)
    ∧ quiescent_SumPoolInRefIdeal (hSumPoolInRefIdeal := hSumPoolInRefIdeal)
    ∧ quiescent_SumGroup (hSumGroup := hSumGroup)
    ∧ quiescent_SumGroupIdeal (hSumGroupIdeal := hSumGroupIdeal)
    ∧ quiescent_SumGroupRefIdeal (hSumGroupRefIdeal := hSumGroupRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamPoolIn (hAdamPoolIn := hAdamPoolIn)
    ∧ quiescent_AdamPoolInIdeal (hAdamPoolInIdeal := hAdamPoolInIdeal)
    ∧ quiescent_AdamPoolInRefIdeal (hAdamPoolInRefIdeal := hAdamPoolInRefIdeal)
    ∧ quiescent_AdamGroup (hAdamGroup := hAdamGroup)
    ∧ quiescent_AdamGroupIdeal (hAdamGroupIdeal := hAdamGroupIdeal)
    ∧ quiescent_AdamGroupRefIdeal (hAdamGroupRefIdeal := hAdamGroupRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_SsmOut_SsmOutIdeal
    ∧ algebraic_SsmOutIdeal_SsmOutRefIdeal (hSsmOutIdeal := hSsmOutIdeal) (hSsmOutRefIdeal := hSsmOutRefIdeal)
    ∧ preserves_Group_GroupIdeal
    ∧ algebraic_GroupIdeal_GroupRefIdeal (hGroupIdeal := hGroupIdeal) (hGroupRefIdeal := hGroupRefIdeal)
    ∧ preserves_PoolIn_PoolInIdeal
    ∧ algebraic_PoolInIdeal_PoolInRefIdeal (hPoolInIdeal := hPoolInIdeal) (hPoolInRefIdeal := hPoolInRefIdeal)
    ∧ preserves_InDt_InDtIdeal
    ∧ algebraic_InDtIdeal_InDtRefIdeal (hInDtIdeal := hInDtIdeal) (hInDtRefIdeal := hInDtRefIdeal)
    ∧ preserves_InProj_InProjIdeal
    ∧ algebraic_InProjIdeal_InProjRefIdeal (hInProjIdeal := hInProjIdeal) (hInProjRefIdeal := hInProjRefIdeal)
    ∧ preserves_WOut_WOutIdeal
    ∧ algebraic_WOutIdeal_WOutRefIdeal (hWOutIdeal := hWOutIdeal) (hWOutRefIdeal := hWOutRefIdeal)
    ∧ preserves_WPoolIn_WPoolInIdeal
    ∧ algebraic_WPoolInIdeal_WPoolInRefIdeal (hWPoolInIdeal := hWPoolInIdeal) (hWPoolInRefIdeal := hWPoolInRefIdeal)
    ∧ preserves_WGroup_WGroupIdeal
    ∧ algebraic_WGroupIdeal_WGroupRefIdeal (hWGroupIdeal := hWGroupIdeal) (hWGroupRefIdeal := hWGroupRefIdeal)
    ∧ preserves_FIn_FInIdeal
    ∧ algebraic_FInIdeal_FInRefIdeal (hFInIdeal := hFInIdeal) (hFInRefIdeal := hFInRefIdeal)
    ∧ preserves_FInDt_FInDtIdeal
    ∧ algebraic_FInDtIdeal_FInDtRefIdeal (hFInDtIdeal := hFInDtIdeal) (hFInDtRefIdeal := hFInDtRefIdeal)
    ∧ preserves_FOut_FOutIdeal
    ∧ algebraic_FOutIdeal_FOutRefIdeal (hFOutIdeal := hFOutIdeal) (hFOutRefIdeal := hFOutRefIdeal)
    ∧ preserves_FPoolIn_FPoolInIdeal
    ∧ algebraic_FPoolInIdeal_FPoolInRefIdeal (hFPoolInIdeal := hFPoolInIdeal) (hFPoolInRefIdeal := hFPoolInRefIdeal)
    ∧ preserves_FGroup_FGroupIdeal
    ∧ algebraic_FGroupIdeal_FGroupRefIdeal (hFGroupIdeal := hFGroupIdeal) (hFGroupRefIdeal := hFGroupRefIdeal)
    ∧ preserves_PoolMix_PoolMixIdeal
    ∧ algebraic_PoolMixIdeal_PoolMixRefIdeal_pre_finite_mix (hPoolMixIdeal := hPoolMixIdeal) (hPoolMixRefIdeal := hPoolMixRefIdeal) (hPre_finite_mix := hPre_finite_mix)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumOut_SumOutIdeal
    ∧ algebraic_SumOutIdeal_SumOutRefIdeal (hSumOutIdeal := hSumOutIdeal) (hSumOutRefIdeal := hSumOutRefIdeal)
    ∧ preserves_SumPoolIn_SumPoolInIdeal
    ∧ algebraic_SumPoolInIdeal_SumPoolInRefIdeal (hSumPoolInIdeal := hSumPoolInIdeal) (hSumPoolInRefIdeal := hSumPoolInRefIdeal)
    ∧ preserves_SumGroup_SumGroupIdeal
    ∧ algebraic_SumGroupIdeal_SumGroupRefIdeal (hSumGroupIdeal := hSumGroupIdeal) (hSumGroupRefIdeal := hSumGroupRefIdeal)
    ∧ preserves_SumIn_SumInIdeal
    ∧ algebraic_SumInIdeal_SumInRefIdeal (hSumInIdeal := hSumInIdeal) (hSumInRefIdeal := hSumInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamPoolIn_AdamPoolInIdeal
    ∧ algebraic_AdamPoolInIdeal_AdamPoolInRefIdeal (hAdamPoolInIdeal := hAdamPoolInIdeal) (hAdamPoolInRefIdeal := hAdamPoolInRefIdeal)
    ∧ preserves_AdamGroup_AdamGroupIdeal
    ∧ algebraic_AdamGroupIdeal_AdamGroupRefIdeal (hAdamGroupIdeal := hAdamGroupIdeal) (hAdamGroupRefIdeal := hAdamGroupRefIdeal)
    ∧ preserves_AdamIn_AdamInIdeal
    ∧ algebraic_AdamInIdeal_AdamInRefIdeal (hAdamInIdeal := hAdamInIdeal) (hAdamInRefIdeal := hAdamInRefIdeal)
    ∧ preserves_AdamSmall_AdamSmallIdeal
    ∧ algebraic_AdamSmallIdeal_AdamSmallRefIdeal_on_weights_part (hAdamSmallIdeal := hAdamSmallIdeal) (hAdamSmallRefIdeal := hAdamSmallRefIdeal) (hOn_weights_part := hOn_weights_part)
-- ==== On_weights_part.lean ====
abbrev S2x2048 : Shape := ⟨2, ![2, 2048]⟩
abbrev S2048 : Shape := ⟨1, ![2048]⟩
abbrev S1x4x768 : Shape := ⟨3, ![1, 4, 768]⟩
abbrev S1x6144 : Shape := ⟨2, ![1, 6144]⟩
abbrev S1x64 : Shape := ⟨2, ![1, 64]⟩
abbrev S1x4096 : Shape := ⟨2, ![1, 4096]⟩
abbrev S1x512 : Shape := ⟨2, ![1, 512]⟩
abbrev S20480 : Shape := ⟨1, ![20480]⟩
abbrev S_ : Shape := ⟨0, ![]⟩
abbrev S160x128 : Shape := ⟨2, ![160, 128]⟩

class Facts : Prop where
  bcast_S_S20480 : S_.BroadcastsInDim S20480 (![] : Fin 0 → Fin S20480.rank)
  shapeCasts_S20480_S160x128 : S20480.ShapeCasts S160x128

variable [Facts]

def fn {F : FTy → Type} [FloatOps F] (main_arg0 : FVec F S2x2048 .f32) (main_arg1 : FVec F S2048 .f32) (main_arg2 : FVec F S1x4x768 .f32) (main_arg3 : FVec F S1x6144 .f32) (main_arg4 : FVec F S1x64 .f32) (main_arg5 : FVec F S1x64 .f32) (main_arg6 : FVec F S1x64 .f32) (main_arg7 : FVec F S1x4096 .f32) (main_arg8 : FVec F S1x512 .f32) (main_arg9 : FVec F S2x2048 .f32) (main_arg10 : FVec F S2048 .f32) (main_arg11 : FVec F S1x4x768 .f32) (main_arg12 : FVec F S1x6144 .f32) (main_arg13 : FVec F S1x64 .f32) (main_arg14 : FVec F S1x64 .f32) (main_arg15 : FVec F S1x64 .f32) (main_arg16 : FVec F S1x4096 .f32) (main_arg17 : FVec F S1x512 .f32) (main_arg18 : FVec F S2x2048 .f32) (main_arg19 : FVec F S2048 .f32) (main_arg20 : FVec F S1x4x768 .f32) (main_arg21 : FVec F S1x6144 .f32) (main_arg22 : FVec F S1x64 .f32) (main_arg23 : FVec F S1x64 .f32) (main_arg24 : FVec F S1x64 .f32) (main_arg25 : FVec F S1x4096 .f32) (main_arg26 : FVec F S1x512 .f32) (main_arg27 : FVec F S2x2048 .f32) (main_arg28 : FVec F S2048 .f32) (main_arg29 : FVec F S1x4x768 .f32) (main_arg30 : FVec F S1x6144 .f32) (main_arg31 : FVec F S1x64 .f32) (main_arg32 : FVec F S1x64 .f32) (main_arg33 : FVec F S1x64 .f32) (main_arg34 : FVec F S1x4096 .f32) (main_arg35 : FVec F S1x512 .f32) : IVec S160x128 1 × IVec S160x128 1 × IVec S160x128 1 :=
  let main_v0 : IVec S20480 32 := iotaInDim S20480 32 0
  let main_c : IVec S_ 32 := constantI S_ 32 20160#32
  let main_v1 : IVec S20480 32 := broadcastInDim S20480 ![] bcast_S_S20480 main_c
  let main_v2 : IVec S20480 1 := cmpi .slt main_v0 main_v1
  let main_v3 : IVec S160x128 1 := shapeCast S160x128 main_v2 shapeCasts_S20480_S160x128
  (main_v3, main_v3, main_v3)
-- ==== Pre_finite_mix.lean ====
abbrev S4096x4096 : Shape := ⟨2, ![4096, 4096]⟩
abbrev S4096x8192 : Shape := ⟨2, ![4096, 8192]⟩
abbrev S_ : Shape := ⟨0, ![]⟩

class Facts : Prop where
  bcast_S_S4096x4096 : S_.BroadcastsInDim S4096x4096 (![] : Fin 0 → Fin S4096x4096.rank)

variable [Facts]

def fn {F : FTy → Type} [FloatOps F] (main_arg0 : FVec F S4096x4096 .f32) (main_arg1 : FVec F S4096x8192 .bf16) : IVec S4096x4096 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  main_v2
-- ==== SsmOut.lean ====
abbrev S4096x2048 : Shape := ⟨2, ![4096, 2048]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutRefIdeal.lean ====
abbrev S4096x2048 : Shape := ⟨2, ![4096, 2048]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Group.lean ====
abbrev S4096x4096 : Shape := ⟨2, ![4096, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GroupRefIdeal.lean ====
abbrev S4096x4096 : Shape := ⟨2, ![4096, 4096]⟩
abbrev S4x1024x1024 : Shape := ⟨3, ![4, 1024, 1024]⟩
abbrev S_ : Shape := ⟨0, ![]⟩
abbrev S1x4096x4x1024 : Shape := ⟨4, ![1, 4096, 4, 1024]⟩
abbrev S4x1024x1x4096 : Shape := ⟨4, ![4, 1024, 1, 4096]⟩
abbrev S4x1x4096x1024 : Shape := ⟨4, ![4, 1, 4096, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S_, .f32⟩
  | .hbm, ⟨3, _⟩ => ⟨S4096x4096, .f32⟩
  | .hbm, ⟨4, _⟩ => ⟨S1x4096x4x1024, .f32⟩
  | .hbm, ⟨5, _⟩ => ⟨S4x1024x1024, .f32⟩
  | .hbm, ⟨6, _⟩ => ⟨S4x1024x1x4096, .f32⟩
  | .hbm, ⟨7, _⟩ => ⟨S1x4096x4x1024, .f32⟩
  | .hbm, ⟨8, _⟩ => ⟨S4096x4096, .f32⟩
  | .hbm, ⟨9, _⟩ => ⟨S4096x4096, .f32⟩
  | .hbm, ⟨10, _⟩ => ⟨S1x4096x4x1024, .f32⟩
  | .hbm, ⟨11, _⟩ => ⟨S4x1024x1x4096, .f32⟩
  | .hbm, ⟨12, _⟩ => ⟨S4x1x4096x1024, .f32⟩
  | .hbm, ⟨13, _⟩ => ⟨S1x4096x4x1024, .f32⟩
  | .hbm, ⟨14, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== PoolIn.lean ====
abbrev S4096x8192 : Shape := ⟨2, ![4096, 8192]⟩
abbrev S8x2048x1024 : Shape := ⟨3, ![8, 2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolInRefIdeal.lean ====
abbrev S4096x8192 : Shape := ⟨2, ![4096, 8192]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S_, .f32⟩
  | .hbm, ⟨5, _⟩ => ⟨S4096x2048, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDt.lean ====
abbrev S4096x64 : Shape := ⟨2, ![4096, 64]⟩
abbrev S2x10304x1024 : Shape := ⟨3, ![2, 10304, 1024]⟩
abbrev S4096x2048 : Shape := ⟨2, ![4096, 2048]⟩
abbrev S1024x64 : Shape := ⟨2, ![1024, 64]⟩
abbrev S1x64x1024 : Shape := ⟨3, ![1, 64, 1024]⟩
abbrev S1024x1024 : Shape := ⟨2, ![1024, 1024]⟩
abbrev S64x1024 : Shape := ⟨2, ![64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x64, .f32⟩
  | .hbm, ⟨1, _⟩ => ⟨S2x10304x1024, .bf16⟩
  | .hbm, ⟨2, _⟩ => ⟨S4096x2048, .f32⟩
  | .local _ .vmem, ⟨0, _⟩ => ⟨S1024x64, .f32⟩
  | .local _ .vmem, ⟨1, _⟩ => ⟨S1024x64, .f32⟩
  | .local _ .vmem, ⟨2, _⟩ => ⟨S1x64x1024, .bf16⟩
  | .local _ .vmem, ⟨3, _⟩ => ⟨S1x64x1024, .bf16⟩
  | .local _ .vmem, ⟨4, _⟩ => ⟨S1024x1024, .f32⟩
  | .local _ .vmem, ⟨5, _⟩ => ⟨S1024x1024, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c160_i32 : BitVec 32 := 160#32
  let v0 : BitVec 32 := Scalar.addi c160_i32 arg2
  let c0_i32 : BitVec 32 := 0#32
  let c0_i32_0 : BitVec 32 := 0#32
  ![arg1.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDtRefIdeal.lean ====
abbrev S4096x64 : Shape := ⟨2, ![4096, 64]⟩
abbrev S2x10304x1024 : Shape := ⟨3, ![2, 10304, 1024]⟩
abbrev S_ : Shape := ⟨0, ![]⟩
abbrev S4096x2048 : Shape := ⟨2, ![4096, 2048]⟩
abbrev S1x10304x1024 : Shape := ⟨3, ![1, 10304, 1024]⟩
abbrev S10304x1024 : Shape := ⟨2, ![10304, 1024]⟩
abbrev S1024x10304 : Shape := ⟨2, ![1024, 10304]⟩
abbrev S2048x10304 : Shape := ⟨2, ![2048, 10304]⟩
abbrev S2048x64 : Shape := ⟨2, ![2048, 64]⟩

abbrev nBuf : Space → Nat
  | .hbm => 15
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S2x10304x1024, .bf16⟩
  | .hbm, ⟨2, _⟩ => ⟨S_, .f32⟩
  | .hbm, ⟨3, _⟩ => ⟨S4096x2048, .f32⟩
  | .hbm, ⟨4, _⟩ => ⟨S1x10304x1024, .bf16⟩
  | .hbm, ⟨5, _⟩ => ⟨S10304x1024, .bf16⟩
  | .hbm, ⟨6, _⟩ => ⟨S1024x10304, .bf16⟩
  | .hbm, ⟨7, _⟩ => ⟨S1x10304x1024, .bf16⟩
  | .hbm, ⟨8, _⟩ => ⟨S10304x1024, .bf16⟩
  | .hbm, ⟨9, _⟩ => ⟨S1024x10304, .bf16⟩
  | .hbm, ⟨10, _⟩ => ⟨S2048x10304, .bf16⟩
  | .hbm, ⟨11, _⟩ => ⟨S2048x10304, .f32⟩
  | .hbm, ⟨12, _⟩ => ⟨S2048x64, .f32⟩
  | .hbm, ⟨13, _⟩ => ⟨S4096x64, .f32⟩
  | .hbm, ⟨14, _⟩ => ⟨S4096x2048, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== InProj.lean ====
abbrev S4096x10240 : Shape := ⟨2, ![4096, 10240]⟩
abbrev S2x10304x1024 : Shape := ⟨3, ![2, 10304, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x10240, .bf16⟩
  | .hbm, ⟨1, _⟩ => ⟨S2x10304x1024, .bf16⟩
  | .hbm, ⟨2, _⟩ => ⟨S4096x2048, .f32⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 10], ![false, false, false]⟩

def k0_cond3 (i : grid0.Coords) : BitVec 1 :=
  let arg2 : BitVec 32 := BitVec.ofNat 32 (i 2).val
  let c9_i32_3 : BitVec 32 := 9#32
  let v8 : BitVec 1 := Scalar.cmpi .eq arg2 c9_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg1.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InProjRefIdeal.lean ====
abbrev S4096x10240 : Shape := ⟨2, ![4096, 10240]⟩
abbrev S2x10304x1024 : Shape := ⟨3, ![2, 10304, 1024]⟩
abbrev S4096x2048 : Shape := ⟨2, ![4096, 2048]⟩
abbrev S_ : Shape := ⟨0, ![]⟩
abbrev S1x10304x1024 : Shape := ⟨3, ![1, 10304, 1024]⟩
abbrev S10304x1024 : Shape := ⟨2, ![10304, 1024]⟩
abbrev S1024x10304 : Shape := ⟨2, ![1024, 10304]⟩
abbrev S2048x10304 : Shape := ⟨2, ![2048, 10304]⟩
abbrev S2048x10240 : Shape := ⟨2, ![2048, 10240]⟩

abbrev nBuf : Space → Nat
  | .hbm => 18
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S2x10304x1024, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S1x10304x1024, .bf16⟩
  | .hbm, ⟨6, _⟩ => ⟨S10304x1024, .bf16⟩
  | .hbm, ⟨7, _⟩ => ⟨S1024x10304, .bf16⟩
  | .hbm, ⟨8, _⟩ => ⟨S1x10304x1024, .bf16⟩
  | .hbm, ⟨9, _⟩ => ⟨S10304x1024, .bf16⟩
  | .hbm, ⟨10, _⟩ => ⟨S1024x10304, .bf16⟩
  | .hbm, ⟨11, _⟩ => ⟨S2048x10304, .bf16⟩
  | .hbm, ⟨12, _⟩ => ⟨S2048x10304, .f32⟩
  | .hbm, ⟨13, _⟩ => ⟨S2048x10240, .f32⟩
  | .hbm, ⟨14, _⟩ => ⟨S4096x10240, .f32⟩
  | .hbm, ⟨15, _⟩ => ⟨S4096x10240, .f32⟩
  | .hbm, ⟨16, _⟩ => ⟨S4096x2048, .f32⟩
  | .hbm, ⟨17, _⟩ => ⟨S4096x2048, .f32⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== WOut.lean ====
abbrev S4096x4096 : Shape := ⟨2, ![4096, 4096]⟩
abbrev S4096x2048 : Shape := ⟨2, ![4096, 2048]⟩
abbrev S1x4096x2048 : Shape := ⟨3, ![1, 4096, 2048]⟩
abbrev S1024x512 : Shape := ⟨2, ![1024, 512]⟩
abbrev S1024x2048 : Shape := ⟨2, ![1024, 2048]⟩
abbrev S1x512x2048 : Shape := ⟨3, ![1, 512, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S1x4096x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutRefIdeal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩
abbrev S1x4096x2048 : Shape := ⟨3, ![1, 4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | .hbm, ⟨10, _⟩ => ⟨S1x4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WPoolIn.lean ====
abbrev S4096x2048 : Shape := ⟨2, ![4096, 2048]⟩
abbrev S4096x8192 : Shape := ⟨2, ![4096, 8192]⟩
abbrev S8x2048x1024 : Shape := ⟨3, ![8, 2048, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WPoolInRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x8x1024, .bf16⟩
  | .hbm, ⟨11, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WGroup.lean ====
abbrev S4096x4096 : Shape := ⟨2, ![4096, 4096]⟩
abbrev S4x1024x1024 : Shape := ⟨3, ![4, 1024, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4x1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WGroupRefIdeal.lean ====
abbrev S4096x4096 : Shape := ⟨2, ![4096, 4096]⟩
abbrev S_ : Shape := ⟨0, ![]⟩
abbrev S4x1024x1024 : Shape := ⟨3, ![4, 1024, 1024]⟩
abbrev S1x4096x4x1024 : Shape := ⟨4, ![1, 4096, 4, 1024]⟩
abbrev S4x1024x1x4096 : Shape := ⟨4, ![4, 1024, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4x1024x1024, .f32⟩
  | .hbm, ⟨4, _⟩ => ⟨S4096x4096, .f32⟩
  | .hbm, ⟨5, _⟩ => ⟨S1x4096x4x1024, .f32⟩
  | .hbm, ⟨6, _⟩ => ⟨S4x1024x1x4096, .f32⟩
  | .hbm, ⟨7, _⟩ => ⟨S1x4096x4x1024, .f32⟩
  | .hbm, ⟨8, _⟩ => ⟨S4096x4096, .f32⟩
  | .hbm, ⟨9, _⟩ => ⟨S4096x4096, .f32⟩
  | .hbm, ⟨10, _⟩ => ⟨S1x4096x4x1024, .f32⟩
  | .hbm, ⟨11, _⟩ => ⟨S4x1024x1x4096, .f32⟩
  | .hbm, ⟨12, _⟩ => ⟨S4x1024x1024, .f32⟩
  | .hbm, ⟨13, _⟩ => ⟨S4x1024x1024, .f32⟩
  | .hbm, ⟨14, _⟩ => ⟨S4x1024x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== FIn.lean ====
abbrev S4096x2048 : Shape := ⟨2, ![4096, 2048]⟩
abbrev S2x10304x1024 : Shape := ⟨3, ![2, 10304, 1024]⟩
abbrev S4096x10240 : Shape := ⟨2, ![4096, 10240]⟩
abbrev S1024x2048 : Shape := ⟨2, ![1024, 2048]⟩
abbrev S2x512x1024 : Shape := ⟨3, ![2, 512, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x10304x1024, .bf16⟩
  | .hbm, ⟨2, _⟩ => ⟨S4096x10240, .f32⟩
  | .local _ .vmem, ⟨0, _⟩ => ⟨S1024x2048, .bf16⟩
  | .local _ .vmem, ⟨1, _⟩ => ⟨S1024x2048, .bf16⟩
  | .local _ .vmem, ⟨2, _⟩ => ⟨S2x512x1024, .bf16⟩
  | .local _ .vmem, ⟨3, _⟩ => ⟨S2x512x1024, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FInRefIdeal.lean ====
abbrev S4096x2048 : Shape := ⟨2, ![4096, 2048]⟩
abbrev S2x10304x1024 : Shape := ⟨3, ![2, 10304, 1024]⟩
abbrev S1x10304x1024 : Shape := ⟨3, ![1, 10304, 1024]⟩
abbrev S10304x1024 : Shape := ⟨2, ![10304, 1024]⟩
abbrev S1024x10304 : Shape := ⟨2, ![1024, 10304]⟩
abbrev S2048x10304 : Shape := ⟨2, ![2048, 10304]⟩
abbrev S2048x10240 : Shape := ⟨2, ![2048, 10240]⟩
abbrev S4096x10240 : Shape := ⟨2, ![4096, 10240]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x10304x1024, .bf16⟩
  | .hbm, ⟨2, _⟩ => ⟨S4096x2048, .f32⟩
  | .hbm, ⟨3, _⟩ => ⟨S1x10304x1024, .bf16⟩
  | .hbm, ⟨4, _⟩ => ⟨S10304x1024, .bf16⟩
  | .hbm, ⟨5, _⟩ => ⟨S1024x10304, .bf16⟩
  | .hbm, ⟨6, _⟩ => ⟨S1x10304x1024, .bf16⟩
  | .hbm, ⟨7, _⟩ => ⟨S10304x1024, .bf16⟩
  | .hbm, ⟨8, _⟩ => ⟨S1024x10304, .bf16⟩
  | .hbm, ⟨9, _⟩ => ⟨S2048x10304, .bf16⟩
  | .hbm, ⟨10, _⟩ => ⟨S2048x10304, .f32⟩
  | .hbm, ⟨11, _⟩ => ⟨S2048x10240, .f32⟩
  | .hbm, ⟨12, _⟩ => ⟨S4096x10240, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== FInDt.lean ====
abbrev S4096x2048 : Shape := ⟨2, ![4096, 2048]⟩
abbrev S2x10304x1024 : Shape := ⟨3, ![2, 10304, 1024]⟩
abbrev S4096x64 : Shape := ⟨2, ![4096, 64]⟩
abbrev S1024x2048 : Shape := ⟨2, ![1024, 2048]⟩
abbrev S2x64x1024 : Shape := ⟨3, ![2, 64, 1024]⟩
abbrev S1024x64 : Shape := ⟨2, ![1024, 64]⟩
abbrev S1024x1024 : Shape := ⟨2, ![1024, 1024]⟩
abbrev S1x64x1024 : Shape := ⟨3, ![1, 64, 1024]⟩
abbrev S64x1024 : Shape := ⟨2, ![64, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2x10304x1024, .bf16⟩
  | .hbm, ⟨2, _⟩ => ⟨S4096x64, .f32⟩
  | .local _ .vmem, ⟨0, _⟩ => ⟨S1024x2048, .bf16⟩
  | .local _ .vmem, ⟨1, _⟩ => ⟨S1024x2048, .bf16⟩
  | .local _ .vmem, ⟨2, _⟩ => ⟨S2x64x1024, .bf16⟩
  | .local _ .vmem, ⟨3, _⟩ => ⟨S1024x64, .f32⟩
  | .local _ .vmem, ⟨4, _⟩ => ⟨S1024x64, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c160_i32 : BitVec 32 := 160#32
  let v0 : BitVec 32 := Scalar.addi c160_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2x64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FInDtRefIdeal.lean ====
abbrev S4096x2048 : Shape := ⟨2, ![4096, 2048]⟩
abbrev S2x10304x1024 : Shape := ⟨3, ![2, 10304, 1024]⟩
abbrev S1x10304x1024 : Shape := ⟨3, ![1, 10304, 1024]⟩
abbrev S10304x1024 : Shape := ⟨2, ![10304, 1024]⟩
abbrev S1024x10304 : Shape := ⟨2, ![1024, 10304]⟩
abbrev S2048x10304 : Shape := ⟨2, ![2048, 10304]⟩
abbrev S2048x64 : Shape := ⟨2, ![2048, 64]⟩
abbrev S4096x64 : Shape := ⟨2, ![4096, 64]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x10304x1024, .bf16⟩
  | .hbm, ⟨2, _⟩ => ⟨S4096x2048, .f32⟩
  | .hbm, ⟨3, _⟩ => ⟨S1x10304x1024, .bf16⟩
  | .hbm, ⟨4, _⟩ => ⟨S10304x1024, .bf16⟩
  | .hbm, ⟨5, _⟩ => ⟨S1024x10304, .bf16⟩
  | .hbm, ⟨6, _⟩ => ⟨S1x10304x1024, .bf16⟩
  | .hbm, ⟨7, _⟩ => ⟨S10304x1024, .bf16⟩
  | .hbm, ⟨8, _⟩ => ⟨S1024x10304, .bf16⟩
  | .hbm, ⟨9, _⟩ => ⟨S2048x10304, .bf16⟩
  | .hbm, ⟨10, _⟩ => ⟨S2048x10304, .f32⟩
  | .hbm, ⟨11, _⟩ => ⟨S2048x64, .f32⟩
  | .hbm, ⟨12, _⟩ => ⟨S4096x64, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== FOut.lean ====
abbrev S4096x4096 : Shape := ⟨2, ![4096, 4096]⟩
abbrev S4096x2048 : Shape := ⟨2, ![4096, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FOutRefIdeal.lean ====
abbrev S4096x4096 : Shape := ⟨2, ![4096, 4096]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FPoolIn.lean ====
abbrev S4096x2048 : Shape := ⟨2, ![4096, 2048]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FPoolInRefIdeal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S4096x2048, .f32⟩
  | .hbm, ⟨5, _⟩ => ⟨S2048x8192, .f32⟩
  | .hbm, ⟨6, _⟩ => ⟨S4096x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FGroup.lean ====
abbrev S4096x4096 : Shape := ⟨2, ![4096, 4096]⟩
abbrev S4x1024x1024 : Shape := ⟨3, ![4, 1024, 1024]⟩
abbrev S4096x8192 : Shape := ⟨2, ![4096, 8192]⟩
abbrev S1x4096 : Shape := ⟨2, ![1, 4096]⟩
abbrev S1024x1024 : Shape := ⟨2, ![1024, 1024]⟩
abbrev S1x1024x1024 : Shape := ⟨3, ![1, 1024, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x8192, .f32⟩
  | .hbm, ⟨3, _⟩ => ⟨S1x4096, .f32⟩
  | .hbm, ⟨4, _⟩ => ⟨S4096x4096, .f32⟩
  | .hbm, ⟨5, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1024_i32 : BitVec 32 := 1024#32
  let v0 : BitVec 32 := Scalar.muli arg0 c1024_i32
  let c4096_i32 : BitVec 32 := 4096#32
  let v1 : BitVec 32 := Scalar.addi c4096_i32 v0
  let c1024_i32_0 : BitVec 32 := 1024#32
  let v2 : BitVec 32 := Scalar.divsi v1 c1024_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1024_i32_0 c0_i32_2
  let v9 : BitVec 32 := Scalar.extui v8
  let c0_i32_3 : BitVec 32 := 0#32
  let v10 : BitVec 1 := Scalar.cmpi .slt c1024_i32_0 c0_i32_3
  let v11 : BitVec 32 := Scalar.extui v10
  let v12 : BitVec 32 := Scalar.subi v9 v11
  let v13 : BitVec 1 := Scalar.cmpi .ne v7 v12
  let v14 : BitVec 32 := Scalar.remsi v1 c1024_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg2
  let c0_i32_5 : BitVec 32 := 0#32
  ![arg1.toNat, v19.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== FGroupRefIdeal.lean ====
abbrev S4096x4096 : Shape := ⟨2, ![4096, 4096]⟩
abbrev S4x1024x1024 : Shape := ⟨3, ![4, 1024, 1024]⟩
abbrev S4096x8192 : Shape := ⟨2, ![4096, 8192]⟩
abbrev S1x4096 : Shape := ⟨2, ![1, 4096]⟩
abbrev S1x4096x4x1024 : Shape := ⟨4, ![1, 4096, 4, 1024]⟩
abbrev S4x1024x1x4096 : Shape := ⟨4, ![4, 1024, 1, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x8192, .f32⟩
  | .hbm, ⟨3, _⟩ => ⟨S1x4096, .f32⟩
  | .hbm, ⟨4, _⟩ => ⟨S4096x4096, .f32⟩
  | .hbm, ⟨5, _⟩ => ⟨S1x4096x4x1024, .f32⟩
  | .hbm, ⟨6, _⟩ => ⟨S4x1024x1024, .f32⟩
  | .hbm, ⟨7, _⟩ => ⟨S4x1024x1x4096, .f32⟩
  | .hbm, ⟨8, _⟩ => ⟨S1x4096x4x1024, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== PoolMix.lean ====
abbrev S4096x4096 : Shape := ⟨2, ![4096, 4096]⟩
abbrev S4096x8192 : Shape := ⟨2, ![4096, 8192]⟩
abbrev S4096x256 : Shape := ⟨2, ![4096, 256]⟩
abbrev S512x256 : Shape := ⟨2, ![512, 256]⟩
abbrev S512x1 : Shape := ⟨2, ![512, 1]⟩
abbrev S16x256 : Shape := ⟨2, ![16, 256]⟩
abbrev S16x1 : Shape := ⟨2, ![16, 1]⟩
abbrev S528x256 : Shape := ⟨2, ![528, 256]⟩

abbrev nBuf : Space → Nat
  | .hbm => 3
  | .vmem => 4
  | .smem => 0
  | _ => 0

abbrev bufTy : (tb : Table) → Fin (tcTables nBuf tb) → BufTy
  | .hbm, ⟨0, _⟩ => ⟨S4096x4096, .f32⟩
  | .hbm, ⟨1, _⟩ => ⟨S4096x8192, .bf16⟩
  | .hbm, ⟨2, _⟩ => ⟨S4096x8192, .bf16⟩
  | .local _ .vmem, ⟨0, _⟩ => ⟨S4096x256, .f32⟩
  | .local _ .vmem, ⟨1, _⟩ => ⟨S4096x256, .f32⟩
  | .local _ .vmem, ⟨2, _⟩ => ⟨S4096x256, .bf16⟩
  | .local _ .vmem, ⟨3, _⟩ => ⟨S4096x256, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4 : BitVec 32 := 0#32
  let c8_i32 : BitVec 32 := 8#32
  let v12 : BitVec 32 := Scalar.addi c0_i32_4 c8_i32
  let c1_i32_5 : BitVec 32 := 1#32
  ⟨c0_i32_4, v12, c1_i32_5⟩
def k0_mult1 (k0_t1 : Fin k0_t1_loop.trips) : BitVec 32 :=
  let c0_i32_4 : BitVec 32 := 0#32
  let c1_i32_5 : BitVec 32 := 1#32
  let arg5 : BitVec 32 := Scf.iv c0_i32_4 c1_i32_5 k0_t1
  let c512_i32 : BitVec 32 := 512#32
  let v13 : BitVec 32 := Scalar.muli arg5 c512_i32
  v13
def k0_off1 (k0_t1 : Fin k0_t1_loop.trips) : Fin 2 → Nat :=
  let c0_i32_4 : BitVec 32 := 0#32
  let c1_i32_5 : BitVec 32 := 1#32
  let arg5 : BitVec 32 := Scf.iv c0_i32_4 c1_i32_5 k0_t1
  let c512_i32 : BitVec 32 := 512#32
  let v13 : BitVec 32 := Scalar.muli arg5 c512_i32
  let v14 : BitVec 32 := v13
  let v15 : Index := Scalar.indexCast v14
  let c0 : Index := 0#32
  ![v15.toNat, 0]
def k0_mult2 (k0_t1 : Fin k0_t1_loop.trips) : BitVec 32 :=
  let c0_i32_4 : BitVec 32 := 0#32
  let c1_i32_5 : BitVec 32 := 1#32
  let arg5 : BitVec 32 := Scf.iv c0_i32_4 c1_i32_5 k0_t1
  let c512_i32 : BitVec 32 := 512#32
  let v13 : BitVec 32 := Scalar.muli arg5 c512_i32
  let v14 : BitVec 32 := v13
  let c512_i32_9 : BitVec 32 := 512#32
  let v25 : BitVec 32 := Scalar.addi v14 c512_i32_9
  let c4080_i32 : BitVec 32 := 4080#32
  let v26 : BitVec 32 := Scalar.minsi v25 c4080_i32
  v26
def k0_off2 (k0_t1 : Fin k0_t1_loop.trips) : Fin 2 → Nat :=
  let c0_i32_4 : BitVec 32 := 0#32
  let c1_i32_5 : BitVec 32 := 1#32
  let arg5 : BitVec 32 := Scf.iv c0_i32_4 c1_i32_5 k0_t1
  let c512_i32 : BitVec 32 := 512#32
  let v13 : BitVec 32 := Scalar.muli arg5 c512_i32
  let v14 : BitVec 32 := v13
  let c512_i32_9 : BitVec 32 := 512#32
  let v25 : BitVec 32 := Scalar.addi v14 c512_i32_9
  let c4080_i32 : BitVec 32 := 4080#32
  let v26 : BitVec 32 := Scalar.minsi v25 c4080_i32
  let v27 : BitVec 32 := v26
  let v28 : Index := Scalar.indexCast v27
  let c0_10 : Index := 0#32
  ![v28.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_4 : BitVec 32 := 0#32
  let c8_i32 : BitVec 32 := 8#32
  let v12 : BitVec 32 := Scalar.addi c0_i32_4 c8_i32
  let c1_i32_5 : BitVec 32 := 1#32
  ⟨c0_i32_4, v12, c1_i32_5⟩
def k0_mult3 (k0_t2 : Fin k0_t2_loop.trips) : BitVec 32 :=
  let c0_i32_4 : BitVec 32 := 0#32
  let c1_i32_5 : BitVec 32 := 1#32
  let arg5 : BitVec 32 := Scf.iv c0_i32_4 c1_i32_5 k0_t2
  let c512_i32 : BitVec 32 := 512#32
  let v13 : BitVec 32 := Scalar.muli arg5 c512_i32
  v13
def k0_off3 (k0_t2 : Fin k0_t2_loop.trips) : Fin 2 → Nat :=
  let c0_i32_4 : BitVec 32 := 0#32
  let c1_i32_5 : BitVec 32 := 1#32
  let arg5 : BitVec 32 := Scf.iv c0_i32_4 c1_i32_5 k0_t2
  let c512_i32 : BitVec 32 := 512#32
  let v13 : BitVec 32 := Scalar.muli arg5 c512_i32
  let v14 : BitVec 32 := v13
  let v15 : Index := Scalar.indexCast v14
  let c0 : Index := 0#32
  ![v15.toNat, 0]
def k0_mult4 (k0_t2 : Fin k0_t2_loop.trips) : BitVec 32 :=
  let c0_i32_4 : BitVec 32 := 0#32
  let c1_i32_5 : BitVec 32 := 1#32
  let arg5 : BitVec 32 := Scf.iv c0_i32_4 c1_i32_5 k0_t2
  let c512_i32 : BitVec 32 := 512#32
  let v13 : BitVec 32 := Scalar.muli arg5 c512_i32
  let v14 : BitVec 32 := v13
  let c512_i32_8 : BitVec 32 := 512#32
  let v25 : BitVec 32 := Scalar.addi v14 c512_i32_8
  let c4080_i32 : BitVec 32 := 4080#32
  let v26 : BitVec 32 := Scalar.minsi v25 c4080_i32
  v26
def k0_off4 (k0_t2 : Fin k0_t2_loop.trips) : Fin 2 → Nat :=
  let c0_i32_4 : BitVec 32 := 0#32
  let c1_i32_5 : BitVec 32 := 1#32
  let arg5 : BitVec 32 := Scf.iv c0_i32_4 c1_i32_5 k0_t2
  let c512_i32 : BitVec 32 := 512#32
  let v13 : BitVec 32 := Scalar.muli arg5 c512_i32
  let v14 : BitVec 32 := v13
  let c512_i32_8 : BitVec 32 := 512#32
  let v25 : BitVec 32 := Scalar.addi v14 c512_i32_8
  let c4080_i32 : BitVec 32 := 4080#32
  let v26 : BitVec 32 := Scalar.minsi v25 c4080_i32
  let v27 : BitVec 32 := v26
  let v28 : Index := Scalar.indexCast v27
  let c0_9 : Index := 0#32
  ![v28.toNat, 0]
def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

@[reducible] def k0_t3_loop : Scf.Loop 32 :=
  let c0_i32_4 : BitVec 32 := 0#32
  let c8_i32 : BitVec 32 := 8#32
  let v12 : BitVec 32 := Scalar.addi c0_i32_4 c8_i32
  let c1_i32_5 : BitVec 32 := 1#32
  ⟨c0_i32_4, v12, c1_i32_5⟩
def k0_mult5 (k0_t3 : Fin k0_t3_loop.trips) : BitVec 32 :=
  let c0_i32_4 : BitVec 32 := 0#32
  let c1_i32_5 : BitVec 32 := 1#32
  let arg5 : BitVec 32 := Scf.iv c0_i32_4 c1_i32_5 k0_t3
  let c512_i32 : BitVec 32 := 512#32
  let v13 : BitVec 32 := Scalar.muli arg5 c512_i32
  v13
def k0_off5 (k0_t3 : Fin k0_t3_loop.trips) : Fin 2 → Nat :=
  let c0_i32_4 : BitVec 32 := 0#32
  let c1_i32_5 : BitVec 32 := 1#32
  let arg5 : BitVec 32 := Scf.iv c0_i32_4 c1_i32_5 k0_t3
  let c512_i32 : BitVec 32 := 512#32
  let v13 : BitVec 32 := Scalar.muli arg5 c512_i32
  let v14 : BitVec 32 := v13
  let v15 : Index := Scalar.indexCast v14
  let c0 : Index := 0#32
  ![v15.toNat, 0]
def k0_mult6 (k0_t3 : Fin k0_t3_loop.trips) : BitVec 32 :=
  let c0_i32_4 : BitVec 32 := 0#32
  let c1_i32_5 : BitVec 32 := 1#32
  let arg5 : BitVec 32 := Scf.iv c0_i32_4 c1_i32_5 k0_t3
  let c512_i32 : BitVec 32 := 512#32
  let v13 : BitVec 32 := Scalar.muli arg5 c512_i32
  let v14 : BitVec 32 := v13
  let c512_i32_9 : BitVec 32 := 512#32
  let v25 : BitVec 32 := Scalar.addi v14 c512_i32_9
  let c4080_i32 : BitVec 32 := 4080#32
  let v26 : BitVec 32 := Scalar.minsi v25 c4080_i32
  v26
def k0_off6 (k0_t3 : Fin k0_t3_loop.trips) : Fin 2 → Nat :=
  let c0_i32_4 : BitVec 32 := 0#32
  let c1_i32_5 : BitVec 32 := 1#32
  let arg5 : BitVec 32 := Scf.iv c0_i32_4 c1_i32_5 k0_t3
  let c512_i32 : BitVec 32 := 512#32
  let v13 : BitVec 32 := Scalar.muli arg5 c512_i32
  let v14 : BitVec 32 := v13
  let c512_i32_9 : BitVec 32 := 512#32
  let v25 : BitVec 32 := Scalar.addi v14 c512_i32_9
  let c4080_i32 : BitVec 32 := 4080#32
  let v26 : BitVec 32 := Scalar.minsi v25 c4080_i32
  let v27 : BitVec 32 := v26
  let v28 : Index := Scalar.indexCast v27
  let c0_10 : Index := 0#32
  ![v28.toNat, 0]
def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

@[reducible] def k0_t4_loop : Scf.Loop 32 :=
  let c0_i32_4 : BitVec 32 := 0#32
  let c8_i32 : BitVec 32 := 8#32
  let v12 : BitVec 32 := Scalar.addi c0_i32_4 c8_i32
  let c1_i32_5 : BitVec 32 := 1#32
  ⟨c0_i32_4, v12, c1_i32_5⟩
def k0_mult7 (k0_t4 : Fin k0_t4_loop.trips) : BitVec 32 :=
  let c0_i32_4 : BitVec 32 := 0#32
  let c1_i32_5 : BitVec 32 := 1#32
  let arg5 : BitVec 32 := Scf.iv c0_i32_4 c1_i32_5 k0_t4
  let c512_i32 : BitVec 32 := 512#32
  let v13 : BitVec 32 := Scalar.muli arg5 c512_i32
  v13
def k0_off7 (k0_t4 : Fin k0_t4_loop.trips) : Fin 2 → Nat :=
  let c0_i32_4 : BitVec 32 := 0#32
  let c1_i32_5 : BitVec 32 := 1#32
  let arg5 : BitVec 32 := Scf.iv c0_i32_4 c1_i32_5 k0_t4
  let c512_i32 : BitVec 32 := 512#32
  let v13 : BitVec 32 := Scalar.muli arg5 c512_i32
  let v14 : BitVec 32 := v13
  let v15 : Index := Scalar.indexCast v14
  let c0 : Index := 0#32
  ![v15.toNat, 0]
def k0_mult8 (k0_t4 : Fin k0_t4_loop.trips) : BitVec 32 :=
  let c0_i32_4 : BitVec 32 := 0#32
  let c1_i32_5 : BitVec 32 := 1#32
  let arg5 : BitVec 32 := Scf.iv c0_i32_4 c1_i32_5 k0_t4
  let c512_i32 : BitVec 32 := 512#32
  let v13 : BitVec 32 := Scalar.muli arg5 c512_i32
  let v14 : BitVec 32 := v13
  let c512_i32_8 : BitVec 32 := 512#32
  let v25 : BitVec 32 := Scalar.addi v14 c512_i32_8
  let c4080_i32 : BitVec 32 := 4080#32
  let v26 : BitVec 32 := Scalar.minsi v25 c4080_i32
  v26
def k0_off8 (k0_t4 : Fin k0_t4_loop.trips) : Fin 2 → Nat :=
  let c0_i32_4 : BitVec 32 := 0#32
  let c1_i32_5 : BitVec 32 := 1#32
  let arg5 : BitVec 32 := Scf.iv c0_i32_4 c1_i32_5 k0_t4
  let c512_i32 : BitVec 32 := 512#32
  let v13 : BitVec 32 := Scalar.muli arg5 c512_i32
  let v14 : BitVec 32 := v13
  let c512_i32_8 : BitVec 32 := 512#32
  let v25 : BitVec 32 := Scalar.addi v14 c512_i32_8
  let c4080_i32 : BitVec 32 := 4080#32
  let v26 : BitVec 32 := Scalar.minsi v25 c4080_i32
  let v27 : BitVec 32 := v26
  let v28 : Index := Scalar.indexCast v27
  let c0_9 : Index := 0#32
  ![v28.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PoolMixRefIdeal.lean ====
abbrev S4096x4096 : Shape := ⟨2, ![4096, 4096]⟩
abbrev S4096x8192 : Shape := ⟨2, ![4096, 8192]⟩
abbrev S_ : Shape := ⟨0, ![]⟩
abbrev S1x4096x4096 : Shape := ⟨3, ![1, 4096, 4096]⟩
abbrev S1x4096x4x1024 : Shape := ⟨4, ![1, 4096, 4, 1024]⟩
abbrev S4096 : Shape := ⟨1, ![4096]⟩
abbrev S1x4096x1x1024 : Shape := ⟨4, ![1, 4096, 1, 1024]⟩
abbrev S1x4096x1024 : Shape := ⟨3, ![1, 4096, 1024]⟩
abbrev S1x2x1024 : Shape := ⟨3, ![1, 2, 1024]⟩
abbrev S1x4094x1024 : Shape := ⟨3, ![1, 4094, 1024]⟩
abbrev S1x4096x1 : Shape := ⟨3, ![1, 4096, 1]⟩
abbrev S1x4x1024 : Shape := ⟨3, ![1, 4, 1024]⟩
abbrev S1x4092x1024 : Shape := ⟨3, ![1, 4092, 1024]⟩
abbrev S1x8x1024 : Shape := ⟨3, ![1, 8, 1024]⟩
abbrev S1x4088x1024 : Shape := ⟨3, ![1, 4088, 1024]⟩
abbrev S1x16x1024 : Shape := ⟨3, ![1, 16, 1024]⟩
abbrev S1x4080x1024 : Shape := ⟨3, ![1, 4080, 1024]⟩

abbrev nBuf : Space → Nat
  | .hbm => 150
  | .vmem => 0
  | .smem => 0
  | _ => 0

abbrev hbmTy0_0 (i : Nat) : BufTy := match i % 128 with
  | 0 => ⟨S4096x4096, .f32⟩
  | 1 => ⟨S4096x8192, .bf16⟩
  | 2 => ⟨S_, .f32⟩
  | 3 => ⟨S1x4096x4096, .f32⟩
  | 4 => ⟨S1x4096x4x1024, .f32⟩
  | 5 => ⟨S_, .f32⟩
  | 6 => ⟨S_, .f32⟩
  | 7 => ⟨S1x4096x4x1024, .f32⟩
  | 8 => ⟨S4096, .i32⟩
  | 9 => ⟨S_, .i32⟩
  | 10 => ⟨S4096, .i32⟩
  | 11 => ⟨S4096, .i32⟩
  | 12 => ⟨S1x4096x1x1024, .f32⟩
  | 13 => ⟨S1x4096x1024, .f32⟩
  | 14 => ⟨S_, .f32⟩
  | 15 => ⟨S1x2x1024, .f32⟩
  | 16 => ⟨S1x4094x1024, .f32⟩
  | 17 => ⟨S1x4096x1024, .f32⟩
  | 18 => ⟨S_, .f32⟩
  | 19 => ⟨S1x2x1024, .f32⟩
  | 20 => ⟨S_, .i32⟩
  | 21 => ⟨S4096, .i32⟩
  | 22 => ⟨S4096, .i32⟩
  | 23 => ⟨S4096, .f32⟩
  | 24 => ⟨S1x4096x1, .f32⟩
  | 25 => ⟨S1x4096x1024, .f32⟩
  | 26 => ⟨S1x4096x1024, .f32⟩
  | 27 => ⟨S1x4096x1024, .f32⟩
  | 28 => ⟨S1x4096x1x1024, .f32⟩
  | 29 => ⟨S1x4096x1024, .f32⟩
  | 30 => ⟨S_, .f32⟩
  | 31 => ⟨S1x4x1024, .f32⟩
  | 32 => ⟨S1x4092x1024, .f32⟩
  | 33 => ⟨S1x4096x1024, .f32⟩
  | 34 => ⟨S_, .f32⟩
  | 35 => ⟨S1x4x1024, .f32⟩
  | 36 => ⟨S_, .i32⟩
  | 37 => ⟨S4096, .i32⟩
  | 38 => ⟨S4096, .i32⟩
  | 39 => ⟨S4096, .f32⟩
  | 40 => ⟨S1x4096x1, .f32⟩
  | 41 => ⟨S1x4096x1024, .f32⟩
  | 42 => ⟨S1x4096x1024, .f32⟩
  | 43 => ⟨S1x4096x1024, .f32⟩
  | 44 => ⟨S1x4096x1x1024, .f32⟩
  | 45 => ⟨S1x4096x1024, .f32⟩
  | 46 => ⟨S_, .f32⟩
  | 47 => ⟨S1x8x1024, .f32⟩
  | 48 => ⟨S1x4088x1024, .f32⟩
  | 49 => ⟨S1x4096x1024, .f32⟩
  | 50 => ⟨S_, .f32⟩
  | 51 => ⟨S1x8x1024, .f32⟩
  | 52 => ⟨S_, .i32⟩
  | 53 => ⟨S4096, .i32⟩
  | 54 => ⟨S4096, .i32⟩
  | 55 => ⟨S4096, .f32⟩
  | 56 => ⟨S1x4096x1, .f32⟩
  | 57 => ⟨S1x4096x1024, .f32⟩
  | 58 => ⟨S1x4096x1024, .f32⟩
  | 59 => ⟨S1x4096x1024, .f32⟩
  | 60 => ⟨S1x4096x1x1024, .f32⟩
  | 61 => ⟨S1x4096x1024, .f32⟩
  | 62 => ⟨S_, .f32⟩
  | 63 => ⟨S1x16x1024, .f32⟩
  | 64 => ⟨S1x4080x1024, .f32⟩
  | 65 => ⟨S1x4096x1024, .f32⟩
  | 66 => ⟨S_, .f32⟩
  | 67 => ⟨S1x16x1024, .f32⟩
  | 68 => ⟨S_, .i32⟩
  | 69 => ⟨S4096, .i32⟩
  | 70 => ⟨S4096, .i32⟩
  | 71 => ⟨S4096, .f32⟩
  | 72 => ⟨S1x4096x1, .f32⟩
  | 73 => ⟨S1x4096x1024, .f32⟩
  | 74 => ⟨S1x4096x1024, .f32⟩
  | 75 => ⟨S1x4096x1024, .f32⟩
  | 76 => ⟨S1x4096x1x1024, .f32⟩
  | 77 => ⟨S1x4096x1x1024, .f32⟩
  | 78 => ⟨S1x4096x1x1024, .f32⟩
  | 79 => ⟨S1x4096x1x1024, .f32⟩
  | 80 => ⟨S1x4096x4x1024, .f32⟩
  | 81 => ⟨S1x4096x4x1024, .f32⟩
  | 82 => ⟨S1x4096x4096, .f32⟩
  | 83 => ⟨S1x4096x4096, .f32⟩
  | 84 => ⟨S1x4096x4x1024, .f32⟩
  | 85 => ⟨S1x4096x4x1024, .f32⟩
  | 86 => ⟨S1x4096x1x1024, .f32⟩
  | 87 => ⟨S1x4096x1024, .f32⟩
  | 88 => ⟨S1x4096x1x1024, .f32⟩
  | 89 => ⟨S1x4096x1024, .f32⟩
  | 90 => ⟨S1x4096x1x1024, .f32⟩
  | 91 => ⟨S1x4096x1024, .f32⟩
  | 92 => ⟨S1x4096x1x1024, .f32⟩
  | 93 => ⟨S1x4096x1024, .f32⟩
  | 94 => ⟨S1x4096x1024, .f32⟩
  | 95 => ⟨S1x4096x1024, .f32⟩
  | 96 => ⟨S1x4096x1024, .f32⟩
  | 97 => ⟨S1x16x1024, .f32⟩
  | 98 => ⟨S1x4080x1024, .f32⟩
  | 99 => ⟨S_, .f32⟩
  | 100 => ⟨S1x4096x1024, .f32⟩
  | 101 => ⟨S1x4096x1024, .f32⟩
  | 102 => ⟨S1x4096x1x1024, .f32⟩
  | 103 => ⟨S_, .f32⟩
  | 104 => ⟨S1x4096x4x1024, .f32⟩
  | 105 => ⟨S1x4096x1024, .f32⟩
  | 106 => ⟨S1x4096x1024, .f32⟩
  | 107 => ⟨S1x4096x1024, .f32⟩
  | 108 => ⟨S1x8x1024, .f32⟩
  | 109 => ⟨S1x4088x1024, .f32⟩
  | 110 => ⟨S_, .f32⟩
  | 111 => ⟨S1x4096x1024, .f32⟩
  | 112 => ⟨S1x4096x1024, .f32⟩
  | 113 => ⟨S1x4096x1x1024, .f32⟩
  | 114 => ⟨S_, .f32⟩
  | 115 => ⟨S1x4096x4x1024, .f32⟩
  | 116 => ⟨S1x4096x4x1024, .f32⟩
  | 117 => ⟨S1x4096x1024, .f32⟩
  | 118 => ⟨S1x4096x1024, .f32⟩
  | 119 => ⟨S1x4096x1024, .f32⟩
  | 120 => ⟨S1x4x1024, .f32⟩
  | 121 => ⟨S1x4092x1024, .f32⟩
  | 122 => ⟨S_, .f32⟩
  | 123 => ⟨S1x4096x1024, .f32⟩
  | 124 => ⟨S1x4096x1024, .f32⟩
  | 125 => ⟨S1x4096x1x1024, .f32⟩
  | 126 => ⟨S_, .f32⟩
  | 127 => ⟨S1x4096x4x1024, .f32⟩
  | _ => ⟨S4096x4096, .f32⟩

abbrev hbmTy0_1 (i : Nat) : BufTy := match i % 128 with
  | 0 => ⟨S1x4096x4x1024, .f32⟩
  | 1 => ⟨S1x4096x1024, .f32⟩
  | 2 => ⟨S1x4096x1024, .f32⟩
  | 3 => ⟨S1x4096x1024, .f32⟩
  | 4 => ⟨S1x2x1024, .f32⟩
  | 5 => ⟨S1x4094x1024, .f32⟩
  | 6 => ⟨S_, .f32⟩
  | 7 => ⟨S1x4096x1024, .f32⟩
  | 8 => ⟨S1x4096x1024, .f32⟩
  | 9 => ⟨S1x4096x1x1024, .f32⟩
  | 10 => ⟨S_, .f32⟩
  | 11 => ⟨S1x4096x4x1024, .f32⟩
  | 12 => ⟨S1x4096x4x1024, .f32⟩
  | 13 => ⟨S_, .f32⟩
  | 14 => ⟨S_, .f32⟩
  | 15 => ⟨S1x4096x4x1024, .f32⟩
  | 16 => ⟨S1x4096x4x1024, .f32⟩
  | 17 => ⟨S1x4096x4096, .f32⟩
  | 18 => ⟨S4096x4096, .f32⟩
  | 19 => ⟨S4096x4096, .bf16⟩
  | 20 => ⟨S4096x4096, .bf16⟩
  | 21 => ⟨S4096x8192, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_c_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_12 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_13 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_14 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_15 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_16 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_17 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_18 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_19 : Ref sig .tc := ⟨.hbm, 138, rfl⟩
abbrev main_v113 : Ref sig .tc := ⟨.hbm, 139, rfl⟩
abbrev main_v114 : Ref sig .tc := ⟨.hbm, 140, rfl⟩
abbrev main_call1_call0_cst : Ref sig .tc := ⟨.hbm, 141, rfl⟩
abbrev main_call1_call0_v0 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩

abbrev nD : Nat := 1
abbrev τ : Topo := Topo.v7x

variable {F : FTy → Type} [FloatOps F]
-- ==== RmsBwd.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 17
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== LossHead.lean ====
abbrev S4096x2048 : Shape := ⟨2, ![4096, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x2048, .f32⟩
  | .hbm, ⟨60, _⟩ => ⟨S4096x2048, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .bf16⟩
  | .hbm, ⟨73, _⟩ => ⟨S1x2048, .f32⟩
  | .hbm, ⟨74, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== SumSmall.lean ====
abbrev S8x360x128 : Shape := ⟨3, ![8, 360, 128]⟩
abbrev S360x128 : Shape := ⟨2, ![360, 128]⟩
abbrev S1x360x128 : Shape := ⟨3, ![1, 360, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x360x128, .f32⟩
  | .hbm, ⟨1, _⟩ => ⟨S360x128, .f32⟩
  | .local _ .vmem, ⟨0, _⟩ => ⟨S8x360x128, .f32⟩
  | .local _ .vmem, ⟨1, _⟩ => ⟨S360x128, .f32⟩
  | _, _ => ⟨S8x360x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x360x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S360x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x360x128 : Shape := ⟨3, ![8, 360, 128]⟩
abbrev S_ : Shape := ⟨0, ![]⟩
abbrev S360x128 : Shape := ⟨2, ![360, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x360x128, .f32⟩
  | .hbm, ⟨1, _⟩ => ⟨S_, .f32⟩
  | .hbm, ⟨2, _⟩ => ⟨S360x128, .f32⟩
  | _, _ => ⟨S8x360x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumOut.lean ====
abbrev S8x512x2048 : Shape := ⟨3, ![8, 512, 2048]⟩
abbrev S512x2048 : Shape := ⟨2, ![512, 2048]⟩
abbrev S8x256x2048 : Shape := ⟨3, ![8, 256, 2048]⟩
abbrev S256x2048 : Shape := ⟨2, ![256, 2048]⟩
abbrev S1x256x2048 : Shape := ⟨3, ![1, 256, 2048]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .local _ .vmem, ⟨0, _⟩ => ⟨S8x256x2048, .bf16⟩
  | .local _ .vmem, ⟨1, _⟩ => ⟨S8x256x2048, .bf16⟩
  | .local _ .vmem, ⟨2, _⟩ => ⟨S256x2048, .f32⟩
  | .local _ .vmem, ⟨3, _⟩ => ⟨S256x2048, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumOutIdeal.lean ====
abbrev S8x512x2048 : Shape := ⟨3, ![8, 512, 2048]⟩
abbrev S512x2048 : Shape := ⟨2, ![512, 2048]⟩
abbrev S8x256x2048 : Shape := ⟨3, ![8, 256, 2048]⟩
abbrev S256x2048 : Shape := ⟨2, ![256, 2048]⟩
abbrev S1x256x2048 : Shape := ⟨3, ![1, 256, 2048]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .local _ .vmem, ⟨0, _⟩ => ⟨S8x256x2048, .bf16⟩
  | .local _ .vmem, ⟨1, _⟩ => ⟨S8x256x2048, .bf16⟩
  | .local _ .vmem, ⟨2, _⟩ => ⟨S256x2048, .f32⟩
  | .local _ .vmem, ⟨3, _⟩ => ⟨S256x2048, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumOutRefIdeal.lean ====
abbrev S8x512x2048 : Shape := ⟨3, ![8, 512, 2048]⟩
abbrev S_ : Shape := ⟨0, ![]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S8x512x2048, .f32⟩
  | .hbm, ⟨2, _⟩ => ⟨S_, .f32⟩
  | .hbm, ⟨3, _⟩ => ⟨S512x2048, .f32⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumPoolIn.lean ====
abbrev S8x2048x1024 : Shape := ⟨3, ![8, 2048, 1024]⟩
abbrev S2048x1024 : Shape := ⟨2, ![2048, 1024]⟩
abbrev S8x256x1024 : Shape := ⟨3, ![8, 256, 1024]⟩
abbrev S256x1024 : Shape := ⟨2, ![256, 1024]⟩
abbrev S1x256x1024 : Shape := ⟨3, ![1, 256, 1024]⟩
abbrev S256x512 : Shape := ⟨2, ![256, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x1024, .bf16⟩
  | .hbm, ⟨1, _⟩ => ⟨S2048x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumPoolInIdeal.lean ====
abbrev S8x2048x1024 : Shape := ⟨3, ![8, 2048, 1024]⟩
abbrev S2048x1024 : Shape := ⟨2, ![2048, 1024]⟩
abbrev S8x256x1024 : Shape := ⟨3, ![8, 256, 1024]⟩
abbrev S256x1024 : Shape := ⟨2, ![256, 1024]⟩
abbrev S1x256x1024 : Shape := ⟨3, ![1, 256, 1024]⟩
abbrev S256x512 : Shape := ⟨2, ![256, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x1024, .bf16⟩
  | .hbm, ⟨1, _⟩ => ⟨S2048x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumPoolInRefIdeal.lean ====
abbrev S8x2048x1024 : Shape := ⟨3, ![8, 2048, 1024]⟩
abbrev S_ : Shape := ⟨0, ![]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S_, .f32⟩
  | .hbm, ⟨3, _⟩ => ⟨S2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumGroup.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩
abbrev S256x512 : Shape := ⟨2, ![256, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGroupIdeal.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩
abbrev S256x512 : Shape := ⟨2, ![256, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGroupRefIdeal.lean ====
abbrev S8x512x1024 : Shape := ⟨3, ![8, 512, 1024]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .f32⟩
  | .hbm, ⟨2, _⟩ => ⟨S_, .f32⟩
  | .hbm, ⟨3, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumIn.lean ====
abbrev S8x1288x1024 : Shape := ⟨3, ![8, 1288, 1024]⟩
abbrev S1288x1024 : Shape := ⟨2, ![1288, 1024]⟩
abbrev S8x184x1024 : Shape := ⟨3, ![8, 184, 1024]⟩
abbrev S184x1024 : Shape := ⟨2, ![184, 1024]⟩
abbrev S1x184x1024 : Shape := ⟨3, ![1, 184, 1024]⟩
abbrev S184x512 : Shape := ⟨2, ![184, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x1288x1024, .bf16⟩
  | .hbm, ⟨1, _⟩ => ⟨S1288x1024, .f32⟩
  | .local _ .vmem, ⟨0, _⟩ => ⟨S8x184x1024, .bf16⟩
  | .local _ .vmem, ⟨1, _⟩ => ⟨S8x184x1024, .bf16⟩
  | .local _ .vmem, ⟨2, _⟩ => ⟨S184x1024, .f32⟩
  | .local _ .vmem, ⟨3, _⟩ => ⟨S184x1024, .f32⟩
  | _, _ => ⟨S8x1288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x184x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S184x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInRefIdeal.lean ====
abbrev S8x1288x1024 : Shape := ⟨3, ![8, 1288, 1024]⟩
abbrev S_ : Shape := ⟨0, ![]⟩
abbrev S1288x1024 : Shape := ⟨2, ![1288, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x1288x1024, .bf16⟩
  | .hbm, ⟨1, _⟩ => ⟨S8x1288x1024, .f32⟩
  | .hbm, ⟨2, _⟩ => ⟨S_, .f32⟩
  | .hbm, ⟨3, _⟩ => ⟨S1288x1024, .f32⟩
  | _, _ => ⟨S8x1288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamOut.lean ====
abbrev S1x512x2048 : Shape := ⟨3, ![1, 512, 2048]⟩
abbrev S512x2048 : Shape := ⟨2, ![512, 2048]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S1x512x2048 : Shape := ⟨3, ![1, 512, 2048]⟩
abbrev S512x2048 : Shape := ⟨2, ![512, 2048]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S1x512x2048 : Shape := ⟨3, ![1, 512, 2048]⟩
abbrev S_ : Shape := ⟨0, ![]⟩
abbrev S512x2048 : Shape := ⟨2, ![512, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S_, .f32⟩
  | .hbm, ⟨5, _⟩ => ⟨S1x512x2048, .f32⟩
  | .hbm, ⟨6, _⟩ => ⟨S1x512x2048, .f32⟩
  | .hbm, ⟨7, _⟩ => ⟨S_, .f32⟩
  | .hbm, ⟨8, _⟩ => ⟨S1x512x2048, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | .hbm, ⟨37, _⟩ => ⟨S512x2048, .f32⟩
  | .hbm, ⟨38, _⟩ => ⟨S512x2048, .f32⟩
  | .hbm, ⟨39, _⟩ => ⟨S512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPoolIn.lean ====
abbrev S1x2048x1024 : Shape := ⟨3, ![1, 2048, 1024]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPoolInIdeal.lean ====
abbrev S1x2048x1024 : Shape := ⟨3, ![1, 2048, 1024]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPoolInRefIdeal.lean ====
abbrev S1x2048x1024 : Shape := ⟨3, ![1, 2048, 1024]⟩
abbrev S_ : Shape := ⟨0, ![]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S_, .f32⟩
  | .hbm, ⟨5, _⟩ => ⟨S1x2048x1024, .f32⟩
  | .hbm, ⟨6, _⟩ => ⟨S1x2048x1024, .f32⟩
  | .hbm, ⟨7, _⟩ => ⟨S_, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S_, .f32⟩
  | .hbm, ⟨12, _⟩ => ⟨S1x2048x1024, .f32⟩
  | .hbm, ⟨13, _⟩ => ⟨S1x2048x1024, .f32⟩
  | .hbm, ⟨14, _⟩ => ⟨S1x2048x1024, .f32⟩
  | .hbm, ⟨15, _⟩ => ⟨S_, .f32⟩
  | .hbm, ⟨16, _⟩ => ⟨S1x2048x1024, .f32⟩
  | .hbm, ⟨17, _⟩ => ⟨S1x2048x1024, .f32⟩
  | .hbm, ⟨18, _⟩ => ⟨S1x2048x1024, .f32⟩
  | .hbm, ⟨19, _⟩ => ⟨S_, .f32⟩
  | .hbm, ⟨20, _⟩ => ⟨S1x2048x1024, .f32⟩
  | .hbm, ⟨21, _⟩ => ⟨S1x2048x1024, .f32⟩
  | .hbm, ⟨22, _⟩ => ⟨S_, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S_, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S_, .f32⟩
  | .hbm, ⟨35, _⟩ => ⟨S1x2048x1024, .f32⟩
  | .hbm, ⟨36, _⟩ => ⟨S1x2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGroup.lean ====
abbrev S1x4x128x1024 : Shape := ⟨4, ![1, 4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x4x128x1024, .f32⟩
  | .hbm, ⟨1, _⟩ => ⟨S1x4x128x1024, .f32⟩
  | .hbm, ⟨2, _⟩ => ⟨S1x4x128x1024, .f32⟩
  | .hbm, ⟨3, _⟩ => ⟨S1x4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1x4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGroupRefIdeal.lean ====
abbrev S1x4x128x1024 : Shape := ⟨4, ![1, 4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x4x128x1024, .f32⟩
  | .hbm, ⟨1, _⟩ => ⟨S1x4x128x1024, .f32⟩
  | .hbm, ⟨2, _⟩ => ⟨S1x4x128x1024, .f32⟩
  | .hbm, ⟨3, _⟩ => ⟨S1x4x128x1024, .f32⟩
  | .hbm, ⟨4, _⟩ => ⟨S_, .f32⟩
  | .hbm, ⟨5, _⟩ => ⟨S1x4x128x1024, .f32⟩
  | .hbm, ⟨6, _⟩ => ⟨S1x4x128x1024, .f32⟩
  | .hbm, ⟨7, _⟩ => ⟨S_, .f32⟩
  | .hbm, ⟨8, _⟩ => ⟨S1x4x128x1024, .f32⟩
  | .hbm, ⟨9, _⟩ => ⟨S1x4x128x1024, .f32⟩
  | .hbm, ⟨10, _⟩ => ⟨S1x4x128x1024, .f32⟩
  | .hbm, ⟨11, _⟩ => ⟨S_, .f32⟩
  | .hbm, ⟨12, _⟩ => ⟨S1x4x128x1024, .f32⟩
  | .hbm, ⟨13, _⟩ => ⟨S1x4x128x1024, .f32⟩
  | .hbm, ⟨14, _⟩ => ⟨S1x4x128x1024, .f32⟩
  | .hbm, ⟨15, _⟩ => ⟨S_, .f32⟩
  | .hbm, ⟨16, _⟩ => ⟨S1x4x128x1024, .f32⟩
  | .hbm, ⟨17, _⟩ => ⟨S1x4x128x1024, .f32⟩
  | .hbm, ⟨18, _⟩ => ⟨S1x4x128x1024, .f32⟩
  | .hbm, ⟨19, _⟩ => ⟨S_, .f32⟩
  | .hbm, ⟨20, _⟩ => ⟨S1x4x128x1024, .f32⟩
  | .hbm, ⟨21, _⟩ => ⟨S1x4x128x1024, .f32⟩
  | .hbm, ⟨22, _⟩ => ⟨S_, .f32⟩
  | .hbm, ⟨23, _⟩ => ⟨S1x4x128x1024, .f32⟩
  | .hbm, ⟨24, _⟩ => ⟨S1x4x128x1024, .f32⟩
  | .hbm, ⟨25, _⟩ => ⟨S1x4x128x1024, .f32⟩
  | .hbm, ⟨26, _⟩ => ⟨S_, .f32⟩
  | .hbm, ⟨27, _⟩ => ⟨S1x4x128x1024, .f32⟩
  | .hbm, ⟨28, _⟩ => ⟨S1x4x128x1024, .f32⟩
  | .hbm, ⟨29, _⟩ => ⟨S1x4x128x1024, .f32⟩
  | .hbm, ⟨30, _⟩ => ⟨S_, .f32⟩
  | .hbm, ⟨31, _⟩ => ⟨S1x4x128x1024, .f32⟩
  | .hbm, ⟨32, _⟩ => ⟨S1x4x128x1024, .f32⟩
  | .hbm, ⟨33, _⟩ => ⟨S1x4x128x1024, .f32⟩
  | .hbm, ⟨34, _⟩ => ⟨S_, .f32⟩
  | .hbm, ⟨35, _⟩ => ⟨S1x4x128x1024, .f32⟩
  | .hbm, ⟨36, _⟩ => ⟨S1x4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S1x4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamIn.lean ====
abbrev S1x2048x1288 : Shape := ⟨3, ![1, 2048, 1288]⟩
abbrev S1288x2048 : Shape := ⟨2, ![1288, 2048]⟩
abbrev S2048x1288 : Shape := ⟨2, ![2048, 1288]⟩
abbrev S184x2048 : Shape := ⟨2, ![184, 2048]⟩

abbrev nBuf : Space → Nat
  | .hbm => 13
  | .vmem => 14
  | .smem => 0
  | _ => 0

abbrev bufTy : (tb : Table) → Fin (tcTables nBuf tb) → BufTy
  | .hbm, ⟨0, _⟩ => ⟨S1x2048x1288, .f32⟩
  | .hbm, ⟨1, _⟩ => ⟨S1288x2048, .f32⟩
  | .hbm, ⟨2, _⟩ => ⟨S1x2048x1288, .f32⟩
  | .hbm, ⟨3, _⟩ => ⟨S1x2048x1288, .f32⟩
  | .hbm, ⟨4, _⟩ => ⟨S2048x1288, .f32⟩
  | .hbm, ⟨5, _⟩ => ⟨S1288x2048, .f32⟩
  | .hbm, ⟨6, _⟩ => ⟨S2048x1288, .f32⟩
  | .hbm, ⟨7, _⟩ => ⟨S1288x2048, .f32⟩
  | .hbm, ⟨8, _⟩ => ⟨S2048x1288, .f32⟩
  | .hbm, ⟨9, _⟩ => ⟨S1288x2048, .f32⟩
  | .hbm, ⟨10, _⟩ => ⟨S1288x2048, .f32⟩
  | .hbm, ⟨11, _⟩ => ⟨S1288x2048, .f32⟩
  | .hbm, ⟨12, _⟩ => ⟨S1288x2048, .f32⟩
  | .local _ .vmem, ⟨0, _⟩ => ⟨S184x2048, .f32⟩
  | .local _ .vmem, ⟨1, _⟩ => ⟨S184x2048, .f32⟩
  | .local _ .vmem, ⟨2, _⟩ => ⟨S184x2048, .f32⟩
  | .local _ .vmem, ⟨3, _⟩ => ⟨S184x2048, .f32⟩
  | .local _ .vmem, ⟨4, _⟩ => ⟨S184x2048, .f32⟩
  | .local _ .vmem, ⟨5, _⟩ => ⟨S184x2048, .f32⟩
  | .local _ .vmem, ⟨6, _⟩ => ⟨S184x2048, .f32⟩
  | .local _ .vmem, ⟨7, _⟩ => ⟨S184x2048, .f32⟩
  | .local _ .vmem, ⟨8, _⟩ => ⟨S184x2048, .f32⟩
  | .local _ .vmem, ⟨9, _⟩ => ⟨S184x2048, .f32⟩
  | .local _ .vmem, ⟨10, _⟩ => ⟨S184x2048, .f32⟩
  | .local _ .vmem, ⟨11, _⟩ => ⟨S184x2048, .f32⟩
  | .local _ .vmem, ⟨12, _⟩ => ⟨S184x2048, .f32⟩
  | .local _ .vmem, ⟨13, _⟩ => ⟨S184x2048, .f32⟩
  | _, _ => ⟨S1x2048x1288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S184x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S184x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S184x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S184x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S184x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S184x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S184x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1x2048x1288 : Shape := ⟨3, ![1, 2048, 1288]⟩
abbrev S1288x2048 : Shape := ⟨2, ![1288, 2048]⟩
abbrev S2048x1288 : Shape := ⟨2, ![2048, 1288]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1x2048x1288, .f32⟩
  | .hbm, ⟨1, _⟩ => ⟨S1288x2048, .f32⟩
  | .hbm, ⟨2, _⟩ => ⟨S1x2048x1288, .f32⟩
  | .hbm, ⟨3, _⟩ => ⟨S1x2048x1288, .f32⟩
  | .hbm, ⟨4, _⟩ => ⟨S2048x1288, .f32⟩
  | .hbm, ⟨5, _⟩ => ⟨S1x2048x1288, .f32⟩
  | .hbm, ⟨6, _⟩ => ⟨S_, .f32⟩
  | .hbm, ⟨7, _⟩ => ⟨S1x2048x1288, .f32⟩
  | .hbm, ⟨8, _⟩ => ⟨S1x2048x1288, .f32⟩
  | .hbm, ⟨9, _⟩ => ⟨S_, .f32⟩
  | .hbm, ⟨10, _⟩ => ⟨S1x2048x1288, .f32⟩
  | .hbm, ⟨11, _⟩ => ⟨S1x2048x1288, .f32⟩
  | .hbm, ⟨12, _⟩ => ⟨S1x2048x1288, .f32⟩
  | .hbm, ⟨13, _⟩ => ⟨S_, .f32⟩
  | .hbm, ⟨14, _⟩ => ⟨S1x2048x1288, .f32⟩
  | .hbm, ⟨15, _⟩ => ⟨S1x2048x1288, .f32⟩
  | .hbm, ⟨16, _⟩ => ⟨S1x2048x1288, .f32⟩
  | .hbm, ⟨17, _⟩ => ⟨S_, .f32⟩
  | .hbm, ⟨18, _⟩ => ⟨S1x2048x1288, .f32⟩
  | .hbm, ⟨19, _⟩ => ⟨S1x2048x1288, .f32⟩
  | .hbm, ⟨20, _⟩ => ⟨S1x2048x1288, .f32⟩
  | .hbm, ⟨21, _⟩ => ⟨S_, .f32⟩
  | .hbm, ⟨22, _⟩ => ⟨S1x2048x1288, .f32⟩
  | .hbm, ⟨23, _⟩ => ⟨S1x2048x1288, .f32⟩
  | .hbm, ⟨24, _⟩ => ⟨S_, .f32⟩
  | .hbm, ⟨25, _⟩ => ⟨S1x2048x1288, .f32⟩
  | .hbm, ⟨26, _⟩ => ⟨S1x2048x1288, .f32⟩
  | .hbm, ⟨27, _⟩ => ⟨S1x2048x1288, .f32⟩
  | .hbm, ⟨28, _⟩ => ⟨S_, .f32⟩
  | .hbm, ⟨29, _⟩ => ⟨S1x2048x1288, .f32⟩
  | .hbm, ⟨30, _⟩ => ⟨S1x2048x1288, .f32⟩
  | .hbm, ⟨31, _⟩ => ⟨S1x2048x1288, .f32⟩
  | .hbm, ⟨32, _⟩ => ⟨S_, .f32⟩
  | .hbm, ⟨33, _⟩ => ⟨S1x2048x1288, .f32⟩
  | .hbm, ⟨34, _⟩ => ⟨S1x2048x1288, .f32⟩
  | .hbm, ⟨35, _⟩ => ⟨S1x2048x1288, .f32⟩
  | .hbm, ⟨36, _⟩ => ⟨S_, .f32⟩
  | .hbm, ⟨37, _⟩ => ⟨S1x2048x1288, .f32⟩
  | .hbm, ⟨38, _⟩ => ⟨S1x2048x1288, .f32⟩
  | .hbm, ⟨39, _⟩ => ⟨S2048x1288, .f32⟩
  | .hbm, ⟨40, _⟩ => ⟨S1288x2048, .f32⟩
  | .hbm, ⟨41, _⟩ => ⟨S2048x1288, .f32⟩
  | .hbm, ⟨42, _⟩ => ⟨S1288x2048, .f32⟩
  | .hbm, ⟨43, _⟩ => ⟨S2048x1288, .f32⟩
  | .hbm, ⟨44, _⟩ => ⟨S1288x2048, .f32⟩
  | _, _ => ⟨S1x2048x1288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== AdamSmall.lean ====
abbrev S2x2048 : Shape := ⟨2, ![2, 2048]⟩
abbrev S2048 : Shape := ⟨1, ![2048]⟩
abbrev S1x4x768 : Shape := ⟨3, ![1, 4, 768]⟩
abbrev S1x6144 : Shape := ⟨2, ![1, 6144]⟩
abbrev S1x64 : Shape := ⟨2, ![1, 64]⟩
abbrev S1x4096 : Shape := ⟨2, ![1, 4096]⟩
abbrev S1x512 : Shape := ⟨2, ![1, 512]⟩
abbrev S4096 : Shape := ⟨1, ![4096]⟩
abbrev S3072 : Shape := ⟨1, ![3072]⟩
abbrev S6144 : Shape := ⟨1, ![6144]⟩
abbrev S64 : Shape := ⟨1, ![64]⟩
abbrev S512 : Shape := ⟨1, ![512]⟩
abbrev S20160 : Shape := ⟨1, ![20160]⟩
abbrev S_ : Shape := ⟨0, ![]⟩
abbrev S20480 : Shape := ⟨1, ![20480]⟩
abbrev S160x128 : Shape := ⟨2, ![160, 128]⟩

abbrev nBuf : Space → Nat
  | .hbm => 91
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S1x4x768, .f32⟩
  | .hbm, ⟨3, _⟩ => ⟨S1x6144, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x4096, .f32⟩
  | .hbm, ⟨8, _⟩ => ⟨S1x512, .f32⟩
  | .hbm, ⟨9, _⟩ => ⟨S2x2048, .f32⟩
  | .hbm, ⟨10, _⟩ => ⟨S2048, .f32⟩
  | .hbm, ⟨11, _⟩ => ⟨S1x4x768, .f32⟩
  | .hbm, ⟨12, _⟩ => ⟨S1x6144, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x4096, .f32⟩
  | .hbm, ⟨17, _⟩ => ⟨S1x512, .f32⟩
  | .hbm, ⟨18, _⟩ => ⟨S2x2048, .f32⟩
  | .hbm, ⟨19, _⟩ => ⟨S2048, .f32⟩
  | .hbm, ⟨20, _⟩ => ⟨S1x4x768, .f32⟩
  | .hbm, ⟨21, _⟩ => ⟨S1x6144, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x4096, .f32⟩
  | .hbm, ⟨26, _⟩ => ⟨S1x512, .f32⟩
  | .hbm, ⟨27, _⟩ => ⟨S2x2048, .f32⟩
  | .hbm, ⟨28, _⟩ => ⟨S2048, .f32⟩
  | .hbm, ⟨29, _⟩ => ⟨S1x4x768, .f32⟩
  | .hbm, ⟨30, _⟩ => ⟨S1x6144, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x4096, .f32⟩
  | .hbm, ⟨35, _⟩ => ⟨S1x512, .f32⟩
  | .hbm, ⟨36, _⟩ => ⟨S4096, .f32⟩
  | .hbm, ⟨37, _⟩ => ⟨S3072, .f32⟩
  | .hbm, ⟨38, _⟩ => ⟨S6144, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S4096, .f32⟩
  | .hbm, ⟨43, _⟩ => ⟨S512, .f32⟩
  | .hbm, ⟨44, _⟩ => ⟨S20160, .f32⟩
  | .hbm, ⟨45, _⟩ => ⟨S_, .f32⟩
  | .hbm, ⟨46, _⟩ => ⟨S_, .f32⟩
  | .hbm, ⟨47, _⟩ => ⟨S20480, .f32⟩
  | .hbm, ⟨48, _⟩ => ⟨S160x128, .f32⟩
  | .hbm, ⟨49, _⟩ => ⟨S4096, .f32⟩
  | .hbm, ⟨50, _⟩ => ⟨S3072, .f32⟩
  | .hbm, ⟨51, _⟩ => ⟨S6144, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S4096, .f32⟩
  | .hbm, ⟨56, _⟩ => ⟨S512, .f32⟩
  | .hbm, ⟨57, _⟩ => ⟨S20160, .f32⟩
  | .hbm, ⟨58, _⟩ => ⟨S_, .f32⟩
  | .hbm, ⟨59, _⟩ => ⟨S_, .f32⟩
  | .hbm, ⟨60, _⟩ => ⟨S20480, .f32⟩
  | .hbm, ⟨61, _⟩ => ⟨S160x128, .f32⟩
  | .hbm, ⟨62, _⟩ => ⟨S4096, .f32⟩
  | .hbm, ⟨63, _⟩ => ⟨S3072, .f32⟩
  | .hbm, ⟨64, _⟩ => ⟨S6144, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S4096, .f32⟩
  | .hbm, ⟨69, _⟩ => ⟨S512, .f32⟩
  | .hbm, ⟨70, _⟩ => ⟨S20160, .f32⟩
  | .hbm, ⟨71, _⟩ => ⟨S_, .f32⟩
  | .hbm, ⟨72, _⟩ => ⟨S_, .f32⟩
  | .hbm, ⟨73, _⟩ => ⟨S20480, .f32⟩
  | .hbm, ⟨74, _⟩ => ⟨S160x128, .f32⟩
  | .hbm, ⟨75, _⟩ => ⟨S4096, .f32⟩
  | .hbm, ⟨76, _⟩ => ⟨S3072, .f32⟩
  | .hbm, ⟨77, _⟩ => ⟨S6144, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S4096, .f32⟩
  | .hbm, ⟨82, _⟩ => ⟨S512, .f32⟩
  | .hbm, ⟨83, _⟩ => ⟨S20160, .f32⟩
  | .hbm, ⟨84, _⟩ => ⟨S_, .f32⟩
  | .hbm, ⟨85, _⟩ => ⟨S_, .f32⟩
  | .hbm, ⟨86, _⟩ => ⟨S20480, .f32⟩
  | .hbm, ⟨87, _⟩ => ⟨S160x128, .f32⟩
  | .hbm, ⟨88, _⟩ => ⟨S160x128, .f32⟩
  | .hbm, ⟨89, _⟩ => ⟨S160x128, .f32⟩
  | .hbm, ⟨90, _⟩ => ⟨S160x128, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_cst : Ref sig .tc := ⟨.hbm, 45, rfl⟩
abbrev main_call0_v0 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_cst_0 : Ref sig .tc := ⟨.hbm, 58, rfl⟩
abbrev main_call1_v0 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_1 : Ref sig .tc := ⟨.hbm, 71, rfl⟩
abbrev main_call2_v0 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_2 : Ref sig .tc := ⟨.hbm, 84, rfl⟩
abbrev main_call3_v0 : Ref sig .tc := ⟨.hbm, 85, rfl⟩
abbrev main_v42 : Ref sig .tc := ⟨.hbm, 86, rfl⟩
abbrev main_v43 : Ref sig .tc := ⟨.hbm, 87, rfl⟩
abbrev main_v44_0 : Ref sig .tc := ⟨.hbm, 88, rfl⟩
abbrev main_v44_1 : Ref sig .tc := ⟨.hbm, 89, rfl⟩
abbrev main_v44_2 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S2x2048 : Shape := ⟨2, ![2, 2048]⟩
abbrev S2048 : Shape := ⟨1, ![2048]⟩
abbrev S1x4x768 : Shape := ⟨3, ![1, 4, 768]⟩
abbrev S1x6144 : Shape := ⟨2, ![1, 6144]⟩
abbrev S1x64 : Shape := ⟨2, ![1, 64]⟩
abbrev S1x4096 : Shape := ⟨2, ![1, 4096]⟩
abbrev S1x512 : Shape := ⟨2, ![1, 512]⟩
abbrev S_ : Shape := ⟨0, ![]⟩
abbrev S4096 : Shape := ⟨1, ![4096]⟩
abbrev S3072 : Shape := ⟨1, ![3072]⟩
abbrev S6144 : Shape := ⟨1, ![6144]⟩
abbrev S64 : Shape := ⟨1, ![64]⟩
abbrev S512 : Shape := ⟨1, ![512]⟩
abbrev S20160 : Shape := ⟨1, ![20160]⟩
abbrev S20480 : Shape := ⟨1, ![20480]⟩
abbrev S160x128 : Shape := ⟨2, ![160, 128]⟩

abbrev nBuf : Space → Nat
  | .hbm => 372
  | .vmem => 0
  | .smem => 0
  | _ => 0

abbrev hbmTy0_0 (i : Nat) : BufTy := match i % 128 with
  | 0 => ⟨S2x2048, .f32⟩
  | 1 => ⟨S2048, .f32⟩
  | 2 => ⟨S1x4x768, .f32⟩
  | 3 => ⟨S1x6144, .f32⟩
  | 4 => ⟨S1x64, .f32⟩
  | 5 => ⟨S1x64, .f32⟩
  | 6 => ⟨S1x64, .f32⟩
  | 7 => ⟨S1x4096, .f32⟩
  | 8 => ⟨S1x512, .f32⟩
  | 9 => ⟨S2x2048, .f32⟩
  | 10 => ⟨S2048, .f32⟩
  | 11 => ⟨S1x4x768, .f32⟩
  | 12 => ⟨S1x6144, .f32⟩
  | 13 => ⟨S1x64, .f32⟩
  | 14 => ⟨S1x64, .f32⟩
  | 15 => ⟨S1x64, .f32⟩
  | 16 => ⟨S1x4096, .f32⟩
  | 17 => ⟨S1x512, .f32⟩
  | 18 => ⟨S2x2048, .f32⟩
  | 19 => ⟨S2048, .f32⟩
  | 20 => ⟨S1x4x768, .f32⟩
  | 21 => ⟨S1x6144, .f32⟩
  | 22 => ⟨S1x64, .f32⟩
  | 23 => ⟨S1x64, .f32⟩
  | 24 => ⟨S1x64, .f32⟩
  | 25 => ⟨S1x4096, .f32⟩
  | 26 => ⟨S1x512, .f32⟩
  | 27 => ⟨S2x2048, .f32⟩
  | 28 => ⟨S2048, .f32⟩
  | 29 => ⟨S1x4x768, .f32⟩
  | 30 => ⟨S1x6144, .f32⟩
  | 31 => ⟨S1x64, .f32⟩
  | 32 => ⟨S1x64, .f32⟩
  | 33 => ⟨S1x64, .f32⟩
  | 34 => ⟨S1x4096, .f32⟩
  | 35 => ⟨S1x512, .f32⟩
  | 36 => ⟨S_, .f32⟩
  | 37 => ⟨S2x2048, .f32⟩
  | 38 => ⟨S2x2048, .f32⟩
  | 39 => ⟨S_, .f32⟩
  | 40 => ⟨S2x2048, .f32⟩
  | 41 => ⟨S2x2048, .f32⟩
  | 42 => ⟨S2x2048, .f32⟩
  | 43 => ⟨S_, .f32⟩
  | 44 => ⟨S2x2048, .f32⟩
  | 45 => ⟨S2x2048, .f32⟩
  | 46 => ⟨S2x2048, .f32⟩
  | 47 => ⟨S_, .f32⟩
  | 48 => ⟨S2x2048, .f32⟩
  | 49 => ⟨S2x2048, .f32⟩
  | 50 => ⟨S2x2048, .f32⟩
  | 51 => ⟨S_, .f32⟩
  | 52 => ⟨S2x2048, .f32⟩
  | 53 => ⟨S2x2048, .f32⟩
  | 54 => ⟨S_, .f32⟩
  | 55 => ⟨S2x2048, .f32⟩
  | 56 => ⟨S2x2048, .f32⟩
  | 57 => ⟨S2x2048, .f32⟩
  | 58 => ⟨S_, .f32⟩
  | 59 => ⟨S2x2048, .f32⟩
  | 60 => ⟨S2x2048, .f32⟩
  | 61 => ⟨S2x2048, .f32⟩
  | 62 => ⟨S_, .f32⟩
  | 63 => ⟨S2x2048, .f32⟩
  | 64 => ⟨S2x2048, .f32⟩
  | 65 => ⟨S2x2048, .f32⟩
  | 66 => ⟨S_, .f32⟩
  | 67 => ⟨S2x2048, .f32⟩
  | 68 => ⟨S2x2048, .f32⟩
  | 69 => ⟨S_, .f32⟩
  | 70 => ⟨S2048, .f32⟩
  | 71 => ⟨S2048, .f32⟩
  | 72 => ⟨S_, .f32⟩
  | 73 => ⟨S2048, .f32⟩
  | 74 => ⟨S2048, .f32⟩
  | 75 => ⟨S2048, .f32⟩
  | 76 => ⟨S_, .f32⟩
  | 77 => ⟨S2048, .f32⟩
  | 78 => ⟨S2048, .f32⟩
  | 79 => ⟨S2048, .f32⟩
  | 80 => ⟨S_, .f32⟩
  | 81 => ⟨S2048, .f32⟩
  | 82 => ⟨S2048, .f32⟩
  | 83 => ⟨S2048, .f32⟩
  | 84 => ⟨S_, .f32⟩
  | 85 => ⟨S2048, .f32⟩
  | 86 => ⟨S2048, .f32⟩
  | 87 => ⟨S_, .f32⟩
  | 88 => ⟨S2048, .f32⟩
  | 89 => ⟨S2048, .f32⟩
  | 90 => ⟨S2048, .f32⟩
  | 91 => ⟨S_, .f32⟩
  | 92 => ⟨S2048, .f32⟩
  | 93 => ⟨S2048, .f32⟩
  | 94 => ⟨S2048, .f32⟩
  | 95 => ⟨S_, .f32⟩
  | 96 => ⟨S2048, .f32⟩
  | 97 => ⟨S2048, .f32⟩
  | 98 => ⟨S2048, .f32⟩
  | 99 => ⟨S_, .f32⟩
  | 100 => ⟨S2048, .f32⟩
  | 101 => ⟨S2048, .f32⟩
  | 102 => ⟨S_, .f32⟩
  | 103 => ⟨S1x4x768, .f32⟩
  | 104 => ⟨S1x4x768, .f32⟩
  | 105 => ⟨S_, .f32⟩
  | 106 => ⟨S1x4x768, .f32⟩
  | 107 => ⟨S1x4x768, .f32⟩
  | 108 => ⟨S1x4x768, .f32⟩
  | 109 => ⟨S_, .f32⟩
  | 110 => ⟨S1x4x768, .f32⟩
  | 111 => ⟨S1x4x768, .f32⟩
  | 112 => ⟨S1x4x768, .f32⟩
  | 113 => ⟨S_, .f32⟩
  | 114 => ⟨S1x4x768, .f32⟩
  | 115 => ⟨S1x4x768, .f32⟩
  | 116 => ⟨S1x4x768, .f32⟩
  | 117 => ⟨S_, .f32⟩
  | 118 => ⟨S1x4x768, .f32⟩
  | 119 => ⟨S1x4x768, .f32⟩
  | 120 => ⟨S_, .f32⟩
  | 121 => ⟨S1x4x768, .f32⟩
  | 122 => ⟨S1x4x768, .f32⟩
  | 123 => ⟨S1x4x768, .f32⟩
  | 124 => ⟨S_, .f32⟩
  | 125 => ⟨S1x4x768, .f32⟩
  | 126 => ⟨S1x4x768, .f32⟩
  | 127 => ⟨S1x4x768, .f32⟩
  | _ => ⟨S2x2048, .f32⟩

abbrev hbmTy0_1 (i : Nat) : BufTy := match i % 128 with
  | 0 => ⟨S_, .f32⟩
  | 1 => ⟨S1x4x768, .f32⟩
  | 2 => ⟨S1x4x768, .f32⟩
  | 3 => ⟨S1x4x768, .f32⟩
  | 4 => ⟨S_, .f32⟩
  | 5 => ⟨S1x4x768, .f32⟩
  | 6 => ⟨S1x4x768, .f32⟩
  | 7 => ⟨S_, .f32⟩
  | 8 => ⟨S1x6144, .f32⟩
  | 9 => ⟨S1x6144, .f32⟩
  | 10 => ⟨S_, .f32⟩
  | 11 => ⟨S1x6144, .f32⟩
  | 12 => ⟨S1x6144, .f32⟩
  | 13 => ⟨S1x6144, .f32⟩
  | 14 => ⟨S_, .f32⟩
  | 15 => ⟨S1x6144, .f32⟩
  | 16 => ⟨S1x6144, .f32⟩
  | 17 => ⟨S1x6144, .f32⟩
  | 18 => ⟨S_, .f32⟩
  | 19 => ⟨S1x6144, .f32⟩
  | 20 => ⟨S1x6144, .f32⟩
  | 21 => ⟨S1x6144, .f32⟩
  | 22 => ⟨S_, .f32⟩
  | 23 => ⟨S1x6144, .f32⟩
  | 24 => ⟨S1x6144, .f32⟩
  | 25 => ⟨S_, .f32⟩
  | 26 => ⟨S1x6144, .f32⟩
  | 27 => ⟨S1x6144, .f32⟩
  | 28 => ⟨S1x6144, .f32⟩
  | 29 => ⟨S_, .f32⟩
  | 30 => ⟨S1x6144, .f32⟩
  | 31 => ⟨S1x6144, .f32⟩
  | 32 => ⟨S1x6144, .f32⟩
  | 33 => ⟨S_, .f32⟩
  | 34 => ⟨S1x6144, .f32⟩
  | 35 => ⟨S1x6144, .f32⟩
  | 36 => ⟨S1x6144, .f32⟩
  | 37 => ⟨S_, .f32⟩
  | 38 => ⟨S1x6144, .f32⟩
  | 39 => ⟨S1x6144, .f32⟩
  | 40 => ⟨S_, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S1x64, .f32⟩
  | 47 => ⟨S_, .f32⟩
  | 48 => ⟨S1x64, .f32⟩
  | 49 => ⟨S1x64, .f32⟩
  | 50 => ⟨S1x64, .f32⟩
  | 51 => ⟨S_, .f32⟩
  | 52 => ⟨S1x64, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S_, .f32⟩
  | 59 => ⟨S1x64, .f32⟩
  | 60 => ⟨S1x64, .f32⟩
  | 61 => ⟨S1x64, .f32⟩
  | 62 => ⟨S_, .f32⟩
  | 63 => ⟨S1x64, .f32⟩
  | 64 => ⟨S1x64, .f32⟩
  | 65 => ⟨S1x64, .f32⟩
  | 66 => ⟨S_, .f32⟩
  | 67 => ⟨S1x64, .f32⟩
  | 68 => ⟨S1x64, .f32⟩
  | 69 => ⟨S1x64, .f32⟩
  | 70 => ⟨S_, .f32⟩
  | 71 => ⟨S1x64, .f32⟩
  | 72 => ⟨S1x64, .f32⟩
  | 73 => ⟨S_, .f32⟩
  | 74 => ⟨S1x64, .f32⟩
  | 75 => ⟨S1x64, .f32⟩
  | 76 => ⟨S_, .f32⟩
  | 77 => ⟨S1x64, .f32⟩
  | 78 => ⟨S1x64, .f32⟩
  | 79 => ⟨S1x64, .f32⟩
  | 80 => ⟨S_, .f32⟩
  | 81 => ⟨S1x64, .f32⟩
  | 82 => ⟨S1x64, .f32⟩
  | 83 => ⟨S1x64, .f32⟩
  | 84 => ⟨S_, .f32⟩
  | 85 => ⟨S1x64, .f32⟩
  | 86 => ⟨S1x64, .f32⟩
  | 87 => ⟨S1x64, .f32⟩
  | 88 => ⟨S_, .f32⟩
  | 89 => ⟨S1x64, .f32⟩
  | 90 => ⟨S1x64, .f32⟩
  | 91 => ⟨S_, .f32⟩
  | 92 => ⟨S1x64, .f32⟩
  | 93 => ⟨S1x64, .f32⟩
  | 94 => ⟨S1x64, .f32⟩
  | 95 => ⟨S_, .f32⟩
  | 96 => ⟨S1x64, .f32⟩
  | 97 => ⟨S1x64, .f32⟩
  | 98 => ⟨S1x64, .f32⟩
  | 99 => ⟨S_, .f32⟩
  | 100 => ⟨S1x64, .f32⟩
  | 101 => ⟨S1x64, .f32⟩
  | 102 => ⟨S1x64, .f32⟩
  | 103 => ⟨S_, .f32⟩
  | 104 => ⟨S1x64, .f32⟩
  | 105 => ⟨S1x64, .f32⟩
  | 106 => ⟨S_, .f32⟩
  | 107 => ⟨S1x64, .f32⟩
  | 108 => ⟨S1x64, .f32⟩
  | 109 => ⟨S_, .f32⟩
  | 110 => ⟨S1x64, .f32⟩
  | 111 => ⟨S1x64, .f32⟩
  | 112 => ⟨S1x64, .f32⟩
  | 113 => ⟨S_, .f32⟩
  | 114 => ⟨S1x64, .f32⟩
  | 115 => ⟨S1x64, .f32⟩
  | 116 => ⟨S1x64, .f32⟩
  | 117 => ⟨S_, .f32⟩
  | 118 => ⟨S1x64, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S_, .f32⟩
  | 125 => ⟨S1x64, .f32⟩
  | 126 => ⟨S1x64, .f32⟩
  | 127 => ⟨S1x64, .f32⟩
  | _ => ⟨S2x2048, .f32⟩

abbrev hbmTy0_2 (i : Nat) : BufTy := match i % 128 with
  | 0 => ⟨S_, .f32⟩
  | 1 => ⟨S1x64, .f32⟩
  | 2 => ⟨S1x64, .f32⟩
  | 3 => ⟨S1x64, .f32⟩
  | 4 => ⟨S_, .f32⟩
  | 5 => ⟨S1x64, .f32⟩
  | 6 => ⟨S1x64, .f32⟩
  | 7 => ⟨S1x64, .f32⟩
  | 8 => ⟨S_, .f32⟩
  | 9 => ⟨S1x64, .f32⟩
  | 10 => ⟨S1x64, .f32⟩
  | 11 => ⟨S_, .f32⟩
  | 12 => ⟨S1x4096, .f32⟩
  | 13 => ⟨S1x4096, .f32⟩
  | 14 => ⟨S_, .f32⟩
  | 15 => ⟨S1x4096, .f32⟩
  | 16 => ⟨S1x4096, .f32⟩
  | 17 => ⟨S1x4096, .f32⟩
  | 18 => ⟨S_, .f32⟩
  | 19 => ⟨S1x4096, .f32⟩
  | 20 => ⟨S1x4096, .f32⟩
  | 21 => ⟨S1x4096, .f32⟩
  | 22 => ⟨S_, .f32⟩
  | 23 => ⟨S1x4096, .f32⟩
  | 24 => ⟨S1x4096, .f32⟩
  | 25 => ⟨S1x4096, .f32⟩
  | 26 => ⟨S_, .f32⟩
  | 27 => ⟨S1x4096, .f32⟩
  | 28 => ⟨S1x4096, .f32⟩
  | 29 => ⟨S_, .f32⟩
  | 30 => ⟨S1x4096, .f32⟩
  | 31 => ⟨S1x4096, .f32⟩
  | 32 => ⟨S1x4096, .f32⟩
  | 33 => ⟨S_, .f32⟩
  | 34 => ⟨S1x4096, .f32⟩
  | 35 => ⟨S1x4096, .f32⟩
  | 36 => ⟨S1x4096, .f32⟩
  | 37 => ⟨S_, .f32⟩
  | 38 => ⟨S1x4096, .f32⟩
  | 39 => ⟨S1x4096, .f32⟩
  | 40 => ⟨S1x4096, .f32⟩
  | 41 => ⟨S_, .f32⟩
  | 42 => ⟨S1x4096, .f32⟩
  | 43 => ⟨S1x4096, .f32⟩
  | 44 => ⟨S_, .f32⟩
  | 45 => ⟨S1x512, .f32⟩
  | 46 => ⟨S1x512, .f32⟩
  | 47 => ⟨S_, .f32⟩
  | 48 => ⟨S1x512, .f32⟩
  | 49 => ⟨S1x512, .f32⟩
  | 50 => ⟨S1x512, .f32⟩
  | 51 => ⟨S_, .f32⟩
  | 52 => ⟨S1x512, .f32⟩
  | 53 => ⟨S1x512, .f32⟩
  | 54 => ⟨S1x512, .f32⟩
  | 55 => ⟨S_, .f32⟩
  | 56 => ⟨S1x512, .f32⟩
  | 57 => ⟨S1x512, .f32⟩
  | 58 => ⟨S1x512, .f32⟩
  | 59 => ⟨S_, .f32⟩
  | 60 => ⟨S1x512, .f32⟩
  | 61 => ⟨S1x512, .f32⟩
  | 62 => ⟨S_, .f32⟩
  | 63 => ⟨S1x512, .f32⟩
  | 64 => ⟨S1x512, .f32⟩
  | 65 => ⟨S1x512, .f32⟩
  | 66 => ⟨S_, .f32⟩
  | 67 => ⟨S1x512, .f32⟩
  | 68 => ⟨S1x512, .f32⟩
  | 69 => ⟨S1x512, .f32⟩
  | 70 => ⟨S_, .f32⟩
  | 71 => ⟨S1x512, .f32⟩
  | 72 => ⟨S1x512, .f32⟩
  | 73 => ⟨S1x512, .f32⟩
  | 74 => ⟨S_, .f32⟩
  | 75 => ⟨S1x512, .f32⟩
  | 76 => ⟨S1x512, .f32⟩
  | 77 => ⟨S4096, .f32⟩
  | 78 => ⟨S3072, .f32⟩
  | 79 => ⟨S6144, .f32⟩
  | 80 => ⟨S64, .f32⟩
  | 81 => ⟨S64, .f32⟩
  | 82 => ⟨S64, .f32⟩
  | 83 => ⟨S4096, .f32⟩
  | 84 => ⟨S512, .f32⟩
  | 85 => ⟨S20160, .f32⟩
  | 86 => ⟨S_, .i32⟩
  | 87 => ⟨S_, .f32⟩
  | 88 => ⟨S20480, .f32⟩
  | 89 => ⟨S160x128, .f32⟩
  | 90 => ⟨S4096, .f32⟩
  | 91 => ⟨S3072, .f32⟩
  | 92 => ⟨S6144, .f32⟩
  | 93 => ⟨S64, .f32⟩
  | 94 => ⟨S64, .f32⟩
  | 95 => ⟨S64, .f32⟩
  | 96 => ⟨S4096, .f32⟩
  | 97 => ⟨S512, .f32⟩
  | 98 => ⟨S20160, .f32⟩
  | 99 => ⟨S_, .i32⟩
  | 100 => ⟨S_, .f32⟩
  | 101 => ⟨S20480, .f32⟩
  | 102 => ⟨S160x128, .f32⟩
  | 103 => ⟨S4096, .f32⟩
  | 104 => ⟨S3072, .f32⟩
  | 105 => ⟨S6144, .f32⟩
  | 106 => ⟨S64, .f32⟩
  | 107 => ⟨S64, .f32⟩
  | 108 => ⟨S64, .f32⟩
  | 109 => ⟨S4096, .f32⟩
  | 110 => ⟨S512, .f32⟩
  | 111 => ⟨S20160, .f32⟩
  | 112 => ⟨S_, .i32⟩
  | 113 => ⟨S_, .f32⟩
  | 114 => ⟨S20480, .f32⟩
  | 115 => ⟨S160x128, .f32⟩
  | _ => ⟨S2x2048, .f32⟩

abbrev hbmTy (i : Nat) : BufTy := match i / 128 with
  | 0 => hbmTy0_0 i
  | 1 => hbmTy0_1 i
  | 2 => hbmTy0_2 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_v224 : Ref sig .tc := ⟨.hbm, 341, rfl⟩
abbrev main_c : Ref sig .tc := ⟨.hbm, 342, rfl⟩
abbrev main_call0_v0 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_v234 : Ref sig .tc := ⟨.hbm, 353, rfl⟩
abbrev main_v235 : Ref sig .tc := ⟨.hbm, 354, rfl⟩
abbrev main_c_80 : Ref sig .tc := ⟨.hbm, 355, rfl⟩
abbrev main_call1_v0 : Ref sig .tc := ⟨.hbm, 356, rfl⟩
abbrev main_v236 : Ref sig .tc := ⟨.hbm, 357, rfl⟩
abbrev main_v237 : Ref sig .tc := ⟨.hbm, 358, rfl⟩
abbrev main_v238 : Ref sig .tc := ⟨.hbm, 359, rfl⟩
abbrev main_v239 : Ref sig .tc := ⟨.hbm, 360, rfl⟩
abbrev main_v240 : Ref sig .tc := ⟨.hbm, 361, rfl⟩
abbrev main_v241 : Ref sig .tc := ⟨.hbm, 362, rfl⟩
abbrev main_v242 : Ref sig .tc := ⟨.hbm, 363, rfl⟩
abbrev main_v243 : Ref sig .tc := ⟨.hbm, 364, rfl⟩
abbrev main_v244 : Ref sig .tc := ⟨.hbm, 365, rfl⟩
abbrev main_v245 : Ref sig .tc := ⟨.hbm, 366, rfl⟩
abbrev main_v246 : Ref sig .tc := ⟨.hbm, 367, rfl⟩
abbrev main_c_81 : Ref sig .tc := ⟨.hbm, 368, rfl⟩
abbrev main_call2_v0 : Ref sig .tc := ⟨.hbm, 369, rfl⟩
abbrev main_v247 : Ref sig .tc := ⟨.hbm, 370, rfl⟩
abbrev main_v248 : Ref sig .tc := ⟨.hbm, 371, rfl⟩

abbrev nD : Nat := 1
abbrev τ : Topo := Topo.v7x

variable {F : FTy → Type} [FloatOps F]
-- ==== Proof.Products.lean ====
/-
  Facts the product kernels share: a block product onto a zero accumulator, read at an element, in the three
  dimension-number shapes they use; the zero offsets of an access to a whole buffer; and what an accumulator holds
  after any point of a sweep over blocks of the contracted axis.
-/
module

public import Idealize.ShloMosaic.Lib.Pipeline.Value
public import Idealize.ShloMosaic.Lib.ValueIdx
public import Idealize.ShloMosaic.Lib.MatmulPlain

@[expose] public section

noncomputable section

open Idealize.ShloMosaic Idealize.ShloMosaic.ValueIdx
open scoped BigOperators

namespace Cert.Products

theorem zeros2 : (![0, 0] : Fin 2 → Nat) = fun _ => 0 := funext fun a => by fin_cases a <;> rfl
theorem zeros3 : (![0, 0, 0] : Fin 3 → Nat) = fun _ => 0 := funext fun a => by fin_cases a <;> rfl

/-- `[M, K] × [N, K]ᵀ` onto zero. -/
theorem transposed_zero {M K N : ℕ} {φ₁ φ₂ : FTy} (a : FVec Ideal ⟨2, ![M, K]⟩ φ₁) (b : FVec Ideal ⟨2, ![N, K]⟩ φ₂)
    (y : (⟨2, ![M, N]⟩ : Shape).Idx) :
    FloatOps.matmul (DotDims.transposedRhs M K N) none a b (constant ⟨2, ![M, N]⟩ .f32 0x00000000#32) y
      = ∑ k : Fin K, a (ix2 (y 0) k) * b (ix2 (y 1) k) := by
  have h := Ideal.matmul_transposedRhs_apply none a b (constant ⟨2, ![M, N]⟩ .f32 0x00000000#32) (y 0) (y 1)
  rw [eq_ix2 y]
  refine h.trans ?_
  show Ideal.ofBits .f32 0x00000000#32 + _ = _
  rw [Ideal.ofBits_zero_f32, zero_add]
  rfl

/-- `[M, K] × [K, N]` onto zero. -/
theorem plain_zero {M K N : ℕ} {φ₁ φ₂ : FTy} (a : FVec Ideal ⟨2, ![M, K]⟩ φ₁) (b : FVec Ideal ⟨2, ![K, N]⟩ φ₂)
    (y : (⟨2, ![M, N]⟩ : Shape).Idx) :
    FloatOps.matmul (DotDims.plain M K N) none a b (constant ⟨2, ![M, N]⟩ .f32 0x00000000#32) y
      = ∑ k : Fin K, a (ix2 (y 0) k) * b (ix2 k (y 1)) := by
  have h := Ideal.matmul_plain_apply none a b (constant ⟨2, ![M, N]⟩ .f32 0x00000000#32) (y 0) (y 1)
  rw [eq_ix2 y]
  refine h.trans ?_
  show Ideal.ofBits .f32 0x00000000#32 + _ = _
  rw [Ideal.ofBits_zero_f32, zero_add]
  rfl

/-- The dimension numbers of `[K, M]ᵀ × [K, N]`: both operands contracted on their first axis. -/
def leftTransposed (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- `[K, M]ᵀ × [K, N]` onto zero. -/
theorem leftTransposed_zero {M K N : ℕ} {φ₁ φ₂ : FTy} (a : FVec Ideal ⟨2, ![K, M]⟩ φ₁) (b : FVec Ideal ⟨2, ![K, N]⟩ φ₂)
    (y : (⟨2, ![M, N]⟩ : Shape).Idx) :
    FloatOps.matmul (leftTransposed M K N) none a b (constant ⟨2, ![M, N]⟩ .f32 0x00000000#32) y
      = ∑ k : Fin K, a (ix2 k (y 0)) * b (ix2 k (y 1)) := by
  rw [Ideal.matmul_apply, ← Equiv.sum_comp (contrEquiv1 (leftTransposed M K N) K rfl rfl).symm]
  show Ideal.ofBits .f32 0x00000000#32 + _ = _
  rw [Ideal.ofBits_zero_f32, zero_add]
  refine Finset.sum_congr rfl fun k _ => ?_
  have hk := contrEquiv1_symm_val (leftTransposed M K N) K rfl rfl k
  refine congrArg₂ (fun p q => a p * b q) ?_ ?_
  · funext d
    apply Fin.ext
    match d with
    | ⟨0, _⟩ => exact hk
    | ⟨1, _⟩ => rfl
  · funext d
    apply Fin.ext
    match d with
    | ⟨0, _⟩ => exact hk
    | ⟨1, _⟩ => rfl

/-- A sum over the first `N` naturals' worth of indices, the terms extended by zero. -/
def ext {N : ℕ} (f : Fin N → EReal) (k : ℕ) : EReal := if h : k < N then f ⟨k, h⟩ else 0

theorem ext_apply {N : ℕ} (f : Fin N → EReal) (k : ℕ) (h : k < N) : ext f k = f ⟨k, h⟩ := dif_pos h

/-- A whole sum is the prefix of full length. -/
theorem prefix_full {N : ℕ} (f : Fin N → EReal) : ∑ k ∈ Finset.range N, ext f k = ∑ k : Fin N, f k := by
  rw [Finset.sum_range]
  exact Finset.sum_congr rfl fun k _ => ext_apply f k.val k.isLt

/-- The prefix of `j + 1` blocks of length `B` is the prefix of `j` blocks and the next block's sum. -/
theorem prefix_step (F : ℕ → EReal) (j B : ℕ) :
    ∑ k ∈ Finset.range ((j + 1) * B), F k = ∑ k ∈ Finset.range (j * B), F k + ∑ k : Fin B, F (j * B + k.val) := by
  rw [Nat.add_mul, Nat.one_mul, Finset.sum_range_add, Finset.sum_range (fun k => F (j * B + k))]

/-- The first `j` blocks and the last one are the whole sum. -/
theorem prefix_last {N : ℕ} (f : Fin N → EReal) (j B : ℕ) (h : (j + 1) * B = N) :
    ∑ k ∈ Finset.range (j * B), ext f k + ∑ k : Fin B, ext f (j * B + k.val) = ∑ k : Fin N, f k := by
  rw [← prefix_step, h, prefix_full]

/-- The first block alone. -/
theorem prefix_one (F : ℕ → EReal) (B : ℕ) : ∑ k ∈ Finset.range (1 * B), F k = ∑ k : Fin B, F k.val := by
  rw [Nat.one_mul, Finset.sum_range]

/-- A sum over 2048 positions is the sum over the first 1024 plus the sum over the others. -/
theorem halves (f : Fin 2048 → EReal) :
    ∑ k : Fin 2048, f k = ∑ k : Fin 1024, f ⟨k.val, by omega⟩ + ∑ k : Fin 1024, f ⟨1024 + k.val, by omega⟩ :=
  Fin.sum_univ_add (a := 1024) (b := 1024) f

/-- An accumulator swept in runs of `p` points: the first point of a run sets it to its block's sum, and each later
    point but the last adds its block's sum. Within the run numbered `q` it holds the prefix swept so far. -/
theorem sweep {N : ℕ} (p B q : ℕ) (F : ℕ → EReal) (a : ∀ n, n < N → EReal)
    (first : ∀ n hn, n / p = q → n % p = 0 → a n hn = ∑ k : Fin B, F (n % p * B + k.val))
    (next : ∀ n hn, (n + 1) / p = q → (n + 1) % p ≠ 0 → (n + 1) % p + 1 < p →
      a (n + 1) hn = a n (Nat.lt_of_succ_lt hn) + ∑ k : Fin B, F ((n + 1) % p * B + k.val)) :
    ∀ n hn, n / p = q → n % p + 1 < p → a n hn = ∑ k ∈ Finset.range ((n % p + 1) * B), F k := by
  have start : ∀ n hn, n / p = q → n % p = 0 → a n hn = ∑ k ∈ Finset.range ((n % p + 1) * B), F k := by
    intro n hn hq h0
    rw [first n hn hq h0, h0, prefix_one]
    exact Finset.sum_congr rfl fun k _ => congrArg F (by rw [Nat.zero_mul, Nat.zero_add])
  intro n
  induction n with
  | zero => exact fun hn hq _ => start 0 hn hq (Nat.zero_mod p)
  | succ n ih =>
    intro hn hq hp
    by_cases h0 : (n + 1) % p = 0
    · exact start (n + 1) hn hq h0
    · have hpos : 0 < p := by omega
      have hd : n / p = (n + 1) / p ∧ n % p + 1 = (n + 1) % p := by
        have e := Nat.div_add_mod n p
        have e' := Nat.div_add_mod (n + 1) p
        have h1 : (n + 1) / p = n / p := by
          rw [Nat.succ_div, if_neg (fun h => h0 (Nat.mod_eq_zero_of_dvd h)), Nat.add_zero]
        rw [h1] at e'
        exact ⟨h1.symm, by omega⟩
      rw [next n hn hq h0 hp, ih (Nat.lt_of_succ_lt hn) (hd.1.trans hq) (by omega), hd.2, ← prefix_step]

/-- The end of a run: what the accumulator `a` held before the run's last point, plus that point's own sum `s`, is the whole
    sum, when each point's sum is that of its block of the terms. -/
theorem swept {N K : ℕ} (p B q : ℕ) (hK : p * B = K) (hp : 1 < p) (f : Fin K → EReal) (a s : ∀ n, n < N → EReal)
    (first : ∀ n hn, n % p = 0 → a n hn = s n hn)
    (next : ∀ n hn, (n + 1) % p ≠ 0 → (n + 1) % p + 1 < p → a (n + 1) hn = a n (Nat.lt_of_succ_lt hn) + s (n + 1) hn)
    (block : ∀ n hn, n / p = q → s n hn = ∑ k : Fin B, ext f (n % p * B + k.val))
    (n : ℕ) (hn : n < N) (hq : n / p = q) (hl : n % p + 1 = p) :
    a (n - 1) (Nat.lt_of_le_of_lt (Nat.sub_le n 1) hn) + s n hn = ∑ k : Fin K, f k := by
  obtain ⟨j, rfl⟩ : ∃ j, n = j + 1 := Nat.exists_eq_succ_of_ne_zero fun e => by
    subst e; rw [Nat.zero_mod] at hl; omega
  have e := Nat.div_add_mod j p
  have e' := Nat.div_add_mod (j + 1) p
  have h1 : (j + 1) / p = j / p := by
    rw [Nat.succ_div, if_neg (fun h => by have := Nat.mod_eq_zero_of_dvd h; omega), Nat.add_zero]
  rw [h1] at e' hq
  have hj : j % p + 1 = (j + 1) % p := by omega
  have h := sweep p B q (ext f) a (fun n hn hq h0 => (first n hn h0).trans (block n hn hq))
    (fun n hn hq h0 h2 => (next n hn h0 h2).trans (congrArg (_ + ·) (block (n + 1) hn hq))) j (Nat.lt_of_succ_lt hn) hq (by omega)
  show a j _ + s (j + 1) hn = _
  rw [h, block (j + 1) hn (h1.trans hq), hj]
  exact prefix_last f ((j + 1) % p) B (by rw [hl, hK])

/-- A leading axis of one element dropped. -/
theorem dropUnit_apply {A B : ℕ} {φ : FTy} (b : FVec Ideal ⟨3, ![1, A, B]⟩ φ) (h : (⟨3, ![1, A, B]⟩ : Shape).ShapeCasts ⟨2, ![A, B]⟩)
    (r : Fin A) (k : Fin B) : shapeCast ⟨2, ![A, B]⟩ b h (ix2 r k) = b (ix3 (0 : Fin 1) r k) := by
  refine (shapeCast_dropUnit_apply ![A, B] b h (ix2 r k)).trans (congrArg b ?_)
  funext d
  match d with
  | ⟨0, _⟩ => rfl
  | ⟨1, _⟩ => rfl
  | ⟨2, _⟩ => rfl

/-- The two products whose right operand has a leading axis of one element. -/
theorem transposed_unit {M K N : ℕ} {φ₁ φ₂ : FTy} (a : FVec Ideal ⟨2, ![M, K]⟩ φ₁) (b : FVec Ideal ⟨3, ![1, N, K]⟩ φ₂)
    (h : (⟨3, ![1, N, K]⟩ : Shape).ShapeCasts ⟨2, ![N, K]⟩) (y : (⟨2, ![M, N]⟩ : Shape).Idx) :
    FloatOps.matmul (φ₂ := φ₂) (DotDims.transposedRhs M K N) none a (shapeCast ⟨2, ![N, K]⟩ b h) (constant ⟨2, ![M, N]⟩ .f32 0x00000000#32) y
      = ∑ k : Fin K, a (ix2 (y 0) k) * b (ix3 (0 : Fin 1) (y 1) k) :=
  (transposed_zero a (φ₂ := φ₂) (shapeCast ⟨2, ![N, K]⟩ b h) y).trans
    (Finset.sum_congr rfl fun k _ => congrArg (a (ix2 (y 0) k) * ·) (dropUnit_apply b h (y 1) k))

theorem plain_unit {M K N : ℕ} {φ₁ φ₂ : FTy} (a : FVec Ideal ⟨2, ![M, K]⟩ φ₁) (b : FVec Ideal ⟨3, ![1, K, N]⟩ φ₂)
    (h : (⟨3, ![1, K, N]⟩ : Shape).ShapeCasts ⟨2, ![K, N]⟩) (y : (⟨2, ![M, N]⟩ : Shape).Idx) :
    FloatOps.matmul (φ₂ := φ₂) (DotDims.plain M K N) none a (shapeCast ⟨2, ![K, N]⟩ b h) (constant ⟨2, ![M, N]⟩ .f32 0x00000000#32) y
      = ∑ k : Fin K, a (ix2 (y 0) k) * b (ix3 (0 : Fin 1) k (y 1)) :=
  (plain_zero a (φ₂ := φ₂) (shapeCast ⟨2, ![K, N]⟩ b h) y).trans
    (Finset.sum_congr rfl fun k _ => congrArg (a (ix2 (y 0) k) * ·) (dropUnit_apply b h k (y 1)))

end Cert.Products

end
-- ==== Proof.SsmOutValue.lean ====
/-
  The gradient of the output projection with respect to its input, `dyn = dh2 · w_outᵀ`: the kernel tiles the
  [4096, 4096] result into sixteen [1024, 1024] blocks, each one product of a [1024, 2048] strip of `dh2` with a
  [1024, 2048] strip of the weights, contracted along the second axis of both. The reference is the vector-Jacobian
  product of `y @ w_out`. Both are, at (r, j), the sum over k of `dh2 (r, k) · w_out (j, k)`.
-/
module

public import proofs.«01_k».proof.Defs
public import proofs.«01_k».proof.Proof.Gen.SsmOutIdeal.Value
public import proofs.«01_k».proof.Proof.Gen.SsmOutRefIdeal.Run
public import proofs.«01_k».proof.Proof.Gen.SsmOutRefIdeal.Read
public import Idealize.ShloMosaic.Lib.Pipeline.Value
public import Idealize.ShloMosaic.Lib.ValueIdx
public import proofs.«01_k».proof.Proof.Products

@[expose] public section

noncomputable section

open Idealize.ShloMosaic Idealize.ShloMosaic.TcCoe Idealize.SL.Sem Idealize.ShloMosaic.ValueIdx
open Idealize.ShloMosaic.Pipeline (Dat)
open scoped BigOperators

namespace Cert.SsmOutIdeal.Tiles

open Cert.SsmOutIdeal Cert.SsmOutIdeal.Gen

variable (m : (ℓ : Loc nD τ sig) → Buf (Elt Ideal) ℓ) (ρ : Dev nD → PrngReg)

/-- The product as one function of the two arguments. -/
def prod (x : S4096x2048.Idx → EReal) (w : S4096x2048.Idx → EReal) (i : S4096x4096.Idx) : EReal :=
  ∑ k : Fin 2048, x (ix2 (i 0) k) * w (ix2 (i 1) k)

/-- The result array of device `c`. -/
def G (c : Dev nD) : Buf (Elt Ideal) ((c : Thread nD τ).loc main_v0) :=
  prod (m ((c : Thread nD τ).loc main_arg0)) (m ((c : Thread nD τ).loc main_arg1))

/-- One block's product at an element. -/
theorem pay_apply (a b : Vec Ideal S1024x2048 .bf16) (y : S1024x1024.Idx) :
    k0_pay1 a b y = ∑ k : Fin 2048, a (ix2 (y 0) k) * b (ix2 (y 1) k) := by
  unfold k0_pay1
  exact Cert.Products.transposed_zero a b y

/-- Where the windows' blocks lie: the result's block (p, q) takes row block p of the first argument and row block q
    of the second. -/
theorem index_facts : ∀ t : Fin grid0.N,
    win0_0.index t 0 = win0_2.index t 0 ∧ win0_0.index t 1 = 0 ∧ win0_1.index t 0 = win0_2.index t 1 ∧ win0_1.index t 1 = 0
      ∧ win0_2.index t 0 = t.val / 4 ∧ win0_2.index t 1 = t.val % 4 ∧ (cfg0.win 2).flush t = true := by
  decide +kernel

/-- Row block of the first argument, read at an element. -/
theorem iblk0_apply (c : Dev nD) (t : Fin cfg0.N) (r : Fin 1024) (k : Fin 2048) (R : Fin 4096)
    (hR : R.val = win0_2.index t 0 * 1024 + r.val) :
    iblk m c 0 t (ix2 r k) = m ((c : Thread nD τ).loc main_arg0) (ix2 R k) := by
  obtain ⟨h0, h1, -⟩ := index_facts t
  unfold iblk
  rw [View.read_apply]
  show V m c main_arg0 _ = _
  unfold V
  refine congrArg (m ((c : Thread nD τ).loc main_arg0)) (Shape.idx_ext₂ ?_ ?_)
  · show win0_0.index t 0 * 1024 + 1 * r.val = R.val
    rw [h0]; omega
  · show win0_0.index t 1 * 2048 + 1 * k.val = k.val
    rw [h1]; omega

/-- Row block of the second argument, read at an element. -/
theorem iblk1_apply (c : Dev nD) (t : Fin cfg0.N) (r : Fin 1024) (k : Fin 2048) (R : Fin 4096)
    (hR : R.val = win0_2.index t 1 * 1024 + r.val) :
    iblk m c 1 t (ix2 r k) = m ((c : Thread nD τ).loc main_arg1) (ix2 R k) := by
  obtain ⟨-, -, h0, h1, -⟩ := index_facts t
  unfold iblk
  rw [View.read_apply]
  show V m c main_arg1 _ = _
  unfold V
  refine congrArg (m ((c : Thread nD τ).loc main_arg1)) (Shape.idx_ext₂ ?_ ?_)
  · show win0_1.index t 0 * 1024 + 1 * r.val = R.val
    rw [h0]; omega
  · show win0_1.index t 1 * 2048 + 1 * k.val = k.val
    rw [h1]; omega

/-- What each grid point writes back is its block of the product. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero Cert.Products.zeros2, View.ld_unit_zero Cert.Products.zeros2, View.ld_unit_zero Cert.Products.zeros2]
  funext y
  rw [View.read_apply]
  refine Eq.trans (pay_apply (iblk m c 0 t) (iblk m c 1 t) y) ?_
  unfold G prod
  refine Finset.sum_congr rfl fun k _ => ?_
  have e0 : ((((cfg0.win 2).blk t).view.emb y) 0).val = win0_2.index t 0 * 1024 + (y 0).val := by
    show win0_2.index t 0 * 1024 + 1 * (y 0).val = _; omega
  have e1 : ((((cfg0.win 2).blk t).view.emb y) 1).val = win0_2.index t 1 * 1024 + (y 1).val := by
    show win0_2.index t 1 * 1024 + 1 * (y 1).val = _; omega
  exact congrArg₂ (· * ·) (iblk0_apply m c t (y 0) k _ e0) (iblk1_apply m c t (y 1) k _ e1)

/-- The sixteen blocks tile the result. -/
theorem cover (i : S4096x4096.Idx) : ∃ t : Fin cfg0.N, (cfg0.win 2).flush t = true ∧ i ∈ ((cfg0.win 2).blk t).view.set := by
  have b0 : (i 0).val < 4096 := (i 0).isLt
  have b1 : (i 1).val < 4096 := (i 1).isLt
  let t : Fin grid0.N := ⟨(i 0).val / 1024 * 4 + (i 1).val / 1024, by rw [N_0]; omega⟩
  obtain ⟨-, -, -, -, h0, h1, hf⟩ := index_facts t
  refine ⟨t, hf, ?_⟩
  show i ∈ ((View.whole main_v0).slice (win0_2.rect t)).set
  rw [View.set_slice_whole, Rect.mem_set_unit]
  have e0 : win0_2.index t 0 = (i 0).val / 1024 := by
    rw [h0]; show ((i 0).val / 1024 * 4 + (i 1).val / 1024) / 4 = _; omega
  have e1 : win0_2.index t 1 = (i 1).val / 1024 := by
    rw [h1]; show ((i 0).val / 1024 * 4 + (i 1).val / 1024) % 4 = _; omega
  intro a
  match a with
  | ⟨0, _⟩ =>
    show win0_2.index t 0 * 1024 ≤ (i 0).val ∧ (i 0).val < win0_2.index t 0 * 1024 + 1024
    rw [e0]; omega
  | ⟨1, _⟩ =>
    show win0_2.index t 1 * 1024 ≤ (i 1).val ∧ (i 1).val < win0_2.index t 1 * 1024 + 1024
    rw [e1]; omega

theorem final (c : Dev nD) : (dats m 0 c).arrAt 2 cfg0.N = G m c :=
  (dats m 0 c).arrAt_eq_of_cover 2 (G m c) (fun t _ => flushed_eq m c t) cover

end Cert.SsmOutIdeal.Tiles

namespace Cert.SsmOutValue

/-- The reference's vector-Jacobian product, read at an element, is the same sum. -/
theorem ref_eq (x w : Cert.SsmOutRefIdeal.S4096x2048.Idx → EReal) :
    Cert.SsmOutRefIdeal.Read.val_main_v4 (F := Ideal) x w = Cert.SsmOutIdeal.Tiles.prod x w := by
  funext i
  rw [Cert.SsmOutRefIdeal.Read.val_main_v4_apply]
  unfold Cert.SsmOutIdeal.Tiles.prod
  refine Finset.sum_congr rfl fun k _ => ?_
  rw [Cert.SsmOutRefIdeal.Read.val_main_v3_apply, Cert.SsmOutRefIdeal.Read.val_main_v1_apply]
  refine congrArg₂ (· * ·) (congrArg x (Shape.idx_ext₂ rfl rfl)) (congrArg w (Shape.idx_ext₂ rfl rfl))

/-- On equal arguments the kernel's result is the reference's. -/
theorem algebraic : Cert.algebraic_SsmOutIdeal_SsmOutRefIdeal := by
  intro m ρ m' ρ' _ hagree
  refine ⟨fun c => Cert.SsmOutIdeal.Tiles.G m c, ?_, ?_⟩
  · exact (θ_run Cert.SsmOutIdeal.defs _ _).mono (fun r h c =>
      ⟨(h c).1.trans (Cert.SsmOutIdeal.Tiles.final m c), (h c).2.1, (h c).2.2⟩) (Cert.SsmOutIdeal.Value.run_blocks (F := Ideal) m ρ)
  · refine (θ_run Cert.SsmOutRefIdeal.defs _ _).mono (fun r h c => ⟨(h c).1.trans ?_, (h c).2.1, (h c).2.2⟩)
      (Cert.SsmOutRefIdeal.Value.run (F := Ideal) m' ρ')
    refine (Cert.SsmOutRefIdeal.Read.val_main_v4_eq _ _).trans ((ref_eq _ _).trans ?_)
    rw [(hagree c).1, (hagree c).2]
    rfl

end Cert.SsmOutValue

end
-- ==== Proof.GroupValue.lean ====
/-
  The gradient of the grouped product with respect to its input: four independent [1024, 1024] weight matrices, one per
  group of 1024 channels. The kernel tiles the [4096, 4096] result into sixteen [1024, 1024] blocks; block (p, g) is
  the product of row block p, group g of the incoming gradient with the transpose of group g's weights. The reference
  is the vector-Jacobian product of the einsum "blgc,gcd->blgd". Both are, at (r, j) with j in group g at position q,
  the sum over k of `dy (r, 1024 g + k) · w (g, q, k)`.
-/
module

public import proofs.«01_k».proof.Defs
public import proofs.«01_k».proof.Proof.Gen.GroupIdeal.Value
public import proofs.«01_k».proof.Proof.Gen.GroupRefIdeal.Run
public import proofs.«01_k».proof.Proof.Gen.GroupRefIdeal.Read
public import Idealize.ShloMosaic.Lib.Pipeline.Value
public import Idealize.ShloMosaic.Lib.ValueIdx
public import proofs.«01_k».proof.Proof.Products

@[expose] public section

noncomputable section

open Idealize.ShloMosaic Idealize.ShloMosaic.TcCoe Idealize.SL.Sem Idealize.ShloMosaic.ValueIdx
open Idealize.ShloMosaic.Pipeline (Dat)
open scoped BigOperators

namespace Cert.GroupIdeal.Tiles

open Cert.GroupIdeal Cert.GroupIdeal.Gen

variable (m : (ℓ : Loc nD τ sig) → Buf (Elt Ideal) ℓ) (ρ : Dev nD → PrngReg)

/-- The product as one function of the two arguments. -/
def prod (x : S4096x4096.Idx → EReal) (w : S4x1024x1024.Idx → EReal) (i : S4096x4096.Idx) : EReal :=
  ∑ k : Fin 1024, x (ix2 (i 0) (⟨(i 1).val / 1024 * 1024 + k.val, by have h : (i 1).val < 4096 := (i 1).isLt; omega⟩ : Fin 4096))
    * w (ix3 (⟨(i 1).val / 1024, by have h : (i 1).val < 4096 := (i 1).isLt; omega⟩ : Fin 4)
        (⟨(i 1).val % 1024, by omega⟩ : Fin 1024) k)

/-- The result array of device `c`. -/
def G (c : Dev nD) : Buf (Elt Ideal) ((c : Thread nD τ).loc main_v0) :=
  prod (m ((c : Thread nD τ).loc main_arg0)) (m ((c : Thread nD τ).loc main_arg1))

/-- One block's product at an element. -/
theorem pay_apply (a : Vec Ideal S1024x1024 .bf16) (b : Vec Ideal S1x1024x1024 .bf16) (y : S1024x1024.Idx) :
    k0_pay1 a b y = ∑ k : Fin 1024, a (ix2 (y 0) k) * b (ix3 (0 : Fin 1) (y 1) k) := by
  unfold k0_pay1
  exact Cert.Products.transposed_unit a b shapeCasts_S1x1024x1024_S1024x1024 y

/-- Where the windows' blocks lie: the result's block (p, g) takes block (p, g) of the incoming gradient and group g
    of the weights. -/
theorem index_facts : ∀ t : Fin grid0.N,
    win0_0.index t 0 = win0_2.index t 0 ∧ win0_0.index t 1 = win0_2.index t 1
      ∧ win0_1.index t 0 = win0_2.index t 1 ∧ win0_1.index t 1 = 0 ∧ win0_1.index t 2 = 0
      ∧ (cfg0.win 2).flush t = true ∧ win0_2.index t 0 < 4 ∧ win0_2.index t 1 < 4 := by
  decide +kernel

/-- Every block of the result is some point's. -/
theorem index_onto : ∀ p q : Fin 4, ∃ t : Fin grid0.N, win0_2.index t 0 = p.val ∧ win0_2.index t 1 = q.val := by
  decide +kernel

/-- The incoming gradient's block, read at an element. -/
theorem iblk0_apply (c : Dev nD) (t : Fin cfg0.N) (r k : Fin 1024) (R K : Fin 4096)
    (hR : R.val = win0_2.index t 0 * 1024 + r.val) (hK : K.val = win0_2.index t 1 * 1024 + k.val) :
    iblk m c 0 t (ix2 r k) = m ((c : Thread nD τ).loc main_arg0) (ix2 R K) := by
  obtain ⟨h0, h1, -⟩ := index_facts t
  unfold iblk
  rw [View.read_apply]
  show V m c main_arg0 _ = _
  unfold V
  refine congrArg (m ((c : Thread nD τ).loc main_arg0)) (Shape.idx_ext₂ ?_ ?_)
  · show win0_0.index t 0 * 1024 + 1 * r.val = R.val
    rw [h0]; omega
  · show win0_0.index t 1 * 1024 + 1 * k.val = K.val
    rw [h1]; omega

/-- The group's weights, read at an element. -/
theorem iblk1_apply (c : Dev nD) (t : Fin cfg0.N) (r k : Fin 1024) (g : Fin 4) (q : Fin 1024)
    (hg : g.val = win0_2.index t 1) (hq : q.val = r.val) :
    iblk m c 1 t (ix3 (0 : Fin 1) r k) = m ((c : Thread nD τ).loc main_arg1) (ix3 g q k) := by
  obtain ⟨-, -, h0, h1, h2, -⟩ := index_facts t
  unfold iblk
  rw [View.read_apply]
  show V m c main_arg1 _ = _
  unfold V
  refine congrArg (m ((c : Thread nD τ).loc main_arg1)) ?_
  funext d
  apply Fin.ext
  match d with
  | ⟨0, _⟩ => show win0_1.index t 0 * 1 + 1 * 0 = g.val; rw [h0]; omega
  | ⟨1, _⟩ => show win0_1.index t 1 * 1024 + 1 * r.val = q.val; rw [h1]; omega
  | ⟨2, _⟩ => show win0_1.index t 2 * 1024 + 1 * k.val = k.val; rw [h2]; omega

/-- What each grid point writes back is its block of the product. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero Cert.Products.zeros2, View.ld_unit_zero Cert.Products.zeros2, View.ld_unit_zero Cert.Products.zeros3]
  funext y
  rw [View.read_apply]
  refine Eq.trans (pay_apply (iblk m c 0 t) (iblk m c 1 t) y) ?_
  unfold G prod
  refine Finset.sum_congr rfl fun k _ => ?_
  have e0 : ((((cfg0.win 2).blk t).view.emb y) 0).val = win0_2.index t 0 * 1024 + (y 0).val := by
    show win0_2.index t 0 * 1024 + 1 * (y 0).val = _; omega
  have e1 : ((((cfg0.win 2).blk t).view.emb y) 1).val = win0_2.index t 1 * 1024 + (y 1).val := by
    show win0_2.index t 1 * 1024 + 1 * (y 1).val = _; omega
  have b1 : (y 1).val < 1024 := (y 1).isLt
  refine congrArg₂ (· * ·) (iblk0_apply m c t (y 0) k _ _ e0 ?_) (iblk1_apply m c t (y 1) k _ _ ?_ ?_)
  · show (((cfg0.win 2).blk t).view.emb y 1).val / 1024 * 1024 + k.val = _
    rw [e1]; omega
  · show (((cfg0.win 2).blk t).view.emb y 1).val / 1024 = _
    rw [e1]; omega
  · show (((cfg0.win 2).blk t).view.emb y 1).val % 1024 = _
    rw [e1]; omega

/-- The sixteen blocks tile the result. -/
theorem cover (i : S4096x4096.Idx) : ∃ t : Fin cfg0.N, (cfg0.win 2).flush t = true ∧ i ∈ ((cfg0.win 2).blk t).view.set := by
  have b0 : (i 0).val < 4096 := (i 0).isLt
  have b1 : (i 1).val < 4096 := (i 1).isLt
  obtain ⟨t, e0, e1⟩ := index_onto ⟨(i 0).val / 1024, by omega⟩ ⟨(i 1).val / 1024, by omega⟩
  have f0 : win0_2.index t 0 = (i 0).val / 1024 := e0
  have f1 : win0_2.index t 1 = (i 1).val / 1024 := e1
  refine ⟨t, (index_facts t).2.2.2.2.2.1, ?_⟩
  show i ∈ ((View.whole main_v0).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [f0]; omega
  | ⟨1, _⟩ =>
    show win0_2.index t 1 * 1024 ≤ (i 1).val ∧ (i 1).val < win0_2.index t 1 * 1024 + 1024
    rw [f1]; omega

theorem final (c : Dev nD) : (dats m 0 c).arrAt 2 cfg0.N = G m c :=
  (dats m 0 c).arrAt_eq_of_cover 2 (G m c) (fun t _ => flushed_eq m c t) cover

end Cert.GroupIdeal.Tiles

namespace Cert.GroupValue

/-- The reference's vector-Jacobian product, read at an element, is the same sum. -/
theorem ref_eq (x : Cert.GroupRefIdeal.S4096x4096.Idx → EReal) (w : Cert.GroupRefIdeal.S4x1024x1024.Idx → EReal) :
    Cert.GroupRefIdeal.Read.val_main_v11 (F := Ideal) x w = Cert.GroupIdeal.Tiles.prod x w := by
  funext i
  have b0 : (i 0).val < 4096 := (i 0).isLt
  have b1 : (i 1).val < 4096 := (i 1).isLt
  rw [Cert.GroupRefIdeal.Read.val_main_v11_apply, Cert.GroupRefIdeal.Read.val_main_v10_apply,
    Cert.GroupRefIdeal.Read.val_main_v9_apply]
  unfold Cert.GroupIdeal.Tiles.prod
  refine Finset.sum_congr rfl fun k _ => ?_
  have bk : k.val < 1024 := k.isLt
  rw [Cert.GroupRefIdeal.Read.val_main_v8_apply, Cert.GroupRefIdeal.Read.val_main_v7_apply,
    Cert.GroupRefIdeal.Read.val_main_v6_apply, Cert.GroupRefIdeal.Read.val_main_v2_apply]
  refine congrArg₂ (· * ·) (congrArg x (Shape.idx_ext₂ ?_ ?_)) (congrArg w ?_)
  · show (((0 * 4096 + ((i 0).val * 4096 + (i 1).val) / 4096 % 4096) * 4 + ((i 0).val * 4096 + (i 1).val) / 1024 % 4) * 1024 + k.val) / 4096 = (i 0).val
    omega
  · show (((0 * 4096 + ((i 0).val * 4096 + (i 1).val) / 4096 % 4096) * 4 + ((i 0).val * 4096 + (i 1).val) / 1024 % 4) * 1024 + k.val) % 4096 = (i 1).val / 1024 * 1024 + k.val
    omega
  · funext d
    apply Fin.ext
    match d with
    | ⟨0, _⟩ => show ((i 0).val * 4096 + (i 1).val) / 1024 % 4 = (i 1).val / 1024; omega
    | ⟨1, _⟩ => show ((i 0).val * 4096 + (i 1).val) % 1024 = (i 1).val % 1024; omega
    | ⟨2, _⟩ => rfl

/-- On equal arguments the kernel's result is the reference's. -/
theorem algebraic : Cert.algebraic_GroupIdeal_GroupRefIdeal := by
  intro m ρ m' ρ' _ hagree
  refine ⟨fun c => Cert.GroupIdeal.Tiles.G m c, ?_, ?_⟩
  · exact (θ_run Cert.GroupIdeal.defs _ _).mono (fun r h c =>
      ⟨(h c).1.trans (Cert.GroupIdeal.Tiles.final m c), (h c).2.1, (h c).2.2⟩) (Cert.GroupIdeal.Value.run_blocks (F := Ideal) m ρ)
  · refine (θ_run Cert.GroupRefIdeal.defs _ _).mono (fun r h c => ⟨(h c).1.trans ?_, (h c).2.1, (h c).2.2⟩)
      (Cert.GroupRefIdeal.Value.run (F := Ideal) m' ρ')
    refine (Cert.GroupRefIdeal.Read.val_main_v11_eq _ _).trans ((ref_eq _ _).trans ?_)
    rw [(hagree c).1, (hagree c).2]
    rfl

end Cert.GroupValue

end
-- ==== Proof.PoolInValue.lean ====
/-
  The gradient of the pooled mixer's input projection with respect to its input, `dh = dpu · w_inᵀ`. The weights are
  stored as eight [2048, 1024] column blocks. The kernel tiles the [4096, 2048] result into [1024, 1024] blocks and
  sweeps the eight column blocks innermost: the first product overwrites an accumulator, the next six are added to
  it, and the last is added and written out. The reference is the vector-Jacobian product of `h @ w_in` with the
  column blocks put side by side. Both are, at (r, j), the sum over k below 8192 of
  `dpu (r, k) · w (k / 1024, j, k % 1024)`.
-/
module

public import proofs.«01_k».proof.Defs
public import proofs.«01_k».proof.Proof.Gen.PoolInIdeal.Value
public import proofs.«01_k».proof.Proof.Gen.PoolInRefIdeal.Run
public import proofs.«01_k».proof.Proof.Gen.PoolInRefIdeal.Read
public import Idealize.ShloMosaic.Lib.Pipeline.Value
public import Idealize.ShloMosaic.Lib.ValueIdx
public import proofs.«01_k».proof.Proof.Products

@[expose] public section

noncomputable section

open Idealize.ShloMosaic Idealize.ShloMosaic.TcCoe Idealize.SL.Sem Idealize.ShloMosaic.ValueIdx
open Idealize.ShloMosaic.Pipeline (Dat)
open scoped BigOperators

namespace Cert.PoolInIdeal.Tiles

open Cert.PoolInIdeal Cert.PoolInIdeal.Gen

variable (m : (ℓ : Loc nD τ sig) → Buf (Elt Ideal) ℓ) (ρ : Dev nD → PrngReg)

/-- The product's term at contracted position `k`. -/
def term (x : S4096x8192.Idx → EReal) (w : S8x2048x1024.Idx → EReal) (R : Fin 4096) (C : Fin 2048) (k : Fin 8192) : EReal :=
  x (ix2 R k) * w (ix3 (⟨k.val / 1024, by omega⟩ : Fin 8) C (⟨k.val % 1024, by omega⟩ : Fin 1024))

/-- The product as one function of the two arguments. -/
def prod (x : S4096x8192.Idx → EReal) (w : S8x2048x1024.Idx → EReal) (i : S4096x2048.Idx) : EReal :=
  ∑ k : Fin 8192, term x w (i 0) (i 1) k

/-- The result array of device `c`. -/
def G (c : Dev nD) : Buf (Elt Ideal) ((c : Thread nD τ).loc main_v0) :=
  prod (m ((c : Thread nD τ).loc main_arg0)) (m ((c : Thread nD τ).loc main_arg1))

/-! ## The payloads at an element -/

/-- One block's product at an element. -/
theorem mm_apply (a : Vec Ideal S1024x1024 .bf16) (b : Vec Ideal S1x1024x1024 .bf16) (y : S1024x1024.Idx) :
    matmul (φ₁ := .bf16) (φ₂ := .bf16) dot_S1024x1024_S1024x1024_S1024x1024_1_1_0_0_n_n none a
        (shapeCast S1024x1024 b shapeCasts_S1x1024x1024_S1024x1024) (constant (F := Ideal) S1024x1024 .f32 0x00000000#32) y
      = ∑ k : Fin 1024, a (ix2 (y 0) k) * b (ix3 (0 : Fin 1) (y 1) k) := by
  exact Cert.Products.transposed_unit a b shapeCasts_S1x1024x1024_S1024x1024 y

theorem pay1_apply (a : Vec Ideal S1024x1024 .bf16) (b : Vec Ideal S1x1024x1024 .bf16) (y : S1024x1024.Idx) :
    k0_pay1 a b y = ∑ k : Fin 1024, a (ix2 (y 0) k) * b (ix3 (0 : Fin 1) (y 1) k) := by
  unfold k0_pay1
  simp only [shapeCast_self]
  exact mm_apply a b y

theorem pay2_apply (s : Vec Ideal S1024x1024 .f32) (a : Vec Ideal S1024x1024 .bf16) (b : Vec Ideal S1x1024x1024 .bf16)
    (y : S1024x1024.Idx) :
    k0_pay2 s a b y = s y + ∑ k : Fin 1024, a (ix2 (y 0) k) * b (ix3 (0 : Fin 1) (y 1) k) := by
  unfold k0_pay2
  simp only [shapeCast_self]
  exact congrArg (s y + ·) (mm_apply a b y)

theorem pay3_apply (s : Vec Ideal S1024x1024 .f32) (a : Vec Ideal S1024x1024 .bf16) (b : Vec Ideal S1x1024x1024 .bf16)
    (y : S1024x1024.Idx) :
    k0_pay3 s a b y = s y + ∑ k : Fin 1024, a (ix2 (y 0) k) * b (ix3 (0 : Fin 1) (y 1) k) := by
  unfold k0_pay3
  exact congrArg (s y + ·) (mm_apply a b y)

/-! ## What each case leaves -/

section Cases
variable (c : Dev nD) (i : grid0.Coords)
  (a3 : Memref sig .tc .vmem S1024x1024 .bf16) (h3 : a3.IsWhole) (a4 : Memref sig .tc .vmem S1x1024x1024 .bf16) (h4 : a4.IsWhole)
  (a5 : Memref sig .tc .vmem S1024x1024 .f32) (h5 : a5.IsWhole) (a6 : Memref sig .tc .vmem S1024x1024 .f32) (h6 : a6.IsWhole)
  (x0 : Vec Ideal S1024x1024 .bf16) (x1 : Vec Ideal S1x1024x1024 .bf16) (xs : Vec Ideal S1024x1024 .f32)

/-- The first point of a sweep leaves its product in the accumulator. -/
theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero Cert.Products.zeros2]
  simp only [View.readAt_eq_ld, h3.read_unread, h4.read_unread]
  rw [View.ld_unit_zero Cert.Products.zeros2, View.ld_unit_zero Cert.Products.zeros3]

/-- A middle point adds its product to what the accumulator held. -/
theorem sout_B (hc0 : ¬cond0_0 i) (hc1 : cond0_1 i) (hc2 : ¬cond0_2 i) :
    sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero Cert.Products.zeros2]
  simp only [View.readAt_eq_ld, h3.read_unread, h4.read_unread, h6.read_unread]
  rw [View.ld_unit_zero Cert.Products.zeros2, View.ld_unit_zero Cert.Products.zeros2, View.ld_unit_zero Cert.Products.zeros3]

/-- The last point writes out the accumulator plus its product. -/
theorem out_C (hc0 : ¬cond0_0 i) (hc1 : ¬cond0_1 i) (hc2 : cond0_2 i) :
    out0_C_2 c i a3 h3 a4 h4 a5 h5 a6 h6 hc0 hc1 hc2 x0 x1 xs = k0_pay3 xs x0 x1 := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero Cert.Products.zeros2]
  simp only [View.readAt_eq_ld, h3.read_unread, h4.read_unread, h6.read_unread]
  rw [View.ld_unit_zero Cert.Products.zeros2, View.ld_unit_zero Cert.Products.zeros2, View.ld_unit_zero Cert.Products.zeros3]

end Cases

/-! ## Where the windows' blocks lie -/

/-- Point `t` is block row `t / 16`, block column `t / 8 % 2`, column block `t % 8`. -/
theorem index_facts : ∀ t : Fin grid0.N,
    win0_0.index t 0 = t.val / 16 ∧ win0_0.index t 1 = t.val % 8
      ∧ win0_1.index t 0 = t.val % 8 ∧ win0_1.index t 1 = t.val / 8 % 2 ∧ win0_1.index t 2 = 0
      ∧ win0_2.index t 0 = t.val / 16 ∧ win0_2.index t 1 = t.val / 8 % 2 := by
  decide +kernel

theorem iblk0_apply (c : Dev nD) (t : Fin cfg0.N) (r k : Fin 1024) (R : Fin 4096) (K : Fin 8192)
    (hR : R.val = t.val / 16 * 1024 + r.val) (hK : K.val = t.val % 8 * 1024 + k.val) :
    iblk m c 0 t (ix2 r k) = m ((c : Thread nD τ).loc main_arg0) (ix2 R K) := by
  obtain ⟨h0, h1, -⟩ := index_facts t
  unfold iblk
  rw [View.read_apply]
  show V m c main_arg0 _ = _
  unfold V
  refine congrArg (m ((c : Thread nD τ).loc main_arg0)) (Shape.idx_ext₂ ?_ ?_)
  · show win0_0.index t 0 * 1024 + 1 * r.val = R.val
    rw [h0]; omega
  · show win0_0.index t 1 * 1024 + 1 * k.val = K.val
    rw [h1]; omega

theorem iblk1_apply (c : Dev nD) (t : Fin cfg0.N) (r k : Fin 1024) (g : Fin 8) (C : Fin 2048) (q : Fin 1024)
    (hg : g.val = t.val % 8) (hC : C.val = t.val / 8 % 2 * 1024 + r.val) (hq : q.val = k.val) :
    iblk m c 1 t (ix3 (0 : Fin 1) r k) = m ((c : Thread nD τ).loc main_arg1) (ix3 g C q) := by
  obtain ⟨-, -, h0, h1, h2, -⟩ := index_facts t
  unfold iblk
  rw [View.read_apply]
  show V m c main_arg1 _ = _
  unfold V
  refine congrArg (m ((c : Thread nD τ).loc main_arg1)) ?_
  funext d
  apply Fin.ext
  match d with
  | ⟨0, _⟩ => show win0_1.index t 0 * 1 + 1 * 0 = g.val; rw [h0]; omega
  | ⟨1, _⟩ => show win0_1.index t 1 * 1024 + 1 * r.val = C.val; rw [h1]; omega
  | ⟨2, _⟩ => show win0_1.index t 2 * 1024 + 1 * k.val = q.val; rw [h2]; omega

/-- The two blocks point `t` multiplies. -/
abbrev xb (c : Dev nD) (t : Fin cfg0.N) : S1024x1024.Idx → EReal := iblk m c 0 t
abbrev wb (c : Dev nD) (t : Fin cfg0.N) : S1x1024x1024.Idx → EReal := iblk m c 1 t

/-- Point `t`'s product at an element, and as the sum of the terms of its column block. -/
def blockProd (c : Dev nD) (t : Fin cfg0.N) (y : S1024x1024.Idx) : EReal :=
  ∑ k : Fin 1024, xb m c t (ix2 (y 0) k) * wb m c t (ix3 (0 : Fin 1) (y 1) k)

theorem block_sum (c : Dev nD) (t : Fin cfg0.N) (y : S1024x1024.Idx) (R : Fin 4096) (C : Fin 2048)
    (hR : R.val = t.val / 16 * 1024 + (y 0).val) (hC : C.val = t.val / 8 % 2 * 1024 + (y 1).val) :
    blockProd m c t y
      = ∑ k : Fin 1024, Cert.Products.ext (term (m ((c : Thread nD τ).loc main_arg0)) (m ((c : Thread nD τ).loc main_arg1)) R C)
          (t.val % 8 * 1024 + k.val) := by
  refine Finset.sum_congr rfl fun k _ => ?_
  rw [Cert.Products.ext_apply _ _ (by omega)]
  unfold term
  exact congrArg₂ (· * ·) (iblk0_apply m c t (y 0) k R _ hR rfl)
    (iblk1_apply m c t (y 1) k _ C _ (by show (t.val % 8 * 1024 + k.val) / 1024 = _; omega) hC
      (by show (t.val % 8 * 1024 + k.val) % 1024 = _; omega))

/-- The accumulator after a sweep's first point, and after a middle one. -/
theorem acc_first (c : Dev nD) (y : S1024x1024.Idx) (n : ℕ) (hn : n < cfg0.N) (h0 : n % 8 = 0) :
    (outsAt0 m c n hn).2 y = blockProd m c ⟨n, hn⟩ y := by
  rw [outsAt0_A m c ⟨n, hn⟩ h0 (by dsimp only; omega) (by dsimp only; omega)]
  dsimp only
  rw [sout_A]
  exact pay1_apply _ _ y

theorem acc_next (c : Dev nD) (y : S1024x1024.Idx) (n : ℕ) (hn : n + 1 < cfg0.N) (h0 : (n + 1) % 8 ≠ 0) (h2 : (n + 1) % 8 + 1 < 8) :
    (outsAt0 m c (n + 1) hn).2 y = (outsAt0 m c n (Nat.lt_of_succ_lt hn)).2 y + blockProd m c ⟨n + 1, hn⟩ y := by
  rw [outsAt0_B m c ⟨n + 1, hn⟩ h0 (by dsimp only; omega) (by dsimp only; omega)]
  dsimp only
  rw [sout_B]
  exact pay2_apply _ _ _ y

/-- The last point of each sweep writes back its block of the product. -/
theorem flushed_eq (c : Dev nD) (t : Fin cfg0.N) (hf : (cfg0.win 2).flush t = true) :
    (dats m 0 c).flushed 2 t = ((cfg0.win 2).blk t).view.read (Elt Ideal) (G m c) := by
  have h7 : t.val % 8 = 7 := (flush0_2 t).mp hf
  rw [Value.flushed2_C m c t (by omega) (by omega) h7, out_C]
  funext y
  rw [View.read_apply, cast_eq]
  refine Eq.trans (pay3_apply _ (xb m c t) (wb m c t) y) ?_
  obtain ⟨-, -, -, -, -, i0, i1⟩ := index_facts t
  have e0 : ((((cfg0.win 2).blk t).view.emb y) 0).val = t.val / 16 * 1024 + (y 0).val := by
    show win0_2.index t 0 * 1024 + 1 * (y 0).val = _; rw [i0]; omega
  have e1 : ((((cfg0.win 2).blk t).view.emb y) 1).val = t.val / 8 % 2 * 1024 + (y 1).val := by
    show win0_2.index t 1 * 1024 + 1 * (y 1).val = _; rw [i1]; omega
  exact Cert.Products.swept 8 1024 (t.val / 8) rfl (by omega) _ (fun n hn => (outsAt0 m c n hn).2 y)
    (fun n hn => blockProd m c ⟨n, hn⟩ y) (acc_first m c y) (acc_next m c y)
    (fun n hn hq => block_sum m c ⟨n, hn⟩ y _ _
      (e0.trans (congrArg (· * 1024 + (y 0).val) (show t.val / 16 = n / 16 by omega)))
      (e1.trans (congrArg (· * 1024 + (y 1).val) (show t.val / 8 % 2 = n / 8 % 2 by rw [hq])))) t.val t.isLt rfl (by omega)

/-- The eight blocks tile the result. -/
theorem cover (i : S4096x2048.Idx) : ∃ t : Fin cfg0.N, (cfg0.win 2).flush t = true ∧ i ∈ ((cfg0.win 2).blk t).view.set := by
  have b0 : (i 0).val < 4096 := (i 0).isLt
  have b1 : (i 1).val < 2048 := (i 1).isLt
  let t : Fin grid0.N := ⟨(i 0).val / 1024 * 16 + (i 1).val / 1024 * 8 + 7, by rw [N_0]; omega⟩
  obtain ⟨-, -, -, -, -, h0, h1⟩ := index_facts t
  have e0 : win0_2.index t 0 = (i 0).val / 1024 := by
    rw [h0]; show ((i 0).val / 1024 * 16 + (i 1).val / 1024 * 8 + 7) / 16 = _; omega
  have e1 : win0_2.index t 1 = (i 1).val / 1024 := by
    rw [h1]; show ((i 0).val / 1024 * 16 + (i 1).val / 1024 * 8 + 7) / 8 % 2 = _; omega
  refine ⟨t, (flush0_2 t).mpr (by show ((i 0).val / 1024 * 16 + (i 1).val / 1024 * 8 + 7) % 8 = 7; omega), ?_⟩
  show i ∈ ((View.whole main_v0).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [e0]; omega
  | ⟨1, _⟩ =>
    show win0_2.index t 1 * 1024 ≤ (i 1).val ∧ (i 1).val < win0_2.index t 1 * 1024 + 1024
    rw [e1]; omega

theorem final (c : Dev nD) : (dats m 0 c).arrAt 2 cfg0.N = G m c :=
  (dats m 0 c).arrAt_eq_of_cover 2 (G m c) (flushed_eq m c) cover

end Cert.PoolInIdeal.Tiles

namespace Cert.PoolInValue

/-- The reference's vector-Jacobian product, read at an element, is the same sum. -/
theorem ref_eq (x : Cert.PoolInRefIdeal.S4096x8192.Idx → EReal) (w : Cert.PoolInRefIdeal.S8x2048x1024.Idx → EReal) :
    Cert.PoolInRefIdeal.Read.val_main_v6 (F := Ideal) x w = Cert.PoolInIdeal.Tiles.prod x w := by
  funext i
  have b0 : (i 0).val < 4096 := (i 0).isLt
  have b1 : (i 1).val < 2048 := (i 1).isLt
  rw [Cert.PoolInRefIdeal.Read.val_main_v6_apply]
  unfold Cert.PoolInIdeal.Tiles.prod Cert.PoolInIdeal.Tiles.term
  refine Finset.sum_congr rfl fun k _ => ?_
  have bk : k.val < 8192 := k.isLt
  rw [Cert.PoolInRefIdeal.Read.val_main_v5_apply, Cert.PoolInRefIdeal.Read.val_main_v3_apply,
    Cert.PoolInRefIdeal.Read.val_main_v1_apply, Cert.PoolInRefIdeal.Read.val_main_v0_apply]
  refine congrArg₂ (· * ·) (congrArg x (Shape.idx_ext₂ rfl rfl)) (congrArg w ?_)
  funext d
  apply Fin.ext
  match d with
  | ⟨0, _⟩ => show ((i 1).val * 8192 + k.val) / 1024 % 8 = k.val / 1024; omega
  | ⟨1, _⟩ => show ((i 1).val * 8192 + k.val) / 8192 = (i 1).val; omega
  | ⟨2, _⟩ => show ((i 1).val * 8192 + k.val) % 1024 = k.val % 1024; omega

/-- On equal arguments the kernel's result is the reference's. -/
theorem algebraic : Cert.algebraic_PoolInIdeal_PoolInRefIdeal := by
  intro m ρ m' ρ' _ hagree
  refine ⟨fun c => Cert.PoolInIdeal.Tiles.G m c, ?_, ?_⟩
  · exact (θ_run Cert.PoolInIdeal.defs _ _).mono (fun r h c =>
      ⟨(h c).1.trans (Cert.PoolInIdeal.Tiles.final m c), (h c).2.1, (h c).2.2⟩) (Cert.PoolInIdeal.Value.run_blocks (F := Ideal) m ρ)
  · refine (θ_run Cert.PoolInRefIdeal.defs _ _).mono (fun r h c => ⟨(h c).1.trans ?_, (h c).2.1, (h c).2.2⟩)
      (Cert.PoolInRefIdeal.Value.run (F := Ideal) m' ρ')
    refine (Cert.PoolInRefIdeal.Read.val_main_v6_eq _ _).trans ((ref_eq _ _).trans ?_)
    rw [(hagree c).1, (hagree c).2]
    rfl

end Cert.PoolInValue

end
-- ==== Proof.InDtValue.lean ====
/-
  The step-size columns of the gradient of the input projection with respect to its input: `dh = ddt · W_dtᵀ`, where
  W_dt is the last 64 columns of the [2048, 10304] projection matrix. The matrix is stored transposed, as two planes of
  1024 rows each. The kernel tiles the [4096, 2048] result into eight [1024, 1024] blocks; block (p, q) is the product
  of row block p of `ddt` with rows 10240 … 10303 of plane q. The reference is the vector-Jacobian product of
  `h @ W[:, 10240:]`. Both are, at (r, j), the sum over k below 64 of `ddt (r, k) · w (j / 1024, 10240 + k, j % 1024)`.
-/
module

public import proofs.«01_k».proof.Defs
public import proofs.«01_k».proof.Proof.Gen.InDtIdeal.Value
public import proofs.«01_k».proof.Proof.Gen.InDtRefIdeal.Run
public import proofs.«01_k».proof.Proof.Gen.InDtRefIdeal.Read
public import Idealize.ShloMosaic.Lib.Pipeline.Value
public import Idealize.ShloMosaic.Lib.ValueIdx
public import proofs.«01_k».proof.Proof.Products

@[expose] public section

noncomputable section

open Idealize.ShloMosaic Idealize.ShloMosaic.TcCoe Idealize.SL.Sem Idealize.ShloMosaic.ValueIdx
open Idealize.ShloMosaic.Pipeline (Dat)
open scoped BigOperators

namespace Cert.InDtIdeal.Tiles

open Cert.InDtIdeal Cert.InDtIdeal.Gen

variable (m : (ℓ : Loc nD τ sig) → Buf (Elt Ideal) ℓ) (ρ : Dev nD → PrngReg)

/-- The product as one function of the two arguments. -/
def prod (x : S4096x64.Idx → EReal) (w : S2x10304x1024.Idx → EReal) (i : S4096x2048.Idx) : EReal :=
  ∑ k : Fin 64, x (ix2 (i 0) k)
    * w (ix3 (⟨(i 1).val / 1024, by have h : (i 1).val < 2048 := (i 1).isLt; omega⟩ : Fin 2)
        (⟨10240 + k.val, by omega⟩ : Fin 10304) (⟨(i 1).val % 1024, by omega⟩ : Fin 1024))

/-- The result array of device `c`. -/
def G (c : Dev nD) : Buf (Elt Ideal) ((c : Thread nD τ).loc main_v0) :=
  prod (m ((c : Thread nD τ).loc main_arg0)) (m ((c : Thread nD τ).loc main_arg1))

/-- One block's product at an element. -/
theorem pay_apply (a : Vec Ideal S1024x64 .f32) (b : Vec Ideal S1x64x1024 .bf16) (y : S1024x1024.Idx) :
    k0_pay1 a b y = ∑ k : Fin 64, a (ix2 (y 0) k) * b (ix3 (0 : Fin 1) k (y 1)) := by
  unfold k0_pay1
  exact Cert.Products.plain_unit (truncf .bf16 a bitsLt_bf16_f32) b shapeCasts_S1x64x1024_S64x1024 y

/-- Where the windows' blocks lie: the result's block (p, q) takes row block p of the incoming gradient and plane q of
    the weights, from row 10240 on. -/
theorem index_facts : ∀ t : Fin grid0.N,
    win0_0.index t 0 = win0_2.index t 0 ∧ win0_0.index t 1 = 0
      ∧ win0_1.index t 0 = win0_2.index t 1 ∧ win0_1.index t 1 = 160 ∧ win0_1.index t 2 = 0
      ∧ (cfg0.win 2).flush t = true ∧ win0_2.index t 0 < 4 ∧ win0_2.index t 1 < 2 := by
  decide +kernel

/-- Every block of the result is some point's. -/
theorem index_onto : ∀ (p : Fin 4) (q : Fin 2), ∃ t : Fin grid0.N, win0_2.index t 0 = p.val ∧ win0_2.index t 1 = q.val := by
  decide +kernel

/-- The incoming gradient's block, read at an element. -/
theorem iblk0_apply (c : Dev nD) (t : Fin cfg0.N) (r : Fin 1024) (k : Fin 64) (R : Fin 4096)
    (hR : R.val = win0_2.index t 0 * 1024 + r.val) :
    iblk m c 0 t (ix2 r k) = m ((c : Thread nD τ).loc main_arg0) (ix2 R k) := by
  obtain ⟨h0, h1, -⟩ := index_facts t
  unfold iblk
  rw [View.read_apply]
  show V m c main_arg0 _ = _
  unfold V
  refine congrArg (m ((c : Thread nD τ).loc main_arg0)) (Shape.idx_ext₂ ?_ ?_)
  · show win0_0.index t 0 * 1024 + 1 * r.val = R.val
    rw [h0]; omega
  · show win0_0.index t 1 * 64 + 1 * k.val = k.val
    rw [h1]; omega

/-- The weights' block, read at an element. -/
theorem iblk1_apply (c : Dev nD) (t : Fin cfg0.N) (k : Fin 64) (r : Fin 1024) (g : Fin 2) (K : Fin 10304) (q : Fin 1024)
    (hg : g.val = win0_2.index t 1) (hK : K.val = 10240 + k.val) (hq : q.val = r.val) :
    iblk m c 1 t (ix3 (0 : Fin 1) k r) = m ((c : Thread nD τ).loc main_arg1) (ix3 g K q) := by
  obtain ⟨-, -, h0, h1, h2, -⟩ := index_facts t
  unfold iblk
  rw [View.read_apply]
  show V m c main_arg1 _ = _
  unfold V
  refine congrArg (m ((c : Thread nD τ).loc main_arg1)) ?_
  funext d
  apply Fin.ext
  match d with
  | ⟨0, _⟩ => show win0_1.index t 0 * 1 + 1 * 0 = g.val; rw [h0]; omega
  | ⟨1, _⟩ => show win0_1.index t 1 * 64 + 1 * k.val = K.val; rw [h1]; omega
  | ⟨2, _⟩ => show win0_1.index t 2 * 1024 + 1 * r.val = q.val; rw [h2]; omega

/-- What each grid point writes back is its block of the product. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero Cert.Products.zeros2, View.ld_unit_zero Cert.Products.zeros2, View.ld_unit_zero Cert.Products.zeros3]
  funext y
  rw [View.read_apply]
  refine Eq.trans (pay_apply (iblk m c 0 t) (iblk m c 1 t) y) ?_
  unfold G prod
  refine Finset.sum_congr rfl fun k _ => ?_
  have e0 : ((((cfg0.win 2).blk t).view.emb y) 0).val = win0_2.index t 0 * 1024 + (y 0).val := by
    show win0_2.index t 0 * 1024 + 1 * (y 0).val = _; omega
  have e1 : ((((cfg0.win 2).blk t).view.emb y) 1).val = win0_2.index t 1 * 1024 + (y 1).val := by
    show win0_2.index t 1 * 1024 + 1 * (y 1).val = _; omega
  have b1 : (y 1).val < 1024 := (y 1).isLt
  refine congrArg₂ (· * ·) (iblk0_apply m c t (y 0) k _ e0) (iblk1_apply m c t k (y 1) _ _ _ ?_ rfl ?_)
  · show (((cfg0.win 2).blk t).view.emb y 1).val / 1024 = _
    rw [e1]; omega
  · show (((cfg0.win 2).blk t).view.emb y 1).val % 1024 = _
    rw [e1]; omega

/-- The eight blocks tile the result. -/
theorem cover (i : S4096x2048.Idx) : ∃ t : Fin cfg0.N, (cfg0.win 2).flush t = true ∧ i ∈ ((cfg0.win 2).blk t).view.set := by
  have b0 : (i 0).val < 4096 := (i 0).isLt
  have b1 : (i 1).val < 2048 := (i 1).isLt
  obtain ⟨t, e0, e1⟩ := index_onto ⟨(i 0).val / 1024, by omega⟩ ⟨(i 1).val / 1024, by omega⟩
  have f0 : win0_2.index t 0 = (i 0).val / 1024 := e0
  have f1 : win0_2.index t 1 = (i 1).val / 1024 := e1
  refine ⟨t, (index_facts t).2.2.2.2.2.1, ?_⟩
  show i ∈ ((View.whole main_v0).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [f0]; omega
  | ⟨1, _⟩ =>
    show win0_2.index t 1 * 1024 ≤ (i 1).val ∧ (i 1).val < win0_2.index t 1 * 1024 + 1024
    rw [f1]; omega

theorem final (c : Dev nD) : (dats m 0 c).arrAt 2 cfg0.N = G m c :=
  (dats m 0 c).arrAt_eq_of_cover 2 (G m c) (fun t _ => flushed_eq m c t) cover

end Cert.InDtIdeal.Tiles

namespace Cert.InDtValue

open Cert.InDtRefIdeal Cert.InDtRefIdeal.Gen

/-- The projection matrix read at (row, column): the stored plane of the row, transposed. -/
theorem weights_apply (w : S2x10304x1024.Idx → EReal) (R : Fin 2048) (K : Fin 10304) (p : Fin 2) (q : Fin 1024)
    (hR : R.val = p.val * 1024 + q.val) :
    Read.val_main_v7 (F := Ideal) w (ix2 R K) = w (ix3 p K q) := by
  have bK : K.val < 10304 := K.isLt
  have bq : q.val < 1024 := q.isLt
  unfold Read.val_main_v7
  by_cases hp : p.val = 0
  · refine (concatenate_pair_apply_left 0 _ _ concatenates_S1024x10304_S1024x10304_S2048x10304_d0 (ix2 R K) rfl (ix2 q K)
      (fun b => match b with | ⟨0, _⟩ => (by show q.val = R.val; omega) | ⟨1, _⟩ => rfl)).trans ?_
    rw [Read.val_main_v3_apply, Read.val_main_v2_apply, Read.val_main_v1_apply]
    refine congrArg w ?_
    funext d
    apply Fin.ext
    match d with
    | ⟨0, _⟩ => show 0 = p.val; omega
    | ⟨1, _⟩ => show (K.val * 1024 + q.val) / 1024 % 10304 = K.val; omega
    | ⟨2, _⟩ => show (K.val * 1024 + q.val) % 1024 = q.val; omega
  · refine (concatenate_pair_apply_right 0 _ _ concatenates_S1024x10304_S1024x10304_S2048x10304_d0 (ix2 R K) rfl rfl (ix2 q K)
      ?_ ?_).trans ?_
    · intro b hb
      match b, hb with
      | ⟨0, _⟩, hb => exact absurd rfl hb
      | ⟨1, _⟩, _ => rfl
    · show q.val + 1024 = R.val; omega
    rw [Read.val_main_v6_apply, Read.val_main_v5_apply, Read.val_main_v4_apply]
    refine congrArg w ?_
    funext d
    apply Fin.ext
    match d with
    | ⟨0, _⟩ => show 1 + 0 = p.val; omega
    | ⟨1, _⟩ => show (K.val * 1024 + q.val) / 1024 % 10304 = K.val; omega
    | ⟨2, _⟩ => show (K.val * 1024 + q.val) % 1024 = q.val; omega

/-- The reference's vector-Jacobian product, read at an element, is the same sum. -/
theorem ref_eq (x : S4096x64.Idx → EReal) (w : S2x10304x1024.Idx → EReal) :
    Read.val_main_v11 (F := Ideal) x w = Cert.InDtIdeal.Tiles.prod x w := by
  funext i
  have b1 : (i 1).val < 2048 := (i 1).isLt
  rw [Read.val_main_v11_apply]
  unfold Cert.InDtIdeal.Tiles.prod
  refine Finset.sum_congr rfl fun k _ => ?_
  rw [Read.val_main_v9_apply, Read.val_main_v8_apply]
  refine congrArg₂ (· * ·) (congrArg x (Shape.idx_ext₂ rfl rfl)) ?_
  refine Eq.trans (congrArg (Read.val_main_v7 (F := Ideal) w) (Shape.idx_ext₂ (y := ix2 (i 1) (⟨10240 + k.val, by omega⟩ : Fin 10304)) rfl rfl)) (weights_apply w (i 1) ⟨10240 + k.val, by omega⟩ _ _ ?_)
  show (i 1).val = (i 1).val / 1024 * 1024 + (i 1).val % 1024
  omega

/-- On equal arguments the kernel's result is the reference's. -/
theorem algebraic : Cert.algebraic_InDtIdeal_InDtRefIdeal := by
  intro m ρ m' ρ' _ hagree
  refine ⟨fun c => Cert.InDtIdeal.Tiles.G m c, ?_, ?_⟩
  · exact (θ_run Cert.InDtIdeal.defs _ _).mono (fun r h c =>
      ⟨(h c).1.trans (Cert.InDtIdeal.Tiles.final m c), (h c).2.1, (h c).2.2⟩) (Cert.InDtIdeal.Value.run_blocks (F := Ideal) m ρ)
  · refine (θ_run Cert.InDtRefIdeal.defs _ _).mono (fun r h c => ⟨(h c).1.trans ?_, (h c).2.1, (h c).2.2⟩)
      (Cert.InDtRefIdeal.Value.run (F := Ideal) m' ρ')
    refine (Cert.InDtRefIdeal.Read.val_main_v11_eq _ _).trans ((ref_eq _ _).trans ?_)
    rw [(hagree c).1, (hagree c).2]
    rfl

end Cert.InDtValue

end
-- ==== Proof.InProjValue.lean ====
/-
  The gradient of the input projection with respect to its input, without the step-size columns: `dh = dh0 + dproj · Wᵀ`
  with W the first 10240 columns of the [2048, 10304] projection matrix and dh0 the step-size columns' part. The
  matrix is stored transposed, as two planes of 1024 rows each. The kernel tiles the [4096, 2048] result into
  [1024, 1024] blocks and sweeps ten blocks of the contracted axis innermost: the first product overwrites an
  accumulator, the next eight are added to it, and the last is added, `dh0`'s block is added, and the sum is written
  out. The reference is `dh0` plus the vector-Jacobian product of `h @ W[:, :10240]`. Both are, at (r, j), `dh0 (r, j)`
  plus the sum over k below 10240 of `dproj (r, k) · w (j / 1024, k, j % 1024)`.
-/
module

public import proofs.«01_k».proof.Defs
public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.Value
public import Idealize.ShloMosaic.Lib.ValueIdx
public import proofs.«01_k».proof.Proof.Products

@[expose] public section

noncomputable section

open Idealize.ShloMosaic Idealize.ShloMosaic.TcCoe Idealize.SL.Sem Idealize.ShloMosaic.ValueIdx
open Idealize.ShloMosaic.Pipeline (Dat)
open scoped BigOperators

namespace Cert.InProjIdeal.Tiles

open Cert.InProjIdeal Cert.InProjIdeal.Gen

variable (m : (ℓ : Loc nD τ sig) → Buf (Elt Ideal) ℓ) (ρ : Dev nD → PrngReg)

/-- The product's term at contracted position `k`. -/
def term (x : S4096x10240.Idx → EReal) (w : S2x10304x1024.Idx → EReal) (R : Fin 4096) (C : Fin 2048) (k : Fin 10240) : EReal :=
  x (ix2 R k) * w (ix3 (⟨C.val / 1024, by omega⟩ : Fin 2) (⟨k.val, by omega⟩ : Fin 10304) (⟨C.val % 1024, by omega⟩ : Fin 1024))

/-- The product added to the third argument, as one function of the three arguments. -/
def prod (x : S4096x10240.Idx → EReal) (w : S2x10304x1024.Idx → EReal) (d : S4096x2048.Idx → EReal) (i : S4096x2048.Idx) : EReal :=
  ∑ k : Fin 10240, term x w (i 0) (i 1) k + d i

/-- The result array of device `c`. -/
def G (c : Dev nD) : Buf (Elt Ideal) ((c : Thread nD τ).loc main_v0) :=
  prod (m ((c : Thread nD τ).loc main_arg0)) (m ((c : Thread nD τ).loc main_arg1)) (m ((c : Thread nD τ).loc main_arg2))

/-! ## The payloads at an element -/

/-- One block's product at an element. -/
theorem mm_apply (a : Vec Ideal S1024x1024 .bf16) (b : Vec Ideal S1x1024x1024 .bf16) (y : S1024x1024.Idx) :
    matmul (φ₁ := .bf16) (φ₂ := .bf16) dot_S1024x1024_S1024x1024_S1024x1024_1_0_0_1_n_n none a
        (shapeCast S1024x1024 b shapeCasts_S1x1024x1024_S1024x1024) (constant (F := Ideal) S1024x1024 .f32 0x00000000#32) y
      = ∑ k : Fin 1024, a (ix2 (y 0) k) * b (ix3 (0 : Fin 1) k (y 1)) := by
  exact Cert.Products.plain_unit a b shapeCasts_S1x1024x1024_S1024x1024 y

theorem pay1_apply (a : Vec Ideal S1024x1024 .bf16) (b : Vec Ideal S1x1024x1024 .bf16) (y : S1024x1024.Idx) :
    k0_pay1 a b y = ∑ k : Fin 1024, a (ix2 (y 0) k) * b (ix3 (0 : Fin 1) k (y 1)) := by
  unfold k0_pay1
  simp only [shapeCast_self]
  exact mm_apply a b y

theorem pay2_apply (s : Vec Ideal S1024x1024 .f32) (a : Vec Ideal S1024x1024 .bf16) (b : Vec Ideal S1x1024x1024 .bf16)
    (y : S1024x1024.Idx) :
    k0_pay2 s a b y = s y + ∑ k : Fin 1024, a (ix2 (y 0) k) * b (ix3 (0 : Fin 1) k (y 1)) := by
  unfold k0_pay2
  simp only [shapeCast_self]
  exact congrArg (s y + ·) (mm_apply a b y)

theorem pay3_apply (s : Vec Ideal S1024x1024 .f32) (a : Vec Ideal S1024x1024 .bf16) (b : Vec Ideal S1x1024x1024 .bf16)
    (d : Vec Ideal S1024x1024 .f32) (y : S1024x1024.Idx) :
    k0_pay3 s a b d y = s y + ∑ k : Fin 1024, a (ix2 (y 0) k) * b (ix3 (0 : Fin 1) k (y 1)) + d y := by
  unfold k0_pay3
  exact congrArg (s y + · + d y) (mm_apply a b y)

/-! ## What each case leaves -/

section Cases
variable (c : Dev nD) (i : grid0.Coords)
  (a3 : Memref sig .tc .vmem S1024x1024 .bf16) (h3 : a3.IsWhole) (a4 : Memref sig .tc .vmem S1x1024x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x0 : Vec Ideal S1024x1024 .bf16) (x1 : Vec Ideal S1x1024x1024 .bf16) (x2 : Vec Ideal S1024x1024 .f32)
  (xs : Vec Ideal S1024x1024 .f32)

/-- The first point of a sweep leaves its product in the accumulator. -/
theorem sout_A (hc0 : cond0_0 i) (hc1 : ¬cond0_1 i) (hc2 : ¬cond0_2 i) :
    sout0_A_0 c i a3 h3 a4 h4 a5 h5 a6 h6 a7 h7 hc0 hc1 hc2 x0 x1 x2 = k0_pay1 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  rw [View.canon_unit_zero Cert.Products.zeros2]
  simp only [View.readAt_eq_ld, h3.read_unread, h4.read_unread]
  rw [View.ld_unit_zero Cert.Products.zeros2, View.ld_unit_zero Cert.Products.zeros3]

/-- A middle point adds its product to what the accumulator held. -/
theorem sout_B (hc0 : ¬cond0_0 i) (hc1 : cond0_1 i) (hc2 : ¬cond0_2 i) :
    sout0_B_0 c i a3 h3 a4 h4 a5 h5 a6 h6 a7 h7 hc0 hc1 hc2 x0 x1 x2 xs = k0_pay2 xs x0 x1 := by
  unfold sout0_B_0
  rw [View.read_writes_eq_canon _ _ _ (scover0_B_0 c i a3 h3 a4 h4 a5 h5 a6 h6 a7 h7 hc0 hc1 hc2 x0 x1 x2 xs)]
  unfold kernelRun0_B
  dsimp only
  rw [View.canon_unit_zero Cert.Products.zeros2]
  simp only [View.readAt_eq_ld, h3.read_unread, h4.read_unread, h5.read_unread, h7.read_unread]
  rw [View.ld_unit_zero Cert.Products.zeros2, View.ld_unit_zero Cert.Products.zeros2, View.ld_unit_zero Cert.Products.zeros3]

/-- The last point writes out the accumulator plus its product plus the third argument's block. -/
theorem out_C (hc0 : ¬cond0_0 i) (hc1 : ¬cond0_1 i) (hc2 : cond0_2 i) :
    out0_C_3 c i a3 h3 a4 h4 a5 h5 a6 h6 a7 h7 hc0 hc1 hc2 x0 x1 x2 xs = k0_pay3 xs x0 x1 x2 := by
  unfold out0_C_3
  rw [View.read_writes_eq_canon _ _ _ (cover0_C_3 c i a3 h3 a4 h4 a5 h5 a6 h6 a7 h7 hc0 hc1 hc2 x0 x1 x2 xs)]
  unfold kernelRun0_C
  dsimp only
  rw [View.canon_unit_zero Cert.Products.zeros2]
  simp only [View.readAt_eq_ld, h3.read_unread, h4.read_unread, h5.read_unread, h7.read_unread]
  rw [View.ld_unit_zero Cert.Products.zeros2, View.ld_unit_zero Cert.Products.zeros2, View.ld_unit_zero Cert.Products.zeros3,
    View.ld_unit_zero Cert.Products.zeros2]

end Cases

/-! ## Where the windows' blocks lie -/

/-- Point `t` is block row `t / 20`, block column `t / 10 % 2`, contracted block `t % 10`. -/
theorem index_facts : ∀ t : Fin grid0.N,
    win0_0.index t 0 = t.val / 20 ∧ win0_0.index t 1 = t.val % 10
      ∧ win0_1.index t 0 = t.val / 10 % 2 ∧ win0_1.index t 1 = t.val % 10 ∧ win0_1.index t 2 = 0
      ∧ win0_2.index t 0 = t.val / 20 ∧ win0_2.index t 1 = t.val / 10 % 2
      ∧ win0_3.index t 0 = t.val / 20 ∧ win0_3.index t 1 = t.val / 10 % 2 := by
  decide +kernel

theorem iblk0_apply (c : Dev nD) (t : Fin cfg0.N) (r k : Fin 1024) (R : Fin 4096) (K : Fin 10240)
    (hR : R.val = t.val / 20 * 1024 + r.val) (hK : K.val = t.val % 10 * 1024 + k.val) :
    iblk m c 0 t (ix2 r k) = m ((c : Thread nD τ).loc main_arg0) (ix2 R K) := by
  obtain ⟨h0, h1, -⟩ := index_facts t
  unfold iblk
  rw [View.read_apply]
  show V m c main_arg0 _ = _
  unfold V
  refine congrArg (m ((c : Thread nD τ).loc main_arg0)) (Shape.idx_ext₂ ?_ ?_)
  · show win0_0.index t 0 * 1024 + 1 * r.val = R.val
    rw [h0]; omega
  · show win0_0.index t 1 * 1024 + 1 * k.val = K.val
    rw [h1]; omega

/-- The weights' block: its window's last block would overhang the array, but no point reaches it. -/
theorem iblk1_apply (c : Dev nD) (t : Fin cfg0.N) (k r : Fin 1024) (g : Fin 2) (K : Fin 10304) (q : Fin 1024)
    (hg : g.val = t.val / 10 % 2) (hK : K.val = t.val % 10 * 1024 + k.val) (hq : q.val = r.val) :
    X0_1 m c t (ix3 (0 : Fin 1) k r) = m ((c : Thread nD τ).loc main_arg1) (ix3 g K q) := by
  obtain ⟨-, -, h0, h1, h2, -⟩ := index_facts t
  unfold X0_1 Pipeline.Window.fill
  rw [dif_pos (moved0_1 t _)]
  unfold iblk
  rw [View.read_apply]
  show V m c main_arg1 _ = _
  unfold V
  refine congrArg (m ((c : Thread nD τ).loc main_arg1)) ?_
  funext d
  apply Fin.ext
  match d with
  | ⟨0, _⟩ => show win0_1.index t 0 * 1 + 1 * 0 = g.val; rw [h0]; omega
  | ⟨1, _⟩ => show win0_1.index t 1 * 1024 + 1 * k.val = K.val; rw [h1]; omega
  | ⟨2, _⟩ => show win0_1.index t 2 * 1024 + 1 * r.val = q.val; rw [h2]; omega

theorem iblk2_apply (c : Dev nD) (t : Fin cfg0.N) (y : S1024x1024.Idx) (i : S4096x2048.Idx)
    (h0 : (i 0).val = t.val / 20 * 1024 + (y 0).val) (h1 : (i 1).val = t.val / 10 % 2 * 1024 + (y 1).val) :
    iblk m c 2 t y = m ((c : Thread nD τ).loc main_arg2) i := by
  obtain ⟨-, -, -, -, -, e0, e1, -⟩ := index_facts t
  unfold iblk
  rw [View.read_apply]
  show V m c main_arg2 _ = _
  unfold V
  refine congrArg (m ((c : Thread nD τ).loc main_arg2)) (Shape.idx_ext₂ ?_ ?_)
  · show win0_2.index t 0 * 1024 + 1 * (y 0).val = (i 0).val
    rw [e0]; omega
  · show win0_2.index t 1 * 1024 + 1 * (y 1).val = (i 1).val
    rw [e1]; omega

/-- The two blocks point `t` multiplies. -/
abbrev xb (c : Dev nD) (t : Fin cfg0.N) : S1024x1024.Idx → EReal := iblk m c 0 t
abbrev wb (c : Dev nD) (t : Fin cfg0.N) : S1x1024x1024.Idx → EReal := X0_1 m c t

/-- Point `t`'s product at an element, and as the sum of the terms of its column block. -/
def blockProd (c : Dev nD) (t : Fin cfg0.N) (y : S1024x1024.Idx) : EReal :=
  ∑ k : Fin 1024, xb m c t (ix2 (y 0) k) * wb m c t (ix3 (0 : Fin 1) k (y 1))

theorem block_sum (c : Dev nD) (t : Fin cfg0.N) (y : S1024x1024.Idx) (R : Fin 4096) (C : Fin 2048)
    (hR : R.val = t.val / 20 * 1024 + (y 0).val) (hC : C.val = t.val / 10 % 2 * 1024 + (y 1).val) :
    blockProd m c t y
      = ∑ k : Fin 1024, Cert.Products.ext (term (m ((c : Thread nD τ).loc main_arg0)) (m ((c : Thread nD τ).loc main_arg1)) R C)
          (t.val % 10 * 1024 + k.val) := by
  refine Finset.sum_congr rfl fun k _ => ?_
  rw [Cert.Products.ext_apply _ _ (by omega)]
  have b1 : (y 1).val < 1024 := (y 1).isLt
  unfold term
  exact congrArg₂ (· * ·) (iblk0_apply m c t (y 0) k R _ hR rfl)
    (iblk1_apply m c t k (y 1) _ _ _ (by show C.val / 1024 = _; omega) rfl (by show C.val % 1024 = _; omega))

/-- The accumulator after a sweep's first point, and after a middle one. -/
theorem acc_first (c : Dev nD) (y : S1024x1024.Idx) (n : ℕ) (hn : n < cfg0.N) (h0 : n % 10 = 0) :
    (outsAt0 m c n hn).2 y = blockProd m c ⟨n, hn⟩ y := by
  rw [outsAt0_A m c ⟨n, hn⟩ h0 (by dsimp only; omega) (by dsimp only; omega)]
  dsimp only
  rw [sout_A]
  exact pay1_apply _ _ y

theorem acc_next (c : Dev nD) (y : S1024x1024.Idx) (n : ℕ) (hn : n + 1 < cfg0.N) (h0 : (n + 1) % 10 ≠ 0) (h2 : (n + 1) % 10 + 1 < 10) :
    (outsAt0 m c (n + 1) hn).2 y = (outsAt0 m c n (Nat.lt_of_succ_lt hn)).2 y + blockProd m c ⟨n + 1, hn⟩ y := by
  rw [outsAt0_B m c ⟨n + 1, hn⟩ h0 (by dsimp only; omega) (by dsimp only; omega)]
  dsimp only
  rw [sout_B]
  exact pay2_apply _ _ _ y

/-- The last point of each sweep writes back its block of the result. -/
theorem flushed_eq (c : Dev nD) (t : Fin cfg0.N) (hf : (cfg0.win 3).flush t = true) :
    (dats m 0 c).flushed 3 t = ((cfg0.win 3).blk t).view.read (Elt Ideal) (G m c) := by
  have h9 : t.val % 10 = 9 := (flush0_3 t).mp hf
  rw [Value.flushed3_C m c t (by omega) (by omega) h9, out_C]
  funext y
  rw [View.read_apply, cast_eq]
  refine Eq.trans (pay3_apply _ (xb m c t) (wb m c t) _ y) ?_
  obtain ⟨-, -, -, -, -, -, -, i0, i1⟩ := index_facts t
  have e0 : ((((cfg0.win 3).blk t).view.emb y) 0).val = t.val / 20 * 1024 + (y 0).val := by
    show win0_3.index t 0 * 1024 + 1 * (y 0).val = _; rw [i0]; omega
  have e1 : ((((cfg0.win 3).blk t).view.emb y) 1).val = t.val / 10 % 2 * 1024 + (y 1).val := by
    show win0_3.index t 1 * 1024 + 1 * (y 1).val = _; rw [i1]; omega
  exact congrArg₂ (· + ·) (Cert.Products.swept 10 1024 (t.val / 10) rfl (by omega) _ (fun n hn => (outsAt0 m c n hn).2 y)
    (fun n hn => blockProd m c ⟨n, hn⟩ y) (acc_first m c y) (acc_next m c y)
    (fun n hn hq => block_sum m c ⟨n, hn⟩ y _ _
      (e0.trans (congrArg (· * 1024 + (y 0).val) (show t.val / 20 = n / 20 by omega)))
      (e1.trans (congrArg (· * 1024 + (y 1).val) (show t.val / 10 % 2 = n / 10 % 2 by rw [hq])))) t.val t.isLt rfl (by omega))
    (iblk2_apply m c t y _ e0 e1)

/-- The eight blocks tile the result. -/
theorem cover (i : S4096x2048.Idx) : ∃ t : Fin cfg0.N, (cfg0.win 3).flush t = true ∧ i ∈ ((cfg0.win 3).blk t).view.set := by
  have b0 : (i 0).val < 4096 := (i 0).isLt
  have b1 : (i 1).val < 2048 := (i 1).isLt
  let t : Fin grid0.N := ⟨(i 0).val / 1024 * 20 + (i 1).val / 1024 * 10 + 9, by rw [N_0]; omega⟩
  obtain ⟨-, -, -, -, -, -, -, h0, h1⟩ := index_facts t
  have e0 : win0_3.index t 0 = (i 0).val / 1024 := by
    rw [h0]; show ((i 0).val / 1024 * 20 + (i 1).val / 1024 * 10 + 9) / 20 = _; omega
  have e1 : win0_3.index t 1 = (i 1).val / 1024 := by
    rw [h1]; show ((i 0).val / 1024 * 20 + (i 1).val / 1024 * 10 + 9) / 10 % 2 = _; omega
  refine ⟨t, (flush0_3 t).mpr (by show ((i 0).val / 1024 * 20 + (i 1).val / 1024 * 10 + 9) % 10 = 9; omega), ?_⟩
  show i ∈ ((View.whole main_v0).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [e0]; omega
  | ⟨1, _⟩ =>
    show win0_3.index t 1 * 1024 ≤ (i 1).val ∧ (i 1).val < win0_3.index t 1 * 1024 + 1024
    rw [e1]; omega

theorem final (c : Dev nD) : (dats m 0 c).arrAt 3 cfg0.N = G m c :=
  (dats m 0 c).arrAt_eq_of_cover 3 (G m c) (flushed_eq m c) cover

end Cert.InProjIdeal.Tiles

namespace Cert.InProjValue

open Cert.InProjRefIdeal Cert.InProjRefIdeal.Gen

/-- The projection matrix read at (row, column): the stored plane of the row, transposed. -/
theorem weights_apply (w : S2x10304x1024.Idx → EReal) (R : Fin 2048) (K : Fin 10304) (p : Fin 2) (q : Fin 1024)
    (hR : R.val = p.val * 1024 + q.val) :
    Read.val_main_v7 (F := Ideal) w (ix2 R K) = w (ix3 p K q) := by
  have bK : K.val < 10304 := K.isLt
  have bq : q.val < 1024 := q.isLt
  unfold Read.val_main_v7
  by_cases hp : p.val = 0
  · refine (concatenate_pair_apply_left 0 _ _ concatenates_S1024x10304_S1024x10304_S2048x10304_d0 (ix2 R K) rfl (ix2 q K)
      (fun b => match b with | ⟨0, _⟩ => (by show q.val = R.val; omega) | ⟨1, _⟩ => rfl)).trans ?_
    rw [Read.val_main_v3_apply, Read.val_main_v2_apply, Read.val_main_v1_apply]
    refine congrArg w ?_
    funext d
    apply Fin.ext
    match d with
    | ⟨0, _⟩ => show 0 = p.val; omega
    | ⟨1, _⟩ => show (K.val * 1024 + q.val) / 1024 % 10304 = K.val; omega
    | ⟨2, _⟩ => show (K.val * 1024 + q.val) % 1024 = q.val; omega
  · refine (concatenate_pair_apply_right 0 _ _ concatenates_S1024x10304_S1024x10304_S2048x10304_d0 (ix2 R K) rfl rfl (ix2 q K)
      ?_ ?_).trans ?_
    · intro b hb
      match b, hb with
      | ⟨0, _⟩, hb => exact absurd rfl hb
      | ⟨1, _⟩, _ => rfl
    · show q.val + 1024 = R.val; omega
    rw [Read.val_main_v6_apply, Read.val_main_v5_apply, Read.val_main_v4_apply]
    refine congrArg w ?_
    funext d
    apply Fin.ext
    match d with
    | ⟨0, _⟩ => show 1 + 0 = p.val; omega
    | ⟨1, _⟩ => show (K.val * 1024 + q.val) / 1024 % 10304 = K.val; omega
    | ⟨2, _⟩ => show (K.val * 1024 + q.val) % 1024 = q.val; omega

/-- The reference's sum, read at an element, is the kernel's. -/
theorem ref_eq (x : S4096x10240.Idx → EReal) (w : S2x10304x1024.Idx → EReal) (d : S4096x2048.Idx → EReal) :
    Read.val_main_v13 (F := Ideal) x w d = Cert.InProjIdeal.Tiles.prod x w d := by
  funext i
  have b1 : (i 1).val < 2048 := (i 1).isLt
  rw [Read.val_main_v13_apply, Read.val_main_v12_apply]
  unfold Cert.InProjIdeal.Tiles.prod Cert.InProjIdeal.Tiles.term
  refine (add_comm _ _).trans (congrArg (· + d i) (Finset.sum_congr rfl fun k _ => ?_))
  rw [Read.val_main_v11_apply, Read.val_main_v9_apply, Read.val_main_v8_apply]
  refine congrArg₂ (· * ·) (congrArg x (Shape.idx_ext₂ rfl rfl)) ?_
  refine Eq.trans (congrArg (Read.val_main_v7 (F := Ideal) w) (Shape.idx_ext₂ (y := ix2 (i 1) (⟨k.val, by omega⟩ : Fin 10304)) rfl rfl))
    (weights_apply w (i 1) ⟨k.val, by omega⟩ _ _ ?_)
  show (i 1).val = (i 1).val / 1024 * 1024 + (i 1).val % 1024
  omega

/-- On equal arguments the kernel's result is the reference's. -/
theorem algebraic : Cert.algebraic_InProjIdeal_InProjRefIdeal := by
  intro m ρ m' ρ' _ hagree
  refine ⟨fun c => Cert.InProjIdeal.Tiles.G m c, ?_, ?_⟩
  · exact (θ_run Cert.InProjIdeal.defs _ _).mono (fun r h c =>
      ⟨(h c).1.trans (Cert.InProjIdeal.Tiles.final m c), (h c).2.1, (h c).2.2⟩) (Cert.InProjIdeal.Value.run_blocks (F := Ideal) m ρ)
  · refine (θ_run Cert.InProjRefIdeal.defs _ _).mono (fun r h c => ⟨(h c).1.trans ?_, (h c).2.1, (h c).2.2⟩)
      (Cert.InProjRefIdeal.Value.run (F := Ideal) m' ρ')
    refine (Cert.InProjRefIdeal.Read.val_main_v13_eq _ _ _).trans ((ref_eq _ _ _).trans ?_)
    rw [(hagree c).1, (hagree c).2.1, (hagree c).2.2]
    rfl

end Cert.InProjValue

end
-- ==== Proof.WOutValue.lean ====
/-
  The weight gradient of one mixer's output projection, `dW = yᵀ · ct` for `y` of shape [4096, 4096] and `ct` of shape
  [4096, 2048]. The kernel tiles the [1, 4096, 2048] result into [1, 512, 2048] blocks and sweeps four blocks of the
  contracted axis innermost: the first product overwrites an accumulator, the next two are added to it, and the last is
  added and written out, cast to bfloat16. The reference is the vector-Jacobian product of `y @ W` with respect to W.
  Both are, at (0, r, j), the sum over k below 4096 of `y (k, r) · ct (k, j)`.
-/
module

public import proofs.«01_k».proof.Defs
public import proofs.«01_k».proof.Proof.Gen.WOutIdeal.Value
public import proofs.«01_k».proof.Proof.Gen.WOutRefIdeal.Run
public import proofs.«01_k».proof.Proof.Gen.WOutRefIdeal.Read
public import Idealize.ShloMosaic.Lib.Pipeline.Value
public import Idealize.ShloMosaic.Lib.ValueIdx
public import proofs.«01_k».proof.Proof.Products

@[expose] public section

noncomputable section

open Idealize.ShloMosaic Idealize.ShloMosaic.TcCoe Idealize.SL.Sem Idealize.ShloMosaic.ValueIdx
open Idealize.ShloMosaic.Pipeline (Dat)
open scoped BigOperators

namespace Cert.WOutIdeal.Tiles

open Cert.WOutIdeal Cert.WOutIdeal.Gen

variable (m : (ℓ : Loc nD τ sig) → Buf (Elt Ideal) ℓ) (ρ : Dev nD → PrngReg)

/-- The product's term at contracted position `k`. -/
def term (x : S4096x4096.Idx → EReal) (w : S4096x2048.Idx → EReal) (R : Fin 4096) (C : Fin 2048) (k : Fin 4096) : EReal :=
  x (ix2 k R) * w (ix2 k C)

/-- The product as one function of the two arguments. -/
def prod (x : S4096x4096.Idx → EReal) (w : S4096x2048.Idx → EReal) (i : S1x4096x2048.Idx) : EReal :=
  ∑ k : Fin 4096, term x w (i 1) (i 2) k

/-- The result array of device `c`. -/
def G (c : Dev nD) : Buf (Elt Ideal) ((c : Thread nD τ).loc main_v0) :=
  prod (m ((c : Thread nD τ).loc main_arg0)) (m ((c : Thread nD τ).loc main_arg1))

/-! ## The payloads at an element -/

/-- One block's product at an element. -/
theorem mm_apply (a : Vec Ideal S1024x512 .bf16) (b : Vec Ideal S1024x2048 .bf16) (y : S512x2048.Idx) :
    matmul (φ₁ := .bf16) (φ₂ := .bf16) dot_S1024x512_S1024x2048_S512x2048_0_0_1_1_n_n none a b
        (constant (F := Ideal) S512x2048 .f32 0x00000000#32) y
      = ∑ k : Fin 1024, a (ix2 k (y 0)) * b (ix2 k (y 1)) :=
  Cert.Products.leftTransposed_zero a b y

theorem pay1_apply (a : Vec Ideal S1024x512 .bf16) (b : Vec Ideal S1024x2048 .bf16) (y : S512x2048.Idx) :
    k0_pay1 a b y = ∑ k : Fin 1024, a (ix2 k (y 0)) * b (ix2 k (y 1)) := by
  unfold k0_pay1
  simp only [shapeCast_self]
  exact mm_apply a b y

theorem pay2_apply (s : Vec Ideal S512x2048 .f32) (a : Vec Ideal S1024x512 .bf16) (b : Vec Ideal S1024x2048 .bf16)
    (y : S512x2048.Idx) :
    k0_pay2 s a b y = s y + ∑ k : Fin 1024, a (ix2 k (y 0)) * b (ix2 k (y 1)) := by
  unfold k0_pay2
  simp only [shapeCast_self]
  exact congrArg (s y + ·) (mm_apply a b y)

theorem pay3_apply (s : Vec Ideal S512x2048 .f32) (a : Vec Ideal S1024x512 .bf16) (b : Vec Ideal S1024x2048 .bf16)
    (y : S1x512x2048.Idx) :
    k0_pay3 s a b y = s (ix2 (y 1) (y 2)) + ∑ k : Fin 1024, a (ix2 k (y 1)) * b (ix2 k (y 2)) := by
  unfold k0_pay3
  refine (shapeCast_addUnit_apply ![512, 2048] _ shapeCasts_S512x2048_S1x512x2048 y).trans ?_
  have e : (fun d => y d.succ : S512x2048.Idx) = ix2 (y 1) (y 2) := Shape.idx_ext₂ rfl rfl
  rw [e]
  exact congrArg (s (ix2 (y 1) (y 2)) + ·) (mm_apply a b (ix2 (y 1) (y 2)))

/-! ## What each case leaves -/

section Cases
variable (c : Dev nD) (i : grid0.Coords)
  (a3 : Memref sig .tc .vmem S1024x512 .bf16) (h3 : a3.IsWhole) (a4 : Memref sig .tc .vmem S1024x2048 .bf16) (h4 : a4.IsWhole)
  (a5 : Memref sig .tc .vmem S1x512x2048 .bf16) (h5 : a5.IsWhole) (a6 : Memref sig .tc .vmem S512x2048 .f32) (h6 : a6.IsWhole)
  (x0 : Vec Ideal S1024x512 .bf16) (x1 : Vec Ideal S1024x2048 .bf16)
  (xs : Vec Ideal S512x2048 .f32)

/-- The first point of a sweep leaves its product in the accumulator. -/
theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero Cert.Products.zeros2]
  simp only [View.readAt_eq_ld, h3.read_unread, h4.read_unread]
  rw [View.ld_unit_zero Cert.Products.zeros2, View.ld_unit_zero Cert.Products.zeros2]

/-- A middle point adds its product to what the accumulator held. -/
theorem sout_B (hc0 : ¬cond0_0 i) (hc1 : cond0_1 i) (hc2 : ¬cond0_2 i) :
    sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero Cert.Products.zeros2]
  simp only [View.readAt_eq_ld, h3.read_unread, h4.read_unread, h6.read_unread]
  rw [View.ld_unit_zero Cert.Products.zeros2, View.ld_unit_zero Cert.Products.zeros2, View.ld_unit_zero Cert.Products.zeros2]

/-- The last point writes out the accumulator plus its product. -/
theorem out_C (hc0 : ¬cond0_0 i) (hc1 : ¬cond0_1 i) (hc2 : cond0_2 i) :
    out0_C_2 c i a3 h3 a4 h4 a5 h5 a6 h6 hc0 hc1 hc2 x0 x1 xs = k0_pay3 xs x0 x1 := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero Cert.Products.zeros3]
  simp only [View.readAt_eq_ld, h3.read_unread, h4.read_unread, h6.read_unread]
  rw [View.ld_unit_zero Cert.Products.zeros2, View.ld_unit_zero Cert.Products.zeros2, View.ld_unit_zero Cert.Products.zeros2]

end Cases

/-! ## Where the windows' blocks lie -/

/-- Point `t` is block row `t / 4` and contracted block `t % 4`. -/
theorem index_facts : ∀ t : Fin grid0.N,
    win0_0.index t 0 = t.val % 4 ∧ win0_0.index t 1 = t.val / 4
      ∧ win0_1.index t 0 = t.val % 4 ∧ win0_1.index t 1 = 0
      ∧ win0_2.index t 0 = 0 ∧ win0_2.index t 1 = t.val / 4 ∧ win0_2.index t 2 = 0 := by
  decide +kernel

theorem iblk0_apply (c : Dev nD) (t : Fin cfg0.N) (k : Fin 1024) (r : Fin 512) (K R : Fin 4096)
    (hK : K.val = t.val % 4 * 1024 + k.val) (hR : R.val = t.val / 4 * 512 + r.val) :
    iblk m c 0 t (ix2 k r) = m ((c : Thread nD τ).loc main_arg0) (ix2 K R) := by
  obtain ⟨h0, h1, -⟩ := index_facts t
  unfold iblk
  rw [View.read_apply]
  show V m c main_arg0 _ = _
  unfold V
  refine congrArg (m ((c : Thread nD τ).loc main_arg0)) (Shape.idx_ext₂ ?_ ?_)
  · show win0_0.index t 0 * 1024 + 1 * k.val = K.val
    rw [h0]; omega
  · show win0_0.index t 1 * 512 + 1 * r.val = R.val
    rw [h1]; omega

theorem iblk1_apply (c : Dev nD) (t : Fin cfg0.N) (k : Fin 1024) (r : Fin 2048) (K : Fin 4096) (C : Fin 2048)
    (hK : K.val = t.val % 4 * 1024 + k.val) (hC : C.val = r.val) :
    iblk m c 1 t (ix2 k r) = m ((c : Thread nD τ).loc main_arg1) (ix2 K C) := by
  obtain ⟨-, -, h0, h1, -⟩ := index_facts t
  unfold iblk
  rw [View.read_apply]
  show V m c main_arg1 _ = _
  unfold V
  refine congrArg (m ((c : Thread nD τ).loc main_arg1)) (Shape.idx_ext₂ ?_ ?_)
  · show win0_1.index t 0 * 1024 + 1 * k.val = K.val
    rw [h0]; omega
  · show win0_1.index t 1 * 2048 + 1 * r.val = C.val
    rw [h1]; omega

/-- The two blocks point `t` multiplies. -/
abbrev xb (c : Dev nD) (t : Fin cfg0.N) : S1024x512.Idx → EReal := iblk m c 0 t
abbrev wb (c : Dev nD) (t : Fin cfg0.N) : S1024x2048.Idx → EReal := iblk m c 1 t

/-- Point `t`'s product at an element, and as the sum of the terms of its contracted block. -/
def blockProd (c : Dev nD) (t : Fin cfg0.N) (y : S512x2048.Idx) : EReal :=
  ∑ k : Fin 1024, xb m c t (ix2 k (y 0)) * wb m c t (ix2 k (y 1))

theorem block_sum (c : Dev nD) (t : Fin cfg0.N) (y : S512x2048.Idx) (R : Fin 4096) (C : Fin 2048)
    (hR : R.val = t.val / 4 * 512 + (y 0).val) (hC : C.val = (y 1).val) :
    blockProd m c t y
      = ∑ k : Fin 1024, Cert.Products.ext (term (m ((c : Thread nD τ).loc main_arg0)) (m ((c : Thread nD τ).loc main_arg1)) R C)
          (t.val % 4 * 1024 + k.val) := by
  refine Finset.sum_congr rfl fun k _ => ?_
  rw [Cert.Products.ext_apply _ _ (by omega)]
  unfold term
  exact congrArg₂ (· * ·) (iblk0_apply m c t k (y 0) _ R rfl hR) (iblk1_apply m c t k (y 1) _ C rfl hC)

/-- The accumulator after a sweep's first point, and after a middle one. -/
theorem acc_first (c : Dev nD) (y : S512x2048.Idx) (n : ℕ) (hn : n < cfg0.N) (h0 : n % 4 = 0) :
    (outsAt0 m c n hn).2 y = blockProd m c ⟨n, hn⟩ y := by
  rw [outsAt0_A m c ⟨n, hn⟩ h0 (by dsimp only; omega) (by dsimp only; omega)]
  dsimp only
  rw [sout_A]
  exact pay1_apply _ _ y

theorem acc_next (c : Dev nD) (y : S512x2048.Idx) (n : ℕ) (hn : n + 1 < cfg0.N) (h0 : (n + 1) % 4 ≠ 0) (h2 : (n + 1) % 4 + 1 < 4) :
    (outsAt0 m c (n + 1) hn).2 y = (outsAt0 m c n (Nat.lt_of_succ_lt hn)).2 y + blockProd m c ⟨n + 1, hn⟩ y := by
  rw [outsAt0_B m c ⟨n + 1, hn⟩ h0 (by dsimp only; omega) (by dsimp only; omega)]
  dsimp only
  rw [sout_B]
  exact pay2_apply _ _ _ y

/-- The last point of each sweep writes back its block of the result. -/
theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  rw [Value.flushed2_C m c t (by omega) (by omega) h3, out_C]
  funext y
  rw [View.read_apply, cast_eq]
  refine Eq.trans (pay3_apply _ (xb m c t) (wb m c t) y) ?_
  obtain ⟨-, -, -, -, -, i1, i2⟩ := index_facts t
  have e1 : ((((cfg0.win 2).blk t).view.emb y) 1).val = t.val / 4 * 512 + (y 1).val := by
    show win0_2.index t 1 * 512 + 1 * (y 1).val = _; rw [i1]; omega
  have e2 : ((((cfg0.win 2).blk t).view.emb y) 2).val = (y 2).val := by
    show win0_2.index t 2 * 2048 + 1 * (y 2).val = _; rw [i2]; omega
  exact Cert.Products.swept 4 1024 (t.val / 4) rfl (by omega) _ (fun n hn => (outsAt0 m c n hn).2 (ix2 (y 1) (y 2)))
    (fun n hn => blockProd m c ⟨n, hn⟩ (ix2 (y 1) (y 2))) (acc_first m c _) (acc_next m c _)
    (fun n hn hq => block_sum m c ⟨n, hn⟩ (ix2 (y 1) (y 2)) _ _ (e1.trans (by rw [← hq])) e2) t.val t.isLt rfl (by omega)

/-- The eight blocks tile the result. -/
theorem cover (i : S1x4096x2048.Idx) : ∃ t : Fin cfg0.N, (cfg0.win 2).flush t = true ∧ i ∈ ((cfg0.win 2).blk t).view.set := by
  have b0 : (i 0).val < 1 := (i 0).isLt
  have b1 : (i 1).val < 4096 := (i 1).isLt
  have b2 : (i 2).val < 2048 := (i 2).isLt
  let t : Fin grid0.N := ⟨(i 1).val / 512 * 4 + 3, by rw [N_0]; omega⟩
  obtain ⟨-, -, -, -, h0, h1, h2⟩ := index_facts t
  have e1 : win0_2.index t 1 = (i 1).val / 512 := by
    rw [h1]; show ((i 1).val / 512 * 4 + 3) / 4 = _; omega
  refine ⟨t, (flush0_2 t).mpr (by show ((i 1).val / 512 * 4 + 3) % 4 = 3; omega), ?_⟩
  show i ∈ ((View.whole main_v0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [h0]; omega
  | ⟨1, _⟩ =>
    show win0_2.index t 1 * 512 ≤ (i 1).val ∧ (i 1).val < win0_2.index t 1 * 512 + 512
    rw [e1]; omega
  | ⟨2, _⟩ =>
    show win0_2.index t 2 * 2048 ≤ (i 2).val ∧ (i 2).val < win0_2.index t 2 * 2048 + 2048
    rw [h2]; omega

theorem final (c : Dev nD) : (dats m 0 c).arrAt 2 cfg0.N = G m c :=
  (dats m 0 c).arrAt_eq_of_cover 2 (G m c) (flushed_eq m c) cover

end Cert.WOutIdeal.Tiles

namespace Cert.WOutValue

open Cert.WOutRefIdeal Cert.WOutRefIdeal.Gen

/-- The reference's vector-Jacobian product, read at an element, is the kernel's sum. -/
theorem ref_eq (x : S4096x4096.Idx → EReal) (w : S4096x2048.Idx → EReal) :
    Read.val_main_v7 (F := Ideal) x w = Cert.WOutIdeal.Tiles.prod x w := by
  funext i
  rw [Read.val_main_v7_apply, Read.val_main_v6_apply]
  refine (Read.val_main_v5_apply _ _ _).trans ((Read.val_main_v4_apply _ _ _).trans ?_)
  unfold Cert.WOutIdeal.Tiles.prod Cert.WOutIdeal.Tiles.term
  refine Finset.sum_congr rfl fun k _ => (mul_comm _ _).trans ?_
  exact congrArg₂ (· * ·) (congrArg x (Shape.idx_ext₂ rfl rfl)) (congrArg w (Shape.idx_ext₂ rfl rfl))

/-- On equal arguments the kernel's result is the reference's. -/
theorem algebraic : Cert.algebraic_WOutIdeal_WOutRefIdeal := by
  intro m ρ m' ρ' _ hagree
  refine ⟨fun c => Cert.WOutIdeal.Tiles.G m c, ?_, ?_⟩
  · exact (θ_run Cert.WOutIdeal.defs _ _).mono (fun r h c =>
      ⟨(h c).1.trans (Cert.WOutIdeal.Tiles.final m c), (h c).2.1, (h c).2.2⟩) (Cert.WOutIdeal.Value.run_blocks (F := Ideal) m ρ)
  · refine (θ_run Cert.WOutRefIdeal.defs _ _).mono (fun r h c => ⟨(h c).1.trans ?_, (h c).2.1, (h c).2.2⟩)
      (Cert.WOutRefIdeal.Value.run (F := Ideal) m' ρ')
    refine (Cert.WOutRefIdeal.Read.val_main_v7_eq _ _).trans ((ref_eq _ _).trans ?_)
    rw [(hagree c).1, (hagree c).2]
    rfl

end Cert.WOutValue

end
-- ==== Proof.WPoolInValue.lean ====
/-
  The weight gradient of the pooled mixer's input projection, `dW = hᵀ · dpu` for `h` of shape [4096, 2048] and `dpu` of
  shape [4096, 8192], stored as eight [2048, 1024] column blocks. The kernel tiles the result into [1, 1024, 1024] blocks
  and sweeps four blocks of the contracted axis innermost: the first product overwrites an accumulator, the next two are
  added to it, and the last is added and written out, cast to bfloat16. The reference is the vector-Jacobian product of
  `h @ W` with respect to W, cut into its column blocks. Both are, at (b, r, j), the sum over k below 4096 of
  `h (k, r) · dpu (k, 1024 b + j)`.
-/
module

public import proofs.«01_k».proof.Defs
public import proofs.«01_k».proof.Proof.Gen.WPoolInIdeal.Value
public import proofs.«01_k».proof.Proof.Gen.WPoolInRefIdeal.Run
public import proofs.«01_k».proof.Proof.Gen.WPoolInRefIdeal.Read
public import Idealize.ShloMosaic.Lib.Pipeline.Value
public import Idealize.ShloMosaic.Lib.ValueIdx
public import proofs.«01_k».proof.Proof.Products

@[expose] public section

noncomputable section

open Idealize.ShloMosaic Idealize.ShloMosaic.TcCoe Idealize.SL.Sem Idealize.ShloMosaic.ValueIdx
open Idealize.ShloMosaic.Pipeline (Dat)
open scoped BigOperators

namespace Cert.WPoolInIdeal.Tiles

open Cert.WPoolInIdeal Cert.WPoolInIdeal.Gen

variable (m : (ℓ : Loc nD τ sig) → Buf (Elt Ideal) ℓ) (ρ : Dev nD → PrngReg)

/-- The product's term at contracted position `k`. -/
def term (x : S4096x2048.Idx → EReal) (w : S4096x8192.Idx → EReal) (R : Fin 2048) (C : Fin 8192) (k : Fin 4096) : EReal :=
  x (ix2 k R) * w (ix2 k C)

/-- The column of the [4096, 8192] array that element `(p, r, c)` of the result stands at. -/
def col (i : S8x2048x1024.Idx) : Fin 8192 := ⟨(i 0).val * 1024 + (i 2).val, by
  have b0 : (i 0).val < 8 := (i 0).isLt
  have b2 : (i 2).val < 1024 := (i 2).isLt
  omega⟩

/-- The product as one function of the two arguments. -/
def prod (x : S4096x2048.Idx → EReal) (w : S4096x8192.Idx → EReal) (i : S8x2048x1024.Idx) : EReal :=
  ∑ k : Fin 4096, term x w (i 1) (col i) k

/-- The result array of device `c`. -/
def G (c : Dev nD) : Buf (Elt Ideal) ((c : Thread nD τ).loc main_v0) :=
  prod (m ((c : Thread nD τ).loc main_arg0)) (m ((c : Thread nD τ).loc main_arg1))

/-! ## The payloads at an element -/

/-- One block's product at an element. -/
theorem mm_apply (a : Vec Ideal S1024x1024 .bf16) (b : Vec Ideal S1024x1024 .bf16) (y : S1024x1024.Idx) :
    matmul (φ₁ := .bf16) (φ₂ := .bf16) dot_S1024x1024_S1024x1024_S1024x1024_0_0_1_1_n_n none a b
        (constant (F := Ideal) S1024x1024 .f32 0x00000000#32) y
      = ∑ k : Fin 1024, a (ix2 k (y 0)) * b (ix2 k (y 1)) :=
  Cert.Products.leftTransposed_zero a b y

theorem pay1_apply (a : Vec Ideal S1024x1024 .bf16) (b : Vec Ideal S1024x1024 .bf16) (y : S1024x1024.Idx) :
    k0_pay1 a b y = ∑ k : Fin 1024, a (ix2 k (y 0)) * b (ix2 k (y 1)) := by
  unfold k0_pay1
  simp only [shapeCast_self]
  exact mm_apply a b y

theorem pay2_apply (s : Vec Ideal S1024x1024 .f32) (a : Vec Ideal S1024x1024 .bf16) (b : Vec Ideal S1024x1024 .bf16)
    (y : S1024x1024.Idx) :
    k0_pay2 s a b y = s y + ∑ k : Fin 1024, a (ix2 k (y 0)) * b (ix2 k (y 1)) := by
  unfold k0_pay2
  simp only [shapeCast_self]
  exact congrArg (s y + ·) (mm_apply a b y)

theorem pay3_apply (s : Vec Ideal S1024x1024 .f32) (a : Vec Ideal S1024x1024 .bf16) (b : Vec Ideal S1024x1024 .bf16)
    (y : S1x1024x1024.Idx) :
    k0_pay3 s a b y = s (ix2 (y 1) (y 2)) + ∑ k : Fin 1024, a (ix2 k (y 1)) * b (ix2 k (y 2)) := by
  unfold k0_pay3
  refine (shapeCast_addUnit_apply ![1024, 1024] _ shapeCasts_S1024x1024_S1x1024x1024 y).trans ?_
  have e : (fun d => y d.succ : S1024x1024.Idx) = ix2 (y 1) (y 2) := Shape.idx_ext₂ rfl rfl
  rw [e]
  exact congrArg (s (ix2 (y 1) (y 2)) + ·) (mm_apply a b (ix2 (y 1) (y 2)))

/-! ## What each case leaves -/

section Cases
variable (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1x1024x1024 .bf16) (h5 : a5.IsWhole) (a6 : Memref sig .tc .vmem S1024x1024 .f32) (h6 : a6.IsWhole)
  (x0 : Vec Ideal S1024x1024 .bf16) (x1 : Vec Ideal S1024x1024 .bf16)
  (xs : Vec Ideal S1024x1024 .f32)

/-- The first point of a sweep leaves its product in the accumulator. -/
theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero Cert.Products.zeros2]
  simp only [View.readAt_eq_ld, h3.read_unread, h4.read_unread]
  rw [View.ld_unit_zero Cert.Products.zeros2, View.ld_unit_zero Cert.Products.zeros2]

/-- A middle point adds its product to what the accumulator held. -/
theorem sout_B (hc0 : ¬cond0_0 i) (hc1 : cond0_1 i) (hc2 : ¬cond0_2 i) :
    sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero Cert.Products.zeros2]
  simp only [View.readAt_eq_ld, h3.read_unread, h4.read_unread, h6.read_unread]
  rw [View.ld_unit_zero Cert.Products.zeros2, View.ld_unit_zero Cert.Products.zeros2, View.ld_unit_zero Cert.Products.zeros2]

/-- The last point writes out the accumulator plus its product. -/
theorem out_C (hc0 : ¬cond0_0 i) (hc1 : ¬cond0_1 i) (hc2 : cond0_2 i) :
    out0_C_2 c i a3 h3 a4 h4 a5 h5 a6 h6 hc0 hc1 hc2 x0 x1 xs = k0_pay3 xs x0 x1 := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero Cert.Products.zeros3]
  simp only [View.readAt_eq_ld, h3.read_unread, h4.read_unread, h6.read_unread]
  rw [View.ld_unit_zero Cert.Products.zeros2, View.ld_unit_zero Cert.Products.zeros2, View.ld_unit_zero Cert.Products.zeros2]

end Cases

/-! ## Where the windows' blocks lie -/

/-- Point `t` is block row `t / 32`, block column `t / 4 % 8` and contracted block `t % 4`. -/
theorem index_facts : ∀ t : Fin grid0.N,
    win0_0.index t 0 = t.val % 4 ∧ win0_0.index t 1 = t.val / 32
      ∧ win0_1.index t 0 = t.val % 4 ∧ win0_1.index t 1 = t.val / 4 % 8
      ∧ win0_2.index t 0 = t.val / 4 % 8 ∧ win0_2.index t 1 = t.val / 32 ∧ win0_2.index t 2 = 0 := by
  decide +kernel

theorem iblk0_apply (c : Dev nD) (t : Fin cfg0.N) (k : Fin 1024) (r : Fin 1024) (K : Fin 4096) (R : Fin 2048)
    (hK : K.val = t.val % 4 * 1024 + k.val) (hR : R.val = t.val / 32 * 1024 + r.val) :
    iblk m c 0 t (ix2 k r) = m ((c : Thread nD τ).loc main_arg0) (ix2 K R) := by
  obtain ⟨h0, h1, -⟩ := index_facts t
  unfold iblk
  rw [View.read_apply]
  show V m c main_arg0 _ = _
  unfold V
  refine congrArg (m ((c : Thread nD τ).loc main_arg0)) (Shape.idx_ext₂ ?_ ?_)
  · show win0_0.index t 0 * 1024 + 1 * k.val = K.val
    rw [h0]; omega
  · show win0_0.index t 1 * 1024 + 1 * r.val = R.val
    rw [h1]; omega

theorem iblk1_apply (c : Dev nD) (t : Fin cfg0.N) (k : Fin 1024) (r : Fin 1024) (K : Fin 4096) (C : Fin 8192)
    (hK : K.val = t.val % 4 * 1024 + k.val) (hC : C.val = t.val / 4 % 8 * 1024 + r.val) :
    iblk m c 1 t (ix2 k r) = m ((c : Thread nD τ).loc main_arg1) (ix2 K C) := by
  obtain ⟨-, -, h0, h1, -⟩ := index_facts t
  unfold iblk
  rw [View.read_apply]
  show V m c main_arg1 _ = _
  unfold V
  refine congrArg (m ((c : Thread nD τ).loc main_arg1)) (Shape.idx_ext₂ ?_ ?_)
  · show win0_1.index t 0 * 1024 + 1 * k.val = K.val
    rw [h0]; omega
  · show win0_1.index t 1 * 1024 + 1 * r.val = C.val
    rw [h1]; omega

/-- The two blocks point `t` multiplies. -/
abbrev xb (c : Dev nD) (t : Fin cfg0.N) : S1024x1024.Idx → EReal := iblk m c 0 t
abbrev wb (c : Dev nD) (t : Fin cfg0.N) : S1024x1024.Idx → EReal := iblk m c 1 t

/-- Point `t`'s product at an element, and as the sum of the terms of its contracted block. -/
def blockProd (c : Dev nD) (t : Fin cfg0.N) (y : S1024x1024.Idx) : EReal :=
  ∑ k : Fin 1024, xb m c t (ix2 k (y 0)) * wb m c t (ix2 k (y 1))

theorem block_sum (c : Dev nD) (t : Fin cfg0.N) (y : S1024x1024.Idx) (R : Fin 2048) (C : Fin 8192)
    (hR : R.val = t.val / 32 * 1024 + (y 0).val) (hC : C.val = t.val / 4 % 8 * 1024 + (y 1).val) :
    blockProd m c t y
      = ∑ k : Fin 1024, Cert.Products.ext (term (m ((c : Thread nD τ).loc main_arg0)) (m ((c : Thread nD τ).loc main_arg1)) R C)
          (t.val % 4 * 1024 + k.val) := by
  refine Finset.sum_congr rfl fun k _ => ?_
  rw [Cert.Products.ext_apply _ _ (by omega)]
  unfold term
  exact congrArg₂ (· * ·) (iblk0_apply m c t k (y 0) _ R rfl hR) (iblk1_apply m c t k (y 1) _ C rfl hC)

/-- The accumulator after a sweep's first point, and after a middle one. -/
theorem acc_first (c : Dev nD) (y : S1024x1024.Idx) (n : ℕ) (hn : n < cfg0.N) (h0 : n % 4 = 0) :
    (outsAt0 m c n hn).2 y = blockProd m c ⟨n, hn⟩ y := by
  rw [outsAt0_A m c ⟨n, hn⟩ h0 (by dsimp only; omega) (by dsimp only; omega)]
  dsimp only
  rw [sout_A]
  exact pay1_apply _ _ y

theorem acc_next (c : Dev nD) (y : S1024x1024.Idx) (n : ℕ) (hn : n + 1 < cfg0.N) (h0 : (n + 1) % 4 ≠ 0) (h2 : (n + 1) % 4 + 1 < 4) :
    (outsAt0 m c (n + 1) hn).2 y = (outsAt0 m c n (Nat.lt_of_succ_lt hn)).2 y + blockProd m c ⟨n + 1, hn⟩ y := by
  rw [outsAt0_B m c ⟨n + 1, hn⟩ h0 (by dsimp only; omega) (by dsimp only; omega)]
  dsimp only
  rw [sout_B]
  exact pay2_apply _ _ _ y

/-- The last point of each sweep writes back its block of the result. -/
theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  rw [Value.flushed2_C m c t (by omega) (by omega) h3, out_C]
  funext y
  rw [View.read_apply, cast_eq]
  refine Eq.trans (pay3_apply _ (xb m c t) (wb m c t) y) ?_
  obtain ⟨-, -, -, -, i0, i1, i2⟩ := index_facts t
  have e1 : ((((cfg0.win 2).blk t).view.emb y) 1).val = t.val / 32 * 1024 + (y 1).val := by
    show win0_2.index t 1 * 1024 + 1 * (y 1).val = _; rw [i1]; omega
  have e0 : ((((cfg0.win 2).blk t).view.emb y) 0).val = t.val / 4 % 8 := by
    have b0 : (y 0).val < 1 := (y 0).isLt
    show win0_2.index t 0 * 1 + 1 * (y 0).val = _; rw [i0]; omega
  have e2 : ((((cfg0.win 2).blk t).view.emb y) 2).val = (y 2).val := by
    show win0_2.index t 2 * 1024 + 1 * (y 2).val = _; rw [i2]; omega
  have eC : (col (((cfg0.win 2).blk t).view.emb y)).val = t.val / 4 % 8 * 1024 + (y 2).val := by
    show ((((cfg0.win 2).blk t).view.emb y) 0).val * 1024 + ((((cfg0.win 2).blk t).view.emb y) 2).val = _
    rw [e0, e2]
  exact Cert.Products.swept 4 1024 (t.val / 4) rfl (by omega) _ (fun n hn => (outsAt0 m c n hn).2 (ix2 (y 1) (y 2)))
    (fun n hn => blockProd m c ⟨n, hn⟩ (ix2 (y 1) (y 2))) (acc_first m c _) (acc_next m c _)
    (fun n hn hq => block_sum m c ⟨n, hn⟩ (ix2 (y 1) (y 2)) _ _
      (e1.trans (congrArg (· * 1024 + (y 1).val) (show t.val / 32 = n / 32 by omega)))
      (eC.trans (congrArg (· * 1024 + (y 2).val) (show t.val / 4 % 8 = n / 4 % 8 by rw [hq])))) t.val t.isLt rfl (by omega)

/-- The sixteen blocks tile the result. -/
theorem cover (i : S8x2048x1024.Idx) : ∃ t : Fin cfg0.N, (cfg0.win 2).flush t = true ∧ i ∈ ((cfg0.win 2).blk t).view.set := by
  have b0 : (i 0).val < 8 := (i 0).isLt
  have b1 : (i 1).val < 2048 := (i 1).isLt
  have b2 : (i 2).val < 1024 := (i 2).isLt
  let t : Fin grid0.N := ⟨(i 1).val / 1024 * 32 + (i 0).val * 4 + 3, by rw [N_0]; omega⟩
  obtain ⟨-, -, -, -, h0, h1, h2⟩ := index_facts t
  have e0 : win0_2.index t 0 = (i 0).val := by
    rw [h0]; show ((i 1).val / 1024 * 32 + (i 0).val * 4 + 3) / 4 % 8 = _; omega
  have e1 : win0_2.index t 1 = (i 1).val / 1024 := by
    rw [h1]; show ((i 1).val / 1024 * 32 + (i 0).val * 4 + 3) / 32 = _; omega
  refine ⟨t, (flush0_2 t).mpr (by show ((i 1).val / 1024 * 32 + (i 0).val * 4 + 3) % 4 = 3; omega), ?_⟩
  show i ∈ ((View.whole main_v0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [e0]; omega
  | ⟨1, _⟩ =>
    show win0_2.index t 1 * 1024 ≤ (i 1).val ∧ (i 1).val < win0_2.index t 1 * 1024 + 1024
    rw [e1]; omega
  | ⟨2, _⟩ =>
    show win0_2.index t 2 * 1024 ≤ (i 2).val ∧ (i 2).val < win0_2.index t 2 * 1024 + 1024
    rw [h2]; omega

theorem final (c : Dev nD) : (dats m 0 c).arrAt 2 cfg0.N = G m c :=
  (dats m 0 c).arrAt_eq_of_cover 2 (G m c) (flushed_eq m c) cover

end Cert.WPoolInIdeal.Tiles

namespace Cert.WPoolInValue

open Cert.WPoolInRefIdeal Cert.WPoolInRefIdeal.Gen

/-- The reference's vector-Jacobian product, read at an element, is the kernel's sum. -/
theorem ref_eq (x : S4096x2048.Idx → EReal) (w : S4096x8192.Idx → EReal) :
    Read.val_main_v8 (F := Ideal) x w = Cert.WPoolInIdeal.Tiles.prod x w := by
  funext i
  have c0 : (i 0).val < 8 := (i 0).isLt
  have c1 : (i 1).val < 2048 := (i 1).isLt
  have c2 : (i 2).val < 1024 := (i 2).isLt
  rw [Read.val_main_v8_apply, Read.val_main_v7_apply, Read.val_main_v6_apply]
  refine (Read.val_main_v5_apply _ _ _).trans ((Read.val_main_v4_apply _ _ _).trans ?_)
  unfold Cert.WPoolInIdeal.Tiles.prod Cert.WPoolInIdeal.Tiles.term
  refine Finset.sum_congr rfl fun k _ => (mul_comm _ _).trans ?_
  refine congrArg₂ (· * ·) (congrArg x (Shape.idx_ext₂ rfl ?_)) (congrArg w (Shape.idx_ext₂ rfl ?_))
  · show (((i 1).val * 8 + (i 0).val) * 1024 + (i 2).val) / 8192 = (i 1).val; omega
  · show (((i 1).val * 8 + (i 0).val) * 1024 + (i 2).val) % 8192 = (i 0).val * 1024 + (i 2).val; omega

/-- On equal arguments the kernel's result is the reference's. -/
theorem algebraic : Cert.algebraic_WPoolInIdeal_WPoolInRefIdeal := by
  intro m ρ m' ρ' _ hagree
  refine ⟨fun c => Cert.WPoolInIdeal.Tiles.G m c, ?_, ?_⟩
  · exact (θ_run Cert.WPoolInIdeal.defs _ _).mono (fun r h c =>
      ⟨(h c).1.trans (Cert.WPoolInIdeal.Tiles.final m c), (h c).2.1, (h c).2.2⟩) (Cert.WPoolInIdeal.Value.run_blocks (F := Ideal) m ρ)
  · refine (θ_run Cert.WPoolInRefIdeal.defs _ _).mono (fun r h c => ⟨(h c).1.trans ?_, (h c).2.1, (h c).2.2⟩)
      (Cert.WPoolInRefIdeal.Value.run (F := Ideal) m' ρ')
    refine (Cert.WPoolInRefIdeal.Read.val_main_v8_eq _ _).trans ((ref_eq _ _).trans ?_)
    rw [(hagree c).1, (hagree c).2]
    rfl

end Cert.WPoolInValue

end
-- ==== Proof.WGroupValue.lean ====
/-
  The weight gradient of the pooled mixer's grouped projection: group g's is `dW[g] = mixed[:, g]ᵀ · dmg[:, g]`, over the
  g-th 1024 columns of the two [4096, 4096] arrays. The kernel tiles the [4, 1024, 1024] result into [1, 512, 1024] blocks
  and sweeps four blocks of the contracted axis innermost: the first product overwrites an accumulator, the next two are
  added to it, and the last is added and written out, cast to bfloat16. The reference is the vector-Jacobian product of
  the grouped product with respect to its weights. Both are, at (g, r, j), the sum over k below 4096 of
  `mixed (k, 1024 g + r) · dmg (k, 1024 g + j)`.
-/
module

public import proofs.«01_k».proof.Defs
public import proofs.«01_k».proof.Proof.Gen.WGroupIdeal.Value
public import proofs.«01_k».proof.Proof.Gen.WGroupRefIdeal.Run
public import proofs.«01_k».proof.Proof.Gen.WGroupRefIdeal.Read
public import Idealize.ShloMosaic.Lib.Pipeline.Value
public import Idealize.ShloMosaic.Lib.Pointwise.Contract
public import Idealize.ShloMosaic.Lib.ValueIdx
public import proofs.«01_k».proof.Proof.Products

@[expose] public section

noncomputable section

open Idealize.ShloMosaic Idealize.ShloMosaic.TcCoe Idealize.SL.Sem Idealize.ShloMosaic.ValueIdx
open Idealize.ShloMosaic.Pipeline (Dat)
open scoped BigOperators

namespace Cert.WGroupIdeal.Tiles

open Cert.WGroupIdeal Cert.WGroupIdeal.Gen

variable (m : (ℓ : Loc nD τ sig) → Buf (Elt Ideal) ℓ) (ρ : Dev nD → PrngReg)

/-- The product's term at contracted position `k`. -/
def term (x : S4096x4096.Idx → EReal) (w : S4096x4096.Idx → EReal) (R C : Fin 4096) (k : Fin 4096) : EReal :=
  x (ValueIdx.ix2 k R) * w (ValueIdx.ix2 k C)

/-- The two columns that element `(g, r, c)` of the result contracts. -/
def row (i : S4x1024x1024.Idx) : Fin 4096 := ⟨(i 0).val * 1024 + (i 1).val, by
  have b0 : (i 0).val < 4 := (i 0).isLt
  have b1 : (i 1).val < 1024 := (i 1).isLt
  omega⟩
def col (i : S4x1024x1024.Idx) : Fin 4096 := ⟨(i 0).val * 1024 + (i 2).val, by
  have b0 : (i 0).val < 4 := (i 0).isLt
  have b2 : (i 2).val < 1024 := (i 2).isLt
  omega⟩

/-- The product as one function of the two arguments. -/
def prod (x : S4096x4096.Idx → EReal) (w : S4096x4096.Idx → EReal) (i : S4x1024x1024.Idx) : EReal :=
  ∑ k : Fin 4096, term x w (row i) (col i) k

/-- The result array of device `c`. -/
def G (c : Dev nD) : Buf (Elt Ideal) ((c : Thread nD τ).loc main_v0) :=
  prod (m ((c : Thread nD τ).loc main_arg0)) (m ((c : Thread nD τ).loc main_arg1))

/-! ## The payloads at an element -/

/-- One block's product at an element. -/
theorem mm_apply (a : Vec Ideal S1024x512 .bf16) (b : Vec Ideal S1024x1024 .bf16) (y : S512x1024.Idx) :
    matmul (φ₁ := .bf16) (φ₂ := .bf16) dot_S1024x512_S1024x1024_S512x1024_0_0_1_1_n_n none a b
        (constant (F := Ideal) S512x1024 .f32 0x00000000#32) y
      = ∑ k : Fin 1024, a (ValueIdx.ix2 k (y 0)) * b (ValueIdx.ix2 k (y 1)) :=
  Cert.Products.leftTransposed_zero a b y

theorem pay1_apply (a : Vec Ideal S1024x512 .bf16) (b : Vec Ideal S1024x1024 .bf16) (y : S512x1024.Idx) :
    k0_pay1 a b y = ∑ k : Fin 1024, a (ValueIdx.ix2 k (y 0)) * b (ValueIdx.ix2 k (y 1)) := by
  unfold k0_pay1
  simp only [shapeCast_self]
  exact mm_apply a b y

theorem pay2_apply (s : Vec Ideal S512x1024 .f32) (a : Vec Ideal S1024x512 .bf16) (b : Vec Ideal S1024x1024 .bf16)
    (y : S512x1024.Idx) :
    k0_pay2 s a b y = s y + ∑ k : Fin 1024, a (ValueIdx.ix2 k (y 0)) * b (ValueIdx.ix2 k (y 1)) := by
  unfold k0_pay2
  simp only [shapeCast_self]
  exact congrArg (s y + ·) (mm_apply a b y)

theorem pay3_apply (s : Vec Ideal S512x1024 .f32) (a : Vec Ideal S1024x512 .bf16) (b : Vec Ideal S1024x1024 .bf16)
    (y : S1x512x1024.Idx) :
    k0_pay3 s a b y = s (ValueIdx.ix2 (y 1) (y 2)) + ∑ k : Fin 1024, a (ValueIdx.ix2 k (y 1)) * b (ValueIdx.ix2 k (y 2)) := by
  unfold k0_pay3
  refine (shapeCast_addUnit_apply ![512, 1024] _ shapeCasts_S512x1024_S1x512x1024 y).trans ?_
  have e : (fun d => y d.succ : S512x1024.Idx) = ValueIdx.ix2 (y 1) (y 2) := Shape.idx_ext₂ rfl rfl
  rw [e]
  exact congrArg (s (ValueIdx.ix2 (y 1) (y 2)) + ·) (mm_apply a b (ValueIdx.ix2 (y 1) (y 2)))

/-! ## What each case leaves -/

section Cases
variable (c : Dev nD) (i : grid0.Coords)
  (a3 : Memref sig .tc .vmem S1024x512 .bf16) (h3 : a3.IsWhole) (a4 : Memref sig .tc .vmem S1024x1024 .bf16) (h4 : a4.IsWhole)
  (a5 : Memref sig .tc .vmem S1x512x1024 .bf16) (h5 : a5.IsWhole) (a6 : Memref sig .tc .vmem S512x1024 .f32) (h6 : a6.IsWhole)
  (x0 : Vec Ideal S1024x512 .bf16) (x1 : Vec Ideal S1024x1024 .bf16)
  (xs : Vec Ideal S512x1024 .f32)

/-- The first point of a sweep leaves its product in the accumulator. -/
theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero Cert.Products.zeros2]
  simp only [View.readAt_eq_ld, h3.read_unread, h4.read_unread]
  rw [View.ld_unit_zero Cert.Products.zeros2, View.ld_unit_zero Cert.Products.zeros2]

/-- A middle point adds its product to what the accumulator held. -/
theorem sout_B (hc0 : ¬cond0_0 i) (hc1 : cond0_1 i) (hc2 : ¬cond0_2 i) :
    sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero Cert.Products.zeros2]
  simp only [View.readAt_eq_ld, h3.read_unread, h4.read_unread, h6.read_unread]
  rw [View.ld_unit_zero Cert.Products.zeros2, View.ld_unit_zero Cert.Products.zeros2, View.ld_unit_zero Cert.Products.zeros2]

/-- The last point writes out the accumulator plus its product. -/
theorem out_C (hc0 : ¬cond0_0 i) (hc1 : ¬cond0_1 i) (hc2 : cond0_2 i) :
    out0_C_2 c i a3 h3 a4 h4 a5 h5 a6 h6 hc0 hc1 hc2 x0 x1 xs = k0_pay3 xs x0 x1 := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero Cert.Products.zeros3]
  simp only [View.readAt_eq_ld, h3.read_unread, h4.read_unread, h6.read_unread]
  rw [View.ld_unit_zero Cert.Products.zeros2, View.ld_unit_zero Cert.Products.zeros2, View.ld_unit_zero Cert.Products.zeros2]

end Cases

/-! ## Where the windows' blocks lie -/

/-- Point `t` is group `t / 8`, block row `t / 4 % 2` of it and contracted block `t % 4`. -/
theorem index_facts : ∀ t : Fin grid0.N,
    win0_0.index t 0 = t.val % 4 ∧ win0_0.index t 1 = t.val / 4
      ∧ win0_1.index t 0 = t.val % 4 ∧ win0_1.index t 1 = t.val / 8
      ∧ win0_2.index t 0 = t.val / 8 ∧ win0_2.index t 1 = t.val / 4 % 2 ∧ win0_2.index t 2 = 0 := by
  decide +kernel

theorem iblk0_apply (c : Dev nD) (t : Fin cfg0.N) (k : Fin 1024) (r : Fin 512) (K R : Fin 4096)
    (hK : K.val = t.val % 4 * 1024 + k.val) (hR : R.val = t.val / 4 * 512 + r.val) :
    iblk m c 0 t (ValueIdx.ix2 k r) = m ((c : Thread nD τ).loc main_arg0) (ValueIdx.ix2 K R) := by
  obtain ⟨h0, h1, -⟩ := index_facts t
  unfold iblk
  rw [View.read_apply]
  show V m c main_arg0 _ = _
  unfold V
  refine congrArg (m ((c : Thread nD τ).loc main_arg0)) (Shape.idx_ext₂ ?_ ?_)
  · show win0_0.index t 0 * 1024 + 1 * k.val = K.val
    rw [h0]; omega
  · show win0_0.index t 1 * 512 + 1 * r.val = R.val
    rw [h1]; omega

theorem iblk1_apply (c : Dev nD) (t : Fin cfg0.N) (k : Fin 1024) (r : Fin 1024) (K C : Fin 4096)
    (hK : K.val = t.val % 4 * 1024 + k.val) (hC : C.val = t.val / 8 * 1024 + r.val) :
    iblk m c 1 t (ValueIdx.ix2 k r) = m ((c : Thread nD τ).loc main_arg1) (ValueIdx.ix2 K C) := by
  obtain ⟨-, -, h0, h1, -⟩ := index_facts t
  unfold iblk
  rw [View.read_apply]
  show V m c main_arg1 _ = _
  unfold V
  refine congrArg (m ((c : Thread nD τ).loc main_arg1)) (Shape.idx_ext₂ ?_ ?_)
  · show win0_1.index t 0 * 1024 + 1 * k.val = K.val
    rw [h0]; omega
  · show win0_1.index t 1 * 1024 + 1 * r.val = C.val
    rw [h1]; omega

/-- The two blocks point `t` multiplies. -/
abbrev xb (c : Dev nD) (t : Fin cfg0.N) : S1024x512.Idx → EReal := iblk m c 0 t
abbrev wb (c : Dev nD) (t : Fin cfg0.N) : S1024x1024.Idx → EReal := iblk m c 1 t

/-- Point `t`'s product at an element, and as the sum of the terms of its contracted block. -/
def blockProd (c : Dev nD) (t : Fin cfg0.N) (y : S512x1024.Idx) : EReal :=
  ∑ k : Fin 1024, xb m c t (ValueIdx.ix2 k (y 0)) * wb m c t (ValueIdx.ix2 k (y 1))

theorem block_sum (c : Dev nD) (t : Fin cfg0.N) (y : S512x1024.Idx) (R C : Fin 4096)
    (hR : R.val = t.val / 4 * 512 + (y 0).val) (hC : C.val = t.val / 8 * 1024 + (y 1).val) :
    blockProd m c t y
      = ∑ k : Fin 1024, Cert.Products.ext (term (m ((c : Thread nD τ).loc main_arg0)) (m ((c : Thread nD τ).loc main_arg1)) R C)
          (t.val % 4 * 1024 + k.val) := by
  refine Finset.sum_congr rfl fun k _ => ?_
  rw [Cert.Products.ext_apply _ _ (by omega)]
  unfold term
  exact congrArg₂ (· * ·) (iblk0_apply m c t k (y 0) _ R rfl hR) (iblk1_apply m c t k (y 1) _ C rfl hC)

/-- The accumulator after a sweep's first point, and after a middle one. -/
theorem acc_first (c : Dev nD) (y : S512x1024.Idx) (n : ℕ) (hn : n < cfg0.N) (h0 : n % 4 = 0) :
    (outsAt0 m c n hn).2 y = blockProd m c ⟨n, hn⟩ y := by
  rw [outsAt0_A m c ⟨n, hn⟩ h0 (by dsimp only; omega) (by dsimp only; omega)]
  dsimp only
  rw [sout_A]
  exact pay1_apply _ _ y

theorem acc_next (c : Dev nD) (y : S512x1024.Idx) (n : ℕ) (hn : n + 1 < cfg0.N) (h0 : (n + 1) % 4 ≠ 0) (h2 : (n + 1) % 4 + 1 < 4) :
    (outsAt0 m c (n + 1) hn).2 y = (outsAt0 m c n (Nat.lt_of_succ_lt hn)).2 y + blockProd m c ⟨n + 1, hn⟩ y := by
  rw [outsAt0_B m c ⟨n + 1, hn⟩ h0 (by dsimp only; omega) (by dsimp only; omega)]
  dsimp only
  rw [sout_B]
  exact pay2_apply _ _ _ y

/-- The last point of each sweep writes back its block of the result. -/
theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  rw [Value.flushed2_C m c t (by omega) (by omega) h3, out_C]
  funext y
  rw [View.read_apply, cast_eq]
  refine Eq.trans (pay3_apply _ (xb m c t) (wb m c t) y) ?_
  obtain ⟨-, -, -, -, i0, i1, i2⟩ := index_facts t
  have e1 : ((((cfg0.win 2).blk t).view.emb y) 1).val = t.val / 4 % 2 * 512 + (y 1).val := by
    show win0_2.index t 1 * 512 + 1 * (y 1).val = _; rw [i1]; omega
  have e0 : ((((cfg0.win 2).blk t).view.emb y) 0).val = t.val / 8 := by
    have b0 : (y 0).val < 1 := (y 0).isLt
    show win0_2.index t 0 * 1 + 1 * (y 0).val = _; rw [i0]; omega
  have e2 : ((((cfg0.win 2).blk t).view.emb y) 2).val = (y 2).val := by
    show win0_2.index t 2 * 1024 + 1 * (y 2).val = _; rw [i2]; omega
  have eR : (row (((cfg0.win 2).blk t).view.emb y)).val = t.val / 4 * 512 + (y 1).val := by
    show ((((cfg0.win 2).blk t).view.emb y) 0).val * 1024 + ((((cfg0.win 2).blk t).view.emb y) 1).val = _
    rw [e0, e1]; omega
  have eC : (col (((cfg0.win 2).blk t).view.emb y)).val = t.val / 8 * 1024 + (y 2).val := by
    show ((((cfg0.win 2).blk t).view.emb y) 0).val * 1024 + ((((cfg0.win 2).blk t).view.emb y) 2).val = _
    rw [e0, e2]
  exact Cert.Products.swept 4 1024 (t.val / 4) rfl (by omega) _ (fun n hn => (outsAt0 m c n hn).2 (ValueIdx.ix2 (y 1) (y 2)))
    (fun n hn => blockProd m c ⟨n, hn⟩ (ValueIdx.ix2 (y 1) (y 2))) (acc_first m c _) (acc_next m c _)
    (fun n hn hq => block_sum m c ⟨n, hn⟩ (ValueIdx.ix2 (y 1) (y 2)) _ _
      (eR.trans (congrArg (· * 512 + (y 1).val) hq.symm))
      (eC.trans (congrArg (· * 1024 + (y 2).val) (show t.val / 8 = n / 8 by omega)))) t.val t.isLt rfl (by omega)

/-- The eight blocks tile the result. -/
theorem cover (i : S4x1024x1024.Idx) : ∃ t : Fin cfg0.N, (cfg0.win 2).flush t = true ∧ i ∈ ((cfg0.win 2).blk t).view.set := by
  have b0 : (i 0).val < 4 := (i 0).isLt
  have b1 : (i 1).val < 1024 := (i 1).isLt
  have b2 : (i 2).val < 1024 := (i 2).isLt
  let t : Fin grid0.N := ⟨(i 0).val * 8 + (i 1).val / 512 * 4 + 3, by rw [N_0]; omega⟩
  obtain ⟨-, -, -, -, h0, h1, h2⟩ := index_facts t
  have e0 : win0_2.index t 0 = (i 0).val := by
    rw [h0]; show ((i 0).val * 8 + (i 1).val / 512 * 4 + 3) / 8 = _; omega
  have e1 : win0_2.index t 1 = (i 1).val / 512 := by
    rw [h1]; show ((i 0).val * 8 + (i 1).val / 512 * 4 + 3) / 4 % 2 = _; omega
  refine ⟨t, (flush0_2 t).mpr (by show ((i 0).val * 8 + (i 1).val / 512 * 4 + 3) % 4 = 3; omega), ?_⟩
  show i ∈ ((View.whole main_v0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [e0]; omega
  | ⟨1, _⟩ =>
    show win0_2.index t 1 * 512 ≤ (i 1).val ∧ (i 1).val < win0_2.index t 1 * 512 + 512
    rw [e1]; omega
  | ⟨2, _⟩ =>
    show win0_2.index t 2 * 1024 ≤ (i 2).val ∧ (i 2).val < win0_2.index t 2 * 1024 + 1024
    rw [h2]; omega

theorem final (c : Dev nD) : (dats m 0 c).arrAt 2 cfg0.N = G m c :=
  (dats m 0 c).arrAt_eq_of_cover 2 (G m c) (flushed_eq m c) cover

end Cert.WGroupIdeal.Tiles

namespace Cert.WGroupValue

open Cert.WGroupRefIdeal Cert.WGroupRefIdeal.Gen

/-- The batched product, read at an element: one sum over the 4096 rows. -/
theorem dot_apply (x w : S4096x4096.Idx → EReal) (i : S4x1024x1024.Idx) :
    Read.val_main_v9 (F := Ideal) x w i
      = ∑ k : Fin 4096, Read.val_main_v8 (F := Ideal) w (ValueIdx.ix4 (i 0) (i 1) (0 : Fin 1) k)
          * Read.val_main_v2 (F := Ideal) x (ValueIdx.ix4 (0 : Fin 1) k (i 0) (i 2)) := by
  unfold Read.val_main_v9
  generalize Read.val_main_v8 (F := Ideal) w = b
  generalize Read.val_main_v2 (F := Ideal) x = a
  simp only [Host.dotGeneral]
  rw [Ideal.dotGeneral_apply, DotDims.sum_contr₂ dot_S4x1024x1x4096_S1x4096x4x1024_S4x1024x1024_23_01_1_3_0_2 (a := 2) (b := 3) rfl
    (K₁ := 1) (K₂ := 4096) rfl rfl, Fin.sum_univ_one]
  refine Finset.sum_congr rfl fun k _ => congrArg₂ (fun p q => b p * a q) ?_ ?_
  · funext d
    apply Fin.ext
    match d with
    | ⟨0, _⟩ => rfl
    | ⟨1, _⟩ => rfl
    | ⟨2, _⟩ => rfl
    | ⟨3, _⟩ => rfl
  · funext d
    apply Fin.ext
    match d with
    | ⟨0, _⟩ => rfl
    | ⟨1, _⟩ => rfl
    | ⟨2, _⟩ => rfl
    | ⟨3, _⟩ => rfl

/-- The reference's vector-Jacobian product, read at an element, is the kernel's sum. -/
theorem ref_eq (x w : S4096x4096.Idx → EReal) :
    Read.val_main_v11 (F := Ideal) x w = Cert.WGroupIdeal.Tiles.prod x w := by
  funext i
  have c0 : (i 0).val < 4 := (i 0).isLt
  have c1 : (i 1).val < 1024 := (i 1).isLt
  have c2 : (i 2).val < 1024 := (i 2).isLt
  rw [Read.val_main_v11_apply]
  refine (Read.val_main_v10_apply _ _ _).trans ((dot_apply _ _ _).trans ?_)
  unfold Cert.WGroupIdeal.Tiles.prod Cert.WGroupIdeal.Tiles.term
  refine Finset.sum_congr rfl fun k _ => (mul_comm _ _).trans ?_
  have bk : k.val < 4096 := k.isLt
  rw [Read.val_main_v8_apply, Read.val_main_v7_apply, Read.val_main_v2_apply]
  refine congrArg₂ (· * ·) (congrArg x (Shape.idx_ext₂ ?_ ?_)) (congrArg w (Shape.idx_ext₂ ?_ ?_))
  · show (((0 * 4096 + k.val) * 4 + (i 0).val) * 1024 + (i 1).val) / 4096 = k.val; omega
  · show (((0 * 4096 + k.val) * 4 + (i 0).val) * 1024 + (i 1).val) % 4096 = (i 0).val * 1024 + (i 1).val; omega
  · show (((0 * 4096 + k.val) * 4 + (i 0).val) * 1024 + (i 2).val) / 4096 = k.val; omega
  · show (((0 * 4096 + k.val) * 4 + (i 0).val) * 1024 + (i 2).val) % 4096 = (i 0).val * 1024 + (i 2).val; omega

/-- On equal arguments the kernel's result is the reference's. -/
theorem algebraic : Cert.algebraic_WGroupIdeal_WGroupRefIdeal := by
  intro m ρ m' ρ' _ hagree
  refine ⟨fun c => Cert.WGroupIdeal.Tiles.G m c, ?_, ?_⟩
  · exact (θ_run Cert.WGroupIdeal.defs _ _).mono (fun r h c =>
      ⟨(h c).1.trans (Cert.WGroupIdeal.Tiles.final m c), (h c).2.1, (h c).2.2⟩) (Cert.WGroupIdeal.Value.run_blocks (F := Ideal) m ρ)
  · refine (θ_run Cert.WGroupRefIdeal.defs _ _).mono (fun r h c => ⟨(h c).1.trans ?_, (h c).2.1, (h c).2.2⟩)
      (Cert.WGroupRefIdeal.Value.run (F := Ideal) m' ρ')
    refine (Cert.WGroupRefIdeal.Read.val_main_v11_eq _ _).trans ((ref_eq _ _).trans ?_)
    rw [(hagree c).1, (hagree c).2]
    rfl

end Cert.WGroupValue

end
-- ==== Proof.FInValue.lean ====
/-
  The input projection of the forward step without the step-size columns: `h · W` for `h` of shape [4096, 2048] and W the
  first 10240 columns of the [2048, 10304] projection matrix, stored transposed as two planes of 1024 rows each. Each
  grid point multiplies the two halves of a [1024, 2048] block of `h` by 512 rows of the two planes and adds the two
  products. The reference is `h @ W` with those columns. Both are, at (r, j), the sum over k below 2048 of
  `h (r, k) · w (k / 1024, j, k % 1024)`, the first plane's 1024 terms and the second's.
-/
module

public import proofs.«01_k».proof.Defs
public import proofs.«01_k».proof.Proof.Gen.FInIdeal.Value
public import proofs.«01_k».proof.Proof.Gen.FInRefIdeal.Run
public import proofs.«01_k».proof.Proof.Gen.FInRefIdeal.Read
public import Idealize.ShloMosaic.Lib.Pipeline.Value
public import Idealize.ShloMosaic.Lib.Pipeline.ValueKit.Tiles
public import Idealize.ShloMosaic.Lib.ValueIdx
public import proofs.«01_k».proof.Proof.Products
public import proofs.«01_k».proof.Proof.InDtValue

@[expose] public section

noncomputable section

open Idealize.ShloMosaic Idealize.ShloMosaic.TcCoe Idealize.SL.Sem Idealize.ShloMosaic.ValueIdx
open Idealize.ShloMosaic.Pipeline (Dat)
open scoped BigOperators

namespace Cert.FInIdeal.Tiles

open Cert.FInIdeal Cert.FInIdeal.Gen

variable (m : (ℓ : Loc nD τ sig) → Buf (Elt Ideal) ℓ) (ρ : Dev nD → PrngReg)

/-- Plane `p`'s part of the product. -/
def part (x : S4096x2048.Idx → EReal) (w : S2x10304x1024.Idx → EReal) (p : Fin 2) (i : S4096x10240.Idx) : EReal :=
  ∑ k : Fin 1024, x (ix2 (i 0) (⟨p.val * 1024 + k.val, by omega⟩ : Fin 2048))
    * w (ix3 p (⟨(i 1).val, by have h : (i 1).val < 10240 := (i 1).isLt; omega⟩ : Fin 10304) k)

/-- The product as one function of the two arguments. -/
def prod (x : S4096x2048.Idx → EReal) (w : S2x10304x1024.Idx → EReal) (i : S4096x10240.Idx) : EReal :=
  part x w 0 i + part x w 1 i

/-- The result array of device `c`. -/
def G (c : Dev nD) : Buf (Elt Ideal) ((c : Thread nD τ).loc main_v0) :=
  prod (m ((c : Thread nD τ).loc main_arg0)) (m ((c : Thread nD τ).loc main_arg1))

/-- One plane's block product at an element. -/
theorem mm_apply (a : Vec Ideal S1024x1024 .bf16) (b : Vec Ideal S1x512x1024 .bf16) (y : S1024x512.Idx) :
    matmul (φ₁ := .bf16) (φ₂ := .bf16) dot_S1024x1024_S512x1024_S1024x512_1_1_0_0_n_n none a
        (shapeCast S512x1024 b shapeCasts_S1x512x1024_S512x1024) (constant (F := Ideal) S1024x512 .f32 0x00000000#32) y
      = ∑ k : Fin 1024, a (ix2 (y 0) k) * b (ix3 (0 : Fin 1) (y 1) k) := by
  exact Cert.Products.transposed_unit a b shapeCasts_S1x512x1024_S512x1024 y

/-- The payload, at an element: one sum for each plane. -/
theorem pay_apply (a₀ : Vec Ideal S1024x1024 .bf16) (b₀ : Vec Ideal S1x512x1024 .bf16) (a₁ : Vec Ideal S1024x1024 .bf16)
    (b₁ : Vec Ideal S1x512x1024 .bf16) (y : S1024x512.Idx) :
    k0_pay1 a₀ b₀ a₁ b₁ y = ∑ k : Fin 1024, a₀ (ix2 (y 0) k) * b₀ (ix3 (0 : Fin 1) (y 1) k)
      + ∑ k : Fin 1024, a₁ (ix2 (y 0) k) * b₁ (ix3 (0 : Fin 1) (y 1) k) := by
  unfold k0_pay1
  exact congrArg₂ (· + ·) (mm_apply a₀ b₀ y) (mm_apply a₁ b₁ y)

/-- Where the windows' blocks lie. -/
theorem index_facts : ∀ t : Fin grid0.N,
    win0_0.index t 0 = win0_2.index t 0 ∧ win0_0.index t 1 = 0
      ∧ win0_1.index t 0 = 0 ∧ win0_1.index t 1 = win0_2.index t 1 ∧ win0_1.index t 2 = 0
      ∧ (cfg0.win 2).flush t = true ∧ win0_2.index t 0 < 4 ∧ win0_2.index t 1 < 20 := by
  decide +kernel

/-- Every block of the result is some point's. -/
theorem index_onto : ∀ (p : Fin 4) (q : Fin 20), ∃ t : Fin grid0.N, win0_2.index t 0 = p.val ∧ win0_2.index t 1 = q.val := by
  decide +kernel

/-- What a grid point's body leaves in the output's block. -/
theorem out_A (c : Dev nD) (i : grid0.Coords) (a2 : Memref sig .tc .vmem S1024x2048 .bf16) (h2 : a2.IsWhole)
    (a3 : Memref sig .tc .vmem S2x512x1024 .bf16) (h3 : a3.IsWhole) (a4 : Memref sig .tc .vmem S1024x512 .f32) (h4 : a4.IsWhole)
    (x0 : Vec Ideal S1024x2048 .bf16) (x1 : Vec Ideal S2x512x1024 .bf16) :
    out0_A_2 c i a2 h2 a3 h3 a4 h4 x0 x1
      = k0_pay1 (View.ld x0 (Rect.unit (s := S1024x2048) ![0, 0] S1024x1024.size inb_S1024x2048_S1024x1024_0_0))
          (View.ld x1 (Rect.unit (s := S2x512x1024) ![0, 0, 0] S1x512x1024.size inb_S2x512x1024_S1x512x1024_0_0_0))
          (View.ld x0 (Rect.unit (s := S1024x2048) ![0, 1024] S1024x1024.size inb_S1024x2048_S1024x1024_0_1024))
          (View.ld x1 (Rect.unit (s := S2x512x1024) ![1, 0, 0] S1x512x1024.size inb_S2x512x1024_S1x512x1024_1_0_0)) := by
  unfold out0_A_2
  rw [View.read_writes_eq_canon _ _ _ (cover0_A_2 c i a2 h2 a3 h3 a4 h4 x0 x1)]
  unfold kernelRun0_A
  dsimp only
  rw [View.canon_unit_zero Cert.Products.zeros2]
  simp only [View.readAt_eq_ld, h2.read_unread, h3.read_unread]

/-- The input's block, read at an element. -/
theorem iblk0_apply (c : Dev nD) (t : Fin cfg0.N) (r : Fin 1024) (k : Fin 2048) (R : Fin 4096)
    (hR : R.val = win0_2.index t 0 * 1024 + r.val) :
    iblk m c 0 t (ix2 r k) = m ((c : Thread nD τ).loc main_arg0) (ix2 R k) := by
  obtain ⟨h0, h1, -⟩ := index_facts t
  unfold iblk
  rw [View.read_apply]
  show V m c main_arg0 _ = _
  unfold V
  refine congrArg (m ((c : Thread nD τ).loc main_arg0)) (Shape.idx_ext₂ ?_ ?_)
  · show win0_0.index t 0 * 1024 + 1 * r.val = R.val
    rw [h0]; omega
  · show win0_0.index t 1 * 2048 + 1 * k.val = k.val
    rw [h1]; omega

/-- The weights' block, read at an element. -/
theorem iblk1_apply (c : Dev nD) (t : Fin cfg0.N) (p : Fin 2) (r : Fin 512) (k : Fin 1024) (K : Fin 10304)
    (hK : K.val = win0_2.index t 1 * 512 + r.val) :
    X0_1 m c t (ix3 p r k) = m ((c : Thread nD τ).loc main_arg1) (ix3 p K k) := by
  obtain ⟨-, -, h0, h1, h2, -⟩ := index_facts t
  unfold X0_1 Pipeline.Window.fill
  rw [dif_pos (moved0_1 t _)]
  unfold iblk
  rw [View.read_apply]
  show V m c main_arg1 _ = _
  unfold V
  refine congrArg (m ((c : Thread nD τ).loc main_arg1)) ?_
  funext d
  apply Fin.ext
  match d with
  | ⟨0, _⟩ => show win0_1.index t 0 * 2 + 1 * p.val = p.val; rw [h0]; omega
  | ⟨1, _⟩ => show win0_1.index t 1 * 512 + 1 * r.val = K.val; rw [h1]; omega
  | ⟨2, _⟩ => show win0_1.index t 2 * 1024 + 1 * k.val = k.val; rw [h2]; omega

/-- What each grid point writes back is its block of the product. -/
theorem flushed_eq (c : Dev nD) (t : Fin cfg0.N) :
    (dats m 0 c).flushed 2 t = ((cfg0.win 2).blk t).view.read (Elt Ideal) (G m c) := by
  rw [Value.flushed2_A, out_A]
  funext y
  rw [View.read_apply, cast_eq]
  refine Eq.trans (pay_apply _ _ _ _ y) ?_
  unfold G prod part
  have e0 : ((((cfg0.win 2).blk t).view.emb y) 0).val = win0_2.index t 0 * 1024 + (y 0).val := by
    show win0_2.index t 0 * 1024 + 1 * (y 0).val = _; omega
  have e1 : ((((cfg0.win 2).blk t).view.emb y) 1).val = win0_2.index t 1 * 512 + (y 1).val := by
    show win0_2.index t 1 * 512 + 1 * (y 1).val = _; omega
  have eK : ((((cfg0.win 2).blk t).view.emb y) 1).val = win0_2.index t 1 * 512 + (y 1).val := by
    exact e1
  have hx : ∀ (p : Fin 2) (k : Fin 1024) (inb : ∀ a, (![0, p.val * 1024] : Fin 2 → ℕ) a + S1024x1024.size a ≤ S1024x2048.size a),
      View.ld (iblk m c 0 t : S1024x2048.Idx → EReal) (Rect.unit (s := S1024x2048) ![0, p.val * 1024] S1024x1024.size inb) (ix2 (y 0) k)
        = m ((c : Thread nD τ).loc main_arg0) (ix2 (((cfg0.win 2).blk t).view.emb y 0) ⟨p.val * 1024 + k.val, by omega⟩) := by
    intro p k inb
    refine (View.ld_unit_apply_of _ _ _ _ _ (ix2 (y 0) ⟨p.val * 1024 + k.val, by omega⟩) ?_).trans (iblk0_apply m c t _ _ _ e0)
    intro a
    match a with
    | ⟨0, _⟩ => show (y 0).val = 0 + (y 0).val; omega
    | ⟨1, _⟩ => rfl
  have hw : ∀ (p : Fin 2) (k : Fin 1024) (inb : ∀ a, (![p.val, 0, 0] : Fin 3 → ℕ) a + S1x512x1024.size a ≤ S2x512x1024.size a),
      View.ld (X0_1 m c t : S2x512x1024.Idx → EReal) (Rect.unit (s := S2x512x1024) ![p.val, 0, 0] S1x512x1024.size inb)
          (ix3 (0 : Fin 1) (y 1) k)
        = m ((c : Thread nD τ).loc main_arg1) (ix3 p ⟨(((cfg0.win 2).blk t).view.emb y 1).val, by rw [eK]; have b1 : (y 1).val < 512 := (y 1).isLt; have f := (index_facts t).2.2.2.2.2.2.2; omega⟩ k) := by
    intro p k inb
    refine (View.ld_unit_apply_of _ _ _ _ _ (ix3 p (y 1) k) ?_).trans (iblk1_apply m c t p (y 1) k _ eK)
    intro a
    match a with
    | ⟨0, _⟩ => rfl
    | ⟨1, _⟩ => show (y 1).val = 0 + (y 1).val; omega
    | ⟨2, _⟩ => show k.val = 0 + k.val; omega
  exact congrArg₂ (· + ·) (Finset.sum_congr rfl fun k _ => congrArg₂ (· * ·) (hx 0 k _) (hw 0 k _))
    (Finset.sum_congr rfl fun k _ => congrArg₂ (· * ·) (hx 1 k _) (hw 1 k _))

/-- The eighty blocks tile the result. -/
theorem cover (i : S4096x10240.Idx) : ∃ t : Fin cfg0.N, (cfg0.win 2).flush t = true ∧ i ∈ ((cfg0.win 2).blk t).view.set := by
  have b0 : (i 0).val < 4096 := (i 0).isLt
  have b1 : (i 1).val < 10240 := (i 1).isLt
  obtain ⟨t, e0, e1⟩ := index_onto ⟨(i 0).val / 1024, by omega⟩ ⟨(i 1).val / 512, by omega⟩
  have f0 : win0_2.index t 0 = (i 0).val / 1024 := e0
  have f1 : win0_2.index t 1 = (i 1).val / 512 := e1
  refine ⟨t, (index_facts t).2.2.2.2.2.1, ?_⟩
  show i ∈ ((View.whole main_v0).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [f0]; omega
  | ⟨1, _⟩ =>
    show win0_2.index t 1 * 512 ≤ (i 1).val ∧ (i 1).val < win0_2.index t 1 * 512 + 512
    rw [f1]; omega

theorem final (c : Dev nD) : (dats m 0 c).arrAt 2 cfg0.N = G m c :=
  (dats m 0 c).arrAt_eq_of_cover 2 (G m c) (fun t _ => flushed_eq m c t) cover

end Cert.FInIdeal.Tiles

namespace Cert.FInValue

open Cert.FInRefIdeal Cert.FInRefIdeal.Gen

/-- The reference's product, read at an element, is the sum of the two planes' parts. -/
theorem ref_eq (x : S4096x2048.Idx → EReal) (w : S2x10304x1024.Idx → EReal) :
    Read.val_main_v10 (F := Ideal) x w = Cert.FInIdeal.Tiles.prod x w := by
  funext i
  have b1 : (i 1).val < 10240 := (i 1).isLt
  rw [Read.val_main_v10_apply, Cert.Products.halves]
  unfold Cert.FInIdeal.Tiles.prod Cert.FInIdeal.Tiles.part
  refine congrArg₂ (· + ·) (Finset.sum_congr rfl fun k _ => ?_) (Finset.sum_congr rfl fun k _ => ?_)
  · rw [Read.val_main_v9_apply, Read.val_main_v8_apply]
    refine congrArg₂ (· * ·) (congrArg x (Shape.idx_ext₂ rfl (by show k.val = 0 * 1024 + k.val; omega))) ?_
    refine Eq.trans (congrArg (Read.val_main_v7 (F := Ideal) w)
      (Shape.idx_ext₂ (y := ix2 (⟨k.val, by omega⟩ : Fin 2048) (⟨(i 1).val, by omega⟩ : Fin 10304)) rfl rfl))
      (Cert.InDtValue.weights_apply w _ _ 0 k (by show k.val = 0 * 1024 + k.val; omega))
  · rw [Read.val_main_v9_apply, Read.val_main_v8_apply]
    refine congrArg₂ (· * ·) (congrArg x (Shape.idx_ext₂ rfl (by show 1024 + k.val = 1 * 1024 + k.val; omega))) ?_
    refine Eq.trans (congrArg (Read.val_main_v7 (F := Ideal) w)
      (Shape.idx_ext₂ (y := ix2 (⟨1024 + k.val, by omega⟩ : Fin 2048) (⟨(i 1).val, by omega⟩ : Fin 10304)) rfl rfl))
      (Cert.InDtValue.weights_apply w _ _ 1 k (by show 1024 + k.val = 1 * 1024 + k.val; omega))

/-- On equal arguments the kernel's result is the reference's. -/
theorem algebraic : Cert.algebraic_FInIdeal_FInRefIdeal := by
  intro m ρ m' ρ' _ hagree
  refine ⟨fun c => Cert.FInIdeal.Tiles.G m c, ?_, ?_⟩
  · exact (θ_run Cert.FInIdeal.defs _ _).mono (fun r h c =>
      ⟨(h c).1.trans (Cert.FInIdeal.Tiles.final m c), (h c).2.1, (h c).2.2⟩) (Cert.FInIdeal.Value.run_blocks (F := Ideal) m ρ)
  · refine (θ_run Cert.FInRefIdeal.defs _ _).mono (fun r h c => ⟨(h c).1.trans ?_, (h c).2.1, (h c).2.2⟩)
      (Cert.FInRefIdeal.Value.run (F := Ideal) m' ρ')
    refine (Cert.FInRefIdeal.Read.val_main_v10_eq _ _).trans ((ref_eq _ _).trans ?_)
    rw [(hagree c).1, (hagree c).2]
    rfl

end Cert.FInValue

end
-- ==== Proof.FInDtValue.lean ====
/-
  The step-size columns of the input projection in the forward step: `h · W` for `h` of shape [4096, 2048] and W the last
  64 columns of the [2048, 10304] projection matrix, stored transposed as two planes of 1024 rows each. Each of the four
  grid points multiplies the two halves of a [1024, 2048] block of `h` by the two planes' last 64 rows and adds the two
  products. The reference is `(h @ W)` with those columns. Both are, at (r, j), the sum over k below 2048 of
  `h (r, k) · w (k / 1024, 10240 + j, k % 1024)`, the first plane's 1024 terms and the second's.
-/
module

public import proofs.«01_k».proof.Defs
public import proofs.«01_k».proof.Proof.Gen.FInDtIdeal.Value
public import proofs.«01_k».proof.Proof.Gen.FInDtRefIdeal.Run
public import proofs.«01_k».proof.Proof.Gen.FInDtRefIdeal.Read
public import Idealize.ShloMosaic.Lib.Pipeline.Value
public import Idealize.ShloMosaic.Lib.Pipeline.ValueKit.Tiles
public import Idealize.ShloMosaic.Lib.ValueIdx
public import proofs.«01_k».proof.Proof.Products
public import proofs.«01_k».proof.Proof.InDtValue

@[expose] public section

noncomputable section

open Idealize.ShloMosaic Idealize.ShloMosaic.TcCoe Idealize.SL.Sem Idealize.ShloMosaic.ValueIdx
open Idealize.ShloMosaic.Pipeline (Dat)
open scoped BigOperators

namespace Cert.FInDtIdeal.Tiles

open Cert.FInDtIdeal Cert.FInDtIdeal.Gen

variable (m : (ℓ : Loc nD τ sig) → Buf (Elt Ideal) ℓ) (ρ : Dev nD → PrngReg)

/-- Plane `p`'s part of the product. -/
def part (x : S4096x2048.Idx → EReal) (w : S2x10304x1024.Idx → EReal) (p : Fin 2) (i : S4096x64.Idx) : EReal :=
  ∑ k : Fin 1024, x (ix2 (i 0) (⟨p.val * 1024 + k.val, by omega⟩ : Fin 2048))
    * w (ix3 p (⟨10240 + (i 1).val, by have h : (i 1).val < 64 := (i 1).isLt; omega⟩ : Fin 10304) k)

/-- The product as one function of the two arguments. -/
def prod (x : S4096x2048.Idx → EReal) (w : S2x10304x1024.Idx → EReal) (i : S4096x64.Idx) : EReal :=
  part x w 0 i + part x w 1 i

/-- The result array of device `c`. -/
def G (c : Dev nD) : Buf (Elt Ideal) ((c : Thread nD τ).loc main_v0) :=
  prod (m ((c : Thread nD τ).loc main_arg0)) (m ((c : Thread nD τ).loc main_arg1))

/-- One plane's block product at an element. -/
theorem mm_apply (a : Vec Ideal S1024x1024 .bf16) (b : Vec Ideal S1x64x1024 .bf16) (y : S1024x64.Idx) :
    matmul (φ₁ := .bf16) (φ₂ := .bf16) dot_S1024x1024_S64x1024_S1024x64_1_1_0_0_n_n none a
        (shapeCast S64x1024 b shapeCasts_S1x64x1024_S64x1024) (constant (F := Ideal) S1024x64 .f32 0x00000000#32) y
      = ∑ k : Fin 1024, a (ix2 (y 0) k) * b (ix3 (0 : Fin 1) (y 1) k) := by
  exact Cert.Products.transposed_unit a b shapeCasts_S1x64x1024_S64x1024 y

/-- The payload, at an element: one sum for each plane. -/
theorem pay_apply (a₀ : Vec Ideal S1024x1024 .bf16) (b₀ : Vec Ideal S1x64x1024 .bf16) (a₁ : Vec Ideal S1024x1024 .bf16)
    (b₁ : Vec Ideal S1x64x1024 .bf16) (y : S1024x64.Idx) :
    k0_pay1 a₀ b₀ a₁ b₁ y = ∑ k : Fin 1024, a₀ (ix2 (y 0) k) * b₀ (ix3 (0 : Fin 1) (y 1) k)
      + ∑ k : Fin 1024, a₁ (ix2 (y 0) k) * b₁ (ix3 (0 : Fin 1) (y 1) k) := by
  unfold k0_pay1
  exact congrArg₂ (· + ·) (mm_apply a₀ b₀ y) (mm_apply a₁ b₁ y)

/-- Where the windows' blocks lie. -/
theorem index_facts : ∀ t : Fin grid0.N,
    win0_0.index t 0 = win0_2.index t 0 ∧ win0_0.index t 1 = 0
      ∧ win0_1.index t 0 = 0 ∧ win0_1.index t 1 = 160 ∧ win0_1.index t 2 = 0
      ∧ (cfg0.win 2).flush t = true ∧ win0_2.index t 0 < 4 ∧ win0_2.index t 1 = 0 := by
  decide +kernel

/-- Every block of the result is some point's. -/
theorem index_onto : ∀ (p : Fin 4) (q : Fin 1), ∃ t : Fin grid0.N, win0_2.index t 0 = p.val ∧ win0_2.index t 1 = q.val := by
  decide +kernel

/-- The input's block, read at an element. -/
theorem iblk0_apply (c : Dev nD) (t : Fin cfg0.N) (r : Fin 1024) (k : Fin 2048) (R : Fin 4096)
    (hR : R.val = win0_2.index t 0 * 1024 + r.val) :
    iblk m c 0 t (ix2 r k) = m ((c : Thread nD τ).loc main_arg0) (ix2 R k) := by
  obtain ⟨h0, h1, -⟩ := index_facts t
  unfold iblk
  rw [View.read_apply]
  show V m c main_arg0 _ = _
  unfold V
  refine congrArg (m ((c : Thread nD τ).loc main_arg0)) (Shape.idx_ext₂ ?_ ?_)
  · show win0_0.index t 0 * 1024 + 1 * r.val = R.val
    rw [h0]; omega
  · show win0_0.index t 1 * 2048 + 1 * k.val = k.val
    rw [h1]; omega

/-- The weights' block, read at an element. -/
theorem iblk1_apply (c : Dev nD) (t : Fin cfg0.N) (p : Fin 2) (r : Fin 64) (k : Fin 1024) (K : Fin 10304)
    (hK : K.val = 10240 + r.val) :
    iblk m c 1 t (ix3 p r k) = m ((c : Thread nD τ).loc main_arg1) (ix3 p K k) := by
  obtain ⟨-, -, h0, h1, h2, -⟩ := index_facts t
  unfold iblk
  rw [View.read_apply]
  show V m c main_arg1 _ = _
  unfold V
  refine congrArg (m ((c : Thread nD τ).loc main_arg1)) ?_
  funext d
  apply Fin.ext
  match d with
  | ⟨0, _⟩ => show win0_1.index t 0 * 2 + 1 * p.val = p.val; rw [h0]; omega
  | ⟨1, _⟩ => show win0_1.index t 1 * 64 + 1 * r.val = K.val; rw [h1]; omega
  | ⟨2, _⟩ => show win0_1.index t 2 * 1024 + 1 * k.val = k.val; rw [h2]; omega

/-- What each grid point writes back is its block of the product. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero Cert.Products.zeros2]
  funext y
  rw [View.read_apply]
  refine Eq.trans (pay_apply _ _ _ _ y) ?_
  unfold G prod part
  have e0 : ((((cfg0.win 2).blk t).view.emb y) 0).val = win0_2.index t 0 * 1024 + (y 0).val := by
    show win0_2.index t 0 * 1024 + 1 * (y 0).val = _; omega
  have e1 : ((((cfg0.win 2).blk t).view.emb y) 1).val = win0_2.index t 1 * 64 + (y 1).val := by
    show win0_2.index t 1 * 64 + 1 * (y 1).val = _; omega
  have eK : 10240 + ((((cfg0.win 2).blk t).view.emb y) 1).val = 10240 + (y 1).val := by
    rw [e1, (index_facts t).2.2.2.2.2.2.2]; omega
  have hx : ∀ (p : Fin 2) (k : Fin 1024) (inb : ∀ a, (![0, p.val * 1024] : Fin 2 → ℕ) a + S1024x1024.size a ≤ S1024x2048.size a),
      View.ld (iblk m c 0 t : S1024x2048.Idx → EReal) (Rect.unit (s := S1024x2048) ![0, p.val * 1024] S1024x1024.size inb) (ix2 (y 0) k)
        = m ((c : Thread nD τ).loc main_arg0) (ix2 (((cfg0.win 2).blk t).view.emb y 0) ⟨p.val * 1024 + k.val, by omega⟩) := by
    intro p k inb
    refine (View.ld_unit_apply_of _ _ _ _ _ (ix2 (y 0) ⟨p.val * 1024 + k.val, by omega⟩) ?_).trans (iblk0_apply m c t _ _ _ e0)
    intro a
    match a with
    | ⟨0, _⟩ => show (y 0).val = 0 + (y 0).val; omega
    | ⟨1, _⟩ => rfl
  have hw : ∀ (p : Fin 2) (k : Fin 1024) (inb : ∀ a, (![p.val, 0, 0] : Fin 3 → ℕ) a + S1x64x1024.size a ≤ S2x64x1024.size a),
      View.ld (iblk m c 1 t : S2x64x1024.Idx → EReal) (Rect.unit (s := S2x64x1024) ![p.val, 0, 0] S1x64x1024.size inb)
          (ix3 (0 : Fin 1) (y 1) k)
        = m ((c : Thread nD τ).loc main_arg1) (ix3 p ⟨10240 + (((cfg0.win 2).blk t).view.emb y 1).val, by rw [eK]; have b1 : (y 1).val < 64 := (y 1).isLt; have f := (index_facts t).2.2.2.2.2.2.2; omega⟩ k) := by
    intro p k inb
    refine (View.ld_unit_apply_of _ _ _ _ _ (ix3 p (y 1) k) ?_).trans (iblk1_apply m c t p (y 1) k _ eK)
    intro a
    match a with
    | ⟨0, _⟩ => rfl
    | ⟨1, _⟩ => show (y 1).val = 0 + (y 1).val; omega
    | ⟨2, _⟩ => show k.val = 0 + k.val; omega
  exact congrArg₂ (· + ·) (Finset.sum_congr rfl fun k _ => congrArg₂ (· * ·) (hx 0 k _) (hw 0 k _))
    (Finset.sum_congr rfl fun k _ => congrArg₂ (· * ·) (hx 1 k _) (hw 1 k _))

/-- The four blocks tile the result. -/
theorem cover (i : S4096x64.Idx) : ∃ t : Fin cfg0.N, (cfg0.win 2).flush t = true ∧ i ∈ ((cfg0.win 2).blk t).view.set := by
  have b0 : (i 0).val < 4096 := (i 0).isLt
  have b1 : (i 1).val < 64 := (i 1).isLt
  obtain ⟨t, e0, e1⟩ := index_onto ⟨(i 0).val / 1024, by omega⟩ ⟨(i 1).val / 64, by omega⟩
  have f0 : win0_2.index t 0 = (i 0).val / 1024 := e0
  have f1 : win0_2.index t 1 = (i 1).val / 64 := e1
  refine ⟨t, (index_facts t).2.2.2.2.2.1, ?_⟩
  show i ∈ ((View.whole main_v0).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [f0]; omega
  | ⟨1, _⟩ =>
    show win0_2.index t 1 * 64 ≤ (i 1).val ∧ (i 1).val < win0_2.index t 1 * 64 + 64
    rw [f1]; omega

theorem final (c : Dev nD) : (dats m 0 c).arrAt 2 cfg0.N = G m c :=
  (dats m 0 c).arrAt_eq_of_cover 2 (G m c) (fun t _ => flushed_eq m c t) cover

end Cert.FInDtIdeal.Tiles

namespace Cert.FInDtValue

open Cert.FInDtRefIdeal Cert.FInDtRefIdeal.Gen

/-- The reference's product, read at an element, is the sum of the two planes' parts. -/
theorem ref_eq (x : S4096x2048.Idx → EReal) (w : S2x10304x1024.Idx → EReal) :
    Read.val_main_v10 (F := Ideal) x w = Cert.FInDtIdeal.Tiles.prod x w := by
  funext i
  have b1 : (i 1).val < 64 := (i 1).isLt
  rw [Read.val_main_v10_apply, Cert.Products.halves]
  unfold Cert.FInDtIdeal.Tiles.prod Cert.FInDtIdeal.Tiles.part
  refine congrArg₂ (· + ·) (Finset.sum_congr rfl fun k _ => ?_) (Finset.sum_congr rfl fun k _ => ?_)
  · rw [Read.val_main_v9_apply, Read.val_main_v8_apply]
    refine congrArg₂ (· * ·) (congrArg x (Shape.idx_ext₂ rfl (by show k.val = 0 * 1024 + k.val; omega))) ?_
    refine Eq.trans (congrArg (Read.val_main_v7 (F := Ideal) w)
      (Shape.idx_ext₂ (y := ix2 (⟨k.val, by omega⟩ : Fin 2048) (⟨10240 + (i 1).val, by omega⟩ : Fin 10304)) rfl rfl))
      (Cert.InDtValue.weights_apply w _ _ 0 k (by show k.val = 0 * 1024 + k.val; omega))
  · rw [Read.val_main_v9_apply, Read.val_main_v8_apply]
    refine congrArg₂ (· * ·) (congrArg x (Shape.idx_ext₂ rfl (by show 1024 + k.val = 1 * 1024 + k.val; omega))) ?_
    refine Eq.trans (congrArg (Read.val_main_v7 (F := Ideal) w)
      (Shape.idx_ext₂ (y := ix2 (⟨1024 + k.val, by omega⟩ : Fin 2048) (⟨10240 + (i 1).val, by omega⟩ : Fin 10304)) rfl rfl))
      (Cert.InDtValue.weights_apply w _ _ 1 k (by show 1024 + k.val = 1 * 1024 + k.val; omega))

/-- On equal arguments the kernel's result is the reference's. -/
theorem algebraic : Cert.algebraic_FInDtIdeal_FInDtRefIdeal := by
  intro m ρ m' ρ' _ hagree
  refine ⟨fun c => Cert.FInDtIdeal.Tiles.G m c, ?_, ?_⟩
  · exact (θ_run Cert.FInDtIdeal.defs _ _).mono (fun r h c =>
      ⟨(h c).1.trans (Cert.FInDtIdeal.Tiles.final m c), (h c).2.1, (h c).2.2⟩) (Cert.FInDtIdeal.Value.run_blocks (F := Ideal) m ρ)
  · refine (θ_run Cert.FInDtRefIdeal.defs _ _).mono (fun r h c => ⟨(h c).1.trans ?_, (h c).2.1, (h c).2.2⟩)
      (Cert.FInDtRefIdeal.Value.run (F := Ideal) m' ρ')
    refine (Cert.FInDtRefIdeal.Read.val_main_v10_eq _ _).trans ((ref_eq _ _).trans ?_)
    rw [(hagree c).1, (hagree c).2]
    rfl

end Cert.FInDtValue

end
-- ==== Proof.FOutValue.lean ====
/-
  The output projection of one mixer in the forward step, `x + y · W` with W of shape [4096, 2048]. The kernel tiles the
  [4096, 2048] result into [1024, 1024] blocks and sweeps four blocks of the contracted axis innermost: the first product
  overwrites an accumulator, the next two are added to it, and the last is added, the block of `x` is added, and the sum
  is written out. The reference is `x + y @ W`. Both are, at (r, j), `x (r, j)` plus the sum over k below 4096 of
  `y (r, k) · W (k, j)`.
-/
module

public import proofs.«01_k».proof.Defs
public import proofs.«01_k».proof.Proof.Gen.FOutIdeal.Value
public import proofs.«01_k».proof.Proof.Gen.FOutRefIdeal.Run
public import proofs.«01_k».proof.Proof.Gen.FOutRefIdeal.Read
public import Idealize.ShloMosaic.Lib.Pipeline.Value
public import Idealize.ShloMosaic.Lib.ValueIdx
public import proofs.«01_k».proof.Proof.Products

@[expose] public section

noncomputable section

open Idealize.ShloMosaic Idealize.ShloMosaic.TcCoe Idealize.SL.Sem Idealize.ShloMosaic.ValueIdx
open Idealize.ShloMosaic.Pipeline (Dat)
open scoped BigOperators

namespace Cert.FOutIdeal.Tiles

open Cert.FOutIdeal Cert.FOutIdeal.Gen

variable (m : (ℓ : Loc nD τ sig) → Buf (Elt Ideal) ℓ) (ρ : Dev nD → PrngReg)

/-- The product's term at contracted position `k`. -/
def term (x : S4096x4096.Idx → EReal) (w : S4096x2048.Idx → EReal) (R : Fin 4096) (C : Fin 2048) (k : Fin 4096) : EReal :=
  x (ix2 R k) * w (ix2 k C)

/-- The product added to the third argument, as one function of the three arguments. -/
def prod (x : S4096x4096.Idx → EReal) (w : S4096x2048.Idx → EReal) (d : S4096x2048.Idx → EReal) (i : S4096x2048.Idx) : EReal :=
  ∑ k : Fin 4096, term x w (i 0) (i 1) k + d i

/-- The result array of device `c`. -/
def G (c : Dev nD) : Buf (Elt Ideal) ((c : Thread nD τ).loc main_v0) :=
  prod (m ((c : Thread nD τ).loc main_arg0)) (m ((c : Thread nD τ).loc main_arg1)) (m ((c : Thread nD τ).loc main_arg2))

/-! ## The payloads at an element -/

/-- One block's product at an element. -/
theorem mm_apply (a b : Vec Ideal S1024x1024 .bf16) (y : S1024x1024.Idx) :
    matmul (φ₁ := .bf16) (φ₂ := .bf16) dot_S1024x1024_S1024x1024_S1024x1024_1_0_0_1_n_n none a b
        (constant (F := Ideal) S1024x1024 .f32 0x00000000#32) y
      = ∑ k : Fin 1024, a (ix2 (y 0) k) * b (ix2 k (y 1)) :=
  Cert.Products.plain_zero a b y

theorem pay1_apply (a : Vec Ideal S1024x1024 .bf16) (b : Vec Ideal S1024x1024 .bf16) (y : S1024x1024.Idx) :
    k0_pay1 a b y = ∑ k : Fin 1024, a (ix2 (y 0) k) * b (ix2 k (y 1)) := by
  unfold k0_pay1
  simp only [shapeCast_self]
  exact mm_apply a b y

theorem pay2_apply (s : Vec Ideal S1024x1024 .f32) (a : Vec Ideal S1024x1024 .bf16) (b : Vec Ideal S1024x1024 .bf16)
    (y : S1024x1024.Idx) :
    k0_pay2 s a b y = s y + ∑ k : Fin 1024, a (ix2 (y 0) k) * b (ix2 k (y 1)) := by
  unfold k0_pay2
  simp only [shapeCast_self]
  exact congrArg (s y + ·) (mm_apply a b y)

theorem pay3_apply (s : Vec Ideal S1024x1024 .f32) (a : Vec Ideal S1024x1024 .bf16) (b : Vec Ideal S1024x1024 .bf16)
    (d : Vec Ideal S1024x1024 .f32) (y : S1024x1024.Idx) :
    k0_pay3 s a b d y = s y + ∑ k : Fin 1024, a (ix2 (y 0) k) * b (ix2 k (y 1)) + d y := by
  unfold k0_pay3
  exact congrArg (s y + · + d y) (mm_apply a b y)

/-! ## What each case leaves -/

section Cases
variable (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x0 : Vec Ideal S1024x1024 .bf16) (x1 : Vec Ideal S1024x1024 .bf16) (x2 : Vec Ideal S1024x1024 .f32)
  (xs : Vec Ideal S1024x1024 .f32)

/-- The first point of a sweep leaves its product in the accumulator. -/
theorem sout_A (hc0 : cond0_0 i) (hc1 : ¬cond0_1 i) (hc2 : ¬cond0_2 i) :
    sout0_A_0 c i a3 h3 a4 h4 a5 h5 a6 h6 a7 h7 hc0 hc1 hc2 x0 x1 x2 = k0_pay1 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  rw [View.canon_unit_zero Cert.Products.zeros2]
  simp only [View.readAt_eq_ld, h3.read_unread, h4.read_unread]
  rw [View.ld_unit_zero Cert.Products.zeros2, View.ld_unit_zero Cert.Products.zeros2]

/-- A middle point adds its product to what the accumulator held. -/
theorem sout_B (hc0 : ¬cond0_0 i) (hc1 : cond0_1 i) (hc2 : ¬cond0_2 i) :
    sout0_B_0 c i a3 h3 a4 h4 a5 h5 a6 h6 a7 h7 hc0 hc1 hc2 x0 x1 x2 xs = k0_pay2 xs x0 x1 := by
  unfold sout0_B_0
  rw [View.read_writes_eq_canon _ _ _ (scover0_B_0 c i a3 h3 a4 h4 a5 h5 a6 h6 a7 h7 hc0 hc1 hc2 x0 x1 x2 xs)]
  unfold kernelRun0_B
  dsimp only
  rw [View.canon_unit_zero Cert.Products.zeros2]
  simp only [View.readAt_eq_ld, h3.read_unread, h4.read_unread, h5.read_unread, h7.read_unread]
  rw [View.ld_unit_zero Cert.Products.zeros2, View.ld_unit_zero Cert.Products.zeros2, View.ld_unit_zero Cert.Products.zeros2]

/-- The last point writes out the accumulator plus its product plus the third argument's block. -/
theorem out_C (hc0 : ¬cond0_0 i) (hc1 : ¬cond0_1 i) (hc2 : cond0_2 i) :
    out0_C_3 c i a3 h3 a4 h4 a5 h5 a6 h6 a7 h7 hc0 hc1 hc2 x0 x1 x2 xs = k0_pay3 xs x0 x1 x2 := by
  unfold out0_C_3
  rw [View.read_writes_eq_canon _ _ _ (cover0_C_3 c i a3 h3 a4 h4 a5 h5 a6 h6 a7 h7 hc0 hc1 hc2 x0 x1 x2 xs)]
  unfold kernelRun0_C
  dsimp only
  rw [View.canon_unit_zero Cert.Products.zeros2]
  simp only [View.readAt_eq_ld, h3.read_unread, h4.read_unread, h5.read_unread, h7.read_unread]
  rw [View.ld_unit_zero Cert.Products.zeros2, View.ld_unit_zero Cert.Products.zeros2, View.ld_unit_zero Cert.Products.zeros2,
    View.ld_unit_zero Cert.Products.zeros2]

end Cases

/-! ## Where the windows' blocks lie -/

/-- Point `t` is block row `t / 20`, block column `t / 10 % 2`, contracted block `t % 10`. -/
theorem index_facts : ∀ t : Fin grid0.N,
    win0_0.index t 0 = t.val / 8 ∧ win0_0.index t 1 = t.val % 4
      ∧ win0_1.index t 0 = t.val % 4 ∧ win0_1.index t 1 = t.val / 4 % 2
      ∧ win0_2.index t 0 = t.val / 8 ∧ win0_2.index t 1 = t.val / 4 % 2
      ∧ win0_3.index t 0 = t.val / 8 ∧ win0_3.index t 1 = t.val / 4 % 2 := by
  decide +kernel

theorem iblk0_apply (c : Dev nD) (t : Fin cfg0.N) (r k : Fin 1024) (R : Fin 4096) (K : Fin 4096)
    (hR : R.val = t.val / 8 * 1024 + r.val) (hK : K.val = t.val % 4 * 1024 + k.val) :
    iblk m c 0 t (ix2 r k) = m ((c : Thread nD τ).loc main_arg0) (ix2 R K) := by
  obtain ⟨h0, h1, -⟩ := index_facts t
  unfold iblk
  rw [View.read_apply]
  show V m c main_arg0 _ = _
  unfold V
  refine congrArg (m ((c : Thread nD τ).loc main_arg0)) (Shape.idx_ext₂ ?_ ?_)
  · show win0_0.index t 0 * 1024 + 1 * r.val = R.val
    rw [h0]; omega
  · show win0_0.index t 1 * 1024 + 1 * k.val = K.val
    rw [h1]; omega

theorem iblk1_apply (c : Dev nD) (t : Fin cfg0.N) (k r : Fin 1024) (K : Fin 4096) (C : Fin 2048)
    (hK : K.val = t.val % 4 * 1024 + k.val) (hC : C.val = t.val / 4 % 2 * 1024 + r.val) :
    iblk m c 1 t (ix2 k r) = m ((c : Thread nD τ).loc main_arg1) (ix2 K C) := by
  obtain ⟨-, -, h0, h1, -⟩ := index_facts t
  unfold iblk
  rw [View.read_apply]
  show V m c main_arg1 _ = _
  unfold V
  refine congrArg (m ((c : Thread nD τ).loc main_arg1)) (Shape.idx_ext₂ ?_ ?_)
  · show win0_1.index t 0 * 1024 + 1 * k.val = K.val
    rw [h0]; omega
  · show win0_1.index t 1 * 1024 + 1 * r.val = C.val
    rw [h1]; omega

theorem iblk2_apply (c : Dev nD) (t : Fin cfg0.N) (y : S1024x1024.Idx) (i : S4096x2048.Idx)
    (h0 : (i 0).val = t.val / 8 * 1024 + (y 0).val) (h1 : (i 1).val = t.val / 4 % 2 * 1024 + (y 1).val) :
    iblk m c 2 t y = m ((c : Thread nD τ).loc main_arg2) i := by
  obtain ⟨-, -, -, -, e0, e1, -⟩ := index_facts t
  unfold iblk
  rw [View.read_apply]
  show V m c main_arg2 _ = _
  unfold V
  refine congrArg (m ((c : Thread nD τ).loc main_arg2)) (Shape.idx_ext₂ ?_ ?_)
  · show win0_2.index t 0 * 1024 + 1 * (y 0).val = (i 0).val
    rw [e0]; omega
  · show win0_2.index t 1 * 1024 + 1 * (y 1).val = (i 1).val
    rw [e1]; omega

/-- The two blocks point `t` multiplies. -/
abbrev xb (c : Dev nD) (t : Fin cfg0.N) : S1024x1024.Idx → EReal := iblk m c 0 t
abbrev wb (c : Dev nD) (t : Fin cfg0.N) : S1024x1024.Idx → EReal := iblk m c 1 t

/-- Point `t`'s product at an element, and as the sum of the terms of its column block. -/
def blockProd (c : Dev nD) (t : Fin cfg0.N) (y : S1024x1024.Idx) : EReal :=
  ∑ k : Fin 1024, xb m c t (ix2 (y 0) k) * wb m c t (ix2 k (y 1))

theorem block_sum (c : Dev nD) (t : Fin cfg0.N) (y : S1024x1024.Idx) (R : Fin 4096) (C : Fin 2048)
    (hR : R.val = t.val / 8 * 1024 + (y 0).val) (hC : C.val = t.val / 4 % 2 * 1024 + (y 1).val) :
    blockProd m c t y
      = ∑ k : Fin 1024, Cert.Products.ext (term (m ((c : Thread nD τ).loc main_arg0)) (m ((c : Thread nD τ).loc main_arg1)) R C)
          (t.val % 4 * 1024 + k.val) := by
  refine Finset.sum_congr rfl fun k _ => ?_
  rw [Cert.Products.ext_apply _ _ (by omega)]
  have b1 : (y 1).val < 1024 := (y 1).isLt
  unfold term
  exact congrArg₂ (· * ·) (iblk0_apply m c t (y 0) k R _ hR rfl)
    (iblk1_apply m c t k (y 1) _ C rfl hC)

/-- The accumulator after a sweep's first point, and after a middle one. -/
theorem acc_first (c : Dev nD) (y : S1024x1024.Idx) (n : ℕ) (hn : n < cfg0.N) (h0 : n % 4 = 0) :
    (outsAt0 m c n hn).2 y = blockProd m c ⟨n, hn⟩ y := by
  rw [outsAt0_A m c ⟨n, hn⟩ h0 (by dsimp only; omega) (by dsimp only; omega)]
  dsimp only
  rw [sout_A]
  exact pay1_apply _ _ y

theorem acc_next (c : Dev nD) (y : S1024x1024.Idx) (n : ℕ) (hn : n + 1 < cfg0.N) (h0 : (n + 1) % 4 ≠ 0) (h2 : (n + 1) % 4 + 1 < 4) :
    (outsAt0 m c (n + 1) hn).2 y = (outsAt0 m c n (Nat.lt_of_succ_lt hn)).2 y + blockProd m c ⟨n + 1, hn⟩ y := by
  rw [outsAt0_B m c ⟨n + 1, hn⟩ h0 (by dsimp only; omega) (by dsimp only; omega)]
  dsimp only
  rw [sout_B]
  exact pay2_apply _ _ _ y

/-- The last point of each sweep writes back its block of the result. -/
theorem flushed_eq (c : Dev nD) (t : Fin cfg0.N) (hf : (cfg0.win 3).flush t = true) :
    (dats m 0 c).flushed 3 t = ((cfg0.win 3).blk t).view.read (Elt Ideal) (G m c) := by
  have h3 : t.val % 4 = 3 := (flush0_3 t).mp hf
  rw [Value.flushed3_C m c t (by omega) (by omega) h3, out_C]
  funext y
  rw [View.read_apply, cast_eq]
  refine Eq.trans (pay3_apply _ (xb m c t) (wb m c t) _ y) ?_
  obtain ⟨-, -, -, -, -, -, i0, i1⟩ := index_facts t
  have e0 : ((((cfg0.win 3).blk t).view.emb y) 0).val = t.val / 8 * 1024 + (y 0).val := by
    show win0_3.index t 0 * 1024 + 1 * (y 0).val = _; rw [i0]; omega
  have e1 : ((((cfg0.win 3).blk t).view.emb y) 1).val = t.val / 4 % 2 * 1024 + (y 1).val := by
    show win0_3.index t 1 * 1024 + 1 * (y 1).val = _; rw [i1]; omega
  exact congrArg₂ (· + ·) (Cert.Products.swept 4 1024 (t.val / 4) rfl (by omega) _ (fun n hn => (outsAt0 m c n hn).2 y)
    (fun n hn => blockProd m c ⟨n, hn⟩ y) (acc_first m c y) (acc_next m c y)
    (fun n hn hq => block_sum m c ⟨n, hn⟩ y _ _
      (e0.trans (congrArg (· * 1024 + (y 0).val) (show t.val / 8 = n / 8 by omega)))
      (e1.trans (congrArg (· * 1024 + (y 1).val) (show t.val / 4 % 2 = n / 4 % 2 by rw [hq])))) t.val t.isLt rfl (by omega))
    (iblk2_apply m c t y _ e0 e1)

/-- The eight blocks tile the result. -/
theorem cover (i : S4096x2048.Idx) : ∃ t : Fin cfg0.N, (cfg0.win 3).flush t = true ∧ i ∈ ((cfg0.win 3).blk t).view.set := by
  have b0 : (i 0).val < 4096 := (i 0).isLt
  have b1 : (i 1).val < 2048 := (i 1).isLt
  let t : Fin grid0.N := ⟨(i 0).val / 1024 * 8 + (i 1).val / 1024 * 4 + 3, by rw [N_0]; omega⟩
  obtain ⟨-, -, -, -, -, -, h0, h1⟩ := index_facts t
  have e0 : win0_3.index t 0 = (i 0).val / 1024 := by
    rw [h0]; show ((i 0).val / 1024 * 8 + (i 1).val / 1024 * 4 + 3) / 8 = _; omega
  have e1 : win0_3.index t 1 = (i 1).val / 1024 := by
    rw [h1]; show ((i 0).val / 1024 * 8 + (i 1).val / 1024 * 4 + 3) / 4 % 2 = _; omega
  refine ⟨t, (flush0_3 t).mpr (by show ((i 0).val / 1024 * 8 + (i 1).val / 1024 * 4 + 3) % 4 = 3; omega), ?_⟩
  show i ∈ ((View.whole main_v0).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [e0]; omega
  | ⟨1, _⟩ =>
    show win0_3.index t 1 * 1024 ≤ (i 1).val ∧ (i 1).val < win0_3.index t 1 * 1024 + 1024
    rw [e1]; omega

theorem final (c : Dev nD) : (dats m 0 c).arrAt 3 cfg0.N = G m c :=
  (dats m 0 c).arrAt_eq_of_cover 3 (G m c) (flushed_eq m c) cover

end Cert.FOutIdeal.Tiles

namespace Cert.FOutValue

open Cert.FOutRefIdeal Cert.FOutRefIdeal.Gen

/-- The reference's sum, read at an element, is the kernel's. -/
theorem ref_eq (x : S4096x4096.Idx → EReal) (w : S4096x2048.Idx → EReal) (d : S4096x2048.Idx → EReal) :
    Read.val_main_v3 (F := Ideal) x w d = Cert.FOutIdeal.Tiles.prod x w d := by
  funext i
  have b1 : (i 1).val < 2048 := (i 1).isLt
  rw [Read.val_main_v3_apply, Read.val_main_v2_apply]
  unfold Cert.FOutIdeal.Tiles.prod Cert.FOutIdeal.Tiles.term
  refine (add_comm _ _).trans (congrArg (· + d i) (Finset.sum_congr rfl fun k _ => ?_))
  exact congrArg₂ (· * ·) (congrArg x (Shape.idx_ext₂ rfl rfl)) (congrArg w (Shape.idx_ext₂ rfl rfl))

/-- On equal arguments the kernel's result is the reference's. -/
theorem algebraic : Cert.algebraic_FOutIdeal_FOutRefIdeal := by
  intro m ρ m' ρ' _ hagree
  refine ⟨fun c => Cert.FOutIdeal.Tiles.G m c, ?_, ?_⟩
  · exact (θ_run Cert.FOutIdeal.defs _ _).mono (fun r h c =>
      ⟨(h c).1.trans (Cert.FOutIdeal.Tiles.final m c), (h c).2.1, (h c).2.2⟩) (Cert.FOutIdeal.Value.run_blocks (F := Ideal) m ρ)
  · refine (θ_run Cert.FOutRefIdeal.defs _ _).mono (fun r h c => ⟨(h c).1.trans ?_, (h c).2.1, (h c).2.2⟩)
      (Cert.FOutRefIdeal.Value.run (F := Ideal) m' ρ')
    refine (Cert.FOutRefIdeal.Read.val_main_v3_eq _ _ _).trans ((ref_eq _ _ _).trans ?_)
    rw [(hagree c).1, (hagree c).2.1, (hagree c).2.2]
    rfl

end Cert.FOutValue

end
-- ==== Proof.FPoolInValue.lean ====
/-
  The pooled mixer's input projection in the forward step, `h · W` for `h` of shape [4096, 2048] and W stored as eight
  [2048, 1024] column blocks. The kernel tiles the [4096, 8192] result into [1024, 512] blocks; each grid point
  multiplies a row block of `h` by half a column block. The reference is `h @ W` with the column blocks put side by
  side. Both are, at (r, j), the sum over k below 2048 of `h (r, k) · W (j / 1024, k, j % 1024)`.
-/
module

public import proofs.«01_k».proof.Defs
public import proofs.«01_k».proof.Proof.Gen.FPoolInIdeal.Value
public import proofs.«01_k».proof.Proof.Gen.FPoolInRefIdeal.Run
public import proofs.«01_k».proof.Proof.Gen.FPoolInRefIdeal.Read
public import Idealize.ShloMosaic.Lib.Pipeline.Value
public import Idealize.ShloMosaic.Lib.ValueIdx
public import proofs.«01_k».proof.Proof.Products

@[expose] public section

noncomputable section

open Idealize.ShloMosaic Idealize.ShloMosaic.TcCoe Idealize.SL.Sem Idealize.ShloMosaic.ValueIdx
open Idealize.ShloMosaic.Pipeline (Dat)
open scoped BigOperators

namespace Cert.FPoolInIdeal.Tiles

open Cert.FPoolInIdeal Cert.FPoolInIdeal.Gen

variable (m : (ℓ : Loc nD τ sig) → Buf (Elt Ideal) ℓ) (ρ : Dev nD → PrngReg)

/-- The product as one function of the two arguments. -/
def prod (x : S4096x2048.Idx → EReal) (w : S8x2048x1024.Idx → EReal) (i : S4096x8192.Idx) : EReal :=
  ∑ k : Fin 2048, x (ix2 (i 0) k)
    * w (ix3 (⟨(i 1).val / 1024, by have h : (i 1).val < 8192 := (i 1).isLt; omega⟩ : Fin 8) k
        (⟨(i 1).val % 1024, by omega⟩ : Fin 1024))

/-- The result array of device `c`. -/
def G (c : Dev nD) : Buf (Elt Ideal) ((c : Thread nD τ).loc main_v0) :=
  prod (m ((c : Thread nD τ).loc main_arg0)) (m ((c : Thread nD τ).loc main_arg1))

/-- One block's product at an element. -/
theorem pay_apply (a : Vec Ideal S1024x2048 .bf16) (b : Vec Ideal S1x2048x512 .bf16) (y : S1024x512.Idx) :
    k0_pay1 a b y = ∑ k : Fin 2048, a (ix2 (y 0) k) * b (ix3 (0 : Fin 1) k (y 1)) := by
  unfold k0_pay1
  exact Cert.Products.plain_unit a b shapeCasts_S1x2048x512_S2048x512 y

/-- Where the windows' blocks lie: the result's block (p, q) takes row block p of the input and half q mod 2 of
    the weights' column block q / 2. -/
theorem index_facts : ∀ t : Fin grid0.N,
    win0_0.index t 0 = win0_2.index t 0 ∧ win0_0.index t 1 = 0
      ∧ win0_1.index t 0 = win0_2.index t 1 / 2 ∧ win0_1.index t 1 = 0 ∧ win0_1.index t 2 = win0_2.index t 1 % 2
      ∧ (cfg0.win 2).flush t = true ∧ win0_2.index t 0 < 4 ∧ win0_2.index t 1 < 16 := by
  decide +kernel

/-- Every block of the result is some point's. -/
theorem index_onto : ∀ (p : Fin 4) (q : Fin 16), ∃ t : Fin grid0.N, win0_2.index t 0 = p.val ∧ win0_2.index t 1 = q.val := by
  decide +kernel

/-- The input's block, read at an element. -/
theorem iblk0_apply (c : Dev nD) (t : Fin cfg0.N) (r : Fin 1024) (k : Fin 2048) (R : Fin 4096)
    (hR : R.val = win0_2.index t 0 * 1024 + r.val) :
    iblk m c 0 t (ix2 r k) = m ((c : Thread nD τ).loc main_arg0) (ix2 R k) := by
  obtain ⟨h0, h1, -⟩ := index_facts t
  unfold iblk
  rw [View.read_apply]
  show V m c main_arg0 _ = _
  unfold V
  refine congrArg (m ((c : Thread nD τ).loc main_arg0)) (Shape.idx_ext₂ ?_ ?_)
  · show win0_0.index t 0 * 1024 + 1 * r.val = R.val
    rw [h0]; omega
  · show win0_0.index t 1 * 2048 + 1 * k.val = k.val
    rw [h1]; omega

/-- The weights' block, read at an element. -/
theorem iblk1_apply (c : Dev nD) (t : Fin cfg0.N) (k : Fin 2048) (r : Fin 512) (g : Fin 8) (q : Fin 1024)
    (hg : g.val = win0_2.index t 1 / 2) (hq : q.val = win0_2.index t 1 % 2 * 512 + r.val) :
    iblk m c 1 t (ix3 (0 : Fin 1) k r) = m ((c : Thread nD τ).loc main_arg1) (ix3 g k q) := by
  obtain ⟨-, -, h0, h1, h2, -⟩ := index_facts t
  unfold iblk
  rw [View.read_apply]
  show V m c main_arg1 _ = _
  unfold V
  refine congrArg (m ((c : Thread nD τ).loc main_arg1)) ?_
  funext d
  apply Fin.ext
  match d with
  | ⟨0, _⟩ => show win0_1.index t 0 * 1 + 1 * 0 = g.val; rw [h0]; omega
  | ⟨1, _⟩ => show win0_1.index t 1 * 2048 + 1 * k.val = k.val; rw [h1]; omega
  | ⟨2, _⟩ => show win0_1.index t 2 * 512 + 1 * r.val = q.val; rw [h2]; omega

/-- What each grid point writes back is its block of the product. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero Cert.Products.zeros2, View.ld_unit_zero Cert.Products.zeros2, View.ld_unit_zero Cert.Products.zeros3]
  funext y
  rw [View.read_apply]
  refine Eq.trans (pay_apply (iblk m c 0 t) (iblk m c 1 t) y) ?_
  unfold G prod
  refine Finset.sum_congr rfl fun k _ => ?_
  have e0 : ((((cfg0.win 2).blk t).view.emb y) 0).val = win0_2.index t 0 * 1024 + (y 0).val := by
    show win0_2.index t 0 * 1024 + 1 * (y 0).val = _; omega
  have e1 : ((((cfg0.win 2).blk t).view.emb y) 1).val = win0_2.index t 1 * 512 + (y 1).val := by
    show win0_2.index t 1 * 512 + 1 * (y 1).val = _; omega
  have b1 : (y 1).val < 512 := (y 1).isLt
  refine congrArg₂ (· * ·) (iblk0_apply m c t (y 0) k _ e0) (iblk1_apply m c t k (y 1) _ _ ?_ ?_)
  · show (((cfg0.win 2).blk t).view.emb y 1).val / 1024 = _
    rw [e1]; omega
  · show (((cfg0.win 2).blk t).view.emb y 1).val % 1024 = _
    rw [e1]; omega

/-- The sixty-four blocks tile the result. -/
theorem cover (i : S4096x8192.Idx) : ∃ t : Fin cfg0.N, (cfg0.win 2).flush t = true ∧ i ∈ ((cfg0.win 2).blk t).view.set := by
  have b0 : (i 0).val < 4096 := (i 0).isLt
  have b1 : (i 1).val < 8192 := (i 1).isLt
  obtain ⟨t, e0, e1⟩ := index_onto ⟨(i 0).val / 1024, by omega⟩ ⟨(i 1).val / 512, by omega⟩
  have f0 : win0_2.index t 0 = (i 0).val / 1024 := e0
  have f1 : win0_2.index t 1 = (i 1).val / 512 := e1
  refine ⟨t, (index_facts t).2.2.2.2.2.1, ?_⟩
  show i ∈ ((View.whole main_v0).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [f0]; omega
  | ⟨1, _⟩ =>
    show win0_2.index t 1 * 512 ≤ (i 1).val ∧ (i 1).val < win0_2.index t 1 * 512 + 512
    rw [f1]; omega

theorem final (c : Dev nD) : (dats m 0 c).arrAt 2 cfg0.N = G m c :=
  (dats m 0 c).arrAt_eq_of_cover 2 (G m c) (fun t _ => flushed_eq m c t) cover

end Cert.FPoolInIdeal.Tiles

namespace Cert.FPoolInValue

open Cert.FPoolInRefIdeal Cert.FPoolInRefIdeal.Gen

/-- The reference's product, read at an element, is the same sum. -/
theorem ref_eq (x : S4096x2048.Idx → EReal) (w : S8x2048x1024.Idx → EReal) :
    Read.val_main_v4 (F := Ideal) x w = Cert.FPoolInIdeal.Tiles.prod x w := by
  funext i
  have b1 : (i 1).val < 8192 := (i 1).isLt
  rw [Read.val_main_v4_apply]
  unfold Cert.FPoolInIdeal.Tiles.prod
  refine Finset.sum_congr rfl fun k _ => ?_
  have bk : k.val < 2048 := k.isLt
  rw [Read.val_main_v3_apply, Read.val_main_v1_apply, Read.val_main_v0_apply]
  refine congrArg₂ (· * ·) (congrArg x (Shape.idx_ext₂ rfl rfl)) (congrArg w ?_)
  funext d
  apply Fin.ext
  match d with
  | ⟨0, _⟩ => show (k.val * 8192 + (i 1).val) / 1024 % 8 = (i 1).val / 1024; omega
  | ⟨1, _⟩ => show (k.val * 8192 + (i 1).val) / 8192 = k.val; omega
  | ⟨2, _⟩ => show (k.val * 8192 + (i 1).val) % 1024 = (i 1).val % 1024; omega

/-- On equal arguments the kernel's result is the reference's. -/
theorem algebraic : Cert.algebraic_FPoolInIdeal_FPoolInRefIdeal := by
  intro m ρ m' ρ' _ hagree
  refine ⟨fun c => Cert.FPoolInIdeal.Tiles.G m c, ?_, ?_⟩
  · exact (θ_run Cert.FPoolInIdeal.defs _ _).mono (fun r h c =>
      ⟨(h c).1.trans (Cert.FPoolInIdeal.Tiles.final m c), (h c).2.1, (h c).2.2⟩) (Cert.FPoolInIdeal.Value.run_blocks (F := Ideal) m ρ)
  · refine (θ_run Cert.FPoolInRefIdeal.defs _ _).mono (fun r h c => ⟨(h c).1.trans ?_, (h c).2.1, (h c).2.2⟩)
      (Cert.FPoolInRefIdeal.Value.run (F := Ideal) m' ρ')
    refine (Cert.FPoolInRefIdeal.Read.val_main_v4_eq _ _).trans ((ref_eq _ _).trans ?_)
    rw [(hagree c).1, (hagree c).2]
    rfl

end Cert.FPoolInValue

end
-- ==== Proof.FGroupValue.lean ====
/-
  The pooled mixer's grouped projection in the forward step, with its gate: group g's product `mg = mixed[:, g] · W[g]`
  over the g-th 1024 columns of a [4096, 4096] array, and `yp = mg · scale · silu(gate)` cast to bfloat16, the gate being
  the last 4096 columns of a [4096, 8192] array and silu(z) = z · (1 / (1 + exp(-z))). Each of the sixteen grid points
  computes one [1024, 1024] block of both results. The reference is the grouped product, the product with the scale row
  and `jax.nn.silu` of the gate.
-/
module

public import proofs.«01_k».proof.Defs
public import proofs.«01_k».proof.Proof.Gen.FGroupIdeal.Value
public import proofs.«01_k».proof.Proof.Gen.FGroupRefIdeal.Run
public import proofs.«01_k».proof.Proof.Gen.FGroupRefIdeal.Read
public import Idealize.ShloMosaic.Lib.Pipeline.Value
public import Idealize.ShloMosaic.Lib.ValueIdx
public import proofs.«01_k».proof.Proof.Products

@[expose] public section

noncomputable section

open Idealize.ShloMosaic Idealize.ShloMosaic.TcCoe Idealize.SL.Sem Idealize.ShloMosaic.ValueIdx
open Idealize.ShloMosaic.Pipeline (Dat)
open scoped BigOperators

namespace Cert.FGroupIdeal.Tiles

open Cert.FGroupIdeal Cert.FGroupIdeal.Gen

variable (m : (ℓ : Loc nD τ sig) → Buf (Elt Ideal) ℓ) (ρ : Dev nD → PrngReg)

/-- The gate's function, at an element. -/
def silu (z : EReal) : EReal :=
  z * Ideal.div (Ideal.ofBits .f32 0x3F800000#32) (Ideal.ofBits .f32 0x3F800000#32 + Ideal.exp (-z))

/-- The grouped product. -/
def mg (x : S4096x4096.Idx → EReal) (w : S4x1024x1024.Idx → EReal) (i : S4096x4096.Idx) : EReal :=
  ∑ k : Fin 1024, x (ix2 (i 0) (⟨(i 1).val / 1024 * 1024 + k.val, by have h : (i 1).val < 4096 := (i 1).isLt; omega⟩ : Fin 4096))
    * w (ix3 (⟨(i 1).val / 1024, by have h : (i 1).val < 4096 := (i 1).isLt; omega⟩ : Fin 4) k
        (⟨(i 1).val % 1024, by omega⟩ : Fin 1024))

/-- The gated product. -/
def yp (x : S4096x4096.Idx → EReal) (w : S4x1024x1024.Idx → EReal) (a : S4096x8192.Idx → EReal) (s : S1x4096.Idx → EReal)
    (i : S4096x4096.Idx) : EReal :=
  mg x w i * s (ix2 (0 : Fin 1) (i 1)) * silu (a (ix2 (i 0) (⟨4096 + (i 1).val, by have h : (i 1).val < 4096 := (i 1).isLt; omega⟩ : Fin 8192)))

/-- The two result arrays of device `c`. -/
def Gm (c : Dev nD) : Buf (Elt Ideal) ((c : Thread nD τ).loc main_v0_0) :=
  mg (m ((c : Thread nD τ).loc main_arg0)) (m ((c : Thread nD τ).loc main_arg1))
def Gy (c : Dev nD) : Buf (Elt Ideal) ((c : Thread nD τ).loc main_v0_1) :=
  yp (m ((c : Thread nD τ).loc main_arg0)) (m ((c : Thread nD τ).loc main_arg1)) (m ((c : Thread nD τ).loc main_arg2))
    (m ((c : Thread nD τ).loc main_arg3))

/-- One block's product at an element. -/
theorem pay1_apply (a : Vec Ideal S1024x1024 .bf16) (b : Vec Ideal S1x1024x1024 .bf16) (y : S1024x1024.Idx) :
    k0_pay1 a b y = ∑ k : Fin 1024, a (ix2 (y 0) k) * b (ix3 (0 : Fin 1) k (y 1)) := by
  unfold k0_pay1
  exact Cert.Products.plain_unit a b shapeCasts_S1x1024x1024_S1024x1024 y

/-- One block's gated product at an element. -/
theorem pay2_apply (a : Vec Ideal S1024x1024 .bf16) (b : Vec Ideal S1x1024x1024 .bf16) (z : Vec Ideal S1024x1024 .f32)
    (s : Vec Ideal S1x1024 .f32) (y : S1024x1024.Idx) :
    k0_pay2 a b z s y = k0_pay1 a b y * s (ix2 (0 : Fin 1) (y 1)) * silu (z y) := by
  have hs : broadcastTo S1024x1024 s broadcasts_S1x1024_S1024x1024 y = s (ix2 (0 : Fin 1) (y 1)) :=
    congrArg s (Shape.idx_ext₂ rfl rfl)
  have hz : (Ideal.ofBits .f32 0x00000000#32 : EReal) - z y = -z y := by rw [Ideal.ofBits_zero_f32, zero_sub]
  show k0_pay1 a b y * broadcastTo S1024x1024 s broadcasts_S1x1024_S1024x1024 y
      * (z y * Ideal.div (Ideal.ofBits .f32 0x3F800000#32) (Ideal.ofBits .f32 0x3F800000#32
          + Ideal.exp (Ideal.ofBits .f32 0x00000000#32 - z y))) = _
  rw [hs, hz]
  rfl

/-- Where the windows' blocks lie: the results' block (p, g) takes block (p, g) of the mixed array, group g of the
    weights, block (p, 4 + g) of the gates and block g of the scales. -/
theorem index_facts : ∀ t : Fin grid0.N,
    win0_0.index t 0 = win0_4.index t 0 ∧ win0_0.index t 1 = win0_4.index t 1
      ∧ win0_1.index t 0 = win0_4.index t 1 ∧ win0_1.index t 1 = 0 ∧ win0_1.index t 2 = 0
      ∧ win0_2.index t 0 = win0_4.index t 0 ∧ win0_2.index t 1 = 4 + win0_4.index t 1
      ∧ win0_3.index t 0 = 0 ∧ win0_3.index t 1 = win0_4.index t 1
      ∧ win0_5.index t 0 = win0_4.index t 0 ∧ win0_5.index t 1 = win0_4.index t 1
      ∧ (cfg0.win 4).flush t = true ∧ (cfg0.win 5).flush t = true ∧ win0_4.index t 0 < 4 ∧ win0_4.index t 1 < 4 := by
  decide +kernel

/-- Every block of the results is some point's. -/
theorem index_onto : ∀ p q : Fin 4, ∃ t : Fin grid0.N, win0_4.index t 0 = p.val ∧ win0_4.index t 1 = q.val := by
  decide +kernel

/-- The mixed array's block, read at an element. -/
theorem iblk0_apply (c : Dev nD) (t : Fin cfg0.N) (r k : Fin 1024) (R K : Fin 4096)
    (hR : R.val = win0_4.index t 0 * 1024 + r.val) (hK : K.val = win0_4.index t 1 * 1024 + k.val) :
    iblk m c 0 t (ix2 r k) = m ((c : Thread nD τ).loc main_arg0) (ix2 R K) := by
  obtain ⟨h0, h1, -⟩ := index_facts t
  unfold iblk
  rw [View.read_apply]
  show V m c main_arg0 _ = _
  unfold V
  refine congrArg (m ((c : Thread nD τ).loc main_arg0)) (Shape.idx_ext₂ ?_ ?_)
  · show win0_0.index t 0 * 1024 + 1 * r.val = R.val
    rw [h0]; omega
  · show win0_0.index t 1 * 1024 + 1 * k.val = K.val
    rw [h1]; omega

/-- The group's weights, read at an element. -/
theorem iblk1_apply (c : Dev nD) (t : Fin cfg0.N) (k r : Fin 1024) (g : Fin 4) (q : Fin 1024)
    (hg : g.val = win0_4.index t 1) (hq : q.val = r.val) :
    iblk m c 1 t (ix3 (0 : Fin 1) k r) = m ((c : Thread nD τ).loc main_arg1) (ix3 g k q) := by
  obtain ⟨-, -, h0, h1, h2, -⟩ := index_facts t
  unfold iblk
  rw [View.read_apply]
  show V m c main_arg1 _ = _
  unfold V
  refine congrArg (m ((c : Thread nD τ).loc main_arg1)) ?_
  funext d
  apply Fin.ext
  match d with
  | ⟨0, _⟩ => show win0_1.index t 0 * 1 + 1 * 0 = g.val; rw [h0]; omega
  | ⟨1, _⟩ => show win0_1.index t 1 * 1024 + 1 * k.val = k.val; rw [h1]; omega
  | ⟨2, _⟩ => show win0_1.index t 2 * 1024 + 1 * r.val = q.val; rw [h2]; omega

/-- The gates' block, read at an element. -/
theorem iblk2_apply (c : Dev nD) (t : Fin cfg0.N) (y : S1024x1024.Idx) (R : Fin 4096) (C : Fin 8192)
    (hR : R.val = win0_4.index t 0 * 1024 + (y 0).val) (hC : C.val = 4096 + (win0_4.index t 1 * 1024 + (y 1).val)) :
    iblk m c 2 t y = m ((c : Thread nD τ).loc main_arg2) (ix2 R C) := by
  obtain ⟨-, -, -, -, -, h0, h1, -⟩ := index_facts t
  unfold iblk
  rw [View.read_apply]
  show V m c main_arg2 _ = _
  unfold V
  refine congrArg (m ((c : Thread nD τ).loc main_arg2)) (Shape.idx_ext₂ ?_ ?_)
  · show win0_2.index t 0 * 1024 + 1 * (y 0).val = R.val
    rw [h0]; omega
  · show win0_2.index t 1 * 1024 + 1 * (y 1).val = C.val
    rw [h1]; omega

/-- The scales' block, read at an element. -/
theorem iblk3_apply (c : Dev nD) (t : Fin cfg0.N) (r : Fin 1024) (C : Fin 4096)
    (hC : C.val = win0_4.index t 1 * 1024 + r.val) :
    iblk m c 3 t (ix2 (0 : Fin 1) r) = m ((c : Thread nD τ).loc main_arg3) (ix2 (0 : Fin 1) C) := by
  obtain ⟨-, -, -, -, -, -, -, h0, h1, -⟩ := index_facts t
  unfold iblk
  rw [View.read_apply]
  show V m c main_arg3 _ = _
  unfold V
  refine congrArg (m ((c : Thread nD τ).loc main_arg3)) (Shape.idx_ext₂ ?_ ?_)
  · show win0_3.index t 0 * 1 + 1 * 0 = 0
    rw [h0]
  · show win0_3.index t 1 * 1024 + 1 * r.val = C.val
    rw [h1]; omega

/-- A block's product is the block of the product. -/
theorem block_eq (c : Dev nD) (t : Fin cfg0.N) (y : S1024x1024.Idx) (i : S4096x4096.Idx)
    (e0 : (i 0).val = win0_4.index t 0 * 1024 + (y 0).val) (e1 : (i 1).val = win0_4.index t 1 * 1024 + (y 1).val) :
    k0_pay1 (F := Ideal) (iblk m c 0 t) (iblk m c 1 t) y
      = mg (m ((c : Thread nD τ).loc main_arg0)) (m ((c : Thread nD τ).loc main_arg1)) i := by
  refine (pay1_apply (iblk m c 0 t) (iblk m c 1 t) y).trans ?_
  unfold mg
  have b1 : (y 1).val < 1024 := (y 1).isLt
  refine Finset.sum_congr rfl fun k _ => ?_
  refine congrArg₂ (· * ·) (iblk0_apply m c t (y 0) k _ _ e0 ?_) (iblk1_apply m c t k (y 1) _ _ ?_ ?_)
  · show (i 1).val / 1024 * 1024 + k.val = _
    rw [e1]; omega
  · show (i 1).val / 1024 = _
    rw [e1]; omega
  · show (i 1).val % 1024 = _
    rw [e1]; omega

/-- What each grid point writes back is its block of the product, -/
theorem flushed4_eq (c : Dev nD) (t : Fin cfg0.N) :
    (dats m 0 c).flushed 4 t = ((cfg0.win 4).blk t).view.read (Elt Ideal) (Gm m c) := by
  rw [Value.flushed4]
  unfold out0_4
  rw [View.canon_unit_zero Cert.Products.zeros2, View.ld_unit_zero Cert.Products.zeros2, View.ld_unit_zero Cert.Products.zeros3]
  funext y
  rw [View.read_apply]
  refine Eq.trans (block_eq m c t y (((cfg0.win 4).blk t).view.emb y) ?_ ?_) rfl
  · show win0_4.index t 0 * 1024 + 1 * (y 0).val = _; omega
  · show win0_4.index t 1 * 1024 + 1 * (y 1).val = _; omega

/-- and its block of the gated product. -/
theorem flushed5_eq (c : Dev nD) (t : Fin cfg0.N) :
    (dats m 0 c).flushed 5 t = ((cfg0.win 5).blk t).view.read (Elt Ideal) (Gy m c) := by
  rw [Value.flushed5]
  unfold out0_5
  rw [View.canon_unit_zero Cert.Products.zeros2, View.ld_unit_zero Cert.Products.zeros2, View.ld_unit_zero Cert.Products.zeros3,
    View.ld_unit_zero Cert.Products.zeros2, View.ld_unit_zero Cert.Products.zeros2]
  funext y
  rw [View.read_apply]
  refine Eq.trans (pay2_apply (iblk m c 0 t) (iblk m c 1 t) (iblk m c 2 t) (iblk m c 3 t) y) ?_
  obtain ⟨-, -, -, -, -, -, -, -, -, h0, h1, -⟩ := index_facts t
  have e0 : ((((cfg0.win 5).blk t).view.emb y) 0).val = win0_4.index t 0 * 1024 + (y 0).val := by
    show win0_5.index t 0 * 1024 + 1 * (y 0).val = _; rw [h0]; omega
  have e1 : ((((cfg0.win 5).blk t).view.emb y) 1).val = win0_4.index t 1 * 1024 + (y 1).val := by
    show win0_5.index t 1 * 1024 + 1 * (y 1).val = _; rw [h1]; omega
  exact congrArg₂ (· * ·) (congrArg₂ (· * ·) (block_eq m c t y (((cfg0.win 5).blk t).view.emb y) e0 e1)
      (iblk3_apply m c t (y 1) (((cfg0.win 5).blk t).view.emb y 1) e1))
    (congrArg silu (iblk2_apply m c t y _ _ e0 (congrArg (4096 + ·) e1)))

/-- The sixteen blocks tile each result. -/
theorem cover4 (i : S4096x4096.Idx) : ∃ t : Fin cfg0.N, (cfg0.win 4).flush t = true ∧ i ∈ ((cfg0.win 4).blk t).view.set := by
  have b0 : (i 0).val < 4096 := (i 0).isLt
  have b1 : (i 1).val < 4096 := (i 1).isLt
  obtain ⟨t, e0, e1⟩ := index_onto ⟨(i 0).val / 1024, by omega⟩ ⟨(i 1).val / 1024, by omega⟩
  have f0 : win0_4.index t 0 = (i 0).val / 1024 := e0
  have f1 : win0_4.index t 1 = (i 1).val / 1024 := e1
  refine ⟨t, (index_facts t).2.2.2.2.2.2.2.2.2.2.2.1, ?_⟩
  show i ∈ ((View.whole main_v0_0).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [f0]; omega
  | ⟨1, _⟩ =>
    show win0_4.index t 1 * 1024 ≤ (i 1).val ∧ (i 1).val < win0_4.index t 1 * 1024 + 1024
    rw [f1]; omega

theorem cover5 (i : S4096x4096.Idx) : ∃ t : Fin cfg0.N, (cfg0.win 5).flush t = true ∧ i ∈ ((cfg0.win 5).blk t).view.set := by
  have b0 : (i 0).val < 4096 := (i 0).isLt
  have b1 : (i 1).val < 4096 := (i 1).isLt
  obtain ⟨t, e0, e1⟩ := index_onto ⟨(i 0).val / 1024, by omega⟩ ⟨(i 1).val / 1024, by omega⟩
  have f0 : win0_5.index t 0 = (i 0).val / 1024 := (index_facts t).2.2.2.2.2.2.2.2.2.1.trans e0
  have f1 : win0_5.index t 1 = (i 1).val / 1024 := (index_facts t).2.2.2.2.2.2.2.2.2.2.1.trans e1
  refine ⟨t, (index_facts t).2.2.2.2.2.2.2.2.2.2.2.2.1, ?_⟩
  show i ∈ ((View.whole main_v0_1).slice (win0_5.rect t)).set
  rw [View.set_slice_whole, Rect.mem_set_unit]
  intro a
  match a with
  | ⟨0, _⟩ =>
    show win0_5.index t 0 * 1024 ≤ (i 0).val ∧ (i 0).val < win0_5.index t 0 * 1024 + 1024
    rw [f0]; omega
  | ⟨1, _⟩ =>
    show win0_5.index t 1 * 1024 ≤ (i 1).val ∧ (i 1).val < win0_5.index t 1 * 1024 + 1024
    rw [f1]; omega

theorem final4 (c : Dev nD) : (dats m 0 c).arrAt 4 cfg0.N = Gm m c :=
  (dats m 0 c).arrAt_eq_of_cover 4 (Gm m c) (fun t _ => flushed4_eq m c t) cover4

theorem final5 (c : Dev nD) : (dats m 0 c).arrAt 5 cfg0.N = Gy m c :=
  (dats m 0 c).arrAt_eq_of_cover 5 (Gy m c) (fun t _ => flushed5_eq m c t) cover5

end Cert.FGroupIdeal.Tiles

namespace Cert.FGroupValue

open Cert.FGroupRefIdeal Cert.FGroupRefIdeal.Gen

/-- The reference's grouped product, read at an element, is the same sum. -/
theorem ref_mg (x : S4096x4096.Idx → EReal) (w : S4x1024x1024.Idx → EReal) :
    Read.val_main_v5 (F := Ideal) x w = Cert.FGroupIdeal.Tiles.mg x w := by
  funext i
  have b0 : (i 0).val < 4096 := (i 0).isLt
  have b1 : (i 1).val < 4096 := (i 1).isLt
  refine (Read.val_main_v5_apply _ _ _).trans ((Read.val_main_v4_apply _ _ _).trans ((Read.val_main_v3_apply _ _ _).trans ?_))
  unfold Cert.FGroupIdeal.Tiles.mg
  refine Finset.sum_congr rfl fun k _ => (mul_comm _ _).trans ?_
  have bk : k.val < 1024 := k.isLt
  rw [Read.val_main_v2_apply, Read.val_main_v1_apply]
  refine congrArg₂ (· * ·) (congrArg x (Shape.idx_ext₂ ?_ ?_)) (congrArg w ?_)
  · show (((0 * 4096 + ((i 0).val * 4096 + (i 1).val) / 4096 % 4096) * 4 + ((i 0).val * 4096 + (i 1).val) / 1024 % 4) * 1024 + k.val) / 4096 = (i 0).val
    omega
  · show (((0 * 4096 + ((i 0).val * 4096 + (i 1).val) / 4096 % 4096) * 4 + ((i 0).val * 4096 + (i 1).val) / 1024 % 4) * 1024 + k.val) % 4096 = (i 1).val / 1024 * 1024 + k.val
    omega
  · funext d
    apply Fin.ext
    match d with
    | ⟨0, _⟩ => show ((i 0).val * 4096 + (i 1).val) / 1024 % 4 = (i 1).val / 1024; omega
    | ⟨1, _⟩ => rfl
    | ⟨2, _⟩ => show ((i 0).val * 4096 + (i 1).val) % 1024 = (i 1).val % 1024; omega

/-- The reference's gated product, read at an element. -/
theorem ref_yp (x : S4096x4096.Idx → EReal) (w : S4x1024x1024.Idx → EReal) (a : S4096x8192.Idx → EReal) (s : S1x4096.Idx → EReal) :
    Read.val_main_v11 (F := Ideal) x w a s = Cert.FGroupIdeal.Tiles.yp x w a s := by
  funext i
  have hs : Read.val_main_v6 (F := Ideal) s i = s (ix2 (0 : Fin 1) (i 1)) :=
    (Read.val_main_v6_apply _ _).trans (congrArg s (Shape.idx_ext₂ rfl rfl))
  have hz : Read.val_main_v8 (F := Ideal) a i
      = a (ix2 (i 0) (⟨4096 + (i 1).val, by have h : (i 1).val < 4096 := (i 1).isLt; omega⟩ : Fin 8192)) :=
    (Read.val_main_v8_apply _ _).trans (congrArg a (Shape.idx_ext₂ rfl rfl))
  have h2 : Read.val_main_call0_v2 (F := Ideal) i = Ideal.ofBits .f32 0x3F800000#32 := Read.val_main_call0_v2_apply _
  have h4 : Read.val_main_call0_v4 (F := Ideal) i = Ideal.ofBits .f32 0x3F800000#32 := Read.val_main_call0_v4_apply _
  have hg : Read.val_main_v9 (F := Ideal) a i = Cert.FGroupIdeal.Tiles.silu (Read.val_main_v8 (F := Ideal) a i) := by
    show Read.val_main_v8 (F := Ideal) a i * Ideal.div (Read.val_main_call0_v4 (F := Ideal) i)
      (Read.val_main_call0_v2 (F := Ideal) i + Ideal.exp (-Read.val_main_v8 (F := Ideal) a i)) = _
    rw [h2, h4]
    rfl
  show Read.val_main_v5 (F := Ideal) x w i * Read.val_main_v6 (F := Ideal) s i * Read.val_main_v9 (F := Ideal) a i = _
  rw [hg, hs, hz, ref_mg]
  rfl

/-- On equal arguments the kernel's results are the reference's. -/
theorem algebraic : Cert.algebraic_FGroupIdeal_FGroupRefIdeal := by
  intro m ρ m' ρ' _ hagree
  refine ⟨fun c => Cert.FGroupIdeal.Tiles.Gm m c, fun c => Cert.FGroupIdeal.Tiles.Gy m c, ?_, ?_⟩
  · exact (θ_run Cert.FGroupIdeal.defs _ _).mono (fun r h c =>
      ⟨(h c).1.trans (Cert.FGroupIdeal.Tiles.final4 m c), (h c).2.1.trans (Cert.FGroupIdeal.Tiles.final5 m c), (h c).2.2⟩)
      (Cert.FGroupIdeal.Value.run_blocks (F := Ideal) m ρ)
  · refine (θ_run Cert.FGroupRefIdeal.defs _ _).mono (fun r h c => ⟨(h c).1.trans ?_, (h c).2.1.trans ?_, (h c).2.2⟩)
      (Cert.FGroupRefIdeal.Value.run (F := Ideal) m' ρ')
    · refine (Read.val_main_v5_eq _ _).trans ((ref_mg _ _).trans ?_)
      rw [(hagree c).1, (hagree c).2.1]
      rfl
    · refine (Read.val_main_v11_eq _ _ _ _).trans ((ref_yp _ _ _ _).trans ?_)
      rw [(hagree c).1, (hagree c).2.1, (hagree c).2.2.1, (hagree c).2.2.2]
      rfl

end Cert.FGroupValue

end
-- ==== Proof.Pooling.lean ====
module
public import Idealize.ShloMosaic.Lib.Pipeline.Value
public import Idealize.ShloMosaic.Lib.ValueIdx
public import Idealize.ShloMosaic.Lib.KernelVsHost
public import Idealize.ShloMosaic.Lib.WordArith
public import Idealize.ShloMosaic.Lib.WordArith.Masks
public import Idealize.ShloMosaic.Lib.Scf
public import Idealize.ShloMosaic.PureOps.Ideal

/-!
# Windowed sums over rows

The words a pooling kernel counts with, and the way it sums a window of rows by doubling: a block is added to itself
rotated by one row, by two rows, by four rows, until the window is summed.
-/

@[expose] public section
noncomputable section

namespace Cert.Pooling

open Idealize.ShloMosaic ValueIdx

/-- The size of the window that ends at row `n`: the rows up to `n`, at most `w` of them. -/
def count (w n : ℕ) : EReal := (((min (n + 1) w : ℕ) : ℝ) : EReal)

/-- The signed reading of the word `min (base + row + 1) w` is that number, for words far from the sign bit. -/
theorem toInt_count (b : BitVec 32) (k w : ℕ) (hb : b.toNat + k < 2 ^ 20) (hw : w < 2 ^ 20) :
    (IntOp.minsi (IntOp.addi (IntOp.addi b (BitVec.ofNat 32 k)) 1#32) (BitVec.ofNat 32 w)).toInt
      = ((min (b.toNat + k + 1) w : ℕ) : ℤ) := by
  have e1 : (IntOp.addi (IntOp.addi b (BitVec.ofNat 32 k)) 1#32).toNat = b.toNat + k + 1 := by
    show (b + BitVec.ofNat 32 k + 1#32).toNat = _
    simp only [BitVec.toNat_add, BitVec.toNat_ofNat]
    omega
  have e2 : (BitVec.ofNat 32 w).toNat = w := by
    simp only [BitVec.toNat_ofNat]
    omega
  have e := WordArith.toNat_minsi_of_lt (IntOp.addi (IntOp.addi b (BitVec.ofNat 32 k)) 1#32) (BitVec.ofNat 32 w)
    (by omega) (by omega)
  rw [e1, e2] at e
  rw [BitVec.toInt_eq_toNat_of_lt (by omega), e]

/-- The column of window sizes a block of rows is divided by, at its row `i`. -/
theorem counts_apply {R : ℕ} (b : BitVec 32) (w : ℕ) (h : (⟨2, ![R, 1]⟩ : Shape).Iotas .tc 32 [0])
    (i : (⟨2, ![R, 1]⟩ : Shape).Idx) (hb : b.toNat + (i 0).val < 2 ^ 20) (hw : w < 2 ^ 20) :
    (sitofp .f32 (minsi (addi (addi (broadcast ⟨2, ![R, 1]⟩ b) (iota .tc ⟨2, ![R, 1]⟩ 32 [0] h)) (broadcast ⟨2, ![R, 1]⟩ 1#32))
      (broadcast ⟨2, ![R, 1]⟩ (BitVec.ofNat 32 w))) : FVec Ideal ⟨2, ![R, 1]⟩ .f32) i = count w (b.toNat + (i 0).val) := by
  show (((IntOp.minsi (IntOp.addi (IntOp.addi b (iota .tc ⟨2, ![R, 1]⟩ 32 [0] h i)) 1#32) (BitVec.ofNat 32 w)).toInt : ℝ) : EReal) = _
  rw [iota_single_apply, toInt_count b _ w hb hw]
  rfl

/-- The word of a trip's number. -/
theorem word_iv {k : ℕ} (hk : k < 8) : Scf.iv 0#32 1#32 k = BitVec.ofNat 32 k :=
  BitVec.eq_of_toNat_eq (by rw [WordArith.toNat_iv_zero_one _ (by omega), BitVec.toNat_ofNat]; omega)

/-- Doubling forwards: where a block of rows holds the sums of the next `p` rows of `f`, adding the block rotated by `p`
    rows gives the sums of the next `2p` rows, as long as the window stays inside the block. -/
theorem double {R C p : ℕ} (sb : BitVec 32) (hsb : sb.toNat + p = R) (hp : 1 ≤ p)
    (x : FVec Ideal ⟨2, ![R, C]⟩ .f32) (h : (⟨2, ![R, C]⟩ : Shape).Rotates 0 none) (f : ℕ → Fin C → EReal)
    (hx : ∀ i : (⟨2, ![R, C]⟩ : Shape).Idx, (i 0).val + p ≤ R → x i = ∑ t ∈ Finset.range p, f ((i 0).val + t) (i 1))
    (i : (⟨2, ![R, C]⟩ : Shape).Idx) (hi : (i 0).val + 2 * p ≤ R) :
    addf x (dynamicRotate 0 sb none x h) i = ∑ t ∈ Finset.range (2 * p), f ((i 0).val + t) (i 1) := by
  have hk : (i 0).val + p < R := by omega
  have e : dynamicRotate 0 sb none x h i = x (ix2 ⟨(i 0).val + p, hk⟩ (i 1)) :=
    dynamicRotate_apply 0 sb x h i _ (by
      intro b
      match b with
      | ⟨0, _⟩ =>
        refine Eq.trans ?_ (if_pos rfl).symm
        show (i 0).val + p = ((i 0).val + R - sb.toNat % R) % R
        rw [Nat.mod_eq_of_lt (show sb.toNat < R by omega), Nat.mod_eq_of_lt (by omega)]
        omega
      | ⟨1, _⟩ => rfl)
  show x i + dynamicRotate 0 sb none x h i = _
  rw [e, hx i (by omega), hx _ (show (i 0).val + p + p ≤ R by omega), two_mul, Finset.sum_range_add]
  refine congrArg₂ (· + ·) rfl (Finset.sum_congr rfl fun t _ => ?_)
  show f ((i 0).val + p + t) (i 1) = f ((i 0).val + (p + t)) (i 1)
  rw [Nat.add_assoc]

/-- Doubling backwards: where a block of rows holds the sums of the last `p` rows of `f`, adding the block rotated by `p`
    rows gives the sums of the last `2p` rows, as long as the window stays inside the block. -/
theorem doubleBack {R C p : ℕ} (sb : BitVec 32) (hsb : sb.toNat = p) (hp : 1 ≤ p)
    (x : FVec Ideal ⟨2, ![R, C]⟩ .f32) (h : (⟨2, ![R, C]⟩ : Shape).Rotates 0 none) (f : ℕ → Fin C → EReal)
    (hx : ∀ i : (⟨2, ![R, C]⟩ : Shape).Idx, p ≤ (i 0).val + 1 → x i = ∑ t ∈ Finset.range p, f ((i 0).val - t) (i 1))
    (i : (⟨2, ![R, C]⟩ : Shape).Idx) (hi : 2 * p ≤ (i 0).val + 1) :
    addf x (dynamicRotate 0 sb none x h) i = ∑ t ∈ Finset.range (2 * p), f ((i 0).val - t) (i 1) := by
  have hlt : (i 0).val < R := (i 0).isLt
  have hk : (i 0).val - p < R := by omega
  have e : dynamicRotate 0 sb none x h i = x (ix2 ⟨(i 0).val - p, hk⟩ (i 1)) :=
    dynamicRotate_apply 0 sb x h i _ (by
      intro b
      match b with
      | ⟨0, _⟩ =>
        refine Eq.trans ?_ (if_pos rfl).symm
        show (i 0).val - p = ((i 0).val + R - sb.toNat % R) % R
        rw [Nat.mod_eq_of_lt (show sb.toNat < R by omega),
          show (i 0).val + R - sb.toNat = (i 0).val - p + R by omega, Nat.add_mod_right, Nat.mod_eq_of_lt hk]
      | ⟨1, _⟩ => rfl)
  show x i + dynamicRotate 0 sb none x h i = _
  rw [e, hx i (by omega), hx _ (show p ≤ (i 0).val - p + 1 by omega), two_mul, Finset.sum_range_add]
  refine congrArg₂ (· + ·) rfl (Finset.sum_congr rfl fun t _ => ?_)
  show f ((i 0).val - p - t) (i 1) = f ((i 0).val - (p + t)) (i 1)
  rw [Nat.sub_sub]

/-- The running sums seen from their ends: the difference of the tail sums at two rows `w` apart is the sum of the `w`
    rows between them. All rows are real numbers and only the first `N` are not zero. -/
theorem tails (N w r : ℕ) (q : ℕ → ℝ) (hq : ∀ n, N ≤ n → q n = 0) :
    ∑ n ∈ Finset.range N, (if r + n < N then q (r + n) - q (r + n + w) else 0) = ∑ t ∈ Finset.range w, q (r + t) := by
  have e : ∀ n ∈ Finset.range N, (if r + n < N then q (r + n) - q (r + n + w) else 0) = q (r + n) - q (r + n + w) := by
    intro n _
    by_cases h : r + n < N
    · rw [if_pos h]
    · rw [if_neg h, hq _ (by omega), hq _ (by omega), sub_zero]
  rw [Finset.sum_congr rfl e, Finset.sum_sub_distrib]
  have s1 := Finset.sum_range_add (fun n => q (r + n)) N w
  have s2 := Finset.sum_range_add (fun n => q (r + n)) w N
  have z : ∑ x ∈ Finset.range w, q (r + (N + x)) = 0 := Finset.sum_eq_zero fun x _ => hq _ (by omega)
  have c : ∑ x ∈ Finset.range N, q (r + (w + x)) = ∑ x ∈ Finset.range N, q (r + x + w) :=
    Finset.sum_congr rfl fun x _ => congrArg q (by omega)
  rw [z, add_zero] at s1
  rw [c, Nat.add_comm w N, s1] at s2
  rw [s2]
  ring

end Cert.Pooling

end
end
-- ==== Proof.PoolMixRows.lean ====
/-
  One trip of the pooling's gradient: 512 rows of a column block, with the 16 rows after them. The trip divides the rows
  by their window sizes, sums windows of 2, 4, 8 or 16 rows by doubling, and takes the rows themselves off again.
-/
module

public import proofs.«01_k».proof.Defs
public import proofs.«01_k».proof.Proof.Gen.PoolMixIdeal.Value
public import Idealize.ShloMosaic.Lib.Pipeline.Value
public import Idealize.ShloMosaic.Lib.ValueIdx
public import proofs.«01_k».proof.Proof.Pooling

@[expose] public section

noncomputable section

open Idealize.ShloMosaic Idealize.ShloMosaic.ValueIdx

namespace Cert.PoolMixIdeal.Rows

open Cert.PoolMixIdeal Cert.PoolMixIdeal.Gen Cert.Pooling

/-- Row `n` of a column block divided by its window's size, and zero from row 4096 on. -/
def scaled (w : ℕ) (D : S4096x256.Idx → EReal) (n : ℕ) (c : Fin 256) : EReal :=
  if h : n < 4096 then Ideal.div (D (ix2 (⟨n, h⟩ : Fin 4096) c)) (count w n) else 0

/-- The gradient of one column block: the windows of the scaled rows, less the rows. -/
def mixed (w : ℕ) (D : S4096x256.Idx → EReal) (i : S4096x256.Idx) : EReal :=
  (∑ t ∈ Finset.range w, scaled w D ((i 0).val + t) (i 1)) - D i

/-- The 528 rows a trip sums over: its own, divided, and the next 16, divided; zeros in the last trip. -/
def tile (w arg : BitVec 32) (x : FVec Ideal S512x256 .f32) (y : FVec Ideal S16x256 .f32) : FVec Ideal S528x256 .f32 :=
  concatenate S528x256 0
    [⟨S512x256, divf x (broadcastTo S512x256 (sitofp .f32 (minsi (addi (addi (broadcast S512x1 (Scalar.muli arg 512#32))
        (iota .tc S512x1 32 [0] iota_S512x1_d0_w32)) (broadcast S512x1 1#32)) (broadcast S512x1 w))) broadcasts_S512x1_S512x256)⟩,
      ⟨S16x256, Scalar.select (Scalar.cmpi .slt arg 7#32)
        (divf y (broadcastTo S16x256 (sitofp .f32 (minsi (addi (addi (broadcast S16x1 (Scalar.addi (Scalar.muli arg 512#32) 512#32))
          (iota .tc S16x1 32 [0] iota_S16x1_d0_w32)) (broadcast S16x1 1#32)) (broadcast S16x1 w))) broadcasts_S16x1_S16x256))
        (broadcast S16x256 (Scalar.ofBits .f32 0x00000000#32))⟩]
    concatenates_S512x256_S16x256_S528x256_d0

/-- The rows added to themselves rotated. -/
def twice (sb : BitVec 32) (x : FVec Ideal S528x256 .f32) : FVec Ideal S528x256 .f32 :=
  addf x (dynamicRotate 0 sb none x rotates_S528x256_d0)

/-- The first 512 rows less the trip's own. -/
def result (x : FVec Ideal S512x256 .f32) (s : FVec Ideal S528x256 .f32) : FVec Ideal S512x256 .bf16 :=
  truncf .bf16 (subf (extractStridedSlice S512x256 ![0, 0] s slices_S528x256_o0_0_S512x256) x) bitsLt_bf16_f32

theorem pay1_eq (k : Fin k0_t1_loop.trips) (hk : k.val < 8) (x : Vec Ideal S512x256 .f32) (y : Vec Ideal S16x256 .f32) :
    k0_pay1 k x y = result x (twice 527#32 (tile 2#32 (BitVec.ofNat 32 k.val) x y)) := by rw [← word_iv hk]; rfl
theorem pay3_eq (k : Fin k0_t2_loop.trips) (hk : k.val < 8) (x : Vec Ideal S512x256 .f32) (y : Vec Ideal S16x256 .f32) :
    k0_pay3 0#32 1#32 k x y = result x (twice 526#32 (twice 527#32 (tile 4#32 (BitVec.ofNat 32 k.val) x y))) := by rw [← word_iv hk]; rfl
theorem pay4_eq (k : Fin k0_t3_loop.trips) (hk : k.val < 8) (x : Vec Ideal S512x256 .f32) (y : Vec Ideal S16x256 .f32) :
    k0_pay4 0#32 1#32 k x y = result x (twice 524#32 (twice 526#32 (twice 527#32 (tile 8#32 (BitVec.ofNat 32 k.val) x y)))) := by rw [← word_iv hk]; rfl
theorem pay5_eq (k : Fin k0_t4_loop.trips) (hk : k.val < 8) (x : Vec Ideal S512x256 .f32) (y : Vec Ideal S16x256 .f32) :
    k0_pay2 x (k0_pay5 0#32 1#32 k x y)
      = result x (twice 520#32 (twice 524#32 (twice 526#32 (twice 527#32 (tile 16#32 (BitVec.ofNat 32 k.val) x y))))) := by rw [← word_iv hk]; rfl

/-- The rows a trip reads: rows `512 a` to `512 a + 511` of the column block, and, but in the last trip, the next 16. -/
structure Reads (D : S4096x256.Idx → EReal) (a : ℕ) (x : S512x256.Idx → EReal) (y : S16x256.Idx → EReal) : Prop where
  lt : a < 8
  own : ∀ (i : S512x256.Idx) (k : S4096x256.Idx), (k 0).val = 512 * a + (i 0).val → (k 1).val = (i 1).val → x i = D k
  next : ∀ (i : S16x256.Idx) (k : S4096x256.Idx), (k 0).val = 512 * a + 512 + (i 0).val → (k 1).val = (i 1).val → y i = D k

variable {D : S4096x256.Idx → EReal} {a : ℕ} {x : S512x256.Idx → EReal} {y : S16x256.Idx → EReal}

theorem word_facts : ∀ a : Fin 8, (Scalar.muli (BitVec.ofNat 32 a.val) 512#32).toNat = 512 * a.val
    ∧ (Scalar.addi (Scalar.muli (BitVec.ofNat 32 a.val) 512#32) 512#32).toNat = 512 * a.val + 512
    ∧ (Scalar.cmpi .slt (BitVec.ofNat 32 a.val) 7#32 = 1#1 ↔ a.val < 7) := by decide

theorem tile_apply (h : Reads D a x y) (w : ℕ) (hw : w < 2 ^ 20) (i : S528x256.Idx) :
    tile (BitVec.ofNat 32 w) (BitVec.ofNat 32 a) x y i = scaled w D (512 * a + (i 0).val) (i 1) := by
  obtain ⟨e1, e2, e3⟩ := word_facts ⟨a, h.lt⟩
  have ha := h.lt
  have hi : (i 0).val < 528 := (i 0).isLt
  by_cases hl : (i 0).val < 512
  · have hn : 512 * a + (i 0).val < 4096 := by omega
    refine (concatenate_pair_apply_left 0 _ _ concatenates_S512x256_S16x256_S528x256_d0 i rfl
      (ix2 (⟨(i 0).val, hl⟩ : Fin 512) (i 1)) (fun b => match b with | ⟨0, _⟩ => rfl | ⟨1, _⟩ => rfl)).trans ?_
    rw [divf_apply, broadcastTo_apply _ _ _ (ix2 (⟨(i 0).val, hl⟩ : Fin 512) (0 : Fin 1)) (fun b => match b with | ⟨0, _⟩ => rfl | ⟨1, _⟩ => rfl),
      counts_apply _ w _ _ (by rw [e1]; show 512 * a + (i 0).val < _; omega) hw, e1,
      h.own _ (ix2 (⟨512 * a + (i 0).val, hn⟩ : Fin 4096) (i 1)) rfl rfl]
    unfold scaled; rw [dif_pos hn]
  · refine (concatenate_pair_apply_right 0 _ _ concatenates_S512x256_S16x256_S528x256_d0 i rfl rfl
      (ix2 (⟨(i 0).val - 512, by omega⟩ : Fin 16) (i 1)) (fun b hb => match b, hb with | ⟨0, _⟩, hb => absurd rfl hb | ⟨1, _⟩, _ => rfl)
      (by show (i 0).val - 512 + 512 = (i 0).val; omega)).trans ?_
    by_cases h7 : a < 7
    · have hn : 512 * a + (i 0).val < 4096 := by omega
      rw [show ∀ p q : FVec Ideal S16x256 .f32, Scalar.select (Scalar.cmpi .slt (BitVec.ofNat 32 a) 7#32) p q = p from
        fun p q => if_pos (e3.2 h7)]
      rw [divf_apply, broadcastTo_apply _ _ _ (ix2 (⟨(i 0).val - 512, by omega⟩ : Fin 16) (0 : Fin 1)) (fun b => match b with | ⟨0, _⟩ => rfl | ⟨1, _⟩ => rfl),
        counts_apply _ w _ _ (by rw [e2]; show 512 * a + 512 + ((i 0).val - 512) < _; omega) hw, e2,
        h.next _ (ix2 (⟨512 * a + (i 0).val, hn⟩ : Fin 4096) (i 1))
          (show 512 * a + (i 0).val = 512 * a + 512 + ((i 0).val - 512) by omega) rfl,
        show 512 * a + 512 + ((ix2 (⟨(i 0).val - 512, by omega⟩ : Fin 16) (0 : Fin 1) : (⟨2, ![16, 1]⟩ : Shape).Idx) 0).val = 512 * a + (i 0).val from
          (show 512 * a + 512 + ((i 0).val - 512) = _ by omega)]
      unfold scaled; rw [dif_pos hn]
    · rw [show ∀ p q : FVec Ideal S16x256 .f32, Scalar.select (Scalar.cmpi .slt (BitVec.ofNat 32 a) 7#32) p q = q from
        fun p q => if_neg fun e => h7 (e3.1 e)]
      unfold scaled; rw [dif_neg (show ¬512 * a + (i 0).val < 4096 by omega)]; exact Ideal.ofBits_zero_f32

/-- Windows of one row, and of two, four, eight and sixteen. -/
theorem sums1 (h : Reads D a x y) (w : ℕ) (hw : w < 2 ^ 20) (i : S528x256.Idx) (hi : (i 0).val + 1 ≤ 528) :
    tile (BitVec.ofNat 32 w) (BitVec.ofNat 32 a) x y i
      = ∑ t ∈ Finset.range 1, scaled w D (512 * a + ((i 0).val + t)) (i 1) := by
  rw [Finset.sum_range_one, tile_apply h w hw]; rfl
theorem sums2 (h : Reads D a x y) (w : ℕ) (hw : w < 2 ^ 20) (i : S528x256.Idx) (hi : (i 0).val + 2 ≤ 528) :
    twice 527#32 (tile (BitVec.ofNat 32 w) (BitVec.ofNat 32 a) x y) i
      = ∑ t ∈ Finset.range 2, scaled w D (512 * a + ((i 0).val + t)) (i 1) :=
  double (p := 1) 527#32 rfl (by decide) _ rotates_S528x256_d0 (fun n c => scaled w D (512 * a + n) c) (sums1 h w hw) i hi
theorem sums4 (h : Reads D a x y) (w : ℕ) (hw : w < 2 ^ 20) (i : S528x256.Idx) (hi : (i 0).val + 4 ≤ 528) :
    twice 526#32 (twice 527#32 (tile (BitVec.ofNat 32 w) (BitVec.ofNat 32 a) x y)) i
      = ∑ t ∈ Finset.range 4, scaled w D (512 * a + ((i 0).val + t)) (i 1) :=
  double (p := 2) 526#32 rfl (by decide) _ rotates_S528x256_d0 (fun n c => scaled w D (512 * a + n) c) (sums2 h w hw) i hi
theorem sums8 (h : Reads D a x y) (w : ℕ) (hw : w < 2 ^ 20) (i : S528x256.Idx) (hi : (i 0).val + 8 ≤ 528) :
    twice 524#32 (twice 526#32 (twice 527#32 (tile (BitVec.ofNat 32 w) (BitVec.ofNat 32 a) x y))) i
      = ∑ t ∈ Finset.range 8, scaled w D (512 * a + ((i 0).val + t)) (i 1) :=
  double (p := 4) 524#32 rfl (by decide) _ rotates_S528x256_d0 (fun n c => scaled w D (512 * a + n) c) (sums4 h w hw) i hi
theorem sums16 (h : Reads D a x y) (w : ℕ) (hw : w < 2 ^ 20) (i : S528x256.Idx) (hi : (i 0).val + 16 ≤ 528) :
    twice 520#32 (twice 524#32 (twice 526#32 (twice 527#32 (tile (BitVec.ofNat 32 w) (BitVec.ofNat 32 a) x y)))) i
      = ∑ t ∈ Finset.range 16, scaled w D (512 * a + ((i 0).val + t)) (i 1) :=
  double (p := 8) 520#32 rfl (by decide) _ rotates_S528x256_d0 (fun n c => scaled w D (512 * a + n) c) (sums8 h w hw) i hi

/-- Where the 528 rows hold the sums of windows of `w`, the trip's result is the gradient at its rows. -/
theorem result_apply (h : Reads D a x y) (w : ℕ) (hw : w ≤ 16) (s : FVec Ideal S528x256 .f32)
    (hs : ∀ i : S528x256.Idx, (i 0).val + w ≤ 528 → s i = ∑ t ∈ Finset.range w, scaled w D (512 * a + ((i 0).val + t)) (i 1))
    (i : S512x256.Idx) (k : S4096x256.Idx) (h0 : (k 0).val = 512 * a + (i 0).val) (h1 : (k 1).val = (i 1).val) :
    result x s i = mixed w D k := by
  have hi : (i 0).val < 512 := (i 0).isLt
  show extractStridedSlice S512x256 ![0, 0] s slices_S528x256_o0_0_S512x256 i - x i = _
  refine (congrArg₂ (· - ·) ((extractStridedSlice_apply _ _ _ i (ix2 (⟨(i 0).val, by omega⟩ : Fin 528) (i 1)) (fun b => match b with
      | ⟨0, _⟩ => (Nat.zero_add _).symm
      | ⟨1, _⟩ => (Nat.zero_add _).symm)).trans (hs _ (show (i 0).val + w ≤ 528 by omega))) (h.own i k h0 h1)).trans ?_
  unfold mixed
  rw [h0, show k 1 = i 1 from Fin.ext h1]
  exact congrArg (· - D k) (Finset.sum_congr rfl fun t _ => congrArg (scaled w D · (i 1)) (Nat.add_assoc _ _ _).symm)

end Cert.PoolMixIdeal.Rows

end
-- ==== Proof.PoolMixStores.lean ====
/-
  What the four branches of the pooling gradient's kernel store, for windows of 2, 4, 8 and 16 rows: a loop of eight trips each,
  and the block the eight stores leave together.
-/
module

public import proofs.«01_k».proof.Defs
public import proofs.«01_k».proof.Proof.Gen.PoolMixIdeal.Value
public import Idealize.ShloMosaic.Lib.Pipeline.Value
public import Idealize.ShloMosaic.Lib.Tactic
public import Idealize.ShloMosaic.Lib.ValueIdx
public import proofs.«01_k».proof.Proof.PoolMixRows

@[expose] public section

noncomputable section

open Idealize.ShloMosaic Idealize.ShloMosaic.TcCoe Idealize.SL.Sem Idealize.ShloMosaic.ValueIdx
open Idealize.ShloMosaic.Pipeline (Dat)

namespace Cert.PoolMixIdeal.Rows

open Cert.PoolMixIdeal Cert.PoolMixIdeal.Gen Cert.Pooling

/-- What a trip reads through its two rectangles: its own 512 rows, and 16 rows from its end or from row 4080. -/
theorem reads {D : S4096x256.Idx → EReal} {a : ℕ} (ha : a < 8) {o₁ o₂ : Fin 2 → ℕ} (b₁ : ∀ d, o₁ d + S512x256.size d ≤ S4096x256.size d)
    (b₂ : ∀ d, o₂ d + S16x256.size d ≤ S4096x256.size d) (e₁ : o₁ = ![512 * a, 0]) (e₂ : o₂ = ![min (512 * a + 512) 4080, 0]) :
    Reads D a (fun i => D ((Rect.unit (s := S4096x256) o₁ S512x256.size b₁).emb i)) (fun i => D ((Rect.unit (s := S4096x256) o₂ S16x256.size b₂).emb i)) where
  lt := ha
  own x k k0 k1 := congrArg D (Shape.idx_ext₂ (by rw [k0]; show o₁ 0 + 1 * (x 0).val = _; rw [e₁]; show 512 * a + 1 * (x 0).val = _; omega)
    (by rw [k1]; show o₁ 1 + 1 * (x 1).val = _; rw [e₁]; show 0 + 1 * (x 1).val = _; omega))
  next x k k0 k1 := congrArg D (Shape.idx_ext₂ (by
      have : (k 0).val < 4096 := (k 0).isLt
      have : (x 0).val < 16 := (x 0).isLt
      rw [k0]; show o₂ 0 + 1 * (x 0).val = _; rw [e₂]; show min (512 * a + 512) 4080 + 1 * (x 0).val = _; omega)
    (by rw [k1]; show o₂ 1 + 1 * (x 1).val = _; rw [e₂]; show 0 + 1 * (x 1).val = _; omega))

/-- What a trip stores through its first rectangle is the gradient at the rows of the rectangle. -/
theorem stores {D : S4096x256.Idx → EReal} {a : ℕ} {x : S512x256.Idx → EReal} {y : S16x256.Idx → EReal} (h : Reads D a x y) {w : ℕ} (hw : w ≤ 16)
    {s : FVec Ideal S528x256 .f32}
    (hs : ∀ i : S528x256.Idx, (i 0).val + w ≤ 528 → s i = ∑ t ∈ Finset.range w, scaled w D (512 * a + ((i 0).val + t)) (i 1))
    {o : Fin 2 → ℕ} (b : ∀ d, o d + S512x256.size d ≤ S4096x256.size d) (e : o = ![512 * a, 0]) (i : S512x256.Idx) :
    result x s i = mixed w D ((Rect.unit (s := S4096x256) o S512x256.size b).emb i) :=
  result_apply h w hw s hs i _ (by show o 0 + 1 * (i 0).val = _; rw [e]; show 512 * a + 1 * (i 0).val = _; omega)
    (by show o 1 + 1 * (i 1).val = _; rw [e]; show 0 + 1 * (i 1).val = _; omega)

/-- Windows of 2 rows: each trip's piece, all trips' pieces, and the block they leave. -/
theorem trip1 (c : Dev nD) (i : grid0.Coords) (arg2 : Memref sig .tc .vmem S4096x256 .f32) (h2 : arg2.IsWhole) (arg3 : Memref sig .tc .hbm S4096x8192 .bf16) (h3 : arg3.IsWhole) (arg4 : Memref sig .tc .vmem S4096x256 .bf16) (h4 : arg4.IsWhole) (h : k0_cond1 i = 1#1)
    (D : S4096x256.Idx → EReal) (k : Fin k0_t1_loop.trips) :
    ∀ p ∈ tripL_k0_t1 (F := Ideal) Variants.none c none i arg2 h2 arg3 h3 arg4 h4 h (h2.unread D) k, ∀ x : p.1.shape.Idx, p.2 x = mixed 2 D (p.1.emb x) := by
  have hk : k.val < 8 := Nat.lt_of_lt_of_le k.isLt k0_t1_abs.2.1
  unfold tripL_k0_t1 trip_k0_t1
  dsimp only
  simp only [View.readAt_eq_ld, h2.read_unread]
  intro p hp
  obtain rfl := List.mem_singleton.mp hp
  intro x
  have r := reads (D := D) hk (k0_off1_inb i k h) (k0_off2_inb i k h) (k0_off1_eq k) (k0_off2_eq k)
  exact (congrFun (pay1_eq k hk _ _) x).trans <| stores r (by decide) (sums2 r 2 (by decide)) (k0_off1_inb i k h) (k0_off1_eq k) x

theorem pieces1 (c : Dev nD) (i : grid0.Coords) (arg2 : Memref sig .tc .vmem S4096x256 .f32) (h2 : arg2.IsWhole) (arg3 : Memref sig .tc .hbm S4096x8192 .bf16) (h3 : arg3.IsWhole) (arg4 : Memref sig .tc .vmem S4096x256 .bf16) (h4 : arg4.IsWhole) (h : k0_cond1 i = 1#1)
    (D : S4096x256.Idx → EReal) : ∀ n, n ≤ k0_t1_loop.trips →
    ∀ p ∈ pb_k0_t1 (F := Ideal) Variants.none c none i arg2 h2 arg3 h3 arg4 h4 h (h2.unread D) n, ∀ x : p.1.shape.Idx, p.2 x = mixed 2 D (p.1.emb x)
  | 0, _, p, hp => absurd hp List.not_mem_nil
  | n + 1, hn, p, hp => by
    rw [pb_k0_t1_succ _ _ _ _ _ _ _ _ _ _ _ _ ⟨n, hn⟩] at hp
    rcases List.mem_append.mp hp with hp | hp
    · exact trip1 c i arg2 h2 arg3 h3 arg4 h4 h D ⟨n, hn⟩ p hp
    · exact pieces1 c i arg2 h2 arg3 h3 arg4 h4 h D n (Nat.le_of_succ_le hn) p hp

theorem out1 (c : Dev nD) (i : grid0.Coords) (arg2 : Memref sig .tc .vmem S4096x256 .f32) (h2 : arg2.IsWhole) (arg4 : Memref sig .tc .vmem S4096x256 .bf16) (h4 : arg4.IsWhole)
    (e0 : cond0_0 i) (e1 : ¬cond0_1 i) (e2 : ¬cond0_2 i) (e3 : ¬cond0_3 i) (D : Vec Ideal S4096x256 .f32) :
    out0_A_1 c i arg2 h2 arg4 h4 e0 e1 e2 e3 D = mixed 2 D := by
  unfold out0_A_1
  rw [View.read_writes_eq_canon _ _ _ (cover0_A_1 c i arg2 h2 arg4 h4 e0 e1 e2 e3 D)]
  funext y
  refine View.canon_apply_of_pieces (mixed 2 D) _ ?_ y (cover0_A_1 c i arg2 h2 arg4 h4 e0 e1 e2 e3 D y)
  unfold kernelRun0_A
  dsimp only
  exact pieces1 c i arg2 h2 _ _ arg4 h4 _ D _ le_rfl

/-- Windows of 4 rows: each trip's piece, all trips' pieces, and the block they leave. -/
theorem trip2 (c : Dev nD) (i : grid0.Coords) (arg2 : Memref sig .tc .vmem S4096x256 .f32) (h2 : arg2.IsWhole) (arg3 : Memref sig .tc .hbm S4096x8192 .bf16) (h3 : arg3.IsWhole) (arg4 : Memref sig .tc .vmem S4096x256 .bf16) (h4 : arg4.IsWhole) (h : k0_cond2 i = 1#1)
    (D : S4096x256.Idx → EReal) (k : Fin k0_t2_loop.trips) :
    ∀ p ∈ tripL_k0_t2 (F := Ideal) Variants.none c none i arg2 h2 arg3 h3 arg4 h4 h (h2.unread D) k, ∀ x : p.1.shape.Idx, p.2 x = mixed 4 D (p.1.emb x) := by
  have hk : k.val < 8 := Nat.lt_of_lt_of_le k.isLt k0_t2_abs.2.1
  unfold tripL_k0_t2 trip_k0_t2
  dsimp only
  simp only [View.readAt_eq_ld, h2.read_unread]
  intro p hp
  obtain rfl := List.mem_singleton.mp hp
  intro x
  have r := reads (D := D) hk (k0_off3_inb i k h) (k0_off4_inb i k h) (k0_off3_eq k) (k0_off4_eq k)
  exact (congrFun (pay3_eq k hk _ _) x).trans <| stores r (by decide) (sums4 r 4 (by decide)) (k0_off3_inb i k h) (k0_off3_eq k) x

theorem pieces2 (c : Dev nD) (i : grid0.Coords) (arg2 : Memref sig .tc .vmem S4096x256 .f32) (h2 : arg2.IsWhole) (arg3 : Memref sig .tc .hbm S4096x8192 .bf16) (h3 : arg3.IsWhole) (arg4 : Memref sig .tc .vmem S4096x256 .bf16) (h4 : arg4.IsWhole) (h : k0_cond2 i = 1#1)
    (D : S4096x256.Idx → EReal) : ∀ n, n ≤ k0_t2_loop.trips →
    ∀ p ∈ pb_k0_t2 (F := Ideal) Variants.none c none i arg2 h2 arg3 h3 arg4 h4 h (h2.unread D) n, ∀ x : p.1.shape.Idx, p.2 x = mixed 4 D (p.1.emb x)
  | 0, _, p, hp => absurd hp List.not_mem_nil
  | n + 1, hn, p, hp => by
    rw [pb_k0_t2_succ _ _ _ _ _ _ _ _ _ _ _ _ ⟨n, hn⟩] at hp
    rcases List.mem_append.mp hp with hp | hp
    · exact trip2 c i arg2 h2 arg3 h3 arg4 h4 h D ⟨n, hn⟩ p hp
    · exact pieces2 c i arg2 h2 arg3 h3 arg4 h4 h D n (Nat.le_of_succ_le hn) p hp

theorem out2 (c : Dev nD) (i : grid0.Coords) (arg2 : Memref sig .tc .vmem S4096x256 .f32) (h2 : arg2.IsWhole) (arg4 : Memref sig .tc .vmem S4096x256 .bf16) (h4 : arg4.IsWhole)
    (e0 : ¬cond0_0 i) (e1 : cond0_1 i) (e2 : ¬cond0_2 i) (e3 : ¬cond0_3 i) (D : Vec Ideal S4096x256 .f32) :
    out0_B_1 c i arg2 h2 arg4 h4 e0 e1 e2 e3 D = mixed 4 D := by
  unfold out0_B_1
  rw [View.read_writes_eq_canon _ _ _ (cover0_B_1 c i arg2 h2 arg4 h4 e0 e1 e2 e3 D)]
  funext y
  refine View.canon_apply_of_pieces (mixed 4 D) _ ?_ y (cover0_B_1 c i arg2 h2 arg4 h4 e0 e1 e2 e3 D y)
  unfold kernelRun0_B
  dsimp only
  exact pieces2 c i arg2 h2 _ _ arg4 h4 _ D _ le_rfl

/-- Windows of 8 rows: each trip's piece, all trips' pieces, and the block they leave. -/
theorem trip3 (c : Dev nD) (i : grid0.Coords) (arg2 : Memref sig .tc .vmem S4096x256 .f32) (h2 : arg2.IsWhole) (arg3 : Memref sig .tc .hbm S4096x8192 .bf16) (h3 : arg3.IsWhole) (arg4 : Memref sig .tc .vmem S4096x256 .bf16) (h4 : arg4.IsWhole) (h : k0_cond3 i = 1#1)
    (D : S4096x256.Idx → EReal) (k : Fin k0_t3_loop.trips) :
    ∀ p ∈ tripL_k0_t3 (F := Ideal) Variants.none c none i arg2 h2 arg3 h3 arg4 h4 h (h2.unread D) k, ∀ x : p.1.shape.Idx, p.2 x = mixed 8 D (p.1.emb x) := by
  have hk : k.val < 8 := Nat.lt_of_lt_of_le k.isLt k0_t3_abs.2.1
  unfold tripL_k0_t3 trip_k0_t3
  dsimp only
  sl_unfold_words
  simp only [View.readAt_eq_ld, h2.read_unread]
  intro p hp
  obtain rfl := List.mem_singleton.mp hp
  intro x
  have r := reads (D := D) hk (k0_off5_inb i k h) (k0_off6_inb i k h) (k0_off5_eq k) (k0_off6_eq k)
  exact (congrFun (pay4_eq k hk _ _) x).trans <| stores r (by decide) (sums8 r 8 (by decide)) (k0_off5_inb i k h) (k0_off5_eq k) x

theorem pieces3 (c : Dev nD) (i : grid0.Coords) (arg2 : Memref sig .tc .vmem S4096x256 .f32) (h2 : arg2.IsWhole) (arg3 : Memref sig .tc .hbm S4096x8192 .bf16) (h3 : arg3.IsWhole) (arg4 : Memref sig .tc .vmem S4096x256 .bf16) (h4 : arg4.IsWhole) (h : k0_cond3 i = 1#1)
    (D : S4096x256.Idx → EReal) : ∀ n, n ≤ k0_t3_loop.trips →
    ∀ p ∈ pb_k0_t3 (F := Ideal) Variants.none c none i arg2 h2 arg3 h3 arg4 h4 h (h2.unread D) n, ∀ x : p.1.shape.Idx, p.2 x = mixed 8 D (p.1.emb x)
  | 0, _, p, hp => absurd hp List.not_mem_nil
  | n + 1, hn, p, hp => by
    rw [pb_k0_t3_succ _ _ _ _ _ _ _ _ _ _ _ _ ⟨n, hn⟩] at hp
    rcases List.mem_append.mp hp with hp | hp
    · exact trip3 c i arg2 h2 arg3 h3 arg4 h4 h D ⟨n, hn⟩ p hp
    · exact pieces3 c i arg2 h2 arg3 h3 arg4 h4 h D n (Nat.le_of_succ_le hn) p hp

theorem out3 (c : Dev nD) (i : grid0.Coords) (arg2 : Memref sig .tc .vmem S4096x256 .f32) (h2 : arg2.IsWhole) (arg4 : Memref sig .tc .vmem S4096x256 .bf16) (h4 : arg4.IsWhole)
    (e0 : ¬cond0_0 i) (e1 : ¬cond0_1 i) (e2 : cond0_2 i) (e3 : ¬cond0_3 i) (D : Vec Ideal S4096x256 .f32) :
    out0_C_1 c i arg2 h2 arg4 h4 e0 e1 e2 e3 D = mixed 8 D := by
  unfold out0_C_1
  rw [View.read_writes_eq_canon _ _ _ (cover0_C_1 c i arg2 h2 arg4 h4 e0 e1 e2 e3 D)]
  funext y
  refine View.canon_apply_of_pieces (mixed 8 D) _ ?_ y (cover0_C_1 c i arg2 h2 arg4 h4 e0 e1 e2 e3 D y)
  unfold kernelRun0_C
  dsimp only
  exact pieces3 c i arg2 h2 _ _ arg4 h4 _ D _ le_rfl

/-- Windows of 16 rows: each trip's piece, all trips' pieces, and the block they leave. -/
theorem trip4 (c : Dev nD) (i : grid0.Coords) (arg2 : Memref sig .tc .vmem S4096x256 .f32) (h2 : arg2.IsWhole) (arg3 : Memref sig .tc .hbm S4096x8192 .bf16) (h3 : arg3.IsWhole) (arg4 : Memref sig .tc .vmem S4096x256 .bf16) (h4 : arg4.IsWhole) (h : k0_cond4 i = 1#1)
    (D : S4096x256.Idx → EReal) (k : Fin k0_t4_loop.trips) :
    ∀ p ∈ tripL_k0_t4 (F := Ideal) Variants.none c none i arg2 h2 arg3 h3 arg4 h4 h (h2.unread D) k, ∀ x : p.1.shape.Idx, p.2 x = mixed 16 D (p.1.emb x) := by
  have hk : k.val < 8 := Nat.lt_of_lt_of_le k.isLt k0_t4_abs.2.1
  unfold tripL_k0_t4 trip_k0_t4
  dsimp only
  sl_unfold_words
  simp only [View.readAt_eq_ld, h2.read_unread]
  intro p hp
  obtain rfl := List.mem_singleton.mp hp
  intro x
  have r := reads (D := D) hk (k0_off7_inb i k h) (k0_off8_inb i k h) (k0_off7_eq k) (k0_off8_eq k)
  exact (congrFun (pay5_eq k hk _ _) x).trans <| stores r (by decide) (sums16 r 16 (by decide)) (k0_off7_inb i k h) (k0_off7_eq k) x

theorem pieces4 (c : Dev nD) (i : grid0.Coords) (arg2 : Memref sig .tc .vmem S4096x256 .f32) (h2 : arg2.IsWhole) (arg3 : Memref sig .tc .hbm S4096x8192 .bf16) (h3 : arg3.IsWhole) (arg4 : Memref sig .tc .vmem S4096x256 .bf16) (h4 : arg4.IsWhole) (h : k0_cond4 i = 1#1)
    (D : S4096x256.Idx → EReal) : ∀ n, n ≤ k0_t4_loop.trips →
    ∀ p ∈ pb_k0_t4 (F := Ideal) Variants.none c none i arg2 h2 arg3 h3 arg4 h4 h (h2.unread D) n, ∀ x : p.1.shape.Idx, p.2 x = mixed 16 D (p.1.emb x)
  | 0, _, p, hp => absurd hp List.not_mem_nil
  | n + 1, hn, p, hp => by
    rw [pb_k0_t4_succ _ _ _ _ _ _ _ _ _ _ _ _ ⟨n, hn⟩] at hp
    rcases List.mem_append.mp hp with hp | hp
    · exact trip4 c i arg2 h2 arg3 h3 arg4 h4 h D ⟨n, hn⟩ p hp
    · exact pieces4 c i arg2 h2 arg3 h3 arg4 h4 h D n (Nat.le_of_succ_le hn) p hp

theorem out4 (c : Dev nD) (i : grid0.Coords) (arg2 : Memref sig .tc .vmem S4096x256 .f32) (h2 : arg2.IsWhole) (arg4 : Memref sig .tc .vmem S4096x256 .bf16) (h4 : arg4.IsWhole)
    (e0 : ¬cond0_0 i) (e1 : ¬cond0_1 i) (e2 : ¬cond0_2 i) (e3 : cond0_3 i) (D : Vec Ideal S4096x256 .f32) :
    out0_D_1 c i arg2 h2 arg4 h4 e0 e1 e2 e3 D = mixed 16 D := by
  unfold out0_D_1
  rw [View.read_writes_eq_canon _ _ _ (cover0_D_1 c i arg2 h2 arg4 h4 e0 e1 e2 e3 D)]
  funext y
  refine View.canon_apply_of_pieces (mixed 16 D) _ ?_ y (cover0_D_1 c i arg2 h2 arg4 h4 e0 e1 e2 e3 D y)
  unfold kernelRun0_D
  dsimp only
  exact pieces4 c i arg2 h2 _ _ arg4 h4 _ D _ le_rfl

end Cert.PoolMixIdeal.Rows

end
-- ==== Proof.PoolingHost.lean ====
module
public import Idealize.ShloMosaic.Lib.Pipeline.Value
public import Idealize.ShloMosaic.Lib.ValueIdx
public import Idealize.ShloMosaic.Lib.KernelVsHost
public import Idealize.ShloMosaic.Lib.ShapeFacts
public import Idealize.ShloMosaic.PureOps.Ideal
public import proofs.«01_k».proof.Proof.Pooling

/-!
# The reference's operations of the pooling, read at an index

Running sums over the rows of `[1, rows, groups, columns]`, a group put into its place between zeros, rows moved up with
zeros after them, and the window sizes.
-/

@[expose] public section
noncomputable section

namespace Cert.Pooling

open Idealize.ShloMosaic ValueIdx

/-- A value whose absolute value is below infinity is real. -/
theorem real_of_abs {x : EReal} (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => exact absurd h (by simp [Ideal.cmp])
  | top => exact absurd h (by simp [Ideal.cmp])
  | coe r => exact ⟨r, rfl⟩

theorem foldl_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

theorem numel_rows (N : ℕ) : (⟨4, ![1, N, 1, 1]⟩ : Shape).numel = N := by
  rw [Shape.numel_rank4]
  show 1 * N * 1 * 1 = N
  omega

/-- Position `n` of a column of `N` rows is row `n`. -/
theorem symm_rows {N : ℕ} (n : Fin (⟨4, ![1, N, 1, 1]⟩ : Shape).numel) :
    (⟨4, ![1, N, 1, 1]⟩ : Shape).rowMajor.symm n = ix4 (0 : Fin 1) (n.cast (numel_rows N)) (0 : Fin 1) (0 : Fin 1) := by
  rw [Equiv.symm_apply_eq]
  apply Fin.ext
  rw [Shape.rowMajor_val_four]
  show n.val = ((0 * N + n.val) * 1 + 0) * 1 + 0
  omega

/-- A sum over a window of all rows that starts `L` rows before a row. -/
theorem windowSum {N G C : ℕ} (L H : ℕ) (x : FVec Ideal ⟨4, ![1, N, G, C]⟩ .f32) (init : FVec Ideal ⟨0, ![]⟩ .f32)
    (h : (⟨4, ![1, N, G, C]⟩ : Shape).ReduceWindows (![1, N, 1, 1] : Fin 4 → ℕ) ![1, 1, 1, 1] ![0, L, 0, 0] ![0, H, 0, 0] ⟨4, ![1, N, G, C]⟩)
    (hu : 0 < (⟨0, ![]⟩ : Shape).numel) (h0 : init (Shape.Idx.first hu) = 0) (n : Fin N) (g : Fin G) (c : Fin C) :
    Host.reduceWindowAdd (F := Ideal) ![1, N, 1, 1] ![1, 1, 1, 1] ![0, L, 0, 0] ![0, H, 0, 0] x init h hu (ix4 (0 : Fin 1) n g c)
      = ∑ k ∈ Finset.range N, if hk : L ≤ n.val + k ∧ n.val + k - L < N then x (ix4 (0 : Fin 1) (⟨n.val + k - L, hk.2⟩ : Fin N) g c) else 0 := by
  show (List.finRange (⟨4, ![1, N, 1, 1]⟩ : Shape).numel).foldl _ (init (Shape.Idx.first hu)) = _
  rw [h0]
  refine (foldl_add (fun k => _) _ _).trans ?_
  rw [zero_add, ← Fin.sum_univ_def]
  refine Eq.trans (Finset.sum_congr rfl fun k _ => ?_) ((Fin.sum_univ_eq_sum_range (fun k => if hk : L ≤ n.val + k ∧ n.val + k - L < N then
    x (ix4 (0 : Fin 1) (⟨n.val + k - L, hk.2⟩ : Fin N) g c) else 0) _).trans (by rw [numel_rows]))
  have w0 : ((⟨4, ![1, N, 1, 1]⟩ : Shape).rowMajor.symm k 0).val = 0 := by rw [symm_rows]; rfl
  have w1 : ((⟨4, ![1, N, 1, 1]⟩ : Shape).rowMajor.symm k 1).val = k.val := by rw [symm_rows]; rfl
  have w2 : ((⟨4, ![1, N, 1, 1]⟩ : Shape).rowMajor.symm k 2).val = 0 := by rw [symm_rows]; rfl
  have w3 : ((⟨4, ![1, N, 1, 1]⟩ : Shape).rowMajor.symm k 3).val = 0 := by rw [symm_rows]; rfl
  by_cases hk : L ≤ n.val + k.val ∧ n.val + k.val - L < N
  · rw [dif_pos hk]
    refine (dif_pos fun a => ?_).trans (congrArg x (funext fun a => Fin.ext ?_))
    · match a with
      | ⟨0, _⟩ => show 0 ≤ 0 * 1 + _ ∧ 0 * 1 + ((⟨4, ![1, N, 1, 1]⟩ : Shape).rowMajor.symm k 0).val - 0 < 1; rw [w0]; omega
      | ⟨1, _⟩ => show L ≤ n.val * 1 + ((⟨4, ![1, N, 1, 1]⟩ : Shape).rowMajor.symm k 1).val ∧ n.val * 1 + ((⟨4, ![1, N, 1, 1]⟩ : Shape).rowMajor.symm k 1).val - L < N; rw [w1]; omega
      | ⟨2, _⟩ => show 0 ≤ g.val * 1 + _ ∧ g.val * 1 + ((⟨4, ![1, N, 1, 1]⟩ : Shape).rowMajor.symm k 2).val - 0 < G; rw [w2]; omega
      | ⟨3, _⟩ => show 0 ≤ c.val * 1 + _ ∧ c.val * 1 + ((⟨4, ![1, N, 1, 1]⟩ : Shape).rowMajor.symm k 3).val - 0 < C; rw [w3]; omega
    · match a with
      | ⟨0, _⟩ => show 0 * 1 + ((⟨4, ![1, N, 1, 1]⟩ : Shape).rowMajor.symm k 0).val - 0 = 0; rw [w0]
      | ⟨1, _⟩ => show n.val * 1 + ((⟨4, ![1, N, 1, 1]⟩ : Shape).rowMajor.symm k 1).val - L = n.val + k.val - L; rw [w1]; omega
      | ⟨2, _⟩ => show g.val * 1 + ((⟨4, ![1, N, 1, 1]⟩ : Shape).rowMajor.symm k 2).val - 0 = g.val; rw [w2]; omega
      | ⟨3, _⟩ => show c.val * 1 + ((⟨4, ![1, N, 1, 1]⟩ : Shape).rowMajor.symm k 3).val - 0 = c.val; rw [w3]; omega
  · rw [dif_neg hk]
    refine (dif_neg fun hin => hk ?_).trans rfl
    have q := hin 1
    change L ≤ n.val * 1 + ((⟨4, ![1, N, 1, 1]⟩ : Shape).rowMajor.symm k 1).val ∧ n.val * 1 + ((⟨4, ![1, N, 1, 1]⟩ : Shape).rowMajor.symm k 1).val - L < N at q
    rw [w1] at q
    omega

/-- A group put at place `p` of `G` groups, zeros in the others. -/
theorem placed {N G C : ℕ} (p r : ℕ) (x : FVec Ideal ⟨4, ![1, N, 1, C]⟩ .f32) (v : FVec Ideal ⟨0, ![]⟩ .f32)
    (h : (⟨4, ![1, N, 1, C]⟩ : Shape).Pads (![0, 0, p, 0] : Fin 4 → ℕ) ![0, 0, r, 0] ![0, 0, 0, 0] ⟨4, ![1, N, G, C]⟩)
    (hu : 0 < (⟨0, ![]⟩ : Shape).numel) (h0 : v (Shape.Idx.first hu) = 0) (n : Fin N) (g : Fin G) (c : Fin C) :
    pad ⟨4, ![1, N, G, C]⟩ ![0, 0, p, 0] ![0, 0, r, 0] ![0, 0, 0, 0] x v h hu (ix4 (0 : Fin 1) n g c)
      = if g.val = p then x (ix4 (0 : Fin 1) n (0 : Fin 1) c) else 0 := by
  by_cases hg : g.val = p
  · rw [if_pos hg]
    exact pad_apply_of_inside _ _ _ x v h hu _ _ fun a => match a with
      | ⟨0, _⟩ => rfl
      | ⟨1, _⟩ => show n.val = 0 + n.val * (0 + 1) by omega
      | ⟨2, _⟩ => show g.val = p + 0 * (0 + 1) by omega
      | ⟨3, _⟩ => show c.val = 0 + c.val * (0 + 1) by omega
  · rw [if_neg hg]
    refine (pad_apply_of_not_inside _ _ _ x v h hu _ 2 ?_).trans h0
    show ¬(p ≤ g.val ∧ (g.val - p) % (0 + 1) = 0 ∧ (g.val - p) / (0 + 1) < 1)
    omega

/-- Rows less the rows `w` further on, the last `w` rows kept. -/
theorem differences {N M w C : ℕ} (hM : M + w = N) (q : FVec Ideal ⟨3, ![1, N, C]⟩ .f32) (v : FVec Ideal ⟨0, ![]⟩ .f32)
    (hs : (⟨3, ![1, N, C]⟩ : Shape).Slices ![0, w, 0] ⟨3, ![1, M, C]⟩)
    (h : (⟨3, ![1, M, C]⟩ : Shape).Pads (![0, 0, 0] : Fin 3 → ℕ) ![0, w, 0] ![0, 0, 0] ⟨3, ![1, N, C]⟩)
    (hu : 0 < (⟨0, ![]⟩ : Shape).numel) (h0 : v (Shape.Idx.first hu) = 0) (n : Fin N) (c : Fin C) :
    addf q (pad ⟨3, ![1, N, C]⟩ ![0, 0, 0] ![0, w, 0] ![0, 0, 0] (extractStridedSlice ⟨3, ![1, M, C]⟩ ![0, w, 0] (Host.negf q) hs) v h hu)
        (ix3 (0 : Fin 1) n c)
      = q (ix3 (0 : Fin 1) n c) + if hn : n.val + w < N then -q (ix3 (0 : Fin 1) (⟨n.val + w, hn⟩ : Fin N) c) else 0 := by
  refine congrArg (q (ix3 (0 : Fin 1) n c) + ·) ?_
  by_cases hn : n.val + w < N
  · rw [dif_pos hn]
    refine (pad_apply_of_inside _ _ _ _ v h hu _ (ix3 (0 : Fin 1) (⟨n.val, by omega⟩ : Fin M) c) fun a => match a with
      | ⟨0, _⟩ => rfl
      | ⟨1, _⟩ => show n.val = 0 + n.val * (0 + 1) by omega
      | ⟨2, _⟩ => show c.val = 0 + c.val * (0 + 1) by omega).trans ?_
    exact extractStridedSlice_apply _ (Host.negf q) hs _ (ix3 (0 : Fin 1) (⟨n.val + w, hn⟩ : Fin N) c) fun a => match a with
      | ⟨0, _⟩ => rfl
      | ⟨1, _⟩ => show n.val + w = w + n.val by omega
      | ⟨2, _⟩ => show c.val = 0 + c.val by omega
  · rw [dif_neg hn]
    refine (pad_apply_of_not_inside _ _ _ _ v h hu _ 1 ?_).trans h0
    show ¬(0 ≤ n.val ∧ (n.val - 0) % (0 + 1) = 0 ∧ (n.val - 0) / (0 + 1) < M)
    omega

/-- The reference's word of a window's size: row `k` and one, at most `w`. -/
theorem host_count (k w : ℕ) (hk : k < 2 ^ 20) (hw : w < 2 ^ 20) :
    (((IntOp.minsi (IntOp.addi (BitVec.ofNat 32 k) 1#32) (BitVec.ofNat 32 w)).toInt : ℝ) : EReal) = count w k := by
  have e := toInt_count 0#32 k w (by simpa using hk) hw
  have z : IntOp.addi 0#32 (BitVec.ofNat 32 k) = BitVec.ofNat 32 k := BitVec.zero_add _
  rw [z] at e
  rw [e]
  have z2 : (0#32 : BitVec 32).toNat = 0 := rfl
  rw [z2, Nat.zero_add]
  rfl

/-- The sum over all later rows of the differences of the shares is the sum of the window's shares. -/
theorem tails_coe (N w r : ℕ) (q : ℕ → ℝ) (hq : ∀ n, N ≤ n → q n = 0) :
    (∑ n ∈ Finset.range N, if r + n < N then ((q (r + n) : ℝ) : EReal) + (if r + n + w < N then -((q (r + n + w) : ℝ) : EReal) else 0) else 0)
      = ∑ t ∈ Finset.range w, ((q (r + t) : ℝ) : EReal) := by
  have e : ∀ n ∈ Finset.range N, (if r + n < N then ((q (r + n) : ℝ) : EReal) + (if r + n + w < N then -((q (r + n + w) : ℝ) : EReal) else 0) else 0)
      = (((if r + n < N then q (r + n) - q (r + n + w) else 0 : ℝ)) : EReal) := by
    intro n _
    by_cases h : r + n < N
    · rw [if_pos h, if_pos h]
      by_cases h' : r + n + w < N
      · rw [if_pos h', sub_eq_add_neg, EReal.coe_add, EReal.coe_neg]
      · rw [if_neg h', hq (r + n + w) (by omega), sub_zero, add_zero]
    · rw [if_neg h, if_neg h, EReal.coe_zero]
  rw [Finset.sum_congr rfl e]
  have s : ∀ (M : ℕ) (f : ℕ → ℝ), (∑ n ∈ Finset.range M, ((f n : ℝ) : EReal)) = ((∑ n ∈ Finset.range M, f n : ℝ) : EReal) := by
    intro M f
    induction M with
    | zero => simp
    | succ M ih => rw [Finset.sum_range_succ, Finset.sum_range_succ, ih, EReal.coe_add]
  rw [s, s, tails N w r q hq]

end Cert.Pooling
end
-- ==== Proof.PoolMixHost.lean ====
/-
  The reference of the pooling's gradient, read at an index: per group of 1024 columns the rows divided by their windows'
  sizes, less the rows a window further on; the sums over all later rows of that; and the incoming gradient taken off.
-/
module

public import proofs.«01_k».proof.Defs
public import proofs.«01_k».proof.Proof.Gen.PoolMixRefIdeal.Read
public import proofs.«01_k».proof.Proof.PoolingHost
public import Idealize.ShloMosaic.Lib.Pipeline.Value
public import Idealize.ShloMosaic.Lib.ValueIdx

@[expose] public section

noncomputable section

open Idealize.ShloMosaic Idealize.ShloMosaic.ValueIdx

namespace Cert.PoolMixRefIdeal.Rows

open Cert.PoolMixRefIdeal Cert.PoolMixRefIdeal.Gen Cert.PoolMixRefIdeal.Read Cert.Pooling

/-- Column `c` of group `g`. -/
def col (g : Fin 4) (c : Fin 1024) : Fin 4096 := ⟨g.val * 1024 + c.val, by omega⟩

/-- A row divided by its window's size. -/
def part (w : ℕ) (X : S4096x4096.Idx → EReal) (n : Fin 4096) (k : Fin 4096) : EReal := Ideal.div (X (ix2 n k)) (count w n.val)

theorem array_at (X : S4096x4096.Idx → EReal) (i : S1x4096x4x1024.Idx) (n k : Fin 4096) (hn : (i 1).val = n.val)
    (hk : (i 2).val * 1024 + (i 3).val = k.val) : val_main_v66 (F := Ideal) X i = X (ix2 n k) := by
  have h0 : (i 0).val < 1 := (i 0).isLt
  have h2 : (i 2).val < 4 := (i 2).isLt
  have h3 : (i 3).val < 1024 := (i 3).isLt
  rw [val_main_v66_apply, val_main_v65_apply]
  refine congrArg X (Shape.idx_ext₂ ?_ ?_)
  · show ((((i 0).val * 4096 + (i 1).val) * 4 + (i 2).val) * 1024 + (i 3).val) / 4096 % 4096 = n.val
    omega
  · show ((((i 0).val * 4096 + (i 1).val) * 4 + (i 2).val) * 1024 + (i 3).val) % 4096 = k.val
    omega

theorem row_eq (n : Fin 4096) (w : ℕ) (hw : w < 2 ^ 20) (i : S4096.Idx) (hi : (i 0).val = n.val) :
    (((IntOp.minsi (val_main_v5 (F := Ideal) i) (BitVec.ofNat 32 w)).toInt : ℝ) : EReal) = count w n.val := by
  rw [val_main_v5_apply, val_main_v4_apply, val_main_c_apply, val_main_v3_apply, hi, show ∀ a b, IntOp.addi a b = IntOp.addi b a from BitVec.add_comm]
  exact host_count n.val w (by omega) hw

/-- What a group's chain leaves at a row: its part, less the part of the row a window further on. -/
def step (w : ℕ) (X : S4096x4096.Idx → EReal) (n : Fin 4096) (k : Fin 4096) : EReal :=
  part w X n k + if hn : n.val + w < 4096 then -part w X ⟨n.val + w, hn⟩ k else 0

theorem zero_first (v : FVec Ideal S_ .f32) (h : ∀ i, v i = Ideal.ofBits .f32 0x00000000#32) (hu : 0 < S_.numel) :
    v (Shape.Idx.first hu) = 0 := (h _).trans Ideal.ofBits_zero_f32

theorem part0 (X : S4096x4096.Idx → EReal) (n : Fin 4096) (c : Fin 1024) :
    val_main_v106 (F := Ideal) X (ix3 (0 : Fin 1) n c) = part 2 X n (col 0 c) := by
  refine congrArg₂ Ideal.div ?_ ?_
  · rw [val_main_v69_apply, val_main_v68_apply]
    exact array_at X _ n (col 0 c) (by show ((0 * 4096 + n.val) * 1024 + c.val) / 1024 % 4096 = n.val; omega)
      (by show 0 * 1024 + ((0 * 4096 + n.val) * 1024 + c.val) % 1024 = 0 * 1024 + c.val; omega)
  · rw [val_main_v105_apply, val_main_v15_apply, val_main_v14_apply]
    exact row_eq n 2 (by decide) _ rfl

theorem step0 (X : S4096x4096.Idx → EReal) (n : Fin 4096) (c : Fin 1024) :
    val_main_v111 (F := Ideal) X (ix3 (0 : Fin 1) n c) = step 2 X n (col 0 c) := by
  refine (differences (N := 4096) (M := 4094) (w := 2) rfl (val_main_v106 (F := Ideal) X) _ _ _ h_S_ (zero_first _ val_main_cst_18_apply h_S_) n c).trans ?_
  simp only [part0]
  rfl

theorem part1 (X : S4096x4096.Idx → EReal) (n : Fin 4096) (c : Fin 1024) :
    val_main_v96 (F := Ideal) X (ix3 (0 : Fin 1) n c) = part 4 X n (col 1 c) := by
  refine congrArg₂ Ideal.div ?_ ?_
  · rw [val_main_v71_apply, val_main_v70_apply]
    exact array_at X _ n (col 1 c) (by show ((0 * 4096 + n.val) * 1024 + c.val) / 1024 % 4096 = n.val; omega)
      (by show 1 * 1024 + ((0 * 4096 + n.val) * 1024 + c.val) % 1024 = 1 * 1024 + c.val; omega)
  · rw [val_main_v95_apply, val_main_v28_apply, val_main_v27_apply]
    exact row_eq n 4 (by decide) _ rfl

theorem step1 (X : S4096x4096.Idx → EReal) (n : Fin 4096) (c : Fin 1024) :
    val_main_v101 (F := Ideal) X (ix3 (0 : Fin 1) n c) = step 4 X n (col 1 c) := by
  refine (differences (N := 4096) (M := 4092) (w := 4) rfl (val_main_v96 (F := Ideal) X) _ _ _ h_S_ (zero_first _ val_main_cst_16_apply h_S_) n c).trans ?_
  simp only [part1]
  rfl

theorem part2 (X : S4096x4096.Idx → EReal) (n : Fin 4096) (c : Fin 1024) :
    val_main_v86 (F := Ideal) X (ix3 (0 : Fin 1) n c) = part 8 X n (col 2 c) := by
  refine congrArg₂ Ideal.div ?_ ?_
  · rw [val_main_v73_apply, val_main_v72_apply]
    exact array_at X _ n (col 2 c) (by show ((0 * 4096 + n.val) * 1024 + c.val) / 1024 % 4096 = n.val; omega)
      (by show 2 * 1024 + ((0 * 4096 + n.val) * 1024 + c.val) % 1024 = 2 * 1024 + c.val; omega)
  · rw [val_main_v85_apply, val_main_v41_apply, val_main_v40_apply]
    exact row_eq n 8 (by decide) _ rfl

theorem step2 (X : S4096x4096.Idx → EReal) (n : Fin 4096) (c : Fin 1024) :
    val_main_v91 (F := Ideal) X (ix3 (0 : Fin 1) n c) = step 8 X n (col 2 c) := by
  refine (differences (N := 4096) (M := 4088) (w := 8) rfl (val_main_v86 (F := Ideal) X) _ _ _ h_S_ (zero_first _ val_main_cst_14_apply h_S_) n c).trans ?_
  simp only [part2]
  rfl

theorem part3 (X : S4096x4096.Idx → EReal) (n : Fin 4096) (c : Fin 1024) :
    val_main_v77 (F := Ideal) X (ix3 (0 : Fin 1) n c) = part 16 X n (col 3 c) := by
  refine congrArg₂ Ideal.div ?_ ?_
  · rw [val_main_v75_apply, val_main_v74_apply]
    exact array_at X _ n (col 3 c) (by show ((0 * 4096 + n.val) * 1024 + c.val) / 1024 % 4096 = n.val; omega)
      (by show 3 * 1024 + ((0 * 4096 + n.val) * 1024 + c.val) % 1024 = 3 * 1024 + c.val; omega)
  · rw [val_main_v76_apply, val_main_v54_apply, val_main_v53_apply]
    exact row_eq n 16 (by decide) _ rfl

theorem step3 (X : S4096x4096.Idx → EReal) (n : Fin 4096) (c : Fin 1024) :
    val_main_v82 (F := Ideal) X (ix3 (0 : Fin 1) n c) = step 16 X n (col 3 c) := by
  refine (differences (N := 4096) (M := 4080) (w := 16) rfl (val_main_v77 (F := Ideal) X) _ _ _ h_S_ (zero_first _ val_main_cst_12_apply h_S_) n c).trans ?_
  simp only [part3]
  rfl

/-- The four groups put together. -/
theorem steps (X : S4096x4096.Idx → EReal) (n : Fin 4096) (g : Fin 4) (c : Fin 1024) :
    val_main_v114 (F := Ideal) X (ix4 (0 : Fin 1) n g c) = step (2 ^ (g.val + 1)) X n (col g c) := by
  have e3 := placed (N := 4096) (G := 4) (C := 1024) 3 0 (val_main_v83 (F := Ideal) X) (val_main_cst_13 (F := Ideal)) pads_S1x4096x1x1024_S1x4096x4x1024_000_000_300_000 h_S_ (zero_first (val_main_cst_13 (F := Ideal)) val_main_cst_13_apply h_S_) n g c
  have e2 := placed (N := 4096) (G := 4) (C := 1024) 2 1 (val_main_v92 (F := Ideal) X) (val_main_cst_15 (F := Ideal)) pads_S1x4096x1x1024_S1x4096x4x1024_000_000_210_000 h_S_ (zero_first (val_main_cst_15 (F := Ideal)) val_main_cst_15_apply h_S_) n g c
  have e1 := placed (N := 4096) (G := 4) (C := 1024) 1 2 (val_main_v102 (F := Ideal) X) (val_main_cst_17 (F := Ideal)) pads_S1x4096x1x1024_S1x4096x4x1024_000_000_120_000 h_S_ (zero_first (val_main_cst_17 (F := Ideal)) val_main_cst_17_apply h_S_) n g c
  have e0 := placed (N := 4096) (G := 4) (C := 1024) 0 3 (val_main_v112 (F := Ideal) X) (val_main_cst_19 (F := Ideal)) pads_S1x4096x1x1024_S1x4096x4x1024_000_000_030_000 h_S_ (zero_first (val_main_cst_19 (F := Ideal)) val_main_cst_19_apply h_S_) n g c
  refine (congrArg₂ (fun a b : EReal => a + b) (congrArg₂ (fun a b : EReal => a + b) (congrArg₂ (fun a b : EReal => a + b) e3 e2) e1) e0).trans ?_
  rw [val_main_v83_apply, val_main_v92_apply, val_main_v102_apply, val_main_v112_apply]
  have s3 := step3 X n c
  have s2 := step2 X n c
  have s1 := step1 X n c
  have s0 := step0 X n c
  have at3 : ∀ (x : S1x4096x1024.Idx → EReal) (j : S1x4096x1024.Idx), (j 1).val = n.val → (j 2).val = c.val → x j = x (ix3 (0 : Fin 1) n c) := by
    intro x j h1 h2
    refine congrArg x (funext fun a => Fin.ext ?_)
    match a with
    | ⟨0, _⟩ => have h0 : (j 0).val < 1 := (j 0).isLt; show (j 0).val = 0; omega
    | ⟨1, _⟩ => exact h1
    | ⟨2, _⟩ => exact h2
  rw [at3 (val_main_v82 (F := Ideal) X) _ rfl rfl, at3 (val_main_v91 (F := Ideal) X) _ rfl rfl, at3 (val_main_v101 (F := Ideal) X) _ rfl rfl,
    at3 (val_main_v111 (F := Ideal) X) _ rfl rfl, s3, s2, s1, s0]
  match g with
  | ⟨0, _⟩ => exact (congrArg (· + _) ((congrArg (· + _) (add_zero 0)).trans (add_zero 0))).trans (zero_add _)
  | ⟨1, _⟩ => exact (add_zero _).trans ((congrArg (· + _) (add_zero 0)).trans (zero_add _))
  | ⟨2, _⟩ => exact (add_zero _).trans ((add_zero _).trans (zero_add _))
  | ⟨3, _⟩ => exact (add_zero _).trans ((add_zero _).trans (add_zero _))

/-- A part of real rows is real. -/
def real (w : ℕ) (X : S4096x4096.Idx → ℝ) (k : Fin 4096) (n : ℕ) : ℝ :=
  if h : n < 4096 then X (ix2 (⟨n, h⟩ : Fin 4096) k) * (1 / ((min (n + 1) w : ℕ) : ℝ)) else 0

theorem part_real {w : ℕ} (hw : 0 < w) (X : S4096x4096.Idx → ℝ) (n k : Fin 4096) : part w (fun i => ((X i : ℝ) : EReal)) n k = ((real w X k n.val : ℝ) : EReal) := by
  unfold part real Cert.Pooling.count
  rw [dif_pos n.isLt, Ideal.div_coe (Nat.cast_ne_zero.mpr (by omega)), EReal.coe_mul]

/-- The sums over all later rows are the windows' sums. -/
theorem windows (X : S4096x4096.Idx → ℝ) (n : Fin 4096) (g : Fin 4) (c : Fin 1024) :
    val_main_v115 (F := Ideal) (fun i => ((X i : ℝ) : EReal)) (ix4 (0 : Fin 1) n g c)
      = ∑ t ∈ Finset.range (2 ^ (g.val + 1)), ((real (2 ^ (g.val + 1)) X (col g c) (n.val + t) : ℝ) : EReal) := by
  have hw : 0 < 2 ^ (g.val + 1) := Nat.pow_pos (by decide)
  refine (windowSum (N := 4096) (G := 4) (C := 1024) 0 4095 (val_main_v114 (F := Ideal) fun i => ((X i : ℝ) : EReal)) _ _ h_S_ ?_ n g c).trans ?_
  · exact zero_first _ (fun i => (val_main_call1_call0_v0_apply i).trans (val_main_call1_call0_cst_apply _)) h_S_
  · refine Eq.trans (Finset.sum_congr rfl fun k _ => ?_)
      (tails_coe 4096 (2 ^ (g.val + 1)) n.val (real (2 ^ (g.val + 1)) X (col g c)) fun m hm => dif_neg (by omega))
    by_cases h : n.val + k < 4096
    · rw [if_pos h, dif_pos ⟨Nat.zero_le _, h⟩]
      refine (steps _ ⟨n.val + k, h⟩ g c).trans ?_
      unfold step
      rw [part_real hw]
      refine congrArg (_ + ·) ?_
      by_cases h' : n.val + k + 2 ^ (g.val + 1) < 4096
      · rw [if_pos h', dif_pos h', part_real hw]
      · rw [if_neg h', dif_neg h']
    · rw [if_neg h, dif_neg fun q => h q.2]

/-- The pooled columns of the reference's result. -/
theorem columns (X : S4096x4096.Idx → ℝ) (n k : Fin 4096) :
    val_main_v119 (F := Ideal) (fun i => ((X i : ℝ) : EReal)) (ix2 n k)
      = (∑ t ∈ Finset.range (2 ^ (k.val / 1024 + 1)), ((real (2 ^ (k.val / 1024 + 1)) X k (n.val + t) : ℝ) : EReal)) - ((X (ix2 n k) : ℝ) : EReal) := by
  let g : Fin 4 := ⟨k.val / 1024, by omega⟩
  let c : Fin 1024 := ⟨k.val % 1024, Nat.mod_lt _ (by decide)⟩
  have hc : col g c = k := Fin.ext (show k.val / 1024 * 1024 + k.val % 1024 = k.val by omega)
  have e := windows X n g c
  rw [hc] at e
  rw [val_main_v119_apply]
  show val_main_v118 (F := Ideal) (fun i => ((X i : ℝ) : EReal)) (ix2 n k) = _
  rw [val_main_v118_apply, val_main_v117_apply]
  refine Eq.trans (congrArg (val_main_v116 (F := Ideal) fun i => ((X i : ℝ) : EReal)) (funext fun a => Fin.ext ?_ : _ = ix4 (0 : Fin 1) n g c)) ?_
  · match a with
    | ⟨0, _⟩ => rfl
    | ⟨1, _⟩ => show ((0 * 4096 + (n.val * 4096 + k.val) / 4096 % 4096) * 4096 + (n.val * 4096 + k.val) % 4096) / 4096 % 4096 = n.val; omega
    | ⟨2, _⟩ => show ((0 * 4096 + (n.val * 4096 + k.val) / 4096 % 4096) * 4096 + (n.val * 4096 + k.val) % 4096) / 1024 % 4 = k.val / 1024; omega
    | ⟨3, _⟩ => show ((0 * 4096 + (n.val * 4096 + k.val) / 4096 % 4096) * 4096 + (n.val * 4096 + k.val) % 4096) % 1024 = k.val % 1024; omega
  · show -(val_main_v66 (F := Ideal) (fun i => ((X i : ℝ) : EReal)) (ix4 (0 : Fin 1) n g c)) + val_main_v115 (F := Ideal) _ (ix4 (0 : Fin 1) n g c) = _
    have a : val_main_v66 (F := Ideal) (fun i => ((X i : ℝ) : EReal)) (ix4 (0 : Fin 1) n g c) = ((X (ix2 n k) : ℝ) : EReal) :=
      array_at (fun i => ((X i : ℝ) : EReal)) (ix4 (0 : Fin 1) n g c) n k rfl (show k.val / 1024 * 1024 + k.val % 1024 = k.val by omega)
    rw [e, a, add_comm, sub_eq_add_neg]

end Cert.PoolMixRefIdeal.Rows

end
-- ==== Proof.PoolMixValue.lean ====
/-
  The pooling's gradient as one array: what the 16 grid points of the call leave in it, and that the columns they do not
  write keep what they held.
-/
module

public import proofs.«01_k».proof.Proof.PoolMixStores
public import proofs.«01_k».proof.Proof.PoolMixHost

@[expose] public section

noncomputable section

open Idealize.ShloMosaic Idealize.ShloMosaic.TcCoe Idealize.SL.Sem Idealize.ShloMosaic.ValueIdx
open Idealize.ShloMosaic.Pipeline (Dat)

namespace Cert.PoolMixIdeal.Rows

open Cert.PoolMixIdeal Cert.PoolMixIdeal.Gen Cert.Pooling

/-- Row `n` of the incoming gradient divided by its window's size, and zero from row 4096 on. -/
def share (w : ℕ) (X : S4096x4096.Idx → EReal) (n : ℕ) (c : Fin 4096) : EReal :=
  if h : n < 4096 then Ideal.div (X (ix2 (⟨n, h⟩ : Fin 4096) c)) (count w n) else 0

/-- The gradient in the pooled columns: the windows of the shares, less the incoming gradient. -/
def pooled (w : ℕ) (X : S4096x4096.Idx → EReal) (n : ℕ) (c : Fin 4096) (hn : n < 4096) : EReal :=
  (∑ t ∈ Finset.range w, share w X (n + t) c) - X (ix2 (⟨n, hn⟩ : Fin 4096) c)

/-- Column `c`'s window. -/
def window (c : ℕ) : ℕ := 2 ^ (c / 1024 + 1)

/-- The result: the gradient in the first 4096 columns, what the array held in the others. -/
def whole (X : S4096x4096.Idx → EReal) (Y : S4096x8192.Idx → EReal) : S4096x8192.Idx → EReal := fun i =>
  if h : (i 1).val < 4096 then pooled (window (i 1).val) X (i 0).val ⟨(i 1).val, h⟩ (i 0).isLt else Y i

/-- On real rows the shares are the reference's. -/
theorem pooled_real {w : ℕ} (hw : 0 < w) (X : S4096x4096.Idx → ℝ) (n k : Fin 4096) :
    pooled w (fun i => ((X i : ℝ) : EReal)) n.val k n.isLt
      = (∑ t ∈ Finset.range w, ((Cert.PoolMixRefIdeal.Rows.real w X k (n.val + t) : ℝ) : EReal)) - ((X (ix2 n k) : ℝ) : EReal) := by
  refine congrArg (· - _) (Finset.sum_congr rfl fun t _ => ?_)
  unfold share
  by_cases h : n.val + t < 4096
  · rw [dif_pos h]
    exact Cert.PoolMixRefIdeal.Rows.part_real hw X ⟨n.val + t, h⟩ k
  · rw [dif_neg h, Cert.PoolMixRefIdeal.Rows.real, dif_neg h, EReal.coe_zero]

theorem index_facts : ∀ t : Fin grid0.N, win0_0.index t 0 = 0 ∧ win0_1.index t 0 = 0 ∧ win0_0.index t 1 = t.val ∧ win0_1.index t 1 = t.val := by
  decide +kernel

variable (m : (ℓ : Loc nD τ sig) → Buf (Elt Ideal) ℓ)

abbrev X (c : Dev nD) : S4096x4096.Idx → EReal := m ((c : Thread nD τ).loc main_arg0)
abbrev Y (c : Dev nD) : S4096x8192.Idx → EReal := m ((c : Thread nD τ).loc main_arg1)

def G (c : Dev nD) : Buf (Elt Ideal) ((c : Thread nD τ).loc main_v0) := whole (X m c) (Y m c)

theorem N_eq : cfg0.N = 16 := by decide

/-- The block a point reads: all rows, the point's 256 columns. -/
theorem iblk_eq (c : Dev nD) (t : Fin cfg0.N) (y : S4096x256.Idx) (k : Fin 4096) (hk : k.val = 256 * t.val + (y 1).val) :
    iblk m c 0 t y = X m c (ix2 (y 0) k) := by
  refine (congrFun (V_main_arg0 m c) (((cfg0.win 0).blk t).view.emb y)).trans (congrArg (X m c) (Shape.idx_ext₂ ?_ ?_))
  · show win0_0.index t 0 * 4096 + 1 * (y 0).val = (y 0).val
    rw [(index_facts t).1]; omega
  · show win0_0.index t 1 * 256 + 1 * (y 1).val = k.val
    rw [(index_facts t).2.2.1, hk]; omega

/-- The array index under a block's element. -/
theorem emb_eq (t : Fin cfg0.N) (y : S4096x256.Idx) :
    ((((cfg0.win 1).blk t).view.emb y) 0).val = (y 0).val ∧ ((((cfg0.win 1).blk t).view.emb y) 1).val = 256 * t.val + (y 1).val := by
  constructor
  · show win0_1.index t 0 * 4096 + 1 * (y 0).val = (y 0).val
    rw [(index_facts t).2.1]; omega
  · show win0_1.index t 1 * 256 + 1 * (y 1).val = 256 * t.val + (y 1).val
    rw [(index_facts t).2.2.2]; omega

/-- A column block's gradient is the whole array's, read at the block's place. -/
theorem mixed_eq (c : Dev nD) (t : Fin cfg0.N) (w : ℕ) (hw : w = 2 ^ (t.val / 4 + 1)) (y : S4096x256.Idx) :
    mixed w (iblk m c 0 t) y = G m c (((cfg0.win 1).blk t).view.emb y) := by
  have ht : t.val < 16 := N_eq ▸ t.isLt
  have hy : (y 1).val < 256 := (y 1).isLt
  obtain ⟨e0, e1⟩ := emb_eq t y
  have hl : ((((cfg0.win 1).blk t).view.emb y) 1).val < 4096 := by rw [e1]; omega
  have hwin : window ((((cfg0.win 1).blk t).view.emb y) 1).val = w := by
    unfold window; rw [hw, e1]; congr 2; omega
  show _ = whole _ _ _
  unfold whole
  rw [dif_pos hl, hwin]
  unfold mixed pooled
  refine congrArg₂ (· - ·) (Finset.sum_congr rfl fun s _ => ?_) ?_
  · unfold scaled share
    rw [e0]
    by_cases h : (y 0).val + s < 4096
    · rw [dif_pos h, dif_pos h]
      exact congrArg (Ideal.div · _) (iblk_eq m c t (ix2 (⟨_, h⟩ : Fin 4096) (y 1)) _ e1)
    · rw [dif_neg h, dif_neg h]
  · exact (iblk_eq m c t y ⟨_, hl⟩ e1).trans (congrArg (X m c) (Shape.idx_ext₂ e0.symm rfl))

theorem flushed_eq (c : Dev nD) (t : Fin cfg0.N) :
    (dats m 0 c).flushed 1 t = ((cfg0.win 1).blk t).view.read (Elt Ideal) (G m c) := by
  have ht : t.val < 16 := N_eq ▸ t.isLt
  by_cases h3 : 12 ≤ t.val
  · rw [Value.flushed1_D m c t (by omega) (by omega) (by omega) h3, out4]
    funext y
    exact mixed_eq m c t 16 (by rw [show t.val / 4 = 3 by omega]; rfl) y
  by_cases h2 : t.val / 4 % 4 = 2
  · rw [Value.flushed1_C m c t (by omega) (by omega) h2 h3, out3]
    funext y
    exact mixed_eq m c t 8 (by rw [show t.val / 4 = 2 by omega]; rfl) y
  by_cases h1 : t.val / 4 % 4 = 1
  · rw [Value.flushed1_B m c t (by omega) h1 h2 h3, out2]
    funext y
    exact mixed_eq m c t 4 (by rw [show t.val / 4 = 1 by omega]; rfl) y
  · rw [Value.flushed1_A m c t (by omega) h1 h2 h3, out1]
    funext y
    exact mixed_eq m c t 2 (by rw [show t.val / 4 = 0 by omega]; rfl) y

/-- The array after the call. -/
theorem final (c : Dev nD) : (dats m 0 c).arrAt 1 cfg0.N = G m c := by
  funext i
  by_cases h : (i 1).val < 4096
  · have h0 : (i 1).val / 256 < cfg0.N := by rw [N_eq]; omega
    let y : S4096x256.Idx := ix2 (i 0) (⟨(i 1).val % 256, Nat.mod_lt _ (by decide)⟩ : Fin 256)
    have e := emb_eq ⟨(i 1).val / 256, h0⟩ y
    have hi : ((cfg0.win 1).blk ⟨(i 1).val / 256, h0⟩).view.emb y = i :=
      Shape.idx_ext₂ e.1 (e.2.trans (show 256 * ((i 1).val / 256) + (i 1).val % 256 = (i 1).val by omega))
    have r := congrFun ((Value.blocks1 m c ⟨(i 1).val / 256, h0⟩ (flush0_1 _)).trans (flushed_eq m c _)) y
    rw [View.read_apply, View.read_apply, hi] at r
    exact r
  · rw [Value.entry1 m c i]
    · refine Eq.trans ?_ (dif_neg h).symm
      rfl
    · intro t _ hi
      obtain ⟨y, -, rfl⟩ := Finset.mem_map.mp hi
      have ht : t.val < 16 := N_eq ▸ t.isLt
      have hy : (y 1).val < 256 := (y 1).isLt
      exact h (by rw [(emb_eq t y).2]; omega)

end Cert.PoolMixIdeal.Rows

namespace Cert.PoolMixValue

open Cert.PoolMixIdeal.Rows

/-- The reference's result is the same array, of real rows. -/
theorem reference (X : Cert.PoolMixIdeal.S4096x4096.Idx → ℝ) (Y : Cert.PoolMixIdeal.S4096x8192.Idx → EReal) :
    Cert.PoolMixRefIdeal.Read.val_main_v121 (F := Ideal) (fun i => ((X i : ℝ) : EReal)) Y = whole (fun i => ((X i : ℝ) : EReal)) Y := by
  funext i
  unfold whole
  have h0 : (i 0).val < 4096 := (i 0).isLt
  have h1 : (i 1).val < 8192 := (i 1).isLt
  unfold Cert.PoolMixRefIdeal.Read.val_main_v121
  by_cases h : (i 1).val < 4096
  · rw [dif_pos h]
    refine (concatenate_pair_apply_left 1 (Cert.PoolMixRefIdeal.Read.val_main_v119 (F := Ideal) fun i => ((X i : ℝ) : EReal)) (Cert.PoolMixRefIdeal.Read.val_main_v120 (F := Ideal) Y) _ i rfl (ix2 (⟨(i 0).val, h0⟩ : Fin 4096) (⟨(i 1).val, h⟩ : Fin 4096)) ?_).trans ?_
    · intro b
      match b with
      | ⟨0, _⟩ => rfl
      | ⟨1, _⟩ => rfl
    · exact (Cert.PoolMixRefIdeal.Rows.columns X ⟨(i 0).val, h0⟩ ⟨(i 1).val, h⟩).trans
        (pooled_real (Nat.pow_pos (by decide)) X ⟨(i 0).val, h0⟩ ⟨(i 1).val, h⟩).symm
  · rw [dif_neg h]
    refine (concatenate_pair_apply_right 1 (Cert.PoolMixRefIdeal.Read.val_main_v119 (F := Ideal) fun i => ((X i : ℝ) : EReal)) (Cert.PoolMixRefIdeal.Read.val_main_v120 (F := Ideal) Y) _ i rfl rfl (ix2 (⟨(i 0).val, h0⟩ : Fin 4096) (⟨(i 1).val - 4096, by omega⟩ : Fin 4096)) ?_ ?_).trans ?_
    · intro b hb
      match b with
      | ⟨0, _⟩ => rfl
      | ⟨1, _⟩ => exact absurd rfl hb
    · show (i 1).val - 4096 + 4096 = (i 1).val
      omega
    · rw [Cert.PoolMixRefIdeal.Read.val_main_v120_apply]
      refine congrArg Y (Shape.idx_ext₂ rfl ?_)
      show 4096 + ((i 1).val - 4096) = (i 1).val
      omega

/-- On equal arguments, the incoming gradient being finite, the kernel's array is the reference's. -/
theorem algebraic [hp : Cert.Pre_finite_mix.Facts] : Cert.algebraic_PoolMixIdeal_PoolMixRefIdeal_pre_finite_mix := by
  intro m ρ m' ρ' hpre hagree
  refine ⟨fun c => G m c, ?_, ?_⟩
  · exact (θ_run Cert.PoolMixIdeal.defs _ _).mono (fun r h c => ⟨(h c).1.trans (final m c), (h c).2⟩)
      (Cert.PoolMixIdeal.Value.run_blocks (F := Ideal) m ρ)
  · refine (θ_run Cert.PoolMixRefIdeal.defs _ _).mono (fun r h c => ⟨(h c).1.trans ?_, (h c).2⟩) (Cert.PoolMixRefIdeal.Value.run (F := Ideal) m' ρ')
    refine (Cert.PoolMixRefIdeal.Read.val_main_v121_eq (F := Ideal) m' c).trans ?_
    rw [(hagree c).1, (hagree c).2]
    have hx : ∀ i, ∃ r : ℝ, X m c i = (r : EReal) := fun i => Cert.Pooling.real_of_abs (congrFun (hpre c) i)
    choose x hx using hx
    have e : X m c = fun i => ((x i : ℝ) : EReal) := funext hx
    show _ = whole (X m c) (Y m c)
    rw [e]
    exact (congrArg (fun X' => Cert.PoolMixRefIdeal.Read.val_main_v121 (F := Ideal) X' (Y m c)) e).trans (reference x (Y m c))

end Cert.PoolMixValue

end
-- ==== Proof.Norms.lean ====
/-
  The root-mean-square norm's arithmetic on one row of 2048 extended reals. A row's statistic is the reciprocal square
  root of its mean square plus a small constant. The gradient the kernels compute in one formula is the sum of the three
  terms automatic differentiation finds. No entry need be finite: a row with an infinite entry has statistic zero.
-/
module

public import Idealize.ShloMosaic.PureOps.Ideal
public import Idealize.ShloMosaic.Lib.IdealHost
public import Idealize.ShloMosaic.Lib.ValueIdx
public import Idealize.ShloMosaic.Lib.ValueLayout
public import Idealize.ShloMosaic.Lib.Pipeline.Value
import Idealize.ShloMosaic.Lib.Pointwise.Reduce

@[expose] public section

noncomputable section

open Idealize.ShloMosaic hiding ix1 ix2
open Idealize.ShloMosaic.ValueIdx

namespace Cert.Norms

/-! ## The constants -/

/-- The row's length, the small constant, and the factors one half, minus one half, two and 1/2048. -/
abbrev len : EReal := Ideal.ofBits .f32 0x45000000#32
abbrev eps : EReal := Ideal.ofBits .f32 0x358637BD#32

theorem len_eq : Ideal.ofBits .f32 0x45000000#32 = ((2048 : ℝ) : EReal) := by
  simp [Ideal.ofBits, Ideal.ieee]
  rw [← EReal.coe_mul]
  norm_num
theorem half_eq : Ideal.ofBits .f32 0x3F000000#32 = ((1 / 2 : ℝ) : EReal) := by
  simp [Ideal.ofBits, Ideal.ieee]
  rw [← EReal.coe_mul]
  norm_num
theorem neg_half_eq : Ideal.ofBits .f32 0xBF000000#32 = ((-(1 / 2) : ℝ) : EReal) := by
  simp [Ideal.ofBits, Ideal.ieee]
  rw [← EReal.coe_mul]
  norm_num
theorem two_eq : Ideal.ofBits .f32 0x40000000#32 = ((2 : ℝ) : EReal) := by
  simp [Ideal.ofBits, Ideal.ieee]
  rw [← EReal.coe_mul]
  norm_num
theorem share_eq : Ideal.ofBits .f32 0x3A000000#32 = ((1 / 2048 : ℝ) : EReal) := by
  simp [Ideal.ofBits, Ideal.ieee]
  rw [← EReal.coe_mul]
  norm_num
theorem eps_pos : ∃ e : ℝ, 0 < e ∧ eps = (e : EReal) := by
  refine ⟨_, ?_, by simp only [eps, Ideal.ofBits, Ideal.ieee]; rw [if_neg (by decide), if_neg (by decide)]⟩
  rw [if_neg (by decide)]
  positivity

theorem div_len (x : EReal) : Ideal.div x (Ideal.ofBits .f32 0x45000000#32) = x * ((1 / 2048 : ℝ) : EReal) := by
  rw [len_eq, Ideal.div_coe (by norm_num)]

/-! ## Extended reals -/

/-- A real that is not negative distributes over a sum. -/
theorem mul_sum_nonneg {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha, ← ih,
      EReal.left_distrib_of_nonneg_of_ne_top (EReal.coe_nonneg.mpr hr) (EReal.coe_ne_top r)]

theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem add_self (z : EReal) : z + z = ((2 : ℝ) : EReal) * z := by
  induction z with
  | bot => rw [EReal.coe_mul_bot_of_pos (by norm_num)]; rfl
  | top => rw [EReal.coe_mul_top_of_pos (by norm_num)]; rfl
  | coe r => rw [← EReal.coe_add, ← EReal.coe_mul, two_mul]

theorem square_nonneg (z : EReal) : 0 ≤ z * z := by
  induction z with
  | bot => rw [EReal.bot_mul_bot]; exact le_top
  | top => rw [EReal.top_mul_top]; exact le_top
  | coe r => rw [← EReal.coe_mul]; exact EReal.coe_nonneg.mpr (mul_self_nonneg r)

/-! ## Sums along one axis of a block, and a column spread over it -/

theorem row_sum {a b : ℕ} (v : FVec Ideal ⟨2, ![a, b]⟩ .f32) (acc : BitVec FTy.f32.bits) (h : (⟨2, ![a, b]⟩ : Shape).Reduces [1] ⟨1, ![a]⟩)
    (hφ : FKind.Formats .f32) (hacc : acc = FKind.add.neutral .f32 hφ) (hc : (⟨1, ![a]⟩ : Shape).ShapeCasts ⟨2, ![a, 1]⟩) (p : Fin a) :
    shapeCast ⟨2, ![a, 1]⟩ (multiReduction .add [1] ⟨1, ![a]⟩ v acc h hφ hacc) hc (ix2 p (0 : Fin 1)) = ∑ k : Fin b, v (ix2 p k) := by
  rw [shapeCast_apply _ hc (ix2 p (0 : Fin 1)) (ix1 p) (by
    rw [Shape.rowMajor_val_one, Shape.rowMajor_val_two]; show p.val = p.val * 1 + 0; omega)]
  exact Ideal.reduceAdd_r2_a1 h v (ix1 p)

theorem column_sum {a b : ℕ} (v : FVec Ideal ⟨2, ![a, b]⟩ .f32) (acc : BitVec FTy.f32.bits) (h : (⟨2, ![a, b]⟩ : Shape).Reduces [0] ⟨1, ![b]⟩)
    (hφ : FKind.Formats .f32) (hacc : acc = FKind.add.neutral .f32 hφ) (hc : (⟨1, ![b]⟩ : Shape).ShapeCasts ⟨2, ![1, b]⟩) (q : Fin b) :
    shapeCast ⟨2, ![1, b]⟩ (multiReduction .add [0] ⟨1, ![b]⟩ v acc h hφ hacc) hc (ix2 (0 : Fin 1) q) = ∑ k : Fin a, v (ix2 k q) := by
  rw [shapeCast_apply _ hc (ix2 (0 : Fin 1) q) (ix1 q) (by
    rw [Shape.rowMajor_val_one, Shape.rowMajor_val_two]; show q.val = 0 * b + q.val; omega)]
  exact Ideal.reduceAdd_r2_a0 h v (ix1 q)

theorem spread {a b : ℕ} (v : (⟨2, ![a, 1]⟩ : Shape).Idx → EReal) (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## A row -/

/-- The mean square plus the small constant, and the statistic. -/
def msq (x : Fin 2048 → EReal) : EReal := Ideal.div (∑ k, x k * x k) (Ideal.ofBits .f32 0x45000000#32) + Ideal.ofBits .f32 0x358637BD#32
def stat (x : Fin 2048 → EReal) : EReal := Ideal.rsqrt (msq x)

/-- Either some entry is infinite and so is the mean square, or all are real and the mean square is a positive real. -/
theorem msq_cases (x : Fin 2048 → EReal) :
    msq x = ⊤ ∨ ∃ (s : ℝ) (y : Fin 2048 → ℝ), 0 < s ∧ msq x = (s : EReal) ∧ ∀ k, x k = (y k : EReal) := by
  obtain ⟨e, he, heps⟩ := eps_pos
  by_cases h : ∃ k, x k = ⊤ ∨ x k = ⊥
  · left
    obtain ⟨k, hk⟩ := h
    have ht : x k * x k = ⊤ := by rcases hk with hk | hk <;> rw [hk]; exacts [EReal.top_mul_top, EReal.bot_mul_bot]
    have hs : ∑ k, x k * x k = ⊤ :=
      top_le_iff.mp (ht ▸ Finset.single_le_sum (f := fun k => x k * x k) (fun i _ => square_nonneg (x i)) (Finset.mem_univ k))
    unfold msq
    rw [hs, div_len, EReal.top_mul_coe_of_pos (by norm_num), show Ideal.ofBits .f32 0x358637BD#32 = (e : EReal) from heps]
    exact EReal.top_add_coe e
  · right
    have hy : ∀ k, ∃ r : ℝ, x k = (r : EReal) := fun k =>
      ⟨(x k).toReal, (EReal.coe_toReal (fun ht => h ⟨k, .inl ht⟩) (fun hb => h ⟨k, .inr hb⟩)).symm⟩
    choose y hy using hy
    refine ⟨(∑ k, y k * y k) * (1 / 2048) + e, y, ?_, ?_, hy⟩
    · have : 0 ≤ ∑ k, y k * y k := Finset.sum_nonneg fun k _ => mul_self_nonneg (y k)
      positivity
    · unfold msq
      rw [div_len, show Ideal.ofBits .f32 0x358637BD#32 = (e : EReal) from heps, EReal.coe_add, EReal.coe_mul, ← sum_coe]
      simp only [hy, EReal.coe_mul]

/-- The gradient of the norm at an entry, as the kernels compute it: `a` is the gradient at the scaled row. -/
def grad (x a : Fin 2048 → EReal) (j : Fin 2048) : EReal :=
  stat x * (a j - x j * stat x * Ideal.div (∑ k, a k * (x k * stat x)) (Ideal.ofBits .f32 0x45000000#32))

/-- The statistic's share of the gradient, as automatic differentiation computes it. -/
def through (x a : Fin 2048 → EReal) : EReal :=
  Ideal.div ((∑ k, x k * a k) * (Ideal.ofBits .f32 0xBF000000#32 * Ideal.div (stat x) (msq x))) (Ideal.ofBits .f32 0x45000000#32)

/-- The two are equal. -/
theorem grad_eq (x a : Fin 2048 → EReal) (j : Fin 2048) :
    grad x a j = a j * stat x + x j * through x a + through x a * x j := by
  rcases msq_cases x with h | ⟨s, y, hs, h, hy⟩
  · have hr : stat x = 0 := by unfold stat; rw [h]; rfl
    have hd : Ideal.div (0 : EReal) ⊤ = 0 := Ideal.zero_div EReal.top_ne_zero
    have hd' : Ideal.div (0 : EReal) (Ideal.ofBits .f32 0x45000000#32) = 0 := by rw [div_len, zero_mul]
    unfold grad through
    rw [hr, h, hd]
    simp only [mul_zero, zero_mul, hd', add_zero]
  · set ρ : ℝ := (Real.sqrt s)⁻¹ with hρ
    have hρ0 : 0 ≤ ρ := inv_nonneg.mpr (Real.sqrt_nonneg s)
    have hρs : 1 / s = ρ * ρ := by
      rw [hρ, ← mul_inv, Real.mul_self_sqrt hs.le, one_div]
    have hr : stat x = (ρ : EReal) := by
      unfold stat
      rw [h, Ideal.rsqrt_coe, if_neg (not_lt.mpr hs.le), if_neg hs.ne']
    have e : ∑ k, a k * (x k * stat x) = (ρ : EReal) * ∑ k, x k * a k := by
      rw [mul_sum_nonneg _ _ hρ0, hr]
      exact Finset.sum_congr rfl fun k _ => by ac_rfl
    unfold grad through
    rw [e, hr, h, hy j, div_len, div_len, neg_half_eq, Ideal.div_coe hs.ne', hρs]
    generalize ∑ k, x k * a k = T
    generalize a j = A
    generalize y j = v
    have hq : ((v : ℝ) : EReal) * (T * (((-(1 / 2) : ℝ) : EReal) * ((ρ : EReal) * ((ρ * ρ : ℝ) : EReal))) * ((1 / 2048 : ℝ) : EReal))
        = ((v * (-(1 / 2) * (ρ * (ρ * ρ))) * (1 / 2048) : ℝ) : EReal) * T := by
      simp only [EReal.coe_mul]; ac_rfl
    have hw : (v : EReal) * (ρ : EReal) * ((ρ : EReal) * T * ((1 / 2048 : ℝ) : EReal)) = ((v * ρ * (ρ * (1 / 2048)) : ℝ) : EReal) * T := by
      simp only [EReal.coe_mul]; ac_rfl
    rw [hw, mul_comm (T * _ * _) (v : EReal), hq, add_assoc, add_self, sub_eq_add_neg, ← EReal.neg_mul, ← EReal.coe_neg,
      EReal.left_distrib_of_nonneg_of_ne_top (EReal.coe_nonneg.mpr hρ0) (EReal.coe_ne_top ρ), mul_comm (ρ : EReal) A]
    refine congrArg (A * (ρ : EReal) + ·) ?_
    rw [← mul_assoc (ρ : EReal), ← EReal.coe_mul, ← mul_assoc ((2 : ℝ) : EReal), ← EReal.coe_mul]
    refine congrArg (fun z : ℝ => (z : EReal) * T) ?_
    ring

/-- A block of rows' gradients, from the column of statistics, the scaled gradients `u` and the normalised rows `y`. -/
theorem grad_block {a : ℕ} (rc : FVec Ideal ⟨2, ![a, 1]⟩ .f32) (u y : FVec Ideal ⟨2, ![a, 2048]⟩ .f32) (acc : BitVec FTy.f32.bits)
    (h : (⟨2, ![a, 2048]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, 2048]⟩) (p : Fin a) (q : Fin 2048)
    (X A : Fin 2048 → EReal) (hr : rc (ix2 p (0 : Fin 1)) = stat X) (hy : ∀ k, y (ix2 p k) = X k * stat X) (hu : ∀ k, u (ix2 p k) = A k) :
    mulf (broadcastTo ⟨2, ![a, 2048]⟩ rc hb) (subf u (mulf y (broadcastTo ⟨2, ![a, 2048]⟩
      (divf (shapeCast ⟨2, ![a, 1]⟩ (multiReduction .add [1] ⟨1, ![a]⟩ (mulf u y) acc h hφ hacc) hc)
        (broadcast ⟨2, ![a, 1]⟩ (Scalar.ofBits .f32 0x45000000#32))) hb))) (ix2 p q) = grad X A q := by
  refine congrArg₂ (fun b c : EReal => b * c) ((spread rc hb p q).trans hr) (congrArg₂ (fun b c : EReal => b - c) (hu q)
    (congrArg₂ (fun b c : EReal => b * c) (hy q) ((spread _ hb p q).trans ?_)))
  refine congrArg (fun z => Ideal.div z (Ideal.ofBits .f32 0x45000000#32)) ((row_sum _ acc h hφ hacc hc p).trans (Finset.sum_congr rfl fun k _ => ?_))
  exact congrArg₂ (fun b c : EReal => b * c) (hu k) (hy k)

end Cert.Norms

end
-- ==== Proof.RmsBwdValue.lean ====
/-
  The gradient of the root-mean-square norm, [4096, 2048] in sixteen blocks of 256 rows. Each block's gradient depends on
  that block alone; the scale's gradient is accumulated over the sixteen points. The reference is the vector-Jacobian
  product of the norm.
-/
module

public import proofs.«01_k».proof.Defs
public import proofs.«01_k».proof.Proof.Gen.RmsBwdIdeal.Value
public import proofs.«01_k».proof.Proof.Gen.RmsBwdRefIdeal.Run
public import proofs.«01_k».proof.Proof.Gen.RmsBwdRefIdeal.Read
public import Idealize.ShloMosaic.Lib.Pipeline.Value
public import Idealize.ShloMosaic.Lib.ValueIdx
public import Idealize.ShloMosaic.Lib.ValueLayout
public import proofs.«01_k».proof.Proof.Products
public import proofs.«01_k».proof.Proof.Norms

@[expose] public section

noncomputable section

open Idealize.ShloMosaic Idealize.ShloMosaic.TcCoe Idealize.SL.Sem Idealize.ShloMosaic.ValueIdx
open Idealize.ShloMosaic.StableHlo
open Idealize.ShloMosaic.Pipeline (Dat)

namespace Cert.RmsBwdIdeal.Tiles

open Cert.RmsBwdIdeal Cert.RmsBwdIdeal.Gen Cert.Norms

variable (m : (ℓ : Loc nD τ sig) → Buf (Elt Ideal) ℓ) (ρ : Dev nD → PrngReg)

/-- A row of an array, and the row of gradients times the scale. -/
def row (x : S4096x2048.Idx → EReal) (R : Fin 4096) (k : Fin 2048) : EReal := x (ix2 R k)
def scaled (dh : S4096x2048.Idx → EReal) (g : S1x2048.Idx → EReal) (R : Fin 4096) (k : Fin 2048) : EReal :=
  dh (ix2 R k) * g (ix2 0 k)

/-- The two results as functions of the arguments. -/
def dx (dh x : S4096x2048.Idx → EReal) (g : S1x2048.Idx → EReal) (dres : S4096x2048.Idx → EReal) (i : S4096x2048.Idx) : EReal :=
  dres i + grad (row x (i 0)) (scaled dh g (i 0)) (i 1)
def term (dh x : S4096x2048.Idx → EReal) (C : Fin 2048) (R : Fin 4096) : EReal :=
  dh (ix2 R C) * (x (ix2 R C) * stat (row x R))
def dg (dh x : S4096x2048.Idx → EReal) (i : S1x2048.Idx) : EReal := ∑ R : Fin 4096, term dh x (i 1) R

abbrev adh (c : Dev nD) : S4096x2048.Idx → EReal := m ((c : Thread nD τ).loc main_arg0)
abbrev ax (c : Dev nD) : S4096x2048.Idx → EReal := m ((c : Thread nD τ).loc main_arg1)
abbrev ag (c : Dev nD) : S1x2048.Idx → EReal := m ((c : Thread nD τ).loc main_arg2)
abbrev ares (c : Dev nD) : S4096x2048.Idx → EReal := m ((c : Thread nD τ).loc main_arg3)

def GX (c : Dev nD) : Buf (Elt Ideal) ((c : Thread nD τ).loc main_v8_0) := dx (adh m c) (ax m c) (ag m c) (ares m c)
def GG (c : Dev nD) : Buf (Elt Ideal) ((c : Thread nD τ).loc main_v8_1) := dg (adh m c) (ax m c)

/-- The statistics the kernel is given are the rows'. -/
theorem V7 (c : Dev nD) (R : Fin 4096) : (V m c main_v7 : S4096x1.Idx → EReal) (ix2 R 0) = stat (row (ax m c) R) := by
  have e : V m c main_v7 = Cert.RmsBwdRefIdeal.Read.val_main_v8 (F := Ideal) (ax m c) := by
    unfold V hostOps0; after_results_simp <;> rfl
  rw [e, Cert.RmsBwdRefIdeal.Read.val_main_v8_apply, Cert.RmsBwdRefIdeal.Read.val_main_v7_apply,
    Cert.RmsBwdRefIdeal.Read.val_main_v5_apply, Cert.RmsBwdRefIdeal.Read.val_main_v3_apply, Cert.RmsBwdRefIdeal.Read.val_main_v2_apply]
  refine congrArg Ideal.rsqrt (congrArg (fun z => Ideal.div z _ + _) ?_)
  refine (congrArg (· + _) Ideal.ofBits_zero_f32).trans ((zero_add _).trans (Finset.sum_congr rfl fun k _ => ?_))
  have hi : Cert.RmsBwdRefIdeal.Read.idx_main_v2 (Cert.RmsBwdRefIdeal.Read.idx_main_v3 (ix2 R 0)) k = ix2 R k := Shape.idx_ext₂ rfl rfl
  rw [hi]; rfl

/-! ## The payloads at an element -/

theorem pay2_apply (r : Vec Ideal S256x1 .f32) (x : Vec Ideal S256x2048 .f32) (p : Fin 256) (q : Fin 2048) :
    k0_pay2 r x (ix2 p q) = x (ix2 p q) * r (ix2 p 0) := by
  unfold k0_pay2 k0_pay1
  simp only [shapeCast_self]
  exact congrArg (x (ix2 p q) * ·) (spread r _ p q)

theorem pay3_apply (r : Vec Ideal S256x1 .f32) (x dh : Vec Ideal S256x2048 .f32) (g : Vec Ideal S1x2048 .f32)
    (d : Vec Ideal S256x2048 .f32) (p : Fin 256) (q : Fin 2048) (X A : Fin 2048 → EReal)
    (hX : ∀ k, x (ix2 p k) = X k) (hA : ∀ k, dh (ix2 p k) * g (ix2 0 k) = A k) (hr : r (ix2 p 0) = stat X) :
    k0_pay3 r x dh g d (ix2 p q) = d (ix2 p q) + grad X A q := by
  have hg : ∀ k : Fin 2048, mulf (F := Ideal) (φ := .f32) dh (broadcastTo S256x2048 g broadcasts_S1x2048_S256x2048) (ix2 p k) = A k :=
    fun k => (congrArg (dh (ix2 p k) * ·) (broadcastTo_1b_ab_apply g _ p k)).trans (hA k)
  have hr' : k0_pay1 r (ix2 p 0) = stat X := by
    unfold k0_pay1
    rw [shapeCast_self]
    exact hr
  unfold k0_pay3
  exact congrArg (d (ix2 p q) + ·) (grad_block _ _ _ _ _ _ _ _ _ p q X A hr'
    (fun k => (pay2_apply r x p k).trans (congrArg₂ (· * ·) (hX k) hr)) hg)

theorem pay5_apply (r : Vec Ideal S256x1 .f32) (x dh : Vec Ideal S256x2048 .f32) (s : Vec Ideal S1x2048 .f32) (q : Fin 2048) :
    k0_pay5 r x dh s (ix2 0 q) = s (ix2 0 q) + ∑ k : Fin 256, dh (ix2 k q) * (x (ix2 k q) * r (ix2 k 0)) := by
  unfold k0_pay5
  simp only [shapeCast_self]
  rw [addf_apply]
  refine congrArg (s (ix2 0 q) + ·) ((column_sum _ _ _ _ _ _ q).trans (Finset.sum_congr rfl fun k _ => ?_))
  exact congrArg (dh (ix2 k q) * ·) (pay2_apply r x k q)

/-! ## What each case leaves -/

section Cases
variable (c : Dev nD) (i : grid0.Coords)
  (a1 : Memref sig .tc .vmem S256x2048 .f32) (h1 : a1.IsWhole) (a2 : Memref sig .tc .vmem S256x2048 .f32) (h2 : a2.IsWhole)
  (a3 : Memref sig .tc .vmem S256x1 .f32) (h3 : a3.IsWhole) (a4 : Memref sig .tc .vmem S1x2048 .f32) (h4 : a4.IsWhole)
  (a5 : Memref sig .tc .vmem S256x2048 .f32) (h5 : a5.IsWhole) (a6 : Memref sig .tc .vmem S256x2048 .f32) (h6 : a6.IsWhole)
  (a7 : Memref sig .tc .vmem S1x2048 .f32) (h7 : a7.IsWhole)
  (x0 : Vec Ideal S256x2048 .f32) (x1 : Vec Ideal S256x2048 .f32) (x2 : Vec Ideal S256x1 .f32) (x3 : Vec Ideal S1x2048 .f32)
  (x4 : Vec Ideal S256x2048 .f32) (xo : Vec Ideal S1x2048 .f32)

theorem out5_A (hc0 : cond0_0 i) :
    out0_A_5 c i a1 h1 a2 h2 a3 h3 a4 h4 a5 h5 a6 h6 a7 h7 hc0 x0 x1 x2 x3 x4 = k0_pay3 x2 x1 x0 x3 x4 := by
  unfold out0_A_5
  rw [View.read_writes_eq_canon _ _ _ (cover0_A_5 c i a1 h1 a2 h2 a3 h3 a4 h4 a5 h5 a6 h6 a7 h7 hc0 x0 x1 x2 x3 x4)]
  unfold kernelRun0_A
  dsimp only
  rw [View.canon_unit_zero Cert.Products.zeros2]
  simp only [View.readAt_eq_ld, h1.read_unread, h2.read_unread, h3.read_unread, h4.read_unread, h5.read_unread,
    View.ld_unit_zero (S := S256x2048) Cert.Products.zeros2, View.ld_unit_zero (S := S256x1) Cert.Products.zeros2,
    View.ld_unit_zero (S := S1x2048) Cert.Products.zeros2]

theorem out5_B (hc0 : ¬cond0_0 i) :
    out0_B_5 c i a1 h1 a2 h2 a3 h3 a4 h4 a5 h5 a6 h6 a7 h7 hc0 x0 x1 x2 x3 x4 xo = k0_pay3 x2 x1 x0 x3 x4 := by
  unfold out0_B_5
  rw [View.read_writes_eq_canon _ _ _ (cover0_B_5 c i a1 h1 a2 h2 a3 h3 a4 h4 a5 h5 a6 h6 a7 h7 hc0 x0 x1 x2 x3 x4 xo)]
  unfold kernelRun0_B
  dsimp only
  rw [View.canon_unit_zero Cert.Products.zeros2]
  simp only [View.readAt_eq_ld, h1.read_unread, h2.read_unread, h3.read_unread, h4.read_unread, h5.read_unread,
    View.ld_unit_zero (S := S256x2048) Cert.Products.zeros2, View.ld_unit_zero (S := S256x1) Cert.Products.zeros2,
    View.ld_unit_zero (S := S1x2048) Cert.Products.zeros2]

theorem out6_A (hc0 : cond0_0 i) :
    out0_A_6 c i a1 h1 a2 h2 a3 h3 a4 h4 a5 h5 a6 h6 a7 h7 hc0 x0 x1 x2 x3 x4 = k0_pay5 x2 x1 x0 (k0_pay4 (F := Ideal)) := by
  unfold out0_A_6
  rw [View.read_writes_eq_canon _ _ _ (cover0_A_6 c i a1 h1 a2 h2 a3 h3 a4 h4 a5 h5 a6 h6 a7 h7 hc0 x0 x1 x2 x3 x4)]
  unfold kernelRun0_A
  dsimp only
  sl_unfold_words
  rw [View.canon_cons_unit_zero (S := S1x2048) Cert.Products.zeros2, View.readCov_unit_zero (S := S1x2048) _ Cert.Products.zeros2]
  simp only [View.readAt_eq_ld, h1.read_unread, h2.read_unread, h3.read_unread, h4.read_unread, h5.read_unread,
    View.ld_unit_zero (S := S256x2048) Cert.Products.zeros2, View.ld_unit_zero (S := S256x1) Cert.Products.zeros2,
    View.ld_unit_zero (S := S1x2048) Cert.Products.zeros2]

theorem out6_B (hc0 : ¬cond0_0 i) :
    out0_B_6 c i a1 h1 a2 h2 a3 h3 a4 h4 a5 h5 a6 h6 a7 h7 hc0 x0 x1 x2 x3 x4 xo = k0_pay5 x2 x1 x0 xo := by
  unfold out0_B_6
  rw [View.read_writes_eq_canon _ _ _ (cover0_B_6 c i a1 h1 a2 h2 a3 h3 a4 h4 a5 h5 a6 h6 a7 h7 hc0 x0 x1 x2 x3 x4 xo)]
  unfold kernelRun0_B
  dsimp only
  rw [View.canon_unit_zero Cert.Products.zeros2]
  simp only [View.readAt_eq_ld, h1.read_unread, h2.read_unread, h3.read_unread, h4.read_unread, h5.read_unread, h7.read_unread,
    View.ld_unit_zero (S := S256x2048) Cert.Products.zeros2, View.ld_unit_zero (S := S256x1) Cert.Products.zeros2,
    View.ld_unit_zero (S := S1x2048) Cert.Products.zeros2]

end Cases

/-! ## Where the windows' blocks lie -/

theorem index_facts : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0)
      ∧ (win0_6.index t 0 = 0 ∧ win0_6.index t 1 = 0) := by
  decide +kernel

theorem lt16 (t : Fin cfg0.N) : t.val < 16 := lt_of_lt_of_eq t.isLt N_0

/-- The array row under row `p` of block `t`. -/
def rowOf (t : Fin cfg0.N) (p : Fin 256) : Fin 4096 := ⟨t.val * 256 + p.val, by have := lt16 t; omega⟩

theorem iblk0_apply (c : Dev nD) (t : Fin cfg0.N) (p : Fin 256) (q : Fin 2048) :
    (iblk m c 0 t : S256x2048.Idx → EReal) (ix2 p q) = adh m c (ix2 (rowOf t p) q) := by
  obtain ⟨⟨h0, h1⟩, -⟩ := index_facts t
  unfold iblk
  rw [View.read_apply]
  refine (congrFun (V_main_arg0 m c) _).trans (congrArg (adh m c) (Shape.idx_ext₂ ?_ ?_))
  · show win0_0.index t 0 * 256 + 1 * p.val = t.val * 256 + p.val
    rw [h0]; omega
  · show win0_0.index t 1 * 2048 + 1 * q.val = q.val
    rw [h1]; omega

theorem iblk1_apply (c : Dev nD) (t : Fin cfg0.N) (p : Fin 256) (q : Fin 2048) :
    (iblk m c 1 t : S256x2048.Idx → EReal) (ix2 p q) = ax m c (ix2 (rowOf t p) q) := by
  obtain ⟨-, ⟨h0, h1⟩, -⟩ := index_facts t
  unfold iblk
  rw [View.read_apply]
  refine (congrFun (V_main_arg1 m c) _).trans (congrArg (ax m c) (Shape.idx_ext₂ ?_ ?_))
  · show win0_1.index t 0 * 256 + 1 * p.val = t.val * 256 + p.val
    rw [h0]; omega
  · show win0_1.index t 1 * 2048 + 1 * q.val = q.val
    rw [h1]; omega

theorem iblk2_apply (c : Dev nD) (t : Fin cfg0.N) (p : Fin 256) :
    (iblk m c 2 t : S256x1.Idx → EReal) (ix2 p 0) = stat (row (ax m c) (rowOf t p)) := by
  obtain ⟨-, -, ⟨h0, h1⟩, -⟩ := index_facts t
  unfold iblk
  rw [View.read_apply]
  refine Eq.trans (congrArg (V m c main_v7 : S4096x1.Idx → EReal) (Shape.idx_ext₂ ?_ ?_)) (V7 m c (rowOf t p))
  · show win0_2.index t 0 * 256 + 1 * p.val = t.val * 256 + p.val
    rw [h0]; omega
  · show win0_2.index t 1 * 1 + 1 * 0 = 0
    rw [h1]

theorem iblk3_apply (c : Dev nD) (t : Fin cfg0.N) (q : Fin 2048) :
    (iblk m c 3 t : S1x2048.Idx → EReal) (ix2 0 q) = ag m c (ix2 0 q) := by
  obtain ⟨-, -, -, ⟨h0, h1⟩, -⟩ := index_facts t
  unfold iblk
  rw [View.read_apply]
  refine (congrFun (V_main_arg2 m c) _).trans (congrArg (ag m c) (Shape.idx_ext₂ ?_ ?_))
  · show win0_3.index t 0 * 1 + 1 * 0 = 0
    rw [h0]
  · show win0_3.index t 1 * 2048 + 1 * q.val = q.val
    rw [h1]; omega

theorem iblk4_apply (c : Dev nD) (t : Fin cfg0.N) (p : Fin 256) (q : Fin 2048) :
    (iblk m c 4 t : S256x2048.Idx → EReal) (ix2 p q) = ares m c (ix2 (rowOf t p) q) := by
  obtain ⟨-, -, -, -, ⟨h0, h1⟩, -⟩ := index_facts t
  unfold iblk
  rw [View.read_apply]
  refine (congrFun (V_main_arg3 m c) _).trans (congrArg (ares m c) (Shape.idx_ext₂ ?_ ?_))
  · show win0_4.index t 0 * 256 + 1 * p.val = t.val * 256 + p.val
    rw [h0]; omega
  · show win0_4.index t 1 * 2048 + 1 * q.val = q.val
    rw [h1]; omega

/-! ## The row gradient -/

theorem flushed5_eq (c : Dev nD) (t : Fin cfg0.N) :
    (dats m 0 c).flushed 5 t = ((cfg0.win 5).blk t).view.read (Elt Ideal) (GX m c) := by
  have hb : (outsAt0 m c t.val t.isLt).1 = k0_pay3 (iblk m c 2 t) (iblk m c 1 t) (iblk m c 0 t) (iblk m c 3 t) (iblk m c 4 t) := by
    by_cases h : t.val % 16 = 0
    · rw [outsAt0_A m c t h]; dsimp only; rw [out5_A]
    · rw [outsAt0_B m c t h]; dsimp only; rw [out5_B]
  rw [Value.flushed5, hb]
  funext y
  rw [View.read_apply]
  obtain ⟨-, -, -, -, -, ⟨i0, i1⟩, -⟩ := index_facts t
  have e : ((cfg0.win 5).blk t).view.emb y = (ix2 (rowOf t (y 0)) (y 1) : S4096x2048.Idx) := Shape.idx_ext₂
    (by show win0_5.index t 0 * 256 + 1 * (y 0).val = t.val * 256 + (y 0).val; rw [i0]; omega)
    (by show win0_5.index t 1 * 2048 + 1 * (y 1).val = (y 1).val; rw [i1]; omega)
  have ey : y = (ix2 (y 0) (y 1) : S256x2048.Idx) := Shape.idx_ext₂ rfl rfl
  refine Eq.trans (congrArg (k0_pay3 (iblk m c 2 t) (iblk m c 1 t) (iblk m c 0 t) (iblk m c 3 t) (iblk m c 4 t)) ey)
    (Eq.trans ?_ (congrArg (GX m c) e.symm))
  refine (pay3_apply _ _ _ _ _ (y 0) (y 1) (row (ax m c) (rowOf t (y 0))) (scaled (adh m c) (ag m c) (rowOf t (y 0)))
    (fun k => iblk1_apply m c t (y 0) k)
    (fun k => congrArg₂ (· * ·) (iblk0_apply m c t (y 0) k) (iblk3_apply m c t k)) (iblk2_apply m c t (y 0))).trans ?_
  exact congrArg (· + _) (iblk4_apply m c t (y 0) (y 1))

theorem cover5 (i : S4096x2048.Idx) : ∃ t : Fin cfg0.N, (cfg0.win 5).flush t = true ∧ i ∈ ((cfg0.win 5).blk t).view.set := by
  have b0 : (i 0).val < 4096 := (i 0).isLt
  have b1 : (i 1).val < 2048 := (i 1).isLt
  let t : Fin grid0.N := ⟨(i 0).val / 256, by rw [N_0]; omega⟩
  obtain ⟨-, -, -, -, -, ⟨h0, h1⟩, -⟩ := index_facts t
  have e0 : win0_5.index t 0 = (i 0).val / 256 := h0
  refine ⟨t, flush0_5 t, ?_⟩
  show i ∈ ((View.whole main_v8_0).slice (win0_5.rect t)).set
  rw [View.set_slice_whole, Rect.mem_set_unit]
  intro a
  match a with
  | ⟨0, _⟩ =>
    show win0_5.index t 0 * 256 ≤ (i 0).val ∧ (i 0).val < win0_5.index t 0 * 256 + 256
    rw [e0]; omega
  | ⟨1, _⟩ =>
    show win0_5.index t 1 * 2048 ≤ (i 1).val ∧ (i 1).val < win0_5.index t 1 * 2048 + 2048
    rw [h1]; omega

theorem final5 (c : Dev nD) : (dats m 0 c).arrAt 5 cfg0.N = GX m c :=
  (dats m 0 c).arrAt_eq_of_cover 5 (GX m c) (fun t _ => flushed5_eq m c t) cover5

/-! ## The scale's gradient -/

/-- What a point adds to a column is the sum of the terms of its rows. -/
theorem block_sum (c : Dev nD) (t : Fin cfg0.N) (q : Fin 2048) (s : Vec Ideal S1x2048 .f32) :
    k0_pay5 (iblk m c 2 t) (iblk m c 1 t) (iblk m c 0 t) s (ix2 0 q)
      = s (ix2 0 q) + ∑ k : Fin 256, Cert.Products.ext (term (adh m c) (ax m c) q) (t.val * 256 + k.val) := by
  refine (pay5_apply _ _ _ s q).trans (congrArg (s (ix2 0 q) + ·) (Finset.sum_congr rfl fun k _ => ?_))
  have := lt16 t
  rw [Cert.Products.ext_apply _ _ (by omega : t.val * 256 + k.val < 4096)]
  exact congrArg₂ (· * ·) (iblk0_apply m c t k q) (congrArg₂ (· * ·) (iblk1_apply m c t k q) (iblk2_apply m c t k))

/-- The accumulator after point `n` holds the terms of the rows up to its block. -/
theorem acc_eq (c : Dev nD) (q : Fin 2048) (n : ℕ) (hn : n < cfg0.N) :
    (outsAt0 m c n hn).2 (ix2 0 q) = ∑ k ∈ Finset.range ((n + 1) * 256), Cert.Products.ext (term (adh m c) (ax m c) q) k := by
  have hlt : n < 16 := lt_of_lt_of_eq hn N_0
  have h := Cert.Products.sweep (N := cfg0.N) 17 256 0 (Cert.Products.ext (term (adh m c) (ax m c) q))
    (fun n hn => (outsAt0 m c n hn).2 (ix2 0 q)) ?_ ?_ n hn (by omega) (by omega)
  · rw [Nat.mod_eq_of_lt (by omega)] at h
    exact h
  · intro n' hn' hq h0
    have : n' < 16 := lt_of_lt_of_eq hn' N_0
    show (outsAt0 m c n' hn').2 (ix2 0 q) = _
    rw [outsAt0_A m c ⟨n', hn'⟩ (by dsimp only; omega)]
    dsimp only
    rw [out6_A]
    refine (block_sum m c ⟨n', hn'⟩ q _).trans ?_
    rw [Nat.mod_eq_of_lt (by omega)]
    refine (congrArg (· + _) (?_ : _ = (0 : EReal))).trans (zero_add _)
    exact Ideal.ofBits_zero_f32
  · intro n' hn' hq h0 h2
    have : n' + 1 < 16 := lt_of_lt_of_eq hn' N_0
    show (outsAt0 m c (n' + 1) hn').2 (ix2 0 q) = (outsAt0 m c n' _).2 (ix2 0 q) + _
    rw [outsAt0_B m c ⟨n' + 1, hn'⟩ (by dsimp only; omega)]
    dsimp only
    rw [out6_B]
    refine (block_sum m c ⟨n' + 1, hn'⟩ q _).trans ?_
    rw [Nat.mod_eq_of_lt (by omega)]
    rfl

theorem flushed6_eq (c : Dev nD) (t : Fin cfg0.N) (hf : (cfg0.win 6).flush t = true) :
    (dats m 0 c).flushed 6 t = ((cfg0.win 6).blk t).view.read (Elt Ideal) (GG m c) := by
  have h15 : t.val % 16 = 15 := (flush0_6 t).mp hf
  have hlt := lt16 t
  rw [Value.flushed6]
  funext y
  rw [View.read_apply]
  obtain ⟨-, -, -, -, -, -, i0, i1⟩ := index_facts t
  have y0 : (y 0).val < 1 := (y 0).isLt
  have e : ((cfg0.win 6).blk t).view.emb y = (ix2 0 (y 1) : S1x2048.Idx) := Shape.idx_ext₂
    (by show win0_6.index t 0 * 1 + 1 * (y 0).val = 0; rw [i0]; omega)
    (by show win0_6.index t 1 * 2048 + 1 * (y 1).val = (y 1).val; rw [i1]; omega)
  have ey : y = (ix2 0 (y 1) : S1x2048.Idx) := Shape.idx_ext₂ (by show (y 0).val = 0; omega) rfl
  refine Eq.trans (congrArg (outsAt0 m c t.val t.isLt).2 ey) (Eq.trans ?_ (congrArg (GG m c) e.symm))
  refine (acc_eq m c (y 1) t.val t.isLt).trans ?_
  have ht : (t.val + 1) * 256 = 4096 := by omega
  rw [ht]
  exact Cert.Products.prefix_full _

theorem cover6 (i : S1x2048.Idx) : ∃ t : Fin cfg0.N, (cfg0.win 6).flush t = true ∧ i ∈ ((cfg0.win 6).blk t).view.set := by
  have b0 : (i 0).val < 1 := (i 0).isLt
  have b1 : (i 1).val < 2048 := (i 1).isLt
  let t : Fin grid0.N := ⟨15, by rw [N_0]; omega⟩
  obtain ⟨-, -, -, -, -, -, h0, h1⟩ := index_facts t
  refine ⟨t, (flush0_6 t).mpr rfl, ?_⟩
  show i ∈ ((View.whole main_v8_1).slice (win0_6.rect t)).set
  rw [View.set_slice_whole, Rect.mem_set_unit]
  intro a
  match a with
  | ⟨0, _⟩ =>
    show win0_6.index t 0 * 1 ≤ (i 0).val ∧ (i 0).val < win0_6.index t 0 * 1 + 1
    rw [h0]; omega
  | ⟨1, _⟩ =>
    show win0_6.index t 1 * 2048 ≤ (i 1).val ∧ (i 1).val < win0_6.index t 1 * 2048 + 2048
    rw [h1]; omega

theorem final6 (c : Dev nD) : (dats m 0 c).arrAt 6 cfg0.N = GG m c :=
  (dats m 0 c).arrAt_eq_of_cover 6 (GG m c) (flushed6_eq m c) cover6

end Cert.RmsBwdIdeal.Tiles

namespace Cert.RmsBwdValue

open Cert.RmsBwdRefIdeal Cert.RmsBwdRefIdeal.Gen Cert.RmsBwdRefIdeal.Read Cert.Norms Cert.RmsBwdIdeal.Tiles

variable (dh x : S4096x2048.Idx → EReal) (g : S1x2048.Idx → EReal) (dres : S4096x2048.Idx → EReal)

theorem msq_eq (R : Fin 4096) : val_main_v7 (F := Ideal) x (ix2 R 0) = msq (row x R) := by
  rw [val_main_v7_apply, val_main_v5_apply, val_main_v3_apply, val_main_v2_apply]
  refine congrArg (fun z => Ideal.div z _ + _) ?_
  refine (congrArg (· + _) Ideal.ofBits_zero_f32).trans ((zero_add _).trans (Finset.sum_congr rfl fun k _ => ?_))
  have hi : idx_main_v2 (idx_main_v3 (ix2 R 0)) k = ix2 R k := Shape.idx_ext₂ rfl rfl
  rw [hi]; rfl

theorem stat_eq (R : Fin 4096) : val_main_v8 (F := Ideal) x (ix2 R 0) = stat (row x R) :=
  congrArg Ideal.rsqrt (msq_eq x R)

theorem scaled_eq (R : Fin 4096) (C : Fin 2048) : val_main_v21 (F := Ideal) dh g (ix2 R C) = scaled dh g R C := by
  rw [val_main_v21_apply, val_main_v20_apply, val_main_v14_apply, val_main_v0_apply]
  exact congrArg (fun z => dh (ix2 R C) * g z) (Shape.idx_ext₂ rfl (Nat.mod_eq_of_lt C.isLt))

theorem through_eq (R : Fin 4096) (C : Fin 2048) :
    val_main_v32 (F := Ideal) dh x g (ix2 R C) = through (row x R) (scaled dh g R) := by
  have e : ∀ k, idx_main_v31 (idx_main_v32 (ix2 R C)) k = (ix2 R 0 : S4096x1.Idx) :=
    fun k => Shape.idx_ext₂ rfl (by have := k.isLt; show k.val = 0; omega)
  rw [val_main_v32_apply, val_main_v31_apply]
  refine (congrArg (· + _) Ideal.ofBits_zero_f32).trans ((zero_add _).trans ((Fin.sum_univ_one _).trans ?_))
  rw [e, val_main_v30_apply, val_main_v28_apply, val_main_v11_apply, val_main_v9_apply, msq_eq, stat_eq, val_main_v25_apply, val_main_v24_apply]
  refine congrArg (fun z => Ideal.div (z * _) _) ?_
  refine (congrArg (· + _) Ideal.ofBits_zero_f32).trans ((zero_add _).trans (Finset.sum_congr rfl fun k _ => ?_))
  have hi : idx_main_v24 (idx_main_v25 (ix2 R 0)) k = ix2 R k :=
    Shape.idx_ext₂ (by show R.val * 1 + 0 = R.val; omega) rfl
  rw [hi, val_main_v23_apply, scaled_eq]
  rfl

theorem dx_eq : val_main_v37 (F := Ideal) dh x g dres = dx dh x g dres := by
  funext i
  obtain ⟨R, C, rfl⟩ : ∃ (R : Fin 4096) (C : Fin 2048), i = ix2 R C := ⟨i 0, i 1, Shape.idx_ext₂ rfl rfl⟩
  rw [val_main_v37_apply, val_main_v36_apply, val_main_v34_apply, val_main_v35_apply, val_main_v33_apply, val_main_v27_apply,
    val_main_v26_apply, through_eq, scaled_eq]
  have hi : idx_main_v26 (ix2 R C : S4096x2048.Idx) = ix2 R 0 := Shape.idx_ext₂ rfl rfl
  rw [hi, stat_eq]
  exact congrArg (dres (ix2 R C) + ·) (grad_eq (row x R) (scaled dh g R) C).symm

theorem dg_eq : val_main_v38 (F := Ideal) dh x = dg dh x := by
  funext i
  obtain ⟨C, rfl⟩ : ∃ C : Fin 2048, i = ix2 0 C :=
    ⟨i 1, Shape.idx_ext₂ (by have b0 : (i 0).val < 1 := (i 0).isLt; show (i 0).val = 0; omega) rfl⟩
  rw [val_main_v38_apply, val_main_v22_apply]
  refine (congrArg (· + _) Ideal.ofBits_zero_f32).trans ((zero_add _).trans ((Fin.sum_univ_one _).trans ?_))
  rw [val_main_v19_apply, val_main_v18_apply]
  refine (congrArg (· + _) Ideal.ofBits_zero_f32).trans ((zero_add _).trans (Finset.sum_congr rfl fun R _ => ?_))
  have hi : idx_main_v18 (idx_main_v19 (idx_main_v22 (idx_main_v38 (ix2 0 C : S1x2048.Idx)) 0)) R = ix2 R C :=
    Shape.idx_ext₂ rfl (by show 0 * 2048 + C.val = C.val; omega)
  have hj : idx_main_v12 (ix2 R C : S4096x2048.Idx) = ix2 R 0 := Shape.idx_ext₂ rfl rfl
  rw [hi, val_main_v17_apply, val_main_v13_apply, val_main_v12_apply, hj, stat_eq]
  exact mul_comm _ _

/-- On equal arguments the kernel's results are the reference's. -/
theorem algebraic : Cert.algebraic_RmsBwdIdeal_RmsBwdRefIdeal := by
  intro m ρ m' ρ' _ hagree
  refine ⟨fun c => GX m c, fun c => GG m c, ?_, ?_⟩
  · exact (θ_run Cert.RmsBwdIdeal.defs _ _).mono (fun r h c =>
      ⟨(h c).1.trans (final5 m c), (h c).2.1.trans (final6 m c), (h c).2.2⟩) (Cert.RmsBwdIdeal.Value.run_blocks (F := Ideal) m ρ)
  · refine (θ_run Cert.RmsBwdRefIdeal.defs _ _).mono (fun r h c => ⟨(h c).1.trans ?_, (h c).2.1.trans ?_, (h c).2.2⟩)
      (Cert.RmsBwdRefIdeal.Value.run (F := Ideal) m' ρ')
    · refine (val_main_v37_eq (F := Ideal) m' c).trans ((dx_eq _ _ _ _).trans ?_)
      rw [(hagree c).1, (hagree c).2.1, (hagree c).2.2.1, (hagree c).2.2.2]
      rfl
    · refine (val_main_v38_eq (F := Ideal) _ _).trans ((dg_eq _ _).trans ?_)
      rw [(hagree c).1, (hagree c).2.1]
      rfl

end Cert.RmsBwdValue

end
-- ==== Proof.LossHeadValue.lean ====
/-
  The loss head, [4096, 2048] in sixteen blocks of 256 rows: the norm, the error against the target, half its mean square
  summed over the rows, and the gradients. Each block's gradient depends on that block alone; the scale's gradient and the
  loss are accumulated over the sixteen points. The reference is automatic differentiation of the loss.
-/
module

public import proofs.«01_k».proof.Defs
public import proofs.«01_k».proof.Proof.Gen.LossHeadIdeal.Value
public import proofs.«01_k».proof.Proof.Gen.LossHeadRefIdeal.Run
public import proofs.«01_k».proof.Proof.Gen.LossHeadRefIdeal.Read
public import Idealize.ShloMosaic.Lib.Pipeline.Value
public import Idealize.ShloMosaic.Lib.ValueIdx
public import Idealize.ShloMosaic.Lib.ValueLayout
public import proofs.«01_k».proof.Proof.Products
public import proofs.«01_k».proof.Proof.Norms

@[expose] public section

noncomputable section

open Idealize.ShloMosaic Idealize.ShloMosaic.TcCoe Idealize.SL.Sem Idealize.ShloMosaic.ValueIdx
open Idealize.ShloMosaic.StableHlo
open Idealize.ShloMosaic.Pipeline (Dat)

namespace Cert.LossHeadIdeal.Tiles

open Cert.LossHeadIdeal Cert.LossHeadIdeal.Gen Cert.Norms

/-! ## One row -/

/-- The normalised row times the scale, less the target; the gradient at the norm's result; and at the normalised row. -/
def err (X G T : Fin 2048 → EReal) (k : Fin 2048) : EReal := X k * stat X * G k - T k
def dy (X G T : Fin 2048 → EReal) (k : Fin 2048) : EReal := err X G T k * Ideal.ofBits .f32 0x3A000000#32
def scaled (X G T : Fin 2048 → EReal) (k : Fin 2048) : EReal := dy X G T k * G k
/-- The row's share of the loss, and of a column of the scale's gradient. -/
def lossOf (X G T : Fin 2048 → EReal) : EReal :=
  Ideal.ofBits .f32 0x3F000000#32 * ((∑ k, err X G T k * err X G T k) * Ideal.ofBits .f32 0x3A000000#32)
def dgOf (X G T : Fin 2048 → EReal) (j : Fin 2048) : EReal := dy X G T j * (X j * stat X)

/-! ## The payloads at an element -/

section Payloads
variable (x : Vec Ideal S256x2048 .f32) (g : Vec Ideal S1x2048 .f32) (t : Vec Ideal S256x2048 .f32)
variable (X : Fin 256 → Fin 2048 → EReal) (G : Fin 2048 → EReal) (T : Fin 256 → Fin 2048 → EReal)
variable (hX : ∀ p k, x (ix2 p k) = X p k) (hG : ∀ k, g (ix2 0 k) = G k) (hT : ∀ p k, t (ix2 p k) = T p k)

include hX in
theorem pay3_apply (p : Fin 256) : k0_pay3 x (ix2 p 0) = stat (X p) := by
  unfold k0_pay3
  refine congrArg (fun z => Ideal.rsqrt (Ideal.div z _ + _)) ((row_sum _ _ _ _ _ _ p).trans (Finset.sum_congr rfl fun k _ => ?_))
  exact congrArg₂ (fun b c : EReal => b * c) (hX p k) (hX p k)

include hX in
theorem pay4_apply (p : Fin 256) (k : Fin 2048) : k0_pay4 x (ix2 p k) = X p k * stat (X p) := by
  unfold k0_pay4
  exact congrArg₂ (fun b c : EReal => b * c) (hX p k) ((spread _ _ p k).trans (pay3_apply x X hX p))

include hX hG hT in
theorem pay5_apply (p : Fin 256) (k : Fin 2048) : k0_pay5 x g t (ix2 p k) = err (X p) G (T p) k := by
  unfold k0_pay5
  exact congrArg₂ (fun b c : EReal => b - c)
    (congrArg₂ (fun b c : EReal => b * c) (pay4_apply x X hX p k) ((broadcastTo_1b_ab_apply g _ p k).trans (hG k))) (hT p k)

include hX hG hT in
theorem pay6_apply (p : Fin 256) (k : Fin 2048) : k0_pay6 x g t (ix2 p k) = dy (X p) G (T p) k := by
  unfold k0_pay6
  exact congrArg (fun z : EReal => z * Ideal.ofBits .f32 0x3A000000#32) (pay5_apply x g t X G T hX hG hT p k)

include hX hG hT in
theorem pay7_apply (p : Fin 256) (q : Fin 2048) : k0_pay7 x g t (ix2 p q) = grad (X p) (scaled (X p) G (T p)) q := by
  unfold k0_pay7
  exact grad_block _ _ _ _ _ _ _ _ _ p q _ _ (pay3_apply x X hX p) (pay4_apply x X hX p)
    (fun k => congrArg₂ (fun b c : EReal => b * c) (pay6_apply x g t X G T hX hG hT p k) ((broadcastTo_1b_ab_apply g _ p k).trans (hG k)))

include hX hG hT in
theorem pay1_apply (s : Vec Ideal S1x2048 .f32) (q : Fin 2048) :
    k0_pay1 (k0_pay4 x) (k0_pay6 x g t) s (ix2 0 q) = s (ix2 0 q) + ∑ p, dgOf (X p) G (T p) q := by
  unfold k0_pay1
  simp only [shapeCast_self]
  refine congrArg (s (ix2 0 q) + ·) ((column_sum _ _ _ _ _ _ q).trans (Finset.sum_congr rfl fun p _ => ?_))
  exact congrArg₂ (fun b c : EReal => b * c) (pay6_apply x g t X G T hX hG hT p q) (pay4_apply x X hX p q)

include hX hG hT in
theorem pay2_apply (s : Vec Ideal S1x1 .f32) :
    k0_pay2 (k0_pay5 x g t) s (ix2 0 0) = s (ix2 0 0) + ∑ p, lossOf (X p) G (T p) := by
  unfold k0_pay2
  simp only [shapeCast_self]
  refine congrArg (s (ix2 0 0) + ·) ?_
  refine (congrArg (fun z : EReal => Ideal.ofBits .f32 0x3F000000#32 * z) ((column_sum _ _ _ _ _ _ 0).trans (Finset.sum_congr rfl fun p _ =>
    congrArg (fun z : EReal => z * Ideal.ofBits .f32 0x3A000000#32) ((row_sum _ _ _ _ _ _ p).trans (Finset.sum_congr rfl fun k _ =>
      congrArg₂ (fun b c : EReal => b * c) (pay5_apply x g t X G T hX hG hT p k) (pay5_apply x g t X G T hX hG hT p k)))))).trans ?_
  unfold lossOf
  rw [half_eq]
  exact mul_sum_nonneg _ _ (by norm_num) _

end Payloads

/-! ## What each case leaves -/

section Cases
variable (c : Dev nD) (i : grid0.Coords)
  (a1 : Memref sig .tc .vmem S256x2048 .f32) (h1 : a1.IsWhole) (a2 : Memref sig .tc .vmem S1x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S256x2048 .bf16) (h5 : a5.IsWhole) (a6 : Memref sig .tc .vmem S1x2048 .f32) (h6 : a6.IsWhole)
  (a7 : Memref sig .tc .vmem S1x1 .f32) (h7 : a7.IsWhole)
  (x0 : Vec Ideal S256x2048 .f32) (x1 : Vec Ideal S1x2048 .f32) (x2 : Vec Ideal S256x2048 .f32)
  (xo5 : Vec Ideal S1x2048 .f32) (xo6 : Vec Ideal S1x1 .f32)

/-- At the first point the two sums are cleared before they are added to. -/
theorem outs_A (hc0 : cond0_0 i) :
    out0_A_3 c i a1 h1 a2 h2 a3 h3 a4 h4 a5 h5 a6 h6 a7 h7 hc0 x0 x1 x2 = k0_pay7 x0 x1 x2
      ∧ out0_A_4 c i a1 h1 a2 h2 a3 h3 a4 h4 a5 h5 a6 h6 a7 h7 hc0 x0 x1 x2 = k0_pay8 x0 x1 x2
      ∧ out0_A_5 c i a1 h1 a2 h2 a3 h3 a4 h4 a5 h5 a6 h6 a7 h7 hc0 x0 x1 x2
        = k0_pay1 (k0_pay4 x0) (k0_pay6 x0 x1 x2) (k0_pay9 (F := Ideal))
      ∧ out0_A_6 c i a1 h1 a2 h2 a3 h3 a4 h4 a5 h5 a6 h6 a7 h7 hc0 x0 x1 x2 = k0_pay2 (k0_pay5 x0 x1 x2) (k0_pay10 (F := Ideal)) := by
  unfold out0_A_3 out0_A_4 out0_A_5 out0_A_6
  rw [View.read_writes_eq_canon _ _ _ (cover0_A_3 c i a1 h1 a2 h2 a3 h3 a4 h4 a5 h5 a6 h6 a7 h7 hc0 x0 x1 x2),
    View.read_writes_eq_canon _ _ _ (cover0_A_4 c i a1 h1 a2 h2 a3 h3 a4 h4 a5 h5 a6 h6 a7 h7 hc0 x0 x1 x2),
    View.read_writes_eq_canon _ _ _ (cover0_A_5 c i a1 h1 a2 h2 a3 h3 a4 h4 a5 h5 a6 h6 a7 h7 hc0 x0 x1 x2),
    View.read_writes_eq_canon _ _ _ (cover0_A_6 c i a1 h1 a2 h2 a3 h3 a4 h4 a5 h5 a6 h6 a7 h7 hc0 x0 x1 x2)]
  unfold kernelRun0_A
  dsimp only
  sl_unfold_words
  rw [View.canon_unit_zero (S := S256x2048) Cert.Products.zeros2, View.canon_unit_zero (S := S256x2048) Cert.Products.zeros2,
    View.canon_cons_unit_zero (S := S1x2048) Cert.Products.zeros2, View.readCov_unit_zero (S := S1x2048) _ Cert.Products.zeros2,
    View.canon_cons_unit_zero (S := S1x1) Cert.Products.zeros2, View.readCov_unit_zero (S := S1x1) _ Cert.Products.zeros2]
  simp only [View.readAt_eq_ld, h1.read_unread, h2.read_unread, h3.read_unread,
    View.ld_unit_zero (S := S256x2048) Cert.Products.zeros2, View.ld_unit_zero (S := S1x2048) Cert.Products.zeros2, and_self]

/-- At the others they are added to. -/
theorem outs_B (hc0 : ¬cond0_0 i) :
    out0_B_3 c i a1 h1 a2 h2 a3 h3 a4 h4 a5 h5 a6 h6 a7 h7 hc0 x0 x1 x2 xo5 xo6 = k0_pay7 x0 x1 x2
      ∧ out0_B_4 c i a1 h1 a2 h2 a3 h3 a4 h4 a5 h5 a6 h6 a7 h7 hc0 x0 x1 x2 xo5 xo6 = k0_pay8 x0 x1 x2
      ∧ out0_B_5 c i a1 h1 a2 h2 a3 h3 a4 h4 a5 h5 a6 h6 a7 h7 hc0 x0 x1 x2 xo5 xo6 = k0_pay1 (k0_pay4 x0) (k0_pay6 x0 x1 x2) xo5
      ∧ out0_B_6 c i a1 h1 a2 h2 a3 h3 a4 h4 a5 h5 a6 h6 a7 h7 hc0 x0 x1 x2 xo5 xo6 = k0_pay2 (k0_pay5 x0 x1 x2) xo6 := by
  unfold out0_B_3 out0_B_4 out0_B_5 out0_B_6
  rw [View.read_writes_eq_canon _ _ _ (cover0_B_3 c i a1 h1 a2 h2 a3 h3 a4 h4 a5 h5 a6 h6 a7 h7 hc0 x0 x1 x2 xo5 xo6),
    View.read_writes_eq_canon _ _ _ (cover0_B_4 c i a1 h1 a2 h2 a3 h3 a4 h4 a5 h5 a6 h6 a7 h7 hc0 x0 x1 x2 xo5 xo6),
    View.read_writes_eq_canon _ _ _ (cover0_B_5 c i a1 h1 a2 h2 a3 h3 a4 h4 a5 h5 a6 h6 a7 h7 hc0 x0 x1 x2 xo5 xo6),
    View.read_writes_eq_canon _ _ _ (cover0_B_6 c i a1 h1 a2 h2 a3 h3 a4 h4 a5 h5 a6 h6 a7 h7 hc0 x0 x1 x2 xo5 xo6)]
  unfold kernelRun0_B
  dsimp only
  sl_unfold_words
  rw [View.canon_unit_zero (S := S256x2048) Cert.Products.zeros2, View.canon_unit_zero (S := S256x2048) Cert.Products.zeros2,
    View.canon_unit_zero (S := S1x2048) Cert.Products.zeros2, View.canon_unit_zero (S := S1x1) Cert.Products.zeros2]
  simp only [View.readAt_eq_ld, h1.read_unread, h2.read_unread, h3.read_unread, h6.read_unread, h7.read_unread,
    View.ld_unit_zero (S := S256x2048) Cert.Products.zeros2, View.ld_unit_zero (S := S1x2048) Cert.Products.zeros2,
    View.ld_unit_zero (S := S1x1) Cert.Products.zeros2, and_self]

end Cases

/-! ## The arguments and the results -/

variable (m : (ℓ : Loc nD τ sig) → Buf (Elt Ideal) ℓ) (ρ : Dev nD → PrngReg)

/-- A row of an array, and the scale. -/
def row (x : S4096x2048.Idx → EReal) (R : Fin 4096) (k : Fin 2048) : EReal := x (ix2 R k)
def scale (g : S1x2048.Idx → EReal) (k : Fin 2048) : EReal := g (ix2 0 k)

def dx (x : S4096x2048.Idx → EReal) (g : S1x2048.Idx → EReal) (t : S4096x2048.Idx → EReal) (i : S4096x2048.Idx) : EReal :=
  grad (row x (i 0)) (scaled (row x (i 0)) (scale g) (row t (i 0))) (i 1)
def dg (x : S4096x2048.Idx → EReal) (g : S1x2048.Idx → EReal) (t : S4096x2048.Idx → EReal) (i : S1x2048.Idx) : EReal :=
  ∑ R : Fin 4096, dgOf (row x R) (scale g) (row t R) (i 1)
def loss (x : S4096x2048.Idx → EReal) (g : S1x2048.Idx → EReal) (t : S4096x2048.Idx → EReal) : EReal :=
  ∑ R : Fin 4096, lossOf (row x R) (scale g) (row t R)

abbrev ax (c : Dev nD) : S4096x2048.Idx → EReal := m ((c : Thread nD τ).loc main_arg0)
abbrev ag (c : Dev nD) : S1x2048.Idx → EReal := m ((c : Thread nD τ).loc main_arg1)
abbrev at_ (c : Dev nD) : S4096x2048.Idx → EReal := m ((c : Thread nD τ).loc main_arg2)

def GX (c : Dev nD) : Buf (Elt Ideal) ((c : Thread nD τ).loc main_v0_0) := dx (ax m c) (ag m c) (at_ m c)
def GB (c : Dev nD) : Buf (Elt Ideal) ((c : Thread nD τ).loc main_v0_1) := dx (ax m c) (ag m c) (at_ m c)
def GG (c : Dev nD) : Buf (Elt Ideal) ((c : Thread nD τ).loc main_v0_2) := dg (ax m c) (ag m c) (at_ m c)
def GLoss (c : Dev nD) : Buf (Elt Ideal) ((c : Thread nD τ).loc main_v0_3) := fun _ => loss (ax m c) (ag m c) (at_ m c)

/-! ## Where the windows' blocks lie -/

theorem index_facts : ∀ t : Fin grid0.N,
    (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = t.val ∧ win0_3.index t 1 = 0)
      ∧ (win0_4.index t 0 = t.val ∧ win0_4.index t 1 = 0) ∧ (win0_5.index t 0 = 0 ∧ win0_5.index t 1 = 0)
      ∧ (win0_6.index t 0 = 0 ∧ win0_6.index t 1 = 0) := by
  decide +kernel

theorem lt16 (t : Fin cfg0.N) : t.val < 16 := lt_of_lt_of_eq t.isLt N_0

/-- The array row under row `p` of block `t`. -/
def rowOf (t : Fin cfg0.N) (p : Fin 256) : Fin 4096 := ⟨t.val * 256 + p.val, by have := lt16 t; omega⟩

theorem iblk0_apply (c : Dev nD) (t : Fin cfg0.N) (p : Fin 256) (q : Fin 2048) :
    (iblk m c 0 t : S256x2048.Idx → EReal) (ix2 p q) = row (ax m c) (rowOf t p) q := by
  obtain ⟨⟨h0, h1⟩, -⟩ := index_facts t
  unfold iblk
  rw [View.read_apply]
  refine (congrFun (V_main_arg0 m c) _).trans (congrArg (ax m c) (Shape.idx_ext₂ ?_ ?_))
  · show win0_0.index t 0 * 256 + 1 * p.val = t.val * 256 + p.val
    rw [h0]; omega
  · show win0_0.index t 1 * 2048 + 1 * q.val = q.val
    rw [h1]; omega

theorem iblk1_apply (c : Dev nD) (t : Fin cfg0.N) (q : Fin 2048) :
    (iblk m c 1 t : S1x2048.Idx → EReal) (ix2 0 q) = scale (ag m c) q := by
  obtain ⟨-, ⟨h0, h1⟩, -⟩ := index_facts t
  unfold iblk
  rw [View.read_apply]
  refine (congrFun (V_main_arg1 m c) _).trans (congrArg (ag m c) (Shape.idx_ext₂ ?_ ?_))
  · show win0_1.index t 0 * 1 + 1 * 0 = 0
    rw [h0]
  · show win0_1.index t 1 * 2048 + 1 * q.val = q.val
    rw [h1]; omega

theorem iblk2_apply (c : Dev nD) (t : Fin cfg0.N) (p : Fin 256) (q : Fin 2048) :
    (iblk m c 2 t : S256x2048.Idx → EReal) (ix2 p q) = row (at_ m c) (rowOf t p) q := by
  obtain ⟨-, -, ⟨h0, h1⟩, -⟩ := index_facts t
  unfold iblk
  rw [View.read_apply]
  refine (congrFun (V_main_arg2 m c) _).trans (congrArg (at_ m c) (Shape.idx_ext₂ ?_ ?_))
  · show win0_2.index t 0 * 256 + 1 * p.val = t.val * 256 + p.val
    rw [h0]; omega
  · show win0_2.index t 1 * 2048 + 1 * q.val = q.val
    rw [h1]; omega

/-! ## The row gradient -/

theorem outs_dx (c : Dev nD) (t : Fin cfg0.N) :
    (outsAt0 m c t.val t.isLt).1 = k0_pay7 (iblk m c 0 t) (iblk m c 1 t) (iblk m c 2 t)
      ∧ (outsAt0 m c t.val t.isLt).2.1 = k0_pay8 (iblk m c 0 t) (iblk m c 1 t) (iblk m c 2 t) := by
  by_cases h : t.val % 16 = 0
  · rw [outsAt0_A m c t h]; dsimp only; exact ⟨(outs_A _ _ _ _ _ _ _ _ _ _ _ _ _ _ _ _ _ _ _ _).1, (outs_A _ _ _ _ _ _ _ _ _ _ _ _ _ _ _ _ _ _ _ _).2.1⟩
  · rw [outsAt0_B m c t h]; dsimp only; exact ⟨(outs_B _ _ _ _ _ _ _ _ _ _ _ _ _ _ _ _ _ _ _ _ _ _).1, (outs_B _ _ _ _ _ _ _ _ _ _ _ _ _ _ _ _ _ _ _ _ _ _).2.1⟩

/-- A block's gradient is the array's at the row and column under it. -/
theorem dx_apply (c : Dev nD) (t : Fin cfg0.N) (y : S256x2048.Idx) (z : S4096x2048.Idx)
    (hz : z = ix2 (rowOf t (y 0)) (y 1)) :
    k0_pay7 (iblk m c 0 t) (iblk m c 1 t) (iblk m c 2 t) y = dx (ax m c) (ag m c) (at_ m c) z := by
  have ey : y = (ix2 (y 0) (y 1) : S256x2048.Idx) := Shape.idx_ext₂ rfl rfl
  refine (congrArg (k0_pay7 (iblk m c 0 t) (iblk m c 1 t) (iblk m c 2 t)) ey).trans
    (Eq.trans ?_ (congrArg (dx (ax m c) (ag m c) (at_ m c)) hz.symm))
  exact pay7_apply _ _ _ (fun p => row (ax m c) (rowOf t p)) (scale (ag m c)) (fun p => row (at_ m c) (rowOf t p))
    (iblk0_apply m c t) (iblk1_apply m c t) (iblk2_apply m c t) (y 0) (y 1)

theorem flushed3_eq (c : Dev nD) (t : Fin cfg0.N) :
    (dats m 0 c).flushed 3 t = ((cfg0.win 3).blk t).view.read (Elt Ideal) (GX m c) := by
  rw [Value.flushed3, (outs_dx m c t).1]
  funext y
  rw [View.read_apply]
  obtain ⟨-, -, -, ⟨i0, i1⟩, -⟩ := index_facts t
  exact dx_apply m c t y _ (Shape.idx_ext₂
    (by show win0_3.index t 0 * 256 + 1 * (y 0).val = t.val * 256 + (y 0).val; rw [i0]; omega)
    (by show win0_3.index t 1 * 2048 + 1 * (y 1).val = (y 1).val; rw [i1]; omega))

theorem flushed4_eq (c : Dev nD) (t : Fin cfg0.N) :
    (dats m 0 c).flushed 4 t = ((cfg0.win 4).blk t).view.read (Elt Ideal) (GB m c) := by
  rw [Value.flushed4, (outs_dx m c t).2]
  funext y
  rw [View.read_apply]
  obtain ⟨-, -, -, -, ⟨i0, i1⟩, -⟩ := index_facts t
  exact dx_apply m c t y _ (Shape.idx_ext₂
    (by show win0_4.index t 0 * 256 + 1 * (y 0).val = t.val * 256 + (y 0).val; rw [i0]; omega)
    (by show win0_4.index t 1 * 2048 + 1 * (y 1).val = (y 1).val; rw [i1]; omega))

/-- The point whose block holds a row. -/
def pointOf (i : S4096x2048.Idx) : Fin grid0.N := ⟨(i 0).val / 256, by have b0 : (i 0).val < 4096 := (i 0).isLt; rw [N_0]; omega⟩

theorem cover3 (i : S4096x2048.Idx) : ∃ t : Fin cfg0.N, (cfg0.win 3).flush t = true ∧ i ∈ ((cfg0.win 3).blk t).view.set := by
  have b0 : (i 0).val < 4096 := (i 0).isLt
  have b1 : (i 1).val < 2048 := (i 1).isLt
  obtain ⟨-, -, -, ⟨h0, h1⟩, -⟩ := index_facts (pointOf i)
  have e0 : win0_3.index (pointOf i) 0 = (i 0).val / 256 := h0
  refine ⟨pointOf i, flush0_3 _, ?_⟩
  show i ∈ ((View.whole main_v0_0).slice (win0_3.rect (pointOf i))).set
  rw [View.set_slice_whole, Rect.mem_set_unit]
  intro a
  match a with
  | ⟨0, _⟩ =>
    show win0_3.index (pointOf i) 0 * 256 ≤ (i 0).val ∧ (i 0).val < win0_3.index (pointOf i) 0 * 256 + 256
    rw [e0]; omega
  | ⟨1, _⟩ =>
    show win0_3.index (pointOf i) 1 * 2048 ≤ (i 1).val ∧ (i 1).val < win0_3.index (pointOf i) 1 * 2048 + 2048
    rw [h1]; omega

theorem cover4 (i : S4096x2048.Idx) : ∃ t : Fin cfg0.N, (cfg0.win 4).flush t = true ∧ i ∈ ((cfg0.win 4).blk t).view.set := by
  have b0 : (i 0).val < 4096 := (i 0).isLt
  have b1 : (i 1).val < 2048 := (i 1).isLt
  obtain ⟨-, -, -, -, ⟨h0, h1⟩, -⟩ := index_facts (pointOf i)
  have e0 : win0_4.index (pointOf i) 0 = (i 0).val / 256 := h0
  refine ⟨pointOf i, flush0_4 _, ?_⟩
  show i ∈ ((View.whole main_v0_1).slice (win0_4.rect (pointOf i))).set
  rw [View.set_slice_whole, Rect.mem_set_unit]
  intro a
  match a with
  | ⟨0, _⟩ =>
    show win0_4.index (pointOf i) 0 * 256 ≤ (i 0).val ∧ (i 0).val < win0_4.index (pointOf i) 0 * 256 + 256
    rw [e0]; omega
  | ⟨1, _⟩ =>
    show win0_4.index (pointOf i) 1 * 2048 ≤ (i 1).val ∧ (i 1).val < win0_4.index (pointOf i) 1 * 2048 + 2048
    rw [h1]; omega

/-! ## The sums over the rows -/

/-- The sum of the terms `f` of the rows under block `t`. -/
theorem block_terms (t : Fin cfg0.N) (f : Fin 4096 → EReal) :
    ∑ p : Fin 256, f (rowOf t p) = ∑ p : Fin 256, Cert.Products.ext f (t.val * 256 + p.val) := by
  have := lt16 t
  exact Finset.sum_congr rfl fun p _ => (Cert.Products.ext_apply f _ (by omega)).symm

theorem dg_block (c : Dev nD) (t : Fin cfg0.N) (q : Fin 2048) (s : Vec Ideal S1x2048 .f32) :
    k0_pay1 (k0_pay4 (iblk m c 0 t)) (k0_pay6 (iblk m c 0 t) (iblk m c 1 t) (iblk m c 2 t)) s (ix2 0 q)
      = s (ix2 0 q) + ∑ p : Fin 256, Cert.Products.ext (fun R => dgOf (row (ax m c) R) (scale (ag m c)) (row (at_ m c) R) q) (t.val * 256 + p.val) :=
  (pay1_apply _ _ _ (fun p => row (ax m c) (rowOf t p)) (scale (ag m c)) (fun p => row (at_ m c) (rowOf t p))
    (iblk0_apply m c t) (iblk1_apply m c t) (iblk2_apply m c t) s q).trans
    (congrArg (s (ix2 0 q) + ·) (block_terms t (fun R => dgOf (row (ax m c) R) (scale (ag m c)) (row (at_ m c) R) q)))

theorem loss_block (c : Dev nD) (t : Fin cfg0.N) (s : Vec Ideal S1x1 .f32) :
    k0_pay2 (k0_pay5 (iblk m c 0 t) (iblk m c 1 t) (iblk m c 2 t)) s (ix2 0 0)
      = s (ix2 0 0) + ∑ p : Fin 256, Cert.Products.ext (fun R => lossOf (row (ax m c) R) (scale (ag m c)) (row (at_ m c) R)) (t.val * 256 + p.val) :=
  (pay2_apply _ _ _ (fun p => row (ax m c) (rowOf t p)) (scale (ag m c)) (fun p => row (at_ m c) (rowOf t p))
    (iblk0_apply m c t) (iblk1_apply m c t) (iblk2_apply m c t) s).trans
    (congrArg (s (ix2 0 0) + ·) (block_terms t (fun R => lossOf (row (ax m c) R) (scale (ag m c)) (row (at_ m c) R))))

/-- An accumulator set at the first point and added to at the others holds the terms of the rows up to its block. -/
theorem accumulated (F : ℕ → EReal) (a : ∀ n, n < cfg0.N → EReal)
    (first : ∀ t : Fin cfg0.N, t.val % 16 = 0 → a t.val t.isLt = 0 + ∑ p : Fin 256, F (t.val * 256 + p.val))
    (next : ∀ n (hn : n + 1 < cfg0.N), ¬(n + 1) % 16 = 0 →
      a (n + 1) hn = a n (Nat.lt_of_succ_lt hn) + ∑ p : Fin 256, F ((n + 1) * 256 + p.val))
    (n : ℕ) (hn : n < cfg0.N) : a n hn = ∑ k ∈ Finset.range ((n + 1) * 256), F k := by
  have hlt : n < 16 := lt_of_lt_of_eq hn N_0
  have h := Cert.Products.sweep (N := cfg0.N) 17 256 0 F a ?_ ?_ n hn (by omega) (by omega)
  · rw [Nat.mod_eq_of_lt (by omega)] at h
    exact h
  · intro n' hn' hq h0
    have : n' < 16 := lt_of_lt_of_eq hn' N_0
    rw [Nat.mod_eq_of_lt (by omega)]
    exact (first ⟨n', hn'⟩ (by dsimp only; omega)).trans (zero_add _)
  · intro n' hn' hq h0 h2
    have : n' + 1 < 16 := lt_of_lt_of_eq hn' N_0
    rw [Nat.mod_eq_of_lt (by omega)]
    exact next n' hn' (by omega)

theorem acc_dg (c : Dev nD) (q : Fin 2048) (n : ℕ) (hn : n < cfg0.N) :
    (outsAt0 m c n hn).2.2.1 (ix2 0 q) = ∑ k ∈ Finset.range ((n + 1) * 256),
      Cert.Products.ext (fun R => dgOf (row (ax m c) R) (scale (ag m c)) (row (at_ m c) R) q) k := by
  refine accumulated _ (fun n hn => (outsAt0 m c n hn).2.2.1 (ix2 0 q)) (fun t h0 => ?_) (fun n' hn' h0 => ?_) n hn
  · rw [outsAt0_A m c t h0]
    dsimp only
    rw [(outs_A _ _ _ _ _ _ _ _ _ _ _ _ _ _ _ _ _ _ _ _).2.2.1]
    exact (dg_block m c t q _).trans (congrArg (· + _) Ideal.ofBits_zero_f32)
  · rw [outsAt0_B m c ⟨n' + 1, hn'⟩ h0]
    dsimp only
    rw [(outs_B _ _ _ _ _ _ _ _ _ _ _ _ _ _ _ _ _ _ _ _ _ _).2.2.1]
    exact dg_block m c ⟨n' + 1, hn'⟩ q _

theorem acc_loss (c : Dev nD) (n : ℕ) (hn : n < cfg0.N) :
    (outsAt0 m c n hn).2.2.2 (ix2 0 0) = ∑ k ∈ Finset.range ((n + 1) * 256),
      Cert.Products.ext (fun R => lossOf (row (ax m c) R) (scale (ag m c)) (row (at_ m c) R)) k := by
  refine accumulated _ (fun n hn => (outsAt0 m c n hn).2.2.2 (ix2 0 0)) (fun t h0 => ?_) (fun n' hn' h0 => ?_) n hn
  · rw [outsAt0_A m c t h0]
    dsimp only
    rw [(outs_A _ _ _ _ _ _ _ _ _ _ _ _ _ _ _ _ _ _ _ _).2.2.2]
    exact (loss_block m c t _).trans (congrArg (· + _) Ideal.ofBits_zero_f32)
  · rw [outsAt0_B m c ⟨n' + 1, hn'⟩ h0]
    dsimp only
    rw [(outs_B _ _ _ _ _ _ _ _ _ _ _ _ _ _ _ _ _ _ _ _ _ _).2.2.2]
    exact loss_block m c ⟨n' + 1, hn'⟩ _

/-- The last point is the only one written back, and there the prefix is the whole sum. -/
theorem full_sum (t : Fin cfg0.N) (h : t.val % 16 = 15) (f : Fin 4096 → EReal) :
    ∑ k ∈ Finset.range ((t.val + 1) * 256), Cert.Products.ext f k = ∑ R, f R := by
  have hlt := lt16 t
  have ht : (t.val + 1) * 256 = 4096 := by omega
  rw [ht]
  exact Cert.Products.prefix_full f

theorem flushed5_eq (c : Dev nD) (t : Fin cfg0.N) (hf : (cfg0.win 5).flush t = true) :
    (dats m 0 c).flushed 5 t = ((cfg0.win 5).blk t).view.read (Elt Ideal) (GG m c) := by
  rw [Value.flushed5]
  funext y
  rw [View.read_apply]
  obtain ⟨-, -, -, -, -, ⟨i0, i1⟩, -⟩ := index_facts t
  have y0 : (y 0).val < 1 := (y 0).isLt
  have e : ((cfg0.win 5).blk t).view.emb y = (ix2 0 (y 1) : S1x2048.Idx) := Shape.idx_ext₂
    (by show win0_5.index t 0 * 1 + 1 * (y 0).val = 0; rw [i0]; omega)
    (by show win0_5.index t 1 * 2048 + 1 * (y 1).val = (y 1).val; rw [i1]; omega)
  have ey : y = (ix2 0 (y 1) : S1x2048.Idx) := Shape.idx_ext₂ (by show (y 0).val = 0; omega) rfl
  refine Eq.trans (congrArg (outsAt0 m c t.val t.isLt).2.2.1 ey) (Eq.trans ?_ (congrArg (GG m c) e.symm))
  exact (acc_dg m c (y 1) t.val t.isLt).trans (full_sum t ((flush0_5 t).mp hf) _)

theorem flushed6_eq (c : Dev nD) (t : Fin cfg0.N) (hf : (cfg0.win 6).flush t = true) :
    (dats m 0 c).flushed 6 t = ((cfg0.win 6).blk t).view.read (Elt Ideal) (GLoss m c) := by
  rw [Value.flushed6]
  funext y
  rw [View.read_apply]
  have y0 : (y 0).val < 1 := (y 0).isLt
  have y1 : (y 1).val < 1 := (y 1).isLt
  have ey : y = (ix2 0 0 : S1x1.Idx) := Shape.idx_ext₂ (by show (y 0).val = 0; omega) (by show (y 1).val = 0; omega)
  refine Eq.trans (congrArg (outsAt0 m c t.val t.isLt).2.2.2 ey) ?_
  exact (acc_loss m c t.val t.isLt).trans (full_sum t ((flush0_6 t).mp hf) _)

/-- The last point. -/
def lastPoint : Fin grid0.N := ⟨15, by rw [N_0]; omega⟩

theorem cover5 (i : S1x2048.Idx) : ∃ t : Fin cfg0.N, (cfg0.win 5).flush t = true ∧ i ∈ ((cfg0.win 5).blk t).view.set := by
  have b0 : (i 0).val < 1 := (i 0).isLt
  have b1 : (i 1).val < 2048 := (i 1).isLt
  obtain ⟨-, -, -, -, -, ⟨h0, h1⟩, -⟩ := index_facts lastPoint
  refine ⟨lastPoint, (flush0_5 _).mpr rfl, ?_⟩
  show i ∈ ((View.whole main_v0_2).slice (win0_5.rect lastPoint)).set
  rw [View.set_slice_whole, Rect.mem_set_unit]
  intro a
  match a with
  | ⟨0, _⟩ =>
    show win0_5.index lastPoint 0 * 1 ≤ (i 0).val ∧ (i 0).val < win0_5.index lastPoint 0 * 1 + 1
    rw [h0]; omega
  | ⟨1, _⟩ =>
    show win0_5.index lastPoint 1 * 2048 ≤ (i 1).val ∧ (i 1).val < win0_5.index lastPoint 1 * 2048 + 2048
    rw [h1]; omega

theorem cover6 (i : S1x1.Idx) : ∃ t : Fin cfg0.N, (cfg0.win 6).flush t = true ∧ i ∈ ((cfg0.win 6).blk t).view.set := by
  have b0 : (i 0).val < 1 := (i 0).isLt
  have b1 : (i 1).val < 1 := (i 1).isLt
  obtain ⟨-, -, -, -, -, -, h0, h1⟩ := index_facts lastPoint
  refine ⟨lastPoint, (flush0_6 _).mpr rfl, ?_⟩
  show i ∈ ((View.whole main_v0_3).slice (win0_6.rect lastPoint)).set
  rw [View.set_slice_whole, Rect.mem_set_unit]
  intro a
  match a with
  | ⟨0, _⟩ =>
    show win0_6.index lastPoint 0 * 1 ≤ (i 0).val ∧ (i 0).val < win0_6.index lastPoint 0 * 1 + 1
    rw [h0]; omega
  | ⟨1, _⟩ =>
    show win0_6.index lastPoint 1 * 1 ≤ (i 1).val ∧ (i 1).val < win0_6.index lastPoint 1 * 1 + 1
    rw [h1]; omega

/-- The four arrays the kernel leaves. -/
theorem final (c : Dev nD) : (dats m 0 c).arrAt 3 cfg0.N = GX m c ∧ (dats m 0 c).arrAt 4 cfg0.N = GB m c
    ∧ (dats m 0 c).arrAt 5 cfg0.N = GG m c ∧ (dats m 0 c).arrAt 6 cfg0.N = GLoss m c :=
  ⟨(dats m 0 c).arrAt_eq_of_cover 3 (GX m c) (fun t _ => flushed3_eq m c t) cover3,
    (dats m 0 c).arrAt_eq_of_cover 4 (GB m c) (fun t _ => flushed4_eq m c t) cover4,
    (dats m 0 c).arrAt_eq_of_cover 5 (GG m c) (flushed5_eq m c) cover5,
    (dats m 0 c).arrAt_eq_of_cover 6 (GLoss m c) (flushed6_eq m c) cover6⟩

end Cert.LossHeadIdeal.Tiles

namespace Cert.LossHeadValue

open Cert.LossHeadRefIdeal Cert.LossHeadRefIdeal.Gen Cert.LossHeadRefIdeal.Read Cert.Norms Cert.LossHeadIdeal.Tiles

variable (x : S4096x2048.Idx → EReal) (g : S1x2048.Idx → EReal) (t : S4096x2048.Idx → EReal)

theorem msq_eq (R : Fin 4096) : val_main_v7 (F := Ideal) x (ix2 R 0) = msq (row x R) := by
  rw [val_main_v7_apply, val_main_v5_apply, val_main_v3_apply, val_main_v2_apply]
  refine congrArg (fun z => Ideal.div z _ + _) ?_
  refine (congrArg (· + _) Ideal.ofBits_zero_f32).trans ((zero_add _).trans (Finset.sum_congr rfl fun k _ => ?_))
  have hi : idx_main_v2 (idx_main_v3 (ix2 R 0)) k = ix2 R k := Shape.idx_ext₂ rfl rfl
  rw [hi]; rfl

theorem stat_eq (R : Fin 4096) : val_main_v8 (F := Ideal) x (ix2 R 0) = stat (row x R) :=
  congrArg Ideal.rsqrt (msq_eq x R)

theorem norm_eq (R : Fin 4096) (C : Fin 2048) : val_main_v13 (F := Ideal) x (ix2 R C) = row x R C * stat (row x R) := by
  have hj : idx_main_v12 (ix2 R C : S4096x2048.Idx) = ix2 R 0 := Shape.idx_ext₂ rfl rfl
  rw [val_main_v13_apply, val_main_v12_apply, hj, stat_eq]
  rfl

theorem scale_eq (C : Fin 2048) (i : S1x2048.Idx) (h : (i 1).val = C.val) : val_main_v14 (F := Ideal) g i = scale g C := by
  rw [val_main_v14_apply, val_main_v0_apply]
  refine congrArg g (Shape.idx_ext₂ rfl ?_)
  show (i 1).val % 2048 = C.val
  rw [h]; exact Nat.mod_eq_of_lt C.isLt

theorem err_eq (R : Fin 4096) (C : Fin 2048) : val_main_v17 (F := Ideal) x g t (ix2 R C) = err (row x R) (scale g) (row t R) C := by
  rw [val_main_v17_apply, val_main_v16_apply, norm_eq, val_main_v15_apply, scale_eq g C _ rfl]
  rfl

/-- Half of twice the error over 2048 is the error times 1/2048. -/
theorem dy_eq (R : Fin 4096) (C : Fin 2048) : val_main_v31 (F := Ideal) x g t (ix2 R C) = dy (row x R) (scale g) (row t R) C := by
  rw [val_main_v31_apply, val_main_v20_apply, err_eq, val_main_v30_apply, val_main_v29_apply]
  show Ideal.div (Ideal.ofBits .f32 0x3F000000#32 * Ideal.ofBits .f32 0x3F800000#32) (Ideal.ofBits .f32 0x45000000#32)
    * (Ideal.ofBits .f32 0x40000000#32 * _) = _ * Ideal.ofBits .f32 0x3A000000#32
  rw [div_len, half_eq, two_eq, share_eq, Ideal.ofBits_one_f32, mul_one, ← mul_assoc, ← EReal.coe_mul, ← EReal.coe_mul, mul_comm]
  refine congrArg (fun z : ℝ => _ * (z : EReal)) ?_
  norm_num

theorem scaled_eq (R : Fin 4096) (C : Fin 2048) :
    val_main_v36 (F := Ideal) x g t (ix2 R C) = scaled (row x R) (scale g) (row t R) C := by
  rw [val_main_v36_apply, dy_eq, val_main_v35_apply, scale_eq g C _ rfl]
  rfl

theorem through_eq (R : Fin 4096) (C : Fin 2048) :
    val_main_v47 (F := Ideal) x g t (ix2 R C) = through (row x R) (scaled (row x R) (scale g) (row t R)) := by
  have e : ∀ k, idx_main_v46 (idx_main_v47 (ix2 R C)) k = (ix2 R 0 : S4096x1.Idx) :=
    fun k => Shape.idx_ext₂ rfl (by have := k.isLt; show k.val = 0; omega)
  rw [val_main_v47_apply, val_main_v46_apply]
  refine (congrArg (· + _) Ideal.ofBits_zero_f32).trans ((zero_add _).trans ((Fin.sum_univ_one _).trans ?_))
  rw [e, val_main_v45_apply, val_main_v43_apply, val_main_v11_apply, val_main_v9_apply, msq_eq, stat_eq, val_main_v40_apply, val_main_v39_apply]
  refine congrArg (fun z => Ideal.div (z * _) _) ?_
  refine (congrArg (· + _) Ideal.ofBits_zero_f32).trans ((zero_add _).trans (Finset.sum_congr rfl fun k _ => ?_))
  have hi : idx_main_v39 (idx_main_v40 (ix2 R 0)) k = ix2 R k :=
    Shape.idx_ext₂ (by show R.val * 1 + 0 = R.val; omega) rfl
  rw [hi, val_main_v38_apply, scaled_eq]
  rfl

theorem dx_eq : val_main_v51 (F := Ideal) x g t = dx x g t := by
  funext i
  obtain ⟨R, C, rfl⟩ : ∃ (R : Fin 4096) (C : Fin 2048), i = ix2 R C := ⟨i 0, i 1, Shape.idx_ext₂ rfl rfl⟩
  have hi : idx_main_v41 (ix2 R C : S4096x2048.Idx) = ix2 R 0 := Shape.idx_ext₂ rfl rfl
  rw [val_main_v51_apply, val_main_v49_apply, val_main_v50_apply, val_main_v48_apply, val_main_v42_apply,
    val_main_v41_apply, through_eq, scaled_eq, hi, stat_eq]
  exact (grad_eq (row x R) (scaled (row x R) (scale g) (row t R)) C).symm

theorem dg_eq : val_main_v53 (F := Ideal) x g t = dg x g t := by
  funext i
  obtain ⟨C, rfl⟩ : ∃ C : Fin 2048, i = ix2 0 C :=
    ⟨i 1, Shape.idx_ext₂ (by have b0 : (i 0).val < 1 := (i 0).isLt; show (i 0).val = 0; omega) rfl⟩
  rw [val_main_v53_apply, val_main_v37_apply]
  refine (congrArg (· + _) Ideal.ofBits_zero_f32).trans ((zero_add _).trans ((Fin.sum_univ_one _).trans ?_))
  rw [val_main_v34_apply, val_main_v33_apply]
  refine (congrArg (· + _) Ideal.ofBits_zero_f32).trans ((zero_add _).trans (Finset.sum_congr rfl fun R _ => ?_))
  have hi : idx_main_v33 (idx_main_v34 (idx_main_v37 (idx_main_v53 (ix2 0 C : S1x2048.Idx)) 0)) R = ix2 R C :=
    Shape.idx_ext₂ rfl (by show 0 * 2048 + C.val = C.val; omega)
  rw [hi, val_main_v32_apply, norm_eq, dy_eq]
  exact mul_comm _ _

theorem loss_eq : val_main_v54 (F := Ideal) x g t = fun _ => loss x g t := by
  funext i
  unfold val_main_v54
  rw [shapeCast_apply _ shapeCasts_S_S1x1 i (Shape.Idx.first h_S_) (by
    have b0 : (i 0).val < 1 := (i 0).isLt
    have b1 : (i 1).val < 1 := (i 1).isLt
    have hf : (S_.rowMajor (Shape.Idx.first h_S_)).val < 1 :=
      lt_of_lt_of_eq (S_.rowMajor (Shape.Idx.first h_S_)).isLt (Shape.numel_eq_one fun a => a.elim0)
    rw [Shape.rowMajor_val_two]
    show (S_.rowMajor (Shape.Idx.first h_S_)).val = (i 0).val * 1 + (i 1).val
    omega), val_main_v25_apply, val_main_v24_apply]
  refine (congrArg (fun z : EReal => Ideal.ofBits .f32 0x3F000000#32 * z) ((congrArg (· + _) Ideal.ofBits_zero_f32).trans (zero_add _))).trans ?_
  rw [half_eq, mul_sum_nonneg _ _ (by norm_num)]
  refine (Equiv.sum_comp (⟨fun R => ix1 R, fun j => j 0, fun _ => rfl, fun j => (eq_ix1 j).symm⟩ : Fin 4096 ≃ S4096.Idx) _).symm.trans
    (Finset.sum_congr rfl fun R _ => ?_)
  show ((1 / 2 : ℝ) : EReal) * val_main_v23 (F := Ideal) x g t (ix1 R) = lossOf (row x R) (scale g) (row t R)
  rw [val_main_v23_apply, val_main_v21_apply]
  unfold lossOf
  rw [half_eq, share_eq]
  refine congrArg (fun z : EReal => ((1 / 2 : ℝ) : EReal) * z) ((div_len _).trans (congrArg (fun z : EReal => z * ((1 / 2048 : ℝ) : EReal)) ?_))
  refine (congrArg (· + _) Ideal.ofBits_zero_f32).trans ((zero_add _).trans (Finset.sum_congr rfl fun k _ => ?_))
  have hi : idx_main_v21 (ix1 R : S4096.Idx) k = ix2 R k := Shape.idx_ext₂ rfl rfl
  rw [hi, val_main_v18_apply, err_eq]
  rfl

/-- On equal arguments the kernel's results are the reference's. -/
theorem algebraic : Cert.algebraic_LossHeadIdeal_LossHeadRefIdeal := by
  intro m ρ m' ρ' _ hagree
  refine ⟨fun c => GX m c, fun c => GB m c, fun c => GG m c, fun c => GLoss m c, ?_, ?_⟩
  · exact (θ_run Cert.LossHeadIdeal.defs _ _).mono (fun r h c =>
      ⟨(h c).1.trans (final m c).1, (h c).2.1.trans (final m c).2.1, (h c).2.2.1.trans (final m c).2.2.1,
        (h c).2.2.2.1.trans (final m c).2.2.2, (h c).2.2.2.2⟩) (Cert.LossHeadIdeal.Value.run_blocks (F := Ideal) m ρ)
  · refine (θ_run Cert.LossHeadRefIdeal.defs _ _).mono (fun r h c =>
      ⟨(h c).1.trans ?_, (h c).2.1.trans ?_, (h c).2.2.1.trans ?_, (h c).2.2.2.1.trans ?_, (h c).2.2.2.2⟩)
      (Cert.LossHeadRefIdeal.Value.run (F := Ideal) m' ρ')
    · refine (val_main_v51_eq (F := Ideal) m' c).trans ((dx_eq _ _ _).trans ?_)
      rw [(hagree c).1, (hagree c).2.1, (hagree c).2.2]
      rfl
    · refine (val_main_v52_eq (F := Ideal) m' c).trans (Eq.trans (funext fun i => val_main_v52_apply (F := Ideal) _ _ _ i) ((dx_eq _ _ _).trans ?_))
      rw [(hagree c).1, (hagree c).2.1, (hagree c).2.2]
      rfl
    · refine (val_main_v53_eq (F := Ideal) _ _ _).trans ((dg_eq _ _ _).trans ?_)
      rw [(hagree c).1, (hagree c).2.1, (hagree c).2.2]
      rfl
    · refine (val_main_v54_eq (F := Ideal) _ _ _).trans ((loss_eq _ _ _).trans ?_)
      rw [(hagree c).1, (hagree c).2.1, (hagree c).2.2]
      rfl

end Cert.LossHeadValue

end
-- ==== Proof.Sums.lean ====
/-
  The sum of eight arrays laid along a leading axis, added one after another: what a device does with the eight parts of a
  gradient it has been sent.
-/
module

public import Idealize.ShloMosaic.Lib.Pipeline.Value
public import Idealize.ShloMosaic.Lib.ValueIdx
public import Idealize.ShloMosaic.Lib.Pipeline.ValueKit.Tiles

@[expose] public section

noncomputable section

open Idealize.ShloMosaic Idealize.ShloMosaic.ValueIdx

namespace Cert.Sums

variable {R C R' : ℕ}

/-- The sum of the eight parts, element by element. -/
def total (x : (⟨3, ![8, R, C]⟩ : Shape).Idx → EReal) (i : (⟨2, ![R, C]⟩ : Shape).Idx) : EReal :=
  ∑ k : Fin 8, x (ix3 k (i 0) (i 1))

theorem within (k : Fin 8) (a : Fin 3) : (![k.val, 0, 0] : Fin 3 → ℕ) a + (⟨3, ![1, R, C]⟩ : Shape).size a ≤ (⟨3, ![8, R, C]⟩ : Shape).size a := by
  match a with
  | ⟨0, _⟩ => exact k.isLt
  | ⟨1, _⟩ => exact (Nat.zero_add R).le
  | ⟨2, _⟩ => exact (Nat.zero_add C).le

/-- Part `k` of a block. -/
abbrev part (k : Fin 8) : Rect (⟨3, ![8, R, C]⟩ : Shape) :=
  Rect.unit (s := ⟨3, ![8, R, C]⟩) ![k.val, 0, 0] (⟨3, ![1, R, C]⟩ : Shape).size (within k)

/-- Part `k`, read at a row and a column, is the block there. -/
theorem load (x : (⟨3, ![8, R, C]⟩ : Shape).Idx → EReal) (k : Fin 8)
    (z : (⟨3, ![1, R, C]⟩ : Shape).Idx) (i : (⟨2, ![R, C]⟩ : Shape).Idx)
    (h0 : (z 1).val = (i 0).val) (h1 : (z 2).val = (i 1).val) :
    x ((part k).idx z) = x (ix3 k (i 0) (i 1)) := by
  have hz : (z 0).val < 1 := (z 0).isLt
  refine congrArg x (funext fun a => Fin.ext ((Rect.idx_unit_val _ _ (within k) z a).trans ?_))
  match a with
  | ⟨0, _⟩ => show k.val + (z 0).val = k.val; omega
  | ⟨1, _⟩ => show 0 + (z 1).val = (i 0).val; omega
  | ⟨2, _⟩ => show 0 + (z 2).val = (i 1).val; omega

/-- The eight parts of a block, added one after another, are their sum. -/
theorem loads (x : (⟨3, ![8, R, C]⟩ : Shape).Idx → EReal) (z : (⟨3, ![1, R, C]⟩ : Shape).Idx) (i : (⟨2, ![R, C]⟩ : Shape).Idx)
    (h0 : (z 1).val = (i 0).val) (h1 : (z 2).val = (i 1).val) :
    x ((part 0).idx z) + x ((part 1).idx z) + x ((part 2).idx z) + x ((part 3).idx z) + x ((part 4).idx z)
      + x ((part 5).idx z) + x ((part 6).idx z) + x ((part 7).idx z) = total x i := by
  unfold total
  simp only [Fin.sum_univ_eight, load x _ z i h0 h1]

/-- A slice of a part's columns, from column `o` on, read at an element: the part at the element's row and column. -/
theorem slice_apply {H : ℕ} (o : ℕ) (P : (⟨3, ![1, R, C]⟩ : Shape).Idx → EReal) (hc : (⟨3, ![1, R, C]⟩ : Shape).ShapeCasts ⟨2, ![R, C]⟩)
    (hs : (⟨2, ![R, C]⟩ : Shape).Slices ![0, o] ⟨2, ![R, H]⟩) (x : (⟨2, ![R, H]⟩ : Shape).Idx) (i : (⟨2, ![R, C]⟩ : Shape).Idx)
    (h0 : (i 0).val = (x 0).val) (h1 : (i 1).val = o + (x 1).val) :
    extractStridedSlice ⟨2, ![R, H]⟩ ![0, o] (shapeCast ⟨2, ![R, C]⟩ P hc) hs x = P (ix3 (0 : Fin 1) (i 0) (i 1)) := by
  refine (extractStridedSlice_apply ![0, o] _ hs x i fun a => ?_).trans (shapeCast_apply P hc i _ ?_)
  · match a with
    | ⟨0, _⟩ => show (i 0).val = 0 + (x 0).val; omega
    | ⟨1, _⟩ => exact h1
  · rw [Shape.rowMajor_val_three, Shape.rowMajor_val_two]
    show (0 * R + (i 0).val) * C + (i 1).val = (i 0).val * C + (i 1).val
    rw [Nat.zero_mul, Nat.zero_add]

/-- A slice of the columns of eight arrays, added one after another. -/
def slices (H : ℕ) (o : ℕ) (hc : (⟨3, ![1, R, C]⟩ : Shape).ShapeCasts ⟨2, ![R, C]⟩) (hs : (⟨2, ![R, C]⟩ : Shape).Slices ![0, o] ⟨2, ![R, H]⟩)
    (P0 P1 P2 P3 P4 P5 P6 P7 : (⟨3, ![1, R, C]⟩ : Shape).Idx → EReal) (x : (⟨2, ![R, H]⟩ : Shape).Idx) : EReal :=
  extractStridedSlice ⟨2, ![R, H]⟩ ![0, o] (shapeCast ⟨2, ![R, C]⟩ P0 hc) hs x
    + extractStridedSlice ⟨2, ![R, H]⟩ ![0, o] (shapeCast ⟨2, ![R, C]⟩ P1 hc) hs x
    + extractStridedSlice ⟨2, ![R, H]⟩ ![0, o] (shapeCast ⟨2, ![R, C]⟩ P2 hc) hs x
    + extractStridedSlice ⟨2, ![R, H]⟩ ![0, o] (shapeCast ⟨2, ![R, C]⟩ P3 hc) hs x
    + extractStridedSlice ⟨2, ![R, H]⟩ ![0, o] (shapeCast ⟨2, ![R, C]⟩ P4 hc) hs x
    + extractStridedSlice ⟨2, ![R, H]⟩ ![0, o] (shapeCast ⟨2, ![R, C]⟩ P5 hc) hs x
    + extractStridedSlice ⟨2, ![R, H]⟩ ![0, o] (shapeCast ⟨2, ![R, C]⟩ P6 hc) hs x
    + extractStridedSlice ⟨2, ![R, H]⟩ ![0, o] (shapeCast ⟨2, ![R, C]⟩ P7 hc) hs x

/-- The same of the eight parts of a block. -/
def partsSlices {H : ℕ} (o : ℕ) (X : (⟨3, ![8, R, C]⟩ : Shape).Idx → EReal) (hc : (⟨3, ![1, R, C]⟩ : Shape).ShapeCasts ⟨2, ![R, C]⟩)
    (hs : (⟨2, ![R, C]⟩ : Shape).Slices ![0, o] ⟨2, ![R, H]⟩) : (⟨2, ![R, H]⟩ : Shape).Idx → EReal :=
  slices H o hc hs (fun z => X ((part 0).idx z)) (fun z => X ((part 1).idx z)) (fun z => X ((part 2).idx z)) (fun z => X ((part 3).idx z))
    (fun z => X ((part 4).idx z)) (fun z => X ((part 5).idx z)) (fun z => X ((part 6).idx z)) (fun z => X ((part 7).idx z))

/-- It is the slice of their sum. -/
theorem slices_parts {H : ℕ} (o : ℕ) (X : (⟨3, ![8, R, C]⟩ : Shape).Idx → EReal) (hc : (⟨3, ![1, R, C]⟩ : Shape).ShapeCasts ⟨2, ![R, C]⟩)
    (hs : (⟨2, ![R, C]⟩ : Shape).Slices ![0, o] ⟨2, ![R, H]⟩) (x : (⟨2, ![R, H]⟩ : Shape).Idx) (i : (⟨2, ![R, C]⟩ : Shape).Idx)
    (h0 : (i 0).val = (x 0).val) (h1 : (i 1).val = o + (x 1).val) :
    partsSlices o X hc hs x = total X i := by
  unfold partsSlices slices
  simp only [slice_apply o _ hc hs x i h0 h1]
  exact loads X _ i rfl rfl

/-- A block stored as two ranges of its columns, each the slice of the eight parts added one after another, is the sum of
    the parts. -/
theorem canon_eq {H : ℕ} (o : ℕ) (X : (⟨3, ![8, R, C]⟩ : Shape).Idx → EReal) (hc : (⟨3, ![1, R, C]⟩ : Shape).ShapeCasts ⟨2, ![R, C]⟩)
    (hl : (⟨2, ![R, C]⟩ : Shape).Slices ![0, 0] ⟨2, ![R, H]⟩) (hr : (⟨2, ![R, C]⟩ : Shape).Slices ![0, o] ⟨2, ![R, H]⟩)
    (il : ∀ a, (![0, 0] : Fin 2 → ℕ) a + (⟨2, ![R, H]⟩ : Shape).size a ≤ (⟨2, ![R, C]⟩ : Shape).size a)
    (ir : ∀ a, (![0, o] : Fin 2 → ℕ) a + (⟨2, ![R, H]⟩ : Shape).size a ≤ (⟨2, ![R, C]⟩ : Shape).size a)
    (fl fr : (⟨2, ![R, H]⟩ : Shape).Idx → EReal) (el : fl = partsSlices 0 X hc hl) (er : fr = partsSlices o X hc hr)
    (y : (⟨2, ![R, C]⟩ : Shape).Idx)
    (cover : ∃ p ∈ ([⟨Rect.unit (s := ⟨2, ![R, C]⟩) ![0, o] (⟨2, ![R, H]⟩ : Shape).size ir, fr⟩,
      ⟨Rect.unit (s := ⟨2, ![R, C]⟩) ![0, 0] (⟨2, ![R, H]⟩ : Shape).size il, fl⟩] : List (View.Piece (Elt Ideal) ⟨2, ![R, C]⟩ .f32)), y ∈ p.1.set) :
    View.canon (Val := Elt Ideal) (e := .f32) [⟨Rect.unit (s := ⟨2, ![R, C]⟩) ![0, o] (⟨2, ![R, H]⟩ : Shape).size ir, fr⟩,
      ⟨Rect.unit (s := ⟨2, ![R, C]⟩) ![0, 0] (⟨2, ![R, H]⟩ : Shape).size il, fl⟩] y = total X y := by
  subst el er
  refine View.canon_apply_of_pieces (Val := Elt Ideal) (total X) _ ?_ y cover
  intro p hp
  rcases List.mem_cons.mp hp with rfl | hp
  · intro x
    refine slices_parts o X hc hr x _ ?_ ?_
    · show 0 + 1 * (x 0).val = (x 0).val; omega
    · show o + 1 * (x 1).val = o + (x 1).val; omega
  rcases List.mem_cons.mp hp with rfl | hp
  · intro x
    refine slices_parts 0 X hc hl x _ ?_ ?_
    · show 0 + 1 * (x 0).val = (x 0).val; omega
    · show 0 + 1 * (x 1).val = 0 + (x 1).val; omega
  nomatch hp

/-- When a block is the rows from `p · R` on of all eight parts of an array, the sum of its parts is those rows of the sum. -/
theorem total_of_rows (x : (⟨3, ![8, R, C]⟩ : Shape).Idx → EReal) (a : (⟨3, ![8, R', C]⟩ : Shape).Idx → EReal)
    (emb : (⟨3, ![8, R, C]⟩ : Shape).Idx → (⟨3, ![8, R', C]⟩ : Shape).Idx) (hx : ∀ z, x z = a (emb z))
    (n0 n1 n2 p0 p1 : ℕ) (h : n0 = 0 ∧ n1 = p0 ∧ n2 = 0 ∧ p1 = 0)
    (e0 : ∀ z, (emb z 0).val = n0 * 8 + 1 * (z 0).val) (e1 : ∀ z, (emb z 1).val = n1 * R + 1 * (z 1).val)
    (e2 : ∀ z, (emb z 2).val = n2 * C + 1 * (z 2).val) (y : (⟨2, ![R, C]⟩ : Shape).Idx) (i : (⟨2, ![R', C]⟩ : Shape).Idx)
    (i0 : (i 0).val = p0 * R + 1 * (y 0).val) (i1 : (i 1).val = p1 * C + 1 * (y 1).val) : total x y = total a i := by
  obtain ⟨rfl, rfl, rfl, rfl⟩ := h
  refine Finset.sum_congr rfl fun k _ => (hx _).trans (congrArg a (funext fun b => Fin.ext ?_))
  match b with
  | ⟨0, _⟩ => refine (e0 _).trans ?_; show 0 * 8 + 1 * k.val = k.val; omega
  | ⟨1, _⟩ => exact (e1 _).trans i0.symm
  | ⟨2, _⟩ => exact (e2 _).trans i1.symm

/-- Every index of `n` blocks of `R` rows lies in one of them. -/
theorem in_rows (n : ℕ) (hR : R' = n * R) (i : (⟨2, ![R', C]⟩ : Shape).Idx) :
    ∃ p : Fin n, ∃ y : (⟨2, ![R, C]⟩ : Shape).Idx, p.val * R + 1 * (y 0).val = (i 0).val ∧ 0 * C + 1 * (y 1).val = (i 1).val := by
  subst hR
  have b0 : (i 0).val < n * R := (i 0).isLt
  have hpos : 0 < R := Nat.pos_of_ne_zero fun e => by subst e; exact absurd b0 (Nat.not_lt_zero _)
  refine ⟨⟨(i 0).val / R, Nat.div_lt_of_lt_mul ((Nat.mul_comm n R) ▸ b0)⟩, ix2 (⟨(i 0).val % R, Nat.mod_lt _ hpos⟩ : Fin R) (i 1), ?_, ?_⟩
  · show (i 0).val / R * R + 1 * ((i 0).val % R) = (i 0).val
    rw [Nat.one_mul, Nat.mul_comm]; exact Nat.div_add_mod _ _
  · show 0 * C + 1 * (i 1).val = (i 1).val
    rw [Nat.zero_mul, Nat.zero_add, Nat.one_mul]

/-- The host's sum, which starts from zero. -/
theorem from_zero (s : EReal) (x : (⟨3, ![8, R, C]⟩ : Shape).Idx → EReal) (i : (⟨2, ![R, C]⟩ : Shape).Idx)
    (j : Fin 8 → (⟨3, ![8, R, C]⟩ : Shape).Idx) (hs : s = 0) (hj : ∀ k, j k = ix3 k (i 0) (i 1)) :
    s + ∑ k : Fin 8, x (j k) = total x i := by
  rw [hs, zero_add]
  exact Finset.sum_congr rfl fun k _ => congrArg x (hj k)

end Cert.Sums

end
-- ==== Proof.SumSmallValue.lean ====
/-
  The sum over the devices of the small gradients, packed with the loss into [360, 128]: one block, the eight parts added
  one after another. The reference is the sum over the leading axis.
-/
module

public import proofs.«01_k».proof.Defs
public import proofs.«01_k».proof.Proof.Gen.SumSmallIdeal.Value
public import proofs.«01_k».proof.Proof.Gen.SumSmallRefIdeal.Run
public import proofs.«01_k».proof.Proof.Gen.SumSmallRefIdeal.Read
public import Idealize.ShloMosaic.Lib.ValueIdx
public import proofs.«01_k».proof.Proof.Sums

@[expose] public section

noncomputable section

open Idealize.ShloMosaic Idealize.ShloMosaic.TcCoe Idealize.SL.Sem Idealize.ShloMosaic.ValueIdx
open Cert.Sums

namespace Cert.SumSmallValue

open Cert.SumSmallIdeal Cert.SumSmallIdeal.Gen in
/-- The kernel's result is the sum of the eight parts. -/
theorem kernel_eq (x : Vec Ideal S8x360x128 .f32) : Cert.SumSmallIdeal.Value.G1 x = total x := by
  rw [← Cert.SumSmallIdeal.Value.out1_eq]
  funext y
  exact (Cert.SumSmallIdeal.Value.canon1_eq _ _ _ _ _ _ _ _ y).trans (loads x (Cert.SumSmallIdeal.Value.ix1_0 y) y rfl rfl)

open Cert.SumSmallRefIdeal Cert.SumSmallRefIdeal.Gen in
/-- The reference's result is the sum of the eight parts. -/
theorem reference_eq (x : Vec Ideal S8x360x128 .f32) : Cert.SumSmallRefIdeal.Read.val_main_v0 (F := Ideal) x = total x := by
  funext i
  rw [Cert.SumSmallRefIdeal.Read.val_main_v0_apply]
  exact from_zero _ x i (Cert.SumSmallRefIdeal.Read.idx_main_v0 i) Ideal.ofBits_zero_f32 fun _ =>
    funext fun a => match a with | ⟨0, _⟩ => rfl | ⟨1, _⟩ => rfl | ⟨2, _⟩ => rfl

/-- On equal arguments the kernel's result is the reference's. -/
theorem algebraic : Cert.algebraic_SumSmallIdeal_SumSmallRefIdeal := by
  intro m ρ m' ρ' _ hagree
  refine ⟨fun c => Cert.SumSmallIdeal.Value.G1 (m ((c.tc : Thread _ _).loc Cert.SumSmallIdeal.main_arg0)),
    Cert.SumSmallIdeal.Value.run (F := Ideal) m ρ, ?_⟩
  refine (θ_run Cert.SumSmallRefIdeal.defs _ _).mono (fun r h c => ⟨(h c).1.trans ?_, (h c).2⟩) (Cert.SumSmallRefIdeal.Value.run (F := Ideal) m' ρ')
  rw [hagree c]
  exact (reference_eq _).trans (kernel_eq _).symm

end Cert.SumSmallValue

end
-- ==== Proof.SumOutValue.lean ====
/-
  A device's share of the gradient of an output projection's weights: the eight parts it was sent, [8, 512, 2048], summed in
  two blocks of 256 rows, each block as two halves of its columns. The reference is the sum over the leading axis.
-/
module

public import proofs.«01_k».proof.Defs
public import proofs.«01_k».proof.Proof.Gen.SumOutIdeal.Frame
public import proofs.«01_k».proof.Proof.Gen.SumOutRefIdeal.Run
public import proofs.«01_k».proof.Proof.Gen.SumOutRefIdeal.Read
public import Idealize.ShloMosaic.Lib.Pipeline.Value
public import Idealize.ShloMosaic.Lib.ValueIdx
public import proofs.«01_k».proof.Proof.Sums

@[expose] public section

noncomputable section

open Idealize.ShloMosaic Idealize.ShloMosaic.TcCoe Idealize.SL.Sem Idealize.ShloMosaic.ValueIdx
open Idealize.ShloMosaic.Pipeline (Dat)
open Cert.Sums

namespace Cert.SumOutIdeal.Tiles

open Cert.SumOutIdeal Cert.SumOutIdeal.Gen

variable (m : (ℓ : Loc nD τ sig) → Buf (Elt Ideal) ℓ) (ρ : Dev nD → PrngReg)

/-- The parts device `c` was sent, and their sum. -/
def sent (c : Dev nD) : S8x512x2048.Idx → EReal := m ((c : Thread nD τ).loc main_arg0)
def G (c : Dev nD) : Buf (Elt Ideal) ((c : Thread nD τ).loc main_v0) := total (sent m c)

/-- A grid point takes all eight parts of a block of rows. -/
theorem index_facts : ∀ t : Fin grid0.N, win0_0.index t 0 = 0 ∧ win0_0.index t 1 = win0_1.index t 0
    ∧ win0_0.index t 2 = 0 ∧ win0_1.index t 1 = 0 := by
  decide +kernel

theorem index_onto : ∀ p : Fin 2, ∃ t : Fin grid0.N, win0_1.index t 0 = p.val := by decide +kernel

/-- The two stored halves are slices of the columns of the eight loaded parts, added one after another. -/
theorem left_eq (P0 P1 P2 P3 P4 P5 P6 P7 : Vec Ideal S1x256x2048 .bf16) :
    k0_pay3 (k0_pay10 P0 P1 P2 P3 P4) (k0_pay13 P5) P6 P7
      = slices 1024 0 shapeCasts_S1x256x2048_S256x2048 slices_S256x2048_o0_0_S256x1024 P0 P1 P2 P3 P4 P5 P6 P7 := rfl
theorem right_eq (P0 P1 P2 P3 P4 P5 P6 P7 : Vec Ideal S1x256x2048 .bf16) :
    k0_pay4 (k0_pay11 P0 P1 P2 P3 P4) (k0_pay12 P5) P6 P7
      = slices 1024 1024 shapeCasts_S1x256x2048_S256x2048 slices_S256x2048_o0_1024_S256x1024 P0 P1 P2 P3 P4 P5 P6 P7 := rfl

theorem out_eq (X : Vec Ideal S8x256x2048 .bf16) (y : S256x2048.Idx) : out0_1 X y = total X y :=
  canon_eq 1024 X _ _ _ _ _ _ _ (left_eq _ _ _ _ _ _ _ _) (right_eq _ _ _ _ _ _ _ _) y (cover0_1 _ _ y)

theorem flushed1_eq (c : Dev nD) (t : Fin cfg0.N) :
    (dats m 0 c).flushed 1 t = ((cfg0.win 1).blk t).view.read (Elt Ideal) (G m c) := by
  show (cfg0.win 1).cut (grid0.coords t) ((dats m 0 c).after 1 t) = _
  rw [after0_1]
  funext y
  exact (out_eq (iblk m c 0 t) y).trans (total_of_rows _ _ ((cfg0.win 0).blk t).view.emb (fun z => congrFun (V_main_arg0 m c) _)
    _ _ _ _ _ (index_facts t) (fun _ => rfl) (fun _ => rfl) (fun _ => rfl) y _ rfl rfl)

theorem final1 (c : Dev nD) : (dats m 0 c).arrAt 1 cfg0.N = G m c :=
  (dats m 0 c).arrAt_eq_of_cover 1 (G m c) (fun t _ => flushed1_eq m c t) fun i => by
    obtain ⟨p, y, e0, e1⟩ := in_rows (R := 256) (R' := 512) (C := 2048) 2 rfl i
    obtain ⟨t, e⟩ := index_onto p
    have h : ((cfg0.win 1).blk t).view.emb y = i :=
      Shape.idx_ext₂ ((congrArg (· * 256 + 1 * (y 0).val) e).trans e0) ((congrArg (· * 2048 + 1 * (y 1).val) (index_facts t).2.2.2).trans e1)
    exact ⟨t, flush0_1 t, h ▸ View.emb_mem_set _ y⟩

/-- The run leaves the sum in the result and its argument as it was. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0) :=
  (θ_run defs _ _).mono (fun r h c => ⟨((h c).1 1).trans (final1 m c),
    ((h c).1 0).trans (((dats m 0 c).arrAt_in 0 rfl _).trans ((A_eq m c 0).trans (V_main_arg0 m c)))⟩) (run_main m ρ)

end Cert.SumOutIdeal.Tiles

namespace Cert.SumOutValue

open Cert.SumOutRefIdeal Cert.SumOutRefIdeal.Gen in
/-- The reference's result is the sum of the eight parts. -/
theorem reference_eq (x : Vec Ideal S8x512x2048 .bf16) : Cert.SumOutRefIdeal.Read.val_main_v1 (F := Ideal) x = total x := by
  funext i
  rw [Cert.SumOutRefIdeal.Read.val_main_v1_apply]
  exact from_zero _ x i (Cert.SumOutRefIdeal.Read.idx_main_v1 i) Ideal.ofBits_zero_f32 fun _ =>
    funext fun a => match a with | ⟨0, _⟩ => rfl | ⟨1, _⟩ => rfl | ⟨2, _⟩ => rfl

/-- On equal arguments the kernel's result is the reference's. -/
theorem algebraic : Cert.algebraic_SumOutIdeal_SumOutRefIdeal := by
  intro m ρ m' ρ' _ hagree
  refine ⟨fun c => Cert.SumOutIdeal.Tiles.G m c, Cert.SumOutIdeal.Tiles.run m ρ, ?_⟩
  refine (θ_run Cert.SumOutRefIdeal.defs _ _).mono (fun r h c => ⟨(h c).1.trans ?_, (h c).2⟩) (Cert.SumOutRefIdeal.Value.run (F := Ideal) m' ρ')
  rw [hagree c]
  exact reference_eq _

end Cert.SumOutValue

end
-- ==== Proof.SumPoolInValue.lean ====
/-
  A device's share of the gradient of the pooled branch's input projection: the eight parts it was sent, [8, 2048, 1024],
  summed in eight blocks of 256 rows, each block as two halves of its columns. The reference is the sum over the leading axis.
-/
module

public import proofs.«01_k».proof.Defs
public import proofs.«01_k».proof.Proof.Gen.SumPoolInIdeal.Frame
public import proofs.«01_k».proof.Proof.Gen.SumPoolInRefIdeal.Run
public import proofs.«01_k».proof.Proof.Gen.SumPoolInRefIdeal.Read
public import Idealize.ShloMosaic.Lib.Pipeline.Value
public import Idealize.ShloMosaic.Lib.ValueIdx
public import proofs.«01_k».proof.Proof.Sums

@[expose] public section

noncomputable section

open Idealize.ShloMosaic Idealize.ShloMosaic.TcCoe Idealize.SL.Sem Idealize.ShloMosaic.ValueIdx
open Idealize.ShloMosaic.Pipeline (Dat)
open Cert.Sums

namespace Cert.SumPoolInIdeal.Tiles

open Cert.SumPoolInIdeal Cert.SumPoolInIdeal.Gen

variable (m : (ℓ : Loc nD τ sig) → Buf (Elt Ideal) ℓ) (ρ : Dev nD → PrngReg)

/-- The sum of the parts device `c` was sent. -/
def G (c : Dev nD) : Buf (Elt Ideal) ((c : Thread nD τ).loc main_v0) := total (R := 2048) (C := 1024) (m ((c : Thread nD τ).loc main_arg0))

/-- A grid point takes all eight parts of a block of rows. -/
theorem index_facts : ∀ t : Fin grid0.N, win0_0.index t 0 = 0 ∧ win0_0.index t 1 = win0_1.index t 0
    ∧ win0_0.index t 2 = 0 ∧ win0_1.index t 1 = 0 := by
  decide +kernel

theorem index_onto : ∀ p : Fin 8, ∃ t : Fin grid0.N, win0_1.index t 0 = p.val := by decide +kernel

/-- The two stored halves are slices of the columns of the eight loaded parts, added one after another. -/
theorem left_eq (P0 P1 P2 P3 P4 P5 P6 P7 : Vec Ideal S1x256x1024 .bf16) :
    k0_pay3 (k0_pay10 P0 P1 P2 P3 P4) (k0_pay13 P5) P6 P7
      = slices 512 0 shapeCasts_S1x256x1024_S256x1024 slices_S256x1024_o0_0_S256x512 P0 P1 P2 P3 P4 P5 P6 P7 := rfl
theorem right_eq (P0 P1 P2 P3 P4 P5 P6 P7 : Vec Ideal S1x256x1024 .bf16) :
    k0_pay4 (k0_pay11 P0 P1 P2 P3 P4) (k0_pay12 P5) P6 P7
      = slices 512 512 shapeCasts_S1x256x1024_S256x1024 slices_S256x1024_o0_512_S256x512 P0 P1 P2 P3 P4 P5 P6 P7 := rfl

theorem out_eq (X : Vec Ideal S8x256x1024 .bf16) (y : S256x1024.Idx) : out0_1 X y = total X y :=
  canon_eq 512 X _ _ _ _ _ _ _ (left_eq _ _ _ _ _ _ _ _) (right_eq _ _ _ _ _ _ _ _) y (cover0_1 _ _ y)

theorem final1 (c : Dev nD) : (dats m 0 c).arrAt 1 cfg0.N = G m c := by
  refine (dats m 0 c).arrAt_eq_of_cover 1 (G m c) (fun t _ => ?_) fun i => ?_
  · show (cfg0.win 1).cut (grid0.coords t) ((dats m 0 c).after 1 t) = _
    rw [after0_1]
    funext y
    exact (out_eq (iblk m c 0 t) y).trans (total_of_rows _ _ ((cfg0.win 0).blk t).view.emb (fun z => congrFun (V_main_arg0 m c) _)
      _ _ _ _ _ (index_facts t) (fun _ => rfl) (fun _ => rfl) (fun _ => rfl) y _ rfl rfl)
  · obtain ⟨p, y, e0, e1⟩ := in_rows (R := 256) (R' := 2048) (C := 1024) 8 rfl i
    obtain ⟨t, e⟩ := index_onto p
    have h : ((cfg0.win 1).blk t).view.emb y = i :=
      Shape.idx_ext₂ ((congrArg (· * 256 + 1 * (y 0).val) e).trans e0) ((congrArg (· * 1024 + 1 * (y 1).val) (index_facts t).2.2.2).trans e1)
    exact ⟨t, flush0_1 t, h ▸ View.emb_mem_set _ y⟩

/-- The run leaves the sum in the result and its argument as it was. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0) :=
  (θ_run defs _ _).mono (fun r h c => ⟨((h c).1 1).trans (final1 m c),
    ((h c).1 0).trans (((dats m 0 c).arrAt_in 0 rfl _).trans ((A_eq m c 0).trans (V_main_arg0 m c)))⟩) (run_main m ρ)

end Cert.SumPoolInIdeal.Tiles

namespace Cert.SumPoolInValue

open Cert.SumPoolInRefIdeal Cert.SumPoolInRefIdeal.Gen in
/-- The reference's result is the sum of the eight parts. -/
theorem reference_eq (x : Vec Ideal S8x2048x1024 .bf16) : Cert.SumPoolInRefIdeal.Read.val_main_v1 (F := Ideal) x = total x := by
  funext i
  rw [Cert.SumPoolInRefIdeal.Read.val_main_v1_apply]
  exact from_zero _ x i (Cert.SumPoolInRefIdeal.Read.idx_main_v1 i) Ideal.ofBits_zero_f32 fun _ =>
    funext fun a => match a with | ⟨0, _⟩ => rfl | ⟨1, _⟩ => rfl | ⟨2, _⟩ => rfl

/-- On equal arguments the kernel's result is the reference's. -/
theorem algebraic : Cert.algebraic_SumPoolInIdeal_SumPoolInRefIdeal := by
  intro m ρ m' ρ' _ hagree
  refine ⟨fun c => Cert.SumPoolInIdeal.Tiles.G m c, Cert.SumPoolInIdeal.Tiles.run m ρ, ?_⟩
  refine (θ_run Cert.SumPoolInRefIdeal.defs _ _).mono (fun r h c => ⟨(h c).1.trans ?_, (h c).2⟩) (Cert.SumPoolInRefIdeal.Value.run (F := Ideal) m' ρ')
  rw [hagree c]
  exact reference_eq _

end Cert.SumPoolInValue

end
-- ==== Proof.SumGroupValue.lean ====
/-
  A device's share of the gradient of the grouped weights: the eight parts it was sent, [8, 512, 1024], summed in two blocks of
  256 rows, each block as two halves of its columns. The reference is the sum over the leading axis.
-/
module

public import proofs.«01_k».proof.Defs
public import proofs.«01_k».proof.Proof.Gen.SumGroupIdeal.Frame
public import proofs.«01_k».proof.Proof.Gen.SumGroupRefIdeal.Run
public import proofs.«01_k».proof.Proof.Gen.SumGroupRefIdeal.Read
public import Idealize.ShloMosaic.Lib.Pipeline.Value
public import Idealize.ShloMosaic.Lib.ValueIdx
public import proofs.«01_k».proof.Proof.Sums

@[expose] public section

noncomputable section

open Idealize.ShloMosaic Idealize.ShloMosaic.TcCoe Idealize.SL.Sem Idealize.ShloMosaic.ValueIdx
open Idealize.ShloMosaic.Pipeline (Dat)
open Cert.Sums

namespace Cert.SumGroupIdeal.Tiles

open Cert.SumGroupIdeal Cert.SumGroupIdeal.Gen

variable (m : (ℓ : Loc nD τ sig) → Buf (Elt Ideal) ℓ) (ρ : Dev nD → PrngReg)

/-- The sum of the parts device `c` was sent. -/
def G (c : Dev nD) : Buf (Elt Ideal) ((c : Thread nD τ).loc main_v0) := total (R := 512) (C := 1024) (m ((c : Thread nD τ).loc main_arg0))

/-- A grid point takes all eight parts of a block of rows. -/
theorem index_facts : ∀ t : Fin grid0.N, win0_0.index t 0 = 0 ∧ win0_0.index t 1 = win0_1.index t 0
    ∧ win0_0.index t 2 = 0 ∧ win0_1.index t 1 = 0 := by
  decide +kernel

theorem index_onto : ∀ p : Fin 2, ∃ t : Fin grid0.N, win0_1.index t 0 = p.val := by decide +kernel

/-- The two stored halves are slices of the columns of the eight loaded parts, added one after another. -/
theorem left_eq (P0 P1 P2 P3 P4 P5 P6 P7 : Vec Ideal S1x256x1024 .bf16) :
    k0_pay3 (k0_pay10 P0 P1 P2 P3 P4) (k0_pay13 P5) P6 P7
      = slices 512 0 shapeCasts_S1x256x1024_S256x1024 slices_S256x1024_o0_0_S256x512 P0 P1 P2 P3 P4 P5 P6 P7 := rfl
theorem right_eq (P0 P1 P2 P3 P4 P5 P6 P7 : Vec Ideal S1x256x1024 .bf16) :
    k0_pay4 (k0_pay11 P0 P1 P2 P3 P4) (k0_pay12 P5) P6 P7
      = slices 512 512 shapeCasts_S1x256x1024_S256x1024 slices_S256x1024_o0_512_S256x512 P0 P1 P2 P3 P4 P5 P6 P7 := rfl

theorem out_eq (X : Vec Ideal S8x256x1024 .bf16) (y : S256x1024.Idx) : out0_1 X y = total X y :=
  canon_eq 512 X _ _ _ _ _ _ _ (left_eq _ _ _ _ _ _ _ _) (right_eq _ _ _ _ _ _ _ _) y (cover0_1 _ _ y)

theorem final1 (c : Dev nD) : (dats m 0 c).arrAt 1 cfg0.N = G m c := by
  refine (dats m 0 c).arrAt_eq_of_cover 1 (G m c) (fun t _ => ?_) fun i => ?_
  · show (cfg0.win 1).cut (grid0.coords t) ((dats m 0 c).after 1 t) = _
    rw [after0_1]
    funext y
    exact (out_eq (iblk m c 0 t) y).trans (total_of_rows _ _ ((cfg0.win 0).blk t).view.emb (fun z => congrFun (V_main_arg0 m c) _)
      _ _ _ _ _ (index_facts t) (fun _ => rfl) (fun _ => rfl) (fun _ => rfl) y _ rfl rfl)
  · obtain ⟨p, y, e0, e1⟩ := in_rows (R := 256) (R' := 512) (C := 1024) 2 rfl i
    obtain ⟨t, e⟩ := index_onto p
    have h : ((cfg0.win 1).blk t).view.emb y = i :=
      Shape.idx_ext₂ ((congrArg (· * 256 + 1 * (y 0).val) e).trans e0) ((congrArg (· * 1024 + 1 * (y 1).val) (index_facts t).2.2.2).trans e1)
    exact ⟨t, flush0_1 t, h ▸ View.emb_mem_set _ y⟩

/-- The run leaves the sum in the result and its argument as it was. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0) :=
  (θ_run defs _ _).mono (fun r h c => ⟨((h c).1 1).trans (final1 m c),
    ((h c).1 0).trans (((dats m 0 c).arrAt_in 0 rfl _).trans ((A_eq m c 0).trans (V_main_arg0 m c)))⟩) (run_main m ρ)

end Cert.SumGroupIdeal.Tiles

namespace Cert.SumGroupValue

open Cert.SumGroupRefIdeal Cert.SumGroupRefIdeal.Gen in
/-- The reference's result is the sum of the eight parts. -/
theorem reference_eq (x : Vec Ideal S8x512x1024 .bf16) : Cert.SumGroupRefIdeal.Read.val_main_v1 (F := Ideal) x = total x := by
  funext i
  rw [Cert.SumGroupRefIdeal.Read.val_main_v1_apply]
  exact from_zero _ x i (Cert.SumGroupRefIdeal.Read.idx_main_v1 i) Ideal.ofBits_zero_f32 fun _ =>
    funext fun a => match a with | ⟨0, _⟩ => rfl | ⟨1, _⟩ => rfl | ⟨2, _⟩ => rfl

/-- On equal arguments the kernel's result is the reference's. -/
theorem algebraic : Cert.algebraic_SumGroupIdeal_SumGroupRefIdeal := by
  intro m ρ m' ρ' _ hagree
  refine ⟨fun c => Cert.SumGroupIdeal.Tiles.G m c, Cert.SumGroupIdeal.Tiles.run m ρ, ?_⟩
  refine (θ_run Cert.SumGroupRefIdeal.defs _ _).mono (fun r h c => ⟨(h c).1.trans ?_, (h c).2⟩) (Cert.SumGroupRefIdeal.Value.run (F := Ideal) m' ρ')
  rw [hagree c]
  exact reference_eq _

end Cert.SumGroupValue

end
-- ==== Proof.SumInValue.lean ====
/-
  A device's share of one half of the transposed gradient of the scan branch's input projection: the eight parts it was sent,
  [8, 1288, 1024], summed in seven blocks of 184 rows, each block as two halves of its columns. The reference is the sum over
  the leading axis.
-/
module

public import proofs.«01_k».proof.Defs
public import proofs.«01_k».proof.Proof.Gen.SumInIdeal.Frame
public import proofs.«01_k».proof.Proof.Gen.SumInRefIdeal.Run
public import proofs.«01_k».proof.Proof.Gen.SumInRefIdeal.Read
public import Idealize.ShloMosaic.Lib.Pipeline.Value
public import Idealize.ShloMosaic.Lib.ValueIdx
public import proofs.«01_k».proof.Proof.Sums

@[expose] public section

noncomputable section

open Idealize.ShloMosaic Idealize.ShloMosaic.TcCoe Idealize.SL.Sem Idealize.ShloMosaic.ValueIdx
open Idealize.ShloMosaic.Pipeline (Dat)
open Cert.Sums

namespace Cert.SumInIdeal.Tiles

open Cert.SumInIdeal Cert.SumInIdeal.Gen

variable (m : (ℓ : Loc nD τ sig) → Buf (Elt Ideal) ℓ) (ρ : Dev nD → PrngReg)

/-- The sum of the parts device `c` was sent. -/
def G (c : Dev nD) : Buf (Elt Ideal) ((c : Thread nD τ).loc main_v0) := total (R := 1288) (C := 1024) (m ((c : Thread nD τ).loc main_arg0))

/-- A grid point takes all eight parts of a block of rows. -/
theorem index_facts : ∀ t : Fin grid0.N, win0_0.index t 0 = 0 ∧ win0_0.index t 1 = win0_1.index t 0
    ∧ win0_0.index t 2 = 0 ∧ win0_1.index t 1 = 0 := by
  decide +kernel

theorem index_onto : ∀ p : Fin 7, ∃ t : Fin grid0.N, win0_1.index t 0 = p.val := by decide +kernel

/-- The two stored halves are slices of the columns of the eight loaded parts, added one after another. -/
theorem left_eq (P0 P1 P2 P3 P4 P5 P6 P7 : Vec Ideal S1x184x1024 .bf16) :
    k0_pay3 (k0_pay10 P0 P1 P2 P3 P4) (k0_pay13 P5) P6 P7
      = slices 512 0 shapeCasts_S1x184x1024_S184x1024 slices_S184x1024_o0_0_S184x512 P0 P1 P2 P3 P4 P5 P6 P7 := rfl
theorem right_eq (P0 P1 P2 P3 P4 P5 P6 P7 : Vec Ideal S1x184x1024 .bf16) :
    k0_pay4 (k0_pay11 P0 P1 P2 P3 P4) (k0_pay12 P5) P6 P7
      = slices 512 512 shapeCasts_S1x184x1024_S184x1024 slices_S184x1024_o0_512_S184x512 P0 P1 P2 P3 P4 P5 P6 P7 := rfl

theorem out_eq (X : Vec Ideal S8x184x1024 .bf16) (y : S184x1024.Idx) : out0_1 X y = total X y :=
  canon_eq 512 X _ _ _ _ _ _ _ (left_eq _ _ _ _ _ _ _ _) (right_eq _ _ _ _ _ _ _ _) y (cover0_1 _ _ y)

theorem final1 (c : Dev nD) : (dats m 0 c).arrAt 1 cfg0.N = G m c := by
  refine (dats m 0 c).arrAt_eq_of_cover 1 (G m c) (fun t _ => ?_) fun i => ?_
  · show (cfg0.win 1).cut (grid0.coords t) ((dats m 0 c).after 1 t) = _
    rw [after0_1]
    funext y
    exact (out_eq (iblk m c 0 t) y).trans (total_of_rows _ _ ((cfg0.win 0).blk t).view.emb (fun z => congrFun (V_main_arg0 m c) _)
      _ _ _ _ _ (index_facts t) (fun _ => rfl) (fun _ => rfl) (fun _ => rfl) y _ rfl rfl)
  · obtain ⟨p, y, e0, e1⟩ := in_rows (R := 184) (R' := 1288) (C := 1024) 7 rfl i
    obtain ⟨t, e⟩ := index_onto p
    have h : ((cfg0.win 1).blk t).view.emb y = i :=
      Shape.idx_ext₂ ((congrArg (· * 184 + 1 * (y 0).val) e).trans e0) ((congrArg (· * 1024 + 1 * (y 1).val) (index_facts t).2.2.2).trans e1)
    exact ⟨t, flush0_1 t, h ▸ View.emb_mem_set _ y⟩

/-- The run leaves the sum in the result and its argument as it was. -/
theorem run : θ_run defs (onTc (τ := τ) (main (F := Ideal))) ⟨m, fun _ => 0, ρ⟩ fun r => ∀ c : Dev nD,
    r.2.mem ((c : Thread nD τ).loc main_v0) = G m c
      ∧ r.2.mem ((c : Thread nD τ).loc main_arg0) = m ((c : Thread nD τ).loc main_arg0) :=
  (θ_run defs _ _).mono (fun r h c => ⟨((h c).1 1).trans (final1 m c),
    ((h c).1 0).trans (((dats m 0 c).arrAt_in 0 rfl _).trans ((A_eq m c 0).trans (V_main_arg0 m c)))⟩) (run_main m ρ)

end Cert.SumInIdeal.Tiles

namespace Cert.SumInValue

open Cert.SumInRefIdeal Cert.SumInRefIdeal.Gen in
/-- The reference's result is the sum of the eight parts. -/
theorem reference_eq (x : Vec Ideal S8x1288x1024 .bf16) : Cert.SumInRefIdeal.Read.val_main_v1 (F := Ideal) x = total x := by
  funext i
  rw [Cert.SumInRefIdeal.Read.val_main_v1_apply]
  exact from_zero _ x i (Cert.SumInRefIdeal.Read.idx_main_v1 i) Ideal.ofBits_zero_f32 fun _ =>
    funext fun a => match a with | ⟨0, _⟩ => rfl | ⟨1, _⟩ => rfl | ⟨2, _⟩ => rfl

/-- On equal arguments the kernel's result is the reference's. -/
theorem algebraic : Cert.algebraic_SumInIdeal_SumInRefIdeal := by
  intro m ρ m' ρ' _ hagree
  refine ⟨fun c => Cert.SumInIdeal.Tiles.G m c, Cert.SumInIdeal.Tiles.run m ρ, ?_⟩
  refine (θ_run Cert.SumInRefIdeal.defs _ _).mono (fun r h c => ⟨(h c).1.trans ?_, (h c).2⟩) (Cert.SumInRefIdeal.Value.run (F := Ideal) m' ρ')
  rw [hagree c]
  exact reference_eq _

end Cert.SumInValue

end
-- ==== Proof.Blocks.lean ====
/-
  Arrays of two axes cut into blocks of whole rows: where a block's elements lie in the array, stated once for the
  optimiser's calls.
-/
module

public import proofs.«01_k».proof.Proof.Sums

@[expose] public section

noncomputable section

open Idealize.ShloMosaic Idealize.ShloMosaic.ValueIdx

namespace Cert.Blocks

variable {R C R' : ℕ}

/-- When the blocks of the grid's points are all `n` of them, every index of the array lies in the block of some point. -/
theorem cover {N : ℕ} (n : ℕ) (hR : R' = n * R) (index : Fin N → Fin 2 → ℕ) (onto : ∀ p : Fin n, ∃ t, index t 0 = p.val)
    (zero : ∀ t, index t 1 = 0) (emb : Fin N → (⟨2, ![R, C]⟩ : Shape).Idx → (⟨2, ![R', C]⟩ : Shape).Idx)
    (e0 : ∀ t y, (emb t y 0).val = index t 0 * R + 1 * (y 0).val) (e1 : ∀ t y, (emb t y 1).val = index t 1 * C + 1 * (y 1).val)
    (i : (⟨2, ![R', C]⟩ : Shape).Idx) : ∃ t y, emb t y = i := by
  obtain ⟨p, y, h0, h1⟩ := Cert.Sums.in_rows (R := R) n hR i
  obtain ⟨t, e⟩ := onto p
  exact ⟨t, y, Shape.idx_ext₂ ((e0 t y).trans ((congrArg (· * R + 1 * (y 0).val) e).trans h0))
    ((e1 t y).trans ((congrArg (· * C + 1 * (y 1).val) (zero t)).trans h1))⟩

/-- Two windows that take the same block place an element at the same index. -/
theorem same {j j' : Fin 2 → ℕ} (hj : ∀ a, j a = j' a) (y : (⟨2, ![R, C]⟩ : Shape).Idx) {i i' : (⟨2, ![R', C]⟩ : Shape).Idx}
    (h0 : (i 0).val = j 0 * R + 1 * (y 0).val) (h1 : (i 1).val = j 1 * C + 1 * (y 1).val)
    (h0' : (i' 0).val = j' 0 * R + 1 * (y 0).val) (h1' : (i' 1).val = j' 1 * C + 1 * (y 1).val) : i = i' := by
  refine Shape.idx_ext₂ ?_ ?_
  · rw [h0, h0', hj]
  · rw [h1, h1', hj]

/-- An array read at the place of a block's element. -/
theorem read {A : Type} {V w : A → EReal} (h : V = w) {i i' : A} (e : i = i') : V i = w i' := by rw [h, e]

end Cert.Blocks

end
-- ==== Proof.Adam.lean ====
/-
  One step of the optimiser at one element: the two moments and the change of the weight, over the extended reals. The
  four modules on the optimiser's calls state their kernels' blocks and their references by these three functions.
-/
module

public import Idealize.ShloMosaic.Lib.Pipeline.Value
public import Idealize.ShloMosaic.PureOps.Ideal

@[expose] public section

noncomputable section

open Idealize.ShloMosaic

namespace Cert.Adam

/-- The first moment: `0.9 m + 0.1 g`, at the constants' float32 values. -/
def newM (g m : EReal) : EReal := Ideal.ofBits .f32 0x3F666666#32 * m + Ideal.ofBits .f32 0x3DCCCCCD#32 * g

/-- The second moment: `0.999 v + 0.001 g²`. -/
def newV (g v : EReal) : EReal := Ideal.ofBits .f32 0x3F7FBE77#32 * v + Ideal.ofBits .f32 0x3A83126F#32 * (g * g)

/-- The weight's change: `-0.001 (m̂ / (√v̂ + 1e-8) + 0.01 w)`, `m̂` and `v̂` the moments over their bias corrections. -/
def delta (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

/-- The three functions on whole arrays of one shape. -/
def arrM {s : Shape} (g m : s.Idx → EReal) (i : s.Idx) : EReal := newM (g i) (m i)
def arrV {s : Shape} (g v : s.Idx → EReal) (i : s.Idx) : EReal := newV (g i) (v i)
def arrD {s : Shape} (w g m v : s.Idx → EReal) (i : s.Idx) : EReal := delta (w i) (g i) (m i) (v i)

/-- On blocks that read the arrays at `at_`, the three functions are the arrays' own, read where the result's window `e`
places an element. -/
theorem blockD {s r : Shape} {w g m v : s.Idx → EReal} {x a b d : r.Idx → EReal} {at_ : r.Idx → s.Idx} (hx : ∀ y, x y = w (at_ y))
    (ha : ∀ y, a y = g (at_ y)) (hb : ∀ y, b y = m (at_ y)) (hd : ∀ y, d y = v (at_ y)) :
    arrD x a b d = fun y => arrD w g m v (at_ y) := by
  funext y; show delta (x y) (a y) (b y) (d y) = _; rw [hx, ha, hb, hd]; rfl
theorem blockM {s r : Shape} {g m : s.Idx → EReal} {a b : r.Idx → EReal} {at_ e : r.Idx → s.Idx}
    (ha : ∀ y, a y = g (at_ y)) (hb : ∀ y, b y = m (at_ y)) (he : ∀ y, e y = at_ y) : arrM a b = fun y => arrM g m (e y) := by
  funext y; show newM (a y) (b y) = _; rw [ha, hb, he]; rfl
theorem blockV {s r : Shape} {g v : s.Idx → EReal} {a d : r.Idx → EReal} {at_ e : r.Idx → s.Idx}
    (ha : ∀ y, a y = g (at_ y)) (hd : ∀ y, d y = v (at_ y)) (he : ∀ y, e y = at_ y) : arrV a d = fun y => arrV g v (e y) := by
  funext y; show newV (a y) (d y) = _; rw [ha, hd, he]; rfl

end Cert.Adam

end
-- ==== Proof.AdamOutValue.lean ====
/-
  The optimiser's step on one device's part of an output projection's weights, [1, 512, 2048] read as [512, 2048]: two
  [256, 2048] blocks, each block's three results computed element by element. The reference computes the three results on
  the whole arrays and reads them as [512, 2048].
-/
module

public import proofs.«01_k».proof.Defs
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pipeline.Value
public import Idealize.ShloMosaic.Lib.ValueIdx
public import proofs.«01_k».proof.Proof.Products
public import proofs.«01_k».proof.Proof.Blocks
public import proofs.«01_k».proof.Proof.Adam

@[expose] public section

noncomputable section

open Idealize.ShloMosaic Idealize.ShloMosaic.TcCoe Idealize.SL.Sem Idealize.ShloMosaic.ValueIdx
open Idealize.ShloMosaic.StableHlo
open Idealize.ShloMosaic.Pipeline (Dat)

namespace Cert.AdamOutIdeal.Tiles

open Cert.AdamOutIdeal Cert.AdamOutIdeal.Gen Cert.Adam Cert.Blocks
open Cert.Products (zeros2)

variable (m : (ℓ : Loc nD τ sig) → Buf (Elt Ideal) ℓ) (ρ : Dev nD → PrngReg)

/-- Device `c`'s four arrays, read with two axes: the weights, the gradient and the two moments. -/
def w (c : Dev nD) : S512x2048.Idx → EReal := shapeCast S512x2048 (m ((c : Thread nD τ).loc main_arg0)) shapeCasts_S1x512x2048_S512x2048
def g (c : Dev nD) : S512x2048.Idx → EReal := shapeCast S512x2048 (m ((c : Thread nD τ).loc main_arg1)) shapeCasts_S1x512x2048_S512x2048
def μ (c : Dev nD) : S512x2048.Idx → EReal := shapeCast S512x2048 (m ((c : Thread nD τ).loc main_arg2)) shapeCasts_S1x512x2048_S512x2048
def ν (c : Dev nD) : S512x2048.Idx → EReal := shapeCast S512x2048 (m ((c : Thread nD τ).loc main_arg3)) shapeCasts_S1x512x2048_S512x2048

theorem V0 (c : Dev nD) : V m c main_v0 = w m c := by unfold V hostOps0; after_results_simp <;> rfl
theorem V1 (c : Dev nD) : V m c main_v1 = g m c := by unfold V hostOps0; after_results_simp <;> rfl
theorem V2 (c : Dev nD) : V m c main_v2 = μ m c := by unfold V hostOps0; after_results_simp <;> rfl
theorem V3 (c : Dev nD) : V m c main_v3 = ν m c := by unfold V hostOps0; after_results_simp <;> rfl

/-- The three results on a block are the three functions, element by element. -/
theorem pay2_eq (a b : Vec Ideal S256x2048 .f32) : k0_pay2 a b = arrM a b := by
  unfold k0_pay2 k0_pay1; simp only [shapeCast_self]; rfl
theorem pay3_eq (a b : Vec Ideal S256x2048 .f32) : k0_pay3 a b = arrV a b := by
  unfold k0_pay3 k0_pay1; simp only [shapeCast_self]; rfl
theorem pay4_eq (x a b d : Vec Ideal S256x2048 .f32) : k0_pay4 x a b d = arrD x a b d := by
  unfold k0_pay4; rw [pay2_eq, pay3_eq]; simp only [shapeCast_self]; rfl

/-- What is stored, by the four loaded blocks. -/
theorem outD_eq (x a b d : Vec Ideal S256x2048 .f32) : out0_4 x a b d = arrD x a b d := by
  unfold out0_4; rw [View.canon_unit_zero zeros2, View.ld_unit_zero zeros2, View.ld_unit_zero zeros2, View.ld_unit_zero zeros2, View.ld_unit_zero zeros2, pay4_eq]
theorem outM_eq (x a b d : Vec Ideal S256x2048 .f32) : out0_5 x a b d = arrM a b := by
  unfold out0_5; rw [View.canon_unit_zero zeros2, View.ld_unit_zero zeros2, View.ld_unit_zero zeros2, pay2_eq]
theorem outV_eq (x a b d : Vec Ideal S256x2048 .f32) : out0_6 x a b d = arrV a d := by
  unfold out0_6; rw [View.canon_unit_zero zeros2, View.ld_unit_zero zeros2, View.ld_unit_zero zeros2, pay3_eq]

/-- All seven windows take the same block at a grid point, and there are two points. -/
theorem index_facts : ∀ t : Fin grid0.N,
    (∀ a, win0_0.index t a = win0_4.index t a) ∧ (∀ a, win0_1.index t a = win0_4.index t a)
      ∧ (∀ a, win0_2.index t a = win0_4.index t a) ∧ (∀ a, win0_3.index t a = win0_4.index t a)
      ∧ (∀ a, win0_5.index t a = win0_4.index t a) ∧ (∀ a, win0_6.index t a = win0_4.index t a)
      ∧ win0_4.index t 1 = 0 := by
  decide +kernel

theorem index_onto : ∀ p : Fin 2, ∃ t : Fin grid0.N, win0_4.index t 0 = p.val := by decide +kernel

/-- The array index under a block's element, which is every window's. -/
def at_ (t : Fin cfg0.N) (y : S256x2048.Idx) : S512x2048.Idx := ((cfg0.win 4).blk t).view.emb y

theorem at5 (t : Fin cfg0.N) (y : S256x2048.Idx) : ((cfg0.win 5).blk t).view.emb y = at_ t y :=
  same (R := 256) (C := 2048) (R' := 512) (index_facts t).2.2.2.2.1 y rfl rfl rfl rfl
theorem at6 (t : Fin cfg0.N) (y : S256x2048.Idx) : ((cfg0.win 6).blk t).view.emb y = at_ t y :=
  same (R := 256) (C := 2048) (R' := 512) (index_facts t).2.2.2.2.2.1 y rfl rfl rfl rfl

theorem iblk0_eq (c : Dev nD) (t : Fin cfg0.N) (y : S256x2048.Idx) : iblk m c 0 t y = w m c (at_ t y) :=
  read (V0 m c) (same (R := 256) (C := 2048) (R' := 512) (index_facts t).1 y rfl rfl rfl rfl)
theorem iblk1_eq (c : Dev nD) (t : Fin cfg0.N) (y : S256x2048.Idx) : iblk m c 1 t y = g m c (at_ t y) :=
  read (V1 m c) (same (R := 256) (C := 2048) (R' := 512) (index_facts t).2.1 y rfl rfl rfl rfl)
theorem iblk2_eq (c : Dev nD) (t : Fin cfg0.N) (y : S256x2048.Idx) : iblk m c 2 t y = μ m c (at_ t y) :=
  read (V2 m c) (same (R := 256) (C := 2048) (R' := 512) (index_facts t).2.2.1 y rfl rfl rfl rfl)
theorem iblk3_eq (c : Dev nD) (t : Fin cfg0.N) (y : S256x2048.Idx) : iblk m c 3 t y = ν m c (at_ t y) :=
  read (V3 m c) (same (R := 256) (C := 2048) (R' := 512) (index_facts t).2.2.2.1 y rfl rfl rfl rfl)

/-- Every element of a result lies in the block of some point. -/
theorem covered (i : S512x2048.Idx) : ∃ t, ∃ y, at_ t y = i :=
  cover (R := 256) (C := 2048) (R' := 512) 2 rfl win0_4.index index_onto (fun t => (index_facts t).2.2.2.2.2.2) at_
    (fun _ _ => rfl) (fun _ _ => rfl) i

/-- The results of device `c`. -/
def GD (c : Dev nD) : Buf (Elt Ideal) ((c : Thread nD τ).loc main_v4_0) := arrD (w m c) (g m c) (μ m c) (ν m c)
def GM (c : Dev nD) : Buf (Elt Ideal) ((c : Thread nD τ).loc main_v4_1) := arrM (g m c) (μ m c)
def GV (c : Dev nD) : Buf (Elt Ideal) ((c : Thread nD τ).loc main_v4_2) := arrV (g m c) (ν m c)

theorem final4 (c : Dev nD) : (dats m 0 c).arrAt 4 cfg0.N = GD m c :=
  (dats m 0 c).arrAt_eq_of_cover 4 (GD m c)
    (fun t _ => (Value.flushed4 m c t).trans ((outD_eq _ _ _ _).trans
      (blockD (iblk0_eq m c t) (iblk1_eq m c t) (iblk2_eq m c t) (iblk3_eq m c t))))
    fun i => let ⟨t, y, e⟩ := covered i; ⟨t, flush0_4 t, e ▸ View.emb_mem_set _ y⟩
theorem final5 (c : Dev nD) : (dats m 0 c).arrAt 5 cfg0.N = GM m c :=
  (dats m 0 c).arrAt_eq_of_cover 5 (GM m c)
    (fun t _ => (Value.flushed5 m c t).trans ((outM_eq _ _ _ _).trans (blockM (iblk1_eq m c t) (iblk2_eq m c t) (at5 t))))
    fun i => let ⟨t, y, e⟩ := covered i; ⟨t, flush0_5 t, ((at5 t y).trans e) ▸ View.emb_mem_set _ y⟩
theorem final6 (c : Dev nD) : (dats m 0 c).arrAt 6 cfg0.N = GV m c :=
  (dats m 0 c).arrAt_eq_of_cover 6 (GV m c)
    (fun t _ => (Value.flushed6 m c t).trans ((outV_eq _ _ _ _).trans (blockV (iblk1_eq m c t) (iblk3_eq m c t) (at6 t))))
    fun i => let ⟨t, y, e⟩ := covered i; ⟨t, flush0_6 t, ((at6 t y).trans e) ▸ View.emb_mem_set _ y⟩

end Cert.AdamOutIdeal.Tiles

namespace Cert.AdamOutValue

open Cert.AdamOutRefIdeal Cert.AdamOutRefIdeal.Gen Cert.Adam

/-- On equal arguments the kernel's three results are the reference's. -/
theorem algebraic : Cert.algebraic_AdamOutIdeal_AdamOutRefIdeal := by
  intro m ρ m' ρ' _ hagree
  refine ⟨fun c => Cert.AdamOutIdeal.Tiles.GD m c, fun c => Cert.AdamOutIdeal.Tiles.GM m c, fun c => Cert.AdamOutIdeal.Tiles.GV m c, ?_, ?_⟩
  · exact (θ_run Cert.AdamOutIdeal.defs _ _).mono (fun r h c =>
      ⟨(h c).1.trans (Cert.AdamOutIdeal.Tiles.final4 m c), (h c).2.1.trans (Cert.AdamOutIdeal.Tiles.final5 m c),
        (h c).2.2.1.trans (Cert.AdamOutIdeal.Tiles.final6 m c), (h c).2.2.2⟩)
      (Cert.AdamOutIdeal.Value.run_blocks (F := Ideal) m ρ)
  · refine (θ_run Cert.AdamOutRefIdeal.defs _ _).mono (fun r h c =>
      ⟨(h c).1.trans ?_, (h c).2.1.trans ?_, (h c).2.2.1.trans ?_, (h c).2.2.2⟩) (Cert.AdamOutRefIdeal.Value.run (F := Ideal) m' ρ')
    · rw [(hagree c).1, (hagree c).2.1, (hagree c).2.2.1, (hagree c).2.2.2]; rfl
    · rw [(hagree c).2.1, (hagree c).2.2.1]; rfl
    · rw [(hagree c).2.1, (hagree c).2.2.2]; rfl

end Cert.AdamOutValue

end
-- ==== Proof.AdamPoolInValue.lean ====
/-
  The optimiser's step on one device's part of the pooled mixer's input weights, [1, 2048, 1024] read as [2048, 1024]:
  eight [256, 1024] blocks, each block's three results computed element by element. The reference computes the three
  results on the whole arrays and reads them as [2048, 1024].
-/
module

public import proofs.«01_k».proof.Defs
public import proofs.«01_k».proof.Proof.Gen.AdamPoolInIdeal.Value
public import proofs.«01_k».proof.Proof.Gen.AdamPoolInRefIdeal.Run
public import proofs.«01_k».proof.Proof.Gen.AdamPoolInRefIdeal.Read
public import Idealize.ShloMosaic.Lib.Pipeline.Value
public import Idealize.ShloMosaic.Lib.ValueIdx
public import proofs.«01_k».proof.Proof.Products
public import proofs.«01_k».proof.Proof.Blocks
public import proofs.«01_k».proof.Proof.Adam

@[expose] public section

noncomputable section

open Idealize.ShloMosaic Idealize.ShloMosaic.TcCoe Idealize.SL.Sem Idealize.ShloMosaic.ValueIdx
open Idealize.ShloMosaic.StableHlo
open Idealize.ShloMosaic.Pipeline (Dat)

namespace Cert.AdamPoolInIdeal.Tiles

open Cert.AdamPoolInIdeal Cert.AdamPoolInIdeal.Gen Cert.Adam Cert.Blocks
open Cert.Products (zeros2)

variable (m : (ℓ : Loc nD τ sig) → Buf (Elt Ideal) ℓ) (ρ : Dev nD → PrngReg)

/-- One of a device's four arrays, its leading axis dropped. -/
def rows (x : S1x2048x1024.Idx → EReal) : S2048x1024.Idx → EReal := shapeCast S2048x1024 x shapeCasts_S1x2048x1024_S2048x1024

/-- Device `c`'s weights, gradient and two moments. -/
def w (c : Dev nD) : S2048x1024.Idx → EReal := rows (m ((c : Thread nD τ).loc main_arg0))
def g (c : Dev nD) : S2048x1024.Idx → EReal := rows (m ((c : Thread nD τ).loc main_arg1))
def μ (c : Dev nD) : S2048x1024.Idx → EReal := rows (m ((c : Thread nD τ).loc main_arg2))
def ν (c : Dev nD) : S2048x1024.Idx → EReal := rows (m ((c : Thread nD τ).loc main_arg3))

theorem V0 (c : Dev nD) : V m c main_v0 = w m c := by unfold V hostOps0; after_results_simp <;> rfl
theorem V1 (c : Dev nD) : V m c main_v1 = g m c := by unfold V hostOps0; after_results_simp <;> rfl
theorem V2 (c : Dev nD) : V m c main_v2 = μ m c := by unfold V hostOps0; after_results_simp <;> rfl
theorem V3 (c : Dev nD) : V m c main_v3 = ν m c := by unfold V hostOps0; after_results_simp <;> rfl

/-- What is stored, by the four loaded blocks. -/
theorem pay2_eq (a b : Vec Ideal S256x1024 .f32) : k0_pay2 a b = arrM a b := by
  unfold k0_pay2 k0_pay1; simp only [shapeCast_self]; rfl
theorem pay3_eq (a b : Vec Ideal S256x1024 .f32) : k0_pay3 a b = arrV a b := by
  unfold k0_pay3 k0_pay1; simp only [shapeCast_self]; rfl
theorem pay4_eq (x a b d : Vec Ideal S256x1024 .f32) : k0_pay4 x a b d = arrD x a b d := by
  unfold k0_pay4; rw [pay2_eq, pay3_eq]; simp only [shapeCast_self]; rfl
theorem outD_eq (x a b d : Vec Ideal S256x1024 .f32) : out0_4 x a b d = arrD x a b d := by
  unfold out0_4; rw [View.canon_unit_zero zeros2, View.ld_unit_zero zeros2, View.ld_unit_zero zeros2, View.ld_unit_zero zeros2, View.ld_unit_zero zeros2, pay4_eq]
theorem outM_eq (x a b d : Vec Ideal S256x1024 .f32) : out0_5 x a b d = arrM a b := by
  unfold out0_5; rw [View.canon_unit_zero zeros2, View.ld_unit_zero zeros2, View.ld_unit_zero zeros2, pay2_eq]
theorem outV_eq (x a b d : Vec Ideal S256x1024 .f32) : out0_6 x a b d = arrV a d := by
  unfold out0_6; rw [View.canon_unit_zero zeros2, View.ld_unit_zero zeros2, View.ld_unit_zero zeros2, pay3_eq]

/-- At each of the eight grid points the windows take the same 256 rows. -/
theorem index_facts : ∀ t : Fin grid0.N,
    (∀ a, win0_0.index t a = win0_4.index t a) ∧ (∀ a, win0_1.index t a = win0_4.index t a)
      ∧ (∀ a, win0_2.index t a = win0_4.index t a) ∧ (∀ a, win0_3.index t a = win0_4.index t a)
      ∧ (∀ a, win0_5.index t a = win0_4.index t a) ∧ (∀ a, win0_6.index t a = win0_4.index t a)
      ∧ win0_4.index t 1 = 0 := by
  decide +kernel
theorem index_onto : ∀ p : Fin 8, ∃ t : Fin grid0.N, win0_4.index t 0 = p.val := by decide +kernel

/-- Where block `t`'s element lies in the array, by every window. -/
def at_ (t : Fin cfg0.N) (y : S256x1024.Idx) : S2048x1024.Idx := ((cfg0.win 4).blk t).view.emb y

theorem at5 (t : Fin cfg0.N) (y : S256x1024.Idx) : ((cfg0.win 5).blk t).view.emb y = at_ t y :=
  same (R := 256) (C := 1024) (R' := 2048) (index_facts t).2.2.2.2.1 y rfl rfl rfl rfl
theorem at6 (t : Fin cfg0.N) (y : S256x1024.Idx) : ((cfg0.win 6).blk t).view.emb y = at_ t y :=
  same (R := 256) (C := 1024) (R' := 2048) (index_facts t).2.2.2.2.2.1 y rfl rfl rfl rfl
theorem iblk0_eq (c : Dev nD) (t : Fin cfg0.N) (y : S256x1024.Idx) : iblk m c 0 t y = w m c (at_ t y) :=
  read (V0 m c) (same (R := 256) (C := 1024) (R' := 2048) (index_facts t).1 y rfl rfl rfl rfl)
theorem iblk1_eq (c : Dev nD) (t : Fin cfg0.N) (y : S256x1024.Idx) : iblk m c 1 t y = g m c (at_ t y) :=
  read (V1 m c) (same (R := 256) (C := 1024) (R' := 2048) (index_facts t).2.1 y rfl rfl rfl rfl)
theorem iblk2_eq (c : Dev nD) (t : Fin cfg0.N) (y : S256x1024.Idx) : iblk m c 2 t y = μ m c (at_ t y) :=
  read (V2 m c) (same (R := 256) (C := 1024) (R' := 2048) (index_facts t).2.2.1 y rfl rfl rfl rfl)
theorem iblk3_eq (c : Dev nD) (t : Fin cfg0.N) (y : S256x1024.Idx) : iblk m c 3 t y = ν m c (at_ t y) :=
  read (V3 m c) (same (R := 256) (C := 1024) (R' := 2048) (index_facts t).2.2.2.1 y rfl rfl rfl rfl)

theorem covered (i : S2048x1024.Idx) : ∃ t, ∃ y, at_ t y = i :=
  cover (R := 256) (C := 1024) (R' := 2048) 8 rfl win0_4.index index_onto (fun t => (index_facts t).2.2.2.2.2.2) at_
    (fun _ _ => rfl) (fun _ _ => rfl) i

/-- The results of device `c`. -/
def GD (c : Dev nD) : Buf (Elt Ideal) ((c : Thread nD τ).loc main_v4_0) := arrD (w m c) (g m c) (μ m c) (ν m c)
def GM (c : Dev nD) : Buf (Elt Ideal) ((c : Thread nD τ).loc main_v4_1) := arrM (g m c) (μ m c)
def GV (c : Dev nD) : Buf (Elt Ideal) ((c : Thread nD τ).loc main_v4_2) := arrV (g m c) (ν m c)

theorem final4 (c : Dev nD) : (dats m 0 c).arrAt 4 cfg0.N = GD m c :=
  (dats m 0 c).arrAt_eq_of_cover 4 (GD m c)
    (fun t _ => (Value.flushed4 m c t).trans ((outD_eq _ _ _ _).trans
      (blockD (iblk0_eq m c t) (iblk1_eq m c t) (iblk2_eq m c t) (iblk3_eq m c t))))
    fun i => let ⟨t, y, e⟩ := covered i; ⟨t, flush0_4 t, e ▸ View.emb_mem_set _ y⟩
theorem final5 (c : Dev nD) : (dats m 0 c).arrAt 5 cfg0.N = GM m c :=
  (dats m 0 c).arrAt_eq_of_cover 5 (GM m c)
    (fun t _ => (Value.flushed5 m c t).trans ((outM_eq _ _ _ _).trans (blockM (iblk1_eq m c t) (iblk2_eq m c t) (at5 t))))
    fun i => let ⟨t, y, e⟩ := covered i; ⟨t, flush0_5 t, ((at5 t y).trans e) ▸ View.emb_mem_set _ y⟩
theorem final6 (c : Dev nD) : (dats m 0 c).arrAt 6 cfg0.N = GV m c :=
  (dats m 0 c).arrAt_eq_of_cover 6 (GV m c)
    (fun t _ => (Value.flushed6 m c t).trans ((outV_eq _ _ _ _).trans (blockV (iblk1_eq m c t) (iblk3_eq m c t) (at6 t))))
    fun i => let ⟨t, y, e⟩ := covered i; ⟨t, flush0_6 t, ((at6 t y).trans e) ▸ View.emb_mem_set _ y⟩

end Cert.AdamPoolInIdeal.Tiles

namespace Cert.AdamPoolInValue

open Cert.AdamPoolInIdeal.Tiles (GD GM GV final4 final5 final6)

/-- On equal arguments the kernel's three results are the reference's. -/
theorem algebraic : Cert.algebraic_AdamPoolInIdeal_AdamPoolInRefIdeal := by
  intro m ρ m' ρ' _ hagree
  refine ⟨fun c => GD m c, fun c => GM m c, fun c => GV m c, ?_, ?_⟩
  · exact (θ_run Cert.AdamPoolInIdeal.defs _ _).mono (fun r h c =>
      ⟨(h c).1.trans (final4 m c), (h c).2.1.trans (final5 m c), (h c).2.2.1.trans (final6 m c), (h c).2.2.2⟩)
      (Cert.AdamPoolInIdeal.Value.run_blocks (F := Ideal) m ρ)
  · refine (θ_run Cert.AdamPoolInRefIdeal.defs _ _).mono (fun r h c =>
      ⟨(h c).1.trans ?_, (h c).2.1.trans ?_, (h c).2.2.1.trans ?_, (h c).2.2.2⟩) (Cert.AdamPoolInRefIdeal.Value.run (F := Ideal) m' ρ')
    · rw [(hagree c).1, (hagree c).2.1, (hagree c).2.2.1, (hagree c).2.2.2]; rfl
    · rw [(hagree c).2.1, (hagree c).2.2.1]; rfl
    · rw [(hagree c).2.1, (hagree c).2.2.2]; rfl

end Cert.AdamPoolInValue

end
-- ==== Proof.AdamGroupValue.lean ====
/-
  The optimiser's step on one device's part of the four groups' weights, [1, 4, 128, 1024] read as [512, 1024]: two
  [256, 1024] blocks, each block's three results computed element by element. The reference computes the three results
  on the whole arrays and reads them as [512, 1024].
-/
module

public import proofs.«01_k».proof.Defs
public import proofs.«01_k».proof.Proof.Gen.AdamGroupIdeal.Value
public import proofs.«01_k».proof.Proof.Gen.AdamGroupRefIdeal.Run
public import proofs.«01_k».proof.Proof.Gen.AdamGroupRefIdeal.Read
public import Idealize.ShloMosaic.Lib.Pipeline.Value
public import Idealize.ShloMosaic.Lib.ValueIdx
public import proofs.«01_k».proof.Proof.Products
public import proofs.«01_k».proof.Proof.Blocks
public import proofs.«01_k».proof.Proof.Adam

@[expose] public section

noncomputable section

open Idealize.ShloMosaic Idealize.ShloMosaic.TcCoe Idealize.SL.Sem Idealize.ShloMosaic.ValueIdx
open Idealize.ShloMosaic.StableHlo
open Idealize.ShloMosaic.Pipeline (Dat)

namespace Cert.AdamGroupIdeal.Tiles

open Cert.AdamGroupIdeal Cert.AdamGroupIdeal.Gen Cert.Adam Cert.Blocks
open Cert.Products (zeros2)

variable (m : (ℓ : Loc nD τ sig) → Buf (Elt Ideal) ℓ) (ρ : Dev nD → PrngReg)

/-- One of a device's four arrays, its groups' rows one after another. -/
def rows (x : S1x4x128x1024.Idx → EReal) : S512x1024.Idx → EReal := shapeCast S512x1024 x shapeCasts_S1x4x128x1024_S512x1024

/-- Device `c`'s weights, gradient and two moments. -/
def w (c : Dev nD) : S512x1024.Idx → EReal := rows (m ((c : Thread nD τ).loc main_arg0))
def g (c : Dev nD) : S512x1024.Idx → EReal := rows (m ((c : Thread nD τ).loc main_arg1))
def μ (c : Dev nD) : S512x1024.Idx → EReal := rows (m ((c : Thread nD τ).loc main_arg2))
def ν (c : Dev nD) : S512x1024.Idx → EReal := rows (m ((c : Thread nD τ).loc main_arg3))

theorem V0 (c : Dev nD) : V m c main_v0 = w m c := by unfold V hostOps0; after_results_simp <;> rfl
theorem V1 (c : Dev nD) : V m c main_v1 = g m c := by unfold V hostOps0; after_results_simp <;> rfl
theorem V2 (c : Dev nD) : V m c main_v2 = μ m c := by unfold V hostOps0; after_results_simp <;> rfl
theorem V3 (c : Dev nD) : V m c main_v3 = ν m c := by unfold V hostOps0; after_results_simp <;> rfl

/-- What is stored, by the four loaded blocks. -/
theorem pay2_eq (a b : Vec Ideal S256x1024 .f32) : k0_pay2 a b = arrM a b := by
  unfold k0_pay2 k0_pay1; simp only [shapeCast_self]; rfl
theorem pay3_eq (a b : Vec Ideal S256x1024 .f32) : k0_pay3 a b = arrV a b := by
  unfold k0_pay3 k0_pay1; simp only [shapeCast_self]; rfl
theorem pay4_eq (x a b d : Vec Ideal S256x1024 .f32) : k0_pay4 x a b d = arrD x a b d := by
  unfold k0_pay4; rw [pay2_eq, pay3_eq]; simp only [shapeCast_self]; rfl
theorem outD_eq (x a b d : Vec Ideal S256x1024 .f32) : out0_4 x a b d = arrD x a b d := by
  unfold out0_4; rw [View.canon_unit_zero zeros2, View.ld_unit_zero zeros2, View.ld_unit_zero zeros2, View.ld_unit_zero zeros2, View.ld_unit_zero zeros2, pay4_eq]
theorem outM_eq (x a b d : Vec Ideal S256x1024 .f32) : out0_5 x a b d = arrM a b := by
  unfold out0_5; rw [View.canon_unit_zero zeros2, View.ld_unit_zero zeros2, View.ld_unit_zero zeros2, pay2_eq]
theorem outV_eq (x a b d : Vec Ideal S256x1024 .f32) : out0_6 x a b d = arrV a d := by
  unfold out0_6; rw [View.canon_unit_zero zeros2, View.ld_unit_zero zeros2, View.ld_unit_zero zeros2, pay3_eq]

/-- At each of the two grid points the windows take the same 256 rows. -/
theorem index_facts : ∀ t : Fin grid0.N,
    (∀ a, win0_0.index t a = win0_4.index t a) ∧ (∀ a, win0_1.index t a = win0_4.index t a)
      ∧ (∀ a, win0_2.index t a = win0_4.index t a) ∧ (∀ a, win0_3.index t a = win0_4.index t a)
      ∧ (∀ a, win0_5.index t a = win0_4.index t a) ∧ (∀ a, win0_6.index t a = win0_4.index t a)
      ∧ win0_4.index t 1 = 0 := by
  decide +kernel
theorem index_onto : ∀ p : Fin 2, ∃ t : Fin grid0.N, win0_4.index t 0 = p.val := by decide +kernel

/-- Where block `t`'s element lies in the array, by every window. -/
def at_ (t : Fin cfg0.N) (y : S256x1024.Idx) : S512x1024.Idx := ((cfg0.win 4).blk t).view.emb y

theorem at5 (t : Fin cfg0.N) (y : S256x1024.Idx) : ((cfg0.win 5).blk t).view.emb y = at_ t y :=
  same (R := 256) (C := 1024) (R' := 512) (index_facts t).2.2.2.2.1 y rfl rfl rfl rfl
theorem at6 (t : Fin cfg0.N) (y : S256x1024.Idx) : ((cfg0.win 6).blk t).view.emb y = at_ t y :=
  same (R := 256) (C := 1024) (R' := 512) (index_facts t).2.2.2.2.2.1 y rfl rfl rfl rfl
theorem iblk0_eq (c : Dev nD) (t : Fin cfg0.N) (y : S256x1024.Idx) : iblk m c 0 t y = w m c (at_ t y) :=
  read (V0 m c) (same (R := 256) (C := 1024) (R' := 512) (index_facts t).1 y rfl rfl rfl rfl)
theorem iblk1_eq (c : Dev nD) (t : Fin cfg0.N) (y : S256x1024.Idx) : iblk m c 1 t y = g m c (at_ t y) :=
  read (V1 m c) (same (R := 256) (C := 1024) (R' := 512) (index_facts t).2.1 y rfl rfl rfl rfl)
theorem iblk2_eq (c : Dev nD) (t : Fin cfg0.N) (y : S256x1024.Idx) : iblk m c 2 t y = μ m c (at_ t y) :=
  read (V2 m c) (same (R := 256) (C := 1024) (R' := 512) (index_facts t).2.2.1 y rfl rfl rfl rfl)
theorem iblk3_eq (c : Dev nD) (t : Fin cfg0.N) (y : S256x1024.Idx) : iblk m c 3 t y = ν m c (at_ t y) :=
  read (V3 m c) (same (R := 256) (C := 1024) (R' := 512) (index_facts t).2.2.2.1 y rfl rfl rfl rfl)

theorem covered (i : S512x1024.Idx) : ∃ t, ∃ y, at_ t y = i :=
  cover (R := 256) (C := 1024) (R' := 512) 2 rfl win0_4.index index_onto (fun t => (index_facts t).2.2.2.2.2.2) at_
    (fun _ _ => rfl) (fun _ _ => rfl) i

/-- The results of device `c`. -/
def GD (c : Dev nD) : Buf (Elt Ideal) ((c : Thread nD τ).loc main_v4_0) := arrD (w m c) (g m c) (μ m c) (ν m c)
def GM (c : Dev nD) : Buf (Elt Ideal) ((c : Thread nD τ).loc main_v4_1) := arrM (g m c) (μ m c)
def GV (c : Dev nD) : Buf (Elt Ideal) ((c : Thread nD τ).loc main_v4_2) := arrV (g m c) (ν m c)

theorem final4 (c : Dev nD) : (dats m 0 c).arrAt 4 cfg0.N = GD m c :=
  (dats m 0 c).arrAt_eq_of_cover 4 (GD m c)
    (fun t _ => (Value.flushed4 m c t).trans ((outD_eq _ _ _ _).trans
      (blockD (iblk0_eq m c t) (iblk1_eq m c t) (iblk2_eq m c t) (iblk3_eq m c t))))
    fun i => let ⟨t, y, e⟩ := covered i; ⟨t, flush0_4 t, e ▸ View.emb_mem_set _ y⟩
theorem final5 (c : Dev nD) : (dats m 0 c).arrAt 5 cfg0.N = GM m c :=
  (dats m 0 c).arrAt_eq_of_cover 5 (GM m c)
    (fun t _ => (Value.flushed5 m c t).trans ((outM_eq _ _ _ _).trans (blockM (iblk1_eq m c t) (iblk2_eq m c t) (at5 t))))
    fun i => let ⟨t, y, e⟩ := covered i; ⟨t, flush0_5 t, ((at5 t y).trans e) ▸ View.emb_mem_set _ y⟩
theorem final6 (c : Dev nD) : (dats m 0 c).arrAt 6 cfg0.N = GV m c :=
  (dats m 0 c).arrAt_eq_of_cover 6 (GV m c)
    (fun t _ => (Value.flushed6 m c t).trans ((outV_eq _ _ _ _).trans (blockV (iblk1_eq m c t) (iblk3_eq m c t) (at6 t))))
    fun i => let ⟨t, y, e⟩ := covered i; ⟨t, flush0_6 t, ((at6 t y).trans e) ▸ View.emb_mem_set _ y⟩

end Cert.AdamGroupIdeal.Tiles

namespace Cert.AdamGroupValue

open Cert.AdamGroupIdeal.Tiles (GD GM GV final4 final5 final6)

/-- On equal arguments the kernel's three results are the reference's. -/
theorem algebraic : Cert.algebraic_AdamGroupIdeal_AdamGroupRefIdeal := by
  intro m ρ m' ρ' _ hagree
  refine ⟨fun c => GD m c, fun c => GM m c, fun c => GV m c, ?_, ?_⟩
  · exact (θ_run Cert.AdamGroupIdeal.defs _ _).mono (fun r h c =>
      ⟨(h c).1.trans (final4 m c), (h c).2.1.trans (final5 m c), (h c).2.2.1.trans (final6 m c), (h c).2.2.2⟩)
      (Cert.AdamGroupIdeal.Value.run_blocks (F := Ideal) m ρ)
  · refine (θ_run Cert.AdamGroupRefIdeal.defs _ _).mono (fun r h c =>
      ⟨(h c).1.trans ?_, (h c).2.1.trans ?_, (h c).2.2.1.trans ?_, (h c).2.2.2⟩) (Cert.AdamGroupRefIdeal.Value.run (F := Ideal) m' ρ')
    · rw [(hagree c).1, (hagree c).2.1, (hagree c).2.2.1, (hagree c).2.2.2]; rfl
    · rw [(hagree c).2.1, (hagree c).2.2.1]; rfl
    · rw [(hagree c).2.1, (hagree c).2.2.2]; rfl

end Cert.AdamGroupValue

end
-- ==== Proof.AdamInValue.lean ====
/-
  The optimiser's step on one device's part of the state-space mixer's input weights, [1, 2048, 1288] read transposed as
  [1288, 2048], with the gradient that comes transposed: seven [184, 2048] blocks, each block's three results computed
  element by element. The reference turns the gradient back, computes the three results on the whole arrays, and reads
  them transposed.
-/
module

public import proofs.«01_k».proof.Defs
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Pipeline.Value
public import Idealize.ShloMosaic.Lib.ValueIdx
public import proofs.«01_k».proof.Proof.Products
public import proofs.«01_k».proof.Proof.Blocks
public import proofs.«01_k».proof.Proof.Adam

@[expose] public section

noncomputable section

open Idealize.ShloMosaic Idealize.ShloMosaic.TcCoe Idealize.SL.Sem Idealize.ShloMosaic.ValueIdx
open Idealize.ShloMosaic.StableHlo
open Idealize.ShloMosaic.Pipeline (Dat)

namespace Cert.AdamInIdeal.Tiles

open Cert.AdamInIdeal Cert.AdamInIdeal.Gen Cert.Adam Cert.Blocks
open Cert.Products (zeros2)

variable (m : (ℓ : Loc nD τ sig) → Buf (Elt Ideal) ℓ) (ρ : Dev nD → PrngReg)

/-- A weight array of one device, its leading axis dropped and the other two exchanged. -/
def turned (x : S1x2048x1288.Idx → EReal) : S1288x2048.Idx → EReal :=
  transpose S1288x2048 [1, 0] (shapeCast S2048x1288 x shapeCasts_S1x2048x1288_S2048x1288) transposes_S2048x1288_S1288x2048_1_0

/-- Device `c`'s weights, gradient and two moments. -/
def w (c : Dev nD) : S1288x2048.Idx → EReal := turned (m ((c : Thread nD τ).loc main_arg0))
def g (c : Dev nD) : S1288x2048.Idx → EReal := m ((c : Thread nD τ).loc main_arg1)
def μ (c : Dev nD) : S1288x2048.Idx → EReal := turned (m ((c : Thread nD τ).loc main_arg2))
def ν (c : Dev nD) : S1288x2048.Idx → EReal := turned (m ((c : Thread nD τ).loc main_arg3))

theorem V0 (c : Dev nD) : V m c main_v1 = w m c := by unfold V hostOps0; after_results_simp <;> rfl
theorem V1 (c : Dev nD) : V m c main_arg1 = g m c := V_main_arg1 m c
theorem V2 (c : Dev nD) : V m c main_v3 = μ m c := by unfold V hostOps0; after_results_simp <;> rfl
theorem V3 (c : Dev nD) : V m c main_v5 = ν m c := by unfold V hostOps0; after_results_simp <;> rfl

/-- What is stored, by the four loaded blocks. -/
theorem pay1_eq (a b : Vec Ideal S184x2048 .f32) : k0_pay1 a b = arrM a b := by
  unfold k0_pay1; simp only [shapeCast_self]; rfl
theorem pay2_eq (a b : Vec Ideal S184x2048 .f32) : k0_pay2 a b = arrV a b := by
  unfold k0_pay2; simp only [shapeCast_self]; rfl
theorem pay3_eq (x a b d : Vec Ideal S184x2048 .f32) : k0_pay3 x a b d = arrD x a b d := by
  unfold k0_pay3; simp only [pay1_eq, pay2_eq, shapeCast_self]; rfl
theorem outD_eq (x a b d : Vec Ideal S184x2048 .f32) : out0_4 x a b d = arrD x a b d := by
  unfold out0_4; rw [View.canon_unit_zero zeros2, View.ld_unit_zero zeros2, View.ld_unit_zero zeros2, View.ld_unit_zero zeros2, View.ld_unit_zero zeros2, pay3_eq]
theorem outM_eq (x a b d : Vec Ideal S184x2048 .f32) : out0_5 x a b d = arrM a b := by
  unfold out0_5; rw [View.canon_unit_zero zeros2, View.ld_unit_zero zeros2, View.ld_unit_zero zeros2, pay1_eq]
theorem outV_eq (x a b d : Vec Ideal S184x2048 .f32) : out0_6 x a b d = arrV a d := by
  unfold out0_6; rw [View.canon_unit_zero zeros2, View.ld_unit_zero zeros2, View.ld_unit_zero zeros2, pay2_eq]

/-- At each of the seven grid points the windows take the same 184 rows. -/
theorem index_facts : ∀ t : Fin grid0.N,
    (∀ a, win0_0.index t a = win0_4.index t a) ∧ (∀ a, win0_1.index t a = win0_4.index t a)
      ∧ (∀ a, win0_2.index t a = win0_4.index t a) ∧ (∀ a, win0_3.index t a = win0_4.index t a)
      ∧ (∀ a, win0_5.index t a = win0_4.index t a) ∧ (∀ a, win0_6.index t a = win0_4.index t a)
      ∧ win0_4.index t 1 = 0 := by
  decide +kernel
theorem index_onto : ∀ p : Fin 7, ∃ t : Fin grid0.N, win0_4.index t 0 = p.val := by decide +kernel

/-- Where block `t`'s element lies in the array, by every window. -/
def at_ (t : Fin cfg0.N) (y : S184x2048.Idx) : S1288x2048.Idx := ((cfg0.win 4).blk t).view.emb y

theorem at5 (t : Fin cfg0.N) (y : S184x2048.Idx) : ((cfg0.win 5).blk t).view.emb y = at_ t y :=
  same (R := 184) (C := 2048) (R' := 1288) (index_facts t).2.2.2.2.1 y rfl rfl rfl rfl
theorem at6 (t : Fin cfg0.N) (y : S184x2048.Idx) : ((cfg0.win 6).blk t).view.emb y = at_ t y :=
  same (R := 184) (C := 2048) (R' := 1288) (index_facts t).2.2.2.2.2.1 y rfl rfl rfl rfl
theorem iblk0_eq (c : Dev nD) (t : Fin cfg0.N) (y : S184x2048.Idx) : iblk m c 0 t y = w m c (at_ t y) :=
  read (V0 m c) (same (R := 184) (C := 2048) (R' := 1288) (index_facts t).1 y rfl rfl rfl rfl)
theorem iblk1_eq (c : Dev nD) (t : Fin cfg0.N) (y : S184x2048.Idx) : iblk m c 1 t y = g m c (at_ t y) :=
  read (V1 m c) (same (R := 184) (C := 2048) (R' := 1288) (index_facts t).2.1 y rfl rfl rfl rfl)
theorem iblk2_eq (c : Dev nD) (t : Fin cfg0.N) (y : S184x2048.Idx) : iblk m c 2 t y = μ m c (at_ t y) :=
  read (V2 m c) (same (R := 184) (C := 2048) (R' := 1288) (index_facts t).2.2.1 y rfl rfl rfl rfl)
theorem iblk3_eq (c : Dev nD) (t : Fin cfg0.N) (y : S184x2048.Idx) : iblk m c 3 t y = ν m c (at_ t y) :=
  read (V3 m c) (same (R := 184) (C := 2048) (R' := 1288) (index_facts t).2.2.2.1 y rfl rfl rfl rfl)

theorem covered (i : S1288x2048.Idx) : ∃ t, ∃ y, at_ t y = i :=
  cover (R := 184) (C := 2048) (R' := 1288) 7 rfl win0_4.index index_onto (fun t => (index_facts t).2.2.2.2.2.2) at_
    (fun _ _ => rfl) (fun _ _ => rfl) i

/-- The results of device `c`. -/
def GD (c : Dev nD) : Buf (Elt Ideal) ((c : Thread nD τ).loc main_v6_0) := arrD (w m c) (g m c) (μ m c) (ν m c)
def GM (c : Dev nD) : Buf (Elt Ideal) ((c : Thread nD τ).loc main_v6_1) := arrM (g m c) (μ m c)
def GV (c : Dev nD) : Buf (Elt Ideal) ((c : Thread nD τ).loc main_v6_2) := arrV (g m c) (ν m c)

theorem final4 (c : Dev nD) : (dats m 0 c).arrAt 4 cfg0.N = GD m c :=
  (dats m 0 c).arrAt_eq_of_cover 4 (GD m c)
    (fun t _ => (Value.flushed4 m c t).trans ((outD_eq _ _ _ _).trans
      (blockD (iblk0_eq m c t) (iblk1_eq m c t) (iblk2_eq m c t) (iblk3_eq m c t))))
    fun i => let ⟨t, y, e⟩ := covered i; ⟨t, flush0_4 t, e ▸ View.emb_mem_set _ y⟩
theorem final5 (c : Dev nD) : (dats m 0 c).arrAt 5 cfg0.N = GM m c :=
  (dats m 0 c).arrAt_eq_of_cover 5 (GM m c)
    (fun t _ => (Value.flushed5 m c t).trans ((outM_eq _ _ _ _).trans (blockM (iblk1_eq m c t) (iblk2_eq m c t) (at5 t))))
    fun i => let ⟨t, y, e⟩ := covered i; ⟨t, flush0_5 t, ((at5 t y).trans e) ▸ View.emb_mem_set _ y⟩
theorem final6 (c : Dev nD) : (dats m 0 c).arrAt 6 cfg0.N = GV m c :=
  (dats m 0 c).arrAt_eq_of_cover 6 (GV m c)
    (fun t _ => (Value.flushed6 m c t).trans ((outV_eq _ _ _ _).trans (blockV (iblk1_eq m c t) (iblk3_eq m c t) (at6 t))))
    fun i => let ⟨t, y, e⟩ := covered i; ⟨t, flush0_6 t, ((at6 t y).trans e) ▸ View.emb_mem_set _ y⟩

end Cert.AdamInIdeal.Tiles

namespace Cert.AdamInValue

open Cert.AdamInRefIdeal Cert.AdamInRefIdeal.Gen Cert.Adam
open Cert.AdamInIdeal.Tiles (turned GD GM GV final4 final5 final6)

/-- The gradient turned back and then read transposed is the gradient. -/
theorem grad_eq (x : S1288x2048.Idx → EReal) : turned (Read.val_main_v1 (F := Ideal) x) = x := by
  funext i
  have h0 : (i 0).val < 1288 := (i 0).isLt
  have h1 : (i 1).val < 2048 := (i 1).isLt
  refine (transpose_apply [1, 0] _ _ i (ix2 (⟨(i 1).val, h1⟩ : Fin 2048) (⟨(i 0).val, h0⟩ : Fin 1288)) (fun b => match b with
    | ⟨0, _⟩ => rfl
    | ⟨1, _⟩ => rfl)).trans ?_
  refine (shapeCast_apply _ _ _ (ix3 (0 : Fin 1) (⟨(i 1).val, h1⟩ : Fin 2048) (⟨(i 0).val, h0⟩ : Fin 1288)) (by
    rw [Shape.rowMajor_val_three, Shape.rowMajor_val_two]
    show (0 * 2048 + (i 1).val) * 1288 + (i 0).val = (i 1).val * 1288 + (i 0).val
    omega)).trans ?_
  rw [Read.val_main_v1_apply, Read.val_main_v0_apply]
  exact congrArg x (Shape.idx_ext₂ rfl rfl)

/-- On equal arguments the kernel's three results are the reference's. -/
theorem algebraic : Cert.algebraic_AdamInIdeal_AdamInRefIdeal := by
  intro m ρ m' ρ' _ hagree
  refine ⟨fun c => GD m c, fun c => GM m c, fun c => GV m c, ?_, ?_⟩
  · exact (θ_run Cert.AdamInIdeal.defs _ _).mono (fun r h c =>
      ⟨(h c).1.trans (final4 m c), (h c).2.1.trans (final5 m c), (h c).2.2.1.trans (final6 m c), (h c).2.2.2⟩)
      (Cert.AdamInIdeal.Value.run_blocks (F := Ideal) m ρ)
  · refine (θ_run Cert.AdamInRefIdeal.defs _ _).mono (fun r h c =>
      ⟨(h c).1.trans ?_, (h c).2.1.trans ?_, (h c).2.2.1.trans ?_, (h c).2.2.2⟩) (Cert.AdamInRefIdeal.Value.run (F := Ideal) m' ρ')
    · rw [(hagree c).1, (hagree c).2.1, (hagree c).2.2.1, (hagree c).2.2.2]
      exact (show _ = arrD _ (turned (Read.val_main_v1 (F := Ideal) _)) _ _ from rfl).trans (by rw [grad_eq]; rfl)
    · rw [(hagree c).2.1, (hagree c).2.2.1]
      exact (show _ = arrM (turned (Read.val_main_v1 (F := Ideal) _)) _ from rfl).trans (by rw [grad_eq]; rfl)
    · rw [(hagree c).2.1, (hagree c).2.2.2]
      exact (show _ = arrV (turned (Read.val_main_v1 (F := Ideal) _)) _ from rfl).trans (by rw [grad_eq]; rfl)

end Cert.AdamInValue

end
-- ==== Proof.Pieces.lean ====
/-
  Arrays put one after the other, element by element: a function applied to every piece is the function applied to the
  whole. The reference updates each weight on its own and puts the updates into one array; the kernel puts the weights
  into one array and updates that.
-/
module

public import Idealize.ShloMosaic.Lib.Pipeline.Value
public import Idealize.ShloMosaic.Lib.StableHlo
public import Idealize.ShloMosaic.Lib.ValueIdx

@[expose] public section

noncomputable section

open Idealize.ShloMosaic

namespace Cert.Pieces

/-- A piece with a function applied to its elements. -/
def each {α β : Type} (f : α → β) (p : (s : Shape) × (s.Idx → α)) : (s : Shape) × (s.Idx → β) := ⟨p.1, fun i => f (p.2 i)⟩

/-- The place of a position among consecutive lengths depends on the lengths alone. -/
theorem locate_congr (ns ns' : List ℕ) (e : ns' = ns) (v : ℕ) (h : v < ns.sum) (h' : v < ns'.sum) :
    (locate ns' v h').1.val = (locate ns v h).1.val ∧ (locate ns' v h').2.val = (locate ns v h).2.val := by
  subst e; exact ⟨rfl, rfl⟩

/-- An element of a piece with a function applied. -/
theorem each_apply {α β : Type} (f : α → β) (p : (s : Shape) × (s.Idx → α)) (q : (s : Shape) × (s.Idx → β)) (e : q = each f p)
    (i : p.1.Idx) (k : q.1.Idx) (h : ∀ (hr : q.1.rank = p.1.rank) (b : Fin q.1.rank), (k b).val = (i (Fin.cast hr b)).val) :
    q.2 k = f (p.2 i) := by
  subst e
  exact congrArg (fun z => f (p.2 z)) (funext fun b => Fin.ext (h rfl b))

/-- The lengths of the pieces along the joined axis. -/
def lengths {α : Type} (t : Shape) (a : Fin t.rank) (xs : List ((s : Shape) × (s.Idx → α))) : List ℕ :=
  List.map (fun s : Shape => if h : s.rank = t.rank then s.size (Fin.cast h.symm a) else 0) (List.map (fun x => x.fst) xs)

theorem lengths_each {α β : Type} (f : α → β) (t : Shape) (a : Fin t.rank) (xs : List ((s : Shape) × (s.Idx → α))) :
    lengths t a (xs.map (each f)) = lengths t a xs := by
  simp [lengths, List.map_map, Function.comp_def, each]

theorem concat_each {α β : Type} (f : α → β) (t : Shape) (a : Fin t.rank) (xs : List ((s : Shape) × (s.Idx → α)))
    (h : Shape.Concatenates (List.map (fun x => x.fst) xs) t a)
    (h' : Shape.Concatenates (List.map (fun x => x.fst) (xs.map (each f))) t a) (j : t.Idx) :
    concatenate t a (xs.map (each f)) h' j = f (concatenate t a xs h j) := by
  have e := locate_congr (lengths t a xs) _ (lengths_each f t a xs) (j a).val
  unfold concatenate
  refine each_apply f _ _ ?_ _ _ ?_
  · refine (List.getElem_map _).trans (congrArg (each f) ?_)
    congr 1
    exact (e _ _).1
  · intro hr b
    show (dite _ _ _ : Fin _).val = (dite _ _ _ : Fin _).val
    split <;> rename_i hb
    · rw [dif_pos (by exact hb)]
      exact (e _ _).2
    · rw [dif_neg (by exact hb)]
      rfl

end Cert.Pieces

end
-- ==== Proof.AdamSmallValue.lean ====
/-
  The optimiser's step on the nine small weights. The kernel puts the nine weights one after the other into one array of
  160 rows of 128, fills the last 320 places with ones, and updates that array; the reference updates each weight on its
  own and puts the results one after the other. The claim is on the places that hold a weight.
-/
module

public import proofs.«01_k».proof.Defs
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.On_weights_part
public import Idealize.ShloMosaic.Lib.Pipeline.Value
public import Idealize.ShloMosaic.Lib.ValueIdx
public import proofs.«01_k».proof.Proof.Products
public import proofs.«01_k».proof.Proof.Pieces
public import proofs.«01_k».proof.Proof.Adam

@[expose] public section

noncomputable section

open Idealize.ShloMosaic Idealize.ShloMosaic.TcCoe Idealize.SL.Sem Idealize.ShloMosaic.ValueIdx
open Idealize.ShloMosaic.StableHlo
open Idealize.ShloMosaic.Pipeline (Dat)

namespace Cert.AdamSmallIdeal.Tiles

open Cert.AdamSmallIdeal Cert.AdamSmallIdeal.Gen Cert.Adam

/-- Nine arrays of the small weights' shapes, each in one row. -/
structure Nine (α : Type) where
  x0 : S4096.Idx → α
  x1 : S2048.Idx → α
  x2 : S3072.Idx → α
  x3 : S6144.Idx → α
  x4 : S64.Idx → α
  x5 : S64.Idx → α
  x6 : S64.Idx → α
  x7 : S4096.Idx → α
  x8 : S512.Idx → α

namespace Nine

/-- A function applied to every element. -/
def map {α β : Type} (f : α → β) (X : Nine α) : Nine β :=
  ⟨fun i => f (X.x0 i), fun i => f (X.x1 i), fun i => f (X.x2 i), fun i => f (X.x3 i), fun i => f (X.x4 i),
    fun i => f (X.x5 i), fun i => f (X.x6 i), fun i => f (X.x7 i), fun i => f (X.x8 i)⟩

/-- Two sets of arrays as one set of arrays of pairs. -/
def zip {α β : Type} (X : Nine α) (Y : Nine β) : Nine (α × β) :=
  ⟨fun i => (X.x0 i, Y.x0 i), fun i => (X.x1 i, Y.x1 i), fun i => (X.x2 i, Y.x2 i), fun i => (X.x3 i, Y.x3 i),
    fun i => (X.x4 i, Y.x4 i), fun i => (X.x5 i, Y.x5 i), fun i => (X.x6 i, Y.x6 i), fun i => (X.x7 i, Y.x7 i),
    fun i => (X.x8 i, Y.x8 i)⟩

/-- The nine arrays one after the other. -/
def join {α : Type} (X : Nine α) : S20160.Idx → α :=
  concatenate S20160 0 [⟨S4096, X.x0⟩, ⟨S2048, X.x1⟩, ⟨S3072, X.x2⟩, ⟨S6144, X.x3⟩, ⟨S64, X.x4⟩, ⟨S64, X.x5⟩, ⟨S64, X.x6⟩,
    ⟨S4096, X.x7⟩, ⟨S512, X.x8⟩] concatenates_S4096_S2048_S3072_S6144_S64_S64_S64_S4096_S512_S20160_d0

theorem join_map {α β : Type} (f : α → β) (X : Nine α) (j : S20160.Idx) : (X.map f).join j = f (X.join j) :=
  Cert.Pieces.concat_each f S20160 0 [⟨S4096, X.x0⟩, ⟨S2048, X.x1⟩, ⟨S3072, X.x2⟩, ⟨S6144, X.x3⟩, ⟨S64, X.x4⟩, ⟨S64, X.x5⟩,
    ⟨S64, X.x6⟩, ⟨S4096, X.x7⟩, ⟨S512, X.x8⟩] _ _ j

theorem join_zip {α β : Type} (X : Nine α) (Y : Nine β) (j : S20160.Idx) : (X.zip Y).join j = (X.join j, Y.join j) :=
  Prod.ext (join_map Prod.fst (X.zip Y) j).symm (join_map Prod.snd (X.zip Y) j).symm

/-- Nine arrays as the step has them, each put in one row. -/
def rows (a0 : S2x2048.Idx → EReal) (a1 : S2048.Idx → EReal) (a2 : S1x4x768.Idx → EReal) (a3 : S1x6144.Idx → EReal)
    (a4 a5 a6 : S1x64.Idx → EReal) (a7 : S1x4096.Idx → EReal) (a8 : S1x512.Idx → EReal) : Nine EReal :=
  ⟨shapeCast S4096 a0 shapeCasts_S2x2048_S4096, a1, shapeCast S3072 a2 shapeCasts_S1x4x768_S3072,
    shapeCast S6144 a3 shapeCasts_S1x6144_S6144, shapeCast S64 a4 shapeCasts_S1x64_S64, shapeCast S64 a5 shapeCasts_S1x64_S64,
    shapeCast S64 a6 shapeCasts_S1x64_S64, shapeCast S4096 a7 shapeCasts_S1x4096_S4096, shapeCast S512 a8 shapeCasts_S1x512_S512⟩

theorem rows_congr {a0 b0 : S2x2048.Idx → EReal} {a1 b1 : S2048.Idx → EReal} {a2 b2 : S1x4x768.Idx → EReal}
    {a3 b3 : S1x6144.Idx → EReal} {a4 b4 a5 b5 a6 b6 : S1x64.Idx → EReal} {a7 b7 : S1x4096.Idx → EReal} {a8 b8 : S1x512.Idx → EReal}
    (h0 : a0 = b0) (h1 : a1 = b1) (h2 : a2 = b2) (h3 : a3 = b3) (h4 : a4 = b4) (h5 : a5 = b5) (h6 : a6 = b6) (h7 : a7 = b7)
    (h8 : a8 = b8) : rows a0 a1 a2 a3 a4 a5 a6 a7 a8 = rows b0 b1 b2 b3 b4 b5 b6 b7 b8 := by
  rw [h0, h1, h2, h3, h4, h5, h6, h7, h8]

/-- The joined arrays filled up to 160 rows of 128. -/
def packed (X : Nine EReal) (v : S_.Idx → EReal) : S160x128.Idx → EReal :=
  shapeCast S160x128 (pad S20480 ![0] ![320] ![0] X.join v pads_S20160_S20480_03200 h_S_) shapeCasts_S20480_S160x128

/-- A place that holds a weight. -/
theorem packed_apply (X : Nine EReal) (v : S_.Idx → EReal) (i : S160x128.Idx) (h : (i 0).val * 128 + (i 1).val < 20160) :
    X.packed v i = X.join (ix1 (⟨(i 0).val * 128 + (i 1).val, h⟩ : Fin 20160)) := by
  refine (shapeCast_apply _ _ i (ix1 (⟨(i 0).val * 128 + (i 1).val, by omega⟩ : Fin 20480)) (by
    rw [Shape.rowMajor_val_one, Shape.rowMajor_val_two]; rfl)).trans ?_
  unfold pad
  refine (dif_pos ?_).trans (congrArg X.join ?_)
  · intro a
    match a with
    | ⟨0, _⟩ => exact ⟨Nat.zero_le _, Nat.mod_one _, by
        show ((i 0).val * 128 + (i 1).val - 0) / (0 + 1) < 20160
        omega⟩
  · funext a
    match a with
    | ⟨0, _⟩ => exact Fin.ext (by show ((i 0).val * 128 + (i 1).val - 0) / (0 + 1) = (i 0).val * 128 + (i 1).val; omega)

end Nine

variable (m : (ℓ : Loc nD τ sig) → Buf (Elt Ideal) ℓ) (ρ : Dev nD → PrngReg)

/-- Device `c`'s nine weights, gradients and moments. -/
def w (c : Dev nD) : Nine EReal := .rows (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8))
def g (c : Dev nD) : Nine EReal := .rows (m ((c : Thread nD τ).loc main_arg9)) (m ((c : Thread nD τ).loc main_arg10))
  (m ((c : Thread nD τ).loc main_arg11)) (m ((c : Thread nD τ).loc main_arg12)) (m ((c : Thread nD τ).loc main_arg13))
  (m ((c : Thread nD τ).loc main_arg14)) (m ((c : Thread nD τ).loc main_arg15)) (m ((c : Thread nD τ).loc main_arg16))
  (m ((c : Thread nD τ).loc main_arg17))
def μ (c : Dev nD) : Nine EReal := .rows (m ((c : Thread nD τ).loc main_arg18)) (m ((c : Thread nD τ).loc main_arg19))
  (m ((c : Thread nD τ).loc main_arg20)) (m ((c : Thread nD τ).loc main_arg21)) (m ((c : Thread nD τ).loc main_arg22))
  (m ((c : Thread nD τ).loc main_arg23)) (m ((c : Thread nD τ).loc main_arg24)) (m ((c : Thread nD τ).loc main_arg25))
  (m ((c : Thread nD τ).loc main_arg26))
def ν (c : Dev nD) : Nine EReal := .rows (m ((c : Thread nD τ).loc main_arg27)) (m ((c : Thread nD τ).loc main_arg28))
  (m ((c : Thread nD τ).loc main_arg29)) (m ((c : Thread nD τ).loc main_arg30)) (m ((c : Thread nD τ).loc main_arg31))
  (m ((c : Thread nD τ).loc main_arg32)) (m ((c : Thread nD τ).loc main_arg33)) (m ((c : Thread nD τ).loc main_arg34))
  (m ((c : Thread nD τ).loc main_arg35))

/-- The filling. -/
def one : S_.Idx → EReal := constant (F := Ideal) S_ .f32 0x3F800000#32

set_option maxHeartbeats 6400000 in
/-- What the launch finds in its four arrays. -/
theorem found (c : Dev nD) : V m c main_v10 = (w m c).packed one ∧ V m c main_v21 = (g m c).packed one
    ∧ V m c main_v32 = (μ m c).packed one ∧ V m c main_v43 = (ν m c).packed one := by
  unfold V hostOps0 hostOps0_1 hostOps0_2 hostOps0_3 hostOps0_4 hostOps0_5 hostOps0_6 hostOps0_7 hostOps0_8
  simp only [List.flatten_cons, List.flatten_nil, List.append_nil, List.cons_append, List.nil_append]
  refine ⟨?_, ?_, ?_, ?_⟩ <;> (after_results_simp; dsimp only [Matrix.cons_val]; rfl)

/-- The three results on a block are the three functions, element by element. -/
theorem pay1_eq (a : Vec Ideal S160x128 .f32) : k0_pay1 a = a := by unfold k0_pay1; simp only [shapeCast_self]
theorem pay2_eq (a b : Vec Ideal S160x128 .f32) : k0_pay2 a b = arrM a b := by
  unfold k0_pay2; simp only [pay1_eq, shapeCast_self]; rfl
theorem pay3_eq (a b : Vec Ideal S160x128 .f32) : k0_pay3 a b = arrV a b := by
  unfold k0_pay3; simp only [pay1_eq, shapeCast_self]; rfl
theorem pay4_eq (x a b d : Vec Ideal S160x128 .f32) : k0_pay4 x a b d = arrD x a b d := by
  unfold k0_pay4; simp only [pay2_eq, pay3_eq, shapeCast_self]; rfl

/-- The single point's blocks start at the arrays' first element. -/
theorem index_facts : ∀ t : Fin grid0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) ∧ (∀ a, win0_6.index t a = 0) := by
  decide +kernel

theorem at_eq (y i : S160x128.Idx) (j : Fin 2 → ℕ) (hj : ∀ a, j a = 0) (h0 : (i 0).val = j 0 * 160 + 1 * (y 0).val)
    (h1 : (i 1).val = j 1 * 128 + 1 * (y 1).val) : i = y := by
  refine Shape.idx_ext₂ ?_ ?_
  · rw [h0, hj, Nat.zero_mul, Nat.zero_add, Nat.one_mul]
  · rw [h1, hj, Nat.zero_mul, Nat.zero_add, Nat.one_mul]

theorem iblk0_eq (c : Dev nD) (t : Fin cfg0.N) (y : S160x128.Idx) : iblk m c 0 t y = (w m c).packed one y := by
  unfold iblk; rw [View.read_apply]; exact (congrFun (found m c).1 _).trans (congrArg _ (at_eq y _ _ (index_facts t).1 rfl rfl))
theorem iblk1_eq (c : Dev nD) (t : Fin cfg0.N) (y : S160x128.Idx) : iblk m c 1 t y = (g m c).packed one y := by
  unfold iblk; rw [View.read_apply]; exact (congrFun (found m c).2.1 _).trans (congrArg _ (at_eq y _ _ (index_facts t).2.1 rfl rfl))
theorem iblk2_eq (c : Dev nD) (t : Fin cfg0.N) (y : S160x128.Idx) : iblk m c 2 t y = (μ m c).packed one y := by
  unfold iblk; rw [View.read_apply]; exact (congrFun (found m c).2.2.1 _).trans (congrArg _ (at_eq y _ _ (index_facts t).2.2.1 rfl rfl))
theorem iblk3_eq (c : Dev nD) (t : Fin cfg0.N) (y : S160x128.Idx) : iblk m c 3 t y = (ν m c).packed one y := by
  unfold iblk; rw [View.read_apply]; exact (congrFun (found m c).2.2.2 _).trans (congrArg _ (at_eq y _ _ (index_facts t).2.2.2.1 rfl rfl))

/-- The results of device `c`. -/
def GD (c : Dev nD) : Buf (Elt Ideal) ((c : Thread nD τ).loc main_v44_0) :=
  arrD ((w m c).packed one) ((g m c).packed one) ((μ m c).packed one) ((ν m c).packed one)
def GM (c : Dev nD) : Buf (Elt Ideal) ((c : Thread nD τ).loc main_v44_1) := arrM ((g m c).packed one) ((μ m c).packed one)
def GV (c : Dev nD) : Buf (Elt Ideal) ((c : Thread nD τ).loc main_v44_2) := arrV ((g m c).packed one) ((ν m c).packed one)

theorem flushed4_eq (c : Dev nD) (t : Fin cfg0.N) :
    (dats m 0 c).flushed 4 t = ((cfg0.win 4).blk t).view.read (Elt Ideal) (GD m c) := by
  rw [Value.flushed4]
  unfold out0_4
  rw [View.canon_unit_zero Cert.Products.zeros2, View.ld_unit_zero Cert.Products.zeros2, View.ld_unit_zero Cert.Products.zeros2, View.ld_unit_zero Cert.Products.zeros2, View.ld_unit_zero Cert.Products.zeros2, pay4_eq]
  funext y
  rw [View.read_apply]
  refine Eq.trans (b := GD m c y) ?_ (congrArg (GD m c) (at_eq y _ _ (index_facts t).2.2.2.2.1 rfl rfl).symm)
  show delta (iblk m c 0 t y) (iblk m c 1 t y) (iblk m c 2 t y) (iblk m c 3 t y) = _
  rw [iblk0_eq, iblk1_eq, iblk2_eq, iblk3_eq]
  rfl

theorem flushed5_eq (c : Dev nD) (t : Fin cfg0.N) :
    (dats m 0 c).flushed 5 t = ((cfg0.win 5).blk t).view.read (Elt Ideal) (GM m c) := by
  rw [Value.flushed5]
  unfold out0_5
  rw [View.canon_unit_zero Cert.Products.zeros2, View.ld_unit_zero Cert.Products.zeros2, View.ld_unit_zero Cert.Products.zeros2, pay2_eq]
  funext y
  rw [View.read_apply]
  refine Eq.trans (b := GM m c y) ?_ (congrArg (GM m c) (at_eq y _ _ (index_facts t).2.2.2.2.2.1 rfl rfl).symm)
  show newM (iblk m c 1 t y) (iblk m c 2 t y) = _
  rw [iblk1_eq, iblk2_eq]
  rfl

theorem flushed6_eq (c : Dev nD) (t : Fin cfg0.N) :
    (dats m 0 c).flushed 6 t = ((cfg0.win 6).blk t).view.read (Elt Ideal) (GV m c) := by
  rw [Value.flushed6]
  unfold out0_6
  rw [View.canon_unit_zero Cert.Products.zeros2, View.ld_unit_zero Cert.Products.zeros2, View.ld_unit_zero Cert.Products.zeros2, pay3_eq]
  funext y
  rw [View.read_apply]
  refine Eq.trans (b := GV m c y) ?_ (congrArg (GV m c) (at_eq y _ _ (index_facts t).2.2.2.2.2.2 rfl rfl).symm)
  show newV (iblk m c 1 t y) (iblk m c 3 t y) = _
  rw [iblk1_eq, iblk3_eq]
  rfl

/-- The only point. -/
def only : Fin cfg0.N := ⟨0, by decide⟩

theorem final4 (c : Dev nD) : (dats m 0 c).arrAt 4 cfg0.N = GD m c :=
  (dats m 0 c).arrAt_eq_of_cover 4 (GD m c) (fun t _ => flushed4_eq m c t) fun i =>
    ⟨only, flush0_4 only, at_eq i (((cfg0.win 4).blk only).view.emb i) _ (index_facts only).2.2.2.2.1 rfl rfl ▸ View.emb_mem_set _ i⟩

theorem final5 (c : Dev nD) : (dats m 0 c).arrAt 5 cfg0.N = GM m c :=
  (dats m 0 c).arrAt_eq_of_cover 5 (GM m c) (fun t _ => flushed5_eq m c t) fun i =>
    ⟨only, flush0_5 only, at_eq i (((cfg0.win 5).blk only).view.emb i) _ (index_facts only).2.2.2.2.2.1 rfl rfl ▸ View.emb_mem_set _ i⟩

theorem final6 (c : Dev nD) : (dats m 0 c).arrAt 6 cfg0.N = GV m c :=
  (dats m 0 c).arrAt_eq_of_cover 6 (GV m c) (fun t _ => flushed6_eq m c t) fun i =>
    ⟨only, flush0_6 only, at_eq i (((cfg0.win 6).blk only).view.emb i) _ (index_facts only).2.2.2.2.2.2 rfl rfl ▸ View.emb_mem_set _ i⟩

end Cert.AdamSmallIdeal.Tiles

namespace Cert.AdamSmallValue

open Cert.AdamSmallRefIdeal Cert.AdamSmallRefIdeal.Gen Cert.Adam
open Cert.AdamSmallIdeal.Tiles (Nine)

/-- The three functions on nine weights, each on its own. -/
def nineD (W G M V : Nine EReal) : Nine EReal := ((W.zip G).zip (M.zip V)).map fun z => delta z.1.1 z.1.2 z.2.1 z.2.2
def nineM (G M : Nine EReal) : Nine EReal := (G.zip M).map fun z => newM z.1 z.2
def nineV (G V : Nine EReal) : Nine EReal := (G.zip V).map fun z => newV z.1 z.2

/-- The nine weights of a reference's launch, their gradients and their moments. -/
def w (U : Valuation τ sig (Elt Ideal)) : Nine EReal := .rows (U (Proc.devRef .tc main_arg0)) (U (Proc.devRef .tc main_arg1))
  (U (Proc.devRef .tc main_arg2)) (U (Proc.devRef .tc main_arg3)) (U (Proc.devRef .tc main_arg4)) (U (Proc.devRef .tc main_arg5))
  (U (Proc.devRef .tc main_arg6)) (U (Proc.devRef .tc main_arg7)) (U (Proc.devRef .tc main_arg8))
def g (U : Valuation τ sig (Elt Ideal)) : Nine EReal := .rows (U (Proc.devRef .tc main_arg9)) (U (Proc.devRef .tc main_arg10))
  (U (Proc.devRef .tc main_arg11)) (U (Proc.devRef .tc main_arg12)) (U (Proc.devRef .tc main_arg13)) (U (Proc.devRef .tc main_arg14))
  (U (Proc.devRef .tc main_arg15)) (U (Proc.devRef .tc main_arg16)) (U (Proc.devRef .tc main_arg17))
def μ (U : Valuation τ sig (Elt Ideal)) : Nine EReal := .rows (U (Proc.devRef .tc main_arg18)) (U (Proc.devRef .tc main_arg19))
  (U (Proc.devRef .tc main_arg20)) (U (Proc.devRef .tc main_arg21)) (U (Proc.devRef .tc main_arg22)) (U (Proc.devRef .tc main_arg23))
  (U (Proc.devRef .tc main_arg24)) (U (Proc.devRef .tc main_arg25)) (U (Proc.devRef .tc main_arg26))
def ν (U : Valuation τ sig (Elt Ideal)) : Nine EReal := .rows (U (Proc.devRef .tc main_arg27)) (U (Proc.devRef .tc main_arg28))
  (U (Proc.devRef .tc main_arg29)) (U (Proc.devRef .tc main_arg30)) (U (Proc.devRef .tc main_arg31)) (U (Proc.devRef .tc main_arg32))
  (U (Proc.devRef .tc main_arg33)) (U (Proc.devRef .tc main_arg34)) (U (Proc.devRef .tc main_arg35))

/-- The reference's filling. -/
def zero : S_.Idx → EReal := sitofp (F := Ideal) .f32 (constantI S_ 32 0#32)

/-- At a place that holds a weight, packing after the three functions is the three functions after packing. -/
theorem packedD (W G M V : Nine EReal) (u v : S_.Idx → EReal) (i : S160x128.Idx) (h : (i 0).val * 128 + (i 1).val < 20160) :
    (nineD W G M V).packed u i = arrD (W.packed v) (G.packed v) (M.packed v) (V.packed v) i := by
  unfold nineD arrD
  simp only [Nine.packed_apply _ _ _ h, Nine.join_map, Nine.join_zip]
theorem packedM (G M : Nine EReal) (u v : S_.Idx → EReal) (i : S160x128.Idx) (h : (i 0).val * 128 + (i 1).val < 20160) :
    (nineM G M).packed u i = arrM (G.packed v) (M.packed v) i := by
  unfold nineM arrM
  simp only [Nine.packed_apply _ _ _ h, Nine.join_map, Nine.join_zip]
theorem packedV (G V : Nine EReal) (u v : S_.Idx → EReal) (i : S160x128.Idx) (h : (i 0).val * 128 + (i 1).val < 20160) :
    (nineV G V).packed u i = arrV (G.packed v) (V.packed v) i := by
  unfold nineV arrV
  simp only [Nine.packed_apply _ _ _ h, Nine.join_map, Nine.join_zip]

/-- Where the claim looks, a weight is held. -/
theorem held (i : S160x128.Idx) {hb : S_.BroadcastsInDim S20480 (![] : Fin 0 → Fin S20480.rank)} {hs : S20480.ShapeCasts S160x128}
    (h : shapeCast S160x128 (cmpi .slt (iotaInDim S20480 32 0) (broadcastInDim S20480 ![] hb (constantI S_ 32 20160#32))) hs i = 1#1) :
    (i 0).val * 128 + (i 1).val < 20160 := by
  have h0 : (i 0).val < 160 := (i 0).isLt
  have h1 : (i 1).val < 128 := (i 1).isLt
  have hn : (i 0).val * 128 + (i 1).val < 20480 := by omega
  rw [shapeCast_apply _ _ i (ix1 (⟨(i 0).val * 128 + (i 1).val, hn⟩ : Fin 20480)) (by
    rw [Shape.rowMajor_val_one, Shape.rowMajor_val_two]; rfl)] at h
  have h' : BitVec.ofBool (BitVec.slt (BitVec.ofNat 32 ((i 0).val * 128 + (i 1).val)) 20160#32) = 1#1 := h
  clear h
  generalize (i 0).val * 128 + (i 1).val = n at h' hn ⊢
  by_contra hc
  have e : BitVec.slt (BitVec.ofNat 32 n) 20160#32 = false := by
    rw [BitVec.slt, decide_eq_false_iff_not, BitVec.toInt_eq_toNat_of_lt (by rw [BitVec.toNat_ofNat]; omega), BitVec.toNat_ofNat]
    show ¬ (((n % 2 ^ 32 : ℕ) : ℤ) < 20160)
    omega
  rw [e] at h'
  exact absurd h' (by decide)

set_option maxRecDepth 8192 in
/-- On equal arguments the kernel's three results are the reference's wherever a weight is held. -/
theorem algebraic : Cert.algebraic_AdamSmallIdeal_AdamSmallRefIdeal_on_weights_part := by
  intro m ρ m' ρ' _ hagree
  have e : ∀ c, w (launchContents m' c) = Cert.AdamSmallIdeal.Tiles.w m c ∧ g (launchContents m' c) = Cert.AdamSmallIdeal.Tiles.g m c
      ∧ μ (launchContents m' c) = Cert.AdamSmallIdeal.Tiles.μ m c ∧ ν (launchContents m' c) = Cert.AdamSmallIdeal.Tiles.ν m c := by
    intro c
    obtain ⟨a0, a1, a2, a3, a4, a5, a6, a7, a8, b0, b1, b2, b3, b4, b5, b6, b7, b8, c0, c1, c2, c3, c4, c5, c6, c7, c8,
      d0, d1, d2, d3, d4, d5, d6, d7, d8⟩ := hagree c
    refine ⟨?_, ?_, ?_, ?_⟩
    · exact Nine.rows_congr a0 a1 a2 a3 a4 a5 a6 a7 a8
    · exact Nine.rows_congr b0 b1 b2 b3 b4 b5 b6 b7 b8
    · exact Nine.rows_congr c0 c1 c2 c3 c4 c5 c6 c7 c8
    · exact Nine.rows_congr d0 d1 d2 d3 d4 d5 d6 d7 d8
  refine ⟨fun c => Cert.AdamSmallIdeal.Tiles.GD m c, fun c => Cert.AdamSmallIdeal.Tiles.GM m c,
    fun c => Cert.AdamSmallIdeal.Tiles.GV m c, ?_, ?_⟩
  · exact (θ_run Cert.AdamSmallIdeal.defs _ _).mono (fun r h c =>
      ⟨fun i _ => congrFun ((h c).1.trans (Cert.AdamSmallIdeal.Tiles.final4 m c)) i,
        fun i _ => congrFun ((h c).2.1.trans (Cert.AdamSmallIdeal.Tiles.final5 m c)) i,
        fun i _ => congrFun ((h c).2.2.1.trans (Cert.AdamSmallIdeal.Tiles.final6 m c)) i, (h c).2.2.2⟩)
      (Cert.AdamSmallIdeal.Value.run_blocks (F := Ideal) m ρ)
  · refine (θ_run Cert.AdamSmallRefIdeal.defs _ _).mono (fun r h c =>
      ⟨fun i hi => (congrFun (h c).1 i).trans ?_, fun i hi => (congrFun (h c).2.1 i).trans ?_,
        fun i hi => (congrFun (h c).2.2.1 i).trans ?_, (h c).2.2.2⟩) (Cert.AdamSmallRefIdeal.Value.run (F := Ideal) m' ρ')
    · refine (show _ = (nineD (w (launchContents m' c)) (g (launchContents m' c)) (μ (launchContents m' c))
        (ν (launchContents m' c))).packed zero i from rfl).trans ?_
      rw [(e c).1, (e c).2.1, (e c).2.2.1, (e c).2.2.2]
      exact packedD _ _ _ _ _ _ i (held i hi)
    · refine (show _ = (nineM (g (launchContents m' c)) (μ (launchContents m' c))).packed zero i from rfl).trans ?_
      rw [(e c).2.1, (e c).2.2.1]
      exact packedM _ _ _ _ i (held i hi)
    · refine (show _ = (nineV (g (launchContents m' c)) (ν (launchContents m' c))).packed zero i from rfl).trans ?_
      rw [(e c).2.1, (e c).2.2.2]
      exact packedV _ _ _ _ i (held i hi)

end Cert.AdamSmallValue

end
-- ==== Proof.lean ====
module

public import proofs.«01_k».proof.Defs
public import proofs.«01_k».proof.Proof.Gen.SsmOut
public import proofs.«01_k».proof.Proof.Gen.SsmOut.Skeleton
public import proofs.«01_k».proof.Proof.Gen.SsmOut.Launch
public import proofs.«01_k».proof.Proof.Gen.SsmOut.Points
public import proofs.«01_k».proof.Proof.Gen.SsmOut.Frame
public import proofs.«01_k».proof.Proof.Gen.SsmOutIdeal
public import proofs.«01_k».proof.Proof.Gen.SsmOutIdeal.Skeleton
public import proofs.«01_k».proof.Proof.Gen.SsmOutIdeal.Launch
public import proofs.«01_k».proof.Proof.Gen.SsmOutIdeal.Points
public import proofs.«01_k».proof.Proof.Gen.SsmOutIdeal.Frame
public import proofs.«01_k».proof.Proof.Gen.SsmOutRefIdeal
public import proofs.«01_k».proof.Proof.Gen.Group
public import proofs.«01_k».proof.Proof.Gen.Group.Skeleton
public import proofs.«01_k».proof.Proof.Gen.Group.Launch
public import proofs.«01_k».proof.Proof.Gen.Group.Points
public import proofs.«01_k».proof.Proof.Gen.Group.Frame
public import proofs.«01_k».proof.Proof.Gen.GroupIdeal
public import proofs.«01_k».proof.Proof.Gen.GroupIdeal.Skeleton
public import proofs.«01_k».proof.Proof.Gen.GroupIdeal.Launch
public import proofs.«01_k».proof.Proof.Gen.GroupIdeal.Points
public import proofs.«01_k».proof.Proof.Gen.GroupIdeal.Frame
public import proofs.«01_k».proof.Proof.Gen.GroupRefIdeal
public import proofs.«01_k».proof.Proof.Gen.PoolIn
public import proofs.«01_k».proof.Proof.Gen.PoolIn.Skeleton
public import proofs.«01_k».proof.Proof.Gen.PoolIn.Launch
public import proofs.«01_k».proof.Proof.Gen.PoolIn.Points
public import proofs.«01_k».proof.Proof.Gen.PoolIn.Frame
public import proofs.«01_k».proof.Proof.Gen.PoolInIdeal
public import proofs.«01_k».proof.Proof.Gen.PoolInIdeal.Skeleton
public import proofs.«01_k».proof.Proof.Gen.PoolInIdeal.Launch
public import proofs.«01_k».proof.Proof.Gen.PoolInIdeal.Points
public import proofs.«01_k».proof.Proof.Gen.PoolInIdeal.Frame
public import proofs.«01_k».proof.Proof.Gen.PoolInRefIdeal
public import proofs.«01_k».proof.Proof.Gen.InDt
public import proofs.«01_k».proof.Proof.Gen.InDt.Skeleton
public import proofs.«01_k».proof.Proof.Gen.InDt.Launch
public import proofs.«01_k».proof.Proof.Gen.InDt.Points
public import proofs.«01_k».proof.Proof.Gen.InDt.Frame
public import proofs.«01_k».proof.Proof.Gen.InDtIdeal
public import proofs.«01_k».proof.Proof.Gen.InDtIdeal.Skeleton
public import proofs.«01_k».proof.Proof.Gen.InDtIdeal.Launch
public import proofs.«01_k».proof.Proof.Gen.InDtIdeal.Points
public import proofs.«01_k».proof.Proof.Gen.InDtIdeal.Frame
public import proofs.«01_k».proof.Proof.Gen.InDtRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.WOut
public import proofs.«01_k».proof.Proof.Gen.WOut.Skeleton
public import proofs.«01_k».proof.Proof.Gen.WOut.Launch
public import proofs.«01_k».proof.Proof.Gen.WOut.Points
public import proofs.«01_k».proof.Proof.Gen.WOut.Frame
public import proofs.«01_k».proof.Proof.Gen.WOutIdeal
public import proofs.«01_k».proof.Proof.Gen.WOutIdeal.Skeleton
public import proofs.«01_k».proof.Proof.Gen.WOutIdeal.Launch
public import proofs.«01_k».proof.Proof.Gen.WOutIdeal.Points
public import proofs.«01_k».proof.Proof.Gen.WOutIdeal.Frame
public import proofs.«01_k».proof.Proof.Gen.WOutRefIdeal
public import proofs.«01_k».proof.Proof.Gen.WPoolIn
public import proofs.«01_k».proof.Proof.Gen.WPoolIn.Skeleton
public import proofs.«01_k».proof.Proof.Gen.WPoolIn.Launch
public import proofs.«01_k».proof.Proof.Gen.WPoolIn.Points
public import proofs.«01_k».proof.Proof.Gen.WPoolIn.Frame
public import proofs.«01_k».proof.Proof.Gen.WPoolInIdeal
public import proofs.«01_k».proof.Proof.Gen.WPoolInIdeal.Skeleton
public import proofs.«01_k».proof.Proof.Gen.WPoolInIdeal.Launch
public import proofs.«01_k».proof.Proof.Gen.WPoolInIdeal.Points
public import proofs.«01_k».proof.Proof.Gen.WPoolInIdeal.Frame
public import proofs.«01_k».proof.Proof.Gen.WPoolInRefIdeal
public import proofs.«01_k».proof.Proof.Gen.WGroup
public import proofs.«01_k».proof.Proof.Gen.WGroup.Skeleton
public import proofs.«01_k».proof.Proof.Gen.WGroup.Launch
public import proofs.«01_k».proof.Proof.Gen.WGroup.Points
public import proofs.«01_k».proof.Proof.Gen.WGroup.Frame
public import proofs.«01_k».proof.Proof.Gen.WGroupIdeal
public import proofs.«01_k».proof.Proof.Gen.WGroupIdeal.Skeleton
public import proofs.«01_k».proof.Proof.Gen.WGroupIdeal.Launch
public import proofs.«01_k».proof.Proof.Gen.WGroupIdeal.Points
public import proofs.«01_k».proof.Proof.Gen.WGroupIdeal.Frame
public import proofs.«01_k».proof.Proof.Gen.WGroupRefIdeal
public import proofs.«01_k».proof.Proof.Gen.FIn
public import proofs.«01_k».proof.Proof.Gen.FIn.Skeleton
public import proofs.«01_k».proof.Proof.Gen.FIn.Launch
public import proofs.«01_k».proof.Proof.Gen.FIn.Points
public import proofs.«01_k».proof.Proof.Gen.FIn.Frame
public import proofs.«01_k».proof.Proof.Gen.FInIdeal
public import proofs.«01_k».proof.Proof.Gen.FInIdeal.Skeleton
public import proofs.«01_k».proof.Proof.Gen.FInIdeal.Launch
public import proofs.«01_k».proof.Proof.Gen.FInIdeal.Points
public import proofs.«01_k».proof.Proof.Gen.FInIdeal.Frame
public import proofs.«01_k».proof.Proof.Gen.FInRefIdeal
public import proofs.«01_k».proof.Proof.Gen.FInDt
public import proofs.«01_k».proof.Proof.Gen.FInDt.Skeleton
public import proofs.«01_k».proof.Proof.Gen.FInDt.Launch
public import proofs.«01_k».proof.Proof.Gen.FInDt.Points
public import proofs.«01_k».proof.Proof.Gen.FInDt.Frame
public import proofs.«01_k».proof.Proof.Gen.FInDtIdeal
public import proofs.«01_k».proof.Proof.Gen.FInDtIdeal.Skeleton
public import proofs.«01_k».proof.Proof.Gen.FInDtIdeal.Launch
public import proofs.«01_k».proof.Proof.Gen.FInDtIdeal.Points
public import proofs.«01_k».proof.Proof.Gen.FInDtIdeal.Frame
public import proofs.«01_k».proof.Proof.Gen.FInDtRefIdeal
public import proofs.«01_k».proof.Proof.Gen.FOut
public import proofs.«01_k».proof.Proof.Gen.FOut.Skeleton
public import proofs.«01_k».proof.Proof.Gen.FOut.Launch
public import proofs.«01_k».proof.Proof.Gen.FOut.Points
public import proofs.«01_k».proof.Proof.Gen.FOut.Frame
public import proofs.«01_k».proof.Proof.Gen.FOutIdeal
public import proofs.«01_k».proof.Proof.Gen.FOutIdeal.Skeleton
public import proofs.«01_k».proof.Proof.Gen.FOutIdeal.Launch
public import proofs.«01_k».proof.Proof.Gen.FOutIdeal.Points
public import proofs.«01_k».proof.Proof.Gen.FOutIdeal.Frame
public import proofs.«01_k».proof.Proof.Gen.FOutRefIdeal
public import proofs.«01_k».proof.Proof.Gen.FPoolIn
public import proofs.«01_k».proof.Proof.Gen.FPoolIn.Skeleton
public import proofs.«01_k».proof.Proof.Gen.FPoolIn.Launch
public import proofs.«01_k».proof.Proof.Gen.FPoolIn.Points
public import proofs.«01_k».proof.Proof.Gen.FPoolIn.Frame
public import proofs.«01_k».proof.Proof.Gen.FPoolInIdeal
public import proofs.«01_k».proof.Proof.Gen.FPoolInIdeal.Skeleton
public import proofs.«01_k».proof.Proof.Gen.FPoolInIdeal.Launch
public import proofs.«01_k».proof.Proof.Gen.FPoolInIdeal.Points
public import proofs.«01_k».proof.Proof.Gen.FPoolInIdeal.Frame
public import proofs.«01_k».proof.Proof.Gen.FPoolInRefIdeal
public import proofs.«01_k».proof.Proof.Gen.FGroup
public import proofs.«01_k».proof.Proof.Gen.FGroup.Skeleton
public import proofs.«01_k».proof.Proof.Gen.FGroup.Launch
public import proofs.«01_k».proof.Proof.Gen.FGroup.Points
public import proofs.«01_k».proof.Proof.Gen.FGroup.Frame
public import proofs.«01_k».proof.Proof.Gen.FGroupIdeal
public import proofs.«01_k».proof.Proof.Gen.FGroupIdeal.Skeleton
public import proofs.«01_k».proof.Proof.Gen.FGroupIdeal.Launch
public import proofs.«01_k».proof.Proof.Gen.FGroupIdeal.Points
public import proofs.«01_k».proof.Proof.Gen.FGroupIdeal.Frame
public import proofs.«01_k».proof.Proof.Gen.FGroupRefIdeal
public import proofs.«01_k».proof.Proof.Gen.PoolMix
public import proofs.«01_k».proof.Proof.Gen.PoolMix.Skeleton
public import proofs.«01_k».proof.Proof.Gen.PoolMix.Loops
public import proofs.«01_k».proof.Proof.Gen.PoolMix.Launch
public import proofs.«01_k».proof.Proof.Gen.PoolMix.Points
public import proofs.«01_k».proof.Proof.Gen.PoolMix.Frame
public import proofs.«01_k».proof.Proof.Gen.PoolMixIdeal
public import proofs.«01_k».proof.Proof.Gen.PoolMixIdeal.Skeleton
public import proofs.«01_k».proof.Proof.Gen.PoolMixIdeal.Loops
public import proofs.«01_k».proof.Proof.Gen.PoolMixIdeal.Launch
public import proofs.«01_k».proof.Proof.Gen.PoolMixIdeal.Points
public import proofs.«01_k».proof.Proof.Gen.PoolMixIdeal.Frame
public import proofs.«01_k».proof.Proof.Gen.PoolMixRefIdeal
public import proofs.«01_k».proof.Proof.Gen.RmsBwd
public import proofs.«01_k».proof.Proof.Gen.RmsBwd.Skeleton
public import proofs.«01_k».proof.Proof.Gen.RmsBwd.Launch
public import proofs.«01_k».proof.Proof.Gen.RmsBwd.Points
public import proofs.«01_k».proof.Proof.Gen.RmsBwd.Frame
public import proofs.«01_k».proof.Proof.Gen.RmsBwdIdeal
public import proofs.«01_k».proof.Proof.Gen.RmsBwdIdeal.Skeleton
public import proofs.«01_k».proof.Proof.Gen.RmsBwdIdeal.Launch
public import proofs.«01_k».proof.Proof.Gen.RmsBwdIdeal.Points
public import proofs.«01_k».proof.Proof.Gen.RmsBwdIdeal.Frame
public import proofs.«01_k».proof.Proof.Gen.RmsBwdRefIdeal
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallRefIdeal
public import proofs.«01_k».proof.Proof.Gen.SumOut
public import proofs.«01_k».proof.Proof.Gen.SumOut.Skeleton
public import proofs.«01_k».proof.Proof.Gen.SumOut.Launch
public import proofs.«01_k».proof.Proof.Gen.SumOut.Points
public import proofs.«01_k».proof.Proof.Gen.SumOut.Frame
public import proofs.«01_k».proof.Proof.Gen.SumOutIdeal
public import proofs.«01_k».proof.Proof.Gen.SumOutIdeal.Skeleton
public import proofs.«01_k».proof.Proof.Gen.SumOutIdeal.Launch
public import proofs.«01_k».proof.Proof.Gen.SumOutIdeal.Points
public import proofs.«01_k».proof.Proof.Gen.SumOutIdeal.Frame
public import proofs.«01_k».proof.Proof.Gen.SumOutRefIdeal
public import proofs.«01_k».proof.Proof.Gen.SumPoolIn
public import proofs.«01_k».proof.Proof.Gen.SumPoolIn.Skeleton
public import proofs.«01_k».proof.Proof.Gen.SumPoolIn.Launch
public import proofs.«01_k».proof.Proof.Gen.SumPoolIn.Points
public import proofs.«01_k».proof.Proof.Gen.SumPoolIn.Frame
public import proofs.«01_k».proof.Proof.Gen.SumPoolInIdeal
public import proofs.«01_k».proof.Proof.Gen.SumPoolInIdeal.Skeleton
public import proofs.«01_k».proof.Proof.Gen.SumPoolInIdeal.Launch
public import proofs.«01_k».proof.Proof.Gen.SumPoolInIdeal.Points
public import proofs.«01_k».proof.Proof.Gen.SumPoolInIdeal.Frame
public import proofs.«01_k».proof.Proof.Gen.SumPoolInRefIdeal
public import proofs.«01_k».proof.Proof.Gen.SumGroup
public import proofs.«01_k».proof.Proof.Gen.SumGroup.Skeleton
public import proofs.«01_k».proof.Proof.Gen.SumGroup.Launch
public import proofs.«01_k».proof.Proof.Gen.SumGroup.Points
public import proofs.«01_k».proof.Proof.Gen.SumGroup.Frame
public import proofs.«01_k».proof.Proof.Gen.SumGroupIdeal
public import proofs.«01_k».proof.Proof.Gen.SumGroupIdeal.Skeleton
public import proofs.«01_k».proof.Proof.Gen.SumGroupIdeal.Launch
public import proofs.«01_k».proof.Proof.Gen.SumGroupIdeal.Points
public import proofs.«01_k».proof.Proof.Gen.SumGroupIdeal.Frame
public import proofs.«01_k».proof.Proof.Gen.SumGroupRefIdeal
public import proofs.«01_k».proof.Proof.Gen.SumIn
public import proofs.«01_k».proof.Proof.Gen.SumIn.Skeleton
public import proofs.«01_k».proof.Proof.Gen.SumIn.Launch
public import proofs.«01_k».proof.Proof.Gen.SumIn.Points
public import proofs.«01_k».proof.Proof.Gen.SumIn.Frame
public import proofs.«01_k».proof.Proof.Gen.SumInIdeal
public import proofs.«01_k».proof.Proof.Gen.SumInIdeal.Skeleton
public import proofs.«01_k».proof.Proof.Gen.SumInIdeal.Launch
public import proofs.«01_k».proof.Proof.Gen.SumInIdeal.Points
public import proofs.«01_k».proof.Proof.Gen.SumInIdeal.Frame
public import proofs.«01_k».proof.Proof.Gen.SumInRefIdeal
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamPoolIn
public import proofs.«01_k».proof.Proof.Gen.AdamPoolIn.Skeleton
public import proofs.«01_k».proof.Proof.Gen.AdamPoolIn.Launch
public import proofs.«01_k».proof.Proof.Gen.AdamPoolIn.Points
public import proofs.«01_k».proof.Proof.Gen.AdamPoolIn.Frame
public import proofs.«01_k».proof.Proof.Gen.AdamPoolInIdeal
public import proofs.«01_k».proof.Proof.Gen.AdamPoolInIdeal.Skeleton
public import proofs.«01_k».proof.Proof.Gen.AdamPoolInIdeal.Launch
public import proofs.«01_k».proof.Proof.Gen.AdamPoolInIdeal.Points
public import proofs.«01_k».proof.Proof.Gen.AdamPoolInIdeal.Frame
public import proofs.«01_k».proof.Proof.Gen.AdamPoolInRefIdeal
public import proofs.«01_k».proof.Proof.Gen.AdamGroup
public import proofs.«01_k».proof.Proof.Gen.AdamGroup.Skeleton
public import proofs.«01_k».proof.Proof.Gen.AdamGroup.Launch
public import proofs.«01_k».proof.Proof.Gen.AdamGroup.Points
public import proofs.«01_k».proof.Proof.Gen.AdamGroup.Frame
public import proofs.«01_k».proof.Proof.Gen.AdamGroupIdeal
public import proofs.«01_k».proof.Proof.Gen.AdamGroupIdeal.Skeleton
public import proofs.«01_k».proof.Proof.Gen.AdamGroupIdeal.Launch
public import proofs.«01_k».proof.Proof.Gen.AdamGroupIdeal.Points
public import proofs.«01_k».proof.Proof.Gen.AdamGroupIdeal.Frame
public import proofs.«01_k».proof.Proof.Gen.AdamGroupRefIdeal
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallRefIdeal
public import proofs.«01_k».proof.Proof.Gen.Pre_finite_mix
public import proofs.«01_k».proof.Proof.Gen.On_weights_part
public import proofs.«01_k».proof.Proof.Gen.SsmOutIdeal.Value
public import proofs.«01_k».proof.Proof.Gen.SsmOutRefIdeal.Run
public import proofs.«01_k».proof.Proof.Gen.SsmOutRefIdeal.Read
public import proofs.«01_k».proof.Proof.Gen.GroupIdeal.Value
public import proofs.«01_k».proof.Proof.Gen.GroupRefIdeal.Run
public import proofs.«01_k».proof.Proof.Gen.GroupRefIdeal.Read
public import proofs.«01_k».proof.Proof.Gen.PoolInIdeal.Value
public import proofs.«01_k».proof.Proof.Gen.PoolInRefIdeal.Run
public import proofs.«01_k».proof.Proof.Gen.PoolInRefIdeal.Read
public import proofs.«01_k».proof.Proof.Gen.InDtIdeal.Value
public import proofs.«01_k».proof.Proof.Gen.InDtRefIdeal.Run
public import proofs.«01_k».proof.Proof.Gen.InDtRefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.WOutIdeal.Value
public import proofs.«01_k».proof.Proof.Gen.WOutRefIdeal.Run
public import proofs.«01_k».proof.Proof.Gen.WOutRefIdeal.Read
public import proofs.«01_k».proof.Proof.Gen.WPoolInIdeal.Value
public import proofs.«01_k».proof.Proof.Gen.WPoolInRefIdeal.Run
public import proofs.«01_k».proof.Proof.Gen.WPoolInRefIdeal.Read
public import proofs.«01_k».proof.Proof.Gen.WGroupIdeal.Value
public import proofs.«01_k».proof.Proof.Gen.WGroupRefIdeal.Run
public import proofs.«01_k».proof.Proof.Gen.WGroupRefIdeal.Read
public import proofs.«01_k».proof.Proof.Gen.FInIdeal.Value
public import proofs.«01_k».proof.Proof.Gen.FInRefIdeal.Run
public import proofs.«01_k».proof.Proof.Gen.FInRefIdeal.Read
public import proofs.«01_k».proof.Proof.Gen.FInDtIdeal.Value
public import proofs.«01_k».proof.Proof.Gen.FInDtRefIdeal.Run
public import proofs.«01_k».proof.Proof.Gen.FInDtRefIdeal.Read
public import proofs.«01_k».proof.Proof.Gen.FOutIdeal.Value
public import proofs.«01_k».proof.Proof.Gen.FOutRefIdeal.Run
public import proofs.«01_k».proof.Proof.Gen.FOutRefIdeal.Read
public import proofs.«01_k».proof.Proof.Gen.FPoolInIdeal.Value
public import proofs.«01_k».proof.Proof.Gen.FPoolInRefIdeal.Run
public import proofs.«01_k».proof.Proof.Gen.FPoolInRefIdeal.Read
public import proofs.«01_k».proof.Proof.Gen.FGroupIdeal.Value
public import proofs.«01_k».proof.Proof.Gen.FGroupRefIdeal.Run
public import proofs.«01_k».proof.Proof.Gen.FGroupRefIdeal.Read
public import proofs.«01_k».proof.Proof.Gen.PoolMixIdeal.Value
public import proofs.«01_k».proof.Proof.Gen.PoolMixRefIdeal.Run
public import proofs.«01_k».proof.Proof.Gen.PoolMixRefIdeal.Read
public import proofs.«01_k».proof.Proof.Gen.RmsBwdIdeal.Value
public import proofs.«01_k».proof.Proof.Gen.RmsBwdRefIdeal.Run
public import proofs.«01_k».proof.Proof.Gen.RmsBwdRefIdeal.Read
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.Gen.SumOutRefIdeal.Run
public import proofs.«01_k».proof.Proof.Gen.SumOutRefIdeal.Read
public import proofs.«01_k».proof.Proof.Gen.SumPoolInRefIdeal.Run
public import proofs.«01_k».proof.Proof.Gen.SumPoolInRefIdeal.Read
public import proofs.«01_k».proof.Proof.Gen.SumGroupRefIdeal.Run
public import proofs.«01_k».proof.Proof.Gen.SumGroupRefIdeal.Read
public import proofs.«01_k».proof.Proof.Gen.SumInRefIdeal.Run
public import proofs.«01_k».proof.Proof.Gen.SumInRefIdeal.Read
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamPoolInIdeal.Value
public import proofs.«01_k».proof.Proof.Gen.AdamPoolInRefIdeal.Run
public import proofs.«01_k».proof.Proof.Gen.AdamPoolInRefIdeal.Read
public import proofs.«01_k».proof.Proof.Gen.AdamGroupIdeal.Value
public import proofs.«01_k».proof.Proof.Gen.AdamGroupRefIdeal.Run
public import proofs.«01_k».proof.Proof.Gen.AdamGroupRefIdeal.Read
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.SsmOutValue
public import proofs.«01_k».proof.Proof.GroupValue
public import proofs.«01_k».proof.Proof.PoolInValue
public import proofs.«01_k».proof.Proof.InDtValue
public import proofs.«01_k».proof.Proof.InProjValue
public import proofs.«01_k».proof.Proof.WOutValue
public import proofs.«01_k».proof.Proof.WPoolInValue
public import proofs.«01_k».proof.Proof.WGroupValue
public import proofs.«01_k».proof.Proof.FInValue
public import proofs.«01_k».proof.Proof.FInDtValue
public import proofs.«01_k».proof.Proof.FOutValue
public import proofs.«01_k».proof.Proof.FPoolInValue
public import proofs.«01_k».proof.Proof.FGroupValue
public import proofs.«01_k».proof.Proof.PoolMixValue
public import proofs.«01_k».proof.Proof.RmsBwdValue
public import proofs.«01_k».proof.Proof.LossHeadValue
public import proofs.«01_k».proof.Proof.SumSmallValue
public import proofs.«01_k».proof.Proof.SumOutValue
public import proofs.«01_k».proof.Proof.SumPoolInValue
public import proofs.«01_k».proof.Proof.SumGroupValue
public import proofs.«01_k».proof.Proof.SumInValue
public import proofs.«01_k».proof.Proof.AdamOutValue
public import proofs.«01_k».proof.Proof.AdamPoolInValue
public import proofs.«01_k».proof.Proof.AdamGroupValue
public import proofs.«01_k».proof.Proof.AdamInValue
public import proofs.«01_k».proof.Proof.AdamSmallValue
public import proofs.«01_k».proof.Proof.Products
public import Idealize.ShloMosaic.Adequacy
public import Idealize.ShloMosaic.Init

@[expose] public section

noncomputable section

namespace Cert.Proof

open Idealize.ShloMosaic Idealize.SL.Sem Cert.SsmOut

/-- The reference of `SsmOut` runs to completion, keeps its arguments and leaves no semaphore signalled. -/
theorem SsmOut_ref : Cert.quiescent_SsmOutRefIdeal := fun m ρ _ =>
  (θ_run Cert.SsmOutRefIdeal.defs _ _).mono
    (fun r h => ⟨fun c => (h c).2, Idealize.ShloMosaic.sem_eq_zero_of_no_sems (by decide) r.2⟩)
    (Cert.SsmOutRefIdeal.Value.run (F := Ideal) m ρ)

/-- The reference of `Group` runs to completion, keeps its arguments and leaves no semaphore signalled. -/
theorem Group_ref : Cert.quiescent_GroupRefIdeal := fun m ρ _ =>
  (θ_run Cert.GroupRefIdeal.defs _ _).mono
    (fun r h => ⟨fun c => (h c).2, Idealize.ShloMosaic.sem_eq_zero_of_no_sems (by decide) r.2⟩)
    (Cert.GroupRefIdeal.Value.run (F := Ideal) m ρ)

/-- The reference of `PoolIn` runs to completion, keeps its arguments and leaves no semaphore signalled. -/
theorem PoolIn_ref : Cert.quiescent_PoolInRefIdeal := fun m ρ _ =>
  (θ_run Cert.PoolInRefIdeal.defs _ _).mono
    (fun r h => ⟨fun c => (h c).2, Idealize.ShloMosaic.sem_eq_zero_of_no_sems (by decide) r.2⟩)
    (Cert.PoolInRefIdeal.Value.run (F := Ideal) m ρ)

/-- The reference of `InDt` runs to completion, keeps its arguments and leaves no semaphore signalled. -/
theorem InDt_ref : Cert.quiescent_InDtRefIdeal := fun m ρ _ =>
  (θ_run Cert.InDtRefIdeal.defs _ _).mono
    (fun r h => ⟨fun c => (h c).2, Idealize.ShloMosaic.sem_eq_zero_of_no_sems (by decide) r.2⟩)
    (Cert.InDtRefIdeal.Value.run (F := Ideal) m ρ)

/-- The reference of `InProj` runs to completion, keeps its arguments and leaves no semaphore signalled. -/
theorem InProj_ref : Cert.quiescent_InProjRefIdeal := fun m ρ _ =>
  (θ_run Cert.InProjRefIdeal.defs _ _).mono
    (fun r h => ⟨fun c => (h c).2, Idealize.ShloMosaic.sem_eq_zero_of_no_sems (by decide) r.2⟩)
    (Cert.InProjRefIdeal.Value.run (F := Ideal) m ρ)

/-- The reference of `WOut` runs to completion, keeps its arguments and leaves no semaphore signalled. -/
theorem WOut_ref : Cert.quiescent_WOutRefIdeal := fun m ρ _ =>
  (θ_run Cert.WOutRefIdeal.defs _ _).mono
    (fun r h => ⟨fun c => (h c).2, Idealize.ShloMosaic.sem_eq_zero_of_no_sems (by decide) r.2⟩)
    (Cert.WOutRefIdeal.Value.run (F := Ideal) m ρ)

/-- The reference of `WPoolIn` runs to completion, keeps its arguments and leaves no semaphore signalled. -/
theorem WPoolIn_ref : Cert.quiescent_WPoolInRefIdeal := fun m ρ _ =>
  (θ_run Cert.WPoolInRefIdeal.defs _ _).mono
    (fun r h => ⟨fun c => (h c).2, Idealize.ShloMosaic.sem_eq_zero_of_no_sems (by decide) r.2⟩)
    (Cert.WPoolInRefIdeal.Value.run (F := Ideal) m ρ)

/-- The reference of `WGroup` runs to completion, keeps its arguments and leaves no semaphore signalled. -/
theorem WGroup_ref : Cert.quiescent_WGroupRefIdeal := fun m ρ _ =>
  (θ_run Cert.WGroupRefIdeal.defs _ _).mono
    (fun r h => ⟨fun c => (h c).2, Idealize.ShloMosaic.sem_eq_zero_of_no_sems (by decide) r.2⟩)
    (Cert.WGroupRefIdeal.Value.run (F := Ideal) m ρ)

/-- The reference of `FIn` runs to completion, keeps its arguments and leaves no semaphore signalled. -/
theorem FIn_ref : Cert.quiescent_FInRefIdeal := fun m ρ _ =>
  (θ_run Cert.FInRefIdeal.defs _ _).mono
    (fun r h => ⟨fun c => (h c).2, Idealize.ShloMosaic.sem_eq_zero_of_no_sems (by decide) r.2⟩)
    (Cert.FInRefIdeal.Value.run (F := Ideal) m ρ)

/-- The reference of `FInDt` runs to completion, keeps its arguments and leaves no semaphore signalled. -/
theorem FInDt_ref : Cert.quiescent_FInDtRefIdeal := fun m ρ _ =>
  (θ_run Cert.FInDtRefIdeal.defs _ _).mono
    (fun r h => ⟨fun c => (h c).2, Idealize.ShloMosaic.sem_eq_zero_of_no_sems (by decide) r.2⟩)
    (Cert.FInDtRefIdeal.Value.run (F := Ideal) m ρ)

/-- The reference of `FOut` runs to completion, keeps its arguments and leaves no semaphore signalled. -/
theorem FOut_ref : Cert.quiescent_FOutRefIdeal := fun m ρ _ =>
  (θ_run Cert.FOutRefIdeal.defs _ _).mono
    (fun r h => ⟨fun c => (h c).2, Idealize.ShloMosaic.sem_eq_zero_of_no_sems (by decide) r.2⟩)
    (Cert.FOutRefIdeal.Value.run (F := Ideal) m ρ)

/-- The reference of `FPoolIn` runs to completion, keeps its arguments and leaves no semaphore signalled. -/
theorem FPoolIn_ref : Cert.quiescent_FPoolInRefIdeal := fun m ρ _ =>
  (θ_run Cert.FPoolInRefIdeal.defs _ _).mono
    (fun r h => ⟨fun c => (h c).2, Idealize.ShloMosaic.sem_eq_zero_of_no_sems (by decide) r.2⟩)
    (Cert.FPoolInRefIdeal.Value.run (F := Ideal) m ρ)

/-- The reference of `FGroup` runs to completion, keeps its arguments and leaves no semaphore signalled. -/
theorem FGroup_ref : Cert.quiescent_FGroupRefIdeal := fun m ρ _ =>
  (θ_run Cert.FGroupRefIdeal.defs _ _).mono
    (fun r h => ⟨fun c => (h c).2.2, Idealize.ShloMosaic.sem_eq_zero_of_no_sems (by decide) r.2⟩)
    (Cert.FGroupRefIdeal.Value.run (F := Ideal) m ρ)

/-- The reference of `PoolMix` runs to completion, keeps its arguments and leaves no semaphore signalled. -/
theorem PoolMix_ref : Cert.quiescent_PoolMixRefIdeal := fun m ρ _ =>
  (θ_run Cert.PoolMixRefIdeal.defs _ _).mono
    (fun r h => ⟨fun c => (h c).2, Idealize.ShloMosaic.sem_eq_zero_of_no_sems (by decide) r.2⟩)
    (Cert.PoolMixRefIdeal.Value.run (F := Ideal) m ρ)

/-- The reference of `RmsBwd` runs to completion, keeps its arguments and leaves no semaphore signalled. -/
theorem RmsBwd_ref : Cert.quiescent_RmsBwdRefIdeal := fun m ρ _ =>
  (θ_run Cert.RmsBwdRefIdeal.defs _ _).mono
    (fun r h => ⟨fun c => (h c).2.2, Idealize.ShloMosaic.sem_eq_zero_of_no_sems (by decide) r.2⟩)
    (Cert.RmsBwdRefIdeal.Value.run (F := Ideal) m ρ)

/-- The reference of `LossHead` runs to completion, keeps its arguments and leaves no semaphore signalled. -/
theorem LossHead_ref : Cert.quiescent_LossHeadRefIdeal := fun m ρ _ =>
  (θ_run Cert.LossHeadRefIdeal.defs _ _).mono
    (fun r h => ⟨fun c => (h c).2.2.2.2, Idealize.ShloMosaic.sem_eq_zero_of_no_sems (by decide) r.2⟩)
    (Cert.LossHeadRefIdeal.Value.run (F := Ideal) m ρ)

/-- The reference of `SumSmall` runs to completion, keeps its arguments and leaves no semaphore signalled. -/
theorem SumSmall_ref : Cert.quiescent_SumSmallRefIdeal := fun m ρ _ =>
  (θ_run Cert.SumSmallRefIdeal.defs _ _).mono
    (fun r h => ⟨fun c => (h c).2, Idealize.ShloMosaic.sem_eq_zero_of_no_sems (by decide) r.2⟩)
    (Cert.SumSmallRefIdeal.Value.run (F := Ideal) m ρ)

/-- The reference of `SumOut` runs to completion, keeps its arguments and leaves no semaphore signalled. -/
theorem SumOut_ref : Cert.quiescent_SumOutRefIdeal := fun m ρ _ =>
  (θ_run Cert.SumOutRefIdeal.defs _ _).mono
    (fun r h => ⟨fun c => (h c).2, Idealize.ShloMosaic.sem_eq_zero_of_no_sems (by decide) r.2⟩)
    (Cert.SumOutRefIdeal.Value.run (F := Ideal) m ρ)

/-- The reference of `SumPoolIn` runs to completion, keeps its arguments and leaves no semaphore signalled. -/
theorem SumPoolIn_ref : Cert.quiescent_SumPoolInRefIdeal := fun m ρ _ =>
  (θ_run Cert.SumPoolInRefIdeal.defs _ _).mono
    (fun r h => ⟨fun c => (h c).2, Idealize.ShloMosaic.sem_eq_zero_of_no_sems (by decide) r.2⟩)
    (Cert.SumPoolInRefIdeal.Value.run (F := Ideal) m ρ)

/-- The reference of `SumGroup` runs to completion, keeps its arguments and leaves no semaphore signalled. -/
theorem SumGroup_ref : Cert.quiescent_SumGroupRefIdeal := fun m ρ _ =>
  (θ_run Cert.SumGroupRefIdeal.defs _ _).mono
    (fun r h => ⟨fun c => (h c).2, Idealize.ShloMosaic.sem_eq_zero_of_no_sems (by decide) r.2⟩)
    (Cert.SumGroupRefIdeal.Value.run (F := Ideal) m ρ)

/-- The reference of `SumIn` runs to completion, keeps its arguments and leaves no semaphore signalled. -/
theorem SumIn_ref : Cert.quiescent_SumInRefIdeal := fun m ρ _ =>
  (θ_run Cert.SumInRefIdeal.defs _ _).mono
    (fun r h => ⟨fun c => (h c).2, Idealize.ShloMosaic.sem_eq_zero_of_no_sems (by decide) r.2⟩)
    (Cert.SumInRefIdeal.Value.run (F := Ideal) m ρ)

/-- The reference of `AdamOut` runs to completion, keeps its arguments and leaves no semaphore signalled. -/
theorem AdamOut_ref : Cert.quiescent_AdamOutRefIdeal := fun m ρ _ =>
  (θ_run Cert.AdamOutRefIdeal.defs _ _).mono
    (fun r h => ⟨fun c => (h c).2.2.2, Idealize.ShloMosaic.sem_eq_zero_of_no_sems (by decide) r.2⟩)
    (Cert.AdamOutRefIdeal.Value.run (F := Ideal) m ρ)

/-- The reference of `AdamPoolIn` runs to completion, keeps its arguments and leaves no semaphore signalled. -/
theorem AdamPoolIn_ref : Cert.quiescent_AdamPoolInRefIdeal := fun m ρ _ =>
  (θ_run Cert.AdamPoolInRefIdeal.defs _ _).mono
    (fun r h => ⟨fun c => (h c).2.2.2, Idealize.ShloMosaic.sem_eq_zero_of_no_sems (by decide) r.2⟩)
    (Cert.AdamPoolInRefIdeal.Value.run (F := Ideal) m ρ)

/-- The reference of `AdamGroup` runs to completion, keeps its arguments and leaves no semaphore signalled. -/
theorem AdamGroup_ref : Cert.quiescent_AdamGroupRefIdeal := fun m ρ _ =>
  (θ_run Cert.AdamGroupRefIdeal.defs _ _).mono
    (fun r h => ⟨fun c => (h c).2.2.2, Idealize.ShloMosaic.sem_eq_zero_of_no_sems (by decide) r.2⟩)
    (Cert.AdamGroupRefIdeal.Value.run (F := Ideal) m ρ)

/-- The reference of `AdamIn` runs to completion, keeps its arguments and leaves no semaphore signalled. -/
theorem AdamIn_ref : Cert.quiescent_AdamInRefIdeal := fun m ρ _ =>
  (θ_run Cert.AdamInRefIdeal.defs _ _).mono
    (fun r h => ⟨fun c => (h c).2.2.2, Idealize.ShloMosaic.sem_eq_zero_of_no_sems (by decide) r.2⟩)
    (Cert.AdamInRefIdeal.Value.run (F := Ideal) m ρ)

/-- The reference of `AdamSmall` runs to completion, keeps its arguments and leaves no semaphore signalled. -/
theorem AdamSmall_ref : Cert.quiescent_AdamSmallRefIdeal := fun m ρ _ =>
  (θ_run Cert.AdamSmallRefIdeal.defs _ _).mono
    (fun r h => ⟨fun c => (h c).2.2.2, Idealize.ShloMosaic.sem_eq_zero_of_no_sems (by decide) r.2⟩)
    (Cert.AdamSmallRefIdeal.Value.run (F := Ideal) m ρ)

theorem claim : Cert.Claim := ⟨Cert.SsmOut.Gen.facts, Cert.SsmOutIdeal.Gen.facts, Cert.SsmOutRefIdeal.Gen.facts, Cert.Group.Gen.facts, Cert.GroupIdeal.Gen.facts, Cert.GroupRefIdeal.Gen.facts, Cert.PoolIn.Gen.facts, Cert.PoolInIdeal.Gen.facts, Cert.PoolInRefIdeal.Gen.facts, Cert.InDt.Gen.facts, Cert.InDtIdeal.Gen.facts, Cert.InDtRefIdeal.Gen.facts, Cert.InProj.Gen.facts, Cert.InProjIdeal.Gen.facts, Cert.InProjRefIdeal.Gen.facts, Cert.WOut.Gen.facts, Cert.WOutIdeal.Gen.facts, Cert.WOutRefIdeal.Gen.facts, Cert.WPoolIn.Gen.facts, Cert.WPoolInIdeal.Gen.facts, Cert.WPoolInRefIdeal.Gen.facts, Cert.WGroup.Gen.facts, Cert.WGroupIdeal.Gen.facts, Cert.WGroupRefIdeal.Gen.facts, Cert.FIn.Gen.facts, Cert.FInIdeal.Gen.facts, Cert.FInRefIdeal.Gen.facts, Cert.FInDt.Gen.facts, Cert.FInDtIdeal.Gen.facts, Cert.FInDtRefIdeal.Gen.facts, Cert.FOut.Gen.facts, Cert.FOutIdeal.Gen.facts, Cert.FOutRefIdeal.Gen.facts, Cert.FPoolIn.Gen.facts, Cert.FPoolInIdeal.Gen.facts, Cert.FPoolInRefIdeal.Gen.facts, Cert.FGroup.Gen.facts, Cert.FGroupIdeal.Gen.facts, Cert.FGroupRefIdeal.Gen.facts, Cert.PoolMix.Gen.facts, Cert.PoolMixIdeal.Gen.facts, Cert.PoolMixRefIdeal.Gen.facts, Cert.RmsBwd.Gen.facts, Cert.RmsBwdIdeal.Gen.facts, Cert.RmsBwdRefIdeal.Gen.facts, Cert.LossHead.Gen.facts, Cert.LossHeadIdeal.Gen.facts, Cert.LossHeadRefIdeal.Gen.facts, Cert.SumSmall.Gen.facts, Cert.SumSmallIdeal.Gen.facts, Cert.SumSmallRefIdeal.Gen.facts, Cert.SumOut.Gen.facts, Cert.SumOutIdeal.Gen.facts, Cert.SumOutRefIdeal.Gen.facts, Cert.SumPoolIn.Gen.facts, Cert.SumPoolInIdeal.Gen.facts, Cert.SumPoolInRefIdeal.Gen.facts, Cert.SumGroup.Gen.facts, Cert.SumGroupIdeal.Gen.facts, Cert.SumGroupRefIdeal.Gen.facts, Cert.SumIn.Gen.facts, Cert.SumInIdeal.Gen.facts, Cert.SumInRefIdeal.Gen.facts, Cert.AdamOut.Gen.facts, Cert.AdamOutIdeal.Gen.facts, Cert.AdamOutRefIdeal.Gen.facts, Cert.AdamPoolIn.Gen.facts, Cert.AdamPoolInIdeal.Gen.facts, Cert.AdamPoolInRefIdeal.Gen.facts, Cert.AdamGroup.Gen.facts, Cert.AdamGroupIdeal.Gen.facts, Cert.AdamGroupRefIdeal.Gen.facts, Cert.AdamIn.Gen.facts, Cert.AdamInIdeal.Gen.facts, Cert.AdamInRefIdeal.Gen.facts, Cert.AdamSmall.Gen.facts, Cert.AdamSmallIdeal.Gen.facts, Cert.AdamSmallRefIdeal.Gen.facts, Cert.Pre_finite_mix.Gen.facts, Cert.On_weights_part.Gen.facts,
  fun m ρ _ => Cert.SsmOut.Gen.frame m ρ,
  fun m ρ _ => Cert.SsmOutIdeal.Gen.frame m ρ,
  SsmOut_ref,
  fun m ρ _ => Cert.Group.Gen.frame m ρ,
  fun m ρ _ => Cert.GroupIdeal.Gen.frame m ρ,
  Group_ref,
  fun m ρ _ => Cert.PoolIn.Gen.frame m ρ,
  fun m ρ _ => Cert.PoolInIdeal.Gen.frame m ρ,
  PoolIn_ref,
  fun m ρ _ => Cert.InDt.Gen.frame m ρ,
  fun m ρ _ => Cert.InDtIdeal.Gen.frame m ρ,
  InDt_ref,
  fun m ρ _ => Cert.InProj.Gen.frame m ρ,
  fun m ρ _ => Cert.InProjIdeal.Gen.frame m ρ,
  InProj_ref,
  fun m ρ _ => Cert.WOut.Gen.frame m ρ,
  fun m ρ _ => Cert.WOutIdeal.Gen.frame m ρ,
  WOut_ref,
  fun m ρ _ => Cert.WPoolIn.Gen.frame m ρ,
  fun m ρ _ => Cert.WPoolInIdeal.Gen.frame m ρ,
  WPoolIn_ref,
  fun m ρ _ => Cert.WGroup.Gen.frame m ρ,
  fun m ρ _ => Cert.WGroupIdeal.Gen.frame m ρ,
  WGroup_ref,
  fun m ρ _ => Cert.FIn.Gen.frame m ρ,
  fun m ρ _ => Cert.FInIdeal.Gen.frame m ρ,
  FIn_ref,
  fun m ρ _ => Cert.FInDt.Gen.frame m ρ,
  fun m ρ _ => Cert.FInDtIdeal.Gen.frame m ρ,
  FInDt_ref,
  fun m ρ _ => Cert.FOut.Gen.frame m ρ,
  fun m ρ _ => Cert.FOutIdeal.Gen.frame m ρ,
  FOut_ref,
  fun m ρ _ => Cert.FPoolIn.Gen.frame m ρ,
  fun m ρ _ => Cert.FPoolInIdeal.Gen.frame m ρ,
  FPoolIn_ref,
  fun m ρ _ => Cert.FGroup.Gen.frame m ρ,
  fun m ρ _ => Cert.FGroupIdeal.Gen.frame m ρ,
  FGroup_ref,
  fun m ρ _ => Cert.PoolMix.Gen.frame m ρ,
  fun m ρ _ => Cert.PoolMixIdeal.Gen.frame m ρ,
  fun m ρ _ => Cert.PoolMixIdeal.Gen.frame m ρ,
  PoolMix_ref,
  fun m ρ _ => PoolMix_ref m ρ trivial,
  fun m ρ _ => Cert.RmsBwd.Gen.frame m ρ,
  fun m ρ _ => Cert.RmsBwdIdeal.Gen.frame m ρ,
  RmsBwd_ref,
  fun m ρ _ => Cert.LossHead.Gen.frame m ρ,
  fun m ρ _ => Cert.LossHeadIdeal.Gen.frame m ρ,
  LossHead_ref,
  fun m ρ _ => Cert.SumSmall.Gen.frame m ρ,
  fun m ρ _ => Cert.SumSmallIdeal.Gen.frame m ρ,
  SumSmall_ref,
  fun m ρ _ => Cert.SumOut.Gen.frame m ρ,
  fun m ρ _ => Cert.SumOutIdeal.Gen.frame m ρ,
  SumOut_ref,
  fun m ρ _ => Cert.SumPoolIn.Gen.frame m ρ,
  fun m ρ _ => Cert.SumPoolInIdeal.Gen.frame m ρ,
  SumPoolIn_ref,
  fun m ρ _ => Cert.SumGroup.Gen.frame m ρ,
  fun m ρ _ => Cert.SumGroupIdeal.Gen.frame m ρ,
  SumGroup_ref,
  fun m ρ _ => Cert.SumIn.Gen.frame m ρ,
  fun m ρ _ => Cert.SumInIdeal.Gen.frame m ρ,
  SumIn_ref,
  fun m ρ _ => Cert.AdamOut.Gen.frame m ρ,
  fun m ρ _ => Cert.AdamOutIdeal.Gen.frame m ρ,
  AdamOut_ref,
  fun m ρ _ => Cert.AdamPoolIn.Gen.frame m ρ,
  fun m ρ _ => Cert.AdamPoolInIdeal.Gen.frame m ρ,
  AdamPoolIn_ref,
  fun m ρ _ => Cert.AdamGroup.Gen.frame m ρ,
  fun m ρ _ => Cert.AdamGroupIdeal.Gen.frame m ρ,
  AdamGroup_ref,
  fun m ρ _ => Cert.AdamIn.Gen.frame m ρ,
  fun m ρ _ => Cert.AdamInIdeal.Gen.frame m ρ,
  AdamIn_ref,
  fun m ρ _ => Cert.AdamSmall.Gen.frame m ρ,
  fun m ρ _ => Cert.AdamSmallIdeal.Gen.frame m ρ,
  AdamSmall_ref,
  trivial,
  Cert.SsmOutValue.algebraic,
  trivial,
  Cert.GroupValue.algebraic,
  trivial,
  Cert.PoolInValue.algebraic,
  trivial,
  Cert.InDtValue.algebraic,
  trivial,
  Cert.InProjValue.algebraic,
  trivial,
  Cert.WOutValue.algebraic,
  trivial,
  Cert.WPoolInValue.algebraic,
  trivial,
  Cert.WGroupValue.algebraic,
  trivial,
  Cert.FInValue.algebraic,
  trivial,
  Cert.FInDtValue.algebraic,
  trivial,
  Cert.FOutValue.algebraic,
  trivial,
  Cert.FPoolInValue.algebraic,
  trivial,
  Cert.FGroupValue.algebraic,
  trivial,
  Cert.PoolMixValue.algebraic,
  trivial,
  Cert.RmsBwdValue.algebraic,
  trivial,
  Cert.LossHeadValue.algebraic,
  trivial,
  Cert.SumSmallValue.algebraic,
  trivial,
  Cert.SumOutValue.algebraic,
  trivial,
  Cert.SumPoolInValue.algebraic,
  trivial,
  Cert.SumGroupValue.algebraic,
  trivial,
  Cert.SumInValue.algebraic,
  trivial,
  Cert.AdamOutValue.algebraic,
  trivial,
  Cert.AdamPoolInValue.algebraic,
  trivial,
  Cert.AdamGroupValue.algebraic,
  trivial,
  Cert.AdamInValue.algebraic,
  trivial,
  Cert.AdamSmallValue.algebraic⟩

end Cert.Proof

end
